-- ==== Defs.lean ====
def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6)) (m ((c.tc : Thread Cert.PoolIdeal.nD Cert.PoolIdeal.τ).loc Cert.PoolIdeal.main_arg7)) (m ((c.tc : Thread Cert.PoolIdeal.nD Cert.PoolIdeal.τ).loc Cert.PoolIdeal.main_arg8)) (m ((c.tc : Thread Cert.PoolIdeal.nD Cert.PoolIdeal.τ).loc Cert.PoolIdeal.main_arg9)) (m ((c.tc : Thread Cert.PoolIdeal.nD Cert.PoolIdeal.τ).loc Cert.PoolIdeal.main_arg10))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5)) (m ((c.tc : Thread Cert.PoolRefIdeal.nD Cert.PoolRefIdeal.τ).loc Cert.PoolRefIdeal.main_arg6)) (m ((c.tc : Thread Cert.PoolRefIdeal.nD Cert.PoolRefIdeal.τ).loc Cert.PoolRefIdeal.main_arg7)) (m ((c.tc : Thread Cert.PoolRefIdeal.nD Cert.PoolRefIdeal.τ).loc Cert.PoolRefIdeal.main_arg8)) (m ((c.tc : Thread Cert.PoolRefIdeal.nD Cert.PoolRefIdeal.τ).loc Cert.PoolRefIdeal.main_arg9)) (m ((c.tc : Thread Cert.PoolRefIdeal.nD Cert.PoolRefIdeal.τ).loc Cert.PoolRefIdeal.main_arg10))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6))) = (fun _ => 1#1)

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4)
      ∧ r.2.mem ((c.tc : Thread Cert.GatesRefIdeal.nD Cert.GatesRefIdeal.τ).loc Cert.GatesRefIdeal.main_arg5) = m ((c.tc : Thread Cert.GatesRefIdeal.nD Cert.GatesRefIdeal.τ).loc Cert.GatesRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6)
      ∧ r.2.mem ((c.tc : Thread Cert.Pool.nD Cert.Pool.τ).loc Cert.Pool.main_arg7) = m ((c.tc : Thread Cert.Pool.nD Cert.Pool.τ).loc Cert.Pool.main_arg7)
      ∧ r.2.mem ((c.tc : Thread Cert.Pool.nD Cert.Pool.τ).loc Cert.Pool.main_arg8) = m ((c.tc : Thread Cert.Pool.nD Cert.Pool.τ).loc Cert.Pool.main_arg8)
      ∧ r.2.mem ((c.tc : Thread Cert.Pool.nD Cert.Pool.τ).loc Cert.Pool.main_arg9) = m ((c.tc : Thread Cert.Pool.nD Cert.Pool.τ).loc Cert.Pool.main_arg9)
      ∧ r.2.mem ((c.tc : Thread Cert.Pool.nD Cert.Pool.τ).loc Cert.Pool.main_arg10) = m ((c.tc : Thread Cert.Pool.nD Cert.Pool.τ).loc Cert.Pool.main_arg10))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
      ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8)
      ∧ r.2.mem ((c.tc : Thread Cert.PoolIdeal.nD Cert.PoolIdeal.τ).loc Cert.PoolIdeal.main_arg9) = m ((c.tc : Thread Cert.PoolIdeal.nD Cert.PoolIdeal.τ).loc Cert.PoolIdeal.main_arg9)
      ∧ r.2.mem ((c.tc : Thread Cert.PoolIdeal.nD Cert.PoolIdeal.τ).loc Cert.PoolIdeal.main_arg10) = m ((c.tc : Thread Cert.PoolIdeal.nD Cert.PoolIdeal.τ).loc Cert.PoolIdeal.main_arg10))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
      ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8)
      ∧ r.2.mem ((c.tc : Thread Cert.PoolIdeal.nD Cert.PoolIdeal.τ).loc Cert.PoolIdeal.main_arg9) = m ((c.tc : Thread Cert.PoolIdeal.nD Cert.PoolIdeal.τ).loc Cert.PoolIdeal.main_arg9)
      ∧ r.2.mem ((c.tc : Thread Cert.PoolIdeal.nD Cert.PoolIdeal.τ).loc Cert.PoolIdeal.main_arg10) = m ((c.tc : Thread Cert.PoolIdeal.nD Cert.PoolIdeal.τ).loc Cert.PoolIdeal.main_arg10))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7)
      ∧ r.2.mem ((c.tc : Thread Cert.PoolRefIdeal.nD Cert.PoolRefIdeal.τ).loc Cert.PoolRefIdeal.main_arg8) = m ((c.tc : Thread Cert.PoolRefIdeal.nD Cert.PoolRefIdeal.τ).loc Cert.PoolRefIdeal.main_arg8)
      ∧ r.2.mem ((c.tc : Thread Cert.PoolRefIdeal.nD Cert.PoolRefIdeal.τ).loc Cert.PoolRefIdeal.main_arg9) = m ((c.tc : Thread Cert.PoolRefIdeal.nD Cert.PoolRefIdeal.τ).loc Cert.PoolRefIdeal.main_arg9)
      ∧ r.2.mem ((c.tc : Thread Cert.PoolRefIdeal.nD Cert.PoolRefIdeal.τ).loc Cert.PoolRefIdeal.main_arg10) = m ((c.tc : Thread Cert.PoolRefIdeal.nD Cert.PoolRefIdeal.τ).loc Cert.PoolRefIdeal.main_arg10))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7)
      ∧ r.2.mem ((c.tc : Thread Cert.PoolRefIdeal.nD Cert.PoolRefIdeal.τ).loc Cert.PoolRefIdeal.main_arg8) = m ((c.tc : Thread Cert.PoolRefIdeal.nD Cert.PoolRefIdeal.τ).loc Cert.PoolRefIdeal.main_arg8)
      ∧ r.2.mem ((c.tc : Thread Cert.PoolRefIdeal.nD Cert.PoolRefIdeal.τ).loc Cert.PoolRefIdeal.main_arg9) = m ((c.tc : Thread Cert.PoolRefIdeal.nD Cert.PoolRefIdeal.τ).loc Cert.PoolRefIdeal.main_arg9)
      ∧ r.2.mem ((c.tc : Thread Cert.PoolRefIdeal.nD Cert.PoolRefIdeal.τ).loc Cert.PoolRefIdeal.main_arg10) = m ((c.tc : Thread Cert.PoolRefIdeal.nD Cert.PoolRefIdeal.τ).loc Cert.PoolRefIdeal.main_arg10))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8)
      ∧ r.2.mem ((c.tc : Thread Cert.Lru.nD Cert.Lru.τ).loc Cert.Lru.main_arg9) = m ((c.tc : Thread Cert.Lru.nD Cert.Lru.τ).loc Cert.Lru.main_arg9)
      ∧ r.2.mem ((c.tc : Thread Cert.Lru.nD Cert.Lru.τ).loc Cert.Lru.main_arg10) = m ((c.tc : Thread Cert.Lru.nD Cert.Lru.τ).loc Cert.Lru.main_arg10))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
      ∧ r.2.mem ((c.tc : Thread Cert.LruIdeal.nD Cert.LruIdeal.τ).loc Cert.LruIdeal.main_arg10) = m ((c.tc : Thread Cert.LruIdeal.nD Cert.LruIdeal.τ).loc Cert.LruIdeal.main_arg10))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8)
      ∧ r.2.mem ((c.tc : Thread Cert.LruRefIdeal.nD Cert.LruRefIdeal.τ).loc Cert.LruRefIdeal.main_arg9) = m ((c.tc : Thread Cert.LruRefIdeal.nD Cert.LruRefIdeal.τ).loc Cert.LruRefIdeal.main_arg9)
      ∧ r.2.mem ((c.tc : Thread Cert.LruRefIdeal.nD Cert.LruRefIdeal.τ).loc Cert.LruRefIdeal.main_arg10) = m ((c.tc : Thread Cert.LruRefIdeal.nD Cert.LruRefIdeal.τ).loc Cert.LruRefIdeal.main_arg10))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)
      ∧ m' ((c.tc : Thread Cert.GatesRefIdeal.nD Cert.GatesRefIdeal.τ).loc Cert.GatesRefIdeal.main_arg5) = m ((c.tc : Thread Cert.GatesIdeal.nD Cert.GatesIdeal.τ).loc Cert.GatesIdeal.main_arg5)) →
    ∃ (v0 : (c : Dev Cert.GatesIdeal.nD) → Buf (Elt Ideal) ((c.tc : Thread Cert.GatesIdeal.nD Cert.GatesIdeal.τ).loc Cert.GatesIdeal.main_v7_0)) (v1 : (c : Dev Cert.GatesIdeal.nD) → Buf (Elt Ideal) ((c.tc : Thread Cert.GatesIdeal.nD Cert.GatesIdeal.τ).loc Cert.GatesIdeal.main_v7_1)) (v2 : (c : Dev Cert.GatesIdeal.nD) → Buf (Elt Ideal) ((c.tc : Thread Cert.GatesIdeal.nD Cert.GatesIdeal.τ).loc Cert.GatesIdeal.main_v7_2)) (v3 : (c : Dev Cert.GatesIdeal.nD) → Buf (Elt Ideal) ((c.tc : Thread Cert.GatesIdeal.nD Cert.GatesIdeal.τ).loc Cert.GatesIdeal.main_v7_3)) (v4 : (c : Dev Cert.GatesIdeal.nD) → Buf (Elt Ideal) ((c.tc : Thread Cert.GatesIdeal.nD Cert.GatesIdeal.τ).loc Cert.GatesIdeal.main_v7_4)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v7_0) = v0 c
          ∧ r.2.mem ((c.tc : Thread Cert.GatesIdeal.nD Cert.GatesIdeal.τ).loc Cert.GatesIdeal.main_v7_1) = v1 c
          ∧ r.2.mem ((c.tc : Thread Cert.GatesIdeal.nD Cert.GatesIdeal.τ).loc Cert.GatesIdeal.main_v7_2) = v2 c
          ∧ r.2.mem ((c.tc : Thread Cert.GatesIdeal.nD Cert.GatesIdeal.τ).loc Cert.GatesIdeal.main_v7_3) = v3 c
          ∧ r.2.mem ((c.tc : Thread Cert.GatesIdeal.nD Cert.GatesIdeal.τ).loc Cert.GatesIdeal.main_v7_4) = v4 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v42) = v0 c
          ∧ r.2.mem ((c.tc : Thread Cert.GatesRefIdeal.nD Cert.GatesRefIdeal.τ).loc Cert.GatesRefIdeal.main_v43) = v1 c
          ∧ r.2.mem ((c.tc : Thread Cert.GatesRefIdeal.nD Cert.GatesRefIdeal.τ).loc Cert.GatesRefIdeal.main_v44) = v2 c
          ∧ r.2.mem ((c.tc : Thread Cert.GatesRefIdeal.nD Cert.GatesRefIdeal.τ).loc Cert.GatesRefIdeal.main_v45) = v3 c
          ∧ r.2.mem ((c.tc : Thread Cert.GatesRefIdeal.nD Cert.GatesRefIdeal.τ).loc Cert.GatesRefIdeal.main_v47) = v4 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4)
          ∧ r.2.mem ((c.tc : Thread Cert.GatesRefIdeal.nD Cert.GatesRefIdeal.τ).loc Cert.GatesRefIdeal.main_arg5) = m' ((c.tc : Thread Cert.GatesRefIdeal.nD Cert.GatesRefIdeal.τ).loc Cert.GatesRefIdeal.main_arg5))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v19_0)) (v1 : (c : Dev Cert.FfnIdeal.nD) → Buf (Elt Ideal) ((c.tc : Thread Cert.FfnIdeal.nD Cert.FfnIdeal.τ).loc Cert.FfnIdeal.main_v19_1)) (v2 : (c : Dev Cert.FfnIdeal.nD) → Buf (Elt Ideal) ((c.tc : Thread Cert.FfnIdeal.nD Cert.FfnIdeal.τ).loc Cert.FfnIdeal.main_v19_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v19_0) = v0 c
          ∧ r.2.mem ((c.tc : Thread Cert.FfnIdeal.nD Cert.FfnIdeal.τ).loc Cert.FfnIdeal.main_v19_1) = v1 c
          ∧ r.2.mem ((c.tc : Thread Cert.FfnIdeal.nD Cert.FfnIdeal.τ).loc Cert.FfnIdeal.main_v19_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v55) = v0 c
          ∧ r.2.mem ((c.tc : Thread Cert.FfnRefIdeal.nD Cert.FfnRefIdeal.τ).loc Cert.FfnRefIdeal.main_v53) = v1 c
          ∧ r.2.mem ((c.tc : Thread Cert.FfnRefIdeal.nD Cert.FfnRefIdeal.τ).loc Cert.FfnRefIdeal.main_v56) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)
      ∧ m' ((c.tc : Thread Cert.PoolRefIdeal.nD Cert.PoolRefIdeal.τ).loc Cert.PoolRefIdeal.main_arg6) = m ((c.tc : Thread Cert.PoolIdeal.nD Cert.PoolIdeal.τ).loc Cert.PoolIdeal.main_arg6)
      ∧ m' ((c.tc : Thread Cert.PoolRefIdeal.nD Cert.PoolRefIdeal.τ).loc Cert.PoolRefIdeal.main_arg7) = m ((c.tc : Thread Cert.PoolIdeal.nD Cert.PoolIdeal.τ).loc Cert.PoolIdeal.main_arg7)
      ∧ m' ((c.tc : Thread Cert.PoolRefIdeal.nD Cert.PoolRefIdeal.τ).loc Cert.PoolRefIdeal.main_arg8) = m ((c.tc : Thread Cert.PoolIdeal.nD Cert.PoolIdeal.τ).loc Cert.PoolIdeal.main_arg8)
      ∧ m' ((c.tc : Thread Cert.PoolRefIdeal.nD Cert.PoolRefIdeal.τ).loc Cert.PoolRefIdeal.main_arg9) = m ((c.tc : Thread Cert.PoolIdeal.nD Cert.PoolIdeal.τ).loc Cert.PoolIdeal.main_arg9)
      ∧ m' ((c.tc : Thread Cert.PoolRefIdeal.nD Cert.PoolRefIdeal.τ).loc Cert.PoolRefIdeal.main_arg10) = m ((c.tc : Thread Cert.PoolIdeal.nD Cert.PoolIdeal.τ).loc Cert.PoolIdeal.main_arg10)) →
    ∃ (v0 : (c : Dev Cert.PoolIdeal.nD) → Buf (Elt Ideal) ((c.tc : Thread Cert.PoolIdeal.nD Cert.PoolIdeal.τ).loc Cert.PoolIdeal.main_v32_0)) (v1 : (c : Dev Cert.PoolIdeal.nD) → Buf (Elt Ideal) ((c.tc : Thread Cert.PoolIdeal.nD Cert.PoolIdeal.τ).loc Cert.PoolIdeal.main_v32_1)) (v2 : (c : Dev Cert.PoolIdeal.nD) → Buf (Elt Ideal) ((c.tc : Thread Cert.PoolIdeal.nD Cert.PoolIdeal.τ).loc Cert.PoolIdeal.main_v32_2)) (v3 : (c : Dev Cert.PoolIdeal.nD) → Buf (Elt Ideal) ((c.tc : Thread Cert.PoolIdeal.nD Cert.PoolIdeal.τ).loc Cert.PoolIdeal.main_v38)) (v4 : (c : Dev Cert.PoolIdeal.nD) → Buf (Elt Ideal) ((c.tc : Thread Cert.PoolIdeal.nD Cert.PoolIdeal.τ).loc Cert.PoolIdeal.main_v32_4)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v32_0) = v0 c
          ∧ r.2.mem ((c.tc : Thread Cert.PoolIdeal.nD Cert.PoolIdeal.τ).loc Cert.PoolIdeal.main_v32_1) = v1 c
          ∧ r.2.mem ((c.tc : Thread Cert.PoolIdeal.nD Cert.PoolIdeal.τ).loc Cert.PoolIdeal.main_v32_2) = v2 c
          ∧ r.2.mem ((c.tc : Thread Cert.PoolIdeal.nD Cert.PoolIdeal.τ).loc Cert.PoolIdeal.main_v38) = v3 c
          ∧ r.2.mem ((c.tc : Thread Cert.PoolIdeal.nD Cert.PoolIdeal.τ).loc Cert.PoolIdeal.main_v32_4) = v4 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
          ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
          ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8)
          ∧ r.2.mem ((c.tc : Thread Cert.PoolIdeal.nD Cert.PoolIdeal.τ).loc Cert.PoolIdeal.main_arg9) = m ((c.tc : Thread Cert.PoolIdeal.nD Cert.PoolIdeal.τ).loc Cert.PoolIdeal.main_arg9)
          ∧ r.2.mem ((c.tc : Thread Cert.PoolIdeal.nD Cert.PoolIdeal.τ).loc Cert.PoolIdeal.main_arg10) = m ((c.tc : Thread Cert.PoolIdeal.nD Cert.PoolIdeal.τ).loc Cert.PoolIdeal.main_arg10))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v190) = v0 c
          ∧ r.2.mem ((c.tc : Thread Cert.PoolRefIdeal.nD Cert.PoolRefIdeal.τ).loc Cert.PoolRefIdeal.main_v185) = v1 c
          ∧ r.2.mem ((c.tc : Thread Cert.PoolRefIdeal.nD Cert.PoolRefIdeal.τ).loc Cert.PoolRefIdeal.main_v191) = v2 c
          ∧ r.2.mem ((c.tc : Thread Cert.PoolRefIdeal.nD Cert.PoolRefIdeal.τ).loc Cert.PoolRefIdeal.main_v192) = v3 c
          ∧ r.2.mem ((c.tc : Thread Cert.PoolRefIdeal.nD Cert.PoolRefIdeal.τ).loc Cert.PoolRefIdeal.main_v189) = v4 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5)
          ∧ r.2.mem ((c.tc : Thread Cert.PoolRefIdeal.nD Cert.PoolRefIdeal.τ).loc Cert.PoolRefIdeal.main_arg6) = m' ((c.tc : Thread Cert.PoolRefIdeal.nD Cert.PoolRefIdeal.τ).loc Cert.PoolRefIdeal.main_arg6)
          ∧ r.2.mem ((c.tc : Thread Cert.PoolRefIdeal.nD Cert.PoolRefIdeal.τ).loc Cert.PoolRefIdeal.main_arg7) = m' ((c.tc : Thread Cert.PoolRefIdeal.nD Cert.PoolRefIdeal.τ).loc Cert.PoolRefIdeal.main_arg7)
          ∧ r.2.mem ((c.tc : Thread Cert.PoolRefIdeal.nD Cert.PoolRefIdeal.τ).loc Cert.PoolRefIdeal.main_arg8) = m' ((c.tc : Thread Cert.PoolRefIdeal.nD Cert.PoolRefIdeal.τ).loc Cert.PoolRefIdeal.main_arg8)
          ∧ r.2.mem ((c.tc : Thread Cert.PoolRefIdeal.nD Cert.PoolRefIdeal.τ).loc Cert.PoolRefIdeal.main_arg9) = m' ((c.tc : Thread Cert.PoolRefIdeal.nD Cert.PoolRefIdeal.τ).loc Cert.PoolRefIdeal.main_arg9)
          ∧ r.2.mem ((c.tc : Thread Cert.PoolRefIdeal.nD Cert.PoolRefIdeal.τ).loc Cert.PoolRefIdeal.main_arg10) = m' ((c.tc : Thread Cert.PoolRefIdeal.nD Cert.PoolRefIdeal.τ).loc Cert.PoolRefIdeal.main_arg10))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)) →
    ∃ (v0 : (c : Dev Cert.LossIdeal.nD) → Buf (Elt Ideal) ((c.tc : Thread Cert.LossIdeal.nD Cert.LossIdeal.τ).loc Cert.LossIdeal.main_v7)) (v1 : (c : Dev Cert.LossIdeal.nD) → Buf (Elt Ideal) ((c.tc : Thread Cert.LossIdeal.nD Cert.LossIdeal.τ).loc Cert.LossIdeal.main_v5_1)) (v2 : (c : Dev Cert.LossIdeal.nD) → Buf (Elt Ideal) ((c.tc : Thread Cert.LossIdeal.nD Cert.LossIdeal.τ).loc Cert.LossIdeal.main_v5_2)) (v3 : (c : Dev Cert.LossIdeal.nD) → Buf (Elt Ideal) ((c.tc : Thread Cert.LossIdeal.nD Cert.LossIdeal.τ).loc Cert.LossIdeal.main_v5_3)) (v4 : (c : Dev Cert.LossIdeal.nD) → Buf (Elt Ideal) ((c.tc : Thread Cert.LossIdeal.nD Cert.LossIdeal.τ).loc Cert.LossIdeal.main_v5_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v7) = v0 c
          ∧ r.2.mem ((c.tc : Thread Cert.LossIdeal.nD Cert.LossIdeal.τ).loc Cert.LossIdeal.main_v5_1) = v1 c
          ∧ r.2.mem ((c.tc : Thread Cert.LossIdeal.nD Cert.LossIdeal.τ).loc Cert.LossIdeal.main_v5_2) = v2 c
          ∧ r.2.mem ((c.tc : Thread Cert.LossIdeal.nD Cert.LossIdeal.τ).loc Cert.LossIdeal.main_v5_3) = v3 c
          ∧ r.2.mem ((c.tc : Thread Cert.LossIdeal.nD Cert.LossIdeal.τ).loc Cert.LossIdeal.main_v5_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v56) = v0 c
          ∧ r.2.mem ((c.tc : Thread Cert.LossRefIdeal.nD Cert.LossRefIdeal.τ).loc Cert.LossRefIdeal.main_v110) = v1 c
          ∧ r.2.mem ((c.tc : Thread Cert.LossRefIdeal.nD Cert.LossRefIdeal.τ).loc Cert.LossRefIdeal.main_v115) = v2 c
          ∧ r.2.mem ((c.tc : Thread Cert.LossRefIdeal.nD Cert.LossRefIdeal.τ).loc Cert.LossRefIdeal.main_v116) = v3 c
          ∧ r.2.mem ((c.tc : Thread Cert.LossRefIdeal.nD Cert.LossRefIdeal.τ).loc Cert.LossRefIdeal.main_v119) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6))

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)
      ∧ m' ((c.tc : Thread Cert.LruRefIdeal.nD Cert.LruRefIdeal.τ).loc Cert.LruRefIdeal.main_arg9) = m ((c.tc : Thread Cert.LruIdeal.nD Cert.LruIdeal.τ).loc Cert.LruIdeal.main_arg9)
      ∧ m' ((c.tc : Thread Cert.LruRefIdeal.nD Cert.LruRefIdeal.τ).loc Cert.LruRefIdeal.main_arg10) = m ((c.tc : Thread Cert.LruIdeal.nD Cert.LruIdeal.τ).loc Cert.LruIdeal.main_arg10)) →
    ∃ (v0 : (c : Dev Cert.LruIdeal.nD) → Buf (Elt Ideal) ((c.tc : Thread Cert.LruIdeal.nD Cert.LruIdeal.τ).loc Cert.LruIdeal.main_v449_2)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v449_2) = v0 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
          ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
          ∧ r.2.mem ((c.tc : Thread Cert.LruIdeal.nD Cert.LruIdeal.τ).loc Cert.LruIdeal.main_arg10) = m ((c.tc : Thread Cert.LruIdeal.nD Cert.LruIdeal.τ).loc Cert.LruIdeal.main_arg10))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v443) = v0 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7)
          ∧ r.2.mem ((c.tc : Thread Cert.LruRefIdeal.nD Cert.LruRefIdeal.τ).loc Cert.LruRefIdeal.main_arg8) = m' ((c.tc : Thread Cert.LruRefIdeal.nD Cert.LruRefIdeal.τ).loc Cert.LruRefIdeal.main_arg8)
          ∧ r.2.mem ((c.tc : Thread Cert.LruRefIdeal.nD Cert.LruRefIdeal.τ).loc Cert.LruRefIdeal.main_arg9) = m' ((c.tc : Thread Cert.LruRefIdeal.nD Cert.LruRefIdeal.τ).loc Cert.LruRefIdeal.main_arg9)
          ∧ r.2.mem ((c.tc : Thread Cert.LruRefIdeal.nD Cert.LruRefIdeal.τ).loc Cert.LruRefIdeal.main_arg10) = m' ((c.tc : Thread Cert.LruRefIdeal.nD Cert.LruRefIdeal.τ).loc Cert.LruRefIdeal.main_arg10))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)) (v2 : (c : Dev Cert.UpIdeal.nD) → Buf (Elt Ideal) ((c.tc : Thread Cert.UpIdeal.nD Cert.UpIdeal.τ).loc Cert.UpIdeal.main_v4_2)) (v3 : (c : Dev Cert.UpIdeal.nD) → Buf (Elt Ideal) ((c.tc : Thread Cert.UpIdeal.nD Cert.UpIdeal.τ).loc Cert.UpIdeal.main_v4_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_v4_2) = v2 c
          ∧ r.2.mem ((c.tc : Thread Cert.UpIdeal.nD Cert.UpIdeal.τ).loc Cert.UpIdeal.main_v4_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v22) = v0 c
          ∧ r.2.mem ((c.tc : Thread Cert.UpRefIdeal.nD Cert.UpRefIdeal.τ).loc Cert.UpRefIdeal.main_v23) = v1 c
          ∧ r.2.mem ((c.tc : Thread Cert.UpRefIdeal.nD Cert.UpRefIdeal.τ).loc Cert.UpRefIdeal.main_v24) = v2 c
          ∧ r.2.mem ((c.tc : Thread Cert.UpRefIdeal.nD Cert.UpRefIdeal.τ).loc Cert.UpRefIdeal.main_v25) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v2)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v2) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v1) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v24) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v26) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def Claim : Prop :=
  ∃ (hGates : Cert.Gates.Facts) (hGatesIdeal : Cert.GatesIdeal.Facts) (hGatesRefIdeal : Cert.GatesRefIdeal.Facts) (hFfn : Cert.Ffn.Facts) (hFfnIdeal : Cert.FfnIdeal.Facts) (hFfnRefIdeal : Cert.FfnRefIdeal.Facts) (hPool : Cert.Pool.Facts) (hPoolIdeal : Cert.PoolIdeal.Facts) (hPoolRefIdeal : Cert.PoolRefIdeal.Facts) (hLoss : Cert.Loss.Facts) (hLossIdeal : Cert.LossIdeal.Facts) (hLossRefIdeal : Cert.LossRefIdeal.Facts) (hLru : Cert.Lru.Facts) (hLruIdeal : Cert.LruIdeal.Facts) (hLruRefIdeal : Cert.LruRefIdeal.Facts) (hUp : Cert.Up.Facts) (hUpIdeal : Cert.UpIdeal.Facts) (hUpRefIdeal : Cert.UpRefIdeal.Facts) (hWgrad : Cert.Wgrad.Facts) (hWgradIdeal : Cert.WgradIdeal.Facts) (hWgradRefIdeal : Cert.WgradRefIdeal.Facts) (hAdam : Cert.Adam.Facts) (hAdamIdeal : Cert.AdamIdeal.Facts) (hAdamRefIdeal : Cert.AdamRefIdeal.Facts) (hPre_ffn_finite : Cert.Pre_ffn_finite.Facts) (hPre_pool_finite : Cert.Pre_pool_finite.Facts) (hPre_loss_finite : Cert.Pre_loss_finite.Facts),
    quiescent_Gates (hGates := hGates)
    ∧ quiescent_GatesIdeal (hGatesIdeal := hGatesIdeal)
    ∧ quiescent_GatesRefIdeal (hGatesRefIdeal := hGatesRefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Lru (hLru := hLru)
    ∧ quiescent_LruIdeal (hLruIdeal := hLruIdeal)
    ∧ quiescent_LruRefIdeal (hLruRefIdeal := hLruRefIdeal)
    ∧ quiescent_Up (hUp := hUp)
    ∧ quiescent_UpIdeal (hUpIdeal := hUpIdeal)
    ∧ quiescent_UpRefIdeal (hUpRefIdeal := hUpRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_Adam (hAdam := hAdam)
    ∧ quiescent_AdamIdeal (hAdamIdeal := hAdamIdeal)
    ∧ quiescent_AdamRefIdeal (hAdamRefIdeal := hAdamRefIdeal)
    ∧ preserves_Gates_GatesIdeal
    ∧ algebraic_GatesIdeal_GatesRefIdeal (hGatesIdeal := hGatesIdeal) (hGatesRefIdeal := hGatesRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Lru_LruIdeal
    ∧ algebraic_LruIdeal_LruRefIdeal (hLruIdeal := hLruIdeal) (hLruRefIdeal := hLruRefIdeal)
    ∧ preserves_Up_UpIdeal
    ∧ algebraic_UpIdeal_UpRefIdeal (hUpIdeal := hUpIdeal) (hUpRefIdeal := hUpRefIdeal)
    ∧ preserves_Wgrad_WgradIdeal
    ∧ algebraic_WgradIdeal_WgradRefIdeal (hWgradIdeal := hWgradIdeal) (hWgradRefIdeal := hWgradRefIdeal)
    ∧ preserves_Adam_AdamIdeal
    ∧ algebraic_AdamIdeal_AdamRefIdeal (hAdamIdeal := hAdamIdeal) (hAdamRefIdeal := hAdamRefIdeal)
-- ==== Pre_ffn_finite.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x2816x1024 .f32) (main_v3 : IVec S_ 1) (main_v7 : IVec S_ 1) (main_v11 : IVec S_ 1) (main_v15 : IVec S_ 1) : IVec S_ 1 :=
  let main_v16 : FVec F S1x2816x1024 .f32 := Host.absf main_arg4
  let main_cst_6 : FVec F S_ .f32 := constant S_ .f32 0x7F800000#32
  let main_v17 : FVec F S1x2816x1024 .f32 := broadcastInDim S1x2816x1024 ![] bcast_S_S1x2816x1024 main_cst_6
  let main_v18 : IVec S1x2816x1024 1 := cmpf .olt main_v16 main_v17
  let main_c_7 : IVec S_ 1 := constantI S_ 1 1#1
  let main_v19 : IVec S_ 1 := (fun x v => Host.reduce IntOp.andi x v reducesTo_S1x2816x1024_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S16384x1024 .f32) (main_arg1 : FVec F S16384x1024 .f32) (main_arg2 : FVec F S1x1024 .f32) (main_arg3 : FVec F S1x1024x5632 .f32) (main_arg4 : FVec F S1x2816x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024x5632 .f32 := Host.absf main_arg3
  let main_cst_4 : FVec F S_ .f32 := constant S_ .f32 0x7F800000#32
  let main_v13 : FVec F S1x1024x5632 .f32 := broadcastInDim S1x1024x5632 ![] bcast_S_S1x1024x5632 main_cst_4
  let main_v14 : IVec S1x1024x5632 1 := cmpf .olt main_v12 main_v13
  let main_c_5 : IVec S_ 1 := constantI S_ 1 1#1
  let main_v15 : IVec S_ 1 := (fun x v => Host.reduce IntOp.andi x v reducesTo_S1x1024x5632_S_d0_1_2 h_S_) main_v14 main_c_5
  fn_part1 (F := F) main_arg4 main_v3 main_v7 main_v11 main_v15
-- ==== Pre_loss_finite.lean ====
abbrev S16384x1024 : Shape := ⟨2, ![16384, 1024]⟩
abbrev S16384x256 : Shape := ⟨2, ![16384, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x256x1024 : S_.BroadcastsInDim S1x256x1024 (![] : Fin 0 → Fin S1x256x1024.rank)
  reducesTo_S1x256x1024_S_d0_1_2 : S1x256x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1x1024x1024 .f32) (main_arg5 : FVec F S1x256x1024 .f32) (main_arg6 : FVec F S1024 .f32) (main_v3 : IVec S_ 1) (main_v7 : IVec S_ 1) (main_v11 : IVec S_ 1) (main_v15 : IVec S_ 1) : IVec S_ 1 :=
  let main_v16 : FVec F S1x1024x1024 .f32 := Host.absf main_arg4
  let main_cst_6 : FVec F S_ .f32 := constant S_ .f32 0x7F800000#32
  let main_v17 : FVec F S1x1024x1024 .f32 := broadcastInDim S1x1024x1024 ![] bcast_S_S1x1024x1024 main_cst_6
  let main_v18 : IVec S1x1024x1024 1 := cmpf .olt main_v16 main_v17
  let main_c_7 : IVec S_ 1 := constantI S_ 1 1#1
  let main_v19 : IVec S_ 1 := (fun x v => Host.reduce IntOp.andi x v reducesTo_S1x1024x1024_S_d0_1_2 h_S_) main_v18 main_c_7
  let main_v20 : FVec F S1x256x1024 .f32 := Host.absf main_arg5
  let main_cst_8 : FVec F S_ .f32 := constant S_ .f32 0x7F800000#32
  let main_v21 : FVec F S1x256x1024 .f32 := broadcastInDim S1x256x1024 ![] bcast_S_S1x256x1024 main_cst_8
  let main_v22 : IVec S1x256x1024 1 := cmpf .olt main_v20 main_v21
  let main_c_9 : IVec S_ 1 := constantI S_ 1 1#1
  let main_v23 : IVec S_ 1 := (fun x v => Host.reduce IntOp.andi x v reducesTo_S1x256x1024_S_d0_1_2 h_S_) main_v22 main_c_9
  let main_v24 : FVec F S1024 .f32 := Host.absf main_arg6
  let main_cst_10 : FVec F S_ .f32 := constant S_ .f32 0x7F800000#32
  let main_v25 : FVec F S1024 .f32 := broadcastInDim S1024 ![] bcast_S_S1024 main_cst_10
  let main_v26 : IVec S1024 1 := cmpf .olt main_v24 main_v25
  let main_c_11 : IVec S_ 1 := constantI S_ 1 1#1
  let main_v27 : IVec S_ 1 := (fun x v => Host.reduce IntOp.andi x v reducesTo_S1024_S_d0 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S16384x1024 .f32) (main_arg1 : FVec F S16384x256 .f32) (main_arg2 : FVec F S16384x1024 .f32) (main_arg3 : FVec F S1x1024 .f32) (main_arg4 : FVec F S1x1024x1024 .f32) (main_arg5 : FVec F S1x256x1024 .f32) (main_arg6 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : FVec F S16384x1024 .f32 := Host.absf main_arg2
  let main_cst_2 : FVec F S_ .f32 := constant S_ .f32 0x7F800000#32
  let main_v9 : FVec F S16384x1024 .f32 := broadcastInDim S16384x1024 ![] bcast_S_S16384x1024 main_cst_2
  let main_v10 : IVec S16384x1024 1 := cmpf .olt main_v8 main_v9
  let main_c_3 : IVec S_ 1 := constantI S_ 1 1#1
  let main_v11 : IVec S_ 1 := (fun x v => Host.reduce IntOp.andi x v reducesTo_S16384x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_v3 main_v7 main_v11 main_v15
-- ==== Pre_pool_finite.lean ====
abbrev S16384x1024 : Shape := ⟨2, ![16384, 1024]⟩
abbrev S16384x2048 : Shape := ⟨2, ![16384, 2048]⟩
abbrev S1x1024 : Shape := ⟨2, ![1, 1024]⟩
abbrev S1x1024x4608 : Shape := ⟨3, ![1, 1024, 4608]⟩
abbrev S1x4x128x128 : Shape := ⟨4, ![1, 4, 128, 128]⟩
abbrev S1x512 : Shape := ⟨2, ![1, 512]⟩
abbrev S1x512x1024 : Shape := ⟨3, ![1, 512, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x4608 : S_.BroadcastsInDim S1x1024x4608 (![] : Fin 0 → Fin S1x1024x4608.rank)
  reducesTo_S1x1024x4608_S_d0_1_2 : S1x1024x4608.ReducesTo [0, 1, 2] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x512 : S_.BroadcastsInDim S1x512 (![] : Fin 0 → Fin S1x512.rank)
  reducesTo_S1x512_S_d0_1 : S1x512.ReducesTo [0, 1] S_
  bcast_S_S1x512x1024 : S_.BroadcastsInDim S1x512x1024 (![] : Fin 0 → Fin S1x512x1024.rank)
  reducesTo_S1x512x1024_S_d0_1_2 : S1x512x1024.ReducesTo [0, 1, 2] S_

variable [Facts]

def fn_part2 {F : FTy → Type} [FloatOps F] (main_arg9 : FVec F S1x512 .f32) (main_arg10 : FVec F S1x512x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x512 .f32 := Host.absf main_arg9
  let main_cst_14 : FVec F S_ .f32 := constant S_ .f32 0x7F800000#32
  let main_v33 : FVec F S1x512 .f32 := broadcastInDim S1x512 ![] bcast_S_S1x512 main_cst_14
  let main_v34 : IVec S1x512 1 := cmpf .olt main_v32 main_v33
  let main_c_15 : IVec S_ 1 := constantI S_ 1 1#1
  let main_v35 : IVec S_ 1 := (fun x v => Host.reduce IntOp.andi x v reducesTo_S1x512_S_d0_1 h_S_) main_v34 main_c_15
  let main_v36 : FVec F S1x512x1024 .f32 := Host.absf main_arg10
  let main_cst_16 : FVec F S_ .f32 := constant S_ .f32 0x7F800000#32
  let main_v37 : FVec F S1x512x1024 .f32 := broadcastInDim S1x512x1024 ![] bcast_S_S1x512x1024 main_cst_16
  let main_v38 : IVec S1x512x1024 1 := cmpf .olt main_v36 main_v37
  let main_c_17 : IVec S_ 1 := constantI S_ 1 1#1
  let main_v39 : IVec S_ 1 := (fun x v => Host.reduce IntOp.andi x v reducesTo_S1x512x1024_S_d0_1_2 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S16384x1024 .f32) (main_arg6 : FVec F S1x1024 .f32) (main_arg7 : FVec F S1x1024x4608 .f32) (main_arg8 : FVec F S1x4x128x128 .f32) (main_arg9 : FVec F S1x512 .f32) (main_arg10 : FVec F S1x512x1024 .f32) (main_v3 : IVec S_ 1) (main_v7 : IVec S_ 1) (main_v11 : IVec S_ 1) (main_v15 : IVec S_ 1) : IVec S_ 1 :=
  let main_v16 : FVec F S16384x1024 .f32 := Host.absf main_arg4
  let main_cst_6 : FVec F S_ .f32 := constant S_ .f32 0x7F800000#32
  let main_v17 : FVec F S16384x1024 .f32 := broadcastInDim S16384x1024 ![] bcast_S_S16384x1024 main_cst_6
  let main_v18 : IVec S16384x1024 1 := cmpf .olt main_v16 main_v17
  let main_c_7 : IVec S_ 1 := constantI S_ 1 1#1
  let main_v19 : IVec S_ 1 := (fun x v => Host.reduce IntOp.andi x v reducesTo_S16384x1024_S_d0_1 h_S_) main_v18 main_c_7
  let main_v20 : FVec F S1x1024 .f32 := Host.absf main_arg6
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1x1024x4608 .f32 := Host.absf main_arg7
  let main_cst_10 : FVec F S_ .f32 := constant S_ .f32 0x7F800000#32
  let main_v25 : FVec F S1x1024x4608 .f32 := broadcastInDim S1x1024x4608 ![] bcast_S_S1x1024x4608 main_cst_10
  let main_v26 : IVec S1x1024x4608 1 := cmpf .olt main_v24 main_v25
  let main_c_11 : IVec S_ 1 := constantI S_ 1 1#1
  let main_v27 : IVec S_ 1 := (fun x v => Host.reduce IntOp.andi x v reducesTo_S1x1024x4608_S_d0_1_2 h_S_) main_v26 main_c_11
  let main_v28 : FVec F S1x4x128x128 .f32 := Host.absf main_arg8
  let main_cst_12 : FVec F S_ .f32 := constant S_ .f32 0x7F800000#32
  let main_v29 : FVec F S1x4x128x128 .f32 := broadcastInDim S1x4x128x128 ![] bcast_S_S1x4x128x128 main_cst_12
  let main_v30 : IVec S1x4x128x128 1 := cmpf .olt main_v28 main_v29
  let main_c_13 : IVec S_ 1 := constantI S_ 1 1#1
  let main_v31 : IVec S_ 1 := (fun x v => Host.reduce IntOp.andi x v reducesTo_S1x4x128x128_S_d0_1_2_3 h_S_) main_v30 main_c_13
  fn_part2 (F := F) main_arg9 main_arg10 main_v3 main_v7 main_v11 main_v15 main_v19 main_v23 main_v27 main_v31

def fn {F : FTy → Type} [FloatOps F] (main_arg0 : FVec F S16384x1024 .f32) (main_arg1 : FVec F S16384x1024 .f32) (main_arg2 : FVec F S16384x1024 .f32) (main_arg3 : FVec F S16384x2048 .f32) (main_arg4 : FVec F S16384x1024 .f32) (main_arg5 : FVec F S16384x1024 .f32) (main_arg6 : FVec F S1x1024 .f32) (main_arg7 : FVec F S1x1024x4608 .f32) (main_arg8 : FVec F S1x4x128x128 .f32) (main_arg9 : FVec F S1x512 .f32) (main_arg10 : FVec F S1x512x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : FVec F S16384x1024 .f32 := Host.absf main_arg2
  let main_cst_2 : FVec F S_ .f32 := constant S_ .f32 0x7F800000#32
  let main_v9 : FVec F S16384x1024 .f32 := broadcastInDim S16384x1024 ![] bcast_S_S16384x1024 main_cst_2
  let main_v10 : IVec S16384x1024 1 := cmpf .olt main_v8 main_v9
  let main_c_3 : IVec S_ 1 := constantI S_ 1 1#1
  let main_v11 : IVec S_ 1 := (fun x v => Host.reduce IntOp.andi x v reducesTo_S16384x1024_S_d0_1 h_S_) main_v10 main_c_3
  let main_v12 : FVec F S16384x2048 .f32 := Host.absf main_arg3
  let main_cst_4 : FVec F S_ .f32 := constant S_ .f32 0x7F800000#32
  let main_v13 : FVec F S16384x2048 .f32 := broadcastInDim S16384x2048 ![] bcast_S_S16384x2048 main_cst_4
  let main_v14 : IVec S16384x2048 1 := cmpf .olt main_v12 main_v13
  let main_c_5 : IVec S_ 1 := constantI S_ 1 1#1
  let main_v15 : IVec S_ 1 := (fun x v => Host.reduce IntOp.andi x v reducesTo_S16384x2048_S_d0_1 h_S_) main_v14 main_c_5
  fn_part1 (F := F) main_arg4 main_arg6 main_arg7 main_arg8 main_arg9 main_arg10 main_v3 main_v7 main_v11 main_v15
-- ==== Gates.lean ====
abbrev S16384x1024 : Shape := ⟨2, ![16384, 1024]⟩
abbrev S16384x2048 : Shape := ⟨2, ![16384, 2048]⟩
abbrev S1x2x1024 : Shape := ⟨3, ![1, 2, 1024]⟩
abbrev S1x1024x1024 : Shape := ⟨3, ![1, 1024, 1024]⟩
abbrev S2x1024 : Shape := ⟨2, ![2, 1024]⟩
abbrev S1x2048 : Shape := ⟨2, ![1, 2048]⟩
abbrev S1024x1024 : Shape := ⟨2, ![1024, 1024]⟩
abbrev S8x1024 : Shape := ⟨2, ![8, 1024]⟩
abbrev S512x1024 : Shape := ⟨2, ![512, 1024]⟩
abbrev S512x2048 : Shape := ⟨2, ![512, 2048]⟩
abbrev S1x1024 : Shape := ⟨2, ![1, 1024]⟩
abbrev S1024 : Shape := ⟨1, ![1024]⟩

abbrev nBuf : Space → Nat
  | .hbm => 18
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x1024, .f32⟩
  | .hbm, ⟨3, _⟩ => ⟨S16384x1024, .f32⟩
  | .hbm, ⟨4, _⟩ => ⟨S1x2x1024, .f32⟩
  | .hbm, ⟨5, _⟩ => ⟨S1x1024x1024, .f32⟩
  | .hbm, ⟨6, _⟩ => ⟨S2x1024, .f32⟩
  | .hbm, ⟨7, _⟩ => ⟨S1x2048, .f32⟩
  | .hbm, ⟨8, _⟩ => ⟨S16384x2048, .bf16⟩
  | .hbm, ⟨9, _⟩ => ⟨S16384x1024, .bf16⟩
  | .hbm, ⟨10, _⟩ => ⟨S16384x1024, .bf16⟩
  | .hbm, ⟨11, _⟩ => ⟨S1024x1024, .f32⟩
  | .hbm, ⟨12, _⟩ => ⟨S1024x1024, .bf16⟩
  | .hbm, ⟨13, _⟩ => ⟨S16384x2048, .bf16⟩
  | .hbm, ⟨14, _⟩ => ⟨S16384x1024, .bf16⟩
  | .hbm, ⟨15, _⟩ => ⟨S16384x1024, .bf16⟩
  | .hbm, ⟨16, _⟩ => ⟨S1024x1024, .f32⟩
  | .hbm, ⟨17, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x2048, .f32⟩
  | .local _ .vmem, ⟨9, _⟩ => ⟨S1024x1024, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .f32⟩
  | .local _ .vmem, ⟨17, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GatesRefIdeal.lean ====
abbrev S16384x1024 : Shape := ⟨2, ![16384, 1024]⟩
abbrev S16384x2048 : Shape := ⟨2, ![16384, 2048]⟩
abbrev S1x2x1024 : Shape := ⟨3, ![1, 2, 1024]⟩
abbrev S1x1024x1024 : Shape := ⟨3, ![1, 1024, 1024]⟩
abbrev S16384x2x1024 : Shape := ⟨3, ![16384, 2, 1024]⟩
abbrev S2x1024 : Shape := ⟨2, ![2, 1024]⟩
abbrev S_ : Shape := ⟨0, ![]⟩
abbrev S16384x1x1024 : Shape := ⟨3, ![16384, 1, 1024]⟩
abbrev S1024x1024 : Shape := ⟨2, ![1024, 1024]⟩
abbrev S8x1024 : Shape := ⟨2, ![8, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x1024, .f32⟩
  | .hbm, ⟨3, _⟩ => ⟨S16384x1024, .f32⟩
  | .hbm, ⟨4, _⟩ => ⟨S1x2x1024, .f32⟩
  | .hbm, ⟨5, _⟩ => ⟨S1x1024x1024, .f32⟩
  | .hbm, ⟨6, _⟩ => ⟨S16384x2x1024, .f32⟩
  | .hbm, ⟨7, _⟩ => ⟨S2x1024, .f32⟩
  | .hbm, ⟨8, _⟩ => ⟨S1x2x1024, .f32⟩
  | .hbm, ⟨9, _⟩ => ⟨S16384x2x1024, .f32⟩
  | .hbm, ⟨10, _⟩ => ⟨S16384x2x1024, .f32⟩
  | .hbm, ⟨11, _⟩ => ⟨S16384x2x1024, .f32⟩
  | .hbm, ⟨12, _⟩ => ⟨S16384x2x1024, .f32⟩
  | .hbm, ⟨13, _⟩ => ⟨S_, .f32⟩
  | .hbm, ⟨14, _⟩ => ⟨S16384x2x1024, .f32⟩
  | .hbm, ⟨15, _⟩ => ⟨S16384x2x1024, .f32⟩
  | .hbm, ⟨16, _⟩ => ⟨S_, .f32⟩
  | .hbm, ⟨17, _⟩ => ⟨S16384x2x1024, .f32⟩
  | .hbm, ⟨18, _⟩ => ⟨S16384x2x1024, .f32⟩
  | .hbm, ⟨19, _⟩ => ⟨S_, .f32⟩
  | .hbm, ⟨20, _⟩ => ⟨S16384x2x1024, .f32⟩
  | .hbm, ⟨21, _⟩ => ⟨S16384x2x1024, .f32⟩
  | .hbm, ⟨22, _⟩ => ⟨S16384x2x1024, .f32⟩
  | .hbm, ⟨23, _⟩ => ⟨S16384x1x1024, .f32⟩
  | .hbm, ⟨24, _⟩ => ⟨S16384x1024, .f32⟩
  | .hbm, ⟨25, _⟩ => ⟨S16384x1024, .f32⟩
  | .hbm, ⟨26, _⟩ => ⟨S16384x1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1024x1024, .f32⟩
  | .hbm, ⟨31, _⟩ => ⟨S16384x1024, .f32⟩
  | .hbm, ⟨32, _⟩ => ⟨S1024x1024, .f32⟩
  | .hbm, ⟨33, _⟩ => ⟨S1024x1024, .f32⟩
  | .hbm, ⟨34, _⟩ => ⟨S16384x1024, .f32⟩
  | .hbm, ⟨35, _⟩ => ⟨S1x1024x1024, .f32⟩
  | .hbm, ⟨36, _⟩ => ⟨S16384x1024, .f32⟩
  | .hbm, ⟨37, _⟩ => ⟨S16384x1024, .f32⟩
  | .hbm, ⟨38, _⟩ => ⟨S16384x1x1024, .f32⟩
  | .hbm, ⟨39, _⟩ => ⟨S_, .f32⟩
  | .hbm, ⟨40, _⟩ => ⟨S16384x2x1024, .f32⟩
  | .hbm, ⟨41, _⟩ => ⟨S16384x1024, .f32⟩
  | .hbm, ⟨42, _⟩ => ⟨S16384x1024, .f32⟩
  | .hbm, ⟨43, _⟩ => ⟨S16384x1x1024, .f32⟩
  | .hbm, ⟨44, _⟩ => ⟨S_, .f32⟩
  | .hbm, ⟨45, _⟩ => ⟨S16384x2x1024, .f32⟩
  | .hbm, ⟨46, _⟩ => ⟨S16384x2x1024, .f32⟩
  | .hbm, ⟨47, _⟩ => ⟨S16384x2x1024, .f32⟩
  | .hbm, ⟨48, _⟩ => ⟨S_, .f32⟩
  | .hbm, ⟨49, _⟩ => ⟨S2x1024, .f32⟩
  | .hbm, ⟨50, _⟩ => ⟨S1x2x1024, .f32⟩
  | .hbm, ⟨51, _⟩ => ⟨S_, .f32⟩
  | .hbm, ⟨52, _⟩ => ⟨S2x1024, .f32⟩
  | .hbm, ⟨53, _⟩ => ⟨S1x2x1024, .f32⟩
  | .hbm, ⟨54, _⟩ => ⟨S16384x2048, .f32⟩
  | .hbm, ⟨55, _⟩ => ⟨S16384x2048, .bf16⟩
  | .hbm, ⟨56, _⟩ => ⟨S16384x1024, .bf16⟩
  | .hbm, ⟨57, _⟩ => ⟨S16384x1024, .bf16⟩
  | .hbm, ⟨58, _⟩ => ⟨S1024x1024, .f32⟩
  | .hbm, ⟨59, _⟩ => ⟨S2x1024, .f32⟩
  | .hbm, ⟨60, _⟩ => ⟨S_, .i32⟩
  | .hbm, ⟨61, _⟩ => ⟨S_, .f32⟩
  | .hbm, ⟨62, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c : Ref sig .tc := ⟨.hbm, 60, rfl⟩
abbrev main_call0_v0 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Ffn.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S8x1024 : Shape := ⟨2, ![8, 1024]⟩
abbrev S256x1024 : Shape := ⟨2, ![256, 1024]⟩
abbrev S256x5632 : Shape := ⟨2, ![256, 5632]⟩
abbrev S256x2816 : Shape := ⟨2, ![256, 2816]⟩
abbrev S1024x2816 : Shape := ⟨2, ![1024, 2816]⟩
abbrev S256 : Shape := ⟨1, ![256]⟩
abbrev S256x1 : Shape := ⟨2, ![256, 1]⟩
abbrev S1024 : Shape := ⟨1, ![1024]⟩

abbrev nBuf : Space → Nat
  | .hbm => 30
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024x5632, .f32⟩
  | .hbm, ⟨6, _⟩ => ⟨S1024x5632, .bf16⟩
  | .hbm, ⟨7, _⟩ => ⟨S2816x1024, .f32⟩
  | .hbm, ⟨8, _⟩ => ⟨S2816x1024, .bf16⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .bf16⟩
  | .hbm, ⟨25, _⟩ => ⟨S16384x5632, .f32⟩
  | .hbm, ⟨26, _⟩ => ⟨S16384x5632, .bf16⟩
  | .hbm, ⟨27, _⟩ => ⟨S16384x5632, .bf16⟩
  | .hbm, ⟨28, _⟩ => ⟨S16384x1024, .f32⟩
  | .hbm, ⟨29, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .bf16⟩
  | .local _ .vmem, ⟨5, _⟩ => ⟨S256x5632, .bf16⟩
  | .local _ .vmem, ⟨6, _⟩ => ⟨S1x1024, .f32⟩
  | .local _ .vmem, ⟨7, _⟩ => ⟨S1024x5632, .bf16⟩
  | .local _ .vmem, ⟨8, _⟩ => ⟨S2816x1024, .bf16⟩
  | .local _ .vmem, ⟨9, _⟩ => ⟨S256x5632, .bf16⟩
  | .local _ .vmem, ⟨10, _⟩ => ⟨S256x5632, .bf16⟩
  | .local _ .vmem, ⟨11, _⟩ => ⟨S256x1024, .f32⟩
  | .local _ .vmem, ⟨12, _⟩ => ⟨S256x1024, .f32⟩
  | .local _ .vmem, ⟨13, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnRefIdeal.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S16384x2816 : Shape := ⟨2, ![16384, 2816]⟩
abbrev S2816x1024 : Shape := ⟨2, ![2816, 1024]⟩
abbrev S8x1024 : Shape := ⟨2, ![8, 1024]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S1024x5632, .f32⟩
  | .hbm, ⟨27, _⟩ => ⟨S16384x5632, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S2816x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x5632, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S1024, .f32⟩
  | .hbm, ⟨65, _⟩ => ⟨S16384x1024, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S_, .f32⟩
  | .hbm, ⟨77, _⟩ => ⟨S16384, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S1x1024, .f32⟩
  | .hbm, ⟨84, _⟩ => ⟨S16384x5632, .bf16⟩
  | .hbm, ⟨85, _⟩ => ⟨S_, .i32⟩
  | .hbm, ⟨86, _⟩ => ⟨S_, .f32⟩
  | .hbm, ⟨87, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v21_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v21_1 : Ref sig .tc := ⟨.hbm, 41, rfl⟩
abbrev main_v21_0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_6 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c : Ref sig .tc := ⟨.hbm, 85, rfl⟩
abbrev main_call2_v0 : Ref sig .tc := ⟨.hbm, 86, rfl⟩
abbrev main_v56 : Ref sig .tc := ⟨.hbm, 87, rfl⟩

abbrev nD : Nat := 1
abbrev τ : Topo := Topo.v7x

variable {F : FTy → Type} [FloatOps F]
-- ==== Pool.lean ====
abbrev S16384x1024 : Shape := ⟨2, ![16384, 1024]⟩
abbrev S16384x2048 : Shape := ⟨2, ![16384, 2048]⟩
abbrev S1x1024 : Shape := ⟨2, ![1, 1024]⟩
abbrev S1x1024x4608 : Shape := ⟨3, ![1, 1024, 4608]⟩
abbrev S1x4x128x128 : Shape := ⟨4, ![1, 4, 128, 128]⟩
abbrev S1x512 : Shape := ⟨2, ![1, 512]⟩
abbrev S1x512x1024 : Shape := ⟨3, ![1, 512, 1024]⟩
abbrev S1024x4608 : Shape := ⟨2, ![1024, 4608]⟩
abbrev S_ : Shape := ⟨0, ![]⟩
abbrev S16384 : Shape := ⟨1, ![16384]⟩
abbrev S16384x1 : Shape := ⟨2, ![16384, 1]⟩
abbrev S1024x512 : Shape := ⟨2, ![1024, 512]⟩
abbrev S16384x512 : Shape := ⟨2, ![16384, 512]⟩
abbrev S4x128x128 : Shape := ⟨3, ![4, 128, 128]⟩
abbrev S2x128x128 : Shape := ⟨3, ![2, 128, 128]⟩
abbrev S2x128x256 : Shape := ⟨3, ![2, 128, 256]⟩
abbrev S2x256x256 : Shape := ⟨3, ![2, 256, 256]⟩
abbrev S512x1024 : Shape := ⟨2, ![512, 1024]⟩
abbrev S8x1024 : Shape := ⟨2, ![8, 1024]⟩
abbrev S256x1024 : Shape := ⟨2, ![256, 1024]⟩
abbrev S256x512 : Shape := ⟨2, ![256, 512]⟩
abbrev S16x512 : Shape := ⟨2, ![16, 512]⟩
abbrev S256x2048 : Shape := ⟨2, ![256, 2048]⟩
abbrev S272x512 : Shape := ⟨2, ![272, 512]⟩
abbrev S256x128 : Shape := ⟨2, ![256, 128]⟩
abbrev S272x128 : Shape := ⟨2, ![272, 128]⟩
abbrev S256x256 : Shape := ⟨2, ![256, 256]⟩
abbrev S1024x256 : Shape := ⟨2, ![1024, 256]⟩
abbrev S1x256x256 : Shape := ⟨3, ![1, 256, 256]⟩
abbrev S512 : Shape := ⟨1, ![512]⟩
abbrev S16x128 : Shape := ⟨2, ![16, 128]⟩
abbrev S256 : Shape := ⟨1, ![256]⟩
abbrev S256x1 : Shape := ⟨2, ![256, 1]⟩
abbrev S1024 : Shape := ⟨1, ![1024]⟩
abbrev S2x1x128x128 : Shape := ⟨4, ![2, 1, 128, 128]⟩
abbrev S2x2x128x128 : Shape := ⟨4, ![2, 2, 128, 128]⟩

abbrev nBuf : Space → Nat
  | .hbm => 58
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x2048, .f32⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S1x1024x4608, .f32⟩
  | .hbm, ⟨8, _⟩ => ⟨S1x4x128x128, .f32⟩
  | .hbm, ⟨9, _⟩ => ⟨S1x512, .f32⟩
  | .hbm, ⟨10, _⟩ => ⟨S1x512x1024, .f32⟩
  | .hbm, ⟨11, _⟩ => ⟨S1024x4608, .f32⟩
  | .hbm, ⟨12, _⟩ => ⟨S1024x4608, .bf16⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .bf16⟩
  | .hbm, ⟨29, _⟩ => ⟨S1024x512, .bf16⟩
  | .hbm, ⟨30, _⟩ => ⟨S16384x512, .f32⟩
  | .hbm, ⟨31, _⟩ => ⟨S16384x1024, .bf16⟩
  | .hbm, ⟨32, _⟩ => ⟨S16384x1024, .bf16⟩
  | .hbm, ⟨33, _⟩ => ⟨S16384x1024, .bf16⟩
  | .hbm, ⟨34, _⟩ => ⟨S16384x2048, .bf16⟩
  | .hbm, ⟨35, _⟩ => ⟨S4x128x128, .f32⟩
  | .hbm, ⟨36, _⟩ => ⟨S4x128x128, .bf16⟩
  | .hbm, ⟨37, _⟩ => ⟨S2x128x128, .bf16⟩
  | .hbm, ⟨38, _⟩ => ⟨S_, .bf16⟩
  | .hbm, ⟨39, _⟩ => ⟨S2x128x128, .bf16⟩
  | .hbm, ⟨40, _⟩ => ⟨S2x128x128, .bf16⟩
  | .hbm, ⟨41, _⟩ => ⟨S2x128x256, .bf16⟩
  | .hbm, ⟨42, _⟩ => ⟨S2x128x128, .bf16⟩
  | .hbm, ⟨43, _⟩ => ⟨S2x128x256, .bf16⟩
  | .hbm, ⟨44, _⟩ => ⟨S2x256x256, .bf16⟩
  | .hbm, ⟨45, _⟩ => ⟨S512x1024, .f32⟩
  | .hbm, ⟨46, _⟩ => ⟨S512x1024, .bf16⟩
  | .hbm, ⟨47, _⟩ => ⟨S16384x512, .bf16⟩
  | .hbm, ⟨48, _⟩ => ⟨S16384x1024, .f32⟩
  | .hbm, ⟨49, _⟩ => ⟨S512x1024, .f32⟩
  | .hbm, ⟨50, _⟩ => ⟨S2x256x256, .f32⟩
  | .hbm, ⟨51, _⟩ => ⟨S8x1024, .f32⟩
  | .hbm, ⟨52, _⟩ => ⟨S2x128x128, .f32⟩
  | .hbm, ⟨53, _⟩ => ⟨S2x128x128, .f32⟩
  | .hbm, ⟨54, _⟩ => ⟨S2x1x128x128, .f32⟩
  | .hbm, ⟨55, _⟩ => ⟨S2x1x128x128, .f32⟩
  | .hbm, ⟨56, _⟩ => ⟨S2x2x128x128, .f32⟩
  | .hbm, ⟨57, _⟩ => ⟨S4x128x128, .f32⟩
  | .local _ .vmem, ⟨0, _⟩ => ⟨S256x1024, .bf16⟩
  | .local _ .vmem, ⟨1, _⟩ => ⟨S256x1024, .bf16⟩
  | .local _ .vmem, ⟨2, _⟩ => ⟨S256x512, .f32⟩
  | .local _ .vmem, ⟨3, _⟩ => ⟨S256x512, .f32⟩
  | .local _ .vmem, ⟨4, _⟩ => ⟨S16x512, .f32⟩
  | .local _ .vmem, ⟨5, _⟩ => ⟨S16x512, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x2048, .bf16⟩
  | .local _ .vmem, ⟨11, _⟩ => ⟨S256x2048, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1024x4608, .bf16⟩
  | .local _ .vmem, ⟨18, _⟩ => ⟨S2x256x256, .bf16⟩
  | .local _ .vmem, ⟨19, _⟩ => ⟨S1x512, .f32⟩
  | .local _ .vmem, ⟨20, _⟩ => ⟨S512x1024, .bf16⟩
  | .local _ .vmem, ⟨21, _⟩ => ⟨S256x512, .bf16⟩
  | .local _ .vmem, ⟨22, _⟩ => ⟨S256x512, .bf16⟩
  | .local _ .vmem, ⟨23, _⟩ => ⟨S256x1024, .f32⟩
  | .local _ .vmem, ⟨24, _⟩ => ⟨S256x1024, .f32⟩
  | .local _ .vmem, ⟨25, _⟩ => ⟨S512x1024, .f32⟩
  | .local _ .vmem, ⟨26, _⟩ => ⟨S2x256x256, .f32⟩
  | .local _ .vmem, ⟨27, _⟩ => ⟨S8x1024, .f32⟩
  | .local _ .vmem, ⟨28, _⟩ => ⟨S16x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v32_2 : Ref sig .tc := ⟨.hbm, 49, rfl⟩
abbrev main_v32_3 : Ref sig .tc := ⟨.hbm, 50, rfl⟩
abbrev main_v32_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4608 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S512x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x256x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== PoolRefIdeal.lean ====
abbrev S16384x1024 : Shape := ⟨2, ![16384, 1024]⟩
abbrev S16384x2048 : Shape := ⟨2, ![16384, 2048]⟩
abbrev S1x1024 : Shape := ⟨2, ![1, 1024]⟩
abbrev S1x1024x4608 : Shape := ⟨3, ![1, 1024, 4608]⟩
abbrev S1x4x128x128 : Shape := ⟨4, ![1, 4, 128, 128]⟩
abbrev S1x512 : Shape := ⟨2, ![1, 512]⟩
abbrev S1x512x1024 : Shape := ⟨3, ![1, 512, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x4608 : Shape := ⟨2, ![1024, 4608]⟩
abbrev S16384x4608 : Shape := ⟨2, ![16384, 4608]⟩
abbrev S16384x512 : Shape := ⟨2, ![16384, 512]⟩
abbrev S16x512 : Shape := ⟨2, ![16, 512]⟩
abbrev S16400x512 : Shape := ⟨2, ![16400, 512]⟩
abbrev S16384x128 : Shape := ⟨2, ![16384, 128]⟩
abbrev S16384x1x128 : Shape := ⟨3, ![16384, 1, 128]⟩
abbrev S16384x4x128 : Shape := ⟨3, ![16384, 4, 128]⟩
abbrev S4x128x128 : Shape := ⟨3, ![4, 128, 128]⟩
abbrev S4x128x16384 : Shape := ⟨3, ![4, 128, 16384]⟩
abbrev S512 : Shape := ⟨1, ![512]⟩
abbrev S512x1024 : Shape := ⟨2, ![512, 1024]⟩
abbrev S1024x512 : Shape := ⟨2, ![1024, 512]⟩
abbrev S4x16384x128 : Shape := ⟨3, ![4, 16384, 128]⟩
abbrev S6x1024 : Shape := ⟨2, ![6, 1024]⟩
abbrev S8x1024 : Shape := ⟨2, ![8, 1024]⟩

abbrev nBuf : Space → Nat
  | .hbm => 244
  | .vmem => 0
  | .smem => 0
  | _ => 0

abbrev hbmTy0_0 (i : Nat) : BufTy := match i % 128 with
  | 0 => ⟨S16384x1024, .f32⟩
  | 1 => ⟨S16384x1024, .f32⟩
  | 2 => ⟨S16384x1024, .f32⟩
  | 3 => ⟨S16384x2048, .f32⟩
  | 4 => ⟨S16384x1024, .f32⟩
  | 5 => ⟨S16384x1024, .f32⟩
  | 6 => ⟨S1x1024, .f32⟩
  | 7 => ⟨S1x1024x4608, .f32⟩
  | 8 => ⟨S1x4x128x128, .f32⟩
  | 9 => ⟨S1x512, .f32⟩
  | 10 => ⟨S1x512x1024, .f32⟩
  | 11 => ⟨S1024, .f32⟩
  | 12 => ⟨S16384x1024, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1, .f32⟩
  | 23 => ⟨S16384x1, .f32⟩
  | 24 => ⟨S_, .f32⟩
  | 25 => ⟨S16384x1, .f32⟩
  | 26 => ⟨S16384x1, .f32⟩
  | 27 => ⟨S16384x1024, .f32⟩
  | 28 => ⟨S16384x1024, .f32⟩
  | 29 => ⟨S1x1024, .f32⟩
  | 30 => ⟨S16384x1024, .f32⟩
  | 31 => ⟨S16384x1024, .f32⟩
  | 32 => ⟨S1024x4608, .f32⟩
  | 33 => ⟨S16384x4608, .f32⟩
  | 34 => ⟨S16384x512, .f32⟩
  | 35 => ⟨S16384x1024, .f32⟩
  | 36 => ⟨S16384x1024, .f32⟩
  | 37 => ⟨S16384x2048, .f32⟩
  | 38 => ⟨S_, .f32⟩
  | 39 => ⟨S_, .f32⟩
  | 40 => ⟨S16384x512, .f32⟩
  | 41 => ⟨S_, .f32⟩
  | 42 => ⟨S16x512, .f32⟩
  | 43 => ⟨S16400x512, .f32⟩
  | 44 => ⟨S_, .f32⟩
  | 45 => ⟨S16x512, .f32⟩
  | 46 => ⟨S16384, .i32⟩
  | 47 => ⟨S16384x128, .f32⟩
  | 48 => ⟨S16384x128, .f32⟩
  | 49 => ⟨S_, .i32⟩
  | 50 => ⟨S16384, .i32⟩
  | 51 => ⟨S16384, .i32⟩
  | 52 => ⟨S_, .i32⟩
  | 53 => ⟨S16384, .i32⟩
  | 54 => ⟨S16384, .i32⟩
  | 55 => ⟨S16384, .f32⟩
  | 56 => ⟨S16384x1, .f32⟩
  | 57 => ⟨S16384x128, .f32⟩
  | 58 => ⟨S16384x128, .f32⟩
  | 59 => ⟨S16384x128, .f32⟩
  | 60 => ⟨S16384x128, .f32⟩
  | 61 => ⟨S16384x128, .f32⟩
  | 62 => ⟨S16384x128, .f32⟩
  | 63 => ⟨S16384x128, .f32⟩
  | 64 => ⟨S_, .i32⟩
  | 65 => ⟨S16384, .i32⟩
  | 66 => ⟨S16384, .i32⟩
  | 67 => ⟨S_, .i32⟩
  | 68 => ⟨S16384, .i32⟩
  | 69 => ⟨S16384, .i32⟩
  | 70 => ⟨S16384, .f32⟩
  | 71 => ⟨S16384x1, .f32⟩
  | 72 => ⟨S16384x128, .f32⟩
  | 73 => ⟨S16384x128, .f32⟩
  | 74 => ⟨S16384x128, .f32⟩
  | 75 => ⟨S16384x128, .f32⟩
  | 76 => ⟨S16384x128, .f32⟩
  | 77 => ⟨S16384x128, .f32⟩
  | 78 => ⟨S16384x128, .f32⟩
  | 79 => ⟨S_, .i32⟩
  | 80 => ⟨S16384, .i32⟩
  | 81 => ⟨S16384, .i32⟩
  | 82 => ⟨S_, .i32⟩
  | 83 => ⟨S16384, .i32⟩
  | 84 => ⟨S16384, .i32⟩
  | 85 => ⟨S16384, .f32⟩
  | 86 => ⟨S16384x1, .f32⟩
  | 87 => ⟨S16384x128, .f32⟩
  | 88 => ⟨S16384x128, .f32⟩
  | 89 => ⟨S16384x128, .f32⟩
  | 90 => ⟨S16384x128, .f32⟩
  | 91 => ⟨S16384x128, .f32⟩
  | 92 => ⟨S16384x128, .f32⟩
  | 93 => ⟨S16384x128, .f32⟩
  | 94 => ⟨S_, .i32⟩
  | 95 => ⟨S16384, .i32⟩
  | 96 => ⟨S16384, .i32⟩
  | 97 => ⟨S_, .i32⟩
  | 98 => ⟨S16384, .i32⟩
  | 99 => ⟨S16384, .i32⟩
  | 100 => ⟨S16384, .f32⟩
  | 101 => ⟨S16384x1, .f32⟩
  | 102 => ⟨S16384x128, .f32⟩
  | 103 => ⟨S16384x128, .f32⟩
  | 104 => ⟨S16384x128, .f32⟩
  | 105 => ⟨S16384x128, .f32⟩
  | 106 => ⟨S16384x128, .f32⟩
  | 107 => ⟨S16384x1x128, .f32⟩
  | 108 => ⟨S16384x1x128, .f32⟩
  | 109 => ⟨S16384x1x128, .f32⟩
  | 110 => ⟨S16384x1x128, .f32⟩
  | 111 => ⟨S16384x4x128, .f32⟩
  | 112 => ⟨S4x128x128, .f32⟩
  | 113 => ⟨S4x128x16384, .f32⟩
  | 114 => ⟨S16384x4x128, .f32⟩
  | 115 => ⟨S16384x512, .f32⟩
  | 116 => ⟨S512, .f32⟩
  | 117 => ⟨S1x512, .f32⟩
  | 118 => ⟨S16384x512, .f32⟩
  | 119 => ⟨S16384x512, .f32⟩
  | 120 => ⟨S512x1024, .f32⟩
  | 121 => ⟨S16384x1024, .f32⟩
  | 122 => ⟨S1024x512, .f32⟩
  | 123 => ⟨S512x1024, .f32⟩
  | 124 => ⟨S16384x512, .f32⟩
  | 125 => ⟨S1x512x1024, .f32⟩
  | 126 => ⟨S16384x512, .f32⟩
  | 127 => ⟨S_, .f32⟩
  | _ => ⟨S16384x1024, .f32⟩

abbrev hbmTy0_1 (i : Nat) : BufTy := match i % 128 with
  | 0 => ⟨S512, .f32⟩
  | 1 => ⟨S1x512, .f32⟩
  | 2 => ⟨S16384x512, .f32⟩
  | 3 => ⟨S16384x512, .f32⟩
  | 4 => ⟨S_, .f32⟩
  | 5 => ⟨S512, .f32⟩
  | 6 => ⟨S1x512, .f32⟩
  | 7 => ⟨S16384x4x128, .f32⟩
  | 8 => ⟨S4x128x16384, .f32⟩
  | 9 => ⟨S4x16384x128, .f32⟩
  | 10 => ⟨S16384x4x128, .f32⟩
  | 11 => ⟨S4x128x128, .f32⟩
  | 12 => ⟨S4x128x128, .f32⟩
  | 13 => ⟨S1x4x128x128, .f32⟩
  | 14 => ⟨S16384x1x128, .f32⟩
  | 15 => ⟨S16384x128, .f32⟩
  | 16 => ⟨S16384x1x128, .f32⟩
  | 17 => ⟨S16384x128, .f32⟩
  | 18 => ⟨S16384x1x128, .f32⟩
  | 19 => ⟨S16384x128, .f32⟩
  | 20 => ⟨S16384x1x128, .f32⟩
  | 21 => ⟨S16384x128, .f32⟩
  | 22 => ⟨S16384x128, .f32⟩
  | 23 => ⟨S_, .f32⟩
  | 24 => ⟨S16384x512, .f32⟩
  | 25 => ⟨S16384x128, .f32⟩
  | 26 => ⟨S16384x128, .f32⟩
  | 27 => ⟨S16384x128, .f32⟩
  | 28 => ⟨S_, .f32⟩
  | 29 => ⟨S16400x512, .f32⟩
  | 30 => ⟨S_, .f32⟩
  | 31 => ⟨S16384x512, .f32⟩
  | 32 => ⟨S16384x128, .f32⟩
  | 33 => ⟨S_, .f32⟩
  | 34 => ⟨S16384x512, .f32⟩
  | 35 => ⟨S16384x512, .f32⟩
  | 36 => ⟨S16384x128, .f32⟩
  | 37 => ⟨S16384x128, .f32⟩
  | 38 => ⟨S16384x128, .f32⟩
  | 39 => ⟨S_, .f32⟩
  | 40 => ⟨S16400x512, .f32⟩
  | 41 => ⟨S16400x512, .f32⟩
  | 42 => ⟨S_, .f32⟩
  | 43 => ⟨S16384x512, .f32⟩
  | 44 => ⟨S16384x512, .f32⟩
  | 45 => ⟨S16384x128, .f32⟩
  | 46 => ⟨S_, .f32⟩
  | 47 => ⟨S16384x512, .f32⟩
  | 48 => ⟨S16384x512, .f32⟩
  | 49 => ⟨S16384x128, .f32⟩
  | 50 => ⟨S16384x128, .f32⟩
  | 51 => ⟨S16384x128, .f32⟩
  | 52 => ⟨S_, .f32⟩
  | 53 => ⟨S16400x512, .f32⟩
  | 54 => ⟨S16400x512, .f32⟩
  | 55 => ⟨S_, .f32⟩
  | 56 => ⟨S16384x512, .f32⟩
  | 57 => ⟨S16384x512, .f32⟩
  | 58 => ⟨S16384x128, .f32⟩
  | 59 => ⟨S_, .f32⟩
  | 60 => ⟨S16384x512, .f32⟩
  | 61 => ⟨S16384x512, .f32⟩
  | 62 => ⟨S16384x128, .f32⟩
  | 63 => ⟨S16384x128, .f32⟩
  | 64 => ⟨S16384x128, .f32⟩
  | 65 => ⟨S_, .f32⟩
  | 66 => ⟨S16400x512, .f32⟩
  | 67 => ⟨S16400x512, .f32⟩
  | 68 => ⟨S_, .f32⟩
  | 69 => ⟨S16384x512, .f32⟩
  | 70 => ⟨S16384x512, .f32⟩
  | 71 => ⟨S16x512, .f32⟩
  | 72 => ⟨S16384x512, .f32⟩
  | 73 => ⟨S16384x512, .f32⟩
  | 74 => ⟨S_, .f32⟩
  | 75 => ⟨S_, .f32⟩
  | 76 => ⟨S16384x512, .f32⟩
  | 77 => ⟨S16384x512, .f32⟩
  | 78 => ⟨S16384x4608, .f32⟩
  | 79 => ⟨S16384x1024, .f32⟩
  | 80 => ⟨S16384x1024, .f32⟩
  | 81 => ⟨S_, .f32⟩
  | 82 => ⟨S1024, .f32⟩
  | 83 => ⟨S1x1024, .f32⟩
  | 84 => ⟨S16384x1024, .f32⟩
  | 85 => ⟨S16384x1024, .f32⟩
  | 86 => ⟨S_, .f32⟩
  | 87 => ⟨S1024, .f32⟩
  | 88 => ⟨S16384x1024, .f32⟩
  | 89 => ⟨S_, .f32⟩
  | 90 => ⟨S16384, .f32⟩
  | 91 => ⟨S16384x1, .f32⟩
  | 92 => ⟨S16384x1024, .f32⟩
  | 93 => ⟨S16384x1024, .f32⟩
  | 94 => ⟨S16384x1024, .f32⟩
  | 95 => ⟨S16384x1, .f32⟩
  | 96 => ⟨S_, .f32⟩
  | 97 => ⟨S16384x1, .f32⟩
  | 98 => ⟨S16384x1, .f32⟩
  | 99 => ⟨S_, .f32⟩
  | 100 => ⟨S16384, .f32⟩
  | 101 => ⟨S16384x1024, .f32⟩
  | 102 => ⟨S16384x1024, .f32⟩
  | 103 => ⟨S16384x1024, .f32⟩
  | 104 => ⟨S16384x1024, .f32⟩
  | 105 => ⟨S16384x1024, .f32⟩
  | 106 => ⟨S1x1024, .f32⟩
  | 107 => ⟨S_, .i32⟩
  | 108 => ⟨S_, .f32⟩
  | 109 => ⟨S1x1024, .f32⟩
  | 110 => ⟨S_, .f32⟩
  | 111 => ⟨S6x1024, .f32⟩
  | 112 => ⟨S8x1024, .f32⟩
  | 113 => ⟨S16384x512, .bf16⟩
  | 114 => ⟨S512x1024, .f32⟩
  | 115 => ⟨S4x128x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_call0_cst : Ref sig .tc := ⟨.hbm, 38, rfl⟩
abbrev main_call0_call0_v0 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_6 : Ref sig .tc := ⟨.hbm, 64, rfl⟩
abbrev main_v43 : Ref sig .tc := ⟨.hbm, 65, rfl⟩
abbrev main_v44 : Ref sig .tc := ⟨.hbm, 66, rfl⟩
abbrev main_c_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_8 : Ref sig .tc := ⟨.hbm, 79, rfl⟩
abbrev main_v56 : Ref sig .tc := ⟨.hbm, 80, rfl⟩
abbrev main_v57 : Ref sig .tc := ⟨.hbm, 81, rfl⟩
abbrev main_c_9 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_10 : Ref sig .tc := ⟨.hbm, 94, rfl⟩
abbrev main_v69 : Ref sig .tc := ⟨.hbm, 95, rfl⟩
abbrev main_v70 : Ref sig .tc := ⟨.hbm, 96, rfl⟩
abbrev main_c_11 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_12 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_13 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_cst_14 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_cst_15 : Ref sig .tc := ⟨.hbm, 156, rfl⟩
abbrev main_v126 : Ref sig .tc := ⟨.hbm, 157, rfl⟩
abbrev main_cst_16 : Ref sig .tc := ⟨.hbm, 158, rfl⟩
abbrev main_v127 : Ref sig .tc := ⟨.hbm, 159, rfl⟩
abbrev main_v128 : Ref sig .tc := ⟨.hbm, 160, rfl⟩
abbrev main_cst_17 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_18 : Ref sig .tc := ⟨.hbm, 167, rfl⟩
abbrev main_v134 : Ref sig .tc := ⟨.hbm, 168, rfl⟩
abbrev main_v135 : Ref sig .tc := ⟨.hbm, 169, rfl⟩
abbrev main_cst_19 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_20 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_21 : Ref sig .tc := ⟨.hbm, 180, rfl⟩
abbrev main_v144 : Ref sig .tc := ⟨.hbm, 181, rfl⟩
abbrev main_v145 : Ref sig .tc := ⟨.hbm, 182, rfl⟩
abbrev main_cst_22 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_cst_23 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_cst_24 : Ref sig .tc := ⟨.hbm, 193, rfl⟩
abbrev main_v154 : Ref sig .tc := ⟨.hbm, 194, rfl⟩
abbrev main_v155 : Ref sig .tc := ⟨.hbm, 195, rfl⟩
abbrev main_cst_25 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_call1_call0_cst : Ref sig .tc := ⟨.hbm, 202, rfl⟩
abbrev main_call1_call0_v0 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_cst_26 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_cst_27 : Ref sig .tc := ⟨.hbm, 214, rfl⟩
abbrev main_v170 : Ref sig .tc := ⟨.hbm, 215, rfl⟩
abbrev main_v171 : Ref sig .tc := ⟨.hbm, 216, rfl⟩
abbrev main_cst_28 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_cst_29 : Ref sig .tc := ⟨.hbm, 224, rfl⟩
abbrev main_v178 : Ref sig .tc := ⟨.hbm, 225, rfl⟩
abbrev main_v179 : Ref sig .tc := ⟨.hbm, 226, rfl⟩
abbrev main_cst_30 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_c_31 : Ref sig .tc := ⟨.hbm, 235, rfl⟩
abbrev main_call2_v0 : Ref sig .tc := ⟨.hbm, 236, rfl⟩
abbrev main_v187 : Ref sig .tc := ⟨.hbm, 237, rfl⟩
abbrev main_cst_32 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩

abbrev nD : Nat := 1
abbrev τ : Topo := Topo.v7x

variable {F : FTy → Type} [FloatOps F]
-- ==== Loss.lean ====
abbrev S16384x1024 : Shape := ⟨2, ![16384, 1024]⟩
abbrev S16384x256 : Shape := ⟨2, ![16384, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S1024x1024 : Shape := ⟨2, ![1024, 1024]⟩
abbrev S256x1024 : Shape := ⟨2, ![256, 1024]⟩
abbrev S1x1 : Shape := ⟨2, ![1, 1]⟩
abbrev S8x1024 : Shape := ⟨2, ![8, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S_ : Shape := ⟨0, ![]⟩

abbrev nBuf : Space → Nat
  | .hbm => 20
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x1024, .f32⟩
  | .hbm, ⟨3, _⟩ => ⟨S1x1024, .f32⟩
  | .hbm, ⟨4, _⟩ => ⟨S1x1024x1024, .f32⟩
  | .hbm, ⟨5, _⟩ => ⟨S1x256x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S256x1024, .f32⟩
  | .hbm, ⟨10, _⟩ => ⟨S256x1024, .bf16⟩
  | .hbm, ⟨11, _⟩ => ⟨S1x1024, .f32⟩
  | .hbm, ⟨12, _⟩ => ⟨S1x1, .f32⟩
  | .hbm, ⟨13, _⟩ => ⟨S16384x1024, .f32⟩
  | .hbm, ⟨14, _⟩ => ⟨S1024x1024, .f32⟩
  | .hbm, ⟨15, _⟩ => ⟨S256x1024, .f32⟩
  | .hbm, ⟨16, _⟩ => ⟨S8x1024, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S1x1024, .f32⟩
  | .local _ .vmem, ⟨10, _⟩ => ⟨S1x1, .f32⟩
  | .local _ .vmem, ⟨11, _⟩ => ⟨S512x1024, .f32⟩
  | .local _ .vmem, ⟨12, _⟩ => ⟨S512x1024, .f32⟩
  | .local _ .vmem, ⟨13, _⟩ => ⟨S1024x1024, .f32⟩
  | .local _ .vmem, ⟨14, _⟩ => ⟨S256x1024, .f32⟩
  | .local _ .vmem, ⟨15, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== LossRefIdeal.lean ====
abbrev S16384x1024 : Shape := ⟨2, ![16384, 1024]⟩
abbrev S16384x256 : Shape := ⟨2, ![16384, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1024x1024 : Shape := ⟨2, ![1024, 1024]⟩
abbrev S1024x256 : Shape := ⟨2, ![1024, 256]⟩
abbrev S2x1024 : Shape := ⟨2, ![2, 1024]⟩
abbrev S8x1024 : Shape := ⟨2, ![8, 1024]⟩

abbrev nBuf : Space → Nat
  | .hbm => 158
  | .vmem => 0
  | .smem => 0
  | _ => 0

abbrev hbmTy0_0 (i : Nat) : BufTy := match i % 128 with
  | 0 => ⟨S16384x1024, .f32⟩
  | 1 => ⟨S16384x256, .f32⟩
  | 2 => ⟨S16384x1024, .f32⟩
  | 3 => ⟨S1x1024, .f32⟩
  | 4 => ⟨S1x1024x1024, .f32⟩
  | 5 => ⟨S1x256x1024, .f32⟩
  | 6 => ⟨S1024, .f32⟩
  | 7 => ⟨S256x1024, .f32⟩
  | 8 => ⟨S16384x1024, .f32⟩
  | 9 => ⟨S1024, .f32⟩
  | 10 => ⟨S16384x1024, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384x1, .f32⟩
  | 19 => ⟨S16384x1, .f32⟩
  | 20 => ⟨S16384x1, .f32⟩
  | 21 => ⟨S16384x1, .f32⟩
  | 22 => ⟨S_, .f32⟩
  | 23 => ⟨S16384x1, .f32⟩
  | 24 => ⟨S16384x1, .f32⟩
  | 25 => ⟨S16384x1024, .f32⟩
  | 26 => ⟨S16384x1024, .f32⟩
  | 27 => ⟨S1x1024, .f32⟩
  | 28 => ⟨S16384x1024, .f32⟩
  | 29 => ⟨S16384x1024, .f32⟩
  | 30 => ⟨S1024x1024, .f32⟩
  | 31 => ⟨S16384x1024, .f32⟩
  | 32 => ⟨S16384x1024, .f32⟩
  | 33 => ⟨S16384x1024, .f32⟩
  | 34 => ⟨S_, .f32⟩
  | 35 => ⟨S16384x1024, .f32⟩
  | 36 => ⟨S16384x1024, .f32⟩
  | 37 => ⟨S_, .f32⟩
  | 38 => ⟨S16384x1024, .f32⟩
  | 39 => ⟨S16384x1024, .f32⟩
  | 40 => ⟨S_, .f32⟩
  | 41 => ⟨S16384x1024, .f32⟩
  | 42 => ⟨S16384x1024, .f32⟩
  | 43 => ⟨S16384x1024, .f32⟩
  | 44 => ⟨S16384x1024, .f32⟩
  | 45 => ⟨S16384x1024, .f32⟩
  | 46 => ⟨S16384x1024, .f32⟩
  | 47 => ⟨S_, .f32⟩
  | 48 => ⟨S16384, .f32⟩
  | 49 => ⟨S16384x1, .f32⟩
  | 50 => ⟨S_, .f32⟩
  | 51 => ⟨S16384x1, .f32⟩
  | 52 => ⟨S16384x1, .f32⟩
  | 53 => ⟨S_, .f32⟩
  | 54 => ⟨S16384x1, .f32⟩
  | 55 => ⟨S16384x1, .f32⟩
  | 56 => ⟨S16384x1, .f32⟩
  | 57 => ⟨S16384x1, .f32⟩
  | 58 => ⟨S_, .f32⟩
  | 59 => ⟨S16384x1, .f32⟩
  | 60 => ⟨S16384x1, .f32⟩
  | 61 => ⟨S16384x1024, .f32⟩
  | 62 => ⟨S16384x1024, .f32⟩
  | 63 => ⟨S1x1024, .f32⟩
  | 64 => ⟨S16384x1024, .f32⟩
  | 65 => ⟨S16384x1024, .f32⟩
  | 66 => ⟨S16384x1024, .f32⟩
  | 67 => ⟨S16384x1024, .f32⟩
  | 68 => ⟨S_, .f32⟩
  | 69 => ⟨S16384x1024, .f32⟩
  | 70 => ⟨S16384x1024, .f32⟩
  | 71 => ⟨S_, .f32⟩
  | 72 => ⟨S16384, .f32⟩
  | 73 => ⟨S_, .f32⟩
  | 74 => ⟨S16384, .f32⟩
  | 75 => ⟨S16384, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S16384, .f32⟩
  | 84 => ⟨S_, .f32⟩
  | 85 => ⟨S16384, .f32⟩
  | 86 => ⟨S16384, .f32⟩
  | 87 => ⟨S16384x1024, .f32⟩
  | 88 => ⟨S16384x1024, .f32⟩
  | 89 => ⟨S16384x1024, .f32⟩
  | 90 => ⟨S_, .f32⟩
  | 91 => ⟨S1024, .f32⟩
  | 92 => ⟨S1x1024, .f32⟩
  | 93 => ⟨S16384x1024, .f32⟩
  | 94 => ⟨S16384x1024, .f32⟩
  | 95 => ⟨S_, .f32⟩
  | 96 => ⟨S1024, .f32⟩
  | 97 => ⟨S16384x1024, .f32⟩
  | 98 => ⟨S_, .f32⟩
  | 99 => ⟨S16384, .f32⟩
  | 100 => ⟨S16384x1, .f32⟩
  | 101 => ⟨S16384x1024, .f32⟩
  | 102 => ⟨S16384x1024, .f32⟩
  | 103 => ⟨S16384x1, .f32⟩
  | 104 => ⟨S_, .f32⟩
  | 105 => ⟨S16384x1, .f32⟩
  | 106 => ⟨S16384x1, .f32⟩
  | 107 => ⟨S_, .f32⟩
  | 108 => ⟨S16384, .f32⟩
  | 109 => ⟨S16384x1024, .f32⟩
  | 110 => ⟨S16384x1024, .f32⟩
  | 111 => ⟨S16384x1024, .f32⟩
  | 112 => ⟨S16384x1024, .f32⟩
  | 113 => ⟨S16384x1024, .f32⟩
  | 114 => ⟨S16384x1024, .f32⟩
  | 115 => ⟨S16384x1024, .f32⟩
  | 116 => ⟨S16384x1024, .f32⟩
  | 117 => ⟨S1024x1024, .f32⟩
  | 118 => ⟨S1024x1024, .f32⟩
  | 119 => ⟨S16384x1024, .f32⟩
  | 120 => ⟨S1x1024x1024, .f32⟩
  | 121 => ⟨S16384x1024, .f32⟩
  | 122 => ⟨S_, .f32⟩
  | 123 => ⟨S1024, .f32⟩
  | 124 => ⟨S1x1024, .f32⟩
  | 125 => ⟨S16384x1024, .f32⟩
  | 126 => ⟨S16384x1024, .f32⟩
  | 127 => ⟨S_, .f32⟩
  | _ => ⟨S16384x1024, .f32⟩

abbrev hbmTy0_1 (i : Nat) : BufTy := match i % 128 with
  | 0 => ⟨S1024, .f32⟩
  | 1 => ⟨S16384x1024, .f32⟩
  | 2 => ⟨S_, .f32⟩
  | 3 => ⟨S16384, .f32⟩
  | 4 => ⟨S16384x1, .f32⟩
  | 5 => ⟨S16384x1024, .f32⟩
  | 6 => ⟨S16384x1024, .f32⟩
  | 7 => ⟨S16384x1024, .f32⟩
  | 8 => ⟨S16384x1, .f32⟩
  | 9 => ⟨S_, .f32⟩
  | 10 => ⟨S16384x1, .f32⟩
  | 11 => ⟨S16384x1, .f32⟩
  | 12 => ⟨S_, .f32⟩
  | 13 => ⟨S16384, .f32⟩
  | 14 => ⟨S16384x1024, .f32⟩
  | 15 => ⟨S16384x1024, .f32⟩
  | 16 => ⟨S16384x1024, .f32⟩
  | 17 => ⟨S16384x1024, .f32⟩
  | 18 => ⟨S16384x1024, .f32⟩
  | 19 => ⟨S1x1024, .f32⟩
  | 20 => ⟨S1024x256, .f32⟩
  | 21 => ⟨S256x1024, .f32⟩
  | 22 => ⟨S1x256x1024, .f32⟩
  | 23 => ⟨S1024x1024, .f32⟩
  | 24 => ⟨S256x1024, .f32⟩
  | 25 => ⟨S1x1024, .f32⟩
  | 26 => ⟨S2x1024, .f32⟩
  | 27 => ⟨S_, .i32⟩
  | 28 => ⟨S_, .f32⟩
  | 29 => ⟨S8x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_cst_15 : Ref sig .tc := ⟨.hbm, 80, rfl⟩
abbrev main_cst_16 : Ref sig .tc := ⟨.hbm, 81, rfl⟩
abbrev main_v57 : Ref sig .tc := ⟨.hbm, 82, rfl⟩
abbrev main_v58 : Ref sig .tc := ⟨.hbm, 83, rfl⟩
abbrev main_cst_17 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_18 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_19 : Ref sig .tc := ⟨.hbm, 95, rfl⟩
abbrev main_v68 : Ref sig .tc := ⟨.hbm, 96, rfl⟩
abbrev main_v69 : Ref sig .tc := ⟨.hbm, 97, rfl⟩
abbrev main_cst_20 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_21 : Ref sig .tc := ⟨.hbm, 104, rfl⟩
abbrev main_v75 : Ref sig .tc := ⟨.hbm, 105, rfl⟩
abbrev main_v76 : Ref sig .tc := ⟨.hbm, 106, rfl⟩
abbrev main_cst_22 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_23 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_24 : Ref sig .tc := ⟨.hbm, 127, rfl⟩
abbrev main_v95 : Ref sig .tc := ⟨.hbm, 128, rfl⟩
abbrev main_v96 : Ref sig .tc := ⟨.hbm, 129, rfl⟩
abbrev main_cst_25 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_26 : Ref sig .tc := ⟨.hbm, 137, rfl⟩
abbrev main_v103 : Ref sig .tc := ⟨.hbm, 138, rfl⟩
abbrev main_v104 : Ref sig .tc := ⟨.hbm, 139, rfl⟩
abbrev main_cst_27 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_c : Ref sig .tc := ⟨.hbm, 155, rfl⟩
abbrev main_call0_v0 : Ref sig .tc := ⟨.hbm, 156, rfl⟩
abbrev main_v119 : Ref sig .tc := ⟨.hbm, 157, rfl⟩

abbrev nD : Nat := 1
abbrev τ : Topo := Topo.v7x

variable {F : FTy → Type} [FloatOps F]
-- ==== Lru.lean ====
abbrev S16384x1024 : Shape := ⟨2, ![16384, 1024]⟩
abbrev S1x4x1024 : Shape := ⟨3, ![1, 4, 1024]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S_ : Shape := ⟨0, ![]⟩
abbrev S3x1024 : Shape := ⟨2, ![3, 1024]⟩
abbrev S16387x1024 : Shape := ⟨2, ![16387, 1024]⟩
abbrev S1x1x1024 : Shape := ⟨3, ![1, 1, 1024]⟩
abbrev S1024 : Shape := ⟨1, ![1024]⟩
abbrev S16384x8x128 : Shape := ⟨3, ![16384, 8, 128]⟩
abbrev S8x128x128 : Shape := ⟨3, ![8, 128, 128]⟩
abbrev S8x128x16384 : Shape := ⟨3, ![8, 128, 16384]⟩
abbrev S8x128 : Shape := ⟨2, ![8, 128]⟩
abbrev S16384 : Shape := ⟨1, ![16384]⟩
abbrev S16384x1 : Shape := ⟨2, ![16384, 1]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S4x1024 : Shape := ⟨2, ![4, 1024]⟩
abbrev S2x1024 : Shape := ⟨2, ![2, 1024]⟩
abbrev S0x1024 : Shape := ⟨2, ![0, 1024]⟩
abbrev S7x1024 : Shape := ⟨2, ![7, 1024]⟩
abbrev S15x1024 : Shape := ⟨2, ![15, 1024]⟩
abbrev S31x1024 : Shape := ⟨2, ![31, 1024]⟩
abbrev S63x1024 : Shape := ⟨2, ![63, 1024]⟩
abbrev S127x1024 : Shape := ⟨2, ![127, 1024]⟩
abbrev S255x1024 : Shape := ⟨2, ![255, 1024]⟩
abbrev S511x1024 : Shape := ⟨2, ![511, 1024]⟩
abbrev S1023x1024 : Shape := ⟨2, ![1023, 1024]⟩
abbrev S2047x1024 : Shape := ⟨2, ![2047, 1024]⟩
abbrev S4095x1024 : Shape := ⟨2, ![4095, 1024]⟩
abbrev S8191x1024 : Shape := ⟨2, ![8191, 1024]⟩
abbrev S4x128x128 : Shape := ⟨3, ![4, 128, 128]⟩
abbrev S4x128x256 : Shape := ⟨3, ![4, 128, 256]⟩
abbrev S4x256x256 : Shape := ⟨3, ![4, 256, 256]⟩
abbrev S264x1024 : Shape := ⟨2, ![264, 1024]⟩
abbrev S1x256x256 : Shape := ⟨3, ![1, 256, 256]⟩
abbrev S256x256 : Shape := ⟨2, ![256, 256]⟩

abbrev nBuf : Space → Nat
  | .hbm => 552
  | .vmem => 37
  | .smem => 0
  | _ => 0

abbrev hbmTy0_0 (i : Nat) : BufTy := match i % 128 with
  | 0 => ⟨S16384x1024, .f32⟩
  | 1 => ⟨S16384x1024, .f32⟩
  | 2 => ⟨S16384x1024, .f32⟩
  | 3 => ⟨S1x4x1024, .f32⟩
  | 4 => ⟨S1x1024, .f32⟩
  | 5 => ⟨S1x8x128x128, .f32⟩
  | 6 => ⟨S1x8x128, .f32⟩
  | 7 => ⟨S1x8x128x128, .f32⟩
  | 8 => ⟨S1x8x128, .f32⟩
  | 9 => ⟨S1x1024, .f32⟩
  | 10 => ⟨S1x1024x1024, .f32⟩
  | 11 => ⟨S_, .f32⟩
  | 12 => ⟨S3x1024, .f32⟩
  | 13 => ⟨S16387x1024, .f32⟩
  | 14 => ⟨S16384x1024, .f32⟩
  | 15 => ⟨S1x1x1024, .f32⟩
  | 16 => ⟨S1024, .f32⟩
  | 17 => ⟨S1x1024, .f32⟩
  | 18 => ⟨S16384x1024, .f32⟩
  | 19 => ⟨S16384x1024, .f32⟩
  | 20 => ⟨S_, .f32⟩
  | 21 => ⟨S16384x1024, .f32⟩
  | 22 => ⟨S16384x1024, .f32⟩
  | 23 => ⟨S16384x1024, .f32⟩
  | 24 => ⟨S1x1x1024, .f32⟩
  | 25 => ⟨S1024, .f32⟩
  | 26 => ⟨S1x1024, .f32⟩
  | 27 => ⟨S16384x1024, .f32⟩
  | 28 => ⟨S16384x1024, .f32⟩
  | 29 => ⟨S16384x1024, .f32⟩
  | 30 => ⟨S16384x1024, .f32⟩
  | 31 => ⟨S1x1x1024, .f32⟩
  | 32 => ⟨S1024, .f32⟩
  | 33 => ⟨S1x1024, .f32⟩
  | 34 => ⟨S16384x1024, .f32⟩
  | 35 => ⟨S16384x1024, .f32⟩
  | 36 => ⟨S16384x1024, .f32⟩
  | 37 => ⟨S16384x1024, .f32⟩
  | 38 => ⟨S1x1x1024, .f32⟩
  | 39 => ⟨S1024, .f32⟩
  | 40 => ⟨S1x1024, .f32⟩
  | 41 => ⟨S16384x1024, .f32⟩
  | 42 => ⟨S16384x1024, .f32⟩
  | 43 => ⟨S16384x1024, .f32⟩
  | 44 => ⟨S1024, .f32⟩
  | 45 => ⟨S1x1024, .f32⟩
  | 46 => ⟨S16384x1024, .f32⟩
  | 47 => ⟨S16384x1024, .f32⟩
  | 48 => ⟨S16384x8x128, .f32⟩
  | 49 => ⟨S8x128x128, .f32⟩
  | 50 => ⟨S8x128x16384, .f32⟩
  | 51 => ⟨S16384x8x128, .f32⟩
  | 52 => ⟨S8x128, .f32⟩
  | 53 => ⟨S1x8x128, .f32⟩
  | 54 => ⟨S16384x8x128, .f32⟩
  | 55 => ⟨S16384x8x128, .f32⟩
  | 56 => ⟨S16384x8x128, .f32⟩
  | 57 => ⟨S16384x8x128, .f32⟩
  | 58 => ⟨S_, .f32⟩
  | 59 => ⟨S16384x8x128, .f32⟩
  | 60 => ⟨S16384x8x128, .f32⟩
  | 61 => ⟨S_, .f32⟩
  | 62 => ⟨S16384x8x128, .f32⟩
  | 63 => ⟨S16384x8x128, .f32⟩
  | 64 => ⟨S16384x1024, .f32⟩
  | 65 => ⟨S8x128x128, .f32⟩
  | 66 => ⟨S8x128x16384, .f32⟩
  | 67 => ⟨S16384x8x128, .f32⟩
  | 68 => ⟨S8x128, .f32⟩
  | 69 => ⟨S1x8x128, .f32⟩
  | 70 => ⟨S16384x8x128, .f32⟩
  | 71 => ⟨S16384x8x128, .f32⟩
  | 72 => ⟨S16384x8x128, .f32⟩
  | 73 => ⟨S16384x8x128, .f32⟩
  | 74 => ⟨S_, .f32⟩
  | 75 => ⟨S16384x8x128, .f32⟩
  | 76 => ⟨S16384x8x128, .f32⟩
  | 77 => ⟨S_, .f32⟩
  | 78 => ⟨S16384x8x128, .f32⟩
  | 79 => ⟨S16384x8x128, .f32⟩
  | 80 => ⟨S16384x1024, .f32⟩
  | 81 => ⟨S_, .f32⟩
  | 82 => ⟨S16384x1024, .f32⟩
  | 83 => ⟨S16384x1024, .f32⟩
  | 84 => ⟨S1024, .f32⟩
  | 85 => ⟨S1024, .f32⟩
  | 86 => ⟨S_, .f32⟩
  | 87 => ⟨S1024, .f32⟩
  | 88 => ⟨S1024, .f32⟩
  | 89 => ⟨S1024, .f32⟩
  | 90 => ⟨S1024, .f32⟩
  | 91 => ⟨S1024, .i1⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1x1024, .f32⟩
  | 101 => ⟨S16384x1024, .f32⟩
  | 102 => ⟨S16384x1024, .f32⟩
  | 103 => ⟨S16384x1024, .f32⟩
  | 104 => ⟨S_, .f32⟩
  | 105 => ⟨S16384x1024, .f32⟩
  | 106 => ⟨S16384x1024, .f32⟩
  | 107 => ⟨S16384x1024, .f32⟩
  | 108 => ⟨S_, .f32⟩
  | 109 => ⟨S16384x1024, .f32⟩
  | 110 => ⟨S16384x1024, .f32⟩
  | 111 => ⟨S_, .f32⟩
  | 112 => ⟨S16384x1024, .f32⟩
  | 113 => ⟨S16384x1024, .f32⟩
  | 114 => ⟨S16384x1024, .f32⟩
  | 115 => ⟨S16384, .i32⟩
  | 116 => ⟨S_, .i32⟩
  | 117 => ⟨S16384, .i32⟩
  | 118 => ⟨S16384, .i1⟩
  | 119 => ⟨S16384x1, .i1⟩
  | 120 => ⟨S_, .f32⟩
  | 121 => ⟨S_, .f32⟩
  | 122 => ⟨S16384x1024, .i1⟩
  | 123 => ⟨S16384x1024, .f32⟩
  | 124 => ⟨S16384x1024, .f32⟩
  | 125 => ⟨S16384x1024, .f32⟩
  | 126 => ⟨S16384x1024, .f32⟩
  | 127 => ⟨S8192x1024, .f32⟩
  | _ => ⟨S16384x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S2048x1024, .f32⟩
  | 14 => ⟨S2048x1024, .f32⟩
  | 15 => ⟨S2048x1024, .f32⟩
  | 16 => ⟨S2048x1024, .f32⟩
  | 17 => ⟨S2048x1024, .f32⟩
  | 18 => ⟨S2048x1024, .f32⟩
  | 19 => ⟨S2048x1024, .f32⟩
  | 20 => ⟨S1024x1024, .f32⟩
  | 21 => ⟨S1024x1024, .f32⟩
  | 22 => ⟨S1024x1024, .f32⟩
  | 23 => ⟨S1024x1024, .f32⟩
  | 24 => ⟨S1024x1024, .f32⟩
  | 25 => ⟨S1024x1024, .f32⟩
  | 26 => ⟨S1024x1024, .f32⟩
  | 27 => ⟨S512x1024, .f32⟩
  | 28 => ⟨S512x1024, .f32⟩
  | 29 => ⟨S512x1024, .f32⟩
  | 30 => ⟨S512x1024, .f32⟩
  | 31 => ⟨S512x1024, .f32⟩
  | 32 => ⟨S512x1024, .f32⟩
  | 33 => ⟨S512x1024, .f32⟩
  | 34 => ⟨S256x1024, .f32⟩
  | 35 => ⟨S256x1024, .f32⟩
  | 36 => ⟨S256x1024, .f32⟩
  | 37 => ⟨S256x1024, .f32⟩
  | 38 => ⟨S256x1024, .f32⟩
  | 39 => ⟨S256x1024, .f32⟩
  | 40 => ⟨S256x1024, .f32⟩
  | 41 => ⟨S128x1024, .f32⟩
  | 42 => ⟨S128x1024, .f32⟩
  | 43 => ⟨S128x1024, .f32⟩
  | 44 => ⟨S128x1024, .f32⟩
  | 45 => ⟨S128x1024, .f32⟩
  | 46 => ⟨S128x1024, .f32⟩
  | 47 => ⟨S128x1024, .f32⟩
  | 48 => ⟨S64x1024, .f32⟩
  | 49 => ⟨S64x1024, .f32⟩
  | 50 => ⟨S64x1024, .f32⟩
  | 51 => ⟨S64x1024, .f32⟩
  | 52 => ⟨S64x1024, .f32⟩
  | 53 => ⟨S64x1024, .f32⟩
  | 54 => ⟨S64x1024, .f32⟩
  | 55 => ⟨S32x1024, .f32⟩
  | 56 => ⟨S32x1024, .f32⟩
  | 57 => ⟨S32x1024, .f32⟩
  | 58 => ⟨S32x1024, .f32⟩
  | 59 => ⟨S32x1024, .f32⟩
  | 60 => ⟨S32x1024, .f32⟩
  | 61 => ⟨S32x1024, .f32⟩
  | 62 => ⟨S16x1024, .f32⟩
  | 63 => ⟨S16x1024, .f32⟩
  | 64 => ⟨S16x1024, .f32⟩
  | 65 => ⟨S16x1024, .f32⟩
  | 66 => ⟨S16x1024, .f32⟩
  | 67 => ⟨S16x1024, .f32⟩
  | 68 => ⟨S16x1024, .f32⟩
  | 69 => ⟨S8x1024, .f32⟩
  | 70 => ⟨S8x1024, .f32⟩
  | 71 => ⟨S8x1024, .f32⟩
  | 72 => ⟨S8x1024, .f32⟩
  | 73 => ⟨S8x1024, .f32⟩
  | 74 => ⟨S8x1024, .f32⟩
  | 75 => ⟨S8x1024, .f32⟩
  | 76 => ⟨S4x1024, .f32⟩
  | 77 => ⟨S4x1024, .f32⟩
  | 78 => ⟨S4x1024, .f32⟩
  | 79 => ⟨S4x1024, .f32⟩
  | 80 => ⟨S4x1024, .f32⟩
  | 81 => ⟨S4x1024, .f32⟩
  | 82 => ⟨S4x1024, .f32⟩
  | 83 => ⟨S2x1024, .f32⟩
  | 84 => ⟨S2x1024, .f32⟩
  | 85 => ⟨S2x1024, .f32⟩
  | 86 => ⟨S2x1024, .f32⟩
  | 87 => ⟨S2x1024, .f32⟩
  | 88 => ⟨S2x1024, .f32⟩
  | 89 => ⟨S2x1024, .f32⟩
  | 90 => ⟨S1x1024, .f32⟩
  | 91 => ⟨S1x1024, .f32⟩
  | 92 => ⟨S1x1024, .f32⟩
  | 93 => ⟨S1x1024, .f32⟩
  | 94 => ⟨S1x1024, .f32⟩
  | 95 => ⟨S1x1024, .f32⟩
  | 96 => ⟨S1x1024, .f32⟩
  | 97 => ⟨S0x1024, .f32⟩
  | 98 => ⟨S0x1024, .f32⟩
  | 99 => ⟨S0x1024, .f32⟩
  | 100 => ⟨S0x1024, .f32⟩
  | 101 => ⟨S0x1024, .f32⟩
  | 102 => ⟨S0x1024, .f32⟩
  | 103 => ⟨S0x1024, .f32⟩
  | 104 => ⟨S1x1024, .f32⟩
  | 105 => ⟨S1x1024, .f32⟩
  | 106 => ⟨S1x1024, .f32⟩
  | 107 => ⟨S1x1024, .f32⟩
  | 108 => ⟨S_, .f32⟩
  | 109 => ⟨S2x1024, .f32⟩
  | 110 => ⟨S_, .f32⟩
  | 111 => ⟨S2x1024, .f32⟩
  | 112 => ⟨S2x1024, .f32⟩
  | 113 => ⟨S_, .f32⟩
  | 114 => ⟨S2x1024, .f32⟩
  | 115 => ⟨S_, .f32⟩
  | 116 => ⟨S2x1024, .f32⟩
  | 117 => ⟨S2x1024, .f32⟩
  | 118 => ⟨S1x1024, .f32⟩
  | 119 => ⟨S1x1024, .f32⟩
  | 120 => ⟨S1x1024, .f32⟩
  | 121 => ⟨S1x1024, .f32⟩
  | 122 => ⟨S1x1024, .f32⟩
  | 123 => ⟨S1x1024, .f32⟩
  | 124 => ⟨S1x1024, .f32⟩
  | 125 => ⟨S1x1024, .f32⟩
  | 126 => ⟨S2x1024, .f32⟩
  | 127 => ⟨S1x1024, .f32⟩
  | _ => ⟨S16384x1024, .f32⟩

abbrev hbmTy0_2 (i : Nat) : BufTy := match i % 128 with
  | 0 => ⟨S2x1024, .f32⟩
  | 1 => ⟨S_, .f32⟩
  | 2 => ⟨S4x1024, .f32⟩
  | 3 => ⟨S_, .f32⟩
  | 4 => ⟨S4x1024, .f32⟩
  | 5 => ⟨S4x1024, .f32⟩
  | 6 => ⟨S_, .f32⟩
  | 7 => ⟨S4x1024, .f32⟩
  | 8 => ⟨S_, .f32⟩
  | 9 => ⟨S4x1024, .f32⟩
  | 10 => ⟨S4x1024, .f32⟩
  | 11 => ⟨S3x1024, .f32⟩
  | 12 => ⟨S3x1024, .f32⟩
  | 13 => ⟨S3x1024, .f32⟩
  | 14 => ⟨S3x1024, .f32⟩
  | 15 => ⟨S3x1024, .f32⟩
  | 16 => ⟨S3x1024, .f32⟩
  | 17 => ⟨S3x1024, .f32⟩
  | 18 => ⟨S1x1024, .f32⟩
  | 19 => ⟨S4x1024, .f32⟩
  | 20 => ⟨S1x1024, .f32⟩
  | 21 => ⟨S4x1024, .f32⟩
  | 22 => ⟨S_, .f32⟩
  | 23 => ⟨S8x1024, .f32⟩
  | 24 => ⟨S_, .f32⟩
  | 25 => ⟨S8x1024, .f32⟩
  | 26 => ⟨S8x1024, .f32⟩
  | 27 => ⟨S_, .f32⟩
  | 28 => ⟨S8x1024, .f32⟩
  | 29 => ⟨S_, .f32⟩
  | 30 => ⟨S8x1024, .f32⟩
  | 31 => ⟨S8x1024, .f32⟩
  | 32 => ⟨S7x1024, .f32⟩
  | 33 => ⟨S7x1024, .f32⟩
  | 34 => ⟨S7x1024, .f32⟩
  | 35 => ⟨S7x1024, .f32⟩
  | 36 => ⟨S7x1024, .f32⟩
  | 37 => ⟨S7x1024, .f32⟩
  | 38 => ⟨S7x1024, .f32⟩
  | 39 => ⟨S1x1024, .f32⟩
  | 40 => ⟨S8x1024, .f32⟩
  | 41 => ⟨S1x1024, .f32⟩
  | 42 => ⟨S8x1024, .f32⟩
  | 43 => ⟨S_, .f32⟩
  | 44 => ⟨S16x1024, .f32⟩
  | 45 => ⟨S_, .f32⟩
  | 46 => ⟨S16x1024, .f32⟩
  | 47 => ⟨S16x1024, .f32⟩
  | 48 => ⟨S_, .f32⟩
  | 49 => ⟨S16x1024, .f32⟩
  | 50 => ⟨S_, .f32⟩
  | 51 => ⟨S16x1024, .f32⟩
  | 52 => ⟨S16x1024, .f32⟩
  | 53 => ⟨S15x1024, .f32⟩
  | 54 => ⟨S15x1024, .f32⟩
  | 55 => ⟨S15x1024, .f32⟩
  | 56 => ⟨S15x1024, .f32⟩
  | 57 => ⟨S15x1024, .f32⟩
  | 58 => ⟨S15x1024, .f32⟩
  | 59 => ⟨S15x1024, .f32⟩
  | 60 => ⟨S1x1024, .f32⟩
  | 61 => ⟨S16x1024, .f32⟩
  | 62 => ⟨S1x1024, .f32⟩
  | 63 => ⟨S16x1024, .f32⟩
  | 64 => ⟨S_, .f32⟩
  | 65 => ⟨S32x1024, .f32⟩
  | 66 => ⟨S_, .f32⟩
  | 67 => ⟨S32x1024, .f32⟩
  | 68 => ⟨S32x1024, .f32⟩
  | 69 => ⟨S_, .f32⟩
  | 70 => ⟨S32x1024, .f32⟩
  | 71 => ⟨S_, .f32⟩
  | 72 => ⟨S32x1024, .f32⟩
  | 73 => ⟨S32x1024, .f32⟩
  | 74 => ⟨S31x1024, .f32⟩
  | 75 => ⟨S31x1024, .f32⟩
  | 76 => ⟨S31x1024, .f32⟩
  | 77 => ⟨S31x1024, .f32⟩
  | 78 => ⟨S31x1024, .f32⟩
  | 79 => ⟨S31x1024, .f32⟩
  | 80 => ⟨S31x1024, .f32⟩
  | 81 => ⟨S1x1024, .f32⟩
  | 82 => ⟨S32x1024, .f32⟩
  | 83 => ⟨S1x1024, .f32⟩
  | 84 => ⟨S32x1024, .f32⟩
  | 85 => ⟨S_, .f32⟩
  | 86 => ⟨S64x1024, .f32⟩
  | 87 => ⟨S_, .f32⟩
  | 88 => ⟨S64x1024, .f32⟩
  | 89 => ⟨S64x1024, .f32⟩
  | 90 => ⟨S_, .f32⟩
  | 91 => ⟨S64x1024, .f32⟩
  | 92 => ⟨S_, .f32⟩
  | 93 => ⟨S64x1024, .f32⟩
  | 94 => ⟨S64x1024, .f32⟩
  | 95 => ⟨S63x1024, .f32⟩
  | 96 => ⟨S63x1024, .f32⟩
  | 97 => ⟨S63x1024, .f32⟩
  | 98 => ⟨S63x1024, .f32⟩
  | 99 => ⟨S63x1024, .f32⟩
  | 100 => ⟨S63x1024, .f32⟩
  | 101 => ⟨S63x1024, .f32⟩
  | 102 => ⟨S1x1024, .f32⟩
  | 103 => ⟨S64x1024, .f32⟩
  | 104 => ⟨S1x1024, .f32⟩
  | 105 => ⟨S64x1024, .f32⟩
  | 106 => ⟨S_, .f32⟩
  | 107 => ⟨S128x1024, .f32⟩
  | 108 => ⟨S_, .f32⟩
  | 109 => ⟨S128x1024, .f32⟩
  | 110 => ⟨S128x1024, .f32⟩
  | 111 => ⟨S_, .f32⟩
  | 112 => ⟨S128x1024, .f32⟩
  | 113 => ⟨S_, .f32⟩
  | 114 => ⟨S128x1024, .f32⟩
  | 115 => ⟨S128x1024, .f32⟩
  | 116 => ⟨S127x1024, .f32⟩
  | 117 => ⟨S127x1024, .f32⟩
  | 118 => ⟨S127x1024, .f32⟩
  | 119 => ⟨S127x1024, .f32⟩
  | 120 => ⟨S127x1024, .f32⟩
  | 121 => ⟨S127x1024, .f32⟩
  | 122 => ⟨S127x1024, .f32⟩
  | 123 => ⟨S1x1024, .f32⟩
  | 124 => ⟨S128x1024, .f32⟩
  | 125 => ⟨S1x1024, .f32⟩
  | 126 => ⟨S128x1024, .f32⟩
  | 127 => ⟨S_, .f32⟩
  | _ => ⟨S16384x1024, .f32⟩

abbrev hbmTy0_3 (i : Nat) : BufTy := match i % 128 with
  | 0 => ⟨S256x1024, .f32⟩
  | 1 => ⟨S_, .f32⟩
  | 2 => ⟨S256x1024, .f32⟩
  | 3 => ⟨S256x1024, .f32⟩
  | 4 => ⟨S_, .f32⟩
  | 5 => ⟨S256x1024, .f32⟩
  | 6 => ⟨S_, .f32⟩
  | 7 => ⟨S256x1024, .f32⟩
  | 8 => ⟨S256x1024, .f32⟩
  | 9 => ⟨S255x1024, .f32⟩
  | 10 => ⟨S255x1024, .f32⟩
  | 11 => ⟨S255x1024, .f32⟩
  | 12 => ⟨S255x1024, .f32⟩
  | 13 => ⟨S255x1024, .f32⟩
  | 14 => ⟨S255x1024, .f32⟩
  | 15 => ⟨S255x1024, .f32⟩
  | 16 => ⟨S1x1024, .f32⟩
  | 17 => ⟨S256x1024, .f32⟩
  | 18 => ⟨S1x1024, .f32⟩
  | 19 => ⟨S256x1024, .f32⟩
  | 20 => ⟨S_, .f32⟩
  | 21 => ⟨S512x1024, .f32⟩
  | 22 => ⟨S_, .f32⟩
  | 23 => ⟨S512x1024, .f32⟩
  | 24 => ⟨S512x1024, .f32⟩
  | 25 => ⟨S_, .f32⟩
  | 26 => ⟨S512x1024, .f32⟩
  | 27 => ⟨S_, .f32⟩
  | 28 => ⟨S512x1024, .f32⟩
  | 29 => ⟨S512x1024, .f32⟩
  | 30 => ⟨S511x1024, .f32⟩
  | 31 => ⟨S511x1024, .f32⟩
  | 32 => ⟨S511x1024, .f32⟩
  | 33 => ⟨S511x1024, .f32⟩
  | 34 => ⟨S511x1024, .f32⟩
  | 35 => ⟨S511x1024, .f32⟩
  | 36 => ⟨S511x1024, .f32⟩
  | 37 => ⟨S1x1024, .f32⟩
  | 38 => ⟨S512x1024, .f32⟩
  | 39 => ⟨S1x1024, .f32⟩
  | 40 => ⟨S512x1024, .f32⟩
  | 41 => ⟨S_, .f32⟩
  | 42 => ⟨S1024x1024, .f32⟩
  | 43 => ⟨S_, .f32⟩
  | 44 => ⟨S1024x1024, .f32⟩
  | 45 => ⟨S1024x1024, .f32⟩
  | 46 => ⟨S_, .f32⟩
  | 47 => ⟨S1024x1024, .f32⟩
  | 48 => ⟨S_, .f32⟩
  | 49 => ⟨S1024x1024, .f32⟩
  | 50 => ⟨S1024x1024, .f32⟩
  | 51 => ⟨S1023x1024, .f32⟩
  | 52 => ⟨S1023x1024, .f32⟩
  | 53 => ⟨S1023x1024, .f32⟩
  | 54 => ⟨S1023x1024, .f32⟩
  | 55 => ⟨S1023x1024, .f32⟩
  | 56 => ⟨S1023x1024, .f32⟩
  | 57 => ⟨S1023x1024, .f32⟩
  | 58 => ⟨S1x1024, .f32⟩
  | 59 => ⟨S1024x1024, .f32⟩
  | 60 => ⟨S1x1024, .f32⟩
  | 61 => ⟨S1024x1024, .f32⟩
  | 62 => ⟨S_, .f32⟩
  | 63 => ⟨S2048x1024, .f32⟩
  | 64 => ⟨S_, .f32⟩
  | 65 => ⟨S2048x1024, .f32⟩
  | 66 => ⟨S2048x1024, .f32⟩
  | 67 => ⟨S_, .f32⟩
  | 68 => ⟨S2048x1024, .f32⟩
  | 69 => ⟨S_, .f32⟩
  | 70 => ⟨S2048x1024, .f32⟩
  | 71 => ⟨S2048x1024, .f32⟩
  | 72 => ⟨S2047x1024, .f32⟩
  | 73 => ⟨S2047x1024, .f32⟩
  | 74 => ⟨S2047x1024, .f32⟩
  | 75 => ⟨S2047x1024, .f32⟩
  | 76 => ⟨S2047x1024, .f32⟩
  | 77 => ⟨S2047x1024, .f32⟩
  | 78 => ⟨S2047x1024, .f32⟩
  | 79 => ⟨S1x1024, .f32⟩
  | 80 => ⟨S2048x1024, .f32⟩
  | 81 => ⟨S1x1024, .f32⟩
  | 82 => ⟨S2048x1024, .f32⟩
  | 83 => ⟨S_, .f32⟩
  | 84 => ⟨S4096x1024, .f32⟩
  | 85 => ⟨S_, .f32⟩
  | 86 => ⟨S4096x1024, .f32⟩
  | 87 => ⟨S4096x1024, .f32⟩
  | 88 => ⟨S_, .f32⟩
  | 89 => ⟨S4096x1024, .f32⟩
  | 90 => ⟨S_, .f32⟩
  | 91 => ⟨S4096x1024, .f32⟩
  | 92 => ⟨S4096x1024, .f32⟩
  | 93 => ⟨S4095x1024, .f32⟩
  | 94 => ⟨S4095x1024, .f32⟩
  | 95 => ⟨S4095x1024, .f32⟩
  | 96 => ⟨S4095x1024, .f32⟩
  | 97 => ⟨S4095x1024, .f32⟩
  | 98 => ⟨S4095x1024, .f32⟩
  | 99 => ⟨S4095x1024, .f32⟩
  | 100 => ⟨S1x1024, .f32⟩
  | 101 => ⟨S4096x1024, .f32⟩
  | 102 => ⟨S1x1024, .f32⟩
  | 103 => ⟨S4096x1024, .f32⟩
  | 104 => ⟨S_, .f32⟩
  | 105 => ⟨S8192x1024, .f32⟩
  | 106 => ⟨S_, .f32⟩
  | 107 => ⟨S8192x1024, .f32⟩
  | 108 => ⟨S8192x1024, .f32⟩
  | 109 => ⟨S_, .f32⟩
  | 110 => ⟨S8192x1024, .f32⟩
  | 111 => ⟨S_, .f32⟩
  | 112 => ⟨S8192x1024, .f32⟩
  | 113 => ⟨S8192x1024, .f32⟩
  | 114 => ⟨S8191x1024, .f32⟩
  | 115 => ⟨S8191x1024, .f32⟩
  | 116 => ⟨S8191x1024, .f32⟩
  | 117 => ⟨S8191x1024, .f32⟩
  | 118 => ⟨S8191x1024, .f32⟩
  | 119 => ⟨S8191x1024, .f32⟩
  | 120 => ⟨S8191x1024, .f32⟩
  | 121 => ⟨S1x1024, .f32⟩
  | 122 => ⟨S8192x1024, .f32⟩
  | 123 => ⟨S1x1024, .f32⟩
  | 124 => ⟨S8192x1024, .f32⟩
  | 125 => ⟨S_, .f32⟩
  | 126 => ⟨S16384x1024, .f32⟩
  | 127 => ⟨S_, .f32⟩
  | _ => ⟨S16384x1024, .f32⟩

abbrev hbmTy0_4 (i : Nat) : BufTy := match i % 128 with
  | 0 => ⟨S16384x1024, .f32⟩
  | 1 => ⟨S16384x1024, .f32⟩
  | 2 => ⟨S_, .f32⟩
  | 3 => ⟨S16384x1024, .f32⟩
  | 4 => ⟨S_, .f32⟩
  | 5 => ⟨S16384x1024, .f32⟩
  | 6 => ⟨S16384x1024, .f32⟩
  | 7 => ⟨S16384x1024, .bf16⟩
  | 8 => ⟨S16384x1024, .bf16⟩
  | 9 => ⟨S16384x1024, .bf16⟩
  | 10 => ⟨S16384x1024, .bf16⟩
  | 11 => ⟨S4x1024, .f32⟩
  | 12 => ⟨S8x128x128, .f32⟩
  | 13 => ⟨S8x128x128, .bf16⟩
  | 14 => ⟨S4x128x128, .bf16⟩
  | 15 => ⟨S_, .bf16⟩
  | 16 => ⟨S4x128x128, .bf16⟩
  | 17 => ⟨S4x128x128, .bf16⟩
  | 18 => ⟨S4x128x256, .bf16⟩
  | 19 => ⟨S4x128x128, .bf16⟩
  | 20 => ⟨S4x128x256, .bf16⟩
  | 21 => ⟨S4x256x256, .bf16⟩
  | 22 => ⟨S8x128x128, .f32⟩
  | 23 => ⟨S8x128x128, .bf16⟩
  | 24 => ⟨S4x128x128, .bf16⟩
  | 25 => ⟨S_, .bf16⟩
  | 26 => ⟨S4x128x128, .bf16⟩
  | 27 => ⟨S4x128x128, .bf16⟩
  | 28 => ⟨S4x128x256, .bf16⟩
  | 29 => ⟨S4x128x128, .bf16⟩
  | 30 => ⟨S4x128x256, .bf16⟩
  | 31 => ⟨S4x256x256, .bf16⟩
  | 32 => ⟨S1024x1024, .f32⟩
  | 33 => ⟨S1024x1024, .bf16⟩
  | 34 => ⟨S16384x1024, .bf16⟩
  | 35 => ⟨S16384x1024, .bf16⟩
  | 36 => ⟨S1024x1024, .f32⟩
  | 37 => ⟨S4x256x256, .f32⟩
  | 38 => ⟨S4x256x256, .f32⟩
  | 39 => ⟨S8x1024, .f32⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x1024, .f32⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S8x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S8x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S4x1024, .f32⟩
  | .local _ .vmem, ⟨19, _⟩ => ⟨S4x256x256, .bf16⟩
  | .local _ .vmem, ⟨20, _⟩ => ⟨S4x256x256, .bf16⟩
  | .local _ .vmem, ⟨21, _⟩ => ⟨S1x1024, .f32⟩
  | .local _ .vmem, ⟨22, _⟩ => ⟨S1024x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S1024x1024, .f32⟩
  | .local _ .vmem, ⟨28, _⟩ => ⟨S4x256x256, .f32⟩
  | .local _ .vmem, ⟨29, _⟩ => ⟨S4x256x256, .f32⟩
  | .local _ .vmem, ⟨30, _⟩ => ⟨S8x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S8x1024, .f32⟩
  | .local _ .vmem, ⟨35, _⟩ => ⟨S8x1024, .f32⟩
  | .local _ .vmem, ⟨36, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_1 : Ref sig .tc := ⟨.hbm, 58, rfl⟩
abbrev main_v45 : Ref sig .tc := ⟨.hbm, 59, rfl⟩
abbrev main_v46 : Ref sig .tc := ⟨.hbm, 60, rfl⟩
abbrev main_cst_2 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_3 : Ref sig .tc := ⟨.hbm, 74, rfl⟩
abbrev main_v59 : Ref sig .tc := ⟨.hbm, 75, rfl⟩
abbrev main_v60 : Ref sig .tc := ⟨.hbm, 76, rfl⟩
abbrev main_cst_4 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_5 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_call0_cst : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_v5 : Ref sig .tc := ⟨.hbm, 92, rfl⟩
abbrev main_call0_v6 : Ref sig .tc := ⟨.hbm, 93, rfl⟩
abbrev main_call0_v7 : Ref sig .tc := ⟨.hbm, 94, rfl⟩
abbrev main_call0_v8 : Ref sig .tc := ⟨.hbm, 95, rfl⟩
abbrev main_call0_v9 : Ref sig .tc := ⟨.hbm, 96, rfl⟩
abbrev main_call0_v10 : Ref sig .tc := ⟨.hbm, 97, rfl⟩
abbrev main_call0_v11 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_6 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_7 : Ref sig .tc := ⟨.hbm, 108, rfl⟩
abbrev main_v76 : Ref sig .tc := ⟨.hbm, 109, rfl⟩
abbrev main_v77 : Ref sig .tc := ⟨.hbm, 110, rfl⟩
abbrev main_cst_8 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_c : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_9 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_cst_10 : Ref sig .tc := ⟨.hbm, 236, rfl⟩
abbrev main_v197 : Ref sig .tc := ⟨.hbm, 237, rfl⟩
abbrev main_cst_11 : Ref sig .tc := ⟨.hbm, 238, rfl⟩
abbrev main_v198 : Ref sig .tc := ⟨.hbm, 239, rfl⟩
abbrev main_v199 : Ref sig .tc := ⟨.hbm, 240, rfl⟩
abbrev main_cst_12 : Ref sig .tc := ⟨.hbm, 241, rfl⟩
abbrev main_v200 : Ref sig .tc := ⟨.hbm, 242, rfl⟩
abbrev main_cst_13 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_cst_14 : Ref sig .tc := ⟨.hbm, 257, rfl⟩
abbrev main_v214 : Ref sig .tc := ⟨.hbm, 258, rfl⟩
abbrev main_cst_15 : Ref sig .tc := ⟨.hbm, 259, rfl⟩
abbrev main_v215 : Ref sig .tc := ⟨.hbm, 260, rfl⟩
abbrev main_v216 : Ref sig .tc := ⟨.hbm, 261, rfl⟩
abbrev main_cst_16 : Ref sig .tc := ⟨.hbm, 262, rfl⟩
abbrev main_v217 : Ref sig .tc := ⟨.hbm, 263, rfl⟩
abbrev main_cst_17 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_cst_18 : Ref sig .tc := ⟨.hbm, 278, rfl⟩
abbrev main_v231 : Ref sig .tc := ⟨.hbm, 279, rfl⟩
abbrev main_cst_19 : Ref sig .tc := ⟨.hbm, 280, rfl⟩
abbrev main_v232 : Ref sig .tc := ⟨.hbm, 281, rfl⟩
abbrev main_v233 : Ref sig .tc := ⟨.hbm, 282, rfl⟩
abbrev main_cst_20 : Ref sig .tc := ⟨.hbm, 283, rfl⟩
abbrev main_v234 : Ref sig .tc := ⟨.hbm, 284, rfl⟩
abbrev main_cst_21 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_v247 : Ref sig .tc := ⟨.hbm, 298, rfl⟩
abbrev main_cst_22 : Ref sig .tc := ⟨.hbm, 299, rfl⟩
abbrev main_v248 : Ref sig .tc := ⟨.hbm, 300, rfl⟩
abbrev main_cst_23 : Ref sig .tc := ⟨.hbm, 301, rfl⟩
abbrev main_v249 : Ref sig .tc := ⟨.hbm, 302, rfl⟩
abbrev main_v250 : Ref sig .tc := ⟨.hbm, 303, rfl⟩
abbrev main_cst_24 : Ref sig .tc := ⟨.hbm, 304, rfl⟩
abbrev main_v251 : Ref sig .tc := ⟨.hbm, 305, rfl⟩
abbrev main_cst_25 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_v264 : Ref sig .tc := ⟨.hbm, 319, rfl⟩
abbrev main_cst_26 : Ref sig .tc := ⟨.hbm, 320, rfl⟩
abbrev main_v265 : Ref sig .tc := ⟨.hbm, 321, rfl⟩
abbrev main_cst_27 : Ref sig .tc := ⟨.hbm, 322, rfl⟩
abbrev main_v266 : Ref sig .tc := ⟨.hbm, 323, rfl⟩
abbrev main_v267 : Ref sig .tc := ⟨.hbm, 324, rfl⟩
abbrev main_cst_28 : Ref sig .tc := ⟨.hbm, 325, rfl⟩
abbrev main_v268 : Ref sig .tc := ⟨.hbm, 326, rfl⟩
abbrev main_cst_29 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_v275 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_cst_30 : Ref sig .tc := ⟨.hbm, 341, rfl⟩
abbrev main_v282 : Ref sig .tc := ⟨.hbm, 342, rfl⟩
abbrev main_cst_31 : Ref sig .tc := ⟨.hbm, 343, rfl⟩
abbrev main_v283 : Ref sig .tc := ⟨.hbm, 344, rfl⟩
abbrev main_v284 : Ref sig .tc := ⟨.hbm, 345, rfl⟩
abbrev main_cst_32 : Ref sig .tc := ⟨.hbm, 346, rfl⟩
abbrev main_v285 : Ref sig .tc := ⟨.hbm, 347, rfl⟩
abbrev main_cst_33 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩
abbrev main_v293 : Ref sig .tc := ⟨.hbm, 356, rfl⟩
abbrev main_v294 : Ref sig .tc := ⟨.hbm, 357, rfl⟩
abbrev main_v295 : Ref sig .tc := ⟨.hbm, 358, rfl⟩
abbrev main_v296 : Ref sig .tc := ⟨.hbm, 359, rfl⟩
abbrev main_v297 : Ref sig .tc := ⟨.hbm, 360, rfl⟩
abbrev main_v298 : Ref sig .tc := ⟨.hbm, 361, rfl⟩
abbrev main_cst_34 : Ref sig .tc := ⟨.hbm, 362, rfl⟩
abbrev main_v299 : Ref sig .tc := ⟨.hbm, 363, rfl⟩
abbrev main_cst_35 : Ref sig .tc := ⟨.hbm, 364, rfl⟩
abbrev main_v300 : Ref sig .tc := ⟨.hbm, 365, rfl⟩
abbrev main_v301 : Ref sig .tc := ⟨.hbm, 366, rfl⟩
abbrev main_cst_36 : Ref sig .tc := ⟨.hbm, 367, rfl⟩
abbrev main_v302 : Ref sig .tc := ⟨.hbm, 368, rfl⟩
abbrev main_cst_37 : Ref sig .tc := ⟨.hbm, 369, rfl⟩
abbrev main_v303 : Ref sig .tc := ⟨.hbm, 370, rfl⟩
abbrev main_v304 : Ref sig .tc := ⟨.hbm, 371, rfl⟩
abbrev main_v305 : Ref sig .tc := ⟨.hbm, 372, rfl⟩
abbrev main_v306 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_cst_38 : Ref sig .tc := ⟨.hbm, 383, rfl⟩
abbrev main_v316 : Ref sig .tc := ⟨.hbm, 384, rfl⟩
abbrev main_cst_39 : Ref sig .tc := ⟨.hbm, 385, rfl⟩
abbrev main_v317 : Ref sig .tc := ⟨.hbm, 386, rfl⟩
abbrev main_v318 : Ref sig .tc := ⟨.hbm, 387, rfl⟩
abbrev main_cst_40 : Ref sig .tc := ⟨.hbm, 388, rfl⟩
abbrev main_v319 : Ref sig .tc := ⟨.hbm, 389, rfl⟩
abbrev main_cst_41 : Ref sig .tc := ⟨.hbm, 390, rfl⟩
abbrev main_v320 : Ref sig .tc := ⟨.hbm, 391, rfl⟩
abbrev main_v321 : Ref sig .tc := ⟨.hbm, 392, rfl⟩
abbrev main_v322 : Ref sig .tc := ⟨.hbm, 393, rfl⟩
abbrev main_v323 : Ref sig .tc := ⟨.hbm, 394, rfl⟩
abbrev main_v324 : Ref sig .tc := ⟨.hbm, 395, rfl⟩
abbrev main_v325 : Ref sig .tc := ⟨.hbm, 396, rfl⟩
abbrev main_v326 : Ref sig .tc := ⟨.hbm, 397, rfl⟩
abbrev main_v327 : Ref sig .tc := ⟨.hbm, 398, rfl⟩
abbrev main_v328 : Ref sig .tc := ⟨.hbm, 399, rfl⟩
abbrev main_v329 : Ref sig .tc := ⟨.hbm, 400, rfl⟩
abbrev main_v330 : Ref sig .tc := ⟨.hbm, 401, rfl⟩
abbrev main_v331 : Ref sig .tc := ⟨.hbm, 402, rfl⟩
abbrev main_v332 : Ref sig .tc := ⟨.hbm, 403, rfl⟩
abbrev main_cst_42 : Ref sig .tc := ⟨.hbm, 404, rfl⟩
abbrev main_v333 : Ref sig .tc := ⟨.hbm, 405, rfl⟩
abbrev main_cst_43 : Ref sig .tc := ⟨.hbm, 406, rfl⟩
abbrev main_v334 : Ref sig .tc := ⟨.hbm, 407, rfl⟩
abbrev main_v335 : Ref sig .tc := ⟨.hbm, 408, rfl⟩
abbrev main_cst_44 : Ref sig .tc := ⟨.hbm, 409, rfl⟩
abbrev main_v336 : Ref sig .tc := ⟨.hbm, 410, rfl⟩
abbrev main_cst_45 : Ref sig .tc := ⟨.hbm, 411, rfl⟩
abbrev main_v337 : Ref sig .tc := ⟨.hbm, 412, rfl⟩
abbrev main_v338 : Ref sig .tc := ⟨.hbm, 413, rfl⟩
abbrev main_v339 : Ref sig .tc := ⟨.hbm, 414, rfl⟩
abbrev main_v340 : Ref sig .tc := ⟨.hbm, 415, rfl⟩
abbrev main_v341 : Ref sig .tc := ⟨.hbm, 416, rfl⟩
abbrev main_v342 : Ref sig .tc := ⟨.hbm, 417, rfl⟩
abbrev main_v343 : Ref sig .tc := ⟨.hbm, 418, rfl⟩
abbrev main_v344 : Ref sig .tc := ⟨.hbm, 419, rfl⟩
abbrev main_v345 : Ref sig .tc := ⟨.hbm, 420, rfl⟩
abbrev main_v346 : Ref sig .tc := ⟨.hbm, 421, rfl⟩
abbrev main_v347 : Ref sig .tc := ⟨.hbm, 422, rfl⟩
abbrev main_v348 : Ref sig .tc := ⟨.hbm, 423, rfl⟩
abbrev main_v349 : Ref sig .tc := ⟨.hbm, 424, rfl⟩
abbrev main_cst_46 : Ref sig .tc := ⟨.hbm, 425, rfl⟩
abbrev main_v350 : Ref sig .tc := ⟨.hbm, 426, rfl⟩
abbrev main_cst_47 : Ref sig .tc := ⟨.hbm, 427, rfl⟩
abbrev main_v351 : Ref sig .tc := ⟨.hbm, 428, rfl⟩
abbrev main_v352 : Ref sig .tc := ⟨.hbm, 429, rfl⟩
abbrev main_cst_48 : Ref sig .tc := ⟨.hbm, 430, rfl⟩
abbrev main_v353 : Ref sig .tc := ⟨.hbm, 431, rfl⟩
abbrev main_cst_49 : Ref sig .tc := ⟨.hbm, 432, rfl⟩
abbrev main_v354 : Ref sig .tc := ⟨.hbm, 433, rfl⟩
abbrev main_v355 : Ref sig .tc := ⟨.hbm, 434, rfl⟩
abbrev main_v356 : Ref sig .tc := ⟨.hbm, 435, rfl⟩
abbrev main_v357 : Ref sig .tc := ⟨.hbm, 436, rfl⟩
abbrev main_v358 : Ref sig .tc := ⟨.hbm, 437, rfl⟩
abbrev main_v359 : Ref sig .tc := ⟨.hbm, 438, rfl⟩
abbrev main_v360 : Ref sig .tc := ⟨.hbm, 439, rfl⟩
abbrev main_v361 : Ref sig .tc := ⟨.hbm, 440, rfl⟩
abbrev main_v362 : Ref sig .tc := ⟨.hbm, 441, rfl⟩
abbrev main_v363 : Ref sig .tc := ⟨.hbm, 442, rfl⟩
abbrev main_v364 : Ref sig .tc := ⟨.hbm, 443, rfl⟩
abbrev main_v365 : Ref sig .tc := ⟨.hbm, 444, rfl⟩
abbrev main_v366 : Ref sig .tc := ⟨.hbm, 445, rfl⟩
abbrev main_cst_50 : Ref sig .tc := ⟨.hbm, 446, rfl⟩
abbrev main_v367 : Ref sig .tc := ⟨.hbm, 447, rfl⟩
abbrev main_cst_51 : Ref sig .tc := ⟨.hbm, 448, rfl⟩
abbrev main_v368 : Ref sig .tc := ⟨.hbm, 449, rfl⟩
abbrev main_v369 : Ref sig .tc := ⟨.hbm, 450, rfl⟩
abbrev main_cst_52 : Ref sig .tc := ⟨.hbm, 451, rfl⟩
abbrev main_v370 : Ref sig .tc := ⟨.hbm, 452, rfl⟩
abbrev main_cst_53 : Ref sig .tc := ⟨.hbm, 453, rfl⟩
abbrev main_v371 : Ref sig .tc := ⟨.hbm, 454, rfl⟩
abbrev main_v372 : Ref sig .tc := ⟨.hbm, 455, rfl⟩
abbrev main_v373 : Ref sig .tc := ⟨.hbm, 456, rfl⟩
abbrev main_v374 : Ref sig .tc := ⟨.hbm, 457, rfl⟩
abbrev main_v375 : Ref sig .tc := ⟨.hbm, 458, rfl⟩
abbrev main_v376 : Ref sig .tc := ⟨.hbm, 459, rfl⟩
abbrev main_v377 : Ref sig .tc := ⟨.hbm, 460, rfl⟩
abbrev main_v378 : Ref sig .tc := ⟨.hbm, 461, rfl⟩
abbrev main_v379 : Ref sig .tc := ⟨.hbm, 462, rfl⟩
abbrev main_v380 : Ref sig .tc := ⟨.hbm, 463, rfl⟩
abbrev main_v381 : Ref sig .tc := ⟨.hbm, 464, rfl⟩
abbrev main_v382 : Ref sig .tc := ⟨.hbm, 465, rfl⟩
abbrev main_v383 : Ref sig .tc := ⟨.hbm, 466, rfl⟩
abbrev main_cst_54 : Ref sig .tc := ⟨.hbm, 467, rfl⟩
abbrev main_v384 : Ref sig .tc := ⟨.hbm, 468, rfl⟩
abbrev main_cst_55 : Ref sig .tc := ⟨.hbm, 469, rfl⟩
abbrev main_v385 : Ref sig .tc := ⟨.hbm, 470, rfl⟩
abbrev main_v386 : Ref sig .tc := ⟨.hbm, 471, rfl⟩
abbrev main_cst_56 : Ref sig .tc := ⟨.hbm, 472, rfl⟩
abbrev main_v387 : Ref sig .tc := ⟨.hbm, 473, rfl⟩
abbrev main_cst_57 : Ref sig .tc := ⟨.hbm, 474, rfl⟩
abbrev main_v388 : Ref sig .tc := ⟨.hbm, 475, rfl⟩
abbrev main_v389 : Ref sig .tc := ⟨.hbm, 476, rfl⟩
abbrev main_v390 : Ref sig .tc := ⟨.hbm, 477, rfl⟩
abbrev main_v391 : Ref sig .tc := ⟨.hbm, 478, rfl⟩
abbrev main_v392 : Ref sig .tc := ⟨.hbm, 479, rfl⟩
abbrev main_v393 : Ref sig .tc := ⟨.hbm, 480, rfl⟩
abbrev main_v394 : Ref sig .tc := ⟨.hbm, 481, rfl⟩
abbrev main_v395 : Ref sig .tc := ⟨.hbm, 482, rfl⟩
abbrev main_v396 : Ref sig .tc := ⟨.hbm, 483, rfl⟩
abbrev main_v397 : Ref sig .tc := ⟨.hbm, 484, rfl⟩
abbrev main_v398 : Ref sig .tc := ⟨.hbm, 485, rfl⟩
abbrev main_v399 : Ref sig .tc := ⟨.hbm, 486, rfl⟩
abbrev main_v400 : Ref sig .tc := ⟨.hbm, 487, rfl⟩
abbrev main_cst_58 : Ref sig .tc := ⟨.hbm, 488, rfl⟩
abbrev main_v401 : Ref sig .tc := ⟨.hbm, 489, rfl⟩
abbrev main_cst_59 : Ref sig .tc := ⟨.hbm, 490, rfl⟩
abbrev main_v402 : Ref sig .tc := ⟨.hbm, 491, rfl⟩
abbrev main_v403 : Ref sig .tc := ⟨.hbm, 492, rfl⟩
abbrev main_cst_60 : Ref sig .tc := ⟨.hbm, 493, rfl⟩
abbrev main_v404 : Ref sig .tc := ⟨.hbm, 494, rfl⟩
abbrev main_cst_61 : Ref sig .tc := ⟨.hbm, 495, rfl⟩
abbrev main_v405 : Ref sig .tc := ⟨.hbm, 496, rfl⟩
abbrev main_v406 : Ref sig .tc := ⟨.hbm, 497, rfl⟩
abbrev main_v407 : Ref sig .tc := ⟨.hbm, 498, rfl⟩
abbrev main_v408 : Ref sig .tc := ⟨.hbm, 499, rfl⟩
abbrev main_v409 : Ref sig .tc := ⟨.hbm, 500, rfl⟩
abbrev main_v410 : Ref sig .tc := ⟨.hbm, 501, rfl⟩
abbrev main_v411 : Ref sig .tc := ⟨.hbm, 502, rfl⟩
abbrev main_v412 : Ref sig .tc := ⟨.hbm, 503, rfl⟩
abbrev main_v413 : Ref sig .tc := ⟨.hbm, 504, rfl⟩
abbrev main_v414 : Ref sig .tc := ⟨.hbm, 505, rfl⟩
abbrev main_v415 : Ref sig .tc := ⟨.hbm, 506, rfl⟩
abbrev main_v416 : Ref sig .tc := ⟨.hbm, 507, rfl⟩
abbrev main_v417 : Ref sig .tc := ⟨.hbm, 508, rfl⟩
abbrev main_cst_62 : Ref sig .tc := ⟨.hbm, 509, rfl⟩
abbrev main_v418 : Ref sig .tc := ⟨.hbm, 510, rfl⟩
abbrev main_cst_63 : Ref sig .tc := ⟨.hbm, 511, rfl⟩
abbrev main_v419 : Ref sig .tc := ⟨.hbm, 512, rfl⟩
abbrev main_v420 : Ref sig .tc := ⟨.hbm, 513, rfl⟩
abbrev main_cst_64 : Ref sig .tc := ⟨.hbm, 514, rfl⟩
abbrev main_v421 : Ref sig .tc := ⟨.hbm, 515, rfl⟩
abbrev main_cst_65 : Ref sig .tc := ⟨.hbm, 516, rfl⟩
abbrev main_v422 : Ref sig .tc := ⟨.hbm, 517, rfl⟩
abbrev main_v423 : Ref sig .tc := ⟨.hbm, 518, rfl⟩
abbrev main_v424 : Ref sig .tc := ⟨.hbm, 519, rfl⟩
abbrev main_v425 : Ref sig .tc := ⟨.hbm, 520, rfl⟩
abbrev main_v426 : Ref sig .tc := ⟨.hbm, 521, rfl⟩
abbrev main_v427 : Ref sig .tc := ⟨.hbm, 522, rfl⟩
abbrev main_v428 : Ref sig .tc := ⟨.hbm, 523, rfl⟩
abbrev main_v429 : Ref sig .tc := ⟨.hbm, 524, rfl⟩
abbrev main_v430 : Ref sig .tc := ⟨.hbm, 525, rfl⟩
abbrev main_v431 : Ref sig .tc := ⟨.hbm, 526, rfl⟩
abbrev main_cst_66 : Ref sig .tc := ⟨.hbm, 527, rfl⟩
abbrev main_v432 : Ref sig .tc := ⟨.hbm, 528, rfl⟩
abbrev main_v433 : Ref sig .tc := ⟨.hbm, 529, rfl⟩
abbrev main_v434 : Ref sig .tc := ⟨.hbm, 530, rfl⟩
abbrev main_v435 : Ref sig .tc := ⟨.hbm, 531, rfl⟩
abbrev main_v436 : Ref sig .tc := ⟨.hbm, 532, rfl⟩
abbrev main_v437 : Ref sig .tc := ⟨.hbm, 533, rfl⟩
abbrev main_v438 : Ref sig .tc := ⟨.hbm, 534, rfl⟩
abbrev main_v439 : Ref sig .tc := ⟨.hbm, 535, rfl⟩
abbrev main_v440 : Ref sig .tc := ⟨.hbm, 536, rfl⟩
abbrev main_cst_67 : Ref sig .tc := ⟨.hbm, 537, rfl⟩
abbrev main_v441 : Ref sig .tc := ⟨.hbm, 538, rfl⟩
abbrev main_v442 : Ref sig .tc := ⟨.hbm, 539, rfl⟩
abbrev main_v443 : Ref sig .tc := ⟨.hbm, 540, rfl⟩
abbrev main_v444 : Ref sig .tc := ⟨.hbm, 541, rfl⟩
abbrev main_v445 : Ref sig .tc := ⟨.hbm, 542, rfl⟩
abbrev main_v446 : Ref sig .tc := ⟨.hbm, 543, rfl⟩
abbrev main_v447 : Ref sig .tc := ⟨.hbm, 544, rfl⟩
abbrev main_v448 : Ref sig .tc := ⟨.hbm, 545, rfl⟩
abbrev main_v449_0 : Ref sig .tc := ⟨.hbm, 546, rfl⟩
abbrev main_v449_1 : Ref sig .tc := ⟨.hbm, 547, rfl⟩
abbrev main_v449_2 : Ref sig .tc := ⟨.hbm, 548, rfl⟩
abbrev main_v449_3 : Ref sig .tc := ⟨.hbm, 549, rfl⟩
abbrev main_v449_4 : Ref sig .tc := ⟨.hbm, 550, rfl⟩
abbrev main_v449_5 : Ref sig .tc := ⟨.hbm, 551, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem18_0 : DmaSem sig := 29
abbrev cc0_sem19_0 : DmaSem sig := 30

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_48 : BitVec 32 := 0#32
  let c32_i32 : BitVec 32 := 32#32
  let v103 : BitVec 32 := Scalar.addi c0_i32_48 c32_i32
  let c1_i32 : BitVec 32 := 1#32
  ⟨c0_i32_48, v103, c1_i32⟩
def k0_mult1 (k0_t1 : Fin k0_t1_loop.trips) : BitVec 32 :=
  let c31_i32 : BitVec 32 := 31#32
  let c0_i32_48 : BitVec 32 := 0#32
  let c1_i32 : BitVec 32 := 1#32
  let arg27 : BitVec 32 := Scf.iv c0_i32_48 c1_i32 k0_t1
  let v389 : BitVec 32 := Scalar.subi c31_i32 arg27
  let c8_i32 : BitVec 32 := 8#32
  let v390 : BitVec 32 := Scalar.muli v389 c8_i32
  v390
def k0_off1 (k0_t1 : Fin k0_t1_loop.trips) : Fin 2 → Nat :=
  let c31_i32 : BitVec 32 := 31#32
  let c0_i32_48 : BitVec 32 := 0#32
  let c1_i32 : BitVec 32 := 1#32
  let arg27 : BitVec 32 := Scf.iv c0_i32_48 c1_i32 k0_t1
  let v389 : BitVec 32 := Scalar.subi c31_i32 arg27
  let c8_i32 : BitVec 32 := 8#32
  let v390 : BitVec 32 := Scalar.muli v389 c8_i32
  let v391 : BitVec 32 := v390
  let v392 : Index := Scalar.indexCast v391
  let c0_213 : Index := 0#32
  ![v392.toNat, 0]
def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1024x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x256x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== LruRefIdeal.lean ====
abbrev S16384x1024 : Shape := ⟨2, ![16384, 1024]⟩
abbrev S1x4x1024 : Shape := ⟨3, ![1, 4, 1024]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S_ : Shape := ⟨0, ![]⟩
abbrev S3x1024 : Shape := ⟨2, ![3, 1024]⟩
abbrev S16387x1024 : Shape := ⟨2, ![16387, 1024]⟩
abbrev S1x1x1024 : Shape := ⟨3, ![1, 1, 1024]⟩
abbrev S1024 : Shape := ⟨1, ![1024]⟩
abbrev S16384x8x128 : Shape := ⟨3, ![16384, 8, 128]⟩
abbrev S8x128x128 : Shape := ⟨3, ![8, 128, 128]⟩
abbrev S8x128x16384 : Shape := ⟨3, ![8, 128, 16384]⟩
abbrev S8x128 : Shape := ⟨2, ![8, 128]⟩
abbrev S16384 : Shape := ⟨1, ![16384]⟩
abbrev S16384x1 : Shape := ⟨2, ![16384, 1]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S4x1024 : Shape := ⟨2, ![4, 1024]⟩
abbrev S2x1024 : Shape := ⟨2, ![2, 1024]⟩
abbrev S0x1024 : Shape := ⟨2, ![0, 1024]⟩
abbrev S7x1024 : Shape := ⟨2, ![7, 1024]⟩
abbrev S15x1024 : Shape := ⟨2, ![15, 1024]⟩
abbrev S31x1024 : Shape := ⟨2, ![31, 1024]⟩
abbrev S63x1024 : Shape := ⟨2, ![63, 1024]⟩
abbrev S127x1024 : Shape := ⟨2, ![127, 1024]⟩
abbrev S255x1024 : Shape := ⟨2, ![255, 1024]⟩
abbrev S511x1024 : Shape := ⟨2, ![511, 1024]⟩
abbrev S1023x1024 : Shape := ⟨2, ![1023, 1024]⟩
abbrev S2047x1024 : Shape := ⟨2, ![2047, 1024]⟩
abbrev S4095x1024 : Shape := ⟨2, ![4095, 1024]⟩
abbrev S8191x1024 : Shape := ⟨2, ![8191, 1024]⟩

abbrev nBuf : Space → Nat
  | .hbm => 543
  | .vmem => 0
  | .smem => 0
  | _ => 0

abbrev hbmTy0_0 (i : Nat) : BufTy := match i % 128 with
  | 0 => ⟨S16384x1024, .f32⟩
  | 1 => ⟨S16384x1024, .f32⟩
  | 2 => ⟨S16384x1024, .f32⟩
  | 3 => ⟨S1x4x1024, .f32⟩
  | 4 => ⟨S1x1024, .f32⟩
  | 5 => ⟨S1x8x128x128, .f32⟩
  | 6 => ⟨S1x8x128, .f32⟩
  | 7 => ⟨S1x8x128x128, .f32⟩
  | 8 => ⟨S1x8x128, .f32⟩
  | 9 => ⟨S1x1024, .f32⟩
  | 10 => ⟨S1x1024x1024, .f32⟩
  | 11 => ⟨S_, .f32⟩
  | 12 => ⟨S3x1024, .f32⟩
  | 13 => ⟨S16387x1024, .f32⟩
  | 14 => ⟨S16384x1024, .f32⟩
  | 15 => ⟨S1x1x1024, .f32⟩
  | 16 => ⟨S1024, .f32⟩
  | 17 => ⟨S1x1024, .f32⟩
  | 18 => ⟨S16384x1024, .f32⟩
  | 19 => ⟨S16384x1024, .f32⟩
  | 20 => ⟨S_, .f32⟩
  | 21 => ⟨S16384x1024, .f32⟩
  | 22 => ⟨S16384x1024, .f32⟩
  | 23 => ⟨S16384x1024, .f32⟩
  | 24 => ⟨S1x1x1024, .f32⟩
  | 25 => ⟨S1024, .f32⟩
  | 26 => ⟨S1x1024, .f32⟩
  | 27 => ⟨S16384x1024, .f32⟩
  | 28 => ⟨S16384x1024, .f32⟩
  | 29 => ⟨S16384x1024, .f32⟩
  | 30 => ⟨S16384x1024, .f32⟩
  | 31 => ⟨S1x1x1024, .f32⟩
  | 32 => ⟨S1024, .f32⟩
  | 33 => ⟨S1x1024, .f32⟩
  | 34 => ⟨S16384x1024, .f32⟩
  | 35 => ⟨S16384x1024, .f32⟩
  | 36 => ⟨S16384x1024, .f32⟩
  | 37 => ⟨S16384x1024, .f32⟩
  | 38 => ⟨S1x1x1024, .f32⟩
  | 39 => ⟨S1024, .f32⟩
  | 40 => ⟨S1x1024, .f32⟩
  | 41 => ⟨S16384x1024, .f32⟩
  | 42 => ⟨S16384x1024, .f32⟩
  | 43 => ⟨S16384x1024, .f32⟩
  | 44 => ⟨S1024, .f32⟩
  | 45 => ⟨S1x1024, .f32⟩
  | 46 => ⟨S16384x1024, .f32⟩
  | 47 => ⟨S16384x1024, .f32⟩
  | 48 => ⟨S16384x8x128, .f32⟩
  | 49 => ⟨S8x128x128, .f32⟩
  | 50 => ⟨S8x128x16384, .f32⟩
  | 51 => ⟨S16384x8x128, .f32⟩
  | 52 => ⟨S8x128, .f32⟩
  | 53 => ⟨S1x8x128, .f32⟩
  | 54 => ⟨S16384x8x128, .f32⟩
  | 55 => ⟨S16384x8x128, .f32⟩
  | 56 => ⟨S16384x8x128, .f32⟩
  | 57 => ⟨S16384x8x128, .f32⟩
  | 58 => ⟨S_, .f32⟩
  | 59 => ⟨S16384x8x128, .f32⟩
  | 60 => ⟨S16384x8x128, .f32⟩
  | 61 => ⟨S_, .f32⟩
  | 62 => ⟨S16384x8x128, .f32⟩
  | 63 => ⟨S16384x8x128, .f32⟩
  | 64 => ⟨S16384x1024, .f32⟩
  | 65 => ⟨S8x128x128, .f32⟩
  | 66 => ⟨S8x128x16384, .f32⟩
  | 67 => ⟨S16384x8x128, .f32⟩
  | 68 => ⟨S8x128, .f32⟩
  | 69 => ⟨S1x8x128, .f32⟩
  | 70 => ⟨S16384x8x128, .f32⟩
  | 71 => ⟨S16384x8x128, .f32⟩
  | 72 => ⟨S16384x8x128, .f32⟩
  | 73 => ⟨S16384x8x128, .f32⟩
  | 74 => ⟨S_, .f32⟩
  | 75 => ⟨S16384x8x128, .f32⟩
  | 76 => ⟨S16384x8x128, .f32⟩
  | 77 => ⟨S_, .f32⟩
  | 78 => ⟨S16384x8x128, .f32⟩
  | 79 => ⟨S16384x8x128, .f32⟩
  | 80 => ⟨S16384x1024, .f32⟩
  | 81 => ⟨S_, .f32⟩
  | 82 => ⟨S16384x1024, .f32⟩
  | 83 => ⟨S16384x1024, .f32⟩
  | 84 => ⟨S1024, .f32⟩
  | 85 => ⟨S1024, .f32⟩
  | 86 => ⟨S_, .f32⟩
  | 87 => ⟨S1024, .f32⟩
  | 88 => ⟨S1024, .f32⟩
  | 89 => ⟨S1024, .f32⟩
  | 90 => ⟨S1024, .f32⟩
  | 91 => ⟨S1024, .i1⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1x1024, .f32⟩
  | 101 => ⟨S16384x1024, .f32⟩
  | 102 => ⟨S16384x1024, .f32⟩
  | 103 => ⟨S16384x1024, .f32⟩
  | 104 => ⟨S_, .f32⟩
  | 105 => ⟨S16384x1024, .f32⟩
  | 106 => ⟨S16384x1024, .f32⟩
  | 107 => ⟨S16384x1024, .f32⟩
  | 108 => ⟨S_, .f32⟩
  | 109 => ⟨S16384x1024, .f32⟩
  | 110 => ⟨S16384x1024, .f32⟩
  | 111 => ⟨S_, .f32⟩
  | 112 => ⟨S16384x1024, .f32⟩
  | 113 => ⟨S16384x1024, .f32⟩
  | 114 => ⟨S16384x1024, .f32⟩
  | 115 => ⟨S16384, .i32⟩
  | 116 => ⟨S_, .i32⟩
  | 117 => ⟨S16384, .i32⟩
  | 118 => ⟨S16384, .i1⟩
  | 119 => ⟨S16384x1, .i1⟩
  | 120 => ⟨S_, .f32⟩
  | 121 => ⟨S_, .f32⟩
  | 122 => ⟨S16384x1024, .i1⟩
  | 123 => ⟨S16384x1024, .f32⟩
  | 124 => ⟨S16384x1024, .f32⟩
  | 125 => ⟨S16384x1024, .f32⟩
  | 126 => ⟨S16384x1024, .f32⟩
  | 127 => ⟨S8192x1024, .f32⟩
  | _ => ⟨S16384x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S2048x1024, .f32⟩
  | 14 => ⟨S2048x1024, .f32⟩
  | 15 => ⟨S2048x1024, .f32⟩
  | 16 => ⟨S2048x1024, .f32⟩
  | 17 => ⟨S2048x1024, .f32⟩
  | 18 => ⟨S2048x1024, .f32⟩
  | 19 => ⟨S2048x1024, .f32⟩
  | 20 => ⟨S1024x1024, .f32⟩
  | 21 => ⟨S1024x1024, .f32⟩
  | 22 => ⟨S1024x1024, .f32⟩
  | 23 => ⟨S1024x1024, .f32⟩
  | 24 => ⟨S1024x1024, .f32⟩
  | 25 => ⟨S1024x1024, .f32⟩
  | 26 => ⟨S1024x1024, .f32⟩
  | 27 => ⟨S512x1024, .f32⟩
  | 28 => ⟨S512x1024, .f32⟩
  | 29 => ⟨S512x1024, .f32⟩
  | 30 => ⟨S512x1024, .f32⟩
  | 31 => ⟨S512x1024, .f32⟩
  | 32 => ⟨S512x1024, .f32⟩
  | 33 => ⟨S512x1024, .f32⟩
  | 34 => ⟨S256x1024, .f32⟩
  | 35 => ⟨S256x1024, .f32⟩
  | 36 => ⟨S256x1024, .f32⟩
  | 37 => ⟨S256x1024, .f32⟩
  | 38 => ⟨S256x1024, .f32⟩
  | 39 => ⟨S256x1024, .f32⟩
  | 40 => ⟨S256x1024, .f32⟩
  | 41 => ⟨S128x1024, .f32⟩
  | 42 => ⟨S128x1024, .f32⟩
  | 43 => ⟨S128x1024, .f32⟩
  | 44 => ⟨S128x1024, .f32⟩
  | 45 => ⟨S128x1024, .f32⟩
  | 46 => ⟨S128x1024, .f32⟩
  | 47 => ⟨S128x1024, .f32⟩
  | 48 => ⟨S64x1024, .f32⟩
  | 49 => ⟨S64x1024, .f32⟩
  | 50 => ⟨S64x1024, .f32⟩
  | 51 => ⟨S64x1024, .f32⟩
  | 52 => ⟨S64x1024, .f32⟩
  | 53 => ⟨S64x1024, .f32⟩
  | 54 => ⟨S64x1024, .f32⟩
  | 55 => ⟨S32x1024, .f32⟩
  | 56 => ⟨S32x1024, .f32⟩
  | 57 => ⟨S32x1024, .f32⟩
  | 58 => ⟨S32x1024, .f32⟩
  | 59 => ⟨S32x1024, .f32⟩
  | 60 => ⟨S32x1024, .f32⟩
  | 61 => ⟨S32x1024, .f32⟩
  | 62 => ⟨S16x1024, .f32⟩
  | 63 => ⟨S16x1024, .f32⟩
  | 64 => ⟨S16x1024, .f32⟩
  | 65 => ⟨S16x1024, .f32⟩
  | 66 => ⟨S16x1024, .f32⟩
  | 67 => ⟨S16x1024, .f32⟩
  | 68 => ⟨S16x1024, .f32⟩
  | 69 => ⟨S8x1024, .f32⟩
  | 70 => ⟨S8x1024, .f32⟩
  | 71 => ⟨S8x1024, .f32⟩
  | 72 => ⟨S8x1024, .f32⟩
  | 73 => ⟨S8x1024, .f32⟩
  | 74 => ⟨S8x1024, .f32⟩
  | 75 => ⟨S8x1024, .f32⟩
  | 76 => ⟨S4x1024, .f32⟩
  | 77 => ⟨S4x1024, .f32⟩
  | 78 => ⟨S4x1024, .f32⟩
  | 79 => ⟨S4x1024, .f32⟩
  | 80 => ⟨S4x1024, .f32⟩
  | 81 => ⟨S4x1024, .f32⟩
  | 82 => ⟨S4x1024, .f32⟩
  | 83 => ⟨S2x1024, .f32⟩
  | 84 => ⟨S2x1024, .f32⟩
  | 85 => ⟨S2x1024, .f32⟩
  | 86 => ⟨S2x1024, .f32⟩
  | 87 => ⟨S2x1024, .f32⟩
  | 88 => ⟨S2x1024, .f32⟩
  | 89 => ⟨S2x1024, .f32⟩
  | 90 => ⟨S1x1024, .f32⟩
  | 91 => ⟨S1x1024, .f32⟩
  | 92 => ⟨S1x1024, .f32⟩
  | 93 => ⟨S1x1024, .f32⟩
  | 94 => ⟨S1x1024, .f32⟩
  | 95 => ⟨S1x1024, .f32⟩
  | 96 => ⟨S1x1024, .f32⟩
  | 97 => ⟨S0x1024, .f32⟩
  | 98 => ⟨S0x1024, .f32⟩
  | 99 => ⟨S0x1024, .f32⟩
  | 100 => ⟨S0x1024, .f32⟩
  | 101 => ⟨S0x1024, .f32⟩
  | 102 => ⟨S0x1024, .f32⟩
  | 103 => ⟨S0x1024, .f32⟩
  | 104 => ⟨S1x1024, .f32⟩
  | 105 => ⟨S1x1024, .f32⟩
  | 106 => ⟨S1x1024, .f32⟩
  | 107 => ⟨S1x1024, .f32⟩
  | 108 => ⟨S_, .f32⟩
  | 109 => ⟨S2x1024, .f32⟩
  | 110 => ⟨S_, .f32⟩
  | 111 => ⟨S2x1024, .f32⟩
  | 112 => ⟨S2x1024, .f32⟩
  | 113 => ⟨S_, .f32⟩
  | 114 => ⟨S2x1024, .f32⟩
  | 115 => ⟨S_, .f32⟩
  | 116 => ⟨S2x1024, .f32⟩
  | 117 => ⟨S2x1024, .f32⟩
  | 118 => ⟨S1x1024, .f32⟩
  | 119 => ⟨S1x1024, .f32⟩
  | 120 => ⟨S1x1024, .f32⟩
  | 121 => ⟨S1x1024, .f32⟩
  | 122 => ⟨S1x1024, .f32⟩
  | 123 => ⟨S1x1024, .f32⟩
  | 124 => ⟨S1x1024, .f32⟩
  | 125 => ⟨S1x1024, .f32⟩
  | 126 => ⟨S2x1024, .f32⟩
  | 127 => ⟨S1x1024, .f32⟩
  | _ => ⟨S16384x1024, .f32⟩

abbrev hbmTy0_2 (i : Nat) : BufTy := match i % 128 with
  | 0 => ⟨S2x1024, .f32⟩
  | 1 => ⟨S_, .f32⟩
  | 2 => ⟨S4x1024, .f32⟩
  | 3 => ⟨S_, .f32⟩
  | 4 => ⟨S4x1024, .f32⟩
  | 5 => ⟨S4x1024, .f32⟩
  | 6 => ⟨S_, .f32⟩
  | 7 => ⟨S4x1024, .f32⟩
  | 8 => ⟨S_, .f32⟩
  | 9 => ⟨S4x1024, .f32⟩
  | 10 => ⟨S4x1024, .f32⟩
  | 11 => ⟨S3x1024, .f32⟩
  | 12 => ⟨S3x1024, .f32⟩
  | 13 => ⟨S3x1024, .f32⟩
  | 14 => ⟨S3x1024, .f32⟩
  | 15 => ⟨S3x1024, .f32⟩
  | 16 => ⟨S3x1024, .f32⟩
  | 17 => ⟨S3x1024, .f32⟩
  | 18 => ⟨S1x1024, .f32⟩
  | 19 => ⟨S4x1024, .f32⟩
  | 20 => ⟨S1x1024, .f32⟩
  | 21 => ⟨S4x1024, .f32⟩
  | 22 => ⟨S_, .f32⟩
  | 23 => ⟨S8x1024, .f32⟩
  | 24 => ⟨S_, .f32⟩
  | 25 => ⟨S8x1024, .f32⟩
  | 26 => ⟨S8x1024, .f32⟩
  | 27 => ⟨S_, .f32⟩
  | 28 => ⟨S8x1024, .f32⟩
  | 29 => ⟨S_, .f32⟩
  | 30 => ⟨S8x1024, .f32⟩
  | 31 => ⟨S8x1024, .f32⟩
  | 32 => ⟨S7x1024, .f32⟩
  | 33 => ⟨S7x1024, .f32⟩
  | 34 => ⟨S7x1024, .f32⟩
  | 35 => ⟨S7x1024, .f32⟩
  | 36 => ⟨S7x1024, .f32⟩
  | 37 => ⟨S7x1024, .f32⟩
  | 38 => ⟨S7x1024, .f32⟩
  | 39 => ⟨S1x1024, .f32⟩
  | 40 => ⟨S8x1024, .f32⟩
  | 41 => ⟨S1x1024, .f32⟩
  | 42 => ⟨S8x1024, .f32⟩
  | 43 => ⟨S_, .f32⟩
  | 44 => ⟨S16x1024, .f32⟩
  | 45 => ⟨S_, .f32⟩
  | 46 => ⟨S16x1024, .f32⟩
  | 47 => ⟨S16x1024, .f32⟩
  | 48 => ⟨S_, .f32⟩
  | 49 => ⟨S16x1024, .f32⟩
  | 50 => ⟨S_, .f32⟩
  | 51 => ⟨S16x1024, .f32⟩
  | 52 => ⟨S16x1024, .f32⟩
  | 53 => ⟨S15x1024, .f32⟩
  | 54 => ⟨S15x1024, .f32⟩
  | 55 => ⟨S15x1024, .f32⟩
  | 56 => ⟨S15x1024, .f32⟩
  | 57 => ⟨S15x1024, .f32⟩
  | 58 => ⟨S15x1024, .f32⟩
  | 59 => ⟨S15x1024, .f32⟩
  | 60 => ⟨S1x1024, .f32⟩
  | 61 => ⟨S16x1024, .f32⟩
  | 62 => ⟨S1x1024, .f32⟩
  | 63 => ⟨S16x1024, .f32⟩
  | 64 => ⟨S_, .f32⟩
  | 65 => ⟨S32x1024, .f32⟩
  | 66 => ⟨S_, .f32⟩
  | 67 => ⟨S32x1024, .f32⟩
  | 68 => ⟨S32x1024, .f32⟩
  | 69 => ⟨S_, .f32⟩
  | 70 => ⟨S32x1024, .f32⟩
  | 71 => ⟨S_, .f32⟩
  | 72 => ⟨S32x1024, .f32⟩
  | 73 => ⟨S32x1024, .f32⟩
  | 74 => ⟨S31x1024, .f32⟩
  | 75 => ⟨S31x1024, .f32⟩
  | 76 => ⟨S31x1024, .f32⟩
  | 77 => ⟨S31x1024, .f32⟩
  | 78 => ⟨S31x1024, .f32⟩
  | 79 => ⟨S31x1024, .f32⟩
  | 80 => ⟨S31x1024, .f32⟩
  | 81 => ⟨S1x1024, .f32⟩
  | 82 => ⟨S32x1024, .f32⟩
  | 83 => ⟨S1x1024, .f32⟩
  | 84 => ⟨S32x1024, .f32⟩
  | 85 => ⟨S_, .f32⟩
  | 86 => ⟨S64x1024, .f32⟩
  | 87 => ⟨S_, .f32⟩
  | 88 => ⟨S64x1024, .f32⟩
  | 89 => ⟨S64x1024, .f32⟩
  | 90 => ⟨S_, .f32⟩
  | 91 => ⟨S64x1024, .f32⟩
  | 92 => ⟨S_, .f32⟩
  | 93 => ⟨S64x1024, .f32⟩
  | 94 => ⟨S64x1024, .f32⟩
  | 95 => ⟨S63x1024, .f32⟩
  | 96 => ⟨S63x1024, .f32⟩
  | 97 => ⟨S63x1024, .f32⟩
  | 98 => ⟨S63x1024, .f32⟩
  | 99 => ⟨S63x1024, .f32⟩
  | 100 => ⟨S63x1024, .f32⟩
  | 101 => ⟨S63x1024, .f32⟩
  | 102 => ⟨S1x1024, .f32⟩
  | 103 => ⟨S64x1024, .f32⟩
  | 104 => ⟨S1x1024, .f32⟩
  | 105 => ⟨S64x1024, .f32⟩
  | 106 => ⟨S_, .f32⟩
  | 107 => ⟨S128x1024, .f32⟩
  | 108 => ⟨S_, .f32⟩
  | 109 => ⟨S128x1024, .f32⟩
  | 110 => ⟨S128x1024, .f32⟩
  | 111 => ⟨S_, .f32⟩
  | 112 => ⟨S128x1024, .f32⟩
  | 113 => ⟨S_, .f32⟩
  | 114 => ⟨S128x1024, .f32⟩
  | 115 => ⟨S128x1024, .f32⟩
  | 116 => ⟨S127x1024, .f32⟩
  | 117 => ⟨S127x1024, .f32⟩
  | 118 => ⟨S127x1024, .f32⟩
  | 119 => ⟨S127x1024, .f32⟩
  | 120 => ⟨S127x1024, .f32⟩
  | 121 => ⟨S127x1024, .f32⟩
  | 122 => ⟨S127x1024, .f32⟩
  | 123 => ⟨S1x1024, .f32⟩
  | 124 => ⟨S128x1024, .f32⟩
  | 125 => ⟨S1x1024, .f32⟩
  | 126 => ⟨S128x1024, .f32⟩
  | 127 => ⟨S_, .f32⟩
  | _ => ⟨S16384x1024, .f32⟩

abbrev hbmTy0_3 (i : Nat) : BufTy := match i % 128 with
  | 0 => ⟨S256x1024, .f32⟩
  | 1 => ⟨S_, .f32⟩
  | 2 => ⟨S256x1024, .f32⟩
  | 3 => ⟨S256x1024, .f32⟩
  | 4 => ⟨S_, .f32⟩
  | 5 => ⟨S256x1024, .f32⟩
  | 6 => ⟨S_, .f32⟩
  | 7 => ⟨S256x1024, .f32⟩
  | 8 => ⟨S256x1024, .f32⟩
  | 9 => ⟨S255x1024, .f32⟩
  | 10 => ⟨S255x1024, .f32⟩
  | 11 => ⟨S255x1024, .f32⟩
  | 12 => ⟨S255x1024, .f32⟩
  | 13 => ⟨S255x1024, .f32⟩
  | 14 => ⟨S255x1024, .f32⟩
  | 15 => ⟨S255x1024, .f32⟩
  | 16 => ⟨S1x1024, .f32⟩
  | 17 => ⟨S256x1024, .f32⟩
  | 18 => ⟨S1x1024, .f32⟩
  | 19 => ⟨S256x1024, .f32⟩
  | 20 => ⟨S_, .f32⟩
  | 21 => ⟨S512x1024, .f32⟩
  | 22 => ⟨S_, .f32⟩
  | 23 => ⟨S512x1024, .f32⟩
  | 24 => ⟨S512x1024, .f32⟩
  | 25 => ⟨S_, .f32⟩
  | 26 => ⟨S512x1024, .f32⟩
  | 27 => ⟨S_, .f32⟩
  | 28 => ⟨S512x1024, .f32⟩
  | 29 => ⟨S512x1024, .f32⟩
  | 30 => ⟨S511x1024, .f32⟩
  | 31 => ⟨S511x1024, .f32⟩
  | 32 => ⟨S511x1024, .f32⟩
  | 33 => ⟨S511x1024, .f32⟩
  | 34 => ⟨S511x1024, .f32⟩
  | 35 => ⟨S511x1024, .f32⟩
  | 36 => ⟨S511x1024, .f32⟩
  | 37 => ⟨S1x1024, .f32⟩
  | 38 => ⟨S512x1024, .f32⟩
  | 39 => ⟨S1x1024, .f32⟩
  | 40 => ⟨S512x1024, .f32⟩
  | 41 => ⟨S_, .f32⟩
  | 42 => ⟨S1024x1024, .f32⟩
  | 43 => ⟨S_, .f32⟩
  | 44 => ⟨S1024x1024, .f32⟩
  | 45 => ⟨S1024x1024, .f32⟩
  | 46 => ⟨S_, .f32⟩
  | 47 => ⟨S1024x1024, .f32⟩
  | 48 => ⟨S_, .f32⟩
  | 49 => ⟨S1024x1024, .f32⟩
  | 50 => ⟨S1024x1024, .f32⟩
  | 51 => ⟨S1023x1024, .f32⟩
  | 52 => ⟨S1023x1024, .f32⟩
  | 53 => ⟨S1023x1024, .f32⟩
  | 54 => ⟨S1023x1024, .f32⟩
  | 55 => ⟨S1023x1024, .f32⟩
  | 56 => ⟨S1023x1024, .f32⟩
  | 57 => ⟨S1023x1024, .f32⟩
  | 58 => ⟨S1x1024, .f32⟩
  | 59 => ⟨S1024x1024, .f32⟩
  | 60 => ⟨S1x1024, .f32⟩
  | 61 => ⟨S1024x1024, .f32⟩
  | 62 => ⟨S_, .f32⟩
  | 63 => ⟨S2048x1024, .f32⟩
  | 64 => ⟨S_, .f32⟩
  | 65 => ⟨S2048x1024, .f32⟩
  | 66 => ⟨S2048x1024, .f32⟩
  | 67 => ⟨S_, .f32⟩
  | 68 => ⟨S2048x1024, .f32⟩
  | 69 => ⟨S_, .f32⟩
  | 70 => ⟨S2048x1024, .f32⟩
  | 71 => ⟨S2048x1024, .f32⟩
  | 72 => ⟨S2047x1024, .f32⟩
  | 73 => ⟨S2047x1024, .f32⟩
  | 74 => ⟨S2047x1024, .f32⟩
  | 75 => ⟨S2047x1024, .f32⟩
  | 76 => ⟨S2047x1024, .f32⟩
  | 77 => ⟨S2047x1024, .f32⟩
  | 78 => ⟨S2047x1024, .f32⟩
  | 79 => ⟨S1x1024, .f32⟩
  | 80 => ⟨S2048x1024, .f32⟩
  | 81 => ⟨S1x1024, .f32⟩
  | 82 => ⟨S2048x1024, .f32⟩
  | 83 => ⟨S_, .f32⟩
  | 84 => ⟨S4096x1024, .f32⟩
  | 85 => ⟨S_, .f32⟩
  | 86 => ⟨S4096x1024, .f32⟩
  | 87 => ⟨S4096x1024, .f32⟩
  | 88 => ⟨S_, .f32⟩
  | 89 => ⟨S4096x1024, .f32⟩
  | 90 => ⟨S_, .f32⟩
  | 91 => ⟨S4096x1024, .f32⟩
  | 92 => ⟨S4096x1024, .f32⟩
  | 93 => ⟨S4095x1024, .f32⟩
  | 94 => ⟨S4095x1024, .f32⟩
  | 95 => ⟨S4095x1024, .f32⟩
  | 96 => ⟨S4095x1024, .f32⟩
  | 97 => ⟨S4095x1024, .f32⟩
  | 98 => ⟨S4095x1024, .f32⟩
  | 99 => ⟨S4095x1024, .f32⟩
  | 100 => ⟨S1x1024, .f32⟩
  | 101 => ⟨S4096x1024, .f32⟩
  | 102 => ⟨S1x1024, .f32⟩
  | 103 => ⟨S4096x1024, .f32⟩
  | 104 => ⟨S_, .f32⟩
  | 105 => ⟨S8192x1024, .f32⟩
  | 106 => ⟨S_, .f32⟩
  | 107 => ⟨S8192x1024, .f32⟩
  | 108 => ⟨S8192x1024, .f32⟩
  | 109 => ⟨S_, .f32⟩
  | 110 => ⟨S8192x1024, .f32⟩
  | 111 => ⟨S_, .f32⟩
  | 112 => ⟨S8192x1024, .f32⟩
  | 113 => ⟨S8192x1024, .f32⟩
  | 114 => ⟨S8191x1024, .f32⟩
  | 115 => ⟨S8191x1024, .f32⟩
  | 116 => ⟨S8191x1024, .f32⟩
  | 117 => ⟨S8191x1024, .f32⟩
  | 118 => ⟨S8191x1024, .f32⟩
  | 119 => ⟨S8191x1024, .f32⟩
  | 120 => ⟨S8191x1024, .f32⟩
  | 121 => ⟨S1x1024, .f32⟩
  | 122 => ⟨S8192x1024, .f32⟩
  | 123 => ⟨S1x1024, .f32⟩
  | 124 => ⟨S8192x1024, .f32⟩
  | 125 => ⟨S_, .f32⟩
  | 126 => ⟨S16384x1024, .f32⟩
  | 127 => ⟨S_, .f32⟩
  | _ => ⟨S16384x1024, .f32⟩

abbrev hbmTy0_4 (i : Nat) : BufTy := match i % 128 with
  | 0 => ⟨S16384x1024, .f32⟩
  | 1 => ⟨S16384x1024, .f32⟩
  | 2 => ⟨S_, .f32⟩
  | 3 => ⟨S16384x1024, .f32⟩
  | 4 => ⟨S_, .f32⟩
  | 5 => ⟨S16384x1024, .f32⟩
  | 6 => ⟨S16384x1024, .f32⟩
  | 7 => ⟨S16384x1024, .f32⟩
  | 8 => ⟨S16384x1024, .f32⟩
  | 9 => ⟨S_, .f32⟩
  | 10 => ⟨S16384x1024, .f32⟩
  | 11 => ⟨S16384x1024, .f32⟩
  | 12 => ⟨S16384x1024, .f32⟩
  | 13 => ⟨S_, .f32⟩
  | 14 => ⟨S16384x1024, .f32⟩
  | 15 => ⟨S16384x1024, .f32⟩
  | 16 => ⟨S16384x1024, .f32⟩
  | 17 => ⟨S_, .f32⟩
  | 18 => ⟨S16384x1024, .f32⟩
  | 19 => ⟨S16384x1024, .f32⟩
  | 20 => ⟨S_, .f32⟩
  | 21 => ⟨S16384x1024, .f32⟩
  | 22 => ⟨S16384x1024, .f32⟩
  | 23 => ⟨S16384x1024, .f32⟩
  | 24 => ⟨S16384x1024, .f32⟩
  | 25 => ⟨S1024x1024, .f32⟩
  | 26 => ⟨S16384x1024, .f32⟩
  | 27 => ⟨S1024x1024, .f32⟩
  | 28 => ⟨S1024x1024, .f32⟩
  | 29 => ⟨S1x1024x1024, .f32⟩
  | 30 => ⟨S1024x1024, .f32⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_1 : Ref sig .tc := ⟨.hbm, 58, rfl⟩
abbrev main_v45 : Ref sig .tc := ⟨.hbm, 59, rfl⟩
abbrev main_v46 : Ref sig .tc := ⟨.hbm, 60, rfl⟩
abbrev main_cst_2 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_3 : Ref sig .tc := ⟨.hbm, 74, rfl⟩
abbrev main_v59 : Ref sig .tc := ⟨.hbm, 75, rfl⟩
abbrev main_v60 : Ref sig .tc := ⟨.hbm, 76, rfl⟩
abbrev main_cst_4 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_5 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_call0_cst : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_v5 : Ref sig .tc := ⟨.hbm, 92, rfl⟩
abbrev main_call0_v6 : Ref sig .tc := ⟨.hbm, 93, rfl⟩
abbrev main_call0_v7 : Ref sig .tc := ⟨.hbm, 94, rfl⟩
abbrev main_call0_v8 : Ref sig .tc := ⟨.hbm, 95, rfl⟩
abbrev main_call0_v9 : Ref sig .tc := ⟨.hbm, 96, rfl⟩
abbrev main_call0_v10 : Ref sig .tc := ⟨.hbm, 97, rfl⟩
abbrev main_call0_v11 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_6 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_7 : Ref sig .tc := ⟨.hbm, 108, rfl⟩
abbrev main_v76 : Ref sig .tc := ⟨.hbm, 109, rfl⟩
abbrev main_v77 : Ref sig .tc := ⟨.hbm, 110, rfl⟩
abbrev main_cst_8 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_c : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_9 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_cst_10 : Ref sig .tc := ⟨.hbm, 236, rfl⟩
abbrev main_v197 : Ref sig .tc := ⟨.hbm, 237, rfl⟩
abbrev main_cst_11 : Ref sig .tc := ⟨.hbm, 238, rfl⟩
abbrev main_v198 : Ref sig .tc := ⟨.hbm, 239, rfl⟩
abbrev main_v199 : Ref sig .tc := ⟨.hbm, 240, rfl⟩
abbrev main_cst_12 : Ref sig .tc := ⟨.hbm, 241, rfl⟩
abbrev main_v200 : Ref sig .tc := ⟨.hbm, 242, rfl⟩
abbrev main_cst_13 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_cst_14 : Ref sig .tc := ⟨.hbm, 257, rfl⟩
abbrev main_v214 : Ref sig .tc := ⟨.hbm, 258, rfl⟩
abbrev main_cst_15 : Ref sig .tc := ⟨.hbm, 259, rfl⟩
abbrev main_v215 : Ref sig .tc := ⟨.hbm, 260, rfl⟩
abbrev main_v216 : Ref sig .tc := ⟨.hbm, 261, rfl⟩
abbrev main_cst_16 : Ref sig .tc := ⟨.hbm, 262, rfl⟩
abbrev main_v217 : Ref sig .tc := ⟨.hbm, 263, rfl⟩
abbrev main_cst_17 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_cst_18 : Ref sig .tc := ⟨.hbm, 278, rfl⟩
abbrev main_v231 : Ref sig .tc := ⟨.hbm, 279, rfl⟩
abbrev main_cst_19 : Ref sig .tc := ⟨.hbm, 280, rfl⟩
abbrev main_v232 : Ref sig .tc := ⟨.hbm, 281, rfl⟩
abbrev main_v233 : Ref sig .tc := ⟨.hbm, 282, rfl⟩
abbrev main_cst_20 : Ref sig .tc := ⟨.hbm, 283, rfl⟩
abbrev main_v234 : Ref sig .tc := ⟨.hbm, 284, rfl⟩
abbrev main_cst_21 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_v247 : Ref sig .tc := ⟨.hbm, 298, rfl⟩
abbrev main_cst_22 : Ref sig .tc := ⟨.hbm, 299, rfl⟩
abbrev main_v248 : Ref sig .tc := ⟨.hbm, 300, rfl⟩
abbrev main_cst_23 : Ref sig .tc := ⟨.hbm, 301, rfl⟩
abbrev main_v249 : Ref sig .tc := ⟨.hbm, 302, rfl⟩
abbrev main_v250 : Ref sig .tc := ⟨.hbm, 303, rfl⟩
abbrev main_cst_24 : Ref sig .tc := ⟨.hbm, 304, rfl⟩
abbrev main_v251 : Ref sig .tc := ⟨.hbm, 305, rfl⟩
abbrev main_cst_25 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_v264 : Ref sig .tc := ⟨.hbm, 319, rfl⟩
abbrev main_cst_26 : Ref sig .tc := ⟨.hbm, 320, rfl⟩
abbrev main_v265 : Ref sig .tc := ⟨.hbm, 321, rfl⟩
abbrev main_cst_27 : Ref sig .tc := ⟨.hbm, 322, rfl⟩
abbrev main_v266 : Ref sig .tc := ⟨.hbm, 323, rfl⟩
abbrev main_v267 : Ref sig .tc := ⟨.hbm, 324, rfl⟩
abbrev main_cst_28 : Ref sig .tc := ⟨.hbm, 325, rfl⟩
abbrev main_v268 : Ref sig .tc := ⟨.hbm, 326, rfl⟩
abbrev main_cst_29 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_v275 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_cst_30 : Ref sig .tc := ⟨.hbm, 341, rfl⟩
abbrev main_v282 : Ref sig .tc := ⟨.hbm, 342, rfl⟩
abbrev main_cst_31 : Ref sig .tc := ⟨.hbm, 343, rfl⟩
abbrev main_v283 : Ref sig .tc := ⟨.hbm, 344, rfl⟩
abbrev main_v284 : Ref sig .tc := ⟨.hbm, 345, rfl⟩
abbrev main_cst_32 : Ref sig .tc := ⟨.hbm, 346, rfl⟩
abbrev main_v285 : Ref sig .tc := ⟨.hbm, 347, rfl⟩
abbrev main_cst_33 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩
abbrev main_v293 : Ref sig .tc := ⟨.hbm, 356, rfl⟩
abbrev main_v294 : Ref sig .tc := ⟨.hbm, 357, rfl⟩
abbrev main_v295 : Ref sig .tc := ⟨.hbm, 358, rfl⟩
abbrev main_v296 : Ref sig .tc := ⟨.hbm, 359, rfl⟩
abbrev main_v297 : Ref sig .tc := ⟨.hbm, 360, rfl⟩
abbrev main_v298 : Ref sig .tc := ⟨.hbm, 361, rfl⟩
abbrev main_cst_34 : Ref sig .tc := ⟨.hbm, 362, rfl⟩
abbrev main_v299 : Ref sig .tc := ⟨.hbm, 363, rfl⟩
abbrev main_cst_35 : Ref sig .tc := ⟨.hbm, 364, rfl⟩
abbrev main_v300 : Ref sig .tc := ⟨.hbm, 365, rfl⟩
abbrev main_v301 : Ref sig .tc := ⟨.hbm, 366, rfl⟩
abbrev main_cst_36 : Ref sig .tc := ⟨.hbm, 367, rfl⟩
abbrev main_v302 : Ref sig .tc := ⟨.hbm, 368, rfl⟩
abbrev main_cst_37 : Ref sig .tc := ⟨.hbm, 369, rfl⟩
abbrev main_v303 : Ref sig .tc := ⟨.hbm, 370, rfl⟩
abbrev main_v304 : Ref sig .tc := ⟨.hbm, 371, rfl⟩
abbrev main_v305 : Ref sig .tc := ⟨.hbm, 372, rfl⟩
abbrev main_v306 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_cst_38 : Ref sig .tc := ⟨.hbm, 383, rfl⟩
abbrev main_v316 : Ref sig .tc := ⟨.hbm, 384, rfl⟩
abbrev main_cst_39 : Ref sig .tc := ⟨.hbm, 385, rfl⟩
abbrev main_v317 : Ref sig .tc := ⟨.hbm, 386, rfl⟩
abbrev main_v318 : Ref sig .tc := ⟨.hbm, 387, rfl⟩
abbrev main_cst_40 : Ref sig .tc := ⟨.hbm, 388, rfl⟩
abbrev main_v319 : Ref sig .tc := ⟨.hbm, 389, rfl⟩
abbrev main_cst_41 : Ref sig .tc := ⟨.hbm, 390, rfl⟩
abbrev main_v320 : Ref sig .tc := ⟨.hbm, 391, rfl⟩
abbrev main_v321 : Ref sig .tc := ⟨.hbm, 392, rfl⟩
abbrev main_v322 : Ref sig .tc := ⟨.hbm, 393, rfl⟩
abbrev main_v323 : Ref sig .tc := ⟨.hbm, 394, rfl⟩
abbrev main_v324 : Ref sig .tc := ⟨.hbm, 395, rfl⟩
abbrev main_v325 : Ref sig .tc := ⟨.hbm, 396, rfl⟩
abbrev main_v326 : Ref sig .tc := ⟨.hbm, 397, rfl⟩
abbrev main_v327 : Ref sig .tc := ⟨.hbm, 398, rfl⟩
abbrev main_v328 : Ref sig .tc := ⟨.hbm, 399, rfl⟩
abbrev main_v329 : Ref sig .tc := ⟨.hbm, 400, rfl⟩
abbrev main_v330 : Ref sig .tc := ⟨.hbm, 401, rfl⟩
abbrev main_v331 : Ref sig .tc := ⟨.hbm, 402, rfl⟩
abbrev main_v332 : Ref sig .tc := ⟨.hbm, 403, rfl⟩
abbrev main_cst_42 : Ref sig .tc := ⟨.hbm, 404, rfl⟩
abbrev main_v333 : Ref sig .tc := ⟨.hbm, 405, rfl⟩
abbrev main_cst_43 : Ref sig .tc := ⟨.hbm, 406, rfl⟩
abbrev main_v334 : Ref sig .tc := ⟨.hbm, 407, rfl⟩
abbrev main_v335 : Ref sig .tc := ⟨.hbm, 408, rfl⟩
abbrev main_cst_44 : Ref sig .tc := ⟨.hbm, 409, rfl⟩
abbrev main_v336 : Ref sig .tc := ⟨.hbm, 410, rfl⟩
abbrev main_cst_45 : Ref sig .tc := ⟨.hbm, 411, rfl⟩
abbrev main_v337 : Ref sig .tc := ⟨.hbm, 412, rfl⟩
abbrev main_v338 : Ref sig .tc := ⟨.hbm, 413, rfl⟩
abbrev main_v339 : Ref sig .tc := ⟨.hbm, 414, rfl⟩
abbrev main_v340 : Ref sig .tc := ⟨.hbm, 415, rfl⟩
abbrev main_v341 : Ref sig .tc := ⟨.hbm, 416, rfl⟩
abbrev main_v342 : Ref sig .tc := ⟨.hbm, 417, rfl⟩
abbrev main_v343 : Ref sig .tc := ⟨.hbm, 418, rfl⟩
abbrev main_v344 : Ref sig .tc := ⟨.hbm, 419, rfl⟩
abbrev main_v345 : Ref sig .tc := ⟨.hbm, 420, rfl⟩
abbrev main_v346 : Ref sig .tc := ⟨.hbm, 421, rfl⟩
abbrev main_v347 : Ref sig .tc := ⟨.hbm, 422, rfl⟩
abbrev main_v348 : Ref sig .tc := ⟨.hbm, 423, rfl⟩
abbrev main_v349 : Ref sig .tc := ⟨.hbm, 424, rfl⟩
abbrev main_cst_46 : Ref sig .tc := ⟨.hbm, 425, rfl⟩
abbrev main_v350 : Ref sig .tc := ⟨.hbm, 426, rfl⟩
abbrev main_cst_47 : Ref sig .tc := ⟨.hbm, 427, rfl⟩
abbrev main_v351 : Ref sig .tc := ⟨.hbm, 428, rfl⟩
abbrev main_v352 : Ref sig .tc := ⟨.hbm, 429, rfl⟩
abbrev main_cst_48 : Ref sig .tc := ⟨.hbm, 430, rfl⟩
abbrev main_v353 : Ref sig .tc := ⟨.hbm, 431, rfl⟩
abbrev main_cst_49 : Ref sig .tc := ⟨.hbm, 432, rfl⟩
abbrev main_v354 : Ref sig .tc := ⟨.hbm, 433, rfl⟩
abbrev main_v355 : Ref sig .tc := ⟨.hbm, 434, rfl⟩
abbrev main_v356 : Ref sig .tc := ⟨.hbm, 435, rfl⟩
abbrev main_v357 : Ref sig .tc := ⟨.hbm, 436, rfl⟩
abbrev main_v358 : Ref sig .tc := ⟨.hbm, 437, rfl⟩
abbrev main_v359 : Ref sig .tc := ⟨.hbm, 438, rfl⟩
abbrev main_v360 : Ref sig .tc := ⟨.hbm, 439, rfl⟩
abbrev main_v361 : Ref sig .tc := ⟨.hbm, 440, rfl⟩
abbrev main_v362 : Ref sig .tc := ⟨.hbm, 441, rfl⟩
abbrev main_v363 : Ref sig .tc := ⟨.hbm, 442, rfl⟩
abbrev main_v364 : Ref sig .tc := ⟨.hbm, 443, rfl⟩
abbrev main_v365 : Ref sig .tc := ⟨.hbm, 444, rfl⟩
abbrev main_v366 : Ref sig .tc := ⟨.hbm, 445, rfl⟩
abbrev main_cst_50 : Ref sig .tc := ⟨.hbm, 446, rfl⟩
abbrev main_v367 : Ref sig .tc := ⟨.hbm, 447, rfl⟩
abbrev main_cst_51 : Ref sig .tc := ⟨.hbm, 448, rfl⟩
abbrev main_v368 : Ref sig .tc := ⟨.hbm, 449, rfl⟩
abbrev main_v369 : Ref sig .tc := ⟨.hbm, 450, rfl⟩
abbrev main_cst_52 : Ref sig .tc := ⟨.hbm, 451, rfl⟩
abbrev main_v370 : Ref sig .tc := ⟨.hbm, 452, rfl⟩
abbrev main_cst_53 : Ref sig .tc := ⟨.hbm, 453, rfl⟩
abbrev main_v371 : Ref sig .tc := ⟨.hbm, 454, rfl⟩
abbrev main_v372 : Ref sig .tc := ⟨.hbm, 455, rfl⟩
abbrev main_v373 : Ref sig .tc := ⟨.hbm, 456, rfl⟩
abbrev main_v374 : Ref sig .tc := ⟨.hbm, 457, rfl⟩
abbrev main_v375 : Ref sig .tc := ⟨.hbm, 458, rfl⟩
abbrev main_v376 : Ref sig .tc := ⟨.hbm, 459, rfl⟩
abbrev main_v377 : Ref sig .tc := ⟨.hbm, 460, rfl⟩
abbrev main_v378 : Ref sig .tc := ⟨.hbm, 461, rfl⟩
abbrev main_v379 : Ref sig .tc := ⟨.hbm, 462, rfl⟩
abbrev main_v380 : Ref sig .tc := ⟨.hbm, 463, rfl⟩
abbrev main_v381 : Ref sig .tc := ⟨.hbm, 464, rfl⟩
abbrev main_v382 : Ref sig .tc := ⟨.hbm, 465, rfl⟩
abbrev main_v383 : Ref sig .tc := ⟨.hbm, 466, rfl⟩
abbrev main_cst_54 : Ref sig .tc := ⟨.hbm, 467, rfl⟩
abbrev main_v384 : Ref sig .tc := ⟨.hbm, 468, rfl⟩
abbrev main_cst_55 : Ref sig .tc := ⟨.hbm, 469, rfl⟩
abbrev main_v385 : Ref sig .tc := ⟨.hbm, 470, rfl⟩
abbrev main_v386 : Ref sig .tc := ⟨.hbm, 471, rfl⟩
abbrev main_cst_56 : Ref sig .tc := ⟨.hbm, 472, rfl⟩
abbrev main_v387 : Ref sig .tc := ⟨.hbm, 473, rfl⟩
abbrev main_cst_57 : Ref sig .tc := ⟨.hbm, 474, rfl⟩
abbrev main_v388 : Ref sig .tc := ⟨.hbm, 475, rfl⟩
abbrev main_v389 : Ref sig .tc := ⟨.hbm, 476, rfl⟩
abbrev main_v390 : Ref sig .tc := ⟨.hbm, 477, rfl⟩
abbrev main_v391 : Ref sig .tc := ⟨.hbm, 478, rfl⟩
abbrev main_v392 : Ref sig .tc := ⟨.hbm, 479, rfl⟩
abbrev main_v393 : Ref sig .tc := ⟨.hbm, 480, rfl⟩
abbrev main_v394 : Ref sig .tc := ⟨.hbm, 481, rfl⟩
abbrev main_v395 : Ref sig .tc := ⟨.hbm, 482, rfl⟩
abbrev main_v396 : Ref sig .tc := ⟨.hbm, 483, rfl⟩
abbrev main_v397 : Ref sig .tc := ⟨.hbm, 484, rfl⟩
abbrev main_v398 : Ref sig .tc := ⟨.hbm, 485, rfl⟩
abbrev main_v399 : Ref sig .tc := ⟨.hbm, 486, rfl⟩
abbrev main_v400 : Ref sig .tc := ⟨.hbm, 487, rfl⟩
abbrev main_cst_58 : Ref sig .tc := ⟨.hbm, 488, rfl⟩
abbrev main_v401 : Ref sig .tc := ⟨.hbm, 489, rfl⟩
abbrev main_cst_59 : Ref sig .tc := ⟨.hbm, 490, rfl⟩
abbrev main_v402 : Ref sig .tc := ⟨.hbm, 491, rfl⟩
abbrev main_v403 : Ref sig .tc := ⟨.hbm, 492, rfl⟩
abbrev main_cst_60 : Ref sig .tc := ⟨.hbm, 493, rfl⟩
abbrev main_v404 : Ref sig .tc := ⟨.hbm, 494, rfl⟩
abbrev main_cst_61 : Ref sig .tc := ⟨.hbm, 495, rfl⟩
abbrev main_v405 : Ref sig .tc := ⟨.hbm, 496, rfl⟩
abbrev main_v406 : Ref sig .tc := ⟨.hbm, 497, rfl⟩
abbrev main_v407 : Ref sig .tc := ⟨.hbm, 498, rfl⟩
abbrev main_v408 : Ref sig .tc := ⟨.hbm, 499, rfl⟩
abbrev main_v409 : Ref sig .tc := ⟨.hbm, 500, rfl⟩
abbrev main_v410 : Ref sig .tc := ⟨.hbm, 501, rfl⟩
abbrev main_v411 : Ref sig .tc := ⟨.hbm, 502, rfl⟩
abbrev main_v412 : Ref sig .tc := ⟨.hbm, 503, rfl⟩
abbrev main_v413 : Ref sig .tc := ⟨.hbm, 504, rfl⟩
abbrev main_v414 : Ref sig .tc := ⟨.hbm, 505, rfl⟩
abbrev main_v415 : Ref sig .tc := ⟨.hbm, 506, rfl⟩
abbrev main_v416 : Ref sig .tc := ⟨.hbm, 507, rfl⟩
abbrev main_v417 : Ref sig .tc := ⟨.hbm, 508, rfl⟩
abbrev main_cst_62 : Ref sig .tc := ⟨.hbm, 509, rfl⟩
abbrev main_v418 : Ref sig .tc := ⟨.hbm, 510, rfl⟩
abbrev main_cst_63 : Ref sig .tc := ⟨.hbm, 511, rfl⟩
abbrev main_v419 : Ref sig .tc := ⟨.hbm, 512, rfl⟩
abbrev main_v420 : Ref sig .tc := ⟨.hbm, 513, rfl⟩
abbrev main_cst_64 : Ref sig .tc := ⟨.hbm, 514, rfl⟩
abbrev main_v421 : Ref sig .tc := ⟨.hbm, 515, rfl⟩
abbrev main_cst_65 : Ref sig .tc := ⟨.hbm, 516, rfl⟩
abbrev main_v422 : Ref sig .tc := ⟨.hbm, 517, rfl⟩
abbrev main_v423 : Ref sig .tc := ⟨.hbm, 518, rfl⟩
abbrev main_v424 : Ref sig .tc := ⟨.hbm, 519, rfl⟩
abbrev main_v425 : Ref sig .tc := ⟨.hbm, 520, rfl⟩
abbrev main_cst_66 : Ref sig .tc := ⟨.hbm, 521, rfl⟩
abbrev main_v426 : Ref sig .tc := ⟨.hbm, 522, rfl⟩
abbrev main_v427 : Ref sig .tc := ⟨.hbm, 523, rfl⟩
abbrev main_v428 : Ref sig .tc := ⟨.hbm, 524, rfl⟩
abbrev main_cst_67 : Ref sig .tc := ⟨.hbm, 525, rfl⟩
abbrev main_v429 : Ref sig .tc := ⟨.hbm, 526, rfl⟩
abbrev main_v430 : Ref sig .tc := ⟨.hbm, 527, rfl⟩
abbrev main_v431 : Ref sig .tc := ⟨.hbm, 528, rfl⟩
abbrev main_cst_68 : Ref sig .tc := ⟨.hbm, 529, rfl⟩
abbrev main_v432 : Ref sig .tc := ⟨.hbm, 530, rfl⟩
abbrev main_v433 : Ref sig .tc := ⟨.hbm, 531, rfl⟩
abbrev main_cst_69 : Ref sig .tc := ⟨.hbm, 532, rfl⟩
abbrev main_v434 : Ref sig .tc := ⟨.hbm, 533, rfl⟩
abbrev main_v435 : Ref sig .tc := ⟨.hbm, 534, rfl⟩
abbrev main_v436 : Ref sig .tc := ⟨.hbm, 535, rfl⟩
abbrev main_v437 : Ref sig .tc := ⟨.hbm, 536, rfl⟩
abbrev main_v438 : Ref sig .tc := ⟨.hbm, 537, rfl⟩
abbrev main_v439 : Ref sig .tc := ⟨.hbm, 538, rfl⟩
abbrev main_v440 : Ref sig .tc := ⟨.hbm, 539, rfl⟩
abbrev main_v441 : Ref sig .tc := ⟨.hbm, 540, rfl⟩
abbrev main_v442 : Ref sig .tc := ⟨.hbm, 541, rfl⟩
abbrev main_v443 : Ref sig .tc := ⟨.hbm, 542, rfl⟩

abbrev nD : Nat := 1
abbrev τ : Topo := Topo.v7x

variable {F : FTy → Type} [FloatOps F]
-- ==== Up.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S2816x1024 : Shape := ⟨2, ![2816, 1024]⟩
abbrev S16384x5632 : Shape := ⟨2, ![16384, 5632]⟩
abbrev S16384x2816 : Shape := ⟨2, ![16384, 2816]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1024x2816 : Shape := ⟨2, ![1024, 2816]⟩

abbrev nBuf : Space → Nat
  | .hbm => 12
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024x5632, .f32⟩
  | .hbm, ⟨5, _⟩ => ⟨S1024x5632, .bf16⟩
  | .hbm, ⟨6, _⟩ => ⟨S2816x1024, .f32⟩
  | .hbm, ⟨7, _⟩ => ⟨S2816x1024, .bf16⟩
  | .hbm, ⟨8, _⟩ => ⟨S16384x1024, .f32⟩
  | .hbm, ⟨9, _⟩ => ⟨S16384x1024, .bf16⟩
  | .hbm, ⟨10, _⟩ => ⟨S16384x5632, .bf16⟩
  | .hbm, ⟨11, _⟩ => ⟨S16384x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x5632, .bf16⟩
  | .local _ .vmem, ⟨10, _⟩ => ⟨S256x5632, .bf16⟩
  | .local _ .vmem, ⟨11, _⟩ => ⟨S256x2816, .bf16⟩
  | .local _ .vmem, ⟨12, _⟩ => ⟨S256x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpRefIdeal.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S16384x2816 : Shape := ⟨2, ![16384, 2816]⟩
abbrev S2816x1024 : Shape := ⟨2, ![2816, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x5632, .f32⟩
  | .hbm, ⟨22, _⟩ => ⟨S16384x5632, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S2816x1024, .f32⟩
  | .hbm, ⟨36, _⟩ => ⟨S16384x1024, .f32⟩
  | .hbm, ⟨37, _⟩ => ⟨S16384x1024, .f32⟩
  | .hbm, ⟨38, _⟩ => ⟨S16384x1024, .bf16⟩
  | .hbm, ⟨39, _⟩ => ⟨S16384x5632, .bf16⟩
  | .hbm, ⟨40, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Wgrad.lean ====
abbrev S16384x1024 : Shape := ⟨2, ![16384, 1024]⟩
abbrev S16384x5632 : Shape := ⟨2, ![16384, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S16384x1024, .bf16⟩
  | .hbm, ⟨3, _⟩ => ⟨S16384x5632, .bf16⟩
  | .hbm, ⟨4, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradRefIdeal.lean ====
abbrev S16384x1024 : Shape := ⟨2, ![16384, 1024]⟩
abbrev S16384x5632 : Shape := ⟨2, ![16384, 5632]⟩
abbrev S1024x16384 : Shape := ⟨2, ![1024, 16384]⟩
abbrev S1024x5632 : Shape := ⟨2, ![1024, 5632]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S1024x16384, .f32⟩
  | .hbm, ⟨3, _⟩ => ⟨S1024x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Adam.lean ====
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S1024x1408, .f32⟩
  | .hbm, ⟨10, _⟩ => ⟨S1024x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S1x1024x1408 : Shape := ⟨3, ![1, 1024, 1408]⟩
abbrev S_ : Shape := ⟨0, ![]⟩
abbrev S1024x1408 : Shape := ⟨2, ![1024, 1408]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S_, .f32⟩
  | .hbm, ⟨5, _⟩ => ⟨S1x1024x1408, .f32⟩
  | .hbm, ⟨6, _⟩ => ⟨S1x1024x1408, .f32⟩
  | .hbm, ⟨7, _⟩ => ⟨S_, .f32⟩
  | .hbm, ⟨8, _⟩ => ⟨S1x1024x1408, .f32⟩
  | .hbm, ⟨9, _⟩ => ⟨S1x1024x1408, .f32⟩
  | .hbm, ⟨10, _⟩ => ⟨S1x1024x1408, .f32⟩
  | .hbm, ⟨11, _⟩ => ⟨S_, .f32⟩
  | .hbm, ⟨12, _⟩ => ⟨S1x1024x1408, .f32⟩
  | .hbm, ⟨13, _⟩ => ⟨S1x1024x1408, .f32⟩
  | .hbm, ⟨14, _⟩ => ⟨S1x1024x1408, .f32⟩
  | .hbm, ⟨15, _⟩ => ⟨S_, .f32⟩
  | .hbm, ⟨16, _⟩ => ⟨S1x1024x1408, .f32⟩
  | .hbm, ⟨17, _⟩ => ⟨S1x1024x1408, .f32⟩
  | .hbm, ⟨18, _⟩ => ⟨S1x1024x1408, .f32⟩
  | .hbm, ⟨19, _⟩ => ⟨S_, .f32⟩
  | .hbm, ⟨20, _⟩ => ⟨S1x1024x1408, .f32⟩
  | .hbm, ⟨21, _⟩ => ⟨S1x1024x1408, .f32⟩
  | .hbm, ⟨22, _⟩ => ⟨S_, .f32⟩
  | .hbm, ⟨23, _⟩ => ⟨S1x1024x1408, .f32⟩
  | .hbm, ⟨24, _⟩ => ⟨S1x1024x1408, .f32⟩
  | .hbm, ⟨25, _⟩ => ⟨S1x1024x1408, .f32⟩
  | .hbm, ⟨26, _⟩ => ⟨S_, .f32⟩
  | .hbm, ⟨27, _⟩ => ⟨S1x1024x1408, .f32⟩
  | .hbm, ⟨28, _⟩ => ⟨S1x1024x1408, .f32⟩
  | .hbm, ⟨29, _⟩ => ⟨S1x1024x1408, .f32⟩
  | .hbm, ⟨30, _⟩ => ⟨S_, .f32⟩
  | .hbm, ⟨31, _⟩ => ⟨S1x1024x1408, .f32⟩
  | .hbm, ⟨32, _⟩ => ⟨S1x1024x1408, .f32⟩
  | .hbm, ⟨33, _⟩ => ⟨S1x1024x1408, .f32⟩
  | .hbm, ⟨34, _⟩ => ⟨S_, .f32⟩
  | .hbm, ⟨35, _⟩ => ⟨S1x1024x1408, .f32⟩
  | .hbm, ⟨36, _⟩ => ⟨S1x1024x1408, .f32⟩
  | .hbm, ⟨37, _⟩ => ⟨S1024x1408, .f32⟩
  | .hbm, ⟨38, _⟩ => ⟨S1024x1408, .f32⟩
  | .hbm, ⟨39, _⟩ => ⟨S1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Scalars.lean ====
/- Facts about scalar functions over the extended reals that several of the value proofs share. -/
module

public import Idealize.ShloMosaic.Lib.Pipeline.ValueKit
public import Idealize.ShloMosaic.Lib.Pointwise

@[expose] public section

noncomputable section

open Idealize.ShloMosaic

namespace Cert.Scalars

theorem ofBits_half : Ideal.ofBits .f32 0x3F000000#32 = ((1 / 2 : ℝ) : EReal) := by
  simp [Ideal.ofBits, Ideal.ieee, -EReal.coe_mul]; norm_num

theorem real_half_tanh (r : ℝ) : 1 / 2 * Real.tanh (1 / 2 * r) + 1 / 2 = 1 / (1 + Real.exp (-r)) := by
  have h : Real.exp (-r) = Real.exp (-(1 / 2 * r)) * Real.exp (-(1 / 2 * r)) := by
    rw [← Real.exp_add]; congr 1; ring
  have h1 : Real.exp (1 / 2 * r) * Real.exp (-(1 / 2 * r)) = 1 := by rw [← Real.exp_add]; simp
  have p := Real.exp_pos (1 / 2 * r)
  have q := Real.exp_pos (-(1 / 2 * r))
  rw [h, Real.tanh_eq_sinh_div_cosh, Real.sinh_eq, Real.cosh_eq]
  generalize Real.exp (1 / 2 * r) = a at *
  generalize Real.exp (-(1 / 2 * r)) = b at *
  have : a = 1 / b := by field_simp; linarith
  subst this
  field_simp
  ring

/-- The logistic function written with the hyperbolic tangent, at every extended real. -/
theorem half_tanh (x : EReal) : Ideal.ofBits .f32 0x3F000000#32 * Ideal.tanh (Ideal.ofBits .f32 0x3F000000#32 * x)
    + Ideal.ofBits .f32 0x3F000000#32 = Ideal.div 1 (1 + Ideal.exp (-x)) := by
  rw [ofBits_half]
  induction x with
  | bot =>
    rw [EReal.coe_mul_bot_of_pos (by norm_num), Ideal.tanh_bot, EReal.neg_bot, Ideal.exp_top]
    have : (1 : EReal) + ⊤ = ⊤ := by rfl
    rw [this, Ideal.div, if_neg (by simp), EReal.inv_top, mul_zero]
    have : (-1 : EReal) = ((-1 : ℝ) : EReal) := by simp
    rw [this, ← EReal.coe_mul, ← EReal.coe_add]; norm_num
  | top =>
    rw [EReal.coe_mul_top_of_pos (by norm_num), Ideal.tanh_top, EReal.neg_top, Ideal.exp_bot, mul_one, add_zero]
    rw [← EReal.coe_one, Ideal.div_coe one_ne_zero, ← EReal.coe_mul, ← EReal.coe_add]; norm_num
  | coe r =>
    rw [← EReal.coe_mul, Ideal.tanh_coe, ← EReal.coe_mul, ← EReal.coe_add, real_half_tanh, ← EReal.coe_neg, Ideal.exp_coe,
      ← EReal.coe_one, ← EReal.coe_add, Ideal.div_coe (by positivity), ← EReal.coe_mul]
    norm_num

/-- The integer zero converted is zero. -/
theorem sitofp_zero : (FloatOps.sitofp .f32 (0#32 : BitVec 32) : Ideal .f32) = 0 := by
  show ((((0#32 : BitVec 32).toInt : ℤ) : ℝ) : EReal) = 0
  simp

end Cert.Scalars

end
-- ==== Proof.Rows.lean ====
/- A buffer whose rows are stored one at a time: what reading it gives, row by row. -/
module

public import Idealize.ShloMosaic.Lib.VecWindow
public import Idealize.ShloMosaic.Lib.Pipeline.ValueKit
public import Idealize.ShloMosaic.Lib.Pointwise

@[expose] public section

noncomputable section

open Idealize.ShloMosaic Idealize.ShloMosaic.TcCoe Idealize.SL.Sem

namespace Cert.Rows

variable {Val : EltTy → Type} {e : EltTy} {r n : Nat}

/-- The array `x` with row `k` replaced by `w`. -/
def put (x : (⟨2, ![r, n]⟩ : Shape).Idx → Val e) (k : Nat) (w : (⟨2, ![1, n]⟩ : Shape).Idx → Val e) : (⟨2, ![r, n]⟩ : Shape).Idx → Val e :=
  fun y => if (y (0 : Fin 2)).val = k then w (ix2 0 (y (1 : Fin 2))) else x y

/-- Row `k` of the array `x`. -/
def row (x : (⟨2, ![r, n]⟩ : Shape).Idx → Val e) (k : Nat) (hk : k < r) : (⟨2, ![1, n]⟩ : Shape).Idx → Val e :=
  fun y => x (ix2 ⟨k, hk⟩ (y (1 : Fin 2)))

/-- Row `k` of an array whose row `k` was just replaced. -/
theorem row_put_same (x : (⟨2, ![r, n]⟩ : Shape).Idx → Val e) (k : Nat) (hk : k < r) (w : (⟨2, ![1, n]⟩ : Shape).Idx → Val e) :
    row (put x k w) k hk = w := by
  funext y
  show (if k = k then w (ix2 0 (y (1 : Fin 2))) else _) = w y
  rw [if_pos rfl]
  congr 1
  funext a
  match a with
  | ⟨0, _⟩ => exact Subsingleton.elim (α := Fin 1) _ _
  | ⟨1, _⟩ => rfl

/-- Another row is as it was. -/
theorem row_put_ne (x : (⟨2, ![r, n]⟩ : Shape).Idx → Val e) (k k' : Nat) (hk : k' < r) (w : (⟨2, ![1, n]⟩ : Shape).Idx → Val e) (h : k' ≠ k) :
    row (put x k w) k' hk = row x k' hk := by
  funext y
  exact if_neg h

/-- A load of one row of the contents `x`. -/
theorem ld_row (x : (⟨2, ![r, n]⟩ : Shape).Idx → Val e) (k : Nat) (inb : ∀ a, (![k, 0] : Fin 2 → Nat) a + (![1, n] : Fin 2 → Nat) a ≤ (![r, n] : Fin 2 → Nat) a) :
    View.ld (Val := Val) x (Rect.unit (s := ⟨2, ![r, n]⟩) ![k, 0] ![1, n] inb) = row x k (by have := inb 0; simpa using this) := by
  funext y
  refine congrArg x (funext fun a => Fin.ext ?_)
  match a with
  | ⟨0, _⟩ =>
    have h1 : (y (0 : Fin 2)).val < 1 := (y (0 : Fin 2)).isLt
    show k + 1 * (y (0 : Fin 2)).val = k
    omega
  | ⟨1, _⟩ => show 0 + 1 * (y (1 : Fin 2)).val = (y (1 : Fin 2)).val; omega

/-- A load of a rectangle of the contents `x`, at an index. -/
theorem ld_rect {p q : Nat} (x : (⟨2, ![r, n]⟩ : Shape).Idx → Val e) (k o : Nat)
    (inb : ∀ a, (![k, o] : Fin 2 → Nat) a + (![p, q] : Fin 2 → Nat) a ≤ (![r, n] : Fin 2 → Nat) a) (a : Fin p) (b : Fin q)
    (i : Fin r) (j : Fin n) (hi : i.val = k + a.val) (hj : j.val = o + b.val) :
    View.ld (Val := Val) x (Rect.unit (s := ⟨2, ![r, n]⟩) ![k, o] ![p, q] inb) (ix2 a b) = x (ix2 i j) := by
  refine congrArg x (funext fun c => Fin.ext ?_)
  match c with
  | ⟨0, _⟩ => show k + 1 * a.val = i.val; omega
  | ⟨1, _⟩ => show o + 1 * b.val = j.val; omega

/-- A store of one row over any earlier stores. -/
theorem read_writes_row {sig : RefSig} {κ : Kind} {sp : Space} (v : View sig κ sp ⟨2, ![r, n]⟩ e) (f : v.ty.Contents Val) (k : Nat)
    (inb : ∀ a, (![k, 0] : Fin 2 → Nat) a + (![1, n] : Fin 2 → Nat) a ≤ (![r, n] : Fin 2 → Nat) a)
    (w : (⟨2, ![1, n]⟩ : Shape).Idx → Val e) (L : List (View.Piece Val ⟨2, ![r, n]⟩ e)) :
    v.read Val (v.writes Val f ((⟨Rect.unit (s := ⟨2, ![r, n]⟩) ![k, 0] ![1, n] inb, w⟩ : View.Piece Val ⟨2, ![r, n]⟩ e) :: L))
      = put (v.read Val (v.writes Val f L)) k w := by
  funext y
  show _ = if (y (0 : Fin 2)).val = k then w (ix2 0 (y (1 : Fin 2))) else _
  split
  · next h =>
    refine View.read_writes_cons_rows_of_mem v f inb w L y (ix2 0 (y (1 : Fin 2))) rfl ?_ rfl
    show _ = k + 0
    omega
  · next h => exact View.read_writes_cons_rows_of_not_mem (W := 1) v f inb w L y rfl rfl (by omega)

/-- The same for the contents a list of stores alone determines. -/
theorem canon_row [∀ e, Nonempty (Val e)] (k : Nat)
    (inb : ∀ a, (![k, 0] : Fin 2 → Nat) a + (![1, n] : Fin 2 → Nat) a ≤ (![r, n] : Fin 2 → Nat) a)
    (w : (⟨2, ![1, n]⟩ : Shape).Idx → Val e) (L : List (View.Piece Val ⟨2, ![r, n]⟩ e)) :
    View.canon ((⟨Rect.unit (s := ⟨2, ![r, n]⟩) ![k, 0] ![1, n] inb, w⟩ : View.Piece Val ⟨2, ![r, n]⟩ e) :: L)
      = put (View.canon L) k w := by
  funext y
  show _ = if (y (0 : Fin 2)).val = k then w (ix2 0 (y (1 : Fin 2))) else _
  split
  · next h =>
    have hy : (Rect.unit (s := ⟨2, ![r, n]⟩) ![k, 0] ![1, n] inb).emb (ix2 0 (y (1 : Fin 2))) = y := funext fun a => Fin.ext (by
      match a with
      | ⟨0, _⟩ => show k + 1 * 0 = (y (0 : Fin 2)).val; omega
      | ⟨1, _⟩ => show 0 + 1 * (y (1 : Fin 2)).val = (y (1 : Fin 2)).val; omega)
    have hc := View.canon_cons_emb (Rect.unit (s := ⟨2, ![r, n]⟩) ![k, 0] ![1, n] inb) w L (ix2 0 (y (1 : Fin 2)))
    rwa [hy] at hc
  · next h =>
    refine View.canon_cons_of_not_mem _ L fun hm => ?_
    have := ((Rect.mem_set_unit (inb := inb)).mp hm) (0 : Fin 2)
    have h1 : k ≤ (y (0 : Fin 2)).val ∧ (y (0 : Fin 2)).val < k + 1 := this
    omega

/-- A load of one row after a list of stores. -/
theorem readCov_row [∀ e, Nonempty (Val e)] {sig : RefSig} {κ : Kind} {sp : Space} (v : View sig κ sp ⟨2, ![r, n]⟩ e) (k : Nat)
    (inb : ∀ a, (![k, 0] : Fin 2 → Nat) a + (![1, n] : Fin 2 → Nat) a ≤ (![r, n] : Fin 2 → Nat) a)
    (L : List (View.Piece Val ⟨2, ![r, n]⟩ e)) :
    v.readCov L (Rect.unit (s := ⟨2, ![r, n]⟩) ![k, 0] ![1, n] inb).toLoadRect = row (View.canon L) k (by have := inb 0; simpa using this) := by
  rw [View.readCov_eq_canon']
  exact ld_row (View.canon L) k inb

/-- Reading an array after a row was replaced, at an index. -/
theorem put_apply (x : (⟨2, ![r, n]⟩ : Shape).Idx → Val e) (k : Nat) (w : (⟨2, ![1, n]⟩ : Shape).Idx → Val e) (y : (⟨2, ![r, n]⟩ : Shape).Idx) :
    put x k w y = if (y (0 : Fin 2)).val = k then w (ix2 0 (y (1 : Fin 2))) else x y := rfl

/-- A row at an index. -/
theorem row_apply (x : (⟨2, ![r, n]⟩ : Shape).Idx → Val e) (k : Nat) (hk : k < r) (y : (⟨2, ![1, n]⟩ : Shape).Idx) :
    row x k hk y = x (ix2 ⟨k, hk⟩ (y (1 : Fin 2))) := rfl

/-- The row of an array at an index of that row. -/
theorem row_apply_of_eq (x : (⟨2, ![r, n]⟩ : Shape).Idx → Val e) (k : Nat) (hk : k < r) (y : (⟨2, ![r, n]⟩ : Shape).Idx) (h : (y (0 : Fin 2)).val = k) :
    row x k hk (ix2 0 (y (1 : Fin 2))) = x y := by
  refine congrArg x (funext fun a => Fin.ext ?_)
  match a with
  | ⟨0, _⟩ => exact h.symm
  | ⟨1, _⟩ => rfl

/-- The sum of a matrix's column. -/
def total {R : Nat} (x : (⟨2, ![R, n]⟩ : Shape).Idx → EReal) (b : Fin n) : EReal := ∑ k : Fin R, x (ix2 k b)

/-- What a list of row updates adds to an array: row `k` gets `g`, for the first entry `(k, g)` of the row. -/
def added : List (Nat × (Fin n → EReal)) → (⟨2, ![r, n]⟩ : Shape).Idx → EReal
  | [], _ => 0
  | (k, g) :: L, y => if (y (0 : Fin 2)).val = k then g (y (1 : Fin 2)) else added L y

theorem base (x : (⟨2, ![r, n]⟩ : Shape).Idx → EReal) (y : (⟨2, ![r, n]⟩ : Shape).Idx) : x y = x y + added [] y := (add_zero _).symm

/-- One more row to whose values `g` was added. -/
theorem step (x x' : (⟨2, ![r, n]⟩ : Shape).Idx → EReal) (k : Nat) (hk : k < r) (w : (⟨2, ![1, n]⟩ : Shape).Idx → EReal) (g : Fin n → EReal)
    (L : List (Nat × (Fin n → EReal)))
    (h : ∀ b, w (ix2 0 b) = row (Val := Elt Ideal) (e := .f32) x k hk (ix2 0 b) + g b) (y : (⟨2, ![r, n]⟩ : Shape).Idx) (hL : x' y = x y + added L y) :
    put (Val := Elt Ideal) (e := .f32) x' k w y = x y + added ((k, g) :: L) y := by
  show (if (y (0 : Fin 2)).val = k then w (ix2 0 (y (1 : Fin 2))) else x' y) = x y + if (y (0 : Fin 2)).val = k then g (y (1 : Fin 2)) else added L y
  split
  · next hy =>
    refine (h (y (1 : Fin 2))).trans ?_
    exact congrArg (· + g (y (1 : Fin 2))) (row_apply_of_eq (Val := Elt Ideal) (e := .f32) x k hk y hy)
  · exact hL

end Cert.Rows

end
-- ==== Proof.GatesValue.lean ====
/- The value facts of the branch gates' backward call: what each result array holds after the run. -/
module

public import proofs.«01_k».proof.Proof.Gen.GatesIdeal.Frame
public import proofs.«01_k».proof.Proof.Gen.GatesRefIdeal.Read
public import proofs.«01_k».proof.Proof.Scalars
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.GatesIdeal.Value

open Cert.GatesIdeal Cert.GatesIdeal.Gen

variable (m : (ℓ : Loc nD τ sig) → Buf (Elt Ideal) ℓ)

/-- every window's block index at every grid point, in closed form (decided). Use: `obtain ⟨e0, e1, e2, e3, e4, e5, e6, e7, e8, e9, e10⟩ := idx t`, then
    `blk_simp [e0, …]` / `blk_ext [e0, …]` put block embeddings at coordinates (value_ideal.md §3). -/
theorem idx : ∀ t : Fin cfg0.N, win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![0, 0]
    ∧ win0_5.index t = ![0, 0]
    ∧ win0_6.index t = ![(grid0.coords t 0).val, 0]
    ∧ win0_7.index t = ![(grid0.coords t 0).val, 0]
    ∧ win0_8.index t = ![(grid0.coords t 0).val, 0]
    ∧ win0_9.index t = ![0, 0]
    ∧ win0_10.index t = ![0, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![0, 0]
    ∧ win0_10.index t = ![0, 0] :=
  (by decide +kernel : ∀ t : Fin grid0.N, _)

open Cert.GatesRefIdeal.Read

/-- The gradient towards the first branch, at an index of a block. -/
theorem point_7 (c : Dev nD) (t : Fin cfg0.N) (y : S512x1024.Idx) :
    k0_pay19 (F := Ideal) (k0_pay4 (iblk m c 0 t) (iblk m c 5 t)) (k0_pay6 (iblk m c 1 t) (iblk m c 4 t)) y
    = val_main_v43 (F := Ideal) (m ((c : Thread nD τ).loc main_arg0)) (m ((c : Thread nD τ).loc main_arg1)) (m ((c : Thread nD τ).loc main_arg4)) (m ((c : Thread nD τ).loc main_arg5)) (((cfg0.win 7).blk t).view.emb y) := by
  pointwise [k0_pay19, k0_pay4, k0_pay3, k0_pay6, k0_pay5, val_main_v43, val_main_v31, val_main_v15, val_main_v14, val_main_v10, val_main_v9, val_main_v8, val_main_v7, val_main_v6, val_main_v5, val_main_v4, val_main_v3, val_main_v2, val_main_v1, val_main_v0, val_main_cst, val_main_cst_0, val_main_v25, val_main_v21]
  simp only [Cert.Scalars.half_tanh]
  rw [mul_comm]
  blk_point [iblk, V, idx_val t]

/-- The gradient towards the second branch, at an index of a block. -/
theorem point_8 (c : Dev nD) (t : Fin cfg0.N) (y : S512x1024.Idx) :
    k0_pay20 (F := Ideal) (k0_pay4 (iblk m c 0 t) (iblk m c 5 t)) (k0_pay7 (iblk m c 1 t) (iblk m c 4 t)) y
    = val_main_v44 (F := Ideal) (m ((c : Thread nD τ).loc main_arg0)) (m ((c : Thread nD τ).loc main_arg1)) (m ((c : Thread nD τ).loc main_arg4)) (m ((c : Thread nD τ).loc main_arg5)) (((cfg0.win 8).blk t).view.emb y) := by
  pointwise [k0_pay20, k0_pay4, k0_pay3, k0_pay7, k0_pay5, val_main_v44, val_main_v27, val_main_v18, val_main_v17, val_main_v10, val_main_v9, val_main_v8, val_main_v7, val_main_v6, val_main_v5, val_main_v4, val_main_v3, val_main_v2, val_main_v1, val_main_v0, val_main_cst, val_main_cst_0, val_main_v25, val_main_v21]
  simp only [Cert.Scalars.half_tanh]
  rw [mul_comm]
  blk_point [iblk, V, idx_val t]

theorem final_7 (c : Dev nD) : (dats m 0 c).arrAt 7 (cfgs 0).N = val_main_v43 (F := Ideal) (m ((c : Thread nD τ).loc main_arg0)) (m ((c : Thread nD τ).loc main_arg1)) (m ((c : Thread nD τ).loc main_arg4)) (m ((c : Thread nD τ).loc main_arg5)) := by
  refine (dats m 0 c).arrAt_eq_of_covers 7 _ (by decide +kernel) fun t hf y => ?_
  blk_simp; rw [after0_7]
  by_cases h : t.val % 32 = 0
  · rw [outsAt0_A m c t h]; dsimp only; frame_out
    exact point_7 m c t y
  · rw [outsAt0_B m c t h]; dsimp only; frame_out
    exact point_7 m c t y

theorem final_8 (c : Dev nD) : (dats m 0 c).arrAt 8 (cfgs 0).N = val_main_v44 (F := Ideal) (m ((c : Thread nD τ).loc main_arg0)) (m ((c : Thread nD τ).loc main_arg1)) (m ((c : Thread nD τ).loc main_arg4)) (m ((c : Thread nD τ).loc main_arg5)) := by
  refine (dats m 0 c).arrAt_eq_of_covers 8 _ (by decide +kernel) fun t hf y => ?_
  blk_simp; rw [after0_8]
  by_cases h : t.val % 32 = 0
  · rw [outsAt0_A m c t h]; dsimp only; frame_out
    exact point_8 m c t y
  · rw [outsAt0_B m c t h]; dsimp only; frame_out
    exact point_8 m c t y

theorem final_9 (c : Dev nD) : (dats m 0 c).arrAt 9 (cfgs 0).N = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have hp (a b : FVec Ideal S1024x1024 .f32) (j : S1024x1024.Idx) : k0_pay12 (F := Ideal) (k0_pay10 a) b j = a j + b j := by
    pointwise [k0_pay12, k0_pay10]
  have hp0 (b : FVec Ideal S1024x1024 .f32) (j : S1024x1024.Idx) : k0_pay12 (F := Ideal) (k0_pay10 (k0_pay1 (F := Ideal))) b j = 0 + b j := by
    rw [hp]; pointwise [k0_pay1]
  refine (dats m 0 c).arrAt_eq_of_covers 9 _ (by decide +kernel) fun t hf y => ?_
  blk_simp
  rw [after0_9, Pipeline.eq_sum_fin_of_reset_step_apply_of_flush (fun n h => (outsAt0 m c n h).2.2.2.1) 32 (fun _ => 0) _
    (fun t h j => by rw [outsAt0_A m c t h]; frame_out; rw [hp0])
    (fun t h j => by rw [outsAt0_B m c t h]; frame_out; rw [hp])
    t ((flush0_9 t).mp hf) _, zero_add]
  pointwise [k0_pay11, k0_pay5, k0_pay6, k0_pay7, k0_pay8, k0_pay9, k0_pay3, k0_pay4, val_main_v45, val_main_v26, val_main_v24, val_main_v23, val_main_v20, val_main_v19, val_main_v16, val_main_v18, val_main_v17, val_main_v15, val_main_v14, val_main_v10, val_main_v9, val_main_v8, val_main_v7, val_main_v6, val_main_v5, val_main_v4, val_main_v3, val_main_v2, val_main_v1, val_main_v0, val_main_cst, val_main_cst_0, val_main_v25, val_main_v21]
  simp only [Cert.Scalars.half_tanh]
  refine Fin.sum_mul_add_congr fun s k hl => ?_
  rw [mul_comm]
  blk_point [iblk, V, idx_val t, idx_val ⟨_, Pipeline.run_point_lt_of_flush t ((flush0_9 t).mp hf) s⟩]

/-- What one block of rows adds to the two sums over rows. -/
def added_10 (c : Dev nD) (t : Fin cfg0.N) : S8x1024.Idx → EReal :=
  Cert.Rows.added [(1, Cert.Rows.total (k0_pay14 (F := Ideal) (k0_pay4 (iblk m c 0 t) (iblk m c 5 t)) (k0_pay7 (iblk m c 1 t) (iblk m c 4 t)) (k0_pay9 (iblk m c 3 t)))),
    (0, Cert.Rows.total (k0_pay13 (F := Ideal) (k0_pay4 (iblk m c 0 t) (iblk m c 5 t)) (k0_pay6 (iblk m c 1 t) (iblk m c 4 t)) (k0_pay8 (iblk m c 2 t))))]

theorem run_10 (c : Dev nD) (t : Fin cfg0.N) (hf : (cfg0.win 10).flush t = true) (y : S8x1024.Idx) :
    (outsAt0 m c t.val t.isLt).2.2.2.2 y = ∑ s : Fin 32, added_10 m c ⟨32 * (t.val / 32) + s.val, Pipeline.run_point_lt_of_flush t ((flush0_10 t).mp hf) s⟩ y := by
  have hz (y : S8x1024.Idx) : k0_pay2 (F := Ideal) y = (0 : EReal) := by pointwise [k0_pay2]
  have h1 (a : FVec Ideal S512x1024 .f32) (b : FVec Ideal S512x1024 .f32) (d : FVec Ideal S512x1024 .f32) (r : FVec Ideal S1x1024 .f32) (k : Fin 1024) :
      k0_pay16 (F := Ideal) a b d r (ix2 0 k) = r (ix2 0 k) + Cert.Rows.total (k0_pay14 (F := Ideal) a b d) k := by
    pointwise [k0_pay16]
    rfl
  have h0 (a : FVec Ideal S512x1024 .f32) (b : FVec Ideal S512x1024 .f32) (d : FVec Ideal S512x1024 .f32) (r : FVec Ideal S1x1024 .f32) (k : Fin 1024) :
      k0_pay15 (F := Ideal) a b d r (ix2 0 k) = r (ix2 0 k) + Cert.Rows.total (k0_pay13 (F := Ideal) a b d) k := by
    pointwise [k0_pay15]
    rfl
  rw [Pipeline.eq_sum_fin_of_reset_step_apply_of_flush (fun n h => (outsAt0 m c n h).2.2.2.2) 32 (fun _ => 0)
    (fun t j => added_10 m c t j)
    (fun t h j => by
      rw [outsAt0_A m c t h]; frame_out
      rw [Cert.Rows.canon_row, Cert.Rows.canon_row, Cert.Rows.readCov_row, Cert.Rows.readCov_row, Cert.Rows.canon_row, View.canon_cons_unit_lit _ _ _ (by decide)]
      rw [Cert.Rows.row_put_ne _ _ _ _ _ (by decide)]
      conv_rhs => lhs; rw [← hz j]
      exact Cert.Rows.step _ _ 1 (by decide) _ _ _ (h1 _ _ _ _) j (Cert.Rows.step _ _ 0 (by decide) _ _ _ (h0 _ _ _ _) j (Cert.Rows.base _ j)))
    (fun t h j => by
      rw [outsAt0_B m c t h]; frame_out
      rw [Cert.Rows.read_writes_row, Cert.Rows.read_writes_row, Cert.Rows.ld_row, Cert.Rows.ld_row]
      rw [View.writes_nil, Memref.IsWhole.read_unread]
      exact Cert.Rows.step _ _ 1 (by decide) _ _ _ (h1 _ _ _ _) j (Cert.Rows.step _ _ 0 (by decide) _ _ _ (h0 _ _ _ _) j (Cert.Rows.base _ j)))
    t ((flush0_10 t).mp hf) _, zero_add]

theorem row0_10 (c : Dev nD) (t : Fin cfg0.N) (hf : (cfg0.win 10).flush t = true) (y : S8x1024.Idx) (hy : (y (0 : Fin 2)).val = 0) :
    (∑ s : Fin 32, Cert.Rows.total (k0_pay13 (F := Ideal) (k0_pay4 (iblk m c 0 ⟨32 * (t.val / 32) + s.val, Pipeline.run_point_lt_of_flush t ((flush0_10 t).mp hf) s⟩) (iblk m c 5 ⟨32 * (t.val / 32) + s.val, Pipeline.run_point_lt_of_flush t ((flush0_10 t).mp hf) s⟩)) (k0_pay6 (iblk m c 1 ⟨32 * (t.val / 32) + s.val, Pipeline.run_point_lt_of_flush t ((flush0_10 t).mp hf) s⟩) (iblk m c 4 ⟨32 * (t.val / 32) + s.val, Pipeline.run_point_lt_of_flush t ((flush0_10 t).mp hf) s⟩)) (k0_pay8 (iblk m c 2 ⟨32 * (t.val / 32) + s.val, Pipeline.run_point_lt_of_flush t ((flush0_10 t).mp hf) s⟩))) (y (1 : Fin 2)))
    = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 10).blk t).view.emb y) := by
  pointwise [Cert.Rows.total, k0_pay13, k0_pay8, k0_pay4, k0_pay3, k0_pay6, k0_pay5, val_main_v47, val_main_call0_v0, val_main_c, val_main_v46, val_main_v40, val_main_v39, val_main_cst_5, val_main_v38, val_main_v37, val_main_cst_4, val_main_v36, val_main_v35, val_main_v34, val_main_v33, val_main_v32, val_main_v30, val_main_v29, val_main_v28, val_main_v13, val_main_v12, val_main_v11, val_main_cst_1, val_main_cst_2, val_main_cst_3, val_main_v10, val_main_v9, val_main_v8, val_main_v7, val_main_v6, val_main_v5, val_main_v4, val_main_v3, val_main_v2, val_main_v1, val_main_v0, val_main_cst, val_main_cst_0, val_main_v25, val_main_v21]
  simp only [Cert.Scalars.half_tanh]
  have e0 : ((((cfg0.win 10).blk t).view.emb y) (0 : Fin 2)).val = 0 := by refine Eq.trans ?_ hy; blk_simp [idx_val t]
  simp only [e0, Nat.reduceLT, Nat.reduceLeDiff, Nat.reduceSub, false_and, true_and, reduceDIte, zero_add, Finset.univ_unique, Finset.sum_singleton, mul_assoc]
  refine Fin.sum_mul_add_congr fun s k hl => ?_
  blk_point [iblk, V, idx_val t, idx_val ⟨32 * (t.val / 32) + s.val, Pipeline.run_point_lt_of_flush t ((flush0_10 t).mp hf) s⟩]

theorem row1_10 (c : Dev nD) (t : Fin cfg0.N) (hf : (cfg0.win 10).flush t = true) (y : S8x1024.Idx) (hy : (y (0 : Fin 2)).val = 1) :
    (∑ s : Fin 32, Cert.Rows.total (k0_pay14 (F := Ideal) (k0_pay4 (iblk m c 0 ⟨32 * (t.val / 32) + s.val, Pipeline.run_point_lt_of_flush t ((flush0_10 t).mp hf) s⟩) (iblk m c 5 ⟨32 * (t.val / 32) + s.val, Pipeline.run_point_lt_of_flush t ((flush0_10 t).mp hf) s⟩)) (k0_pay7 (iblk m c 1 ⟨32 * (t.val / 32) + s.val, Pipeline.run_point_lt_of_flush t ((flush0_10 t).mp hf) s⟩) (iblk m c 4 ⟨32 * (t.val / 32) + s.val, Pipeline.run_point_lt_of_flush t ((flush0_10 t).mp hf) s⟩)) (k0_pay9 (iblk m c 3 ⟨32 * (t.val / 32) + s.val, Pipeline.run_point_lt_of_flush t ((flush0_10 t).mp hf) s⟩))) (y (1 : Fin 2)))
    = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 10).blk t).view.emb y) := by
  pointwise [Cert.Rows.total, k0_pay14, k0_pay9, k0_pay4, k0_pay3, k0_pay7, k0_pay5, val_main_v47, val_main_call0_v0, val_main_c, val_main_v46, val_main_v40, val_main_v39, val_main_cst_5, val_main_v38, val_main_v37, val_main_cst_4, val_main_v36, val_main_v35, val_main_v34, val_main_v33, val_main_v32, val_main_v30, val_main_v29, val_main_v28, val_main_v13, val_main_v12, val_main_v11, val_main_cst_1, val_main_cst_2, val_main_cst_3, val_main_v10, val_main_v9, val_main_v8, val_main_v7, val_main_v6, val_main_v5, val_main_v4, val_main_v3, val_main_v2, val_main_v1, val_main_v0, val_main_cst, val_main_cst_0, val_main_v25, val_main_v21]
  simp only [Cert.Scalars.half_tanh]
  have e0 : ((((cfg0.win 10).blk t).view.emb y) (0 : Fin 2)).val = 1 := by refine Eq.trans ?_ hy; blk_simp [idx_val t]
  simp only [e0, Nat.reduceLT, Nat.reduceLeDiff, Nat.reduceSub, false_and, true_and, reduceDIte, add_zero, Finset.univ_unique, Finset.sum_singleton, mul_assoc]
  refine Fin.sum_mul_add_congr fun s k hl => ?_
  blk_point [iblk, V, idx_val t, idx_val ⟨32 * (t.val / 32) + s.val, Pipeline.run_point_lt_of_flush t ((flush0_10 t).mp hf) s⟩]

theorem final_10 (c : Dev nD) : (dats m 0 c).arrAt 10 (cfgs 0).N = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10]
  refine (run_10 m c t hf y).trans ?_
  by_cases g0 : (y (0 : Fin 2)).val = 0
  · refine Eq.trans (Finset.sum_congr rfl fun s _ => ?_) (row0_10 m c t hf y g0)
    exact (if_neg (by omega)).trans (if_pos g0)
  by_cases g1 : (y (0 : Fin 2)).val = 1
  · refine Eq.trans (Finset.sum_congr rfl fun s _ => ?_) (row1_10 m c t hf y g1)
    exact if_pos g1
  · refine Eq.trans (Finset.sum_eq_zero fun s _ => (if_neg g1).trans (if_neg g0)) ?_
    have e0 : ((((cfg0.win 10).blk t).view.emb y) (0 : Fin 2)).val = (y (0 : Fin 2)).val := by blk_simp [idx_val t]
    pointwise [val_main_v47, val_main_call0_v0, val_main_c]
    simp only [e0]
    rw [dif_neg (by omega)]
    exact (Cert.Scalars.sitofp_zero).symm

theorem row_lt (t : Fin cfg0.N) (a : Fin 512) : t.val * 512 + a.val < 16384 := by
  have h : t.val < 32 := t.isLt
  have h' := a.isLt
  omega

theorem col_left (b : Fin 1024) : b.val < 2048 := by
  have h : b.val < 1024 := b.isLt
  omega

theorem col_right (b : Fin 1024) : 1024 + b.val < 2048 := by
  have h : b.val < 1024 := b.isLt
  omega

theorem read_0 (c : Dev nD) (t : Fin cfg0.N) (a : Fin 512) (k : Fin 1024) :
    iblk m c 0 t (ix2 a k) = m ((c : Thread nD τ).loc main_arg0) (ix2 ⟨t.val * 512 + a.val, row_lt t a⟩ k) := by
  blk_ext [iblk, V, idx_val t]

theorem read_1 (c : Dev nD) (t : Fin cfg0.N) (a : Fin 512) (k : Fin 2048) :
    iblk m c 1 t (ix2 a k) = m ((c : Thread nD τ).loc main_arg1) (ix2 ⟨t.val * 512 + a.val, row_lt t a⟩ k) := by
  blk_ext [iblk, V, idx_val t]

theorem read_2 (c : Dev nD) (t : Fin cfg0.N) (a : Fin 512) (b : Fin 1024) :
    iblk m c 2 t (ix2 a b) = m ((c : Thread nD τ).loc main_arg2) (ix2 ⟨t.val * 512 + a.val, row_lt t a⟩ b) := by
  blk_ext [iblk, V, idx_val t]

theorem read_3 (c : Dev nD) (t : Fin cfg0.N) (a : Fin 512) (b : Fin 1024) :
    iblk m c 3 t (ix2 a b) = m ((c : Thread nD τ).loc main_arg3) (ix2 ⟨t.val * 512 + a.val, row_lt t a⟩ b) := by
  blk_ext [iblk, V, idx_val t]

theorem read_4_left (c : Dev nD) (t : Fin cfg0.N) (b : Fin 1024) (h : b.val < 2048) :
    iblk m c 4 t (ix2 0 ⟨b.val, h⟩) = m ((c : Thread nD τ).loc main_arg4) (ix3 0 (⟨0, by decide⟩ : Fin 2) b) := by
  blk_ext! [iblk, V, idx_val t]

theorem read_4_right (c : Dev nD) (t : Fin cfg0.N) (b : Fin 1024) (h : 1024 + b.val < 2048) :
    iblk m c 4 t (ix2 0 ⟨1024 + b.val, h⟩) = m ((c : Thread nD τ).loc main_arg4) (ix3 0 (⟨1, by decide⟩ : Fin 2) b) := by
  blk_ext! [iblk, V, idx_val t]

theorem read_5 (c : Dev nD) (t : Fin cfg0.N) (b : Fin 1024) (k : Fin 1024) :
    iblk m c 5 t (ix2 b k) = m ((c : Thread nD τ).loc main_arg5) (ix3 0 b k) := by
  blk_ext! [iblk, V, idx_val t]

theorem left_at (t : Fin cfg0.N) (a : Fin 512) (b : Fin 1024) :
    ((cfg0.win 6).blk t).view.emb (ix2 a ⟨b.val, col_left b⟩) = ix2 ⟨t.val * 512 + a.val, row_lt t a⟩ ⟨b.val, col_left b⟩ := by
  blk_ext [idx_val t]

theorem left_6 (c : Dev nD) (t : Fin cfg0.N) (a : Fin 512) (b : Fin 1024) :
    k0_pay17 (F := Ideal) (k0_pay4 (iblk m c 0 t) (iblk m c 5 t)) (k0_pay6 (iblk m c 1 t) (iblk m c 4 t)) (k0_pay8 (iblk m c 2 t)) (ix2 a b)
    = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb (ix2 a ⟨b.val, col_left b⟩)) := by
  have hb : (b.val) / 1024 = 0 := by have := b.isLt; omega
  have hr : (b.val) % 1024 = b.val := by have := b.isLt; omega
  have hx : b.val < 1024 := b.isLt
  rw [left_at]
  pointwise [k0_pay17, k0_pay13, k0_pay8, k0_pay4, k0_pay3, k0_pay6, k0_pay5, val_main_v42, val_main_v41, val_main_v36, val_main_v35, val_main_v34, val_main_v33, val_main_v32, val_main_v30, val_main_v29, val_main_v28, val_main_v13, val_main_v12, val_main_v11, val_main_cst_1, val_main_cst_2, val_main_cst_3, val_main_v10, val_main_v9, val_main_v8, val_main_v7, val_main_v6, val_main_v5, val_main_v4, val_main_v3, val_main_v2, val_main_v1, val_main_v0, val_main_cst, val_main_cst_0, val_main_v25, val_main_v21]
  simp only [Cert.Scalars.half_tanh]
  simp only [hb, hr, hx, row_lt t a, and_false, Nat.reduceLT, Nat.reduceLeDiff, Nat.reduceSub, false_and, true_and, and_true, reduceDIte, zero_add, mul_assoc]
  simp only [read_0, read_1, read_2, read_4_left, read_5, zero_mul, zero_add]

theorem right_at (t : Fin cfg0.N) (a : Fin 512) (b : Fin 1024) :
    ((cfg0.win 6).blk t).view.emb (ix2 a ⟨1024 + b.val, col_right b⟩) = ix2 ⟨t.val * 512 + a.val, row_lt t a⟩ ⟨1024 + b.val, col_right b⟩ := by
  blk_ext [idx_val t]

theorem right_6 (c : Dev nD) (t : Fin cfg0.N) (a : Fin 512) (b : Fin 1024) :
    k0_pay18 (F := Ideal) (k0_pay4 (iblk m c 0 t) (iblk m c 5 t)) (k0_pay7 (iblk m c 1 t) (iblk m c 4 t)) (k0_pay9 (iblk m c 3 t)) (ix2 a b)
    = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb (ix2 a ⟨1024 + b.val, col_right b⟩)) := by
  have hb : (1024 + b.val) / 1024 = 1 := by have := b.isLt; omega
  have hr : (1024 + b.val) % 1024 = b.val := by have := b.isLt; omega
  have hx : b.val < 1024 := b.isLt
  rw [right_at]
  pointwise [k0_pay18, k0_pay14, k0_pay9, k0_pay4, k0_pay3, k0_pay7, k0_pay5, val_main_v42, val_main_v41, val_main_v36, val_main_v35, val_main_v34, val_main_v33, val_main_v32, val_main_v30, val_main_v29, val_main_v28, val_main_v13, val_main_v12, val_main_v11, val_main_cst_1, val_main_cst_2, val_main_cst_3, val_main_v10, val_main_v9, val_main_v8, val_main_v7, val_main_v6, val_main_v5, val_main_v4, val_main_v3, val_main_v2, val_main_v1, val_main_v0, val_main_cst, val_main_cst_0, val_main_v25, val_main_v21]
  simp only [Cert.Scalars.half_tanh]
  simp only [hb, hr, hx, row_lt t a, and_false, Nat.reduceLT, Nat.reduceLeDiff, Nat.reduceSub, false_and, true_and, and_true, reduceDIte, add_zero, mul_assoc]
  simp only [read_0, read_1, read_3, read_4_right, read_5, one_mul]

theorem point_6 (c : Dev nD) (t : Fin cfg0.N) (y : S512x2048.Idx) :
    View.canon [⟨Rect.unit ![0, 1024] ![512, 1024] (by decide), k0_pay18 (F := Ideal) (k0_pay4 (iblk m c 0 t) (iblk m c 5 t)) (k0_pay7 (iblk m c 1 t) (iblk m c 4 t)) (k0_pay9 (iblk m c 3 t))⟩,
      ⟨Rect.unit ![0, 0] ![512, 1024] (by decide), k0_pay17 (F := Ideal) (k0_pay4 (iblk m c 0 t) (iblk m c 5 t)) (k0_pay6 (iblk m c 1 t) (iblk m c 4 t)) (k0_pay8 (iblk m c 2 t))⟩] y
    = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  canon_tiles x h
  · have hy : y = ix2 (x (0 : Fin 2)) ⟨1024 + (x (1 : Fin 2)).val, col_right (x (1 : Fin 2))⟩ := by
      funext a; match a with
      | ⟨0, _⟩ => exact Fin.ext h0
      | ⟨1, _⟩ => exact Fin.ext h1
    rw [hy, eq_ix2 x]; exact (right_6 m c t (x (0 : Fin 2)) (x (1 : Fin 2)))
  · have hy : y = ix2 (x (0 : Fin 2)) ⟨(x (1 : Fin 2)).val, col_left (x (1 : Fin 2))⟩ := by
      funext a; match a with
      | ⟨0, _⟩ => exact Fin.ext h0
      | ⟨1, _⟩ => exact Fin.ext h1
    rw [hy, eq_ix2 x]; exact (left_6 m c t (x (0 : Fin 2)) (x (1 : Fin 2)))

theorem final_6 (c : Dev nD) : (dats m 0 c).arrAt 6 (cfgs 0).N = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp; rw [after0_6]
  by_cases h : t.val % 32 = 0
  · rw [outsAt0_A m c t h]; dsimp only; frame_out
    exact point_6 m c t y
  · rw [outsAt0_B m c t h]; dsimp only; frame_out
    exact point_6 m c t y

end Cert.GatesIdeal.Value

end
-- ==== Proof.GatesPair.lean ====
/- The branch gates' backward call against the derivative of its forward lines. -/
module

public import proofs.«01_k».proof.Defs
public import proofs.«01_k».proof.Proof.GatesValue
public import proofs.«01_k».proof.Proof.Gen.GatesRefIdeal.Run
public import Idealize.ShloMosaic.Lib.Claim

@[expose] public section

set_option maxRecDepth 200000

noncomputable section

namespace Cert.GatesPair

open Idealize.ShloMosaic Idealize.SL.Sem

/-- The reference ends with its arguments unchanged and every semaphore counter at zero: it declares none. -/
theorem frame_ref : Cert.quiescent_GatesRefIdeal := fun m g _ =>
  (θ_run Cert.GatesRefIdeal.defs _ _).mono
    (fun r h => ⟨fun c => (h c).2.2.2.2.2, sem_eq_zero_of_no_sems (by decide) r.2⟩)
    (Cert.GatesRefIdeal.Value.run m g)

set_option maxHeartbeats 2000000 in
/-- The five results of the branch gates' backward call are the reference's derivative, over the reals. -/
theorem algebraic : Cert.algebraic_GatesIdeal_GatesRefIdeal := by
  pair_intro
  · run_from Cert.GatesIdeal.Gen.run_main m g
  · run_from Cert.GatesRefIdeal.Value.run m' g'
    · exact (Cert.GatesRefIdeal.Read.val_main_v42_eq ..).trans (Cert.GatesIdeal.Value.final_6 m c).symm
    · exact (Cert.GatesRefIdeal.Read.val_main_v43_eq ..).trans (Cert.GatesIdeal.Value.final_7 m c).symm
    · exact (Cert.GatesRefIdeal.Read.val_main_v44_eq ..).trans (Cert.GatesIdeal.Value.final_8 m c).symm
    · exact (Cert.GatesRefIdeal.Read.val_main_v45_eq ..).trans (Cert.GatesIdeal.Value.final_9 m c).symm
    · exact (Cert.GatesRefIdeal.Read.val_main_v47_eq ..).trans (Cert.GatesIdeal.Value.final_10 m c).symm

end Cert.GatesPair

end
-- ==== Proof.Reals.lean ====
/- Extended reals that are real numbers, and the two identities between gradients that hold for them: the gradient of a
   row's root mean square norm, and the gradient of the gated linear unit. -/
module

public import proofs.«01_k».proof.Proof.Scalars

@[expose] public section

noncomputable section

open Idealize.ShloMosaic
open scoped BigOperators

namespace Cert.Reals

/-- The value is a real number: neither infinity. -/
def IsReal (x : EReal) : Prop := ∃ r : ℝ, x = r

theorem IsReal.coe (r : ℝ) : IsReal (r : EReal) := ⟨r, rfl⟩

theorem IsReal.zero : IsReal 0 := ⟨0, rfl⟩

theorem IsReal.one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem IsReal.sum {ι : Type*} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

theorem IsReal.div {x : EReal} (hx : IsReal x) {y : ℝ} (hy : y ≠ 0) : IsReal (Ideal.div x (y : EReal)) := by
  rw [Ideal.div_coe hy]
  exact hx.mul ⟨_, rfl⟩

/-- The logistic function of a real number is one. -/
theorem logistic_coe (r : ℝ) : Ideal.div 1 (1 + Ideal.exp (-(r : EReal))) = ((1 / (1 + Real.exp (-r)) : ℝ) : EReal) := by
  rw [← EReal.coe_neg, Ideal.exp_coe, ← EReal.coe_one, ← EReal.coe_add, Ideal.div_coe (by positivity), ← EReal.coe_mul,
    one_mul]

theorem IsReal.logistic {x : EReal} (hx : IsReal x) : IsReal (Ideal.div 1 (1 + Ideal.exp (-x))) := by
  obtain ⟨r, rfl⟩ := hx
  exact ⟨_, logistic_coe r⟩

/-- The gradient of `g ↦ g · s(g)`, with the logistic function `s`, in the two orders. -/
theorem silu_grad {g d : EReal} (hg : IsReal g) (hd : IsReal d) :
    d * (Ideal.div 1 (1 + Ideal.exp (-g)) * (1 + g * (1 - Ideal.div 1 (1 + Ideal.exp (-g)))))
    = d * Ideal.div 1 (1 + Ideal.exp (-g)) + g * d * (Ideal.div 1 (1 + Ideal.exp (-g)) * (1 - Ideal.div 1 (1 + Ideal.exp (-g)))) := by
  obtain ⟨g, rfl⟩ := hg
  obtain ⟨d, rfl⟩ := hd
  rw [logistic_coe, ← EReal.coe_one]
  simp only [← EReal.coe_mul, ← EReal.coe_sub, ← EReal.coe_add]
  congr 1
  ring

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

/-- The norm's small constant is a positive real number. -/
theorem ofBits_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- The mean of a row's squares, plus the norm's small constant. -/
def meanSq {n : ℕ} (h : Fin n → EReal) : EReal :=
  Ideal.div (∑ k, h k * h k) (Ideal.ofBits .f32 0x44800000#32) + Ideal.ofBits .f32 0x358637BD#32

theorem meanSq_pos {n : ℕ} {h : Fin n → EReal} (hh : ∀ k, IsReal (h k)) : ∃ v : ℝ, 0 < v ∧ meanSq h = v := by
  choose a ha using hh
  obtain ⟨e, he, hE⟩ := ofBits_eps
  refine ⟨(∑ k, a k * a k) * (1 / 1024) + e, ?_, ?_⟩
  · have : 0 ≤ ∑ k, a k * a k := Finset.sum_nonneg fun k _ => mul_self_nonneg _
    positivity
  · unfold meanSq
    rw [hE, ofBits_1024, Ideal.div_coe (by norm_num)]
    simp only [ha, ← EReal.coe_mul, ← coe_sum, ← EReal.coe_add]

theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

theorem IsReal.rms {n : ℕ} {h : Fin n → EReal} (hh : ∀ k, IsReal (h k)) : IsReal (Ideal.rsqrt (meanSq h)) := by
  obtain ⟨v, hv, e⟩ := meanSq_pos hh
  exact ⟨_, by rw [e, rsqrt_coe_pos hv]⟩

/-- The gradient of a row's root mean square norm, towards entry `j`, from the gradient `q` of the normed row: as written
    by hand (the normed row's mean product taken out), and as the chain rule through the mean and the root gives it. -/
theorem norm_grad {n : ℕ} {h q : Fin n → EReal} (hh : ∀ k, IsReal (h k)) (hq : ∀ k, IsReal (q k)) (j : Fin n) :
    Ideal.rsqrt (meanSq h) * (q j - h j * Ideal.rsqrt (meanSq h)
        * Ideal.div (∑ k, q k * (h k * Ideal.rsqrt (meanSq h))) (Ideal.ofBits .f32 0x44800000#32))
    = q j * Ideal.rsqrt (meanSq h)
      + h j * Ideal.div ((∑ k, h k * q k) * (Ideal.ofBits .f32 0xBF000000#32 * Ideal.div (Ideal.rsqrt (meanSq h)) (meanSq h)))
          (Ideal.ofBits .f32 0x44800000#32)
      + Ideal.div ((∑ k, h k * q k) * (Ideal.ofBits .f32 0xBF000000#32 * Ideal.div (Ideal.rsqrt (meanSq h)) (meanSq h)))
          (Ideal.ofBits .f32 0x44800000#32) * h j := by
  obtain ⟨v, hv, e⟩ := meanSq_pos hh
  choose a ha using hh
  choose b hb using hq
  rw [e, rsqrt_coe_pos hv, ofBits_1024, ofBits_neg_half, Ideal.div_coe hv.ne', Ideal.div_coe (by norm_num), Ideal.div_coe (by norm_num)]
  simp only [ha, hb, ← EReal.coe_mul, ← coe_sum, ← EReal.coe_sub, ← EReal.coe_add]
  congr 1
  have hs : ∑ k, b k * (a k * (Real.sqrt v)⁻¹) = (∑ k, a k * b k) * (Real.sqrt v)⁻¹ := by
    rw [Finset.sum_mul]
    exact Finset.sum_congr rfl fun k _ => by ring
  have hw : 1 / v = (Real.sqrt v)⁻¹ * (Real.sqrt v)⁻¹ := by
    rw [← mul_inv, Real.mul_self_sqrt hv.le, one_div]
  rw [hs, hw]
  ring

end Cert.Reals

end
-- ==== Proof.FfnMath.lean ====
/- The gated linear unit's backward call as formulas over its arguments, and the reference's intermediate arrays in
   them. -/
module

public import proofs.«01_k».proof.Proof.Gen.FfnRefIdeal.Read
public import proofs.«01_k».proof.Proof.Reals
public import Idealize.ShloMosaic.Lib.Pipeline.ValueKit

@[expose] public section

set_option maxRecDepth 16384

noncomputable section

open Idealize.ShloMosaic Idealize.ShloMosaic.TcCoe Idealize.SL.Sem
open Cert.Reals
open scoped BigOperators

namespace Cert.FfnMath

open Cert.FfnRefIdeal Cert.FfnRefIdeal.Read

variable (x0 x1 : (⟨S16384x1024, .f32⟩ : BufTy).Contents (Elt Ideal)) (x2 : (⟨S1x1024, .f32⟩ : BufTy).Contents (Elt Ideal))
  (x3 : (⟨S1x1024x5632, .f32⟩ : BufTy).Contents (Elt Ideal)) (x4 : (⟨S1x2816x1024, .f32⟩ : BufTy).Contents (Elt Ideal))

/-- One over the root of a row's mean square. -/
def inv (r : Fin 16384) : EReal := Ideal.rsqrt (meanSq fun k : Fin 1024 => x1 (ix2 r k))

/-- The product of the normed row with the first weight matrix. -/
def ff (r : Fin 16384) (j : Fin 5632) : EReal := ∑ k : Fin 1024, x1 (ix2 r k) * inv x1 r * x2 (ix2 0 k) * x3 (ix3 0 k j)

/-- The gradient of the activations. -/
def dact (r : Fin 16384) (j : Fin 2816) : EReal := ∑ k : Fin 1024, x0 (ix2 r k) * x4 (ix3 0 j k)

theorem lt_left (j : Fin 2816) : j.val < 5632 := by
  have h : j.val < 2816 := j.isLt
  omega

theorem lt_right (j : Fin 2816) : 2816 + j.val < 5632 := by
  have h : j.val < 2816 := j.isLt
  omega

/-- The gate, before its logistic function. -/
def gate (r : Fin 16384) (j : Fin 2816) : EReal := ff x1 x2 x3 r ⟨j.val, lt_left j⟩

/-- The gate's logistic function. -/
def sig (r : Fin 16384) (j : Fin 2816) : EReal := Ideal.div 1 (1 + Ideal.exp (-gate x1 x2 x3 r j))

/-- The gradient of the gate. -/
def dgate (r : Fin 16384) (j : Fin 2816) : EReal :=
  dact x0 x4 r j * ff x1 x2 x3 r ⟨2816 + j.val, lt_right j⟩
    * (sig x1 x2 x3 r j * (1 + gate x1 x2 x3 r j * (1 - sig x1 x2 x3 r j)))

/-- The gradient of the gated factor. -/
def dup (r : Fin 16384) (j : Fin 2816) : EReal := dact x0 x4 r j * (gate x1 x2 x3 r j * sig x1 x2 x3 r j)

/-- The gradient of the normed row. -/
def dv (r : Fin 16384) (k : Fin 1024) : EReal :=
  ∑ j, dgate x0 x1 x2 x3 x4 r j * x3 (ix3 0 k ⟨j.val, lt_left j⟩)
    + ∑ j, dup x0 x1 x2 x3 x4 r j * x3 (ix3 0 k ⟨2816 + j.val, lt_right j⟩)

/-- The gradient of the scaled row. -/
def dq (r : Fin 16384) (k : Fin 1024) : EReal := dv x0 x1 x2 x3 x4 r k * x2 (ix2 0 k)

/-- The gradient of the call's input. -/
def dh (r : Fin 16384) (k : Fin 1024) : EReal :=
  x0 (ix2 r k) + inv x1 r * (dq x0 x1 x2 x3 x4 r k
    - x1 (ix2 r k) * inv x1 r * Ideal.div (∑ k, dq x0 x1 x2 x3 x4 r k * (x1 (ix2 r k) * inv x1 r)) (Ideal.ofBits .f32 0x44800000#32))

/-- The gradient of the norm's scale. -/
def dg (k : Fin 1024) : EReal := ∑ r : Fin 16384, dv x0 x1 x2 x3 x4 r k * (x1 (ix2 r k) * inv x1 r)

theorem inv_ref (r : Fin 16384) : val_main_v8 (F := Ideal) x1 (ix2 r 0) = inv x1 r := by
  pointwise [val_main_v8, val_main_v7, val_main_v6, val_main_v5, val_main_v4, val_main_v3, val_main_v2, val_main_v1, val_main_cst, val_main_cst_0, val_main_cst_1, inv, meanSq]

theorem meanSq_ref (r : Fin 16384) : val_main_v7 (F := Ideal) x1 (ix2 r 0) = meanSq fun k : Fin 1024 => x1 (ix2 r k) := by
  pointwise [val_main_v7, val_main_v6, val_main_v5, val_main_v4, val_main_v3, val_main_v2, val_main_v1, val_main_cst, val_main_cst_0, val_main_cst_1, meanSq]

theorem ff_ref (r : Fin 16384) (j : Fin 5632) : val_main_v18 (F := Ideal) x1 x2 x3 (ix2 r j) = ff x1 x2 x3 r j := by
  pointwise [val_main_v18, val_main_v17, val_main_v16, val_main_v15, val_main_v14, val_main_v13, val_main_v12, val_main_v0, ff]
  simp only [inv_ref]

theorem dact_ref (r : Fin 16384) (j : Fin 2816) : val_main_v27 (F := Ideal) x0 x4 (ix2 r j) = dact x0 x4 r j := by
  pointwise [val_main_v27, val_main_v26, val_main_v23, dact]

theorem gate_ref (r : Fin 16384) (j : Fin 2816) : val_main_v19 (F := Ideal) x1 x2 x3 (ix2 r j) = gate x1 x2 x3 r j := by
  refine Eq.trans ?_ (ff_ref x1 x2 x3 r ⟨j.val, lt_left j⟩)
  pointwise [val_main_v19]

theorem sig_ref (r : Fin 16384) (j : Fin 2816) : val_main_v21_2 (F := Ideal) x1 x2 x3 (ix2 r j) = sig x1 x2 x3 r j := by
  pointwise [val_main_v21_2, val_main_call0_v4, val_main_call0_v3, val_main_call0_v2, val_main_call0_v1, val_main_call0_v0, val_main_call0_cst, val_main_call0_cst_0, sig]
  simp only [gate_ref]

theorem up_ref (r : Fin 16384) (j : Fin 2816) : val_main_v20 (F := Ideal) x1 x2 x3 (ix2 r j) = ff x1 x2 x3 r ⟨2816 + j.val, lt_right j⟩ := by
  refine Eq.trans ?_ (ff_ref x1 x2 x3 r ⟨2816 + j.val, lt_right j⟩)
  pointwise [val_main_v20]

theorem dup_ref (r : Fin 16384) (j : Fin 2816) : val_main_v28 (F := Ideal) x0 x1 x2 x3 x4 (ix2 r j) = dup x0 x1 x2 x3 x4 r j := by
  pointwise [val_main_v28, val_main_v21_0, dup]
  simp only [gate_ref, sig_ref, dact_ref]
  rw [mul_comm]

/-- Below the first row the reference's padded array is zero. -/
theorem pad_ref (a : Fin 8) (ha : a.val ≠ 0) (k : Fin 1024) : val_main_v56 (F := Ideal) x0 x1 x2 x3 x4 (ix2 a k) = 0 := by
  pointwise [val_main_v56, val_main_call2_v0, val_main_c]
  rw [dif_neg (by omega)]
  exact Cert.Scalars.sitofp_zero

/-- The arguments' elements are real numbers. -/
structure Finite : Prop where
  h0 : ∀ i, IsReal (x0 i)
  h1 : ∀ i, IsReal (x1 i)
  h2 : ∀ i, IsReal (x2 i)
  h3 : ∀ i, IsReal (x3 i)
  h4 : ∀ i, IsReal (x4 i)

variable {x0 x1 x2 x3 x4} (H : Finite x0 x1 x2 x3 x4)

include H

theorem Finite.inv (r : Fin 16384) : IsReal (inv x1 r) := IsReal.rms fun k => H.h1 _

theorem Finite.ff (r : Fin 16384) (j : Fin 5632) : IsReal (ff x1 x2 x3 r j) :=
  IsReal.sum _ fun k => (((H.h1 _).mul (H.inv r)).mul (H.h2 _)).mul (H.h3 _)

theorem Finite.dact (r : Fin 16384) (j : Fin 2816) : IsReal (dact x0 x4 r j) := IsReal.sum _ fun k => (H.h0 _).mul (H.h4 _)

theorem Finite.sig (r : Fin 16384) (j : Fin 2816) : IsReal (sig x1 x2 x3 r j) := (H.ff r _).logistic

theorem Finite.dgate (r : Fin 16384) (j : Fin 2816) : IsReal (dgate x0 x1 x2 x3 x4 r j) :=
  ((H.dact r j).mul (H.ff r _)).mul ((H.sig r j).mul (IsReal.one.add ((H.ff r _).mul (IsReal.one.sub (H.sig r j)))))

theorem Finite.dup (r : Fin 16384) (j : Fin 2816) : IsReal (dup x0 x1 x2 x3 x4 r j) :=
  (H.dact r j).mul ((H.ff r _).mul (H.sig r j))

theorem Finite.dv (r : Fin 16384) (k : Fin 1024) : IsReal (dv x0 x1 x2 x3 x4 r k) :=
  (IsReal.sum _ fun j => (H.dgate r j).mul (H.h3 _)).add (IsReal.sum _ fun j => (H.dup r j).mul (H.h3 _))

theorem Finite.dq (r : Fin 16384) (k : Fin 1024) : IsReal (dq x0 x1 x2 x3 x4 r k) := (H.dv r k).mul (H.h2 _)

theorem dgate_ref (r : Fin 16384) (j : Fin 2816) : val_main_v30 (F := Ideal) x0 x1 x2 x3 x4 (ix2 r j) = dgate x0 x1 x2 x3 x4 r j := by
  pointwise [val_main_v30, val_main_call1_v1, val_main_call1_v2, val_main_call1_v0, val_main_v29, val_main_v21_1, val_main_call0_v7, val_main_call0_v6, val_main_call0_cst_1]
  simp only [gate_ref, sig_ref, dact_ref, up_ref]
  exact (silu_grad (H.ff r _) ((H.dact r j).mul (H.ff r _))).symm

/-- The left half of the gradient of the product. -/
theorem left_ref (r : Fin 16384) (j : Fin 2816) :
    val_main_v31 (F := Ideal) x0 x1 x2 x3 x4 (ix2 r ⟨j.val, lt_left j⟩) = dgate x0 x1 x2 x3 x4 r j := by
  refine Eq.trans ?_ (dgate_ref H r j)
  pointwise [val_main_v31]

/-- The right half. -/
theorem right_ref (r : Fin 16384) (j : Fin 2816) :
    val_main_v31 (F := Ideal) x0 x1 x2 x3 x4 (ix2 r ⟨2816 + j.val, lt_right j⟩) = dup x0 x1 x2 x3 x4 r j := by
  refine Eq.trans ?_ (dup_ref x0 x1 x2 x3 x4 r j)
  pointwise [val_main_v31]

theorem dv_ref (r : Fin 16384) (k : Fin 1024) : val_main_v32 (F := Ideal) x0 x1 x2 x3 x4 (ix2 r k) = dv x0 x1 x2 x3 x4 r k := by
  pointwise [val_main_v32, val_main_v17]
  refine (Fin.sum_univ_add (a := 2816) (b := 2816) (fun j : Fin 5632 => val_main_v31 (F := Ideal) x0 x1 x2 x3 x4 (ix2 r j) * x3 (ix3 0 k j))).trans ?_
  exact congrArg₂ (· + ·) (Finset.sum_congr rfl fun j _ => congrArg (· * _) (left_ref H r j))
    (Finset.sum_congr rfl fun j _ => congrArg (· * _) (right_ref H r j))

theorem dh_ref (r : Fin 16384) (k : Fin 1024) : val_main_v53 (F := Ideal) x0 x1 x2 x3 x4 (ix2 r k) = dh x0 x1 x2 x3 x4 r k := by
  have hn := norm_grad (h := fun k => x1 (ix2 r k)) (q := fun k => dq x0 x1 x2 x3 x4 r k) (fun k => H.h1 _) (fun k => H.dq r k) k
  refine Eq.trans ?_ (congrArg (x0 (ix2 r k) + ·) hn.symm)
  pointwise [val_main_v53, val_main_v52, val_main_v51, val_main_v50, val_main_v49, val_main_v48, val_main_cst_7, val_main_v47, val_main_v46, val_main_cst_6, val_main_v45, val_main_v44, val_main_v43, val_main_v42, val_main_v41, val_main_v40, val_main_cst_5, val_main_v39, val_main_v37, val_main_v36, val_main_v14, val_main_v0, val_main_v11, val_main_v10, val_main_v9, val_main_cst_2]
  simp only [Finset.univ_unique, Finset.sum_singleton, Fin.default_eq_zero, Fin.isValue, inv_ref, meanSq_ref, dv_ref H, add_assoc]
  rfl

theorem dg_ref (k : Fin 1024) : val_main_v56 (F := Ideal) x0 x1 x2 x3 x4 (ix2 0 k) = dg x0 x1 x2 x3 x4 k := by
  pointwise [val_main_v56, val_main_call2_v0, val_main_c, val_main_v54, val_main_v38, val_main_cst_4, val_main_v35, val_main_v34, val_main_cst_3, val_main_v33, val_main_v13, val_main_v12]
  simp only [Finset.univ_unique, Finset.sum_singleton, inv_ref, dv_ref H]
  exact Finset.sum_congr rfl fun r _ => mul_comm _ _

end Cert.FfnMath

end
-- ==== Proof.FfnValue.lean ====
/- The value facts of the gated linear unit's backward call: what each result array holds after the run. -/
module

public import proofs.«01_k».proof.Proof.Gen.FfnIdeal.Frame
public import proofs.«01_k».proof.Proof.FfnMath
public import proofs.«01_k».proof.Proof.Rows
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open scoped BigOperators

namespace Cert.FfnIdeal.Value

open Cert.FfnIdeal Cert.FfnIdeal.Gen Cert.FfnMath

variable (m : (ℓ : Loc nD τ sig) → Buf (Elt Ideal) ℓ)

/-- Every window's block index at a grid point. -/
theorem idx_val : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![0, 0] :=
  (by decide +kernel : ∀ t : Fin grid0.N, _)

variable (c : Dev nD) (t : Fin cfg0.N)

/-- The arguments, by name. -/
abbrev X0 : FVec Ideal S16384x1024 .f32 := m ((c : Thread nD τ).loc main_arg0)
abbrev X1 : FVec Ideal S16384x1024 .f32 := m ((c : Thread nD τ).loc main_arg1)
abbrev X2 : FVec Ideal S1x1024 .f32 := m ((c : Thread nD τ).loc main_arg2)
abbrev X3 : FVec Ideal S1x1024x5632 .f32 := m ((c : Thread nD τ).loc main_arg3)
abbrev X4 : FVec Ideal S1x2816x1024 .f32 := m ((c : Thread nD τ).loc main_arg4)

theorem row_lt (a : Fin 256) : t.val * 256 + a.val < 16384 := by
  have h : t.val < 64 := t.isLt
  have h' := a.isLt
  omega

/-- The array's row behind row `a` of block `t`. -/
abbrev row (a : Fin 256) : Fin 16384 := ⟨t.val * 256 + a.val, row_lt t a⟩

theorem read_0 (a : Fin 256) (k : Fin 1024) : iblk m c 0 t (ix2 a k) = X0 m c (ix2 (row t a) k) := by
  blk_ext [iblk, V, idx_val t]

theorem read_1 (a : Fin 256) (k : Fin 1024) : iblk m c 1 t (ix2 a k) = X1 m c (ix2 (row t a) k) := by
  blk_ext [iblk, V, idx_val t]

theorem read_3 (k : Fin 1024) : iblk m c 3 t (ix2 0 k) = X2 m c (ix2 0 k) := by
  blk_ext [iblk, V, idx_val t]

theorem read_4 (k : Fin 1024) (j : Fin 5632) : iblk m c 4 t (ix2 k j) = X3 m c (ix3 0 k j) := by
  blk_ext! [iblk, V, idx_val t]

theorem read_5 (j : Fin 2816) (k : Fin 1024) : iblk m c 5 t (ix2 j k) = X4 m c (ix3 0 j k) := by
  blk_ext! [iblk, V, idx_val t]

/-- The product computed before the launch. -/
theorem host_ff (r : Fin 16384) (j : Fin 5632) : V m c main_v18 (ix2 r j) = ff (X1 m c) (X2 m c) (X3 m c) r j := by
  unfold V
  after_reads_at
  rfl

theorem read_2 (a : Fin 256) (j : Fin 5632) : iblk m c 2 t (ix2 a j) = ff (X1 m c) (X2 m c) (X3 m c) (row t a) j := by
  refine Eq.trans ?_ (host_ff m c (row t a) j)
  blk_ext [iblk, idx_val t]

/-- The halves of the blocks a point loads. -/
abbrev gateBlk : FVec Ideal S256x2816 .bf16 := View.ld (iblk m c 2 t) (Rect.unit ![0, 0] ![256, 2816] inb_S256x5632_S256x2816_0_0)
abbrev upBlk : FVec Ideal S256x2816 .bf16 := View.ld (iblk m c 2 t) (Rect.unit ![0, 2816] ![256, 2816] inb_S256x5632_S256x2816_0_2816)
abbrev leftW : FVec Ideal S1024x2816 .bf16 := View.ld (iblk m c 4 t) (Rect.unit ![0, 0] ![1024, 2816] inb_S1024x5632_S1024x2816_0_0)
abbrev rightW : FVec Ideal S1024x2816 .bf16 := View.ld (iblk m c 4 t) (Rect.unit ![0, 2816] ![1024, 2816] inb_S1024x5632_S1024x2816_0_2816)

theorem gate_ker (a : Fin 256) (j : Fin 2816) : gateBlk m c t (ix2 a j) = gate (X1 m c) (X2 m c) (X3 m c) (row t a) j := by
  refine Eq.trans ?_ (read_2 m c t a ⟨j.val, lt_left j⟩)
  exact Cert.Rows.ld_rect _ _ _ _ _ _ _ _ (by simp) (by simp)

theorem up_ker (a : Fin 256) (j : Fin 2816) :
    upBlk m c t (ix2 a j) = ff (X1 m c) (X2 m c) (X3 m c) (row t a) ⟨2816 + j.val, lt_right j⟩ := by
  refine Eq.trans ?_ (read_2 m c t a ⟨2816 + j.val, lt_right j⟩)
  exact Cert.Rows.ld_rect _ _ _ _ _ _ _ _ (by simp) (by simp)

theorem left_ker (k : Fin 1024) (j : Fin 2816) : leftW m c t (ix2 k j) = X3 m c (ix3 0 k ⟨j.val, lt_left j⟩) := by
  refine Eq.trans ?_ (read_4 m c t k ⟨j.val, lt_left j⟩)
  exact Cert.Rows.ld_rect _ _ _ _ _ _ _ _ (by simp) (by simp)

theorem right_ker (k : Fin 1024) (j : Fin 2816) : rightW m c t (ix2 k j) = X3 m c (ix3 0 k ⟨2816 + j.val, lt_right j⟩) := by
  refine Eq.trans ?_ (read_4 m c t k ⟨2816 + j.val, lt_right j⟩)
  exact Cert.Rows.ld_rect _ _ _ _ _ _ _ _ (by simp) (by simp)

/-- The two stored gradients, as the point computes them. -/
abbrev dgBlk : FVec Ideal S256x2816 .bf16 := k0_pay5 (F := Ideal) (iblk m c 0 t) (iblk m c 5 t) (gateBlk m c t) (upBlk m c t)
abbrev duBlk : FVec Ideal S256x2816 .bf16 := k0_pay6 (F := Ideal) (iblk m c 0 t) (iblk m c 5 t) (gateBlk m c t)

theorem dgate_ker (a : Fin 256) (j : Fin 2816) :
    dgBlk m c t (ix2 a j) = dgate (X0 m c) (X1 m c) (X2 m c) (X3 m c) (X4 m c) (row t a) j := by
  pointwise [dgBlk, k0_pay5, k0_pay2, k0_pay3, k0_pay4]
  simp only [Cert.Scalars.half_tanh, read_0, read_5, gate_ker, up_ker]
  rfl

theorem dup_ker (a : Fin 256) (j : Fin 2816) :
    duBlk m c t (ix2 a j) = dup (X0 m c) (X1 m c) (X2 m c) (X3 m c) (X4 m c) (row t a) j := by
  pointwise [duBlk, k0_pay6, k0_pay2, k0_pay3, k0_pay4]
  simp only [Cert.Scalars.half_tanh, read_0, read_5, gate_ker]
  rfl

theorem dv_ker (a : Fin 256) (k : Fin 1024) :
    k0_pay7 (F := Ideal) (dgBlk m c t) (duBlk m c t) (leftW m c t) (rightW m c t) (ix2 a k)
    = dv (X0 m c) (X1 m c) (X2 m c) (X3 m c) (X4 m c) (row t a) k := by
  pointwise [k0_pay7]
  simp only [dgate_ker, dup_ker, left_ker, right_ker]
  rfl

theorem inv_ker (a : Fin 256) : k0_pay8 (F := Ideal) (iblk m c 1 t) (ix2 a 0) = inv (X1 m c) (row t a) := by
  pointwise [k0_pay8]
  simp only [read_1]
  rfl

theorem norm_ker (a : Fin 256) (k : Fin 1024) :
    k0_pay9 (F := Ideal) (iblk m c 1 t) (ix2 a k) = X1 m c (ix2 (row t a) k) * inv (X1 m c) (row t a) := by
  pointwise [k0_pay9]
  simp only [read_1, inv_ker]

theorem dh_ker (a : Fin 256) (k : Fin 1024) :
    k0_pay11 (F := Ideal) (iblk m c 0 t) (dgBlk m c t) (duBlk m c t) (leftW m c t) (rightW m c t) (iblk m c 1 t) (iblk m c 3 t) (ix2 a k)
    = dh (X0 m c) (X1 m c) (X2 m c) (X3 m c) (X4 m c) (row t a) k := by
  pointwise [k0_pay11]
  simp only [read_0, read_3, dv_ker, norm_ker, inv_ker]
  rfl

/-- The arguments are finite. -/
abbrev Real : Prop := Finite (X0 m c) (X1 m c) (X2 m c) (X3 m c) (X4 m c)

theorem point_7 (H : Real m c) (y : S256x1024.Idx) :
    k0_pay11 (F := Ideal) (iblk m c 0 t) (dgBlk m c t) (duBlk m c t) (leftW m c t) (rightW m c t) (iblk m c 1 t) (iblk m c 3 t) y
    = Cert.FfnRefIdeal.Read.val_main_v53 (F := Ideal) (X0 m c) (X1 m c) (X2 m c) (X3 m c) (X4 m c) (((cfg0.win 7).blk t).view.emb y) := by
  obtain ⟨a, k, rfl⟩ : ∃ (a : Fin 256) (k : Fin 1024), y = ix2 a k := ⟨y (0 : Fin 2), y (1 : Fin 2), eq_ix2 y⟩
  have e : ((cfg0.win 7).blk t).view.emb (ix2 a k) = ix2 (row t a) k := by blk_ext [idx_val t]
  exact (dh_ker m c t a k).trans ((congrArg _ e).trans (dh_ref H (row t a) k)).symm

theorem final_7 (H : Real m c) : (dats m 0 c).arrAt 7 (cfgs 0).N = Cert.FfnRefIdeal.Read.val_main_v53 (F := Ideal) (X0 m c) (X1 m c) (X2 m c) (X3 m c) (X4 m c) := by
  refine (dats m 0 c).arrAt_eq_of_covers 7 _ (by decide +kernel) fun t hf y => ?_
  blk_simp; rw [after0_7]
  by_cases h : t.val % 64 = 0
  · rw [outsAt0_A m c t h]; dsimp only; frame_out
    exact point_7 m c t H y
  · rw [outsAt0_B m c t h]; dsimp only; frame_out
    exact point_7 m c t H y

theorem left_at (a : Fin 256) (b : Fin 2816) :
    ((cfg0.win 6).blk t).view.emb (ix2 a ⟨b.val, lt_left b⟩) = ix2 (row t a) ⟨b.val, lt_left b⟩ := by
  blk_ext [idx_val t]

theorem right_at (a : Fin 256) (b : Fin 2816) :
    ((cfg0.win 6).blk t).view.emb (ix2 a ⟨2816 + b.val, lt_right b⟩) = ix2 (row t a) ⟨2816 + b.val, lt_right b⟩ := by
  blk_ext [idx_val t]

theorem point_6 (H : Real m c) (y : S256x5632.Idx) :
    View.canon [⟨Rect.unit ![0, 2816] ![256, 2816] inb_S256x5632_S256x2816_0_2816, duBlk m c t⟩,
      ⟨Rect.unit ![0, 0] ![256, 2816] inb_S256x5632_S256x2816_0_0, dgBlk m c t⟩] y
    = Cert.FfnRefIdeal.Read.val_main_v55 (F := Ideal) (X0 m c) (X1 m c) (X2 m c) (X3 m c) (X4 m c) (((cfg0.win 6).blk t).view.emb y) := by
  canon_tiles x h
  · obtain ⟨a, b, rfl⟩ : ∃ (a : Fin 256) (b : Fin 2816), x = ix2 a b := ⟨x (0 : Fin 2), x (1 : Fin 2), eq_ix2 x⟩
    have hy : y = ix2 a ⟨2816 + b.val, lt_right b⟩ := by
      funext i; match i with
      | ⟨0, _⟩ => exact Fin.ext h0
      | ⟨1, _⟩ => exact Fin.ext h1
    subst hy
    exact (dup_ker m c t a b).trans ((congrArg _ (right_at t a b)).trans (right_ref H _ _)).symm
  · obtain ⟨a, b, rfl⟩ : ∃ (a : Fin 256) (b : Fin 2816), x = ix2 a b := ⟨x (0 : Fin 2), x (1 : Fin 2), eq_ix2 x⟩
    have hy : y = ix2 a ⟨b.val, lt_left b⟩ := by
      funext i; match i with
      | ⟨0, _⟩ => exact Fin.ext h0
      | ⟨1, _⟩ => exact Fin.ext h1
    subst hy
    exact (dgate_ker m c t a b).trans ((congrArg _ (left_at t a b)).trans (left_ref H _ _)).symm

theorem final_6 (H : Real m c) : (dats m 0 c).arrAt 6 (cfgs 0).N = Cert.FfnRefIdeal.Read.val_main_v55 (F := Ideal) (X0 m c) (X1 m c) (X2 m c) (X3 m c) (X4 m c) := by
  refine (dats m 0 c).arrAt_eq_of_covers 6 _ (by decide +kernel) fun t hf y => ?_
  blk_simp; rw [after0_6]
  by_cases h : t.val % 64 = 0
  · rw [outsAt0_A m c t h]; dsimp only; frame_out
    exact point_6 m c t H y
  · rw [outsAt0_B m c t h]; dsimp only; frame_out
    exact point_6 m c t H y

/-- What one block of rows adds to the sum over rows. -/
def added_8 : S8x1024.Idx → EReal :=
  Cert.Rows.added [(0, fun k => ∑ a : Fin 256, dv (X0 m c) (X1 m c) (X2 m c) (X3 m c) (X4 m c) (row t a) k * (X1 m c (ix2 (row t a) k) * inv (X1 m c) (row t a)))]

theorem row_added (r : FVec Ideal S1x1024 .f32) (k : Fin 1024) :
    k0_pay10 (F := Ideal) (dgBlk m c t) (duBlk m c t) (leftW m c t) (rightW m c t) (iblk m c 1 t) r (ix2 0 k)
    = r (ix2 0 k) + ∑ a : Fin 256, dv (X0 m c) (X1 m c) (X2 m c) (X3 m c) (X4 m c) (row t a) k * (X1 m c (ix2 (row t a) k) * inv (X1 m c) (row t a)) := by
  pointwise [k0_pay10]
  simp only [dv_ker, norm_ker]

theorem run_8 (t : Fin cfg0.N) (hf : (cfg0.win 8).flush t = true) (y : S8x1024.Idx) :
    (outsAt0 m c t.val t.isLt).2.2 y = ∑ s : Fin 64, added_8 m c ⟨64 * (t.val / 64) + s.val, Pipeline.run_point_lt_of_flush t ((flush0_8 t).mp hf) s⟩ y := by
  have hz (y : S8x1024.Idx) : k0_pay1 (F := Ideal) y = (0 : EReal) := by pointwise [k0_pay1]
  rw [Pipeline.eq_sum_fin_of_reset_step_apply_of_flush (fun n h => (outsAt0 m c n h).2.2) 64 (fun _ => 0)
    (fun t j => added_8 m c t j)
    (fun t h j => by
      rw [outsAt0_A m c t h]; frame_out
      rw [Cert.Rows.canon_row, Cert.Rows.readCov_row, View.canon_cons_unit_lit _ _ _ (by decide)]
      conv_rhs => lhs; rw [← hz j]
      exact Cert.Rows.step _ _ 0 (by decide) _ _ _ (row_added m c t _) j (Cert.Rows.base _ j))
    (fun t h j => by
      rw [outsAt0_B m c t h]; frame_out
      rw [Cert.Rows.read_writes_row, Cert.Rows.ld_row]
      rw [View.writes_nil, Memref.IsWhole.read_unread]
      exact Cert.Rows.step _ _ 0 (by decide) _ _ _ (row_added m c t _) j (Cert.Rows.base _ j))
    t ((flush0_8 t).mp hf) _, zero_add]

theorem added_first (k : Fin 1024) : added_8 m c t (ix2 0 k)
    = ∑ a : Fin 256, dv (X0 m c) (X1 m c) (X2 m c) (X3 m c) (X4 m c) (row t a) k * (X1 m c (ix2 (row t a) k) * inv (X1 m c) (row t a)) := by
  unfold added_8 Cert.Rows.added
  exact if_pos rfl

theorem added_rest (a : Fin 8) (ha : a.val ≠ 0) (k : Fin 1024) : added_8 m c t (ix2 a k) = 0 := by
  unfold added_8 Cert.Rows.added
  exact if_neg ha

theorem sum_8 (H : Real m c) (t : Fin cfg0.N) (hf : (cfg0.win 8).flush t = true) (a : Fin 8) (k : Fin 1024) :
    ∑ s : Fin 64, added_8 m c ⟨64 * (t.val / 64) + s.val, Pipeline.run_point_lt_of_flush t ((flush0_8 t).mp hf) s⟩ (ix2 a k)
    = Cert.FfnRefIdeal.Read.val_main_v56 (F := Ideal) (X0 m c) (X1 m c) (X2 m c) (X3 m c) (X4 m c) (ix2 a k) := by
  by_cases g0 : a.val = 0
  · obtain rfl : a = 0 := Fin.ext g0
    rw [dg_ref H]
    unfold dg
    refine Eq.trans (b := ∑ s : Fin 64, ∑ a : Fin 256, dv (X0 m c) (X1 m c) (X2 m c) (X3 m c) (X4 m c) (row ⟨64 * (t.val / 64) + s.val, Pipeline.run_point_lt_of_flush t ((flush0_8 t).mp hf) s⟩ a) k * (X1 m c (ix2 (row ⟨64 * (t.val / 64) + s.val, Pipeline.run_point_lt_of_flush t ((flush0_8 t).mp hf) s⟩ a) k) * inv (X1 m c) (row ⟨64 * (t.val / 64) + s.val, Pipeline.run_point_lt_of_flush t ((flush0_8 t).mp hf) s⟩ a)))
      (Finset.sum_congr rfl fun s _ => added_first m c _ k) ?_
    refine Fin.sum_mul_add_congr fun s k hl => ?_
    have h : t.val / 64 = 0 := by have : t.val < 64 := t.isLt; omega
    have e : row ⟨64 * (t.val / 64) + s.val, Pipeline.run_point_lt_of_flush t ((flush0_8 t).mp hf) s⟩ k = ⟨_, hl⟩ := Fin.ext (by
      show (64 * (t.val / 64) + s.val) * 256 + k.val = s.val * 256 + k.val
      omega)
    rw [← e]
  · rw [pad_ref _ _ _ _ _ _ g0]
    exact Finset.sum_eq_zero (M := EReal) fun s _ => added_rest m c _ a g0 k

theorem final_8 (H : Real m c) : (dats m 0 c).arrAt 8 (cfgs 0).N = Cert.FfnRefIdeal.Read.val_main_v56 (F := Ideal) (X0 m c) (X1 m c) (X2 m c) (X3 m c) (X4 m c) := by
  refine (dats m 0 c).arrAt_eq_of_covers 8 _ (by decide +kernel) fun t hf y => ?_
  blk_simp
  rw [after0_8]
  obtain ⟨a, k, rfl⟩ : ∃ (a : Fin 8) (k : Fin 1024), y = ix2 a k := ⟨y (0 : Fin 2), y (1 : Fin 2), eq_ix2 y⟩
  have e : ((cfg0.win 8).blk t).view.emb (ix2 a k) = ix2 a k := by blk_ext [idx_val t]
  exact (run_8 m c t hf _).trans ((sum_8 m c H t hf a k).trans (congrArg _ e).symm)

end Cert.FfnIdeal.Value

end
-- ==== Proof.FfnPair.lean ====
/- The gated linear unit's backward call against the derivative of its forward lines. -/
module

public import proofs.«01_k».proof.Defs
public import proofs.«01_k».proof.Proof.FfnValue
public import proofs.«01_k».proof.Proof.Gen.FfnRefIdeal.Run
public import proofs.«01_k».proof.Proof.Gen.Pre_ffn_finite
public import Idealize.ShloMosaic.Lib.Claim
public import Idealize.ShloMosaic.Lib.ReduceAll

@[expose] public section

set_option maxRecDepth 200000

noncomputable section

namespace Cert.FfnPair

open Idealize.ShloMosaic Idealize.SL.Sem Cert.Reals

/-- The reference ends with its arguments unchanged and every semaphore counter at zero: it declares none. -/
theorem frame_ref : Cert.quiescent_FfnRefIdeal := fun m g _ =>
  (θ_run Cert.FfnRefIdeal.defs _ _).mono
    (fun r h => ⟨fun c => (h c).2.2.2, sem_eq_zero_of_no_sems (by decide) r.2⟩)
    (Cert.FfnRefIdeal.Value.run m g)

/-- An element below infinity in absolute value is a real number. -/
theorem isReal_of_lt (x : EReal) (h : FloatOps.cmpf (F := Ideal) (φ := .f32) .olt (FloatOps.absf (F := Ideal) (φ := .f32) x) (FloatOps.ofBits (F := Ideal) .f32 0x7F800000#32) = 1#1) : IsReal x := by
  have ht : FloatOps.ofBits (F := Ideal) .f32 0x7F800000#32 = (⊤ : EReal) := by
    show Ideal.ofBits .f32 0x7F800000#32 = ⊤
    simp [Ideal.ofBits, Ideal.ieee]
  have hl : max x (-x) < ⊤ := by
    by_contra hn
    rw [ht] at h
    have : BitVec.ofBool (decide (max x (-x) < ⊤)) = 1#1 := h
    rw [decide_eq_false hn] at this
    exact absurd this (by decide)
  induction x with
  | bot => simp at hl
  | top => simp at hl
  | coe r => exact ⟨r, rfl⟩

/-- The precondition's elements are real numbers. -/
theorem finite (m : (ℓ : Loc Cert.FfnIdeal.nD Cert.FfnIdeal.τ Cert.FfnIdeal.sig) → Buf (Elt Ideal) ℓ) (h : Cert.Pre_FfnIdeal_ffn_finite m)
    (c : Dev Cert.FfnIdeal.nD) : Cert.FfnIdeal.Value.Real m c := by
  have e := congrFun (h c) (fun a => a.elim0)
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i => isReal_of_lt _ ?_, fun i => isReal_of_lt _ ?_, fun i => isReal_of_lt _ ?_, fun i => isReal_of_lt _ ?_, fun i => isReal_of_lt _ ?_⟩
  · exact Host.reduce_andi_eq_one _ _ _ _ _ e0 i (Subsingleton.elim _ _)
  · exact Host.reduce_andi_eq_one _ _ _ _ _ e1 i (Subsingleton.elim _ _)
  · exact Host.reduce_andi_eq_one _ _ _ _ _ e2 i (Subsingleton.elim _ _)
  · exact Host.reduce_andi_eq_one _ _ _ _ _ e3 i (Subsingleton.elim _ _)
  · exact Host.reduce_andi_eq_one _ _ _ _ _ e4 i (Subsingleton.elim _ _)

/-- A function of five arguments at equal arguments. -/
theorem agree {A B C D E R : Type} (f : A → B → C → D → E → R) {a a' : A} {b b' : B} {c c' : C} {d d' : D} {e e' : E}
    (h : a = a' ∧ b = b' ∧ c = c' ∧ d = d' ∧ e = e') : f a b c d e = f a' b' c' d' e' := by
  obtain ⟨rfl, rfl, rfl, rfl, rfl⟩ := h
  rfl

set_option maxHeartbeats 2000000 in
/-- The three results of the gated linear unit's backward call are the reference's derivative, over the reals. -/
theorem algebraic : Cert.algebraic_FfnIdeal_FfnRefIdeal_pre_ffn_finite := by
  pair_intro
  · run_from Cert.FfnIdeal.Gen.run_main m g
  · run_from Cert.FfnRefIdeal.Value.run m' g'
    · exact (Cert.FfnRefIdeal.Read.val_main_v55_eq m' c).trans ((agree _ (hagree c)).trans (Cert.FfnIdeal.Value.final_6 m c (finite m hpre c)).symm)
    · exact (Cert.FfnRefIdeal.Read.val_main_v53_eq m' c).trans ((agree _ (hagree c)).trans (Cert.FfnIdeal.Value.final_7 m c (finite m hpre c)).symm)
    · exact (Cert.FfnRefIdeal.Read.val_main_v56_eq m' c).trans ((agree _ (hagree c)).trans (Cert.FfnIdeal.Value.final_8 m c (finite m hpre c)).symm)

end Cert.FfnPair

end
-- ==== Proof.PoolStores.lean ====
/- The body of the pooling call: what it stores from given operands, and the contents this leaves in every result
   block and in the carried rows. -/
module

public import proofs.«01_k».proof.Proof.Gen.PoolIdeal.Launch
public import proofs.«01_k».proof.Proof.Gen.PoolIdeal.Skeleton
public import proofs.«01_k».proof.Proof.Gen.PoolIdeal.Points
public import proofs.«01_k».proof.Proof.Gen.PoolIdeal.Frame

@[expose] public section

set_option maxRecDepth 16384

noncomputable section

namespace Cert.PoolBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.PoolIdeal Cert.PoolIdeal.Gen

variable {F : FTy → Type} [FloatOps F]

local notation "𝕄" => MT nD τ sig Unit (Elt F) ℕ (UR sig nD τ) ℕ

/-- The buffers the body is handed, in its order, each a whole buffer. -/
structure Bufs where
  a0 : Memref sig .tc .vmem S256x1024 .bf16
  h0 : a0.IsWhole
  a1 : Memref sig .tc .vmem S256x512 .f32
  h1 : a1.IsWhole
  a2 : Memref sig .tc .vmem S16x512 .f32
  h2 : a2.IsWhole
  a3 : Memref sig .tc .vmem S256x1024 .bf16
  h3 : a3.IsWhole
  a4 : Memref sig .tc .vmem S256x1024 .bf16
  h4 : a4.IsWhole
  a5 : Memref sig .tc .vmem S256x2048 .bf16
  h5 : a5.IsWhole
  a6 : Memref sig .tc .vmem S256x1024 .f32
  h6 : a6.IsWhole
  a7 : Memref sig .tc .vmem S256x1024 .f32
  h7 : a7.IsWhole
  a8 : Memref sig .tc .vmem S1x1024 .f32
  h8 : a8.IsWhole
  a9 : Memref sig .tc .vmem S1024x4608 .bf16
  h9 : a9.IsWhole
  a10 : Memref sig .tc .vmem S2x256x256 .bf16
  h10 : a10.IsWhole
  a11 : Memref sig .tc .vmem S1x512 .f32
  h11 : a11.IsWhole
  a12 : Memref sig .tc .vmem S512x1024 .bf16
  h12 : a12.IsWhole
  a13 : Memref sig .tc .vmem S256x512 .bf16
  h13 : a13.IsWhole
  a14 : Memref sig .tc .vmem S256x1024 .f32
  h14 : a14.IsWhole
  a15 : Memref sig .tc .vmem S512x1024 .f32
  h15 : a15.IsWhole
  a16 : Memref sig .tc .vmem S2x256x256 .f32
  h16 : a16.IsWhole
  a17 : Memref sig .tc .vmem S8x1024 .f32
  h17 : a17.IsWhole
  a18 : Memref sig .tc .vmem S16x512 .f32
  h18 : a18.IsWhole

/-- What the thirteen operands hold. -/
structure Ins (F : FTy → Type) where
  x0 : Vec F S256x1024 .bf16
  x1 : Vec F S256x512 .f32
  x2 : Vec F S16x512 .f32
  x3 : Vec F S256x1024 .bf16
  x4 : Vec F S256x1024 .bf16
  x5 : Vec F S256x2048 .bf16
  x6 : Vec F S256x1024 .f32
  x7 : Vec F S256x1024 .f32
  x8 : Vec F S1x1024 .f32
  x9 : Vec F S1024x4608 .bf16
  x10 : Vec F S2x256x256 .bf16
  x11 : Vec F S1x512 .f32
  x12 : Vec F S512x1024 .bf16

/-- The body on these buffers. -/
abbrev Bufs.body (b : Bufs) (i : grid0.Coords) : Prog (TpuEff nD τ sig (Elt F) Λ₀ .tc) PUnit :=
  cc0_b12_pool_in_proj i b.a0 b.h0 b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18

/-- The operands' buffers hold the operands. -/
def Ins.held (x : Ins F) (b : Bufs) (c : Dev nD) : sProp 𝕄 :=
  iprop(owns (c : Thread nD τ) b.a0 fullShare x.x0 ∗ owns (c : Thread nD τ) b.a1 fullShare x.x1 ∗ owns (c : Thread nD τ) b.a2 fullShare x.x2 ∗ owns (c : Thread nD τ) b.a3 fullShare x.x3 ∗ owns (c : Thread nD τ) b.a4 fullShare x.x4 ∗ owns (c : Thread nD τ) b.a5 fullShare x.x5 ∗ owns (c : Thread nD τ) b.a6 fullShare x.x6 ∗ owns (c : Thread nD τ) b.a7 fullShare x.x7 ∗ owns (c : Thread nD τ) b.a8 fullShare x.x8 ∗ owns (c : Thread nD τ) b.a9 fullShare x.x9 ∗ owns (c : Thread nD τ) b.a10 fullShare x.x10 ∗ owns (c : Thread nD τ) b.a11 fullShare x.x11 ∗ owns (c : Thread nD τ) b.a12 fullShare x.x12)

/-- The first grid coordinate is zero: the body starts its sums anew. -/
abbrev Starts (i : grid0.Coords) : Prop :=
  (Scalar.cmpi .ne (Scalar.extui (Scalar.cmpi .eq (BitVec.ofNat 32 (i 0).val) 0#32)) 0#32) = 1#1

theorem starts_iff (t : Fin cfg0.N) : Starts (grid0.coords t) ↔ t.val % 64 = 0 := by
  have ht : t.val < 64 := Nat.lt_of_lt_of_eq t.isLt N_0
  have e0 : (grid0.coords t 0).val = t.val / 1 % 64 := Pipeline.Grid.coords_val t 0 (by decide) rfl
  simp only [Starts, e0]
  word_cmp

set_option maxHeartbeats 4000000 in
/-- What the body stores at the first point, buffer by buffer, last store first. -/
def storesA (c : Dev nD) (i : grid0.Coords) (b : Bufs) (hc : Starts i) (x : Ins F) :
    Σ' (L13 : List (View.Piece (Elt F) S256x512 .bf16)), Σ' (L14 : List (View.Piece (Elt F) S256x1024 .f32)), Σ' (L15 : List (View.Piece (Elt F) S512x1024 .f32)), Σ' (L16 : List (View.Piece (Elt F) S2x256x256 .f32)), Σ' (L17 : List (View.Piece (Elt F) S8x1024 .f32)), { L18 : List (View.Piece (Elt F) S16x512 .f32) //
      ∀ (E : Set ℕ) (K : PUnit → sProp 𝕄),
        iprop(x.held b c ∗ (∃ d, owns (c : Thread nD τ) b.a13 fullShare d) ∗ (∃ d, owns (c : Thread nD τ) b.a14 fullShare d) ∗ (∃ d, owns (c : Thread nD τ) b.a15 fullShare d) ∗ (∃ d, owns (c : Thread nD τ) b.a16 fullShare d) ∗ (∃ d, owns (c : Thread nD τ) b.a17 fullShare d) ∗ (∃ d, owns (c : Thread nD τ) b.a18 fullShare d)
            ∗ (iprop(x.held b c ∗ (∃ f, b.a13.view.loc (c : Thread nD τ) ↦[b.a13.view.set]{fullShare} b.a13.view.writes (Elt F) f L13) ∗ (∃ f, b.a14.view.loc (c : Thread nD τ) ↦[b.a14.view.set]{fullShare} b.a14.view.writes (Elt F) f L14) ∗ (∃ f, b.a15.view.loc (c : Thread nD τ) ↦[b.a15.view.set]{fullShare} b.a15.view.writes (Elt F) f L15) ∗ (∃ f, b.a16.view.loc (c : Thread nD τ) ↦[b.a16.view.set]{fullShare} b.a16.view.writes (Elt F) f L16) ∗ (∃ f, b.a17.view.loc (c : Thread nD τ) ↦[b.a17.view.set]{fullShare} b.a17.view.writes (Elt F) f L17) ∗ (∃ f, b.a18.view.loc (c : Thread nD τ) ↦[b.a18.view.set]{fullShare} b.a18.view.writes (Elt F) f L18)) -∗ K ⟨⟩))
          ⊢ wp frame (wpE (defs₀ (F := F)) Variants.none c none) E (b.body i) K } := by
  refine ⟨?_, ?_, ?_, ?_, ?_, ?_, fun E K => ?run⟩
  case run =>
  unfold Ins.held Bufs.body
  simp only [cc0_b12_pool_in_proj_eq_skeleton]; unfold cc0_b12_pool_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := b.h0.eq_unread e0; obtain rfl := b.h1.eq_unread e1; obtain rfl := b.h2.eq_unread e2; obtain rfl := b.h3.eq_unread e3; obtain rfl := b.h4.eq_unread e4; obtain rfl := b.h5.eq_unread e5; obtain rfl := b.h6.eq_unread e6; obtain rfl := b.h7.eq_unread e7; obtain rfl := b.h8.eq_unread e8; obtain rfl := b.h9.eq_unread e9; obtain rfl := b.h10.eq_unread e10; obtain rfl := b.h11.eq_unread e11; obtain rfl := b.h12.eq_unread e12
  sl_exec (disch := first | sl_exact hc)
  sl_step
  iapply Hk
  isplitl [H0 H1 H2 H3 H4 H5 H6 H7 H8 H9 H10 H11 H12]
  · isplitl [H0]
    · iexists _; isplitr; · ipureintro; exact b.h0.read_unread _
      iexact H0
    isplitl [H1]
    · iexists _; isplitr; · ipureintro; exact b.h1.read_unread _
      iexact H1
    isplitl [H2]
    · iexists _; isplitr; · ipureintro; exact b.h2.read_unread _
      iexact H2
    isplitl [H3]
    · iexists _; isplitr; · ipureintro; exact b.h3.read_unread _
      iexact H3
    isplitl [H4]
    · iexists _; isplitr; · ipureintro; exact b.h4.read_unread _
      iexact H4
    isplitl [H5]
    · iexists _; isplitr; · ipureintro; exact b.h5.read_unread _
      iexact H5
    isplitl [H6]
    · iexists _; isplitr; · ipureintro; exact b.h6.read_unread _
      iexact H6
    isplitl [H7]
    · iexists _; isplitr; · ipureintro; exact b.h7.read_unread _
      iexact H7
    isplitl [H8]
    · iexists _; isplitr; · ipureintro; exact b.h8.read_unread _
      iexact H8
    isplitl [H9]
    · iexists _; isplitr; · ipureintro; exact b.h9.read_unread _
      iexact H9
    isplitl [H10]
    · iexists _; isplitr; · ipureintro; exact b.h10.read_unread _
      iexact H10
    isplitl [H11]
    · iexists _; isplitr; · ipureintro; exact b.h11.read_unread _
      iexact H11
    iexists _; isplitr; · ipureintro; exact b.h12.read_unread _
    iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

set_option maxHeartbeats 4000000 in
/-- What the body stores at a later point, buffer by buffer, last store first. -/
def storesB (c : Dev nD) (i : grid0.Coords) (b : Bufs) (hc : ¬Starts i) (x : Ins F) (o15 : Vec F S512x1024 .f32) (o16 : Vec F S2x256x256 .f32) (o17 : Vec F S8x1024 .f32) (o18 : Vec F S16x512 .f32) :
    Σ' (L13 : List (View.Piece (Elt F) S256x512 .bf16)), Σ' (L14 : List (View.Piece (Elt F) S256x1024 .f32)), Σ' (L15 : List (View.Piece (Elt F) S512x1024 .f32)), Σ' (L16 : List (View.Piece (Elt F) S2x256x256 .f32)), Σ' (L17 : List (View.Piece (Elt F) S8x1024 .f32)), { L18 : List (View.Piece (Elt F) S16x512 .f32) //
      ∀ (E : Set ℕ) (K : PUnit → sProp 𝕄),
        iprop(x.held b c ∗ (∃ d, owns (c : Thread nD τ) b.a13 fullShare d) ∗ (∃ d, owns (c : Thread nD τ) b.a14 fullShare d) ∗ owns (c : Thread nD τ) b.a15 fullShare o15 ∗ owns (c : Thread nD τ) b.a16 fullShare o16 ∗ owns (c : Thread nD τ) b.a17 fullShare o17 ∗ owns (c : Thread nD τ) b.a18 fullShare o18
            ∗ (iprop(x.held b c ∗ (∃ f, b.a13.view.loc (c : Thread nD τ) ↦[b.a13.view.set]{fullShare} b.a13.view.writes (Elt F) f L13) ∗ (∃ f, b.a14.view.loc (c : Thread nD τ) ↦[b.a14.view.set]{fullShare} b.a14.view.writes (Elt F) f L14) ∗ (∃ f, b.a15.view.loc (c : Thread nD τ) ↦[b.a15.view.set]{fullShare} b.a15.view.writes (Elt F) f L15) ∗ (∃ f, b.a16.view.loc (c : Thread nD τ) ↦[b.a16.view.set]{fullShare} b.a16.view.writes (Elt F) f L16) ∗ (b.a17.view.loc (c : Thread nD τ) ↦[b.a17.view.set]{fullShare} b.a17.view.writes (Elt F) (b.h17.unread o17) L17) ∗ (∃ f, b.a18.view.loc (c : Thread nD τ) ↦[b.a18.view.set]{fullShare} b.a18.view.writes (Elt F) f L18)) -∗ K ⟨⟩))
          ⊢ wp frame (wpE (defs₀ (F := F)) Variants.none c none) E (b.body i) K } := by
  refine ⟨?_, ?_, ?_, ?_, ?_, ?_, fun E K => ?run⟩
  case run =>
  unfold Ins.held Bufs.body
  simp only [cc0_b12_pool_in_proj_eq_skeleton]; unfold cc0_b12_pool_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩⟩, ⟨%d13, %f13, -, H13⟩, ⟨%d14, %f14, -, H14⟩, ⟨%f15, %e15, H15⟩, ⟨%f16, %e16, H16⟩, ⟨%f17, %e17, H17⟩, ⟨%f18, %e18, H18⟩, Hk⟩
  obtain rfl := b.h0.eq_unread e0; obtain rfl := b.h1.eq_unread e1; obtain rfl := b.h2.eq_unread e2; obtain rfl := b.h3.eq_unread e3; obtain rfl := b.h4.eq_unread e4; obtain rfl := b.h5.eq_unread e5; obtain rfl := b.h6.eq_unread e6; obtain rfl := b.h7.eq_unread e7; obtain rfl := b.h8.eq_unread e8; obtain rfl := b.h9.eq_unread e9; obtain rfl := b.h10.eq_unread e10; obtain rfl := b.h11.eq_unread e11; obtain rfl := b.h12.eq_unread e12; obtain rfl := b.h15.eq_unread e15; obtain rfl := b.h16.eq_unread e16; obtain rfl := b.h17.eq_unread e17; obtain rfl := b.h18.eq_unread e18
  sl_exec (disch := first | sl_exact hc)
  sl_step
  iapply Hk
  isplitl [H0 H1 H2 H3 H4 H5 H6 H7 H8 H9 H10 H11 H12]
  · isplitl [H0]
    · iexists _; isplitr; · ipureintro; exact b.h0.read_unread _
      iexact H0
    isplitl [H1]
    · iexists _; isplitr; · ipureintro; exact b.h1.read_unread _
      iexact H1
    isplitl [H2]
    · iexists _; isplitr; · ipureintro; exact b.h2.read_unread _
      iexact H2
    isplitl [H3]
    · iexists _; isplitr; · ipureintro; exact b.h3.read_unread _
      iexact H3
    isplitl [H4]
    · iexists _; isplitr; · ipureintro; exact b.h4.read_unread _
      iexact H4
    isplitl [H5]
    · iexists _; isplitr; · ipureintro; exact b.h5.read_unread _
      iexact H5
    isplitl [H6]
    · iexists _; isplitr; · ipureintro; exact b.h6.read_unread _
      iexact H6
    isplitl [H7]
    · iexists _; isplitr; · ipureintro; exact b.h7.read_unread _
      iexact H7
    isplitl [H8]
    · iexists _; isplitr; · ipureintro; exact b.h8.read_unread _
      iexact H8
    isplitl [H9]
    · iexists _; isplitr; · ipureintro; exact b.h9.read_unread _
      iexact H9
    isplitl [H10]
    · iexists _; isplitr; · ipureintro; exact b.h10.read_unread _
      iexact H10
    isplitl [H11]
    · iexists _; isplitr; · ipureintro; exact b.h11.read_unread _
      iexact H11
    iexists _; isplitr; · ipureintro; exact b.h12.read_unread _
    iexact H12
  isplitl [H13]; · iexists _; iexact H13
  isplitl [H14]; · iexists _; iexact H14
  isplitl [H15]; · iexists _; iexact H15
  isplitl [H16]; · iexists _; iexact H16
  isplitl [H17]; · iexact H17
  iexists _; iexact H18

/-! ## The contents -/

/-- A buffer of this shape, to state contents over. -/
abbrev at13 : View sig .tc .vmem S256x512 .bf16 := (Memref.whole cc0_stg13_0 : Memref sig .tc .vmem S256x512 .bf16).view
/-- A buffer of this shape, to state contents over. -/
abbrev at14 : View sig .tc .vmem S256x1024 .f32 := (Memref.whole cc0_stg14_0 : Memref sig .tc .vmem S256x1024 .f32).view
/-- A buffer of this shape, to state contents over. -/
abbrev at15 : View sig .tc .vmem S512x1024 .f32 := (Memref.whole cc0_stg15_0 : Memref sig .tc .vmem S512x1024 .f32).view
/-- A buffer of this shape, to state contents over. -/
abbrev at16 : View sig .tc .vmem S2x256x256 .f32 := (Memref.whole cc0_stg16_0 : Memref sig .tc .vmem S2x256x256 .f32).view
/-- A buffer of this shape, to state contents over. -/
abbrev at17 : View sig .tc .vmem S8x1024 .f32 := (Memref.whole cc0_stg17_0 : Memref sig .tc .vmem S8x1024 .f32).view
/-- A buffer of this shape, to state contents over. -/
abbrev at18 : View sig .tc .vmem S16x512 .f32 := (Memref.whole cc0_scratch0 : Memref sig .tc .vmem S16x512 .f32).view

section Contents

variable (c : Dev nD) (i : grid0.Coords) (b : Bufs) (x : Ins F)

def dzpA (hc : Starts i) : Vec F S256x512 .bf16 :=
  at13.read (Elt F) (at13.writes (Elt F) at13.junk (storesA c i b hc x).1)
theorem coverA13 (hc : Starts i) (y : S256x512.Idx) : ∃ p ∈ (storesA c i b hc x).1, y ∈ p.1.set :=
  View.cover_of_tiledL (storesA c i b hc x).1 S256x512.size (by sl_kernel_rfl) y
def dxA (hc : Starts i) : Vec F S256x1024 .f32 :=
  at14.read (Elt F) (at14.writes (Elt F) at14.junk (storesA c i b hc x).2.1)
theorem coverA14 (hc : Starts i) (y : S256x1024.Idx) : ∃ p ∈ (storesA c i b hc x).2.1, y ∈ p.1.set :=
  View.cover_of_tiledL (storesA c i b hc x).2.1 S256x1024.size (by sl_kernel_rfl) y
def dppA (hc : Starts i) : Vec F S512x1024 .f32 :=
  at15.read (Elt F) (at15.writes (Elt F) at15.junk (storesA c i b hc x).2.2.1)
theorem coverA15 (hc : Starts i) (y : S512x1024.Idx) : ∃ p ∈ (storesA c i b hc x).2.2.1, y ∈ p.1.set :=
  View.cover_of_tiledL (storesA c i b hc x).2.2.1 S512x1024.size (by sl_kernel_rfl) y
def dpwA (hc : Starts i) : Vec F S2x256x256 .f32 :=
  at16.read (Elt F) (at16.writes (Elt F) at16.junk (storesA c i b hc x).2.2.2.1)
theorem coverA16 (hc : Starts i) (y : S2x256x256.Idx) : ∃ p ∈ (storesA c i b hc x).2.2.2.1, y ∈ p.1.set :=
  View.cover_of_tiledBy (storesA c i b hc x).2.2.2.1 ![1, 256, 256] (by sl_kernel_rfl) y
def vecA (hc : Starts i) : Vec F S8x1024 .f32 :=
  at17.read (Elt F) (at17.writes (Elt F) at17.junk (storesA c i b hc x).2.2.2.2.1)
theorem coverA17 (hc : Starts i) (y : S8x1024.Idx) : ∃ p ∈ (storesA c i b hc x).2.2.2.2.1, y ∈ p.1.set :=
  View.cover_of_tiledBy (storesA c i b hc x).2.2.2.2.1 ![1, 512] (by sl_kernel_rfl) y
def aheadA (hc : Starts i) : Vec F S16x512 .f32 :=
  at18.read (Elt F) (at18.writes (Elt F) at18.junk (storesA c i b hc x).2.2.2.2.2.1)
theorem coverA18 (hc : Starts i) (y : S16x512.Idx) : ∃ p ∈ (storesA c i b hc x).2.2.2.2.2.1, y ∈ p.1.set :=
  View.cover_of_tiledL (storesA c i b hc x).2.2.2.2.2.1 S16x512.size (by sl_kernel_rfl) y
/-- All contents at the first point. -/
def outA (hc : Starts i) : Vec F S256x512 .bf16 × Vec F S256x1024 .f32 × Vec F S512x1024 .f32 × Vec F S2x256x256 .f32 × Vec F S8x1024 .f32 × Vec F S16x512 .f32 :=
  (dzpA c i b x hc, dxA c i b x hc, dppA c i b x hc, dpwA c i b x hc, vecA c i b x hc, aheadA c i b x hc)
def dzpB (hc : ¬Starts i) (o15 : Vec F S512x1024 .f32) (o16 : Vec F S2x256x256 .f32) (o17 : Vec F S8x1024 .f32) (o18 : Vec F S16x512 .f32) : Vec F S256x512 .bf16 :=
  at13.read (Elt F) (at13.writes (Elt F) at13.junk (storesB c i b hc x o15 o16 o17 o18).1)
theorem coverB13 (hc : ¬Starts i) (o15 : Vec F S512x1024 .f32) (o16 : Vec F S2x256x256 .f32) (o17 : Vec F S8x1024 .f32) (o18 : Vec F S16x512 .f32) (y : S256x512.Idx) : ∃ p ∈ (storesB c i b hc x o15 o16 o17 o18).1, y ∈ p.1.set :=
  View.cover_of_tiledL (storesB c i b hc x o15 o16 o17 o18).1 S256x512.size (by sl_kernel_rfl) y
def dxB (hc : ¬Starts i) (o15 : Vec F S512x1024 .f32) (o16 : Vec F S2x256x256 .f32) (o17 : Vec F S8x1024 .f32) (o18 : Vec F S16x512 .f32) : Vec F S256x1024 .f32 :=
  at14.read (Elt F) (at14.writes (Elt F) at14.junk (storesB c i b hc x o15 o16 o17 o18).2.1)
theorem coverB14 (hc : ¬Starts i) (o15 : Vec F S512x1024 .f32) (o16 : Vec F S2x256x256 .f32) (o17 : Vec F S8x1024 .f32) (o18 : Vec F S16x512 .f32) (y : S256x1024.Idx) : ∃ p ∈ (storesB c i b hc x o15 o16 o17 o18).2.1, y ∈ p.1.set :=
  View.cover_of_tiledL (storesB c i b hc x o15 o16 o17 o18).2.1 S256x1024.size (by sl_kernel_rfl) y
def dppB (hc : ¬Starts i) (o15 : Vec F S512x1024 .f32) (o16 : Vec F S2x256x256 .f32) (o17 : Vec F S8x1024 .f32) (o18 : Vec F S16x512 .f32) : Vec F S512x1024 .f32 :=
  at15.read (Elt F) (at15.writes (Elt F) at15.junk (storesB c i b hc x o15 o16 o17 o18).2.2.1)
theorem coverB15 (hc : ¬Starts i) (o15 : Vec F S512x1024 .f32) (o16 : Vec F S2x256x256 .f32) (o17 : Vec F S8x1024 .f32) (o18 : Vec F S16x512 .f32) (y : S512x1024.Idx) : ∃ p ∈ (storesB c i b hc x o15 o16 o17 o18).2.2.1, y ∈ p.1.set :=
  View.cover_of_tiledL (storesB c i b hc x o15 o16 o17 o18).2.2.1 S512x1024.size (by sl_kernel_rfl) y
def dpwB (hc : ¬Starts i) (o15 : Vec F S512x1024 .f32) (o16 : Vec F S2x256x256 .f32) (o17 : Vec F S8x1024 .f32) (o18 : Vec F S16x512 .f32) : Vec F S2x256x256 .f32 :=
  at16.read (Elt F) (at16.writes (Elt F) at16.junk (storesB c i b hc x o15 o16 o17 o18).2.2.2.1)
theorem coverB16 (hc : ¬Starts i) (o15 : Vec F S512x1024 .f32) (o16 : Vec F S2x256x256 .f32) (o17 : Vec F S8x1024 .f32) (o18 : Vec F S16x512 .f32) (y : S2x256x256.Idx) : ∃ p ∈ (storesB c i b hc x o15 o16 o17 o18).2.2.2.1, y ∈ p.1.set :=
  View.cover_of_tiledBy (storesB c i b hc x o15 o16 o17 o18).2.2.2.1 ![1, 256, 256] (by sl_kernel_rfl) y
def vecB (hc : ¬Starts i) (o15 : Vec F S512x1024 .f32) (o16 : Vec F S2x256x256 .f32) (o17 : Vec F S8x1024 .f32) (o18 : Vec F S16x512 .f32) : Vec F S8x1024 .f32 :=
  b.a17.view.read (Elt F) (b.a17.view.writes (Elt F) (b.h17.unread o17) (storesB c i b hc x o15 o16 o17 o18).2.2.2.2.1)
def aheadB (hc : ¬Starts i) (o15 : Vec F S512x1024 .f32) (o16 : Vec F S2x256x256 .f32) (o17 : Vec F S8x1024 .f32) (o18 : Vec F S16x512 .f32) : Vec F S16x512 .f32 :=
  at18.read (Elt F) (at18.writes (Elt F) at18.junk (storesB c i b hc x o15 o16 o17 o18).2.2.2.2.2.1)
theorem coverB18 (hc : ¬Starts i) (o15 : Vec F S512x1024 .f32) (o16 : Vec F S2x256x256 .f32) (o17 : Vec F S8x1024 .f32) (o18 : Vec F S16x512 .f32) (y : S16x512.Idx) : ∃ p ∈ (storesB c i b hc x o15 o16 o17 o18).2.2.2.2.2.1, y ∈ p.1.set :=
  View.cover_of_tiledL (storesB c i b hc x o15 o16 o17 o18).2.2.2.2.2.1 S16x512.size (by sl_kernel_rfl) y
/-- All contents at a later point. -/
def outB (hc : ¬Starts i) (o15 : Vec F S512x1024 .f32) (o16 : Vec F S2x256x256 .f32) (o17 : Vec F S8x1024 .f32) (o18 : Vec F S16x512 .f32) : Vec F S256x512 .bf16 × Vec F S256x1024 .f32 × Vec F S512x1024 .f32 × Vec F S2x256x256 .f32 × Vec F S8x1024 .f32 × Vec F S16x512 .f32 :=
  (dzpB c i b x hc o15 o16 o17 o18, dxB c i b x hc o15 o16 o17 o18, dppB c i b x hc o15 o16 o17 o18, dpwB c i b x hc o15 o16 o17 o18, vecB c i b x hc o15 o16 o17 o18, aheadB c i b x hc o15 o16 o17 o18)

end Contents

end Cert.PoolBody

end
-- ==== Proof.PoolBody.lean ====
/- The pooling call over its grid: what every point leaves in the result blocks and in the carried rows, and the run of
   the whole call with these contents. -/
module

public import proofs.«01_k».proof.Proof.PoolStores
public import proofs.«01_k».proof.Proof.Gen.PoolIdeal.Launch
public import proofs.«01_k».proof.Proof.Gen.PoolIdeal.Skeleton
public import proofs.«01_k».proof.Proof.Gen.PoolIdeal.Points
public import proofs.«01_k».proof.Proof.Gen.PoolIdeal.Frame

@[expose] public section

set_option maxRecDepth 16384

noncomputable section

namespace Cert.PoolBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.PoolIdeal Cert.PoolIdeal.Gen

variable {F : FTy → Type} [FloatOps F]

local notation "𝕄" => MT nD τ sig Unit (Elt F) ℕ (UR sig nD τ) ℕ

/-! ## At the points of the grid -/

variable (m : (ℓ : Loc nD τ sig) → Buf (Elt F) ℓ) (ρ : Dev nD → PrngReg)

/-- The buffers the body is handed at point `t`. -/
abbrev bufs (t : Fin cfg0.N) : Bufs :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12), win0_13.stage (cfg0.slots t 13), hstage0_13 ((cfg0.slots t 13).cast nbuf0_13), win0_14.stage (cfg0.slots t 14), hstage0_14 ((cfg0.slots t 14).cast nbuf0_14), win0_15.stage (cfg0.slots t 15), hstage0_15 ((cfg0.slots t 15).cast nbuf0_15), win0_16.stage (cfg0.slots t 16), hstage0_16 ((cfg0.slots t 16).cast nbuf0_16), win0_17.stage (cfg0.slots t 17), hstage0_17 ((cfg0.slots t 17).cast nbuf0_17), Memref.whole cc0_scratch0, Memref.isWhole_whole _⟩

/-- The operands at point `t`. -/
abbrev ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t⟩

/-- The results' blocks and the carried rows after point `n`. -/
def left (c : Dev nD) : (n : ℕ) → n < cfg0.N → Vec F S256x512 .bf16 × Vec F S256x1024 .f32 × Vec F S512x1024 .f32 × Vec F S2x256x256 .f32 × Vec F S8x1024 .f32 × Vec F S16x512 .f32
  | 0, hn => outA c (grid0.coords ⟨0, hn⟩) (bufs ⟨0, hn⟩) (ins m c ⟨0, hn⟩) ((starts_iff ⟨0, hn⟩).mpr (Nat.zero_mod _))
  | n + 1, hn =>
    if h : (n + 1) % 64 = 0 then
      outA c (grid0.coords ⟨n + 1, hn⟩) (bufs ⟨n + 1, hn⟩) (ins m c ⟨n + 1, hn⟩) ((starts_iff ⟨n + 1, hn⟩).mpr h)
    else
      let p := left c n (Nat.lt_of_succ_lt hn)
      outB c (grid0.coords ⟨n + 1, hn⟩) (bufs ⟨n + 1, hn⟩) (ins m c ⟨n + 1, hn⟩) (fun g => h ((starts_iff ⟨n + 1, hn⟩).mp g))
        p.2.2.1 p.2.2.2.1 p.2.2.2.2.1 p.2.2.2.2.2

/-- What the point before `t` left. -/
abbrev prior (c : Dev nD) (t : Fin cfg0.N) := left m c (t.val - 1) (Nat.lt_of_le_of_lt (Nat.sub_le _ _) t.isLt)

theorem left_A (c : Dev nD) (t : Fin cfg0.N) (h : t.val % 64 = 0) :
    left m c t.val t.isLt = outA c (grid0.coords t) (bufs t) (ins m c t) ((starts_iff t).mpr h) := by
  obtain ⟨n, hn⟩ := t
  cases n with
  | zero => rfl
  | succ n => exact dif_pos h

theorem left_B (c : Dev nD) (t : Fin cfg0.N) (h : ¬t.val % 64 = 0) :
    left m c t.val t.isLt = outB c (grid0.coords t) (bufs t) (ins m c t) (fun g => h ((starts_iff t).mp g))
      (prior m c t).2.2.1 (prior m c t).2.2.2.1 (prior m c t).2.2.2.2.1 (prior m c t).2.2.2.2.2 := by
  obtain ⟨n, hn⟩ := t
  cases n with
  | zero => exact absurd (Nat.zero_mod _) h
  | succ n => exact dif_neg h

/-- The proof data: every operand's block as fetched, every result's block as `left`, the carried rows as the point
    before left them (anything before the first point). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (left m c t.val t.isLt).1
    | ⟨14, _⟩ => (left m c t.val t.isLt).2.1
    | ⟨15, _⟩ => (left m c t.val t.isLt).2.2.1
    | ⟨16, _⟩ => (left m c t.val t.isLt).2.2.2.1
    | ⟨17, _⟩ => (left m c t.val t.isLt).2.2.2.2.1
    | ⟨_ + 18, h⟩ => absurd h (Nat.not_lt.2 (Nat.le_add_left _ _))
  Φ t := iprop((∃ d, ⌜∀ h : 0 < t.val, d = (left m c (t.val - 1) (by have := t.isLt; omega)).2.2.2.2.2⌝
      ∗ owns (c : Thread nD τ) (Memref.whole cc0_scratch0 : Memref sig .tc .vmem S16x512 .f32) fullShare d) ∗ (∃ r, prngReg c r))
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = (left m c t.val t.isLt).1 := by dsimp only [dats]
theorem after_14 (c : Dev nD) (t : Fin cfg0.N) : (dats m 0 c).after 14 t = (left m c t.val t.isLt).2.1 := by dsimp only [dats]
theorem after_15 (c : Dev nD) (t : Fin cfg0.N) : (dats m 0 c).after 15 t = (left m c t.val t.isLt).2.2.1 := by dsimp only [dats]
theorem after_16 (c : Dev nD) (t : Fin cfg0.N) : (dats m 0 c).after 16 t = (left m c t.val t.isLt).2.2.2.1 := by dsimp only [dats]
theorem after_17 (c : Dev nD) (t : Fin cfg0.N) : (dats m 0 c).after 17 t = (left m c t.val t.isLt).2.2.2.2.1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_15 (c : Dev nD) (t : Fin cfg0.N) (h : ¬t.val % 64 = 0) (d) : (dats m 0 c).before 15 t d = (prior m c t).2.2.1 := by
  have hN : t.val < 64 := lt_of_lt_of_eq t.isLt (show cfg0.N = 64 from N_0)
  rw [Dat.before_out_kept _ 15 rfl t (by omega) (Bool.eq_false_iff.mpr fun h => by have := (flush0_15 _).mp h; dsimp only at this; omega)
    (fun _ => rfl) (fun _ _ => rfl)]
  dsimp only [dats]
theorem before_16 (c : Dev nD) (t : Fin cfg0.N) (h : ¬t.val % 64 = 0) (d) : (dats m 0 c).before 16 t d = (prior m c t).2.2.2.1 := by
  have hN : t.val < 64 := lt_of_lt_of_eq t.isLt (show cfg0.N = 64 from N_0)
  rw [Dat.before_out_kept _ 16 rfl t (by omega) (Bool.eq_false_iff.mpr fun h => by have := (flush0_16 _).mp h; dsimp only at this; omega)
    (fun _ => rfl) (fun _ _ => rfl)]
  dsimp only [dats]
theorem before_17 (c : Dev nD) (t : Fin cfg0.N) (h : ¬t.val % 64 = 0) (d) : (dats m 0 c).before 17 t d = (prior m c t).2.2.2.2.1 := by
  have hN : t.val < 64 := lt_of_lt_of_eq t.isLt (show cfg0.N = 64 from N_0)
  rw [Dat.before_out_kept _ 17 rfl t (by omega) (Bool.eq_false_iff.mpr fun h => by have := (flush0_17 _).mp h; dsimp only at this; omega)
    (fun _ => rfl) (fun _ _ => rfl)]
  dsimp only [dats]

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (bufs t).a0 fullShare ((dats m 0 c).before 0 t d))
    ∗ (∃ d, owns (c : Thread nD τ) (bufs t).a1 fullShare ((dats m 0 c).before 1 t d))
    ∗ (∃ d, owns (c : Thread nD τ) (bufs t).a2 fullShare ((dats m 0 c).before 2 t d))
    ∗ (∃ d, owns (c : Thread nD τ) (bufs t).a3 fullShare ((dats m 0 c).before 3 t d))
    ∗ (∃ d, owns (c : Thread nD τ) (bufs t).a4 fullShare ((dats m 0 c).before 4 t d))
    ∗ (∃ d, owns (c : Thread nD τ) (bufs t).a5 fullShare ((dats m 0 c).before 5 t d))
    ∗ (∃ d, owns (c : Thread nD τ) (bufs t).a6 fullShare ((dats m 0 c).before 6 t d))
    ∗ (∃ d, owns (c : Thread nD τ) (bufs t).a7 fullShare ((dats m 0 c).before 7 t d))
    ∗ (∃ d, owns (c : Thread nD τ) (bufs t).a8 fullShare ((dats m 0 c).before 8 t d))
    ∗ (∃ d, owns (c : Thread nD τ) (bufs t).a9 fullShare ((dats m 0 c).before 9 t d))
    ∗ (∃ d, owns (c : Thread nD τ) (bufs t).a10 fullShare ((dats m 0 c).before 10 t d))
    ∗ (∃ d, owns (c : Thread nD τ) (bufs t).a11 fullShare ((dats m 0 c).before 11 t d))
    ∗ (∃ d, owns (c : Thread nD τ) (bufs t).a12 fullShare ((dats m 0 c).before 12 t d))
    ∗ (∃ d, owns (c : Thread nD τ) (bufs t).a13 fullShare ((dats m 0 c).before 13 t d))
    ∗ (∃ d, owns (c : Thread nD τ) (bufs t).a14 fullShare ((dats m 0 c).before 14 t d))
    ∗ (∃ d, owns (c : Thread nD τ) (bufs t).a15 fullShare ((dats m 0 c).before 15 t d))
    ∗ (∃ d, owns (c : Thread nD τ) (bufs t).a16 fullShare ((dats m 0 c).before 16 t d))
    ∗ (∃ d, owns (c : Thread nD τ) (bufs t).a17 fullShare ((dats m 0 c).before 17 t d)))

/-- What it hands back. -/
def post (c : Dev nD) (t : Fin cfg0.N) : sProp 𝕄 :=
  iprop((dats m 0 c).Φ t.succ ∗ (dats m 0 c).owesAt () t.succ
    ∗ owns (c : Thread nD τ) (bufs t).a0 fullShare ((dats m 0 c).after 0 t)
    ∗ owns (c : Thread nD τ) (bufs t).a1 fullShare ((dats m 0 c).after 1 t)
    ∗ owns (c : Thread nD τ) (bufs t).a2 fullShare ((dats m 0 c).after 2 t)
    ∗ owns (c : Thread nD τ) (bufs t).a3 fullShare ((dats m 0 c).after 3 t)
    ∗ owns (c : Thread nD τ) (bufs t).a4 fullShare ((dats m 0 c).after 4 t)
    ∗ owns (c : Thread nD τ) (bufs t).a5 fullShare ((dats m 0 c).after 5 t)
    ∗ owns (c : Thread nD τ) (bufs t).a6 fullShare ((dats m 0 c).after 6 t)
    ∗ owns (c : Thread nD τ) (bufs t).a7 fullShare ((dats m 0 c).after 7 t)
    ∗ owns (c : Thread nD τ) (bufs t).a8 fullShare ((dats m 0 c).after 8 t)
    ∗ owns (c : Thread nD τ) (bufs t).a9 fullShare ((dats m 0 c).after 9 t)
    ∗ owns (c : Thread nD τ) (bufs t).a10 fullShare ((dats m 0 c).after 10 t)
    ∗ owns (c : Thread nD τ) (bufs t).a11 fullShare ((dats m 0 c).after 11 t)
    ∗ owns (c : Thread nD τ) (bufs t).a12 fullShare ((dats m 0 c).after 12 t)
    ∗ owns (c : Thread nD τ) (bufs t).a13 fullShare ((dats m 0 c).after 13 t)
    ∗ owns (c : Thread nD τ) (bufs t).a14 fullShare ((dats m 0 c).after 14 t)
    ∗ owns (c : Thread nD τ) (bufs t).a15 fullShare ((dats m 0 c).after 15 t)
    ∗ owns (c : Thread nD τ) (bufs t).a16 fullShare ((dats m 0 c).after 16 t)
    ∗ owns (c : Thread nD τ) (bufs t).a17 fullShare ((dats m 0 c).after 17 t))

set_option maxHeartbeats 6000000 in
theorem sound (c : Dev nD) (t : Fin cfg0.N) :
    pre m c t ⊢ wp frame (wpE (defs₀ (F := F)) Variants.none c none) Set.univ (bodyAt0 t) (fun _ => post m c t) := by
  unfold pre post
  rw [show bodyAt0 t = (bufs t).body (F := F) (grid0.coords t) from rfl]
  simp only [before_0, before_1, before_2, before_3, before_4, before_5, before_6, before_7, before_8, before_9, before_10, before_11, before_12]
  rw [show (dats m 0 c).owesAt () t.succ = (dats m 0 c).owesAt () t.castSucc from rfl,
    after_0, after_1, after_2, after_3, after_4, after_5, after_6, after_7, after_8, after_9, after_10, after_11, after_12, after_13, after_14, after_15, after_16, after_17]
  by_cases h : t.val % 64 = 0
  · rw [left_A m c t h]
    dsimp only [dats]
    unfold outA; dsimp only
    iintro ⟨⟨⟨%ds, %es, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((storesA c (grid0.coords t) (bufs t) ((starts_iff t).mpr h) (ins m c t)).2.2.2.2.2.2 Set.univ _)
    isplitl [H0 H1 H2 H3 H4 H5 H6 H7 H8 H9 H10 H11 H12]
    · unfold Ins.held
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]; · iexists _; iexact H13
    isplitl [H14]; · iexists _; iexact H14
    isplitl [H15]; · iexists _; iexact H15
    isplitl [H16]; · iexists _; iexact H16
    isplitl [H17]; · iexists _; iexact H17
    isplitl [HS]; · iexists _; iexact HS
    unfold Ins.held
    iintro ⟨⟨H0, H1, H2, H3, H4, H5, H6, H7, H8, H9, H10, H11, H12⟩, ⟨%g13, H13⟩, ⟨%g14, H14⟩, ⟨%g15, H15⟩, ⟨%g16, H16⟩, ⟨%g17, H17⟩, ⟨%g18, H18⟩⟩
    isplitl [H18 Hg]
    · isplitl [H18]
      · iexists _; isplitr
        · ipureintro; exact fun _ => (congrArg (fun p => p.2.2.2.2.2) (left_A m c t h)).symm
        · unfold owns; iexists _; isplitr
          swap; · iexact H18
          ipureintro; exact View.read_writes_of_cover at18 _ at18 at18.junk _ (coverA18 c (grid0.coords t) (bufs t) (ins m c t) ((starts_iff t).mpr h))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (coverA13 c _ _ _ _)
    isplitl [H14]
    · unfold owns; iexists _; isplitr
      swap; · iexact H14
      ipureintro; exact View.read_writes_of_cover _ _ _ _ _ (coverA14 c _ _ _ _)
    isplitl [H15]
    · unfold owns; iexists _; isplitr
      swap; · iexact H15
      ipureintro; exact View.read_writes_of_cover _ _ _ _ _ (coverA15 c _ _ _ _)
    isplitl [H16]
    · unfold owns; iexists _; isplitr
      swap; · iexact H16
      ipureintro; exact View.read_writes_of_cover _ _ _ _ _ (coverA16 c _ _ _ _)
    unfold owns; iexists _; isplitr
    swap; · iexact H17
    ipureintro; exact View.read_writes_of_cover _ _ _ _ _ (coverA17 c _ _ _ _)
  · simp only [before_15 m c t h, before_16 m c t h, before_17 m c t h]
    rw [left_B m c t h]
    dsimp only [dats]
    unfold outB; dsimp only
    iintro ⟨⟨⟨%ds, %es, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    obtain rfl := es (by have : t.val ≠ 0 := fun e => h (by rw [e]); simpa [Nat.pos_iff_ne_zero] using this)
    iapply ((storesB c (grid0.coords t) (bufs t) (fun g => h ((starts_iff t).mp g)) (ins m c t) (prior m c t).2.2.1 (prior m c t).2.2.2.1 (prior m c t).2.2.2.2.1 (prior m c t).2.2.2.2.2).2.2.2.2.2.2 Set.univ _)
    isplitl [H0 H1 H2 H3 H4 H5 H6 H7 H8 H9 H10 H11 H12]
    · unfold Ins.held
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]; · iexists _; iexact H13
    isplitl [H14]; · iexists _; iexact H14
    isplitl [H15]; · iexact H15
    isplitl [H16]; · iexact H16
    isplitl [H17]; · iexact H17
    isplitl [HS]; · iexact HS
    unfold Ins.held
    iintro ⟨⟨H0, H1, H2, H3, H4, H5, H6, H7, H8, H9, H10, H11, H12⟩, ⟨%g13, H13⟩, ⟨%g14, H14⟩, ⟨%g15, H15⟩, ⟨%g16, H16⟩, H17, ⟨%g18, H18⟩⟩
    isplitl [H18 Hg]
    · isplitl [H18]
      · iexists _; isplitr
        · ipureintro; exact fun _ => (congrArg (fun p => p.2.2.2.2.2) (left_B m c t h)).symm
        · unfold owns; iexists _; isplitr
          swap; · iexact H18
          ipureintro; exact View.read_writes_of_cover at18 _ at18 at18.junk _ (coverB18 c (grid0.coords t) (bufs t) (ins m c t) (fun g => h ((starts_iff t).mp g)) (prior m c t).2.2.1 (prior m c t).2.2.2.1 (prior m c t).2.2.2.2.1 (prior m c t).2.2.2.2.2)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (coverB13 c _ _ _ _ _ _ _ _)
    isplitl [H14]
    · unfold owns; iexists _; isplitr
      swap; · iexact H14
      ipureintro; exact View.read_writes_of_cover _ _ _ _ _ (coverB14 c _ _ _ _ _ _ _ _)
    isplitl [H15]
    · unfold owns; iexists _; isplitr
      swap; · iexact H15
      ipureintro; exact View.read_writes_of_cover _ _ _ _ _ (coverB15 c _ _ _ _ _ _ _ _)
    isplitl [H16]
    · unfold owns; iexists _; isplitr
      swap; · iexact H16
      ipureintro; exact View.read_writes_of_cover _ _ _ _ _ (coverB16 c _ _ _ _ _ _ _ _)
    unfold owns; iexists _; isplitr
    swap; · iexact H17
    ipureintro; rfl

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

set_option backward.isDefEq.respectTransparency.types false in
set_option maxHeartbeats 800000 in
/-- The whole call: every array ends at what the proof data says, every counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m)
    (hin := fun c => by
      unfold Pipeline.ΦA; rw [scopedRest0_eq]; dsimp only [dats]; simp only [owns_whole]
      iintro ⟨⟨%d, H⟩, Hg⟩
      isplitl [H]
      · iexists d; isplitr
        · ipureintro; exact fun h => absurd h (by simp)
        · iexact H
      iexact Hg)
    (hout := fun c => by
      unfold Pipeline.ΦA; rw [scopedRest0_eq]; dsimp only [dats]; simp only [owns_whole]
      iintro ⟨⟨%d, -, H⟩, Hg⟩
      isplitl [H]
      · iexists d; iexact H
      iexact Hg)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

end Cert.PoolBody

end
-- ==== Proof.PoolFrame.lean ====
/- The frames of the pooling call's programs: the kernel at the device's words, the kernel at the extended reals, and the
   reference. The first two are one text, so one run serves both. -/
module

public import proofs.«01_k».proof.Defs
public import proofs.«01_k».proof.Proof.PoolBody
public import proofs.«01_k».proof.Proof.Gen.Pool
public import proofs.«01_k».proof.Proof.Gen.PoolRefIdeal.Run
public import Idealize.ShloMosaic.Lib.Claim

public section

set_option maxRecDepth 200000

noncomputable section

namespace Cert.PoolFrame

open Idealize.ShloMosaic Idealize.ShloMosaic.TcCoe Idealize.ShloMosaic.Tactic
open Idealize.SL Idealize.SL.RA Idealize.SL.BI Idealize.SL.Sem

/-- From this memory the kernel runs to its end, with its arguments unchanged and every semaphore counter at zero. -/
def Frame (F : FTy → Type) [FloatOps F] (m : (ℓ : Loc Cert.PoolIdeal.nD Cert.PoolIdeal.τ Cert.PoolIdeal.sig) → Buf (Elt F) ℓ) (g : Dev Cert.PoolIdeal.nD → PrngReg) : Prop :=
  θ_run (Cert.PoolIdeal.defs (F := F)) (onTc (τ := Cert.PoolIdeal.τ) (Cert.PoolIdeal.main (F := F))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
      ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8)
      ∧ r.2.mem ((c.tc : Thread Cert.PoolIdeal.nD Cert.PoolIdeal.τ).loc Cert.PoolIdeal.main_arg9) = m ((c.tc : Thread Cert.PoolIdeal.nD Cert.PoolIdeal.τ).loc Cert.PoolIdeal.main_arg9)
      ∧ r.2.mem ((c.tc : Thread Cert.PoolIdeal.nD Cert.PoolIdeal.τ).loc Cert.PoolIdeal.main_arg10) = m ((c.tc : Thread Cert.PoolIdeal.nD Cert.PoolIdeal.τ).loc Cert.PoolIdeal.main_arg10))
      ∧ r.2.sem = fun _ => 0)

theorem frame (F : FTy → Type) [FloatOps F] (m : (ℓ : Loc Cert.PoolIdeal.nD Cert.PoolIdeal.τ Cert.PoolIdeal.sig) → Buf (Elt F) ℓ) (g : Dev Cert.PoolIdeal.nD → PrngReg) : Frame F m g :=
  θ_run_and (Cert.PoolIdeal.Gen.frame_of m g (Cert.PoolBody.dats m) (Cert.PoolBody.A_eq m) (Cert.PoolBody.run_main m g))
    ((θ_run Cert.PoolIdeal.defs _ _).mono (fun _ h => h.2) (Cert.PoolBody.run_quiescent m g))

theorem frame_ideal : Cert.quiescent_PoolIdeal := fun m g _ => frame Ideal m g

theorem frame_kernel : Cert.quiescent_Pool :=
  (show (∀ m g, True → Frame Bits m g) = Cert.quiescent_Pool by sl_kernel_rfl).mp fun m g _ => frame Bits m g

/-- The reference ends with its arguments unchanged and every semaphore counter at zero: it declares none. -/
theorem frame_ref : Cert.quiescent_PoolRefIdeal := fun m g _ =>
  (θ_run Cert.PoolRefIdeal.defs _ _).mono
    (fun r h => ⟨fun c => (h c).2.2.2.2.2, sem_eq_zero_of_no_sems (by decide) r.2⟩)
    (Cert.PoolRefIdeal.Value.run m g)

end Cert.PoolFrame

end
-- ==== Proof.Windows.lean ====
/- Sums over a sliding window of rows: as differences of running sums, as doubled rotations of a buffer, and the sums of
   differences that the gradient of a running sum gives. -/
module

public import proofs.«01_k».proof.Proof.Reals
public import Idealize.ShloMosaic.Lib.KernelVsHost
public import Idealize.ShloMosaic.Lib.Pointwise

@[expose] public section

noncomputable section

open Idealize.ShloMosaic Idealize.ShloMosaic.TcCoe
open Cert.Reals
open scoped BigOperators

namespace Cert.Windows

/-- A column, continued by zero past its end. -/
def ext {N : ℕ} (f : Fin N → EReal) (n : ℕ) : EReal := if h : n < N then f ⟨n, h⟩ else 0

theorem ext_of_lt {N : ℕ} (f : Fin N → EReal) (n : Fin N) : ext f n.val = f n := dif_pos n.isLt

theorem ext_of_le {N : ℕ} (f : Fin N → EReal) {n : ℕ} (h : N ≤ n) : ext f n = 0 := dif_neg (by omega)

theorem ext_real {N : ℕ} {f : Fin N → EReal} (hf : ∀ n, IsReal (f n)) (n : ℕ) : IsReal (ext f n) := by
  unfold ext
  split
  · exact hf _
  · exact IsReal.zero

/-- The sum of the `w` values that end at place `t`, those before the first counted as zero. -/
def win (w : ℕ) (f : ℕ → EReal) (t : ℕ) : EReal := ∑ i ∈ Finset.range w, if i ≤ t then f (t - i) else 0

/-- The sum of the `w` values that begin at place `t`. -/
def wout (w : ℕ) (f : ℕ → EReal) (t : ℕ) : EReal := ∑ i ∈ Finset.range w, f (t + i)

theorem win_real (w : ℕ) {f : ℕ → EReal} (hf : ∀ n, IsReal (f n)) (t : ℕ) : IsReal (win w f t) :=
  IsReal.sum _ fun i => by
    show IsReal (if i ≤ t then f (t - i) else 0)
    split
    · exact hf _
    · exact IsReal.zero

theorem win_add (w : ℕ) (f : ℕ → EReal) (t : ℕ) :
    win w f t + ∑ i ∈ Finset.range (t + 1 - w), f i = ∑ i ∈ Finset.range (t + 1), f i := by
  induction w with
  | zero => simp [win]
  | succ w ih =>
    rw [← ih]
    unfold win
    rw [Finset.sum_range_succ, add_assoc]
    congr 1
    by_cases h : w ≤ t
    · rw [if_pos h, show t + 1 - w = t - w + 1 by omega, show t + 1 - (w + 1) = t - w by omega, Finset.sum_range_succ, add_comm]
    · rw [if_neg h, show t + 1 - w = 0 by omega, show t + 1 - (w + 1) = 0 by omega, zero_add]

theorem add_sub_cancel {a b : EReal} (ha : IsReal a) (hb : IsReal b) : a + b - b = a := by
  obtain ⟨a, rfl⟩ := ha
  obtain ⟨b, rfl⟩ := hb
  rw [← EReal.coe_add, ← EReal.coe_sub, add_sub_cancel_right]

/-- A window's sum is the difference of two running sums. -/
theorem sub_eq_win (w : ℕ) {f : ℕ → EReal} (hf : ∀ n, IsReal (f n)) (t : ℕ) :
    ∑ i ∈ Finset.range (t + 1), f i - ∑ i ∈ Finset.range (t + 1 - w), f i = win w f t := by
  rw [← win_add w f t]
  exact add_sub_cancel (win_real w hf t) (IsReal.sum _ hf)

theorem real_telescope (N : ℕ) (g : ℕ → ℝ) (hg : ∀ n, N ≤ n → g n = 0) (t w : ℕ) :
    ∑ i ∈ Finset.range N, (g (t + i) - g (t + i + w)) = ∑ i ∈ Finset.range w, g (t + i) := by
  induction w with
  | zero => simp
  | succ w ih =>
    rw [Finset.sum_range_succ, ← ih]
    have h := Finset.sum_range_sub' (fun i => g (t + w + i)) N
    rw [hg (t + w + N) (by omega), sub_zero, add_zero] at h
    rw [← h, ← Finset.sum_add_distrib]
    refine Finset.sum_congr rfl fun i _ => ?_
    rw [show t + i + w = t + w + i by omega, show t + i + (w + 1) = t + w + (i + 1) by omega]
    ring

/-- The sum of all later values less the values `w` places on is the sum of the next `w`. -/
theorem telescope (N : ℕ) {g : ℕ → EReal} (hr : ∀ n, IsReal (g n)) (hg : ∀ n, N ≤ n → g n = 0) (t w : ℕ) :
    ∑ i ∈ Finset.range N, (g (t + i) - g (t + i + w)) = wout w g t := by
  choose r e using hr
  have h := real_telescope N r (fun n hn => by have := hg n hn; rw [e] at this; exact_mod_cast this) t w
  unfold wout
  simp only [e, ← EReal.coe_sub, ← coe_sum]
  rw [h]

theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

theorem numel_col (R : ℕ) : (⟨2, ![R, 1]⟩ : Shape).numel = R := by simp [Shape.numel]

theorem col_row {R : ℕ} (n : Fin (⟨2, ![R, 1]⟩ : Shape).numel) : ((⟨2, ![R, 1]⟩ : Shape).rowMajor.symm n (0 : Fin 2)).val = n.val := by
  have h := Shape.rowMajorPi_succ_val (n := 1) ![R, 1] ((⟨2, ![R, 1]⟩ : Shape).rowMajor.symm n)
  have e : (Shape.rowMajorPi ![R, 1] ((⟨2, ![R, 1]⟩ : Shape).rowMajor.symm n)).val = n.val := congrArg Fin.val ((⟨2, ![R, 1]⟩ : Shape).rowMajor.apply_symm_apply n)
  rw [e] at h
  have p : ∏ a : Fin 1, (![R, 1] : Fin 2 → ℕ) a.succ = 1 := by simp
  have l := lt_of_lt_of_eq (Shape.rowMajorPi (fun a : Fin 1 => (![R, 1] : Fin 2 → ℕ) a.succ) (fun a => (⟨2, ![R, 1]⟩ : Shape).rowMajor.symm n a.succ)).isLt p
  have q : ((⟨2, ![R, 1]⟩ : Shape).rowMajor.symm n (0 : Fin 2)).val * ∏ a : Fin 1, (![R, 1] : Fin 2 → ℕ) a.succ
      = ((⟨2, ![R, 1]⟩ : Shape).rowMajor.symm n (0 : Fin 2)).val := by rw [p, Nat.mul_one]
  exact (h.trans (congrArg₂ (· + ·) q (Nat.lt_one_iff.mp l))).symm

/-- The host's window sum down the rows of a matrix, with a window as high as the matrix. -/
theorem window_rows {R C lo hi : ℕ} (x : FVec Ideal ⟨2, ![R, C]⟩ .f32) (init : FVec Ideal ⟨0, ![]⟩ .f32) (h0 : ∀ i, init i = 0)
    (h : (⟨2, ![R, C]⟩ : Shape).ReduceWindows (![R, 1] : Fin 2 → ℕ) ![1, 1] ![lo, 0] ![hi, 0] ⟨2, ![R, C]⟩) (hu : 0 < (⟨0, ![]⟩ : Shape).numel)
    (j : Fin R) (c : Fin C) :
    Host.reduceWindowAdd ![R, 1] ![1, 1] ![lo, 0] ![hi, 0] x init h hu (ix2 j c)
      = ∑ n ∈ Finset.range R, if lo ≤ j.val + n then ext (fun i : Fin R => x (ix2 i c)) (j.val + n - lo) else 0 := by
  refine (foldl_add _ _ _).trans ?_
  rw [h0, zero_add, List.map_congr_left (g := fun n => (fun n : ℕ => if lo ≤ j.val + n then ext (fun i : Fin R => x (ix2 i c)) (j.val + n - lo) else 0) n.val)
    (fun n _ => ?_)]
  · rw [← Fin.sum_univ_def]
    exact (Fin.sum_univ_eq_sum_range _ _).trans (congrArg (fun M => ∑ n ∈ Finset.range M, if lo ≤ j.val + n then ext (fun i : Fin R => x (ix2 i c)) (j.val + n - lo) else 0) (numel_col R))
  · have hn : n.val < R := lt_of_lt_of_eq n.isLt (numel_col R)
    have w0 := col_row n
    have w1 : ((⟨2, ![R, 1]⟩ : Shape).rowMajor.symm n (1 : Fin 2)).val = 0 := by
      have : ((⟨2, ![R, 1]⟩ : Shape).rowMajor.symm n (1 : Fin 2)).val < 1 := ((⟨2, ![R, 1]⟩ : Shape).rowMajor.symm n (1 : Fin 2)).isLt
      omega
    have hc := c.isLt
    dsimp only
    split
    · next hin =>
      have q := hin 0
      change lo ≤ j.val * 1 + ((⟨2, ![R, 1]⟩ : Shape).rowMajor.symm n (0 : Fin 2)).val
        ∧ j.val * 1 + ((⟨2, ![R, 1]⟩ : Shape).rowMajor.symm n (0 : Fin 2)).val - lo < R at q
      rw [w0] at q
      rw [if_pos (by omega), ext, dif_pos (by omega)]
      refine congrArg x (funext fun a => Fin.ext ?_)
      match a with
      | ⟨0, _⟩ =>
        show j.val * 1 + ((⟨2, ![R, 1]⟩ : Shape).rowMajor.symm n (0 : Fin 2)).val - lo = j.val + n.val - lo
        rw [w0, Nat.mul_one]
      | ⟨1, _⟩ =>
        show c.val * 1 + ((⟨2, ![R, 1]⟩ : Shape).rowMajor.symm n (1 : Fin 2)).val - 0 = c.val
        rw [w1]
        omega
    · next hin =>
      symm
      by_cases hl : lo ≤ j.val + n.val
      · rw [if_pos hl]
        refine ext_of_le _ (le_of_not_gt fun hlt => hin fun a => ?_)
        match a with
        | ⟨0, _⟩ =>
          show lo ≤ j.val * 1 + ((⟨2, ![R, 1]⟩ : Shape).rowMajor.symm n (0 : Fin 2)).val
            ∧ j.val * 1 + ((⟨2, ![R, 1]⟩ : Shape).rowMajor.symm n (0 : Fin 2)).val - lo < R
          rw [w0]
          omega
        | ⟨1, _⟩ =>
          show 0 ≤ c.val * 1 + ((⟨2, ![R, 1]⟩ : Shape).rowMajor.symm n (1 : Fin 2)).val
            ∧ c.val * 1 + ((⟨2, ![R, 1]⟩ : Shape).rowMajor.symm n (1 : Fin 2)).val - 0 < C
          rw [w1]
          omega
      · rw [if_neg hl]

/-- The running sum down the rows. -/
theorem cumsum {R C lo : ℕ} (hR : lo + 1 = R) (x : FVec Ideal ⟨2, ![R, C]⟩ .f32) (init : FVec Ideal ⟨0, ![]⟩ .f32) (h0 : ∀ i, init i = 0)
    (h : (⟨2, ![R, C]⟩ : Shape).ReduceWindows (![R, 1] : Fin 2 → ℕ) ![1, 1] ![lo, 0] ![0, 0] ⟨2, ![R, C]⟩) (hu : 0 < (⟨0, ![]⟩ : Shape).numel)
    (j : Fin R) (c : Fin C) :
    Host.reduceWindowAdd ![R, 1] ![1, 1] ![lo, 0] ![0, 0] x init h hu (ix2 j c)
      = ∑ i ∈ Finset.range (j.val + 1), ext (fun i : Fin R => x (ix2 i c)) i := by
  have hj := j.isLt
  rw [window_rows x init h0 h hu j c]
  rw [show Finset.range R = Finset.range ((lo - j.val) + (j.val + 1)) from congrArg _ (by omega), Finset.sum_range_add]
  rw [Finset.sum_eq_zero fun n hn => if_neg (by have := Finset.mem_range.mp hn; omega), zero_add]
  refine Finset.sum_congr rfl fun i hi => ?_
  rw [if_pos (by omega)]
  congr 1
  omega

/-- The running sum up the rows. -/
theorem cumsum_up {R C hi : ℕ} (x : FVec Ideal ⟨2, ![R, C]⟩ .f32) (init : FVec Ideal ⟨0, ![]⟩ .f32) (h0 : ∀ i, init i = 0)
    (h : (⟨2, ![R, C]⟩ : Shape).ReduceWindows (![R, 1] : Fin 2 → ℕ) ![1, 1] ![0, 0] ![hi, 0] ⟨2, ![R, C]⟩) (hu : 0 < (⟨0, ![]⟩ : Shape).numel)
    (j : Fin R) (c : Fin C) :
    Host.reduceWindowAdd ![R, 1] ![1, 1] ![0, 0] ![hi, 0] x init h hu (ix2 j c)
      = ∑ i ∈ Finset.range R, ext (fun i : Fin R => x (ix2 i c)) (j.val + i) := by
  rw [window_rows x init h0 h hu j c]
  exact Finset.sum_congr rfl fun i _ => if_pos (Nat.zero_le _)

variable {n k : ℕ}

/-- A buffer of window sums plus itself, rotated down by the window's length: sums over twice the window. -/
theorem double_down (e : ℕ → EReal) (w : ℕ) (nb : BitVec 32) (hn : nb.toNat = w) (h1 : 0 < w) (hw : w < n) (x : FVec Ideal ⟨2, ![n, k]⟩ .f32)
    (h : (⟨2, ![n, k]⟩ : Shape).Rotates 0 none) (c : Fin k)
    (hx : ∀ r : Fin n, w ≤ r.val + 1 → x (ix2 r c) = ∑ i ∈ Finset.range w, e (r.val - i)) (r : Fin n) (hr : 2 * w ≤ r.val + 1) :
    addf x (dynamicRotate 0 nb none x h) (ix2 r c) = ∑ i ∈ Finset.range (2 * w), e (r.val - i) := by
  have hrn := r.isLt
  show x (ix2 r c) + dynamicRotate 0 nb none x h (ix2 r c) = _
  rw [dynamicRotate_apply 0 nb x h (ix2 r c) (ix2 ⟨r.val - w, by omega⟩ c) fun b => by
    match b with
    | ⟨0, _⟩ =>
      show r.val - w = (r.val + n - nb.toNat % n) % n
      rw [hn, Nat.mod_eq_of_lt hw, show r.val + n - w = r.val - w + n by omega, Nat.add_mod_right, Nat.mod_eq_of_lt (by omega)]
    | ⟨1, _⟩ => rfl]
  rw [hx r (by omega), hx _ (by show w ≤ r.val - w + 1; omega), show 2 * w = w + w by omega, Finset.sum_range_add]
  congr 1
  refine Finset.sum_congr rfl fun i _ => congrArg e ?_
  show r.val - w - i = r.val - (w + i)
  omega

/-- The same, rotated up. -/
theorem double_up (e : ℕ → EReal) (w : ℕ) (nb : BitVec 32) (hn : nb.toNat + w = n) (h1 : 0 < w) (hw : w < n) (x : FVec Ideal ⟨2, ![n, k]⟩ .f32)
    (h : (⟨2, ![n, k]⟩ : Shape).Rotates 0 none) (c : Fin k)
    (hx : ∀ r : Fin n, r.val + w ≤ n → x (ix2 r c) = ∑ i ∈ Finset.range w, e (r.val + i)) (r : Fin n) (hr : r.val + 2 * w ≤ n) :
    addf x (dynamicRotate 0 nb none x h) (ix2 r c) = ∑ i ∈ Finset.range (2 * w), e (r.val + i) := by
  show x (ix2 r c) + dynamicRotate 0 nb none x h (ix2 r c) = _
  rw [dynamicRotate_apply 0 nb x h (ix2 r c) (ix2 ⟨r.val + w, by omega⟩ c) fun b => by
    match b with
    | ⟨0, _⟩ =>
      show r.val + w = (r.val + n - nb.toNat % n) % n
      rw [Nat.mod_eq_of_lt (a := nb.toNat) (by omega), show r.val + n - nb.toNat = r.val + w by omega, Nat.mod_eq_of_lt (by omega)]
    | ⟨1, _⟩ => rfl]
  rw [hx r (by omega), hx _ (by show r.val + w + w ≤ n; omega), show 2 * w = w + w by omega, Finset.sum_range_add]
  congr 1
  refine Finset.sum_congr rfl fun i _ => congrArg e ?_
  show r.val + w + i = r.val + (w + i)
  omega

/-- How many rows a window that ends at row `t` has, as the programs count them. -/
def cnt (w : BitVec 32) (t : ℕ) : EReal := FloatOps.sitofp (F := Ideal) .f32 (IntOp.minsi (IntOp.addi (BitVec.ofNat 32 t) 1#32) w)

theorem cnt_real (w : BitVec 32) (hw : 0 < w.toInt) (t : ℕ) (ht : t < 16384) : ∃ r : ℝ, r ≠ 0 ∧ cnt w t = r := by
  refine ⟨((IntOp.minsi (IntOp.addi (BitVec.ofNat 32 t) 1#32) w).toInt : ℝ), ?_, rfl⟩
  have h : (IntOp.addi (BitVec.ofNat 32 t) 1#32).toInt = t + 1 := by
    show (BitVec.ofNat 32 t + 1#32).toInt = _
    rw [BitVec.toInt_eq_toNat_of_lt] <;> rw [BitVec.toNat_add, BitVec.toNat_ofNat, BitVec.toNat_ofNat] <;> omega
  have p : 0 < (IntOp.minsi (IntOp.addi (BitVec.ofNat 32 t) 1#32) w).toInt := by
    unfold IntOp.minsi
    split
    · rw [h]; omega
    · exact hw
  exact_mod_cast p.ne'

/-- A row's number, from its place in block `63 - t` of 256 rows. -/
theorem row_word (t a : ℕ) (ht : t < 64) (ha : a < 256) :
    IntOp.addi (Scalar.muli (Scalar.subi 63#32 (BitVec.ofNat 32 t)) 256#32) (BitVec.ofNat 32 a) = BitVec.ofNat 32 ((63 - t) * 256 + a) := by
  refine BitVec.eq_of_toNat_eq ?_
  show ((63#32 - BitVec.ofNat 32 t) * 256#32 + BitVec.ofNat 32 a).toNat = _
  rw [BitVec.toNat_add, BitVec.toNat_mul, BitVec.toNat_sub, BitVec.toNat_ofNat, BitVec.toNat_ofNat, BitVec.toNat_ofNat, BitVec.toNat_ofNat, BitVec.toNat_ofNat]
  omega

end Cert.Windows

end
-- ==== Proof.PoolMath.lean ====
/- The pooled mixer's backward call as formulas over its arguments, and the reference's intermediate arrays in them. -/
module

public import proofs.«01_k».proof.Proof.Gen.PoolRefIdeal.Read
public import proofs.«01_k».proof.Proof.Windows
public import Idealize.ShloMosaic.Lib.Pipeline.ValueKit

@[expose] public section

set_option maxRecDepth 16384

noncomputable section

open Idealize.ShloMosaic Idealize.ShloMosaic.TcCoe Idealize.SL.Sem
open Cert.Reals Cert.Windows
open scoped BigOperators

namespace Cert.PoolMath

open Cert.PoolRefIdeal Cert.PoolRefIdeal.Read

/-- The call's arguments. -/
structure Args where
  x0 : (⟨S16384x1024, .f32⟩ : BufTy).Contents (Elt Ideal)
  x1 : (⟨S16384x1024, .f32⟩ : BufTy).Contents (Elt Ideal)
  x2 : (⟨S16384x1024, .f32⟩ : BufTy).Contents (Elt Ideal)
  x3 : (⟨S16384x2048, .f32⟩ : BufTy).Contents (Elt Ideal)
  x4 : (⟨S16384x1024, .f32⟩ : BufTy).Contents (Elt Ideal)
  x5 : (⟨S16384x1024, .f32⟩ : BufTy).Contents (Elt Ideal)
  x6 : (⟨S1x1024, .f32⟩ : BufTy).Contents (Elt Ideal)
  x7 : (⟨S1x1024x4608, .f32⟩ : BufTy).Contents (Elt Ideal)
  x8 : (⟨S1x4x128x128, .f32⟩ : BufTy).Contents (Elt Ideal)
  x9 : (⟨S1x512, .f32⟩ : BufTy).Contents (Elt Ideal)
  x10 : (⟨S1x512x1024, .f32⟩ : BufTy).Contents (Elt Ideal)

variable (A : Args)

/-- Column `k` of group `g`, among all the pooled columns. -/
abbrev col (g : Fin 4) (k : Fin 128) : Fin 512 := ⟨g.val * 128 + k.val, by have := g.isLt; have := k.isLt; omega⟩

/-- A pooled column, among all the columns of the input projection. -/
abbrev first (j : Fin 512) : Fin 4608 := ⟨j.val, by have := j.isLt; omega⟩

/-- The other columns of the input projection. -/
abbrev later (j : Fin 4096) : Fin 4608 := ⟨512 + j.val, by have := j.isLt; omega⟩

theorem col_surj (j : Fin 512) : ∃ g k, j = col g k := by
  have := j.isLt
  exact ⟨⟨j.val / 128, by omega⟩, ⟨j.val % 128, by omega⟩, Fin.ext (by show j.val = j.val / 128 * 128 + j.val % 128; omega)⟩

/-- The windows' lengths, and the words the programs write for them. -/
def wd (g : Fin 4) : ℕ := ![2, 4, 8, 16] g

def wb (g : Fin 4) : BitVec 32 := ![2#32, 4#32, 8#32, 16#32] g

theorem wb_pos (g : Fin 4) : 0 < (wb g).toInt := by
  revert g; decide

/-- One over the root of a row's mean square. -/
def inv (r : Fin 16384) : EReal := Ideal.rsqrt (meanSq fun k : Fin 1024 => A.x4 (ix2 r k))

/-- The columns that are pooled. -/
def zp (r : Fin 16384) (j : Fin 512) : EReal :=
  ∑ k : Fin 1024, A.x4 (ix2 r k) * inv A r * A.x6 (ix2 0 k) * A.x7 (ix3 0 k (first j))

/-- The mean over the window that ends at a row, less the row's own value. -/
def pooled (r : Fin 16384) (g : Fin 4) (k : Fin 128) : EReal :=
  Ideal.div (win (wd g) (ext fun r => zp A r (col g k)) r.val) (cnt (wb g) r.val) - zp A r (col g k)

/-- The pooled columns, mixed within their group. -/
def mixed (r : Fin 16384) (g : Fin 4) (d : Fin 128) : EReal := ∑ c : Fin 128, pooled A r g c * A.x8 (ix4 0 g c d)

/-- The gradient of the scaled columns. -/
def dms (r : Fin 16384) (j : Fin 512) : EReal := ∑ n : Fin 1024, A.x0 (ix2 r n) * A.x10 (ix3 0 j n)

/-- The gradient of the mixed columns. -/
def dmix (r : Fin 16384) (j : Fin 512) : EReal := dms A r j * A.x9 (ix2 0 j)

/-- The gradient of the output projection. -/
def dpp (g : Fin 4) (d : Fin 128) (n : Fin 1024) : EReal :=
  ∑ r : Fin 16384, mixed A r g d * A.x9 (ix2 0 (col g d)) * A.x0 (ix2 r n)

/-- The gradient of the scales. -/
def ds (g : Fin 4) (d : Fin 128) : EReal := ∑ r : Fin 16384, dms A r (col g d) * mixed A r g d

/-- The gradient of the mixing weights. -/
def dw (g : Fin 4) (c d : Fin 128) : EReal := ∑ r : Fin 16384, pooled A r g c * dmix A r (col g d)

/-- The gradient of the pooled columns. -/
def dpool (r : Fin 16384) (g : Fin 4) (c : Fin 128) : EReal := ∑ d : Fin 128, dmix A r (col g d) * A.x8 (ix4 0 g c d)

/-- That gradient's share for each row of the window. -/
def quot (r : Fin 16384) (g : Fin 4) (c : Fin 128) : EReal := Ideal.div (dpool A r g c) (cnt (wb g) r.val)

/-- The gradient of the columns that are pooled. -/
def dz (r : Fin 16384) (g : Fin 4) (c : Fin 128) : EReal :=
  wout (wd g) (ext fun r => quot A r g c) r.val - dpool A r g c

/-- The gradients of the other columns of the input projection, side by side. -/
def rest (r : Fin 16384) (j : Fin 4096) : EReal :=
  if h : j.val < 1024 then A.x1 (ix2 r ⟨j.val, h⟩)
  else if h' : j.val < 2048 then A.x2 (ix2 r ⟨j.val - 1024, by omega⟩)
  else A.x3 (ix2 r ⟨j.val - 2048, by have := j.isLt; omega⟩)

/-- The gradient of the normed row. -/
def dv (r : Fin 16384) (k : Fin 1024) : EReal :=
  ∑ j : Fin 4096, rest A r j * A.x7 (ix3 0 k (later j))
    + ∑ g : Fin 4, ∑ c : Fin 128, dz A r g c * A.x7 (ix3 0 k (first (col g c)))

/-- The gradient of the scaled row. -/
def dq (r : Fin 16384) (k : Fin 1024) : EReal := dv A r k * A.x6 (ix2 0 k)

/-- The gradient of the call's input. -/
def dx (r : Fin 16384) (k : Fin 1024) : EReal :=
  A.x5 (ix2 r k) + inv A r * (dq A r k
    - A.x4 (ix2 r k) * inv A r * Ideal.div (∑ k, dq A r k * (A.x4 (ix2 r k) * inv A r)) (Ideal.ofBits .f32 0x44800000#32))

/-- The gradient of the norm's scale. -/
def dg (k : Fin 1024) : EReal := ∑ r : Fin 16384, dv A r k * (A.x4 (ix2 r k) * inv A r)

/-- The arguments' elements are real numbers, all but those that are only added to a result. -/
structure Finite : Prop where
  h0 : ∀ i, IsReal (A.x0 i)
  h1 : ∀ i, IsReal (A.x1 i)
  h2 : ∀ i, IsReal (A.x2 i)
  h3 : ∀ i, IsReal (A.x3 i)
  h4 : ∀ i, IsReal (A.x4 i)
  h6 : ∀ i, IsReal (A.x6 i)
  h7 : ∀ i, IsReal (A.x7 i)
  h8 : ∀ i, IsReal (A.x8 i)
  h9 : ∀ i, IsReal (A.x9 i)
  h10 : ∀ i, IsReal (A.x10 i)

theorem inv_ref (r : Fin 16384) : val_main_v8 (F := Ideal) A.x4 (ix2 r 0) = inv A r := by
  pointwise [val_main_v8, val_main_v7, val_main_v6, val_main_v5, val_main_v4, val_main_v3, val_main_v2, val_main_v1, val_main_cst, val_main_cst_0, val_main_cst_1, inv, meanSq]

theorem meanSq_ref (r : Fin 16384) : val_main_v7 (F := Ideal) A.x4 (ix2 r 0) = meanSq fun k : Fin 1024 => A.x4 (ix2 r k) := by
  pointwise [val_main_v7, val_main_v6, val_main_v5, val_main_v4, val_main_v3, val_main_v2, val_main_v1, val_main_cst, val_main_cst_0, val_main_cst_1, meanSq]

theorem zp_ref (r : Fin 16384) (j : Fin 512) : val_main_v19 (F := Ideal) A.x4 A.x6 A.x7 (ix2 r j) = zp A r j := by
  pointwise [val_main_v19, val_main_v18, val_main_v17, val_main_v16, val_main_v15, val_main_v14, val_main_v13, val_main_v12, val_main_v0, zp]
  simp only [inv_ref]

/-- The running sum of the columns. -/
theorem sum_ref (r : Fin 16384) (j : Fin 512) :
    val_main_v23 (F := Ideal) A.x4 A.x6 A.x7 (ix2 r j) = ∑ i ∈ Finset.range (r.val + 1), ext (fun r => zp A r j) i := by
  unfold val_main_v23
  refine (cumsum rfl _ _ (fun i => ?_) _ _ r j).trans ?_
  · pointwise [val_main_call0_call0_v0, val_main_call0_call0_cst]
  · simp only [zp_ref]

/-- The running sum below sixteen rows of zeros. -/
theorem padded_ref (p : Fin 16400) (j : Fin 512) :
    val_main_v25 (F := Ideal) A.x4 A.x6 A.x7 (ix2 p j) = ∑ i ∈ Finset.range (p.val - 15), ext (fun r => zp A r j) i := by
  pointwise [val_main_v25, val_main_v24, val_main_cst_3]
  by_cases h : p.val < 16
  · rw [dif_pos h, show p.val - 15 = 0 by omega, Finset.sum_range_zero]
  · rw [dif_neg h]
    refine (sum_ref A _ j).trans ?_
    rw [show p.val - 15 = p.val - 16 + 1 by omega]

theorem zcol_real (H : ∀ r j, IsReal (zp A r j)) (j : Fin 512) (n : ℕ) : IsReal (ext (fun r => zp A r j) n) := ext_real (fun r => H r j) n

/-- A group's value from the two running sums, at the columns and the row the reference reads. -/
theorem pooled_eq (H : ∀ r j, IsReal (zp A r j)) (r : Fin 16384) (g : Fin 4) (k : Fin 128) (j : Fin 512) (p : Fin 16400) (hj : j.val = g.val * 128 + k.val)
    (hp : p.val + wd g = r.val + 16) :
    Ideal.div (val_main_v23 (F := Ideal) A.x4 A.x6 A.x7 (ix2 r j) - val_main_v25 (F := Ideal) A.x4 A.x6 A.x7 (ix2 p j)) (cnt (wb g) r.val) - val_main_v19 (F := Ideal) A.x4 A.x6 A.x7 (ix2 r j) = pooled A r g k := by
  obtain rfl : j = col g k := Fin.ext hj
  rw [sum_ref, padded_ref, zp_ref, show p.val - 15 = r.val + 1 - wd g by omega, sub_eq_win (wd g) (zcol_real A H _)]
  rfl

variable {A}

theorem group_0 (H : ∀ r j, IsReal (zp A r j)) (r : Fin 16384) (k : Fin 128) : val_main_v40 (F := Ideal) A.x4 A.x6 A.x7 (ix2 r k) = pooled A r 0 k := by
  refine Eq.trans ?_ (pooled_eq A H r 0 k ⟨k.val, by omega⟩ ⟨14 + r.val, by omega⟩ (by simp) (by simp [wd]; omega))
  pointwise [val_main_v40, val_main_v39, val_main_v38, val_main_v37, val_main_v36, val_main_v35, val_main_v34, val_main_v33, val_main_v32, val_main_c_5, val_main_v31, val_main_v30, val_main_c, val_main_v29, val_main_v28, val_main_v27, cnt, wb]

theorem group_1 (H : ∀ r j, IsReal (zp A r j)) (r : Fin 16384) (k : Fin 128) : val_main_v53 (F := Ideal) A.x4 A.x6 A.x7 (ix2 r k) = pooled A r 1 k := by
  refine Eq.trans ?_ (pooled_eq A H r 1 k ⟨128 + k.val, by omega⟩ ⟨12 + r.val, by omega⟩ (by simp) (by simp [wd]; omega))
  pointwise [val_main_v53, val_main_v52, val_main_v51, val_main_v50, val_main_v49, val_main_v48, val_main_v47, val_main_v46, val_main_v45, val_main_c_7, val_main_v44, val_main_v43, val_main_c_6, val_main_v42, val_main_v41, val_main_v27, cnt, wb]

theorem group_2 (H : ∀ r j, IsReal (zp A r j)) (r : Fin 16384) (k : Fin 128) : val_main_v66 (F := Ideal) A.x4 A.x6 A.x7 (ix2 r k) = pooled A r 2 k := by
  refine Eq.trans ?_ (pooled_eq A H r 2 k ⟨256 + k.val, by omega⟩ ⟨8 + r.val, by omega⟩ (by simp) (by simp [wd]; omega))
  pointwise [val_main_v66, val_main_v65, val_main_v64, val_main_v63, val_main_v62, val_main_v61, val_main_v60, val_main_v59, val_main_v58, val_main_c_9, val_main_v57, val_main_v56, val_main_c_8, val_main_v55, val_main_v54, val_main_v27, cnt, wb]

theorem group_3 (H : ∀ r j, IsReal (zp A r j)) (r : Fin 16384) (k : Fin 128) : val_main_v79 (F := Ideal) A.x4 A.x6 A.x7 (ix2 r k) = pooled A r 3 k := by
  refine Eq.trans ?_ (pooled_eq A H r 3 k ⟨384 + k.val, by omega⟩ ⟨r.val, by omega⟩ (by simp) (by simp [wd]))
  pointwise [val_main_v79, val_main_v78, val_main_v77, val_main_v76, val_main_v75, val_main_v74, val_main_v73, val_main_v72, val_main_v71, val_main_c_11, val_main_v70, val_main_v69, val_main_c_10, val_main_v68, val_main_v67, val_main_v27, cnt, wb]

theorem pooled_ref (H : ∀ r j, IsReal (zp A r j)) (r : Fin 16384) (g : Fin 4) (k : Fin 128) : val_main_v84 (F := Ideal) A.x4 A.x6 A.x7 (ix3 r g k) = pooled A r g k := by
  pointwise [val_main_v84, val_main_v83, val_main_v82, val_main_v81, val_main_v80]
  simp only [group_0 H, group_1 H, group_2 H, group_3 H]
  match g with
  | 0 => rfl
  | 1 => rfl
  | 2 => rfl
  | 3 => rfl

theorem mixed_ref (H : ∀ r j, IsReal (zp A r j)) (r : Fin 16384) (g : Fin 4) (d : Fin 128) : val_main_v88 (F := Ideal) A.x4 A.x6 A.x7 A.x8 (ix2 r (col g d)) = mixed A r g d := by
  refine Eq.trans (b := val_main_v86 (F := Ideal) A.x4 A.x6 A.x7 A.x8 (ix3 g d r)) ?_ ?_
  · pointwise [val_main_v88, val_main_v87]
    exact congrArg _ ((ix3_inj ..).2 ⟨Fin.ext (by show (g.val * 128 + d.val) / 128 = g.val; omega), Fin.ext (by show (g.val * 128 + d.val) % 128 = d.val; omega), rfl⟩)
  · pointwise [val_main_v86, val_main_v85, mixed]
    simp only [pooled_ref H]
    exact Finset.sum_congr rfl fun c _ => mul_comm _ _

variable (A)

theorem dms_ref (r : Fin 16384) (j : Fin 512) : val_main_v97 (F := Ideal) A.x0 A.x10 (ix2 r j) = dms A r j := by
  pointwise [val_main_v97, val_main_v93, dms]

theorem dmix_ref (r : Fin 16384) (j : Fin 512) : val_main_v103 (F := Ideal) A.x0 A.x9 A.x10 (ix2 r j) = dmix A r j := by
  pointwise [val_main_v103, val_main_v102, val_main_v90, val_main_v89, dmix]
  simp only [dms_ref]

/-- The gradient of the mixed columns, by group. -/
theorem dmix_group_ref (r : Fin 16384) (g : Fin 4) (d : Fin 128) : val_main_v107 (F := Ideal) A.x0 A.x9 A.x10 (ix3 g d r) = dmix A r (col g d) := by
  refine Eq.trans ?_ (dmix_ref A r (col g d))
  pointwise [val_main_v107, val_main_v106]

theorem dpool_ref (r : Fin 16384) (g : Fin 4) (c : Fin 128) : val_main_v109 (F := Ideal) A.x0 A.x8 A.x9 A.x10 (ix3 r g c) = dpool A r g c := by
  pointwise [val_main_v109, val_main_v108, val_main_v85, dpool]
  simp only [dmix_group_ref]

theorem quot_0 (r : Fin 16384) (c : Fin 128) : val_main_v152 (F := Ideal) A.x0 A.x8 A.x9 A.x10 (ix2 r c) = quot A r 0 c := by
  pointwise [val_main_v152, val_main_v151, val_main_v35, val_main_v34, val_main_v33, val_main_v32, val_main_c_5, val_main_v31, val_main_v30, val_main_c, val_main_v27, val_main_v114, val_main_v113, quot, cnt, wb]
  rw [← dpool_ref]

theorem quot_1 (r : Fin 16384) (c : Fin 128) : val_main_v142 (F := Ideal) A.x0 A.x8 A.x9 A.x10 (ix2 r c) = quot A r 1 c := by
  pointwise [val_main_v142, val_main_v141, val_main_v48, val_main_v47, val_main_v46, val_main_v45, val_main_c_7, val_main_v44, val_main_v43, val_main_c_6, val_main_v27, val_main_v116, val_main_v115, quot, cnt, wb]
  rw [← dpool_ref]

theorem quot_2 (r : Fin 16384) (c : Fin 128) : val_main_v132 (F := Ideal) A.x0 A.x8 A.x9 A.x10 (ix2 r c) = quot A r 2 c := by
  pointwise [val_main_v132, val_main_v131, val_main_v61, val_main_v60, val_main_v59, val_main_v58, val_main_c_9, val_main_v57, val_main_v56, val_main_c_8, val_main_v27, val_main_v118, val_main_v117, quot, cnt, wb]
  rw [← dpool_ref]

theorem quot_3 (r : Fin 16384) (c : Fin 128) : val_main_v124 (F := Ideal) A.x0 A.x8 A.x9 A.x10 (ix2 r c) = quot A r 3 c := by
  pointwise [val_main_v124, val_main_v123, val_main_v74, val_main_v73, val_main_v72, val_main_v71, val_main_c_11, val_main_v70, val_main_v69, val_main_c_10, val_main_v27, val_main_v120, val_main_v119, quot, cnt, wb]
  rw [← dpool_ref]

theorem neg_dpool (r : Fin 16384) (g : Fin 4) (c : Fin 128) : val_main_v150 (F := Ideal) A.x0 A.x8 A.x9 A.x10 (ix2 r (col g c)) = -dpool A r g c := by
  rw [← dpool_ref]
  match g with
  | 0 =>
    pointwise [val_main_v150, val_main_v149, val_main_v148, val_main_v140, val_main_v139, val_main_v138, val_main_v130, val_main_v129, val_main_v128, val_main_v122, val_main_v121, val_main_v120, val_main_v119, val_main_v118, val_main_v117, val_main_v116, val_main_v115, val_main_v114, val_main_v113, val_main_cst_14, val_main_cst_17, val_main_cst_20, val_main_cst_23]
    simp only [show ¬ 256 ≤ c.val by omega, show ¬ 384 ≤ c.val by omega, false_and, and_false, ↓reduceDIte, zero_add, add_zero]
  | 1 =>
    pointwise [val_main_v150, val_main_v149, val_main_v148, val_main_v140, val_main_v139, val_main_v138, val_main_v130, val_main_v129, val_main_v128, val_main_v122, val_main_v121, val_main_v120, val_main_v119, val_main_v118, val_main_v117, val_main_v116, val_main_v115, val_main_v114, val_main_v113, val_main_cst_14, val_main_cst_17, val_main_cst_20, val_main_cst_23]
    simp only [show ¬ 384 ≤ 128 + c.val by omega, show ¬ 256 ≤ 128 + c.val by omega, show ¬ 128 + c.val < 128 by omega, false_and, and_false, ↓reduceDIte, zero_add, add_zero]
  | 2 =>
    pointwise [val_main_v150, val_main_v149, val_main_v148, val_main_v140, val_main_v139, val_main_v138, val_main_v130, val_main_v129, val_main_v128, val_main_v122, val_main_v121, val_main_v120, val_main_v119, val_main_v118, val_main_v117, val_main_v116, val_main_v115, val_main_v114, val_main_v113, val_main_cst_14, val_main_cst_17, val_main_cst_20, val_main_cst_23]
    simp only [show ¬ 384 ≤ 256 + c.val by omega, show ¬ 256 + c.val - 128 < 128 by omega, show ¬ 256 + c.val < 128 by omega, false_and, and_false, ↓reduceDIte, zero_add, add_zero]
  | 3 =>
    pointwise [val_main_v150, val_main_v149, val_main_v148, val_main_v140, val_main_v139, val_main_v138, val_main_v130, val_main_v129, val_main_v128, val_main_v122, val_main_v121, val_main_v120, val_main_v119, val_main_v118, val_main_v117, val_main_v116, val_main_v115, val_main_v114, val_main_v113, val_main_cst_14, val_main_cst_17, val_main_cst_20, val_main_cst_23]
    simp only [show ¬ 384 + c.val - 256 < 128 by omega, show ¬ 384 + c.val - 128 < 128 by omega, show ¬ 384 + c.val < 128 by omega, false_and, and_false, ↓reduceDIte, zero_add, add_zero]

/-- A column of negated values, padded so that it stands `16 - o` rows further up. -/
theorem padded_neg (q v : Fin 16384 → EReal) (hv : ∀ r, v r = -q r) (o : ℕ) (ho : o ≤ 16) (r : Fin 16384) :
    (if h : o ≤ 16 + r.val ∧ 16 + r.val - o < 16384 then v ⟨16 + r.val - o, h.2⟩ else 0) = -ext q (r.val + (16 - o)) := by
  unfold ext
  by_cases h : r.val + (16 - o) < 16384
  · rw [dif_pos (by omega), dif_pos h, hv]
    congr 2
    exact Fin.ext (by show 16 + r.val - o = r.val + (16 - o); omega)
  · rw [dif_neg (by omega), dif_neg h, neg_zero]

theorem back_0 (r : Fin 16384) (c : Fin 128) : val_main_v160 (F := Ideal) A.x0 A.x8 A.x9 A.x10 (ix2 r (col 0 c)) = quot A r 0 c - ext (fun r => quot A r 0 c) (r.val + wd 0) := by
  refine Eq.trans ?_ (congrArg₂ (· + ·) (quot_0 A r c) (padded_neg (fun r => quot A r 0 c) (fun r => val_main_v153 (F := Ideal) A.x0 A.x8 A.x9 A.x10 (ix2 r c)) (fun r => ?_) 14 (by omega) r))
  · pointwise [val_main_v160, val_main_v159, val_main_v157, val_main_v155, val_main_v156, val_main_v154, val_main_v147, val_main_v145, val_main_v146, val_main_v144, val_main_v137, val_main_v136, val_main_v135, val_main_v134, val_main_v127, val_main_v126, val_main_cst_24, val_main_cst_25, val_main_cst_15, val_main_cst_16, val_main_cst_18, val_main_cst_19, val_main_cst_21, val_main_cst_22]
    simp only [show ¬ 256 ≤ c.val by omega, show ¬ 384 ≤ c.val by omega, show ¬ 128 ≤ c.val by omega, false_and, and_false, ↓reduceDIte, zero_add, add_zero]
  · exact congrArg Neg.neg (quot_0 A r c)

theorem back_1 (r : Fin 16384) (c : Fin 128) : val_main_v160 (F := Ideal) A.x0 A.x8 A.x9 A.x10 (ix2 r (col 1 c)) = quot A r 1 c - ext (fun r => quot A r 1 c) (r.val + wd 1) := by
  refine Eq.trans ?_ (congrArg₂ (· + ·) (quot_1 A r c) (padded_neg (fun r => quot A r 1 c) (fun r => val_main_v143 (F := Ideal) A.x0 A.x8 A.x9 A.x10 (ix2 r c)) (fun r => ?_) 12 (by omega) r))
  · pointwise [val_main_v160, val_main_v159, val_main_v157, val_main_v155, val_main_v156, val_main_v154, val_main_v147, val_main_v145, val_main_v146, val_main_v144, val_main_v137, val_main_v136, val_main_v135, val_main_v134, val_main_v127, val_main_v126, val_main_cst_24, val_main_cst_25, val_main_cst_15, val_main_cst_16, val_main_cst_18, val_main_cst_19, val_main_cst_21, val_main_cst_22]
    simp only [show ¬ 384 ≤ 128 + c.val by omega, show ¬ 256 ≤ 128 + c.val by omega, show ¬ 128 + c.val < 128 by omega, false_and, and_false, ↓reduceDIte, zero_add, add_zero]
  · exact congrArg Neg.neg (quot_1 A r c)

theorem back_2 (r : Fin 16384) (c : Fin 128) : val_main_v160 (F := Ideal) A.x0 A.x8 A.x9 A.x10 (ix2 r (col 2 c)) = quot A r 2 c - ext (fun r => quot A r 2 c) (r.val + wd 2) := by
  refine Eq.trans ?_ (congrArg₂ (· + ·) (quot_2 A r c) (padded_neg (fun r => quot A r 2 c) (fun r => val_main_v133 (F := Ideal) A.x0 A.x8 A.x9 A.x10 (ix2 r c)) (fun r => ?_) 8 (by omega) r))
  · pointwise [val_main_v160, val_main_v159, val_main_v157, val_main_v155, val_main_v156, val_main_v154, val_main_v147, val_main_v145, val_main_v146, val_main_v144, val_main_v137, val_main_v136, val_main_v135, val_main_v134, val_main_v127, val_main_v126, val_main_cst_24, val_main_cst_25, val_main_cst_15, val_main_cst_16, val_main_cst_18, val_main_cst_19, val_main_cst_21, val_main_cst_22]
    simp only [show ¬ 384 ≤ 256 + c.val by omega, show ¬ 256 + c.val - 128 < 128 by omega, show ¬ 256 + c.val < 128 by omega, false_and, and_false, ↓reduceDIte, zero_add, add_zero]
  · exact congrArg Neg.neg (quot_2 A r c)

theorem back_3 (r : Fin 16384) (c : Fin 128) : val_main_v160 (F := Ideal) A.x0 A.x8 A.x9 A.x10 (ix2 r (col 3 c)) = quot A r 3 c - ext (fun r => quot A r 3 c) (r.val + wd 3) := by
  refine Eq.trans ?_ (congrArg₂ (· + ·) (quot_3 A r c) (padded_neg (fun r => quot A r 3 c) (fun r => val_main_v125 (F := Ideal) A.x0 A.x8 A.x9 A.x10 (ix2 r c)) (fun r => ?_) 0 (by omega) r))
  · pointwise [val_main_v160, val_main_v159, val_main_v157, val_main_v155, val_main_v156, val_main_v154, val_main_v147, val_main_v145, val_main_v146, val_main_v144, val_main_v137, val_main_v136, val_main_v135, val_main_v134, val_main_v127, val_main_v126, val_main_cst_24, val_main_cst_25, val_main_cst_15, val_main_cst_16, val_main_cst_18, val_main_cst_19, val_main_cst_21, val_main_cst_22]
    simp only [show ¬ 384 + c.val - 256 < 128 by omega, show ¬ 384 + c.val - 128 < 128 by omega, show ¬ 384 + c.val < 128 by omega, false_and, and_false, ↓reduceDIte, zero_add, add_zero]
  · exact congrArg Neg.neg (quot_3 A r c)

theorem back_ref (r : Fin 16384) (g : Fin 4) (c : Fin 128) :
    val_main_v160 (F := Ideal) A.x0 A.x8 A.x9 A.x10 (ix2 r (col g c)) = quot A r g c - ext (fun r => quot A r g c) (r.val + wd g) := by
  match g with
  | 0 => exact back_0 A r c
  | 1 => exact back_1 A r c
  | 2 => exact back_2 A r c
  | 3 => exact back_3 A r c

/-- The running sum up the rows gives the windows that begin at a row. -/
theorem dz_ref (H : ∀ r g c, IsReal (quot A r g c)) (r : Fin 16384) (g : Fin 4) (c : Fin 128) : val_main_v162 (F := Ideal) A.x0 A.x8 A.x9 A.x10 (ix2 r (col g c)) = dz A r g c := by
  have e : val_main_v162 (F := Ideal) A.x0 A.x8 A.x9 A.x10 (ix2 r (col g c)) = val_main_v161 (F := Ideal) A.x0 A.x8 A.x9 A.x10 (ix2 r (col g c)) + val_main_v150 (F := Ideal) A.x0 A.x8 A.x9 A.x10 (ix2 r (col g c)) := by
    pointwise [val_main_v162]
    exact add_comm _ _
  rw [e, neg_dpool]
  unfold dz
  rw [sub_eq_add_neg]
  refine congrArg (· + -dpool A r g c) ?_
  unfold val_main_v161
  refine (cumsum_up (R := 16384) (C := 512) (hi := 16383) _ _ (fun i => ?_) _ _ r (col g c)).trans ?_
  · pointwise [val_main_call1_call0_v0, val_main_call1_call0_cst]
  · refine Eq.trans (Finset.sum_congr rfl fun i _ => ?_) (telescope 16384 (ext_real fun r => H r g c) (fun n hn => ext_of_le _ hn) r.val (wd g))
    unfold ext
    by_cases h : r.val + i < 16384
    · rw [dif_pos h, dif_pos h]
      exact back_ref A ⟨r.val + i, h⟩ g c
    · rw [dif_neg h, dif_neg h, dif_neg (by omega), sub_zero]

/-- The gradients of all the columns of the input projection. -/
theorem first_ref (H : ∀ r g c, IsReal (quot A r g c)) (r : Fin 16384) (g : Fin 4) (c : Fin 128) : val_main_v163 (F := Ideal) A.x0 A.x1 A.x2 A.x3 A.x8 A.x9 A.x10 (ix2 r (first (col g c))) = dz A r g c := by
  refine Eq.trans ?_ (dz_ref A H r g c)
  pointwise [val_main_v163]
  exact dif_pos (col g c).isLt

theorem later_ref (r : Fin 16384) (j : Fin 4096) : val_main_v163 (F := Ideal) A.x0 A.x1 A.x2 A.x3 A.x8 A.x9 A.x10 (ix2 r (later j)) = rest A r j := by
  pointwise [val_main_v163, rest]
  by_cases h : j.val < 1024
  · rw [dif_pos h, dif_pos h]
  · rw [dif_neg h, dif_neg h]
    by_cases h' : j.val < 2048
    · rw [dif_pos (by omega), dif_pos h']
    · rw [dif_neg (by omega), dif_neg h']
      exact congrArg _ ((ix2_inj ..).2 ⟨rfl, Fin.ext (by show j.val - 1024 - 1024 = j.val - 2048; omega)⟩)

theorem dv_ref (H : ∀ r g c, IsReal (quot A r g c)) (r : Fin 16384) (k : Fin 1024) : val_main_v164 (F := Ideal) A.x0 A.x1 A.x2 A.x3 A.x7 A.x8 A.x9 A.x10 (ix2 r k) = dv A r k := by
  pointwise [val_main_v164, val_main_v17]
  refine (Fin.sum_univ_add (a := 512) (b := 4096) (fun j : Fin 4608 => val_main_v163 (F := Ideal) A.x0 A.x1 A.x2 A.x3 A.x8 A.x9 A.x10 (ix2 r j) * A.x7 (ix3 0 k j))).trans ?_
  rw [add_comm]
  refine congrArg₂ (· + ·) (Finset.sum_congr rfl fun j _ => congrArg (· * _) (later_ref A r j)) ?_
  refine (Fin.sum_univ_tiles 4 128 rfl _).trans ?_
  exact Finset.sum_congr rfl fun g _ => Finset.sum_congr rfl fun c _ => congrArg (· * _) (first_ref A H r g c)

theorem dpp_ref (H : ∀ r j, IsReal (zp A r j)) (g : Fin 4) (d : Fin 128) (n : Fin 1024) : val_main_v191 (F := Ideal) A.x0 A.x4 A.x6 A.x7 A.x8 A.x9 (ix2 (col g d) n) = dpp A g d n := by
  pointwise [val_main_v191, val_main_v98, val_main_v96, val_main_v95, val_main_v92, val_main_v91, val_main_v90, val_main_v89, dpp]
  simp only [mixed_ref H]
  exact Finset.sum_congr rfl fun r _ => mul_comm _ _

theorem dw_ref (H : ∀ r j, IsReal (zp A r j)) (g : Fin 4) (c d : Fin 128) : val_main_v192 (F := Ideal) A.x0 A.x4 A.x6 A.x7 A.x9 A.x10 (ix3 g c d) = dw A g c d := by
  pointwise [val_main_v192, val_main_v112, val_main_v111, val_main_v110, dw]
  simp only [dmix_group_ref, pooled_ref H]
  exact Finset.sum_congr rfl fun r _ => mul_comm _ _

theorem dx_ref (H : Finite A) (H' : ∀ r g c, IsReal (quot A r g c)) (Hq : ∀ r k, IsReal (dq A r k)) (r : Fin 16384) (k : Fin 1024) :
    val_main_v185 (F := Ideal) A.x0 A.x1 A.x2 A.x3 A.x4 A.x5 A.x6 A.x7 A.x8 A.x9 A.x10 (ix2 r k) = dx A r k := by
  have hn := norm_grad (h := fun k => A.x4 (ix2 r k)) (q := fun k => dq A r k) (fun k => H.h4 _) (fun k => Hq r k) k
  refine Eq.trans ?_ (congrArg (A.x5 (ix2 r k) + ·) hn.symm)
  pointwise [val_main_v185, val_main_v184, val_main_v183, val_main_v182, val_main_v181, val_main_v180, val_main_cst_30, val_main_v179, val_main_v178, val_main_cst_29, val_main_v177, val_main_v176, val_main_v175, val_main_v174, val_main_v173, val_main_v172, val_main_cst_28, val_main_v171, val_main_v169, val_main_v168, val_main_v14, val_main_v0, val_main_v11, val_main_v10, val_main_v9, val_main_cst_2]
  simp only [Finset.univ_unique, Finset.sum_singleton, Fin.default_eq_zero, Fin.isValue, inv_ref, meanSq_ref, dv_ref A H', add_assoc]
  rfl

theorem dg_ref (H' : ∀ r g c, IsReal (quot A r g c)) (k : Fin 1024) : val_main_v189 (F := Ideal) A.x0 A.x1 A.x2 A.x3 A.x4 A.x6 A.x7 A.x8 A.x9 A.x10 (ix2 1 k) = dg A k := by
  pointwise [val_main_v189, val_main_v186, val_main_v170, val_main_cst_27, val_main_v167, val_main_v166, val_main_cst_26, val_main_v165, val_main_v13, val_main_v12]
  simp only [Finset.univ_unique, Finset.sum_singleton, inv_ref, dv_ref A H']
  exact Finset.sum_congr rfl fun r _ => mul_comm _ _

theorem ds_ref (H : ∀ r j, IsReal (zp A r j)) (g : Fin 4) (d : Fin 128) : val_main_v189 (F := Ideal) A.x0 A.x1 A.x2 A.x3 A.x4 A.x6 A.x7 A.x8 A.x9 A.x10 (ix2 0 ⟨(col g d).val, by have := g.isLt; have := d.isLt; omega⟩) = ds A g d := by
  pointwise [val_main_v189, val_main_v187, val_main_v105, val_main_v104, val_main_cst_13, val_main_v101, val_main_v100, val_main_cst_12, val_main_v99]
  rw [dif_pos (col g d).isLt]
  unfold ds
  simp only [mixed_ref H, dms_ref, Finset.univ_unique, Finset.sum_singleton]
  exact Finset.sum_congr rfl fun r _ => mul_comm _ _

/-- Past the scales' gradients the first row of the reference's last result is zero. -/
theorem past_ref (k : Fin 1024) (hk : 512 ≤ k.val) : val_main_v189 (F := Ideal) A.x0 A.x1 A.x2 A.x3 A.x4 A.x6 A.x7 A.x8 A.x9 A.x10 (ix2 0 k) = 0 := by
  pointwise [val_main_v189, val_main_v187, val_main_call2_v0, val_main_c_31]
  rw [dif_neg (by omega)]
  exact Cert.Scalars.sitofp_zero

/-- And so are its rows past the second. -/
theorem below_ref (a : Fin 8) (ha : 2 ≤ a.val) (k : Fin 1024) : val_main_v189 (F := Ideal) A.x0 A.x1 A.x2 A.x3 A.x4 A.x6 A.x7 A.x8 A.x9 A.x10 (ix2 a k) = 0 := by
  pointwise [val_main_v189, val_main_v188, val_main_cst_32]
  rw [dif_neg (by omega), dif_neg (by omega)]

variable {A}

theorem Finite.inv (H : Finite A) (r : Fin 16384) : IsReal (inv A r) := IsReal.rms fun k => H.h4 _

theorem Finite.zp (H : Finite A) (r : Fin 16384) (j : Fin 512) : IsReal (zp A r j) :=
  IsReal.sum _ fun k => (((H.h4 _).mul (H.inv r)).mul (H.h6 _)).mul (H.h7 _)

theorem Finite.dmix (H : Finite A) (r : Fin 16384) (j : Fin 512) : IsReal (dmix A r j) :=
  (IsReal.sum _ fun n => (H.h0 _).mul (H.h10 _)).mul (H.h9 _)

theorem Finite.dpool (H : Finite A) (r : Fin 16384) (g : Fin 4) (c : Fin 128) : IsReal (dpool A r g c) :=
  IsReal.sum _ fun d => (H.dmix r _).mul (H.h8 _)

theorem Finite.quot (H : Finite A) (r : Fin 16384) (g : Fin 4) (c : Fin 128) : IsReal (quot A r g c) := by
  obtain ⟨n, hn, e⟩ := cnt_real (wb g) (wb_pos g) r.val r.isLt
  unfold PoolMath.quot
  rw [e]
  exact (H.dpool r g c).div hn

theorem Finite.dz (H : Finite A) (r : Fin 16384) (g : Fin 4) (c : Fin 128) : IsReal (dz A r g c) :=
  (IsReal.sum _ fun i => ext_real (fun r => H.quot r g c) _).sub (H.dpool r g c)

theorem Finite.rest (H : Finite A) (r : Fin 16384) (j : Fin 4096) : IsReal (rest A r j) := by
  unfold PoolMath.rest
  split
  · exact H.h1 _
  · split
    · exact H.h2 _
    · exact H.h3 _

theorem Finite.dq (H : Finite A) (r : Fin 16384) (k : Fin 1024) : IsReal (dq A r k) :=
  ((IsReal.sum _ fun j => (H.rest r j).mul (H.h7 _)).add
    (IsReal.sum _ fun g => IsReal.sum _ fun c => (H.dz r g c).mul (H.h7 _))).mul (H.h6 _)

end Cert.PoolMath

end
-- ==== Proof.PoolReads.lean ====
/- The pooled mixer's backward call: the blocks a point reads, as rows and columns of the arguments. -/
module

public import proofs.«01_k».proof.Proof.PoolBody
public import proofs.«01_k».proof.Proof.PoolMath
public import proofs.«01_k».proof.Proof.Rows
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open scoped BigOperators

namespace Cert.PoolIdeal.Value

open Cert.PoolIdeal Cert.PoolIdeal.Gen Cert.PoolMath Cert.Windows

variable (m : (ℓ : Loc nD τ sig) → Buf (Elt Ideal) ℓ)

/-- The windows' block indices at a grid point: the rows are taken from the last block to the first. -/
theorem idx_val : ∀ t : Fin cfg0.N, win0_0.index t = ![63 - t.val, 0]
    ∧ win0_1.index t = ![63 - t.val, 0]
    ∧ win0_2.index t = ![(63 - t.val) * 16 - 1, 0]
    ∧ win0_3.index t = ![63 - t.val, 0]
    ∧ win0_4.index t = ![63 - t.val, 0]
    ∧ win0_5.index t = ![63 - t.val, 0]
    ∧ win0_6.index t = ![63 - t.val, 0]
    ∧ win0_7.index t = ![63 - t.val, 0]
    ∧ win0_8.index t = ![0, 0]
    ∧ win0_9.index t = ![0, 0]
    ∧ win0_10.index t = ![0, 0, 0]
    ∧ win0_11.index t = ![0, 0]
    ∧ win0_12.index t = ![0, 0]
    ∧ win0_13.index t = ![63 - t.val, 0]
    ∧ win0_14.index t = ![63 - t.val, 0]
    ∧ win0_15.index t = ![0, 0]
    ∧ win0_16.index t = ![0, 0, 0]
    ∧ win0_17.index t = ![0, 0] :=
  (by decide +kernel : ∀ t : Fin grid0.N, _)

/-- A point's place in the grid. -/
theorem place : ∀ t : Fin cfg0.N, (grid0.coords t (0 : Fin 1)).val = t.val := (by decide +kernel : ∀ t : Fin grid0.N, _)

variable (c : Dev nD) (t : Fin cfg0.N)

/-- The arguments, by name. -/
abbrev args : Args :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8), m ((c : Thread nD τ).loc main_arg9), m ((c : Thread nD τ).loc main_arg10)⟩

theorem row_lt (a : Fin 256) : (63 - t.val) * 256 + a.val < 16384 := by
  have h : t.val < 64 := t.isLt
  have h' := a.isLt
  omega

/-- The array's row behind row `a` of the block of point `t`. -/
abbrev row (a : Fin 256) : Fin 16384 := ⟨(63 - t.val) * 256 + a.val, row_lt t a⟩

theorem read_0 (a : Fin 256) (k : Fin 1024) : iblk m c 0 t (ix2 a k) = (args m c).x0 (ix2 (row t a) k) := by
  blk_ext! [iblk, V, idx_val t]

theorem read_3 (a : Fin 256) (k : Fin 1024) : iblk m c 3 t (ix2 a k) = (args m c).x1 (ix2 (row t a) k) := by
  blk_ext! [iblk, V, idx_val t]

theorem read_4 (a : Fin 256) (k : Fin 1024) : iblk m c 4 t (ix2 a k) = (args m c).x2 (ix2 (row t a) k) := by
  blk_ext! [iblk, V, idx_val t]

theorem read_5 (a : Fin 256) (k : Fin 2048) : iblk m c 5 t (ix2 a k) = (args m c).x3 (ix2 (row t a) k) := by
  blk_ext! [iblk, V, idx_val t]

theorem read_6 (a : Fin 256) (k : Fin 1024) : iblk m c 6 t (ix2 a k) = (args m c).x4 (ix2 (row t a) k) := by
  blk_ext! [iblk, V, idx_val t]

theorem read_7 (a : Fin 256) (k : Fin 1024) : iblk m c 7 t (ix2 a k) = (args m c).x5 (ix2 (row t a) k) := by
  blk_ext! [iblk, V, idx_val t]

theorem read_8 (k : Fin 1024) : iblk m c 8 t (ix2 0 k) = (args m c).x6 (ix2 0 k) := by
  blk_ext! [iblk, V, idx_val t]

theorem host_in (k : Fin 1024) (j : Fin 4608) : V m c main_v1 (ix2 k j) = (args m c).x7 (ix3 0 k j) := by
  unfold V
  after_reads_at

theorem read_9 (k : Fin 1024) (j : Fin 4608) : iblk m c 9 t (ix2 k j) = (args m c).x7 (ix3 0 k j) := by
  refine Eq.trans ?_ (host_in m c k j)
  blk_ext [iblk, idx_val t]

theorem read_11 (j : Fin 512) : iblk m c 11 t (ix2 0 j) = (args m c).x9 (ix2 0 j) := by
  blk_ext! [iblk, V, idx_val t]

theorem host_out (j : Fin 512) (k : Fin 1024) : V m c main_v31 (ix2 j k) = (args m c).x10 (ix3 0 j k) := by
  unfold V
  after_reads_at

theorem read_12 (j : Fin 512) (k : Fin 1024) : iblk m c 12 t (ix2 j k) = (args m c).x10 (ix3 0 j k) := by
  refine Eq.trans ?_ (host_out m c j k)
  blk_ext [iblk, idx_val t]

/-- The columns computed before the launch. -/
theorem host_zp (r : Fin 16384) (j : Fin 512) : V m c main_v16 (ix2 r j) = zp (args m c) r j := by
  unfold V
  after_reads_at
  rfl

theorem read_1 (a : Fin 256) (j : Fin 512) : iblk m c 1 t (ix2 a j) = zp (args m c) (row t a) j := by
  refine Eq.trans ?_ (host_zp m c (row t a) j)
  blk_ext [iblk, idx_val t]

theorem halo_lt (b : Fin 16) : ((63 - t.val) * 16 - 1) * 16 + b.val < 16384 := by
  have h : t.val < 64 := t.isLt
  have h' := b.isLt
  omega

theorem read_2 (b : Fin 16) (j : Fin 512) : iblk m c 2 t (ix2 b j) = zp (args m c) ⟨((63 - t.val) * 16 - 1) * 16 + b.val, halo_lt t b⟩ j := by
  refine Eq.trans ?_ (host_zp m c _ j)
  blk_ext [iblk, idx_val t]

/-- The mixing weights laid out in pairs of groups. -/
theorem host_w (p h h' : Fin 2) (x d : Fin 128) :
    V m c main_v29 (ix3 p ⟨h'.val * 128 + x.val, by omega⟩ ⟨h.val * 128 + d.val, by omega⟩)
      = if h' = h then (args m c).x8 (ix4 0 ⟨2 * p.val + h.val, by omega⟩ x d) else 0 := by
  unfold V
  after_reads_at
  have := x.isLt
  have := d.isLt
  match h', h with
  | 0, 0 =>
    refine (dif_pos (by simp)).trans ((dif_pos (by simp)).trans (Eq.trans ?_ (if_pos rfl).symm))
    after_reads_at
  | 0, 1 =>
    refine (dif_pos (by simp)).trans ((dif_neg (by simp)).trans (Eq.trans ?_ (if_neg (by decide)).symm))
    after_reads_at
  | 1, 0 =>
    refine (dif_neg (by simp)).trans ((dif_pos (by simp)).trans (Eq.trans ?_ (if_neg (by decide)).symm))
    after_reads_at
  | 1, 1 =>
    refine (dif_neg (by simp)).trans ((dif_neg (by simp)).trans (Eq.trans ?_ (if_pos rfl).symm))
    after_reads_at
    exact congrArg (args m c).x8 ((ix4_inj ..).2 ⟨rfl, Fin.ext (Nat.add_comm _ _), rfl, rfl⟩)

end Cert.PoolIdeal.Value

end
-- ==== Proof.PoolPoint.lean ====
/- The pooled mixer's backward call: what a point computes from its blocks, as the formulas at the block's rows. -/
module

public import proofs.«01_k».proof.Proof.PoolReads
public import proofs.«01_k».proof.Proof.Scalars

@[expose] public section

set_option maxRecDepth 16384

noncomputable section

open Idealize.ShloMosaic Idealize.ShloMosaic.TcCoe Idealize.SL.Sem
open Idealize.ShloMosaic.Pipeline (Dat)
open scoped BigOperators

namespace Cert.PoolIdeal.Value

open Cert.PoolIdeal Cert.PoolIdeal.Gen Cert.PoolMath Cert.Windows

variable (m : (ℓ : Loc nD τ sig) → Buf (Elt Ideal) ℓ) (c : Dev nD) (t : Fin cfg0.N)

/-! ## The means over the windows -/

/-- The block's rows below the sixteen before them. -/
abbrev catB : FVec Ideal S272x512 .f32 := k0_pay7 (F := Ideal) (grid0.coords t) (iblk m c 2 t) (iblk m c 1 t)

/-- The rows' numbers. -/
abbrev idsB : IVec S256x128 32 := k0_pay8 (grid0.coords t)

abbrev mean0 : FVec Ideal S256x128 .f32 := k0_pay9 (F := Ideal) (grid0.coords t) (iblk m c 2 t) (iblk m c 1 t)
abbrev col1 : FVec Ideal S272x128 .f32 := k0_pay11 (F := Ideal) (grid0.coords t) (iblk m c 2 t) (iblk m c 1 t)
abbrev sum1 : FVec Ideal S272x128 .f32 := k0_pay12 (F := Ideal) (grid0.coords t) (iblk m c 2 t) (iblk m c 1 t)
abbrev rot1 : FVec Ideal S272x128 .f32 := k0_pay13 (F := Ideal) (grid0.coords t) (iblk m c 2 t) (iblk m c 1 t)
abbrev mean1 : FVec Ideal S256x128 .f32 := k0_pay14 (F := Ideal) (idsB t) (col1 m c t) (sum1 m c t) (rot1 m c t)
abbrev mean2 : FVec Ideal S256x128 .f32 := k0_pay17 (F := Ideal) (catB m c t) (idsB t)
abbrev mean3 : FVec Ideal S256x128 .f32 := k0_pay19 (F := Ideal) (catB m c t) (idsB t)
abbrev poolB : FVec Ideal S256x512 .f32 := k0_pay21 (F := Ideal) (catB m c t) (idsB t) (mean0 m c t) (mean1 m c t) (mean2 m c t)

theorem keep_word : ∀ n : Fin 64, Scalar.extui (Scalar.cmpi .sgt (Scalar.subi 63#32 (BitVec.ofNat 32 n.val)) 0#32) = if n.val < 63 then 1#32 else (0#32 : BitVec 32) := by
  decide

/-- The factor of the rows before the block: none come before the first row. -/
theorem keep : (((Scalar.extui (Scalar.cmpi .sgt (Scalar.subi 63#32 (BitVec.ofNat 32 (grid0.coords t (0 : Fin 1)).val)) 0#32) : BitVec 32).toInt : ℝ) : EReal)
    = if t.val < 63 then (1 : EReal) else 0 := by
  rw [place t, keep_word ⟨t.val, t.isLt⟩]
  show (((if t.val < 63 then 1#32 else (0#32 : BitVec 32)).toInt : ℝ) : EReal) = _
  split <;> simp

/-- The block's column with the rows before it, counted from sixteen rows before the block. -/
def before (j : Fin 512) (n : ℕ) : EReal :=
  if 16 ≤ (63 - t.val) * 256 + n then ext (fun r => zp (args m c) r j) ((63 - t.val) * 256 + n - 16) else 0

theorem cat_ker (r : Fin 272) (j : Fin 512) : catB m c t (ix2 r j) = before m c t j r.val := by
  have ht : t.val < 64 := t.isLt
  have hr := r.isLt
  pointwise [catB, k0_pay7]
  unfold before
  by_cases h : r.val < 16
  · rw [dif_pos h, read_2, keep t]
    by_cases h' : t.val < 63
    · rw [if_pos h', if_pos (by omega), mul_one]
      refine Eq.trans ?_ (congrArg _ (show ((63 - t.val) * 16 - 1) * 16 + r.val = (63 - t.val) * 256 + r.val - 16 by omega))
      exact (ext_of_lt (fun r => zp (args m c) r j) ⟨((63 - t.val) * 16 - 1) * 16 + r.val, _⟩).symm
    · rw [if_neg h', if_neg (by omega), mul_zero]
  · refine (dif_neg h).trans ((read_1 m c t _ j).trans (Eq.trans ?_ (if_pos (by omega)).symm))
    refine Eq.trans ?_ (congrArg _ (show (63 - t.val) * 256 + (r.val - 16) = (63 - t.val) * 256 + r.val - 16 by omega))
    exact (ext_of_lt (fun r => zp (args m c) r j) (row t ⟨r.val - 16, by omega⟩)).symm

theorem ids_ker (a : Fin 256) (k : Fin 128) : idsB t (ix2 a k) = BitVec.ofNat 32 (row t a).val := by
  pointwise [idsB, k0_pay8]
  rw [place t]
  exact row_word t.val a.val t.isLt a.isLt

theorem wd_le (g : Fin 4) : wd g ≤ 16 := by
  revert g; decide

/-- A window's mean less the row's own value, from the window's sum. -/
theorem mean_ker (g : Fin 4) (a : Fin 256) (k : Fin 128) (x : EReal) (h : x = ∑ i ∈ Finset.range (wd g), before m c t (col g k) (16 + a.val - i)) :
    Ideal.div x (cnt (wb g) (row t a).val) - before m c t (col g k) (16 + a.val) = pooled (args m c) (row t a) g k := by
  have hw : wd g ≤ 16 := wd_le g
  unfold pooled
  have h1 : before m c t (col g k) (16 + a.val) = zp (args m c) (row t a) (col g k) := by
    unfold before
    rw [if_pos (by omega), show (63 - t.val) * 256 + (16 + a.val) - 16 = (row t a).val by show _ = (63 - t.val) * 256 + a.val; omega]
    exact ext_of_lt (fun r => zp (args m c) r (col g k)) (row t a)
  have h2 : x = win (wd g) (ext fun r => zp (args m c) r (col g k)) (row t a).val := by
    rw [h]
    refine Finset.sum_congr rfl fun i hi => ?_
    have hi' := Finset.mem_range.mp hi
    unfold before
    show _ = if i ≤ (63 - t.val) * 256 + a.val then ext (fun r => zp (args m c) r (col g k)) ((63 - t.val) * 256 + a.val - i) else 0
    by_cases h3 : i ≤ (63 - t.val) * 256 + a.val
    · rw [if_pos h3, if_pos (by omega)]
      exact congrArg _ (by omega)
    · rw [if_neg h3, if_neg (by omega)]
  rw [h1, h2]

theorem one_term (e : ℕ → EReal) (n : ℕ) : e n = ∑ i ∈ Finset.range 1, e (n - i) := by
  rw [Finset.sum_range_one, Nat.sub_zero]

theorem mean_at (g : Fin 4) (k : Fin 128) (v v' : FVec Ideal S272x128 .f32) (w : BitVec 32) (hw : w = wb g)
    (h : S272x128.Slices ![16, 0] S256x128) (hv : ∀ r : Fin 272, v (ix2 r k) = before m c t (col g k) r.val)
    (hv' : ∀ r : Fin 272, wd g ≤ r.val + 1 → v' (ix2 r k) = ∑ i ∈ Finset.range (wd g), before m c t (col g k) (r.val - i)) (a : Fin 256) :
    subf (divf (extractStridedSlice S256x128 ![16, 0] v' h)
        (sitofp (F := Ideal) .f32 (minsi (addi (idsB t) (broadcast S256x128 1#32)) (broadcast S256x128 w))))
      (extractStridedSlice S256x128 ![16, 0] v h) (ix2 a k)
    = pooled (args m c) (row t a) g k := by
  subst hw
  have ha := a.isLt
  have hg := wd_le g
  have e : subf (divf (extractStridedSlice S256x128 ![16, 0] v' h)
        (sitofp (F := Ideal) .f32 (minsi (addi (idsB t) (broadcast S256x128 1#32)) (broadcast S256x128 (wb g)))))
      (extractStridedSlice S256x128 ![16, 0] v h) (ix2 a k)
      = Ideal.div (v' (ix2 ⟨16 + a.val, by omega⟩ k)) (FloatOps.sitofp (F := Ideal) .f32 (IntOp.minsi (IntOp.addi (idsB t (ix2 a k)) 1#32) (wb g)))
        - v (ix2 ⟨16 + a.val, by omega⟩ k) := by
    pointwise []
  rw [e, ids_ker, hv]
  exact mean_ker m c t g a k _ (hv' ⟨16 + a.val, by omega⟩ (by show _ ≤ 16 + a.val + 1; omega))

/-- The columns of a group, before any rotation. -/
theorem cols_ker (g : Fin 4) (o : ℕ) (ho : o = g.val * 128) (h : S272x512.Slices ![0, o] S272x128) (k : Fin 128) (r : Fin 272) :
    extractStridedSlice S272x128 ![0, o] (catB m c t) h (ix2 r k) = before m c t (col g k) r.val := by
  subst ho
  refine (extractStridedSlice_apply _ _ _ _ (ix2 r (col g k)) fun b => ?_).trans (cat_ker m c t r (col g k))
  match b with
  | ⟨0, _⟩ => exact (Nat.zero_add _).symm
  | ⟨1, _⟩ => rfl

theorem base_ker (g : Fin 4) (k : Fin 128) (v : FVec Ideal S272x128 .f32) (hv : ∀ r : Fin 272, v (ix2 r k) = before m c t (col g k) r.val)
    (r : Fin 272) (hr : 1 ≤ r.val + 1) : v (ix2 r k) = ∑ i ∈ Finset.range 1, before m c t (col g k) (r.val - i) :=
  (hv r).trans (one_term _ _)

theorem mean0_ker (a : Fin 256) (k : Fin 128) : mean0 m c t (ix2 a k) = pooled (args m c) (row t a) 0 k := by
  refine mean_at m c t 0 k _ _ _ rfl _ (cols_ker m c t 0 0 rfl slices_S272x512_o0_0_S272x128 k) ?_ a
  refine double_down _ 1 _ rfl (by decide) (by decide) _ _ k ?_
  exact base_ker m c t 0 k _ (cols_ker m c t 0 0 rfl slices_S272x512_o0_0_S272x128 k)

theorem mean1_ker (a : Fin 256) (k : Fin 128) : mean1 m c t (ix2 a k) = pooled (args m c) (row t a) 1 k := by
  refine mean_at m c t 1 k _ _ _ rfl _ (cols_ker m c t 1 128 rfl slices_S272x512_o0_128_S272x128 k) ?_ a
  refine double_down _ 2 2#32 rfl (by decide) (by decide) (sum1 m c t) rotates_S272x128_d0 k ?_
  refine double_down _ 1 1#32 rfl (by decide) (by decide) (col1 m c t) rotates_S272x128_d0 k ?_
  exact base_ker m c t 1 k _ (cols_ker m c t 1 128 rfl slices_S272x512_o0_128_S272x128 k)

theorem mean2_ker (a : Fin 256) (k : Fin 128) : mean2 m c t (ix2 a k) = pooled (args m c) (row t a) 2 k := by
  refine mean_at m c t 2 k _ _ _ rfl _ (cols_ker m c t 2 256 rfl slices_S272x512_o0_256_S272x128 k) ?_ a
  refine double_down _ 4 _ rfl (by decide) (by decide) _ _ k ?_
  refine double_down _ 2 _ rfl (by decide) (by decide) _ _ k ?_
  refine double_down _ 1 _ rfl (by decide) (by decide) _ _ k ?_
  exact base_ker m c t 2 k _ (cols_ker m c t 2 256 rfl slices_S272x512_o0_256_S272x128 k)

theorem mean3_ker (a : Fin 256) (k : Fin 128) : mean3 m c t (ix2 a k) = pooled (args m c) (row t a) 3 k := by
  refine mean_at m c t 3 k _ _ _ rfl _ (cols_ker m c t 3 384 rfl slices_S272x512_o0_384_S272x128 k) ?_ a
  refine double_down _ 8 _ rfl (by decide) (by decide) _ _ k ?_
  refine double_down _ 4 _ rfl (by decide) (by decide) _ _ k ?_
  refine double_down _ 2 _ rfl (by decide) (by decide) _ _ k ?_
  refine double_down _ 1 _ rfl (by decide) (by decide) _ _ k ?_
  exact base_ker m c t 3 k _ (cols_ker m c t 3 384 rfl slices_S272x512_o0_384_S272x128 k)

theorem pool_ker (a : Fin 256) (g : Fin 4) (k : Fin 128) : poolB m c t (ix2 a (col g k)) = pooled (args m c) (row t a) g k := by
  have hk := k.isLt
  match g with
  | 0 =>
    refine Eq.trans ?_ (mean0_ker m c t a k)
    pointwise [poolB, k0_pay21]
  | 1 =>
    refine Eq.trans ?_ (mean1_ker m c t a k)
    pointwise [poolB, k0_pay21]
  | 2 =>
    refine Eq.trans ?_ (mean2_ker m c t a k)
    pointwise [poolB, k0_pay21]
    exact (dif_neg (by omega)).trans ((dif_neg (by omega)).trans ((dif_pos (by omega)).trans
      (congrArg (mean2 m c t) ((ix2_inj ..).2 ⟨rfl, Fin.ext (by show 256 + k.val - 128 - 128 = k.val; omega)⟩))))
  | 3 =>
    refine Eq.trans ?_ (mean3_ker m c t a k)
    pointwise [poolB, k0_pay21]
    exact (dif_neg (by omega)).trans ((dif_neg (by omega)).trans ((dif_neg (by omega)).trans
      (congrArg (mean3 m c t) ((ix2_inj ..).2 ⟨rfl, Fin.ext (by show 384 + k.val - 128 - 128 - 128 = k.val; omega)⟩))))

/-! ## The products with the mixing weights -/

/-- One of a pair's groups. -/
abbrev grp (p h : Fin 2) : Fin 4 := ⟨2 * p.val + h.val, by omega⟩

/-- A column of a pair. -/
abbrev pcol (h : Fin 2) (k : Fin 128) : Fin 256 := ⟨h.val * 128 + k.val, by have := h.isLt; have := k.isLt; omega⟩

theorem ld_slab (x : FVec Ideal S2x256x256 .bf16) (p : ℕ) (q : Fin 2) (hq : q.val = p)
    (inb : ∀ a, (![p, 0, 0] : Fin 3 → ℕ) a + (![1, 256, 256] : Fin 3 → ℕ) a ≤ (![2, 256, 256] : Fin 3 → ℕ) a) (a b : Fin 256) :
    View.ld (Val := Elt Ideal) (e' := .bf16) x (Rect.unit (s := S2x256x256) ![p, 0, 0] ![1, 256, 256] inb) (ix3 0 a b) = x (ix3 q a b) := by
  refine congrArg x (funext fun c => Fin.ext ?_)
  match c with
  | ⟨0, _⟩ => show p + 1 * 0 = q.val; omega
  | ⟨1, _⟩ => show 0 + 1 * a.val = a.val; omega
  | ⟨2, _⟩ => show 0 + 1 * b.val = b.val; omega

/-- The two pairs' weights. -/
abbrev wA : FVec Ideal S1x256x256 .bf16 := View.ld (iblk m c 10 t) (Rect.unit ![0, 0, 0] ![1, 256, 256] inb_S2x256x256_S1x256x256_0_0_0)
abbrev wB : FVec Ideal S1x256x256 .bf16 := View.ld (iblk m c 10 t) (Rect.unit ![1, 0, 0] ![1, 256, 256] inb_S2x256x256_S1x256x256_1_0_0)

theorem read_10 (p h h' : Fin 2) (x d : Fin 128) :
    iblk m c 10 t (ix3 p (pcol h' x) (pcol h d)) = if h' = h then (args m c).x8 (ix4 0 (grp p h) x d) else 0 := by
  refine Eq.trans ?_ (host_w m c p h h' x d)
  blk_ext [iblk, idx_val t]

theorem wA_ker (h h' : Fin 2) (x d : Fin 128) (i j : Fin 256) (hi : i.val = h'.val * 128 + x.val) (hj : j.val = h.val * 128 + d.val) :
    wA m c t (ix3 0 i j) = if h' = h then (args m c).x8 (ix4 0 (grp 0 h) x d) else 0 := by
  obtain rfl : i = pcol h' x := Fin.ext hi
  obtain rfl : j = pcol h d := Fin.ext hj
  exact (ld_slab _ 0 0 rfl _ _ _).trans (read_10 m c t 0 h h' x d)

theorem wB_ker (h h' : Fin 2) (x d : Fin 128) (i j : Fin 256) (hi : i.val = h'.val * 128 + x.val) (hj : j.val = h.val * 128 + d.val) :
    wB m c t (ix3 0 i j) = if h' = h then (args m c).x8 (ix4 0 (grp 1 h) x d) else 0 := by
  obtain rfl : i = pcol h' x := Fin.ext hi
  obtain rfl : j = pcol h d := Fin.ext hj
  exact (ld_slab _ 1 1 rfl _ _ _).trans (read_10 m c t 1 h h' x d)

/-- A product over a pair's columns, where one factor is zero in the other group. -/
theorem pair_sum (f g : Fin 256 → EReal) (h : Fin 2) (u v : Fin 128 → EReal) (hf : ∀ x, f (pcol h x) = u x)
    (hg : ∀ h' x, g (pcol h' x) = if h' = h then v x else 0) : ∑ k, f k * g k = ∑ x, u x * v x := by
  refine (Fin.sum_univ_tiles 2 128 rfl _).trans ?_
  refine (Finset.sum_eq_single h (fun h' _ hn => ?_) (fun hn => absurd (Finset.mem_univ _) hn)).trans ?_
  · refine Finset.sum_eq_zero (M := EReal) fun x _ => ?_
    exact (congrArg (f (pcol h' x) * ·) ((hg h' x).trans (if_neg hn))).trans (mul_zero _)
  · refine Finset.sum_congr rfl fun x _ => ?_
    exact congrArg₂ (· * ·) (hf x) ((hg h x).trans (if_pos rfl))

/-- The same, with the two groups' columns apart. -/
theorem pair_add (h : Fin 2) (u : Fin 2 → Fin 128 → EReal) (v : Fin 128 → EReal) (f f' g g' : Fin 128 → EReal) (hf : ∀ x, f x = u 0 x) (hf' : ∀ x, f' x = u 1 x)
    (hg : ∀ x, g x = if 0 = h then v x else 0) (hg' : ∀ x, g' x = if 1 = h then v x else 0) :
    ∑ x, f x * g x + ∑ x, f' x * g' x = ∑ x, u h x * v x := by
  match h with
  | 0 =>
    have e : ∑ x, f' x * g' x = 0 := Finset.sum_eq_zero (M := EReal) fun x _ => (congrArg (f' x * ·) (hg' x)).trans (mul_zero _)
    rw [e, add_zero]
    exact Finset.sum_congr rfl fun x _ => congrArg₂ (· * ·) (hf x) (hg x)
  | 1 =>
    have e : ∑ x, f x * g x = 0 := Finset.sum_eq_zero (M := EReal) fun x _ => (congrArg (f x * ·) (hg x)).trans (mul_zero _)
    rw [e, zero_add]
    exact Finset.sum_congr rfl fun x _ => congrArg₂ (· * ·) (hf' x) (hg' x)

theorem grp_surj (g : Fin 4) : ∃ p h, g = grp p h := by
  revert g; decide

abbrev mixL : FVec Ideal S256x256 .f32 := k0_pay15 (F := Ideal) (idsB t) (mean0 m c t) (col1 m c t) (sum1 m c t) (rot1 m c t) (wA m c t)
abbrev mixB : FVec Ideal S256x512 .f32 := k0_pay22 (F := Ideal) (catB m c t) (idsB t) (mixL m c t) (mean2 m c t) (wB m c t)

theorem mixL_ker (a : Fin 256) (h : Fin 2) (d : Fin 128) (j : Fin 256) (hj : j.val = h.val * 128 + d.val) :
    mixL m c t (ix2 a j) = mixed (args m c) (row t a) (grp 0 h) d := by
  pointwise [mixL, k0_pay15]
  refine pair_add h (fun h x => pooled (args m c) (row t a) (grp 0 h) x) _ _ _ _ _ (fun x => mean0_ker m c t a x) (fun x => mean1_ker m c t a x)
    (fun x => wA_ker m c t h 0 x d _ _ ?_ hj) (fun x => wA_ker m c t h 1 x d _ _ ?_ hj)
  · show x.val = 0 * 128 + x.val; omega
  · show 128 + x.val = 1 * 128 + x.val; omega

theorem mixB_ker (a : Fin 256) (g : Fin 4) (d : Fin 128) : mixB m c t (ix2 a (col g d)) = mixed (args m c) (row t a) g d := by
  obtain ⟨p, h, rfl⟩ := grp_surj g
  have hh := h.isLt
  have hd := d.isLt
  pointwise [mixB, k0_pay22]
  match p with
  | 0 =>
    refine (dif_pos (by show (2 * 0 + h.val) * 128 + d.val < 256; omega)).trans ?_
    exact mixL_ker m c t a h d _ (by show (2 * 0 + h.val) * 128 + d.val = _; omega)
  | 1 =>
    refine (dif_neg (by show ¬ (2 * 1 + h.val) * 128 + d.val < 256; omega)).trans ?_
    refine pair_add h (fun h x => pooled (args m c) (row t a) (grp 1 h) x) _ _ _ _ _ (fun x => mean2_ker m c t a x) (fun x => mean3_ker m c t a x)
      (fun x => wB_ker m c t h 0 x d _ _ ?_ ?_) (fun x => wB_ker m c t h 1 x d _ _ ?_ ?_)
    · show x.val = 0 * 128 + x.val; omega
    · show (2 * 1 + h.val) * 128 + d.val - 256 = h.val * 128 + d.val; omega
    · show 128 + x.val = 1 * 128 + x.val; omega
    · show (2 * 1 + h.val) * 128 + d.val - 256 = h.val * 128 + d.val; omega

/-! ## The gradients -/

abbrev dmsB : FVec Ideal S256x512 .f32 := k0_pay26 (F := Ideal) (k0_pay23 (iblk m c 0 t)) (iblk m c 12 t)
abbrev dmixB : FVec Ideal S256x512 .bf16 := k0_pay31 (F := Ideal) (dmsB m c t) (iblk m c 11 t)

theorem dms_ker (a : Fin 256) (j : Fin 512) : dmsB m c t (ix2 a j) = dms (args m c) (row t a) j := by
  pointwise [dmsB, k0_pay26, k0_pay23]
  simp only [read_0, read_12]
  rfl

theorem dmix_ker (a : Fin 256) (j : Fin 512) : dmixB m c t (ix2 a j) = dmix (args m c) (row t a) j := by
  pointwise [dmixB, k0_pay31]
  simp only [dms_ker, read_11]
  rfl

abbrev dp0 : FVec Ideal S256x256 .f32 := k0_pay34 (F := Ideal) (dmsB m c t) (iblk m c 11 t) (wA m c t)
abbrev dpB : FVec Ideal S256x512 .f32 := k0_pay37 (F := Ideal) (dmixB m c t) (dp0 m c t) (wB m c t)

theorem if_swap (h h' : Fin 2) (u v : EReal) (e : h' = h → u = v) : (if h = h' then u else 0) = if h' = h then v else 0 := by
  by_cases hh : h' = h
  · rw [if_pos hh, if_pos hh.symm, e hh]
  · rw [if_neg hh, if_neg (Ne.symm hh)]

theorem dp0_ker (a : Fin 256) (h : Fin 2) (x : Fin 128) (j : Fin 256) (hj : j.val = h.val * 128 + x.val) :
    dp0 m c t (ix2 a j) = dpool (args m c) (row t a) (grp 0 h) x := by
  pointwise [dp0, k0_pay34]
  refine pair_sum _ _ h _ _ (fun d => ?_) (fun h' d => ?_)
  · refine (dmix_ker m c t a _).trans (congrArg (dmix (args m c) (row t a)) (Fin.ext ?_))
    show h.val * 128 + d.val = (2 * 0 + h.val) * 128 + d.val; omega
  · exact (wA_ker m c t h' h x d _ _ hj rfl).trans (if_swap h h' _ _ fun e => by rw [e])

theorem dpB_ker (a : Fin 256) (g : Fin 4) (x : Fin 128) (j : Fin 512) (hj : j.val = g.val * 128 + x.val) :
    dpB m c t (ix2 a j) = dpool (args m c) (row t a) g x := by
  obtain ⟨p, h, rfl⟩ := grp_surj g
  have hh := h.isLt
  have hx := x.isLt
  have hj' : j.val = (2 * p.val + h.val) * 128 + x.val := hj
  pointwise [dpB, k0_pay37]
  match p, hj' with
  | 0, hj' =>
    have hj' : j.val = (2 * 0 + h.val) * 128 + x.val := hj'
    refine (dif_pos (by omega)).trans ?_
    exact dp0_ker m c t a h x _ (by show j.val = _; omega)
  | 1, hj' =>
    have hj' : j.val = (2 * 1 + h.val) * 128 + x.val := hj'
    refine (dif_neg (by omega)).trans ?_
    refine pair_sum _ _ h _ _ (fun d => ?_) (fun h' d => ?_)
    · refine (dmix_ker m c t a _).trans (congrArg (dmix (args m c) (row t a)) (Fin.ext ?_))
      show 256 + (h.val * 128 + d.val) = (2 * 1 + h.val) * 128 + d.val; omega
    · exact (wB_ker m c t h' h x d _ _ (by show j.val - 256 = _; omega) rfl).trans (if_swap h h' _ _ fun e => by rw [e])

/-- The rows' numbers, again. -/
abbrev rowsB : IVec S256x128 32 := k0_pay32 (Scalar.muli (Scalar.subi 63#32 (BitVec.ofNat 32 (grid0.coords t (0 : Fin 1)).val)) 256#32)

theorem rows_ker (a : Fin 256) (k : Fin 128) : rowsB t (ix2 a k) = BitVec.ofNat 32 (row t a).val := by
  pointwise [rowsB, k0_pay32]
  rw [place t]
  exact row_word t.val a.val t.isLt a.isLt

abbrev dpool0 : FVec Ideal S256x128 .f32 := k0_pay38 (F := Ideal) (dmixB m c t) (dp0 m c t) (wB m c t)
abbrev dpool1 : FVec Ideal S256x128 .f32 := k0_pay42 (F := Ideal) (dmixB m c t) (dp0 m c t) (wB m c t)
abbrev dpool2 : FVec Ideal S256x128 .f32 := k0_pay47 (F := Ideal) (dpB m c t)
abbrev dpool3 : FVec Ideal S256x128 .f32 := k0_pay53 (F := Ideal) (dpB m c t)
abbrev quot0 : FVec Ideal S256x128 .f32 := k0_pay39 (F := Ideal) (dmixB m c t) (rowsB t) (dp0 m c t) (wB m c t)
abbrev quot1 : FVec Ideal S256x128 .f32 := k0_pay44 (F := Ideal) (dpool1 m c t) (k0_pay43 (rowsB t))
abbrev quot2 : FVec Ideal S256x128 .f32 := k0_pay48 (F := Ideal) (rowsB t) (dpB m c t)
abbrev quot3 : FVec Ideal S256x128 .f32 := k0_pay54 (F := Ideal) (rowsB t) (dpB m c t)

theorem dpool0_ker (a : Fin 256) (k : Fin 128) : dpool0 m c t (ix2 a k) = dpool (args m c) (row t a) 0 k := by
  pointwise [dpool0, k0_pay38]
  exact dpB_ker m c t a 0 k _ (by show k.val = 0 * 128 + k.val; omega)

theorem dpool1_ker (a : Fin 256) (k : Fin 128) : dpool1 m c t (ix2 a k) = dpool (args m c) (row t a) 1 k := by
  pointwise [dpool1, k0_pay42]
  exact dpB_ker m c t a 1 k _ (by show 128 + k.val = 1 * 128 + k.val; omega)

theorem dpool2_ker (a : Fin 256) (k : Fin 128) : dpool2 m c t (ix2 a k) = dpool (args m c) (row t a) 2 k := by
  pointwise [dpool2, k0_pay47]
  exact dpB_ker m c t a 2 k _ (by show 256 + k.val = 2 * 128 + k.val; omega)

theorem dpool3_ker (a : Fin 256) (k : Fin 128) : dpool3 m c t (ix2 a k) = dpool (args m c) (row t a) 3 k := by
  pointwise [dpool3, k0_pay53]
  exact dpB_ker m c t a 3 k _ (by show 384 + k.val = 3 * 128 + k.val; omega)

theorem quot0_ker (a : Fin 256) (k : Fin 128) : quot0 m c t (ix2 a k) = quot (args m c) (row t a) 0 k := by
  pointwise [quot0, k0_pay39]
  rw [rows_ker]
  exact congrArg (Ideal.div · _) (dpool0_ker m c t a k)

theorem quot1_ker (a : Fin 256) (k : Fin 128) : quot1 m c t (ix2 a k) = quot (args m c) (row t a) 1 k := by
  pointwise [quot1, k0_pay44, k0_pay43]
  rw [dpool1_ker, rows_ker]
  rfl

theorem quot2_ker (a : Fin 256) (k : Fin 128) : quot2 m c t (ix2 a k) = quot (args m c) (row t a) 2 k := by
  pointwise [quot2, k0_pay48]
  rw [rows_ker]
  exact congrArg (Ideal.div · _) (dpool2_ker m c t a k)

theorem quot3_ker (a : Fin 256) (k : Fin 128) : quot3 m c t (ix2 a k) = quot (args m c) (row t a) 3 k := by
  pointwise [quot3, k0_pay54]
  rw [rows_ker]
  exact congrArg (Ideal.div · _) (dpool3_ker m c t a k)

end Cert.PoolIdeal.Value

end
-- ==== Proof.PoolDu.lean ====
/- The pooled mixer's backward call: the gradients a point stores for its rows, as the formulas at the block's rows. -/
module

public import proofs.«01_k».proof.Proof.PoolPoint

@[expose] public section

set_option maxRecDepth 16384

noncomputable section

open Idealize.ShloMosaic Idealize.ShloMosaic.TcCoe Idealize.SL.Sem
open Idealize.ShloMosaic.Pipeline (Dat)
open scoped BigOperators

namespace Cert.PoolIdeal.Value

open Cert.PoolIdeal Cert.PoolIdeal.Gen Cert.PoolMath Cert.Windows

variable (m : (ℓ : Loc nD τ sig) → Buf (Elt Ideal) ℓ) (c : Dev nD) (t : Fin cfg0.N)

/-! ## The gradient of the pooled columns -/

/-- A group's column of quotients, counted from the block's first row. -/
def after (g : Fin 4) (k : Fin 128) (n : ℕ) : EReal := ext (fun r => quot (args m c) r g k) ((63 - t.val) * 256 + n)

theorem catq_ker (g : Fin 4) (k : Fin 128) (q : FVec Ideal S256x128 .f32) (d : FVec Ideal S16x128 .f32)
    (hq : ∀ a, q (ix2 a k) = quot (args m c) (row t a) g k) (hd : ∀ r : Fin 16, d (ix2 r k) = after m c t g k (256 + r.val)) (r : Fin 272) :
    concatenate S272x128 0 [⟨S256x128, q⟩, ⟨S16x128, d⟩] concatenates_S256x128_S16x128_S272x128_d0 (ix2 r k) = after m c t g k r.val := by
  have hr := r.isLt
  pointwise []
  by_cases h : r.val < 256
  · refine (dif_pos h).trans ((hq ⟨r.val, h⟩).trans ?_)
    exact (ext_of_lt (fun r => quot (args m c) r g k) (row t ⟨r.val, h⟩)).symm
  · refine (dif_neg h).trans ((hd ⟨r.val - 256, by omega⟩).trans (congrArg (after m c t g k) ?_))
    show 256 + (r.val - 256) = r.val; omega

theorem first_term (e : ℕ → EReal) (n : ℕ) : e n = ∑ i ∈ Finset.range 1, e (n + i) := by
  rw [Finset.sum_range_one, Nat.add_zero]

theorem baseq_ker (g : Fin 4) (k : Fin 128) (q : FVec Ideal S256x128 .f32) (d : FVec Ideal S16x128 .f32)
    (hq : ∀ a, q (ix2 a k) = quot (args m c) (row t a) g k) (hd : ∀ r : Fin 16, d (ix2 r k) = after m c t g k (256 + r.val)) (r : Fin 272) (_ : r.val + 1 ≤ 272) :
    concatenate S272x128 0 [⟨S256x128, q⟩, ⟨S16x128, d⟩] concatenates_S256x128_S16x128_S272x128_d0 (ix2 r k) = ∑ i ∈ Finset.range 1, after m c t g k (r.val + i) :=
  (catq_ker m c t g k q d hq hd r).trans (first_term _ _)

theorem z_at (g : Fin 4) (k : Fin 128) (v : FVec Ideal S272x128 .f32) (p : FVec Ideal S256x128 .f32) (h : S272x128.Slices ![0, 0] S256x128)
    (hv : ∀ r : Fin 272, r.val + wd g ≤ 272 → v (ix2 r k) = ∑ i ∈ Finset.range (wd g), after m c t g k (r.val + i))
    (hp : ∀ a, p (ix2 a k) = dpool (args m c) (row t a) g k) (a : Fin 256) :
    subf (extractStridedSlice S256x128 ![0, 0] v h) p (ix2 a k) = dz (args m c) (row t a) g k := by
  have ha := a.isLt
  have hg := wd_le g
  have e : subf (extractStridedSlice S256x128 ![0, 0] v h) p (ix2 a k) = v (ix2 ⟨a.val, by omega⟩ k) - p (ix2 a k) := by
    pointwise []
  rw [e, hp, hv ⟨a.val, by omega⟩ (by show a.val + _ ≤ 272; omega)]
  unfold dz wout
  refine congrArg (· - dpool (args m c) (row t a) g k) (Finset.sum_congr rfl fun i _ => ?_)
  exact congrArg (ext fun r => quot (args m c) r g k) (Nat.add_assoc _ _ _).symm

/-- The carried rows of the four groups, as a point loads them. -/
structure Carried (d0 d1 d2 d3 : FVec Ideal S16x128 .f32) : Prop where
  h0 : ∀ (r : Fin 16) (k : Fin 128), d0 (ix2 r k) = after m c t 0 k (256 + r.val)
  h1 : ∀ (r : Fin 16) (k : Fin 128), d1 (ix2 r k) = after m c t 1 k (256 + r.val)
  h2 : ∀ (r : Fin 16) (k : Fin 128), d2 (ix2 r k) = after m c t 2 k (256 + r.val)
  h3 : ∀ (r : Fin 16) (k : Fin 128), d3 (ix2 r k) = after m c t 3 k (256 + r.val)

variable (d0 d1 d2 d3 : FVec Ideal S16x128 .f32)

abbrev z0 : FVec Ideal S256x128 .f32 := k0_pay40 (F := Ideal) (dmixB m c t) (rowsB t) (dp0 m c t) (wB m c t) d0
abbrev z1 : FVec Ideal S256x128 .f32 := k0_pay45 (F := Ideal) (dpool1 m c t) (k0_pay43 (rowsB t)) d1
abbrev z2 : FVec Ideal S256x128 .f32 := k0_pay51 (F := Ideal) (k0_pay47 (dpB m c t)) (k0_pay49 (rowsB t) (dpB m c t) d2) (k0_pay50 (rowsB t) (dpB m c t) d2)
abbrev z3 : FVec Ideal S256x128 .f32 := k0_pay55 (F := Ideal) (rowsB t) (dpB m c t) d3

variable (D : Carried m c t d0 d1 d2 d3)
include D

theorem z0_ker (a : Fin 256) (k : Fin 128) : z0 m c t d0 (ix2 a k) = dz (args m c) (row t a) 0 k := by
  refine z_at m c t 0 k _ _ _ ?_ (fun a => dpool0_ker m c t a k) a
  refine double_up (n := 272) _ 1 271#32 rfl (by decide) (by decide) _ _ k ?_
  exact baseq_ker m c t 0 k _ _ (fun a => quot0_ker m c t a k) (fun r => D.h0 r k)

theorem z1_ker (a : Fin 256) (k : Fin 128) : z1 m c t d1 (ix2 a k) = dz (args m c) (row t a) 1 k := by
  refine z_at m c t 1 k _ _ _ ?_ (fun a => dpool1_ker m c t a k) a
  refine double_up (n := 272) _ 2 270#32 rfl (by decide) (by decide) _ _ k ?_
  refine double_up (n := 272) _ 1 271#32 rfl (by decide) (by decide) _ _ k ?_
  exact baseq_ker m c t 1 k _ _ (fun a => quot1_ker m c t a k) (fun r => D.h1 r k)

theorem z2_ker (a : Fin 256) (k : Fin 128) : z2 m c t d2 (ix2 a k) = dz (args m c) (row t a) 2 k := by
  refine z_at m c t 2 k _ _ _ ?_ (fun a => dpool2_ker m c t a k) a
  refine double_up (n := 272) _ 4 268#32 rfl (by decide) (by decide) _ rotates_S272x128_d0 k ?_
  refine double_up (n := 272) _ 2 270#32 rfl (by decide) (by decide) _ _ k ?_
  refine double_up (n := 272) _ 1 271#32 rfl (by decide) (by decide) _ _ k ?_
  exact baseq_ker m c t 2 k _ _ (fun a => quot2_ker m c t a k) (fun r => D.h2 r k)

theorem z3_ker (a : Fin 256) (k : Fin 128) : z3 m c t d3 (ix2 a k) = dz (args m c) (row t a) 3 k := by
  refine z_at m c t 3 k _ _ _ ?_ (fun a => dpool3_ker m c t a k) a
  refine double_up (n := 272) _ 8 264#32 rfl (by decide) (by decide) _ _ k ?_
  refine double_up (n := 272) _ 4 268#32 rfl (by decide) (by decide) _ _ k ?_
  refine double_up (n := 272) _ 2 270#32 rfl (by decide) (by decide) _ _ k ?_
  refine double_up (n := 272) _ 1 271#32 rfl (by decide) (by decide) _ _ k ?_
  exact baseq_ker m c t 3 k _ _ (fun a => quot3_ker m c t a k) (fun r => D.h3 r k)

omit D in
theorem col_lo (k : Fin 128) : (col 0 k).val = k.val := by show 0 * 128 + k.val = _; omega

/-- The four groups side by side. -/
abbrev dzB : FVec Ideal S256x512 .bf16 := k0_pay58 (F := Ideal) (z0 m c t d0) (z1 m c t d1) (z2 m c t d2) (z3 m c t d3)

omit D in
theorem cat256 (x0 x1 x2 x3 : FVec Ideal S256x128 .f32) (a : Fin 256) (g : Fin 4) (k : Fin 128) :
    concatenate S256x512 1 [⟨S256x128, x0⟩, ⟨S256x128, x1⟩, ⟨S256x128, x2⟩, ⟨S256x128, x3⟩] concatenates_S256x128_S256x128_S256x128_S256x128_S256x512_d1 (ix2 a (col g k))
      = (![x0, x1, x2, x3] : Fin 4 → FVec Ideal S256x128 .f32) g (ix2 a k) := by
  have hk := k.isLt
  match g with
  | 0 => pointwise []
  | 1 => pointwise []
  | 2 =>
    pointwise []
    refine (dif_neg (by omega)).trans ((dif_neg (by omega)).trans ((dif_pos (by omega)).trans (congrArg x2 ((ix2_inj ..).2 ⟨rfl, Fin.ext ?_⟩))))
    show 256 + k.val - 128 - 128 = k.val; omega
  | 3 =>
    pointwise []
    refine (dif_neg (by omega)).trans ((dif_neg (by omega)).trans ((dif_neg (by omega)).trans (congrArg x3 ((ix2_inj ..).2 ⟨rfl, Fin.ext ?_⟩))))
    show 384 + k.val - 128 - 128 - 128 = k.val; omega

omit D in
theorem cat16 (x0 x1 x2 x3 : FVec Ideal S16x128 .f32) (a : Fin 16) (g : Fin 4) (k : Fin 128) :
    concatenate S16x512 1 [⟨S16x128, x0⟩, ⟨S16x128, x1⟩, ⟨S16x128, x2⟩, ⟨S16x128, x3⟩] concatenates_S16x128_S16x128_S16x128_S16x128_S16x512_d1 (ix2 a (col g k))
      = (![x0, x1, x2, x3] : Fin 4 → FVec Ideal S16x128 .f32) g (ix2 a k) := by
  have hk := k.isLt
  match g with
  | 0 => pointwise []
  | 1 => pointwise []
  | 2 =>
    pointwise []
    refine (dif_neg (by omega)).trans ((dif_neg (by omega)).trans ((dif_pos (by omega)).trans (congrArg x2 ((ix2_inj ..).2 ⟨rfl, Fin.ext ?_⟩))))
    show 256 + k.val - 128 - 128 = k.val; omega
  | 3 =>
    pointwise []
    refine (dif_neg (by omega)).trans ((dif_neg (by omega)).trans ((dif_neg (by omega)).trans (congrArg x3 ((ix2_inj ..).2 ⟨rfl, Fin.ext ?_⟩))))
    show 384 + k.val - 128 - 128 - 128 = k.val; omega

theorem dzB_ker (a : Fin 256) (g : Fin 4) (k : Fin 128) : dzB m c t d0 d1 d2 d3 (ix2 a (col g k)) = dz (args m c) (row t a) g k := by
  refine (cat256 (z0 m c t d0) (z1 m c t d1) (z2 m c t d2) (z3 m c t d3) a g k).trans ?_
  match g with
  | 0 => exact z0_ker m c t d0 d1 d2 d3 D a k
  | 1 => exact z1_ker m c t d0 d1 d2 d3 D a k
  | 2 => exact z2_ker m c t d0 d1 d2 d3 D a k
  | 3 => exact z3_ker m c t d0 d1 d2 d3 D a k

omit D

/-! ## The gradient of the normed row -/

/-- Sixteen products in a row, and the pooled columns' product. -/
theorem chain (y0 y1 y2 y3 : FVec Ideal S256x128 .f32) (L : Fin 16 → FVec Ideal S256x256 .bf16) (W : Fin 16 → FVec Ideal S1024x256 .bf16)
    (wz : FVec Ideal S1024x512 .bf16) (a : Fin 256) (k : Fin 1024) :
    k0_pay60 (F := Ideal) y0 y1 y2 (k0_pay52 (k0_pay46 (k0_pay41 (k0_pay29 (k0_pay27 (k0_pay20 (k0_pay16 (k0_pay10 (L 0) (W 0)) (L 1) (W 1)) (k0_pay18 (L 2)) (W 2) (L 3) (W 3))
        (L 4) (W 4) (L 5) (W 5) (L 6) (W 6)) (k0_pay28 (L 7) (W 7)))
        (L 8) (W 8) (L 9) (W 9)) (L 10) (W 10) (L 11) (W 11)) (L 12) (W 12) (L 13) (W 13))
        y3 (k0_pay56 (L 14)) (k0_pay57 (W 14)) (L 15) (W 15) wz (ix2 a k)
      = ∑ p : Fin 16, ∑ x : Fin 256, L p (ix2 a x) * W p (ix2 k x) + ∑ j : Fin 512, k0_pay58 (F := Ideal) y0 y1 y2 y3 (ix2 a j) * wz (ix2 k j) := by
  pointwise [k0_pay60, k0_pay52, k0_pay46, k0_pay41, k0_pay29, k0_pay27, k0_pay20, k0_pay16, k0_pay10, k0_pay18, k0_pay28, k0_pay56, k0_pay57]
  simp only [Fin.sum_univ_castSucc (n := 15), Fin.sum_univ_castSucc (n := 14), Fin.sum_univ_castSucc (n := 13), Fin.sum_univ_castSucc (n := 12),
    Fin.sum_univ_castSucc (n := 11), Fin.sum_univ_castSucc (n := 10), Fin.sum_univ_castSucc (n := 9), Fin.sum_univ_castSucc (n := 8),
    Fin.sum_univ_castSucc (n := 7), Fin.sum_univ_castSucc (n := 6), Fin.sum_univ_castSucc (n := 5), Fin.sum_univ_castSucc (n := 4),
    Fin.sum_univ_castSucc (n := 3), Fin.sum_univ_castSucc (n := 2), Fin.sum_univ_castSucc (n := 1), Fin.sum_univ_one]
  rfl

/-- The other columns' gradients in pieces of 256 columns, and the weights' columns in the same pieces. -/
def pieces : Fin 16 → FVec Ideal S256x256 .bf16 :=
  ![(View.ld (iblk m c 3 t) (Rect.unit ![0, 0] ![256, 256] inb_S256x1024_S256x256_0_0)),
    (View.ld (iblk m c 3 t) (Rect.unit ![0, 256] ![256, 256] inb_S256x1024_S256x256_0_256)),
    (View.ld (iblk m c 3 t) (Rect.unit ![0, 512] ![256, 256] inb_S256x1024_S256x256_0_512)),
    (View.ld (iblk m c 3 t) (Rect.unit ![0, 768] ![256, 256] inb_S256x1024_S256x256_0_768)),
    (View.ld (iblk m c 4 t) (Rect.unit ![0, 0] ![256, 256] inb_S256x1024_S256x256_0_0)),
    (View.ld (iblk m c 4 t) (Rect.unit ![0, 256] ![256, 256] inb_S256x1024_S256x256_0_256)),
    (View.ld (iblk m c 4 t) (Rect.unit ![0, 512] ![256, 256] inb_S256x1024_S256x256_0_512)),
    (View.ld (iblk m c 4 t) (Rect.unit ![0, 768] ![256, 256] inb_S256x1024_S256x256_0_768)),
    (View.ld (iblk m c 5 t) (Rect.unit ![0, 0] ![256, 256] inb_S256x2048_S256x256_0_0)),
    (View.ld (iblk m c 5 t) (Rect.unit ![0, 256] ![256, 256] inb_S256x2048_S256x256_0_256)),
    (View.ld (iblk m c 5 t) (Rect.unit ![0, 512] ![256, 256] inb_S256x2048_S256x256_0_512)),
    (View.ld (iblk m c 5 t) (Rect.unit ![0, 768] ![256, 256] inb_S256x2048_S256x256_0_768)),
    (View.ld (iblk m c 5 t) (Rect.unit ![0, 1024] ![256, 256] inb_S256x2048_S256x256_0_1024)),
    (View.ld (iblk m c 5 t) (Rect.unit ![0, 1280] ![256, 256] inb_S256x2048_S256x256_0_1280)),
    (View.ld (iblk m c 5 t) (Rect.unit ![0, 1536] ![256, 256] inb_S256x2048_S256x256_0_1536)),
    (View.ld (iblk m c 5 t) (Rect.unit ![0, 1792] ![256, 256] inb_S256x2048_S256x256_0_1792))]

def panels : Fin 16 → FVec Ideal S1024x256 .bf16 :=
  ![(View.ld (iblk m c 9 t) (Rect.unit ![0, 512] ![1024, 256] inb_S1024x4608_S1024x256_0_512)),
    (View.ld (iblk m c 9 t) (Rect.unit ![0, 768] ![1024, 256] inb_S1024x4608_S1024x256_0_768)),
    (View.ld (iblk m c 9 t) (Rect.unit ![0, 1024] ![1024, 256] inb_S1024x4608_S1024x256_0_1024)),
    (View.ld (iblk m c 9 t) (Rect.unit ![0, 1280] ![1024, 256] inb_S1024x4608_S1024x256_0_1280)),
    (View.ld (iblk m c 9 t) (Rect.unit ![0, 1536] ![1024, 256] inb_S1024x4608_S1024x256_0_1536)),
    (View.ld (iblk m c 9 t) (Rect.unit ![0, 1792] ![1024, 256] inb_S1024x4608_S1024x256_0_1792)),
    (View.ld (iblk m c 9 t) (Rect.unit ![0, 2048] ![1024, 256] inb_S1024x4608_S1024x256_0_2048)),
    (View.ld (iblk m c 9 t) (Rect.unit ![0, 2304] ![1024, 256] inb_S1024x4608_S1024x256_0_2304)),
    (View.ld (iblk m c 9 t) (Rect.unit ![0, 2560] ![1024, 256] inb_S1024x4608_S1024x256_0_2560)),
    (View.ld (iblk m c 9 t) (Rect.unit ![0, 2816] ![1024, 256] inb_S1024x4608_S1024x256_0_2816)),
    (View.ld (iblk m c 9 t) (Rect.unit ![0, 3072] ![1024, 256] inb_S1024x4608_S1024x256_0_3072)),
    (View.ld (iblk m c 9 t) (Rect.unit ![0, 3328] ![1024, 256] inb_S1024x4608_S1024x256_0_3328)),
    (View.ld (iblk m c 9 t) (Rect.unit ![0, 3584] ![1024, 256] inb_S1024x4608_S1024x256_0_3584)),
    (View.ld (iblk m c 9 t) (Rect.unit ![0, 3840] ![1024, 256] inb_S1024x4608_S1024x256_0_3840)),
    (View.ld (iblk m c 9 t) (Rect.unit ![0, 4096] ![1024, 256] inb_S1024x4608_S1024x256_0_4096)),
    (View.ld (iblk m c 9 t) (Rect.unit ![0, 4352] ![1024, 256] inb_S1024x4608_S1024x256_0_4352))]

theorem piece_3 (p : ℕ) (hp : p < 4) (o : ℕ) (ho : o = p * 256) (inb) (a : Fin 256) (x : Fin 256) :
    View.ld (iblk m c 3 t) (Rect.unit (s := S256x1024) ![0, o] ![256, 256] inb) (ix2 a x) = rest (args m c) (row t a) ⟨p * 256 + x.val, by omega⟩ := by
  subst ho
  refine (Cert.Rows.ld_rect (iblk m c 3 t) 0 (p * 256) inb a x a ⟨p * 256 + x.val, by omega⟩ (by omega) rfl).trans ((read_3 m c t a _).trans ?_)
  unfold rest
  split
  · rfl
  · next h => exact absurd (show p * 256 + x.val < 1024 by omega) h

theorem piece_4 (p : ℕ) (hp : p < 4) (o : ℕ) (ho : o = p * 256) (inb) (a : Fin 256) (x : Fin 256) :
    View.ld (iblk m c 4 t) (Rect.unit (s := S256x1024) ![0, o] ![256, 256] inb) (ix2 a x) = rest (args m c) (row t a) ⟨(4 + p) * 256 + x.val, by omega⟩ := by
  subst ho
  refine (Cert.Rows.ld_rect (iblk m c 4 t) 0 (p * 256) inb a x a ⟨p * 256 + x.val, by omega⟩ (by omega) rfl).trans ((read_4 m c t a _).trans ?_)
  refine Eq.trans (congrArg (args m c).x2 ((ix2_inj ..).2 ⟨rfl, Fin.ext ?_⟩))
    ((dif_neg (show ¬ (4 + p) * 256 + x.val < 1024 by omega)).trans (dif_pos (show (4 + p) * 256 + x.val < 2048 by omega))).symm
  show p * 256 + x.val = (4 + p) * 256 + x.val - 1024; omega

theorem piece_5 (p : ℕ) (hp : p < 8) (o : ℕ) (ho : o = p * 256) (inb) (a : Fin 256) (x : Fin 256) :
    View.ld (iblk m c 5 t) (Rect.unit (s := S256x2048) ![0, o] ![256, 256] inb) (ix2 a x) = rest (args m c) (row t a) ⟨(8 + p) * 256 + x.val, by omega⟩ := by
  subst ho
  refine (Cert.Rows.ld_rect (iblk m c 5 t) 0 (p * 256) inb a x a ⟨p * 256 + x.val, by omega⟩ (by omega) rfl).trans ((read_5 m c t a _).trans ?_)
  refine Eq.trans (congrArg (args m c).x3 ((ix2_inj ..).2 ⟨rfl, Fin.ext ?_⟩))
    ((dif_neg (show ¬ (8 + p) * 256 + x.val < 1024 by omega)).trans (dif_neg (show ¬ (8 + p) * 256 + x.val < 2048 by omega))).symm
  show p * 256 + x.val = (8 + p) * 256 + x.val - 2048; omega

theorem panel (p : ℕ) (hp : p < 16) (o : ℕ) (ho : o = 512 + p * 256) (inb) (k : Fin 1024) (x : Fin 256) :
    View.ld (iblk m c 9 t) (Rect.unit (s := S1024x4608) ![0, o] ![1024, 256] inb) (ix2 k x) = (args m c).x7 (ix3 0 k (later ⟨p * 256 + x.val, by omega⟩)) := by
  subst ho
  refine (Cert.Rows.ld_rect (iblk m c 9 t) 0 (512 + p * 256) inb k x k ⟨512 + p * 256 + x.val, by omega⟩ (by omega) rfl).trans ((read_9 m c t k _).trans ?_)
  refine congrArg (args m c).x7 ((ix3_inj ..).2 ⟨rfl, rfl, Fin.ext ?_⟩)
  show 512 + p * 256 + x.val = 512 + (p * 256 + x.val); omega

set_option maxHeartbeats 2000000 in
theorem pieces_ker (p : Fin 16) (a : Fin 256) (x : Fin 256) : pieces m c t p (ix2 a x) = rest (args m c) (row t a) ⟨p.val * 256 + x.val, by omega⟩ := by
  obtain ⟨p, hp⟩ := p
  match p, hp with
  | 0, _ => exact piece_3 m c t 0 (by decide) 0 rfl _ a x
  | 1, _ => exact piece_3 m c t 1 (by decide) 256 rfl _ a x
  | 2, _ => exact piece_3 m c t 2 (by decide) 512 rfl _ a x
  | 3, _ => exact piece_3 m c t 3 (by decide) 768 rfl _ a x
  | 4, _ => exact piece_4 m c t 0 (by decide) 0 rfl _ a x
  | 5, _ => exact piece_4 m c t 1 (by decide) 256 rfl _ a x
  | 6, _ => exact piece_4 m c t 2 (by decide) 512 rfl _ a x
  | 7, _ => exact piece_4 m c t 3 (by decide) 768 rfl _ a x
  | 8, _ => exact piece_5 m c t 0 (by decide) 0 rfl _ a x
  | 9, _ => exact piece_5 m c t 1 (by decide) 256 rfl _ a x
  | 10, _ => exact piece_5 m c t 2 (by decide) 512 rfl _ a x
  | 11, _ => exact piece_5 m c t 3 (by decide) 768 rfl _ a x
  | 12, _ => exact piece_5 m c t 4 (by decide) 1024 rfl _ a x
  | 13, _ => exact piece_5 m c t 5 (by decide) 1280 rfl _ a x
  | 14, _ => exact piece_5 m c t 6 (by decide) 1536 rfl _ a x
  | 15, _ => exact piece_5 m c t 7 (by decide) 1792 rfl _ a x
  | n + 16, h => exact absurd h (by omega)

set_option maxHeartbeats 2000000 in
theorem panels_ker (p : Fin 16) (k : Fin 1024) (x : Fin 256) : panels m c t p (ix2 k x) = (args m c).x7 (ix3 0 k (later ⟨p.val * 256 + x.val, by omega⟩)) := by
  obtain ⟨p, hp⟩ := p
  match p, hp with
  | 0, _ => exact panel m c t 0 (by decide) 512 rfl _ k x
  | 1, _ => exact panel m c t 1 (by decide) 768 rfl _ k x
  | 2, _ => exact panel m c t 2 (by decide) 1024 rfl _ k x
  | 3, _ => exact panel m c t 3 (by decide) 1280 rfl _ k x
  | 4, _ => exact panel m c t 4 (by decide) 1536 rfl _ k x
  | 5, _ => exact panel m c t 5 (by decide) 1792 rfl _ k x
  | 6, _ => exact panel m c t 6 (by decide) 2048 rfl _ k x
  | 7, _ => exact panel m c t 7 (by decide) 2304 rfl _ k x
  | 8, _ => exact panel m c t 8 (by decide) 2560 rfl _ k x
  | 9, _ => exact panel m c t 9 (by decide) 2816 rfl _ k x
  | 10, _ => exact panel m c t 10 (by decide) 3072 rfl _ k x
  | 11, _ => exact panel m c t 11 (by decide) 3328 rfl _ k x
  | 12, _ => exact panel m c t 12 (by decide) 3584 rfl _ k x
  | 13, _ => exact panel m c t 13 (by decide) 3840 rfl _ k x
  | 14, _ => exact panel m c t 14 (by decide) 4096 rfl _ k x
  | 15, _ => exact panel m c t 15 (by decide) 4352 rfl _ k x
  | n + 16, h => exact absurd h (by omega)

/-- The weights' pooled columns. -/
abbrev wz : FVec Ideal S1024x512 .bf16 := View.ld (iblk m c 9 t) (Rect.unit ![0, 0] ![1024, 512] inb_S1024x4608_S1024x512_0_0)

theorem wz_ker (k : Fin 1024) (j : Fin 512) : wz m c t (ix2 k j) = (args m c).x7 (ix3 0 k (first j)) := by
  refine Eq.trans ?_ (read_9 m c t k (first j))
  exact Cert.Rows.ld_rect _ _ _ _ _ _ _ _ (by simp) (by simp)

abbrev duB : FVec Ideal S256x1024 .f32 :=
  k0_pay60 (F := Ideal) (z0 m c t d0) (z1 m c t d1) (z2 m c t d2) (k0_pay52 (k0_pay46 (k0_pay41 (k0_pay29 (k0_pay27 (k0_pay20 (k0_pay16 (k0_pay10 (View.ld (iblk m c 3 t) (Rect.unit ![0, 0] ![256, 256] inb_S256x1024_S256x256_0_0)) (View.ld (iblk m c 9 t) (Rect.unit ![0, 512] ![1024, 256] inb_S1024x4608_S1024x256_0_512))) (View.ld (iblk m c 3 t) (Rect.unit ![0, 256] ![256, 256] inb_S256x1024_S256x256_0_256)) (View.ld (iblk m c 9 t) (Rect.unit ![0, 768] ![1024, 256] inb_S1024x4608_S1024x256_0_768))) (k0_pay18 (View.ld (iblk m c 3 t) (Rect.unit ![0, 512] ![256, 256] inb_S256x1024_S256x256_0_512))) (View.ld (iblk m c 9 t) (Rect.unit ![0, 1024] ![1024, 256] inb_S1024x4608_S1024x256_0_1024)) (View.ld (iblk m c 3 t) (Rect.unit ![0, 768] ![256, 256] inb_S256x1024_S256x256_0_768)) (View.ld (iblk m c 9 t) (Rect.unit ![0, 1280] ![1024, 256] inb_S1024x4608_S1024x256_0_1280)))
        (View.ld (iblk m c 4 t) (Rect.unit ![0, 0] ![256, 256] inb_S256x1024_S256x256_0_0)) (View.ld (iblk m c 9 t) (Rect.unit ![0, 1536] ![1024, 256] inb_S1024x4608_S1024x256_0_1536)) (View.ld (iblk m c 4 t) (Rect.unit ![0, 256] ![256, 256] inb_S256x1024_S256x256_0_256)) (View.ld (iblk m c 9 t) (Rect.unit ![0, 1792] ![1024, 256] inb_S1024x4608_S1024x256_0_1792)) (View.ld (iblk m c 4 t) (Rect.unit ![0, 512] ![256, 256] inb_S256x1024_S256x256_0_512)) (View.ld (iblk m c 9 t) (Rect.unit ![0, 2048] ![1024, 256] inb_S1024x4608_S1024x256_0_2048))) (k0_pay28 (View.ld (iblk m c 4 t) (Rect.unit ![0, 768] ![256, 256] inb_S256x1024_S256x256_0_768)) (View.ld (iblk m c 9 t) (Rect.unit ![0, 2304] ![1024, 256] inb_S1024x4608_S1024x256_0_2304))))
        (View.ld (iblk m c 5 t) (Rect.unit ![0, 0] ![256, 256] inb_S256x2048_S256x256_0_0)) (View.ld (iblk m c 9 t) (Rect.unit ![0, 2560] ![1024, 256] inb_S1024x4608_S1024x256_0_2560)) (View.ld (iblk m c 5 t) (Rect.unit ![0, 256] ![256, 256] inb_S256x2048_S256x256_0_256)) (View.ld (iblk m c 9 t) (Rect.unit ![0, 2816] ![1024, 256] inb_S1024x4608_S1024x256_0_2816))) (View.ld (iblk m c 5 t) (Rect.unit ![0, 512] ![256, 256] inb_S256x2048_S256x256_0_512)) (View.ld (iblk m c 9 t) (Rect.unit ![0, 3072] ![1024, 256] inb_S1024x4608_S1024x256_0_3072)) (View.ld (iblk m c 5 t) (Rect.unit ![0, 768] ![256, 256] inb_S256x2048_S256x256_0_768)) (View.ld (iblk m c 9 t) (Rect.unit ![0, 3328] ![1024, 256] inb_S1024x4608_S1024x256_0_3328))) (View.ld (iblk m c 5 t) (Rect.unit ![0, 1024] ![256, 256] inb_S256x2048_S256x256_0_1024)) (View.ld (iblk m c 9 t) (Rect.unit ![0, 3584] ![1024, 256] inb_S1024x4608_S1024x256_0_3584)) (View.ld (iblk m c 5 t) (Rect.unit ![0, 1280] ![256, 256] inb_S256x2048_S256x256_0_1280)) (View.ld (iblk m c 9 t) (Rect.unit ![0, 3840] ![1024, 256] inb_S1024x4608_S1024x256_0_3840)))
    (z3 m c t d3) (k0_pay56 (View.ld (iblk m c 5 t) (Rect.unit ![0, 1536] ![256, 256] inb_S256x2048_S256x256_0_1536))) (k0_pay57 (View.ld (iblk m c 9 t) (Rect.unit ![0, 4096] ![1024, 256] inb_S1024x4608_S1024x256_0_4096))) (View.ld (iblk m c 5 t) (Rect.unit ![0, 1792] ![256, 256] inb_S256x2048_S256x256_0_1792)) (View.ld (iblk m c 9 t) (Rect.unit ![0, 4352] ![1024, 256] inb_S1024x4608_S1024x256_0_4352)) (wz m c t)

include D

set_option maxHeartbeats 2000000 in
theorem du_ker (a : Fin 256) (k : Fin 1024) : duB m c t d0 d1 d2 d3 (ix2 a k) = dv (args m c) (row t a) k := by
  refine (chain (z0 m c t d0) (z1 m c t d1) (z2 m c t d2) (z3 m c t d3) (pieces m c t) (panels m c t) (wz m c t) a k).trans ?_
  unfold dv
  refine congrArg₂ (· + ·) ?_ ?_
  · refine Eq.trans ?_ (Fin.sum_univ_tiles 16 256 rfl _).symm
    refine Finset.sum_congr rfl fun p _ => Finset.sum_congr rfl fun x _ => ?_
    exact congrArg₂ (· * ·) (pieces_ker m c t p a x) (panels_ker m c t p k x)
  · refine (Fin.sum_univ_tiles 4 128 rfl _).trans ?_
    refine Finset.sum_congr rfl fun g _ => Finset.sum_congr rfl fun x _ => ?_
    exact congrArg₂ (· * ·) (dzB_ker m c t d0 d1 d2 d3 D a g x) (wz_ker m c t k (col g x))

omit D in
theorem inv_ker (a : Fin 256) : k0_pay61 (F := Ideal) (iblk m c 6 t) (ix2 a 0) = inv (args m c) (row t a) := by
  pointwise [k0_pay61]
  simp only [read_6]
  rfl

omit D in
theorem norm_ker (a : Fin 256) (k : Fin 1024) : k0_pay62 (F := Ideal) (iblk m c 6 t) (ix2 a k) = (args m c).x4 (ix2 (row t a) k) * inv (args m c) (row t a) := by
  pointwise [k0_pay62]
  simp only [read_6, inv_ker]

theorem dx_ker (a : Fin 256) (k : Fin 1024) :
    k0_pay2 (F := Ideal) (duB m c t d0 d1 d2 d3) (k0_pay61 (iblk m c 6 t)) (k0_pay62 (iblk m c 6 t)) (iblk m c 7 t) (iblk m c 8 t) (ix2 a k)
      = dx (args m c) (row t a) k := by
  pointwise [k0_pay2]
  simp only [du_ker m c t d0 d1 d2 d3 D, read_7, read_8, norm_ker, inv_ker]
  rfl

theorem rowg_ker (a : Fin 256) (k : Fin 1024) :
    mulf (duB m c t d0 d1 d2 d3) (k0_pay62 (F := Ideal) (iblk m c 6 t)) (ix2 a k)
      = dv (args m c) (row t a) k * ((args m c).x4 (ix2 (row t a) k) * inv (args m c) (row t a)) :=
  congrArg₂ (· * ·) (du_ker m c t d0 d1 d2 d3 D a k) (norm_ker m c t a k)

end Cert.PoolIdeal.Value

end
-- ==== Proof.PoolValue.lean ====
/- The pooled mixer's backward call: what each result array holds after the run. -/
module

public import proofs.«01_k».proof.Proof.PoolDu
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Idealize.ShloMosaic.Pipeline (Dat)
open Cert.PoolBody
open scoped BigOperators

namespace Cert.PoolIdeal.Value

open Cert.PoolIdeal Cert.PoolIdeal.Gen Cert.PoolMath Cert.Windows

variable (m : (ℓ : Loc nD τ sig) → Buf (Elt Ideal) ℓ) (c : Dev nD) (t : Fin cfg0.N)

theorem poolB_ker (a : Fin 256) (g : Fin 4) (k : Fin 128) : poolB m c t (ix2 a (col g k)) = pooled (args m c) (row t a) g k := by
  refine (cat256 (mean0 m c t) (mean1 m c t) (mean2 m c t) (mean3 m c t) a g k).trans ?_
  match g with
  | 0 => exact mean0_ker m c t a k
  | 1 => exact mean1_ker m c t a k
  | 2 => exact mean2_ker m c t a k
  | 3 => exact mean3_ker m c t a k

/-! ## The carried rows -/

/-- What a point carries to the next. -/
abbrev aheadB : FVec Ideal S16x512 .f32 := k0_pay59 (F := Ideal) (quot0 m c t) (quot1 m c t) (quot2 m c t) (quot3 m c t)

theorem ahead_ker (r : Fin 16) (g : Fin 4) (k : Fin 128) : aheadB m c t (ix2 r (col g k)) = after m c t g k r.val := by
  have hr := r.isLt
  have e0 : aheadB m c t = concatenate S16x512 1 [⟨S16x128, extractStridedSlice S16x128 ![0, 0] (quot0 m c t) slices_S256x128_o0_0_S16x128⟩,
      ⟨S16x128, extractStridedSlice S16x128 ![0, 0] (quot1 m c t) slices_S256x128_o0_0_S16x128⟩,
      ⟨S16x128, extractStridedSlice S16x128 ![0, 0] (quot2 m c t) slices_S256x128_o0_0_S16x128⟩,
      ⟨S16x128, extractStridedSlice S16x128 ![0, 0] (quot3 m c t) slices_S256x128_o0_0_S16x128⟩] concatenates_S16x128_S16x128_S16x128_S16x128_S16x512_d1 := by
    unfold aheadB k0_pay59
    exact shapeCast_self _ _
  rw [e0]
  refine (cat16 _ _ _ _ r g k).trans ?_
  have e : ∀ x : FVec Ideal S256x128 .f32, extractStridedSlice S16x128 ![0, 0] x slices_S256x128_o0_0_S16x128 (ix2 r k) = x (ix2 ⟨r.val, by omega⟩ k) := by
    intro x
    pointwise []
  have e' : ∀ g, quot (args m c) (row t ⟨r.val, by omega⟩) g k = after m c t g k r.val := fun g =>
    (ext_of_lt (fun r => quot (args m c) r g k) (row t ⟨r.val, by omega⟩)).symm
  match g with
  | 0 => exact (e _).trans ((quot0_ker m c t _ k).trans (e' 0))
  | 1 => exact (e _).trans ((quot1_ker m c t _ k).trans (e' 1))
  | 2 => exact (e _).trans ((quot2_ker m c t _ k).trans (e' 2))
  | 3 => exact (e _).trans ((quot3_ker m c t _ k).trans (e' 3))

theorem left_ahead : (left m c t.val t.isLt).2.2.2.2.2 = aheadB m c t := by
  by_cases h : t.val % 64 = 0
  · rw [left_A m c t h]; unfold outA; dsimp only; frame_out; rfl
  · rw [left_B m c t h]; unfold outB; dsimp only; frame_out; rfl

/-- Four groups' columns of sixteen rows. -/
abbrev part0 (x : FVec Ideal S16x512 .f32) : FVec Ideal S16x128 .f32 := View.ld (Val := Elt Ideal) (e' := .f32) x (Rect.unit (s := S16x512) ![0, 0] ![16, 128] inb_S16x512_S16x128_0_0)
abbrev part1 (x : FVec Ideal S16x512 .f32) : FVec Ideal S16x128 .f32 := View.ld (Val := Elt Ideal) (e' := .f32) x (Rect.unit (s := S16x512) ![0, 128] ![16, 128] inb_S16x512_S16x128_0_128)
abbrev part2 (x : FVec Ideal S16x512 .f32) : FVec Ideal S16x128 .f32 := View.ld (Val := Elt Ideal) (e' := .f32) x (Rect.unit (s := S16x512) ![0, 256] ![16, 128] inb_S16x512_S16x128_0_256)
abbrev part3 (x : FVec Ideal S16x512 .f32) : FVec Ideal S16x128 .f32 := View.ld (Val := Elt Ideal) (e' := .f32) x (Rect.unit (s := S16x512) ![0, 384] ![16, 128] inb_S16x512_S16x128_0_384)

theorem carried_of (x : FVec Ideal S16x512 .f32) (hx : ∀ r g k, x (ix2 r (col g k)) = after m c t g k (256 + r.val)) :
    Carried m c t (part0 x) (part1 x) (part2 x) (part3 x) where
  h0 r k := (Cert.Rows.ld_rect (Val := Elt Ideal) (e := .f32) x 0 0 _ r k r (col 0 k) (by omega) (by show 0 * 128 + k.val = _; omega)).trans (hx r 0 k)
  h1 r k := (Cert.Rows.ld_rect (Val := Elt Ideal) (e := .f32) x 0 128 _ r k r (col 1 k) (by omega) (by show 1 * 128 + k.val = _; omega)).trans (hx r 1 k)
  h2 r k := (Cert.Rows.ld_rect (Val := Elt Ideal) (e := .f32) x 0 256 _ r k r (col 2 k) (by omega) (by show 2 * 128 + k.val = _; omega)).trans (hx r 2 k)
  h3 r k := (Cert.Rows.ld_rect (Val := Elt Ideal) (e := .f32) x 0 384 _ r k r (col 3 k) (by omega) (by show 3 * 128 + k.val = _; omega)).trans (hx r 3 k)

theorem zero_tail (h : t.val % 64 = 0) (r : Fin 16) (g : Fin 4) (k : Fin 128) : k0_pay6 (F := Ideal) (ix2 r (col g k)) = after m c t g k (256 + r.val) := by
  have ht : t.val < 64 := t.isLt
  refine Eq.trans (b := (0 : EReal)) ?_ (ext_of_le _ (by omega)).symm
  pointwise [k0_pay6]

theorem prior_tail (h : ¬ t.val % 64 = 0) (r : Fin 16) (g : Fin 4) (k : Fin 128) :
    (prior m c t).2.2.2.2.2 (ix2 r (col g k)) = after m c t g k (256 + r.val) := by
  have ht : t.val < 64 := t.isLt
  have e := left_ahead m c ⟨t.val - 1, Nat.lt_of_le_of_lt (Nat.sub_le _ _) t.isLt⟩
  refine (congrFun e _).trans ((ahead_ker m c _ r g k).trans ?_)
  refine congrArg (ext fun r => quot (args m c) r g k) ?_
  show (63 - (t.val - 1)) * 256 + r.val = (63 - t.val) * 256 + (256 + r.val)
  omega

/-- The block of the input's gradient. -/
abbrev dxB (x : FVec Ideal S16x512 .f32) : FVec Ideal S256x1024 .f32 :=
  k0_pay2 (F := Ideal) (duB m c t (part0 x) (part1 x) (part2 x) (part3 x)) (k0_pay61 (iblk m c 6 t)) (k0_pay62 (iblk m c 6 t)) (iblk m c 7 t) (iblk m c 8 t)

/-- The carried rows as the first point finds them. -/
theorem ld_zero (r : Rect S16x512) :
    (View.whole cc0_scratch0).readCov (Val := Elt Ideal) [⟨Rect.unit ![0, 0] ![16, 512] inb_S16x512_S16x512_0_0, k0_pay6 (F := Ideal)⟩] r.toLoadRect
      = View.ld (Val := Elt Ideal) (e' := .f32) (k0_pay6 (F := Ideal)) r := by
  refine (View.readCov_eq_canon' _ _ _).trans (funext fun j => ?_)
  exact congrFun (View.canon_cons_unit_lit (Val := Elt Ideal) (e := .f32) (S := S16x512) (off := ![0, 0]) inb_S16x512_S16x512_0_0 (k0_pay6 (F := Ideal)) [] (by decide)) (r.toLoadRect.idx j)

/-- The two blocks a point stores once, from the carried rows it found. -/
theorem left_once : ∃ x : FVec Ideal S16x512 .f32, (∀ r g k, x (ix2 r (col g k)) = after m c t g k (256 + r.val))
    ∧ (left m c t.val t.isLt).1 = dzB m c t (part0 x) (part1 x) (part2 x) (part3 x)
    ∧ (left m c t.val t.isLt).2.1 = dxB m c t x := by
  by_cases h : t.val % 64 = 0
  · refine ⟨k0_pay6 (F := Ideal), zero_tail m c t h, ?_, ?_⟩
    · rw [left_A m c t h]; unfold outA; dsimp only; frame_out
      rw [ld_zero, ld_zero, ld_zero, ld_zero]
      rfl
    · rw [left_A m c t h]; unfold outA; dsimp only; frame_out
      rw [ld_zero, ld_zero, ld_zero, ld_zero]
      rfl
  · refine ⟨(prior m c t).2.2.2.2.2, prior_tail m c t h, ?_, ?_⟩
    · rw [left_B m c t h]; unfold outB; dsimp only; frame_out
      rw [read_unread_whole]
      rfl
    · rw [left_B m c t h]; unfold outB; dsimp only; frame_out
      rw [read_unread_whole]
      rfl

/-- The arguments are finite. -/
abbrev Real : Prop := Finite (args m c)

theorem final_13 (H : Real m c) : (dats m 0 c).arrAt 13 (cfgs 0).N = Cert.PoolRefIdeal.Read.val_main_v190 (F := Ideal) (args m c).x0 (args m c).x8 (args m c).x9 (args m c).x10 := by
  refine (dats m 0 c).arrAt_eq_of_covers 13 _ (by decide +kernel) fun t hf y => ?_
  blk_simp; rw [after_13]
  obtain ⟨a, j, rfl⟩ : ∃ (a : Fin 256) (j : Fin 512), y = ix2 a j := ⟨y (0 : Fin 2), y (1 : Fin 2), eq_ix2 y⟩
  obtain ⟨g, k, rfl⟩ := col_surj j
  obtain ⟨x, hx, h13, -⟩ := left_once m c t
  have e : ((cfg0.win 13).blk t).view.emb (ix2 a (col g k)) = ix2 (row t a) (col g k) := by blk_ext [idx_val t]
  rw [h13]
  refine (dzB_ker m c t _ _ _ _ (carried_of m c t x hx) a g k).trans (((congrArg _ e).trans ?_).symm)
  refine Eq.trans ?_ (dz_ref (args m c) H.quot (row t a) g k)
  pointwise [Cert.PoolRefIdeal.Read.val_main_v190]

theorem final_14 (H : Real m c) : (dats m 0 c).arrAt 14 (cfgs 0).N = Cert.PoolRefIdeal.Read.val_main_v185 (F := Ideal) (args m c).x0 (args m c).x1 (args m c).x2 (args m c).x3 (args m c).x4 (args m c).x5 (args m c).x6 (args m c).x7 (args m c).x8 (args m c).x9 (args m c).x10 := by
  refine (dats m 0 c).arrAt_eq_of_covers 14 _ (by decide +kernel) fun t hf y => ?_
  blk_simp; rw [after_14]
  obtain ⟨a, k, rfl⟩ : ∃ (a : Fin 256) (k : Fin 1024), y = ix2 a k := ⟨y (0 : Fin 2), y (1 : Fin 2), eq_ix2 y⟩
  obtain ⟨x, hx, -, h14⟩ := left_once m c t
  have e : ((cfg0.win 14).blk t).view.emb (ix2 a k) = ix2 (row t a) k := by blk_ext [idx_val t]
  rw [h14]
  exact (dx_ker m c t _ _ _ _ (carried_of m c t x hx) a k).trans (((congrArg _ e).trans (dx_ref (args m c) H H.quot H.dq (row t a) k)).symm)

/-! ## The sums over rows -/

/-- The blocks' rows, all of them. -/
theorem sum_rows (f : Fin 16384 → EReal) (t : Fin cfg0.N) (h : ∀ s : Fin 64, 64 * (t.val / 64) + s.val < cfg0.N) :
    ∑ s : Fin 64, ∑ a : Fin 256, f (row ⟨64 * (t.val / 64) + s.val, h s⟩ a) = ∑ r, f r := by
  have ht : t.val / 64 = 0 := by have : t.val < 64 := t.isLt; omega
  refine Eq.trans ?_ (Fin.sum_univ_tiles 64 256 rfl f).symm
  refine Eq.trans ?_ (Equiv.sum_comp Fin.revPerm (fun j : Fin 64 => ∑ a : Fin 256, f ⟨j.val * 256 + a.val, by have := j.isLt; have := a.isLt; omega⟩))
  refine Finset.sum_congr rfl fun s _ => Finset.sum_congr rfl fun a _ => congrArg f (Fin.ext ?_)
  show (63 - (64 * (t.val / 64) + s.val)) * 256 + a.val = (Fin.rev s).val * 256 + a.val
  rw [Fin.val_rev]
  omega

/-- What one block of rows adds to the output projection's gradient. -/
def added_15 (y : S512x1024.Idx) : EReal :=
  ∑ a : Fin 256, mixB m c t (ix2 a (y (0 : Fin 2))) * (args m c).x9 (ix2 0 (y (0 : Fin 2))) * (args m c).x0 (ix2 (row t a) (y (1 : Fin 2)))

theorem step_15 (x : FVec Ideal S512x1024 .f32) (y : S512x1024.Idx) :
    k0_pay25 (F := Ideal) (mixB m c t) (k0_pay23 (iblk m c 0 t)) (k0_pay24 x) (iblk m c 11 t) y = x y + added_15 m c t y := by
  obtain ⟨j, n, rfl⟩ : ∃ (j : Fin 512) (n : Fin 1024), y = ix2 j n := ⟨y (0 : Fin 2), y (1 : Fin 2), eq_ix2 y⟩
  pointwise [k0_pay25, k0_pay23, k0_pay24]
  simp only [read_0, read_11]
  rfl

theorem run_15 (hf : (cfg0.win 15).flush t = true) (y : S512x1024.Idx) :
    (left m c t.val t.isLt).2.2.1 y = ∑ s : Fin 64, added_15 m c ⟨64 * (t.val / 64) + s.val, Pipeline.run_point_lt_of_flush t ((flush0_15 t).mp hf) s⟩ y := by
  have hz (y : S512x1024.Idx) : k0_pay3 (F := Ideal) y = (0 : EReal) := by pointwise [k0_pay3]
  rw [Pipeline.eq_sum_fin_of_reset_step_apply_of_flush (fun n h => (left m c n h).2.2.1) 64 (fun _ => 0)
    (fun t j => added_15 m c t j)
    (fun t h j => by
      rw [left_A m c t h]; unfold outA; dsimp only; frame_out
      refine (step_15 m c t _ j).trans ?_
      exact congrArg (· + added_15 m c t j) (hz j))
    (fun t h j => by
      rw [left_B m c t h]; unfold outB; dsimp only; frame_out
      exact step_15 m c t _ j)
    t ((flush0_15 t).mp hf) _, zero_add]

theorem final_15 (H : Real m c) : (dats m 0 c).arrAt 15 (cfgs 0).N = Cert.PoolRefIdeal.Read.val_main_v191 (F := Ideal) (args m c).x0 (args m c).x4 (args m c).x6 (args m c).x7 (args m c).x8 (args m c).x9 := by
  refine (dats m 0 c).arrAt_eq_of_covers 15 _ (by decide +kernel) fun t hf y => ?_
  blk_simp; rw [after_15]
  obtain ⟨j, n, rfl⟩ : ∃ (j : Fin 512) (n : Fin 1024), y = ix2 j n := ⟨y (0 : Fin 2), y (1 : Fin 2), eq_ix2 y⟩
  obtain ⟨g, k, rfl⟩ := col_surj j
  have e : ((cfg0.win 15).blk t).view.emb (ix2 (col g k) n) = ix2 (col g k) n := by blk_ext [idx_val t]
  refine (run_15 m c t hf _).trans (((congrArg _ e).trans (dpp_ref (args m c) H.zp g k n)).trans ?_).symm
  unfold dpp
  rw [← sum_rows _ t fun s => Pipeline.run_point_lt_of_flush t ((flush0_15 t).mp hf) s]
  refine Finset.sum_congr rfl fun s _ => Finset.sum_congr rfl fun a _ => ?_
  exact congrArg (· * _ * _) (mixB_ker m c _ a g k).symm

/-! ### The mixing weights' gradient -/

/-- Column `i` of the pair `p`. -/
def at16 (p : Fin 2) (i : Fin 256) : Fin 512 := ⟨p.val * 256 + i.val, by have := p.isLt; have := i.isLt; omega⟩

/-- What one block of rows adds to a pair's products. -/
def added_16 (p : Fin 2) (i j : Fin 256) : EReal :=
  ∑ a : Fin 256, poolB m c t (ix2 a (at16 p i)) * dmixB m c t (ix2 a (at16 p j))

theorem slab_0 (o : FVec Ideal S1x256x256 .f32) (i j : Fin 256) :
    k0_pay33 (F := Ideal) (poolB m c t) (dmsB m c t) (iblk m c 11 t) o (ix3 0 i j) = o (ix3 0 i j) + added_16 m c t 0 i j := by
  pointwise [k0_pay33]
  refine congrArg (o _ + ·) (Finset.sum_congr rfl fun a _ => ?_)
  have e (i : Fin 256) : at16 0 i = ⟨i.val, by have := i.isLt; omega⟩ := Fin.ext (Nat.zero_add _)
  rw [e, e]

theorem slab_1 (o : FVec Ideal S1x256x256 .f32) (i j : Fin 256) :
    k0_pay36 (F := Ideal) (k0_pay35 (poolB m c t) (dmsB m c t) (iblk m c 11 t) o) (ix3 0 i j) = o (ix3 0 i j) + added_16 m c t 1 i j := by
  pointwise [k0_pay36, k0_pay35]
  rfl

/-- Two slabs stored over any earlier stores. -/
theorem read_slabs (v : View sig .tc .vmem S2x256x256 .f32) (f : v.ty.Contents (Elt Ideal)) (w0 w1 : FVec Ideal S1x256x256 .f32) (L : List (View.Piece (Elt Ideal) S2x256x256 .f32))
    (p : Fin 2) (i j : Fin 256) :
    v.read (Elt Ideal) (v.writes (Elt Ideal) f (⟨Rect.unit ![1, 0, 0] ![1, 256, 256] inb_S2x256x256_S1x256x256_1_0_0, w1⟩
        :: ⟨Rect.unit ![0, 0, 0] ![1, 256, 256] inb_S2x256x256_S1x256x256_0_0_0, w0⟩ :: L)) (ix3 p i j)
      = (![w0 (ix3 0 i j), w1 (ix3 0 i j)] : Fin 2 → EReal) p := by
  match p with
  | 0 =>
    refine (View.read_writes_cons_unit_of_not_mem v f inb_S2x256x256_S1x256x256_1_0_0 w1 _ _ rfl (0 : Fin 3) (Or.inl (by show 0 < 1; omega))).trans ?_
    refine View.read_writes_cons_unit_of_mem v f inb_S2x256x256_S1x256x256_0_0_0 w0 L _ (ix3 0 i j) rfl fun a => ?_
    match a with
    | ⟨0, _⟩ => rfl
    | ⟨1, _⟩ => exact (Nat.zero_add _).symm
    | ⟨2, _⟩ => exact (Nat.zero_add _).symm
  | 1 =>
    refine View.read_writes_cons_unit_of_mem v f inb_S2x256x256_S1x256x256_1_0_0 w1 _ _ (ix3 0 i j) rfl fun a => ?_
    match a with
    | ⟨0, _⟩ => rfl
    | ⟨1, _⟩ => exact (Nat.zero_add _).symm
    | ⟨2, _⟩ => exact (Nat.zero_add _).symm

/-- The two slabs a point stores, from what it read of each. -/
theorem both_slabs (v : View sig .tc .vmem S2x256x256 .f32) (f : v.ty.Contents (Elt Ideal)) (o0 o1 : FVec Ideal S1x256x256 .f32) (L : List (View.Piece (Elt Ideal) S2x256x256 .f32))
    (x : S2x256x256.Idx → EReal) (h0 : ∀ i j, o0 (ix3 0 i j) = x (ix3 0 i j)) (h1 : ∀ i j, o1 (ix3 0 i j) = x (ix3 1 i j)) (y : S2x256x256.Idx) :
    v.read (Elt Ideal) (v.writes (Elt Ideal) f
        (⟨Rect.unit ![1, 0, 0] ![1, 256, 256] inb_S2x256x256_S1x256x256_1_0_0, k0_pay36 (F := Ideal) (k0_pay35 (poolB m c t) (dmsB m c t) (iblk m c 11 t) o1)⟩
        :: ⟨Rect.unit ![0, 0, 0] ![1, 256, 256] inb_S2x256x256_S1x256x256_0_0_0, k0_pay33 (F := Ideal) (poolB m c t) (dmsB m c t) (iblk m c 11 t) o0⟩ :: L)) y
      = x y + added_16 m c t (y (0 : Fin 3)) (y (1 : Fin 3)) (y (2 : Fin 3)) := by
  obtain ⟨p, i, j, rfl⟩ : ∃ (p : Fin 2) (i j : Fin 256), y = ix3 p i j := ⟨y (0 : Fin 3), y (1 : Fin 3), y (2 : Fin 3), eq_ix3 y⟩
  refine (read_slabs v f _ _ L p i j).trans ?_
  match p with
  | 0 => exact (slab_0 m c t o0 i j).trans (congrArg (· + _) (h0 i j))
  | 1 => exact (slab_1 m c t o1 i j).trans (congrArg (· + _) (h1 i j))

theorem ld_slab_0 (x : S2x256x256.Idx → EReal) (i j : Fin 256) :
    View.ld (Val := Elt Ideal) (e' := .f32) x (Rect.unit ![0, 0, 0] ![1, 256, 256] inb_S2x256x256_S1x256x256_0_0_0) (ix3 0 i j) = x (ix3 0 i j) :=
  congrArg x (funext fun d => Fin.ext (by
    match d with
    | ⟨0, _⟩ => show 0 + 1 * 0 = 0; omega
    | ⟨1, _⟩ => show 0 + 1 * i.val = i.val; omega
    | ⟨2, _⟩ => show 0 + 1 * j.val = j.val; omega))

theorem ld_slab_1 (x : S2x256x256.Idx → EReal) (i j : Fin 256) :
    View.ld (Val := Elt Ideal) (e' := .f32) x (Rect.unit ![1, 0, 0] ![1, 256, 256] inb_S2x256x256_S1x256x256_1_0_0) (ix3 0 i j) = x (ix3 1 i j) :=
  congrArg x (funext fun d => Fin.ext (by
    match d with
    | ⟨0, _⟩ => show 1 + 1 * 0 = 1; omega
    | ⟨1, _⟩ => show 0 + 1 * i.val = i.val; omega
    | ⟨2, _⟩ => show 0 + 1 * j.val = j.val; omega))

theorem run_16 (hf : (cfg0.win 16).flush t = true) (y : S2x256x256.Idx) :
    (left m c t.val t.isLt).2.2.2.1 y = ∑ s : Fin 64, added_16 m c ⟨64 * (t.val / 64) + s.val, Pipeline.run_point_lt_of_flush t ((flush0_16 t).mp hf) s⟩ (y (0 : Fin 3)) (y (1 : Fin 3)) (y (2 : Fin 3)) := by
  have hz (y : S2x256x256.Idx) : k0_pay4 (F := Ideal) y = (0 : EReal) := by pointwise [k0_pay4]
  rw [Pipeline.eq_sum_fin_of_reset_step_apply_of_flush (fun n h => (left m c n h).2.2.2.1) 64 (fun _ => 0)
    (fun t j => added_16 m c t (j (0 : Fin 3)) (j (1 : Fin 3)) (j (2 : Fin 3)))
    (fun t h j => by
      rw [left_A m c t h]; unfold outA; dsimp only; frame_out
      rw [← View.read_writes_junk_apply_eq_canon (stage0_16 (cfg0.slots t 16)).view]
      refine both_slabs m c t _ _ _ _ _ (fun _ => 0) (fun a b => ?_) (fun a b => ?_) j
      · refine (congrFun (View.readCov_fill (Val := Elt Ideal) (e := .f32) _ _ _ _ _ (by decide)) _).trans ?_
        exact (ld_slab_0 _ a b).trans (hz _)
      · rw [View.readCov_skip _ _ _ _ _ (by decide)]
        refine (congrFun (View.readCov_fill (Val := Elt Ideal) (e := .f32) _ _ _ _ _ (by decide)) _).trans ?_
        exact (ld_slab_1 _ a b).trans (hz _))
    (fun t h j => by
      rw [left_B m c t h]; unfold outB; dsimp only; frame_out
      first | rw [← View.read_writes_junk_apply_eq_canon (stage0_16 (cfg0.slots t 16)).view] | skip
      exact both_slabs m c t _ _ _ _ _ _ (ld_slab_0 _) (ld_slab_1 _) j)
    t ((flush0_16 t).mp hf) _, zero_add]

/-- The pairs' products, summed over the blocks. -/
def sum16 (y : S2x256x256.Idx) : EReal := ∑ s : Fin 64, added_16 m c s (y (0 : Fin 3)) (y (1 : Fin 3)) (y (2 : Fin 3))

theorem final_16 : (dats m 0 c).arrAt 16 (cfgs 0).N = sum16 m c := by
  refine (dats m 0 c).arrAt_eq_of_covers 16 _ (by decide +kernel) fun t hf y => ?_
  blk_simp; rw [after_16]
  obtain ⟨p, i, j, rfl⟩ : ∃ (p : Fin 2) (i j : Fin 256), y = ix3 p i j := ⟨y (0 : Fin 3), y (1 : Fin 3), y (2 : Fin 3), eq_ix3 y⟩
  have e : ((cfg0.win 16).blk t).view.emb (ix3 p i j) = ix3 p i j := by blk_ext [idx_val t]
  refine (run_16 m c t hf _).trans ((congrArg (sum16 m c) e).trans ?_).symm
  refine Finset.sum_congr rfl fun s _ => congrArg (fun s => added_16 m c s p i j) (Fin.ext ?_)
  show s.val = 64 * (t.val / 64) + s.val
  have : t.val < 64 := t.isLt
  omega

/-- A group's square within its pair's products is the group's gradient. -/
theorem sum16_dw (p h : Fin 2) (x d : Fin 128) (y : S2x256x256.Idx) (h0 : (y (0 : Fin 3)).val = p.val) (h1 : (y (1 : Fin 3)).val = h.val * 128 + x.val)
    (h2 : (y (2 : Fin 3)).val = h.val * 128 + d.val) : sum16 m c y = dw (args m c) (grp p h) x d := by
  have e (i : Fin 256) (x : Fin 128) (hi : i.val = h.val * 128 + x.val) : at16 (y (0 : Fin 3)) i = col (grp p h) x := by
    refine Fin.ext ?_
    show (y (0 : Fin 3)).val * 256 + i.val = (2 * p.val + h.val) * 128 + x.val
    omega
  unfold dw sum16
  rw [← sum_rows _ (0 : Fin 64) (fun s => by have := s.isLt; show 64 * (0 / 64) + s.val < 64; omega)]
  refine Finset.sum_congr rfl fun s _ => ?_
  have es : (⟨64 * ((0 : Fin 64).val / 64) + s.val, by have := s.isLt; show 64 * (0 / 64) + s.val < 64; omega⟩ : Fin cfg0.N) = s := Fin.ext (by show 64 * (0 / 64) + s.val = s.val; omega)
  unfold added_16
  rw [es, e _ x h1, e _ d h2]
  exact Finset.sum_congr rfl fun a _ => congrArg₂ (· * ·) (poolB_ker m c _ a _ x) (dmix_ker m c _ a _)

/-! ### The vectors' gradients -/

/-- A row's term of the norm weight's gradient. -/
def rowg (r : Fin 16384) (k : Fin 1024) : EReal := dv (args m c) r k * ((args m c).x4 (ix2 r k) * inv (args m c) r)

/-- What one block of rows adds: the scales' gradient in the first row, the norm weight's in the second. -/
def added_17 (a : Fin 8) (k : Fin 1024) : EReal :=
  if a.val = 1 then ∑ b : Fin 256, rowg m c (row t b) k
  else if h : a.val = 0 ∧ k.val < 512 then ∑ b : Fin 256, dms (args m c) (row t b) ⟨k.val, h.2⟩ * mixB m c t (ix2 b ⟨k.val, h.2⟩)
  else 0

theorem row_0 (o : FVec Ideal S1x512 .f32) (k : Fin 512) :
    k0_pay30 (F := Ideal) (mixB m c t) (dmsB m c t) o (ix2 0 k) = o (ix2 0 k) + ∑ b : Fin 256, dms (args m c) (row t b) k * mixB m c t (ix2 b k) := by
  refine Eq.trans (b := o (ix2 0 k) + ∑ b : Fin 256, dmsB m c t (ix2 b k) * mixB m c t (ix2 b k)) (by pointwise [k0_pay30]) ?_
  exact congrArg (o _ + ·) (Finset.sum_congr rfl fun b _ => congrArg (· * _) (dms_ker m c t b k))

theorem row_1 (o : FVec Ideal S1x1024 .f32) (w : FVec Ideal S256x1024 .f32) (k : Fin 1024) :
    k0_pay1 (F := Ideal) (k0_pay63 o) w (ix2 0 k) = o (ix2 0 k) + ∑ b : Fin 256, w (ix2 b k) := by
  pointwise [k0_pay1, k0_pay63]

/-- The two rows a point stores over any earlier stores, from what it read of each. -/
theorem both_rows (v : View sig .tc .vmem S8x1024 .f32) (f : v.ty.Contents (Elt Ideal)) (o0 : FVec Ideal S1x512 .f32) (o1 : FVec Ideal S1x1024 .f32) (w : FVec Ideal S256x1024 .f32)
    (L : List (View.Piece (Elt Ideal) S8x1024 .f32)) (x : S8x1024.Idx → EReal) (hb : ∀ y, v.read (Elt Ideal) (v.writes (Elt Ideal) f L) y = x y)
    (h0 : ∀ k : Fin 512, o0 (ix2 0 k) = x (ix2 0 ⟨k.val, by have := k.isLt; omega⟩)) (h1 : ∀ k, o1 (ix2 0 k) = x (ix2 1 k))
    (hw : ∀ b k, w (ix2 b k) = rowg m c (row t b) k) (y : S8x1024.Idx) :
    v.read (Elt Ideal) (v.writes (Elt Ideal) f
        (⟨Rect.unit ![1, 0] ![1, 1024] inb_S8x1024_S1x1024_1_0, k0_pay1 (F := Ideal) (k0_pay63 o1) w⟩
        :: ⟨Rect.unit ![0, 0] ![1, 512] inb_S8x1024_S1x512_0_0, k0_pay30 (F := Ideal) (mixB m c t) (dmsB m c t) o0⟩ :: L)) y
      = x y + added_17 m c t (y (0 : Fin 2)) (y (1 : Fin 2)) := by
  obtain ⟨a, k, rfl⟩ : ∃ (a : Fin 8) (k : Fin 1024), y = ix2 a k := ⟨y (0 : Fin 2), y (1 : Fin 2), eq_ix2 y⟩
  have ea : added_17 m c t ((ix2 a k : S8x1024.Idx) (0 : Fin 2)) ((ix2 a k : S8x1024.Idx) (1 : Fin 2)) = added_17 m c t a k := rfl
  rw [ea]
  unfold added_17
  by_cases c1 : a.val = 1
  · obtain rfl : a = 1 := Fin.ext c1
    rw [if_pos c1]
    refine (View.read_writes_cons_unit_of_mem v f inb_S8x1024_S1x1024_1_0 _ _ _ (ix2 0 k) rfl fun d => ?_).trans
      ((row_1 o1 w k).trans (congrArg₂ (· + ·) (h1 k) (Finset.sum_congr rfl fun b _ => hw b k)))
    match d with
    | ⟨0, _⟩ => rfl
    | ⟨1, _⟩ => exact (Nat.zero_add _).symm
  rw [if_neg c1]
  refine (View.read_writes_cons_unit_of_not_mem v f inb_S8x1024_S1x1024_1_0 _ _ _ rfl (0 : Fin 2) (by show a.val < 1 ∨ 1 + 1 ≤ a.val; omega)).trans ?_
  by_cases c0 : a.val = 0 ∧ k.val < 512
  · obtain rfl : a = 0 := Fin.ext c0.1
    rw [dif_pos c0]
    refine (View.read_writes_cons_unit_of_mem v f inb_S8x1024_S1x512_0_0 _ _ _ (ix2 0 ⟨k.val, c0.2⟩) rfl fun d => ?_).trans
      ((row_0 m c t o0 _).trans (congrArg (· + _) (h0 _)))
    match d with
    | ⟨0, _⟩ => rfl
    | ⟨1, _⟩ => exact (Nat.zero_add _).symm
  · rw [dif_neg c0, add_zero]
    by_cases ha : a.val = 0
    · have hk : ¬ k.val < 512 := fun hk => c0 ⟨ha, hk⟩
      exact (View.read_writes_cons_unit_of_not_mem v f inb_S8x1024_S1x512_0_0 _ _ _ rfl (1 : Fin 2) (by show k.val < 0 ∨ 0 + 512 ≤ k.val; omega)).trans (hb _)
    · exact (View.read_writes_cons_unit_of_not_mem v f inb_S8x1024_S1x512_0_0 _ _ _ rfl (0 : Fin 2) (by show a.val < 0 ∨ 0 + 1 ≤ a.val; omega)).trans (hb _)

theorem ld_row_0 (x : S8x1024.Idx → EReal) (k : Fin 512) :
    View.ld (Val := Elt Ideal) (e' := .f32) x (Rect.unit ![0, 0] ![1, 512] inb_S8x1024_S1x512_0_0) (ix2 0 k) = x (ix2 0 ⟨k.val, by have := k.isLt; omega⟩) :=
  congrArg x (funext fun d => Fin.ext (by
    match d with
    | ⟨0, _⟩ => show 0 + 1 * 0 = 0; omega
    | ⟨1, _⟩ => show 0 + 1 * k.val = k.val; omega))

theorem ld_row_1 (x : S8x1024.Idx → EReal) (k : Fin 1024) :
    View.ld (Val := Elt Ideal) (e' := .f32) x (Rect.unit ![1, 0] ![1, 1024] inb_S8x1024_S1x1024_1_0) (ix2 0 k) = x (ix2 1 k) :=
  congrArg x (funext fun d => Fin.ext (by
    match d with
    | ⟨0, _⟩ => show 1 + 1 * 0 = 1; omega
    | ⟨1, _⟩ => show 0 + 1 * k.val = k.val; omega))

/-- A point's rows of the norm weight's gradient, from the carried rows it found. -/
theorem rowg_of (x : FVec Ideal S16x512 .f32) (hx : ∀ r g k, x (ix2 r (col g k)) = after m c t g k (256 + r.val)) (b : Fin 256) (k : Fin 1024) :
    mulf (duB m c t (part0 x) (part1 x) (part2 x) (part3 x)) (k0_pay62 (F := Ideal) (iblk m c 6 t)) (ix2 b k) = rowg m c (row t b) k :=
  rowg_ker m c t _ _ _ _ (carried_of m c t x hx) b k

theorem step_17A (h : t.val % 64 = 0) (y : S8x1024.Idx) :
    (left m c t.val t.isLt).2.2.2.2.1 y = 0 + added_17 m c t (y (0 : Fin 2)) (y (1 : Fin 2)) := by
  have hz (y : S8x1024.Idx) : k0_pay5 (F := Ideal) y = (0 : EReal) := by pointwise [k0_pay5]
  rw [left_A m c t h]; unfold outA; dsimp only; frame_out
  rw [ld_zero, ld_zero, ld_zero, ld_zero]
  rw [← View.read_writes_junk_apply_eq_canon (stage0_17 (cfg0.slots t 17)).view]
  refine both_rows m c t _ _ _ _ _ _ (fun _ => 0) (fun y => ?_) (fun k => ?_) (fun k => ?_) (rowg_of m c t _ (zero_tail m c t h)) y
  · rw [View.read_writes_junk_apply_eq_canon]
    exact (congrFun (View.canon_cons_unit_lit (Val := Elt Ideal) (e := .f32) (S := S8x1024) (off := ![0, 0]) _ _ _ (by decide)) y).trans (hz y)
  · refine (congrFun (View.readCov_fill (Val := Elt Ideal) (e := .f32) _ _ _ _ _ (by decide)) _).trans ?_
    exact (ld_row_0 _ k).trans (hz _)
  · rw [View.readCov_skip _ _ _ _ _ (by decide)]
    refine (congrFun (View.readCov_fill (Val := Elt Ideal) (e := .f32) _ _ _ _ _ (by decide)) _).trans ?_
    exact (ld_row_1 _ k).trans (hz _)

theorem step_17B (h : t.val % 64 ≠ 0) (y : S8x1024.Idx) :
    (left m c t.val t.isLt).2.2.2.2.1 y = (prior m c t).2.2.2.2.1 y + added_17 m c t (y (0 : Fin 2)) (y (1 : Fin 2)) := by
  rw [left_B m c t h]; unfold outB; dsimp only; frame_out
  rw [read_unread_whole]
  refine both_rows m c t _ _ _ _ _ _ _ (fun y => ?_) (ld_row_0 _) (ld_row_1 _) (rowg_of m c t _ (prior_tail m c t h)) y
  rw [View.writes_nil, Memref.IsWhole.read_unread]

theorem run_17 (hf : (cfg0.win 17).flush t = true) (y : S8x1024.Idx) :
    (left m c t.val t.isLt).2.2.2.2.1 y = ∑ s : Fin 64, added_17 m c ⟨64 * (t.val / 64) + s.val, Pipeline.run_point_lt_of_flush t ((flush0_17 t).mp hf) s⟩ (y (0 : Fin 2)) (y (1 : Fin 2)) := by
  rw [Pipeline.eq_sum_fin_of_reset_step_apply_of_flush (fun n h => (left m c n h).2.2.2.2.1) 64 (fun _ => 0)
    (fun t j => added_17 m c t (j (0 : Fin 2)) (j (1 : Fin 2)))
    (fun t h j => step_17A m c t h j) (fun t h j => step_17B m c t h j)
    t ((flush0_17 t).mp hf) _, zero_add]

theorem final_17 (H : Real m c) : (dats m 0 c).arrAt 17 (cfgs 0).N = Cert.PoolRefIdeal.Read.val_main_v189 (F := Ideal) (args m c).x0 (args m c).x1 (args m c).x2 (args m c).x3 (args m c).x4 (args m c).x6 (args m c).x7 (args m c).x8 (args m c).x9 (args m c).x10 := by
  refine (dats m 0 c).arrAt_eq_of_covers 17 _ (by decide +kernel) fun t hf y => ?_
  blk_simp; rw [after_17]
  obtain ⟨a, k, rfl⟩ : ∃ (a : Fin 8) (k : Fin 1024), y = ix2 a k := ⟨y (0 : Fin 2), y (1 : Fin 2), eq_ix2 y⟩
  have e : ((cfg0.win 17).blk t).view.emb (ix2 a k) = ix2 a k := by blk_ext [idx_val t]
  refine (run_17 m c t hf _).trans (((congrArg _ e).trans ?_).symm)
  have hs := fun s => Pipeline.run_point_lt_of_flush t ((flush0_17 t).mp hf) s
  have ea (s : Fin cfg0.N) : added_17 m c s ((ix2 a k : S8x1024.Idx) (0 : Fin 2)) ((ix2 a k : S8x1024.Idx) (1 : Fin 2)) = added_17 m c s a k := rfl
  simp only [ea]
  unfold added_17
  by_cases c1 : a.val = 1
  · obtain rfl : a = 1 := Fin.ext c1
    simp only [if_pos c1]
    exact (dg_ref (args m c) H.quot k).trans (sum_rows (fun r => rowg m c r k) t hs).symm
  simp only [if_neg c1]
  by_cases c0 : a.val = 0 ∧ k.val < 512
  · obtain rfl : a = 0 := Fin.ext c0.1
    simp only [dif_pos c0]
    obtain ⟨g, d, hj⟩ := col_surj ⟨k.val, c0.2⟩
    have hk : k = ⟨(col g d).val, by have := (col g d).isLt; omega⟩ := Fin.ext (congrArg (fun j : Fin 512 => j.val) hj)
    refine ((congrArg (fun k => Cert.PoolRefIdeal.Read.val_main_v189 (F := Ideal) (args m c).x0 (args m c).x1 (args m c).x2 (args m c).x3 (args m c).x4 (args m c).x6 (args m c).x7 (args m c).x8 (args m c).x9 (args m c).x10 (ix2 0 k)) hk).trans (ds_ref (args m c) H.zp g d)).trans ?_
    unfold ds
    rw [← sum_rows _ t hs]
    refine Finset.sum_congr rfl fun s _ => Finset.sum_congr rfl fun b _ => ?_
    rw [hj]
    exact congrArg (_ * ·) (mixB_ker m c _ b g d).symm
  · simp only [dif_neg c0]
    refine Eq.trans ?_ (Finset.sum_eq_zero (M := EReal) fun _ _ => rfl).symm
    by_cases ha : a.val = 0
    · obtain rfl : a = 0 := Fin.ext ha
      exact past_ref (args m c) k (by have : ¬ k.val < 512 := fun hk => c0 ⟨ha, hk⟩; omega)
    · exact below_ref (args m c) a (by omega) k

end Cert.PoolIdeal.Value

end
-- ==== Proof.PoolPair.lean ====
/- The pooled mixer's backward call against the derivative of its forward lines. -/
module

public import proofs.«01_k».proof.Defs
public import proofs.«01_k».proof.Proof.PoolValue
public import proofs.«01_k».proof.Proof.PoolFrame
public import proofs.«01_k».proof.Proof.FfnPair
public import proofs.«01_k».proof.Proof.Gen.PoolRefIdeal.Run
public import proofs.«01_k».proof.Proof.Gen.Pre_pool_finite
public import Idealize.ShloMosaic.Lib.Claim
public import Idealize.ShloMosaic.Lib.ReduceAll

@[expose] public section

set_option maxRecDepth 200000

noncomputable section

namespace Cert.PoolPair

open Idealize.ShloMosaic Idealize.SL.Sem Cert.Reals Cert.PoolBody

/-- The precondition's elements are real numbers. -/
theorem finite (m : (ℓ : Loc Cert.PoolIdeal.nD Cert.PoolIdeal.τ Cert.PoolIdeal.sig) → Buf (Elt Ideal) ℓ) (h : Cert.Pre_PoolIdeal_pool_finite m)
    (c : Dev Cert.PoolIdeal.nD) : Cert.PoolIdeal.Value.Real m c := by
  have e := congrFun (h c) (fun a => a.elim0)
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i => Cert.FfnPair.isReal_of_lt _ ?_, fun i => Cert.FfnPair.isReal_of_lt _ ?_, fun i => Cert.FfnPair.isReal_of_lt _ ?_, fun i => Cert.FfnPair.isReal_of_lt _ ?_, fun i => Cert.FfnPair.isReal_of_lt _ ?_, fun i => Cert.FfnPair.isReal_of_lt _ ?_, fun i => Cert.FfnPair.isReal_of_lt _ ?_, fun i => Cert.FfnPair.isReal_of_lt _ ?_, fun i => Cert.FfnPair.isReal_of_lt _ ?_, fun i => Cert.FfnPair.isReal_of_lt _ ?_⟩
  · exact Host.reduce_andi_eq_one _ _ _ _ _ e0 i (Subsingleton.elim _ _)
  · exact Host.reduce_andi_eq_one _ _ _ _ _ e1 i (Subsingleton.elim _ _)
  · exact Host.reduce_andi_eq_one _ _ _ _ _ e2 i (Subsingleton.elim _ _)
  · exact Host.reduce_andi_eq_one _ _ _ _ _ e3 i (Subsingleton.elim _ _)
  · exact Host.reduce_andi_eq_one _ _ _ _ _ e4 i (Subsingleton.elim _ _)
  · exact Host.reduce_andi_eq_one _ _ _ _ _ e6 i (Subsingleton.elim _ _)
  · exact Host.reduce_andi_eq_one _ _ _ _ _ e7 i (Subsingleton.elim _ _)
  · exact Host.reduce_andi_eq_one _ _ _ _ _ e8 i (Subsingleton.elim _ _)
  · exact Host.reduce_andi_eq_one _ _ _ _ _ e9 i (Subsingleton.elim _ _)
  · exact Host.reduce_andi_eq_one _ _ _ _ _ e10 i (Subsingleton.elim _ _)

open Cert.PoolIdeal in
open Cert.PoolIdeal.Gen in
/-- The host lines after the launch take each group's square. -/
theorem tail_38 (W : Valuation Cert.PoolIdeal.τ Cert.PoolIdeal.sig (Elt Ideal)) (p h : Fin 2) (x d : Fin 128) :
    StableHlo.after ([hostOps1 (F := Ideal)].flatten) W (Proc.devRef .tc main_v38) (ix3 (Cert.PoolIdeal.Value.grp p h) x d)
      = W (Proc.devRef .tc main_v32_3) (ix3 p ⟨h.val * 128 + x.val, by omega⟩ ⟨h.val * 128 + d.val, by omega⟩) := by
  after_reads_at
  match p, h with
  | 0, 0 => refine (dif_pos (by decide)).trans ?_; after_reads_at
  | 0, 1 => refine (dif_neg (by decide)).trans ?_; after_reads_at
  | 1, 0 => refine (dif_pos (by decide)).trans ?_; after_reads_at
  | 1, 1 => refine (dif_neg (by decide)).trans ?_; after_reads_at

open Cert.PoolIdeal in
open Cert.PoolIdeal.Gen in
/-- The mixing weights' gradient after those lines. -/
theorem final_38 (m : (ℓ : Loc Cert.PoolIdeal.nD Cert.PoolIdeal.τ Cert.PoolIdeal.sig) → Buf (Elt Ideal) ℓ) (c : Dev Cert.PoolIdeal.nD) (H : Cert.PoolIdeal.Value.Real m c) :
    Pipeline.afterTail₀ cfgs (dats m) 0 (V0 m) [hostOps1 (F := Ideal)] c main_v38
      = Cert.PoolRefIdeal.Read.val_main_v192 (F := Ideal) (Cert.PoolIdeal.Value.args m c).x0 (Cert.PoolIdeal.Value.args m c).x4 (Cert.PoolIdeal.Value.args m c).x6 (Cert.PoolIdeal.Value.args m c).x7 (Cert.PoolIdeal.Value.args m c).x9 (Cert.PoolIdeal.Value.args m c).x10 := by
  refine funext fun (y : S4x128x128.Idx) => ?_
  obtain ⟨g, x, d, rfl⟩ : ∃ (g : Fin 4) (x d : Fin 128), y = ix3 g x d := ⟨y (0 : Fin 3), y (1 : Fin 3), y (2 : Fin 3), eq_ix3 y⟩
  obtain ⟨p, h, rfl⟩ := Cert.PoolIdeal.Value.grp_surj g
  unfold Pipeline.afterTail₀
  refine (tail_38 _ p h x d).trans ?_
  have e := Pipeline.withArrays_arr_shared (τ := Cert.PoolIdeal.τ) (cfgs 0).spec c (V0 m c) (fun w => (dats m 0 c).arrAt w (cfgs 0).N)
    ((dats m 0 c).arrAt_sharedIn sharedIn0 (V0 m c) (fun w => A_eq m c w) (cfgs 0).N) 16
  refine (congrFun (e.trans (Cert.PoolIdeal.Value.final_16 m c)) _).trans ?_
  exact (Cert.PoolIdeal.Value.sum16_dw m c p h x d _ rfl rfl rfl).trans (Cert.PoolMath.dw_ref (Cert.PoolIdeal.Value.args m c) H.zp _ x d).symm

/-- A function of eleven arguments at equal arguments. -/
theorem agree {T0 : Type} {T1 : Type} {T2 : Type} {T3 : Type} {T4 : Type} {T5 : Type} {T6 : Type} {T7 : Type} {T8 : Type} {T9 : Type} {T10 : Type} {R : Type}
    (f : T0 → T1 → T2 → T3 → T4 → T5 → T6 → T7 → T8 → T9 → T10 → R) {a0 b0 : T0} {a1 b1 : T1} {a2 b2 : T2} {a3 b3 : T3} {a4 b4 : T4} {a5 b5 : T5} {a6 b6 : T6} {a7 b7 : T7} {a8 b8 : T8} {a9 b9 : T9} {a10 b10 : T10}
    (h : a0 = b0 ∧ a1 = b1 ∧ a2 = b2 ∧ a3 = b3 ∧ a4 = b4 ∧ a5 = b5 ∧ a6 = b6 ∧ a7 = b7 ∧ a8 = b8 ∧ a9 = b9 ∧ a10 = b10) : f a0 a1 a2 a3 a4 a5 a6 a7 a8 a9 a10 = f b0 b1 b2 b3 b4 b5 b6 b7 b8 b9 b10 := by
  obtain ⟨rfl, rfl, rfl, rfl, rfl, rfl, rfl, rfl, rfl, rfl, rfl⟩ := h
  rfl

set_option maxHeartbeats 4000000 in
/-- The five results of the pooled mixer's backward call are the reference's derivative, over the reals. -/
theorem algebraic : Cert.algebraic_PoolIdeal_PoolRefIdeal_pre_pool_finite := by
  pair_intro
  · run_from Cert.PoolBody.run_main (F := Ideal) m g
    · exact hc.1 17
    · exact Cert.PoolIdeal.Gen.W_main_arg0 m (dats m) c
    · exact Cert.PoolIdeal.Gen.W_main_arg1 m (dats m) c
    · exact Cert.PoolIdeal.Gen.W_main_arg2 m (dats m) c
    · exact Cert.PoolIdeal.Gen.W_main_arg3 m (dats m) c
    · exact Cert.PoolIdeal.Gen.W_main_arg7 m (dats m) c
    · exact Cert.PoolIdeal.Gen.W_main_arg8 m (dats m) c
    · exact Cert.PoolIdeal.Gen.W_main_arg10 m (dats m) c
  · run_from Cert.PoolRefIdeal.Value.run m' g'
    · exact (Cert.PoolRefIdeal.Read.val_main_v190_eq (StableHlo.launchContents m' c)).trans ((agree (fun a0 _ _ _ _ _ _ _ a8 a9 a10 => Cert.PoolRefIdeal.Read.val_main_v190 (F := Ideal) a0 a8 a9 a10) (hagree c)).trans (Cert.PoolIdeal.Value.final_13 m c (finite m hpre c)).symm)
    · rw [← (hagree c).2.2.2.2.2.1, ← (hagree c).2.2.2.2.1]
      exact (Cert.PoolRefIdeal.Read.val_main_v185_eq (StableHlo.launchContents m' c)).trans ((agree (fun a0 a1 a2 a3 a4 a5 a6 a7 a8 a9 a10 => Cert.PoolRefIdeal.Read.val_main_v185 (F := Ideal) a0 a1 a2 a3 a4 a5 a6 a7 a8 a9 a10) (hagree c)).trans (Cert.PoolIdeal.Value.final_14 m c (finite m hpre c)).symm)
    · rw [← (hagree c).1]
      exact (Cert.PoolRefIdeal.Read.val_main_v191_eq (StableHlo.launchContents m' c)).trans ((agree (fun a0 _ _ _ a4 _ a6 a7 a8 a9 _ => Cert.PoolRefIdeal.Read.val_main_v191 (F := Ideal) a0 a4 a6 a7 a8 a9) (hagree c)).trans (Cert.PoolIdeal.Value.final_15 m c (finite m hpre c)).symm)
    · exact (Cert.PoolRefIdeal.Read.val_main_v192_eq (StableHlo.launchContents m' c)).trans ((agree (fun a0 _ _ _ a4 _ a6 a7 _ a9 a10 => Cert.PoolRefIdeal.Read.val_main_v192 (F := Ideal) a0 a4 a6 a7 a9 a10) (hagree c)).trans (final_38 m c (finite m hpre c)).symm)
    · exact (Cert.PoolRefIdeal.Read.val_main_v189_eq (StableHlo.launchContents m' c)).trans ((agree (fun a0 a1 a2 a3 a4 _ a6 a7 a8 a9 a10 => Cert.PoolRefIdeal.Read.val_main_v189 (F := Ideal) a0 a1 a2 a3 a4 a6 a7 a8 a9 a10) (hagree c)).trans (Cert.PoolIdeal.Value.final_17 m c (finite m hpre c)).symm)

end Cert.PoolPair

end
-- ==== Proof.LossMath.lean ====
/- The loss head's call, forward and backward, as formulas over its arguments, and the reference's intermediate arrays in
   them. -/
module

public import proofs.«01_k».proof.Proof.Gen.LossRefIdeal.Read
public import proofs.«01_k».proof.Proof.Reals
public import proofs.«01_k».proof.Proof.Scalars
public import Idealize.ShloMosaic.Lib.Pipeline.ValueKit

@[expose] public section

set_option maxRecDepth 16384

noncomputable section

open Idealize.ShloMosaic Idealize.ShloMosaic.TcCoe Idealize.SL.Sem
open Cert.Reals
open scoped BigOperators

namespace Cert.LossMath

open Cert.LossRefIdeal Cert.LossRefIdeal.Read

/-- The call's arguments: the stream, the side input, the target, the two scales and the two weight matrices. -/
structure Args where
  x0 : (⟨S16384x1024, .f32⟩ : BufTy).Contents (Elt Ideal)
  x1 : (⟨S16384x256, .f32⟩ : BufTy).Contents (Elt Ideal)
  x2 : (⟨S16384x1024, .f32⟩ : BufTy).Contents (Elt Ideal)
  x3 : (⟨S1x1024, .f32⟩ : BufTy).Contents (Elt Ideal)
  x4 : (⟨S1x1024x1024, .f32⟩ : BufTy).Contents (Elt Ideal)
  x5 : (⟨S1x256x1024, .f32⟩ : BufTy).Contents (Elt Ideal)
  x6 : (⟨S1024, .f32⟩ : BufTy).Contents (Elt Ideal)

variable (A : Args)

/-- One over the root of a row's mean square. -/
def inv3 (r : Fin 16384) : EReal := Ideal.rsqrt (meanSq fun k : Fin 1024 => A.x0 (ix2 r k))

/-- The normed row. -/
def n3 (r : Fin 16384) (k : Fin 1024) : EReal := A.x0 (ix2 r k) * inv3 A r

/-- The normed row, scaled. -/
def n3g (r : Fin 16384) (k : Fin 1024) : EReal := n3 A r k * A.x3 (ix2 0 k)

/-- The gate, before its logistic function. -/
def q (r : Fin 16384) (j : Fin 1024) : EReal := ∑ k : Fin 1024, n3g A r k * A.x4 (ix3 0 k j)

/-- The gate. -/
def pg (r : Fin 16384) (j : Fin 1024) : EReal := Ideal.div 1 (1 + Ideal.exp (-q A r j))

/-- The side input's projection. -/
def e (r : Fin 16384) (j : Fin 1024) : EReal := ∑ k : Fin 256, A.x1 (ix2 r k) * A.x5 (ix3 0 k j)

/-- The stream after the gated projection is added. -/
def h3 (r : Fin 16384) (j : Fin 1024) : EReal := A.x0 (ix2 r j) + pg A r j * e A r j

/-- One over the root of that row's mean square. -/
def inv4 (r : Fin 16384) : EReal := Ideal.rsqrt (meanSq fun k : Fin 1024 => h3 A r k)

/-- That row, normed. -/
def n4 (r : Fin 16384) (k : Fin 1024) : EReal := h3 A r k * inv4 A r

/-- The output's difference from the target. -/
def diff (r : Fin 16384) (k : Fin 1024) : EReal := n4 A r k * A.x6 (ix1 k) - A.x2 (ix2 r k)

/-- The gradient of the output. -/
def dy (r : Fin 16384) (k : Fin 1024) : EReal := diff A r k * Ideal.ofBits .f32 0x3A800000#32

/-- The gradient of the second normed row. -/
def dyg (r : Fin 16384) (k : Fin 1024) : EReal := dy A r k * A.x6 (ix1 k)

/-- The gradient of the gated sum. -/
def dh3 (r : Fin 16384) (k : Fin 1024) : EReal :=
  inv4 A r * (dyg A r k - n4 A r k * Ideal.div (∑ k, dyg A r k * n4 A r k) (Ideal.ofBits .f32 0x44800000#32))

/-- The gradient of the projection. -/
def de (r : Fin 16384) (k : Fin 1024) : EReal := dh3 A r k * pg A r k

/-- The gradient of the gate's product. -/
def dq (r : Fin 16384) (k : Fin 1024) : EReal := dh3 A r k * e A r k * pg A r k * (1 - pg A r k)

/-- The gradient of the scaled row. -/
def dv (r : Fin 16384) (k : Fin 1024) : EReal := ∑ j : Fin 1024, dq A r j * A.x4 (ix3 0 k j)

/-- The gradient of the normed row. -/
def dn (r : Fin 16384) (k : Fin 1024) : EReal := dv A r k * A.x3 (ix2 0 k)

/-- The gradient of the call's input. -/
def dh2 (r : Fin 16384) (k : Fin 1024) : EReal :=
  dh3 A r k + inv3 A r * (dn A r k - n3 A r k * Ideal.div (∑ k, dn A r k * n3 A r k) (Ideal.ofBits .f32 0x44800000#32))

/-- The gradients of the two weight matrices and of the two scales. -/
def dwg (k j : Fin 1024) : EReal := ∑ r : Fin 16384, n3g A r k * dq A r j
def dwp (k : Fin 256) (j : Fin 1024) : EReal := ∑ r : Fin 16384, A.x1 (ix2 r k) * de A r j
def dgf (k : Fin 1024) : EReal := ∑ r : Fin 16384, dy A r k * n4 A r k
def dgp (k : Fin 1024) : EReal := ∑ r : Fin 16384, dv A r k * n3 A r k

/-- The squared differences, summed over a row. -/
def sq (r : Fin 16384) : EReal := ∑ k : Fin 1024, diff A r k * diff A r k

theorem inv3_ref (r : Fin 16384) : val_main_v10 (F := Ideal) A.x0 (ix2 r 0) = inv3 A r := by
  pointwise [val_main_v10, val_main_v9, val_main_v8, val_main_v7, val_main_v6, val_main_v5, val_main_v4, val_main_v3, val_main_cst, val_main_cst_0, val_main_cst_1, inv3, meanSq]

theorem meanSq3_ref (r : Fin 16384) : val_main_v9 (F := Ideal) A.x0 (ix2 r 0) = meanSq fun k : Fin 1024 => A.x0 (ix2 r k) := by
  pointwise [val_main_v9, val_main_v8, val_main_v7, val_main_v6, val_main_v5, val_main_v4, val_main_v3, val_main_cst, val_main_cst_0, val_main_cst_1, meanSq]

theorem n3_ref (r : Fin 16384) (k : Fin 1024) : val_main_v15 (F := Ideal) A.x0 (ix2 r k) = n3 A r k := by
  pointwise [val_main_v15, val_main_v14, n3]
  rw [inv3_ref]

theorem n3g_ref (r : Fin 16384) (k : Fin 1024) : val_main_v18 (F := Ideal) A.x0 A.x3 (ix2 r k) = n3g A r k := by
  pointwise [val_main_v18, val_main_v17, val_main_v16, val_main_v2, n3g]
  rw [n3_ref]

theorem q_ref (r : Fin 16384) (k : Fin 1024) : val_main_v20 (F := Ideal) A.x0 A.x3 A.x4 (ix2 r k) = q A r k := by
  pointwise [val_main_v20, val_main_v19, q]
  simp only [n3g_ref]

theorem pg_ref (r : Fin 16384) (k : Fin 1024) : val_main_v26 (F := Ideal) A.x0 A.x3 A.x4 (ix2 r k) = pg A r k := by
  pointwise [val_main_v26, val_main_v25, val_main_v24, val_main_v23, val_main_v22, val_main_v21, val_main_cst_4, val_main_cst_3, pg]
  simp only [q_ref]

theorem e_ref (r : Fin 16384) (k : Fin 1024) : val_main_v1 (F := Ideal) A.x1 A.x5 (ix2 r k) = e A r k := by
  pointwise [val_main_v1, val_main_v0, e]

theorem h3_ref (r : Fin 16384) (k : Fin 1024) : val_main_v31 (F := Ideal) A.x0 A.x1 A.x3 A.x4 A.x5 (ix2 r k) = h3 A r k := by
  pointwise [val_main_v31, val_main_v30, h3]
  rw [pg_ref, e_ref]

theorem meanSq4_ref (r : Fin 16384) : val_main_v38 (F := Ideal) A.x0 A.x1 A.x3 A.x4 A.x5 (ix2 r 0) = meanSq fun k : Fin 1024 => h3 A r k := by
  pointwise [val_main_v38, val_main_v37, val_main_v36, val_main_v35, val_main_v34, val_main_v33, val_main_v32, val_main_cst_6, val_main_cst_7, val_main_cst_8, meanSq]
  simp only [h3_ref]

theorem inv4_ref (r : Fin 16384) : val_main_v39 (F := Ideal) A.x0 A.x1 A.x3 A.x4 A.x5 (ix2 r 0) = inv4 A r :=
  congrArg Ideal.rsqrt (meanSq4_ref A r)

theorem n4_ref (r : Fin 16384) (k : Fin 1024) : val_main_v44 (F := Ideal) A.x0 A.x1 A.x3 A.x4 A.x5 (ix2 r k) = n4 A r k := by
  pointwise [val_main_v44, val_main_v43, n4]
  rw [inv4_ref, h3_ref]

theorem diff_ref (r : Fin 16384) (k : Fin 1024) : val_main_v48 (F := Ideal) A.x0 A.x1 A.x2 A.x3 A.x4 A.x5 A.x6 (ix2 r k) = diff A r k := by
  pointwise [val_main_v48, val_main_v47, val_main_v46, val_main_v45, diff]
  rw [n4_ref]

theorem ofBits_two : Ideal.ofBits .f32 0x40000000#32 = ((2 : ℝ) : EReal) := by
  simp [Ideal.ofBits, Ideal.ieee, -EReal.coe_mul]; norm_num

theorem ofBits_one : Ideal.ofBits .f32 0x3F800000#32 = (1 : EReal) := by
  refine Eq.trans (b := ((1 : ℝ) : EReal)) ?_ rfl
  simp [Ideal.ofBits, Ideal.ieee, -EReal.coe_mul]; norm_num

theorem ofBits_mean : Ideal.ofBits .f32 0x3A800000#32 = ((1 / 1024 : ℝ) : EReal) := by
  simp [Ideal.ofBits, Ideal.ieee, -EReal.coe_mul]; norm_num

theorem ofBits_half_mean : Ideal.ofBits .f32 0x3A000000#32 = ((1 / 2048 : ℝ) : EReal) := by
  simp [Ideal.ofBits, Ideal.ieee, -EReal.coe_mul]; norm_num

/-- Half the gradient of a square, over the row's length, is the difference over the row's length. -/
theorem half_two (x : EReal) : Ideal.div (Ideal.ofBits .f32 0x3F000000#32 * Ideal.ofBits .f32 0x3F800000#32) (Ideal.ofBits .f32 0x44800000#32)
    * (Ideal.ofBits .f32 0x40000000#32 * x) = x * Ideal.ofBits .f32 0x3A800000#32 := by
  rw [ofBits_one, ofBits_two, ofBits_mean, ofBits_1024, Cert.Scalars.ofBits_half, mul_one, Ideal.div_coe (by norm_num), ← EReal.coe_mul,
    ← mul_assoc, ← EReal.coe_mul, mul_comm]
  norm_num

theorem dy_ref (r : Fin 16384) (k : Fin 1024) : val_main_v62 (F := Ideal) A.x0 A.x1 A.x2 A.x3 A.x4 A.x5 A.x6 (ix2 r k) = dy A r k := by
  refine Eq.trans ?_ (half_two _)
  pointwise [val_main_v62, val_main_v61, val_main_v60, val_main_v59, val_main_v58, val_main_v57, val_main_v51, val_main_v50, val_main_cst_10, val_main_cst_15, val_main_cst_16, val_main_cst_17]
  rw [diff_ref]

theorem dyg_ref (r : Fin 16384) (k : Fin 1024) : val_main_v67 (F := Ideal) A.x0 A.x1 A.x2 A.x3 A.x4 A.x5 A.x6 (ix2 r k) = dyg A r k := by
  pointwise [val_main_v67, val_main_v66, val_main_v45, dyg]
  rw [dy_ref]

theorem dgf_ref (k : Fin 1024) : val_main_v64 (F := Ideal) A.x0 A.x1 A.x2 A.x3 A.x4 A.x5 A.x6 (ix1 k) = dgf A k := by
  pointwise [val_main_v64, val_main_v63, val_main_cst_18, dgf]
  exact Finset.sum_congr rfl fun r _ => by rw [n4_ref, dy_ref, mul_comm]

/-- The arguments' elements are real numbers. -/
structure Args.Real : Prop where
  h0 : ∀ i, IsReal (A.x0 i)
  h1 : ∀ i, IsReal (A.x1 i)
  h2 : ∀ i, IsReal (A.x2 i)
  h3 : ∀ i, IsReal (A.x3 i)
  h4 : ∀ i, IsReal (A.x4 i)
  h5 : ∀ i, IsReal (A.x5 i)
  h6 : ∀ i, IsReal (A.x6 i)

variable {A} (H : A.Real)

include H

theorem Args.Real.inv3 (r : Fin 16384) : IsReal (inv3 A r) := IsReal.rms fun k => H.h0 _
theorem Args.Real.n3 (r : Fin 16384) (k : Fin 1024) : IsReal (n3 A r k) := (H.h0 _).mul (H.inv3 r)
theorem Args.Real.n3g (r : Fin 16384) (k : Fin 1024) : IsReal (n3g A r k) := (H.n3 r k).mul (H.h3 _)
theorem Args.Real.q (r : Fin 16384) (j : Fin 1024) : IsReal (q A r j) := IsReal.sum _ fun k => (H.n3g r k).mul (H.h4 _)
theorem Args.Real.pg (r : Fin 16384) (j : Fin 1024) : IsReal (pg A r j) := (H.q r j).logistic
theorem Args.Real.e (r : Fin 16384) (j : Fin 1024) : IsReal (e A r j) := IsReal.sum _ fun k => (H.h1 _).mul (H.h5 _)
theorem Args.Real.sum3 (r : Fin 16384) (j : Fin 1024) : IsReal (LossMath.h3 A r j) := (H.h0 _).add ((H.pg r j).mul (H.e r j))
theorem Args.Real.inv4 (r : Fin 16384) : IsReal (inv4 A r) := IsReal.rms fun k => H.sum3 r k
theorem Args.Real.n4 (r : Fin 16384) (k : Fin 1024) : IsReal (n4 A r k) := (H.sum3 r k).mul (H.inv4 r)
theorem Args.Real.diff (r : Fin 16384) (k : Fin 1024) : IsReal (diff A r k) := ((H.n4 r k).mul (H.h6 _)).sub (H.h2 _)
theorem Args.Real.dy (r : Fin 16384) (k : Fin 1024) : IsReal (dy A r k) := (H.diff r k).mul ⟨_, ofBits_mean⟩
theorem Args.Real.dyg (r : Fin 16384) (k : Fin 1024) : IsReal (dyg A r k) := (H.dy r k).mul (H.h6 _)

theorem Args.Real.mean {x : EReal} (hx : IsReal x) : IsReal (Ideal.div x (Ideal.ofBits .f32 0x44800000#32)) := by
  rw [ofBits_1024]
  exact hx.div (by norm_num)

theorem Args.Real.dh3 (r : Fin 16384) (k : Fin 1024) : IsReal (dh3 A r k) :=
  (H.inv4 r).mul ((H.dyg r k).sub ((H.n4 r k).mul (H.mean (IsReal.sum _ fun k => (H.dyg r k).mul (H.n4 r k)))))

theorem Args.Real.dq (r : Fin 16384) (k : Fin 1024) : IsReal (dq A r k) :=
  (((H.dh3 r k).mul (H.e r k)).mul (H.pg r k)).mul (IsReal.one.sub (H.pg r k))

theorem Args.Real.dv (r : Fin 16384) (k : Fin 1024) : IsReal (dv A r k) := IsReal.sum _ fun j => (H.dq r j).mul (H.h4 _)
theorem Args.Real.dn (r : Fin 16384) (k : Fin 1024) : IsReal (dn A r k) := (H.dv r k).mul (H.h3 _)

theorem dh3_ref (r : Fin 16384) (k : Fin 1024) : val_main_v82 (F := Ideal) A.x0 A.x1 A.x2 A.x3 A.x4 A.x5 A.x6 (ix2 r k) = dh3 A r k := by
  refine Eq.trans ?_ (norm_grad (h := fun k => LossMath.h3 A r k) (q := fun k => dyg A r k) (fun k => H.sum3 r k) (fun k => H.dyg r k) k).symm
  pointwise [val_main_v82, val_main_v81, val_main_v80, val_main_v79, val_main_v78, val_main_v77, val_main_cst_22, val_main_v76, val_main_v75, val_main_cst_21, val_main_v74, val_main_v73, val_main_v72, val_main_v71, val_main_v70, val_main_cst_20, val_main_v69, val_main_v42, val_main_v41, val_main_cst_9, val_main_v40]
  simp only [Finset.univ_unique, Finset.sum_singleton, Fin.default_eq_zero, Fin.isValue, inv4_ref, meanSq4_ref, h3_ref, dyg_ref]
  rfl

theorem de_ref (r : Fin 16384) (k : Fin 1024) : val_main_v83 (F := Ideal) A.x0 A.x1 A.x2 A.x3 A.x4 A.x5 A.x6 (ix2 r k) = de A r k := by
  pointwise [val_main_v83, de]
  rw [pg_ref, dh3_ref H, mul_comm]

theorem dq_ref (r : Fin 16384) (k : Fin 1024) : val_main_v85 (F := Ideal) A.x0 A.x1 A.x2 A.x3 A.x4 A.x5 A.x6 (ix2 r k) = dq A r k := by
  pointwise [val_main_v85, val_main_v84, val_main_v29, val_main_v28, val_main_v27, val_main_cst_5, dq]
  rw [pg_ref, dh3_ref H, e_ref, mul_assoc (_ * _) (pg A r k)]

theorem dv_ref (r : Fin 16384) (k : Fin 1024) : val_main_v88 (F := Ideal) A.x0 A.x1 A.x2 A.x3 A.x4 A.x5 A.x6 (ix2 r k) = dv A r k := by
  pointwise [val_main_v88, val_main_v19, dv]
  simp only [dq_ref H]

theorem dn_ref (r : Fin 16384) (k : Fin 1024) : val_main_v94 (F := Ideal) A.x0 A.x1 A.x2 A.x3 A.x4 A.x5 A.x6 (ix2 r k) = dn A r k := by
  pointwise [val_main_v94, val_main_v93, val_main_v16, val_main_v2, dn]
  rw [dv_ref H]

theorem dh2_ref (r : Fin 16384) (k : Fin 1024) : val_main_v110 (F := Ideal) A.x0 A.x1 A.x2 A.x3 A.x4 A.x5 A.x6 (ix2 r k) = dh2 A r k := by
  have hn := norm_grad (h := fun k => A.x0 (ix2 r k)) (q := fun k => dn A r k) (fun k => H.h0 _) (fun k => H.dn r k) k
  refine Eq.trans ?_ (congrArg (dh3 A r k + ·) hn.symm)
  pointwise [val_main_v110, val_main_v109, val_main_v108, val_main_v107, val_main_v106, val_main_v105, val_main_cst_27, val_main_v104, val_main_v103, val_main_cst_26, val_main_v102, val_main_v101, val_main_v100, val_main_v99, val_main_v98, val_main_v97, val_main_cst_25, val_main_v96, val_main_v13, val_main_v12, val_main_cst_2, val_main_v11]
  simp only [Finset.univ_unique, Finset.sum_singleton, Fin.default_eq_zero, Fin.isValue, inv3_ref, meanSq3_ref, dn_ref H, dh3_ref H, add_assoc]
  rfl

theorem dwg_ref (k j : Fin 1024) : val_main_v115 (F := Ideal) A.x0 A.x1 A.x2 A.x3 A.x4 A.x5 A.x6 (ix2 k j) = dwg A k j := by
  pointwise [val_main_v115, val_main_v89, val_main_v87, val_main_v86, dwg]
  exact Finset.sum_congr rfl fun r _ => by rw [dq_ref H, n3g_ref, mul_comm]

theorem dwp_ref (k : Fin 256) (j : Fin 1024) : val_main_v116 (F := Ideal) A.x0 A.x1 A.x2 A.x3 A.x4 A.x5 A.x6 (ix2 k j) = dwp A k j := by
  pointwise [val_main_v116, val_main_v114, val_main_v113, val_main_v112, dwp]
  exact Finset.sum_congr rfl fun r _ => by rw [de_ref H, mul_comm]

theorem dgp_ref (k : Fin 1024) : val_main_v91 (F := Ideal) A.x0 A.x1 A.x2 A.x3 A.x4 A.x5 A.x6 (ix1 k) = dgp A k := by
  pointwise [val_main_v91, val_main_v90, val_main_cst_23, dgp]
  exact Finset.sum_congr rfl fun r _ => by rw [n3_ref, dv_ref H, mul_comm]

omit H in
/-- The rows of the reference's padded array. -/
theorem vec0_ref (k : Fin 1024) : val_main_v119 (F := Ideal) A.x0 A.x1 A.x2 A.x3 A.x4 A.x5 A.x6 (ix2 0 k) = dgf A k := by
  pointwise [val_main_v119, val_main_call0_v0, val_main_c, val_main_v118, val_main_v117, val_main_v68, val_main_cst_19, val_main_v65]
  simp only [Finset.univ_unique, Finset.sum_singleton]
  exact dgf_ref A k

theorem vec1_ref (k : Fin 1024) : val_main_v119 (F := Ideal) A.x0 A.x1 A.x2 A.x3 A.x4 A.x5 A.x6 (ix2 1 k) = dgp A k := by
  pointwise [val_main_v119, val_main_call0_v0, val_main_c, val_main_v118, val_main_v111, val_main_v95, val_main_cst_24, val_main_v92]
  simp only [Finset.univ_unique, Finset.sum_singleton]
  exact dgp_ref H k

omit H in
theorem pad_ref (a : Fin 8) (h0 : a.val ≠ 0) (h1 : a.val ≠ 1) (k : Fin 1024) : val_main_v119 (F := Ideal) A.x0 A.x1 A.x2 A.x3 A.x4 A.x5 A.x6 (ix2 a k) = 0 := by
  pointwise [val_main_v119, val_main_call0_v0, val_main_c]
  rw [dif_neg (by omega)]
  exact Cert.Scalars.sitofp_zero

theorem loss_ref (i : S_.Idx) : val_main_v56 (F := Ideal) A.x0 A.x1 A.x2 A.x3 A.x4 A.x5 A.x6 i
    = (∑ r : Fin 16384, sq A r) * Ideal.ofBits .f32 0x3A000000#32 := by
  have hs (r : Fin 16384) : IsReal (sq A r) := IsReal.sum _ fun k => (H.diff r k).mul (H.diff r k)
  choose s hs using hs
  refine Eq.trans (b := Ideal.ofBits .f32 0x3F000000#32 * ∑ r : Fin 16384, Ideal.div (sq A r) (Ideal.ofBits .f32 0x44800000#32)) ?_ ?_
  · pointwise [val_main_v56, val_main_v55, val_main_v54, val_main_v53, val_main_v52, val_main_v49, val_main_cst_11, val_main_cst_12, val_main_cst_13, val_main_cst_14, sq]
    simp only [diff_ref]
  · simp only [hs, ofBits_1024, Cert.Scalars.ofBits_half, ofBits_half_mean, Ideal.div_coe (show (1024 : ℝ) ≠ 0 by norm_num), ← EReal.coe_mul, ← coe_sum]
    rw [← Finset.sum_mul]
    generalize (∑ i, s i) = x
    exact congrArg Real.toEReal (by ring)

end Cert.LossMath

end
-- ==== Proof.LossValue.lean ====
/- The value facts of the loss head's call: what each result array holds after the run. -/
module

public import proofs.«01_k».proof.Proof.Gen.LossIdeal.Frame
public import proofs.«01_k».proof.Proof.LossMath
public import proofs.«01_k».proof.Proof.Rows
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open scoped BigOperators

namespace Cert.LossIdeal.Value

open Cert.LossIdeal Cert.LossIdeal.Gen Cert.LossMath

variable (m : (ℓ : Loc nD τ sig) → Buf (Elt Ideal) ℓ)

/-- Every window's block index at a grid point. -/
theorem idx_val : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val, 0]
    ∧ win0_9.index t = ![0, 0]
    ∧ win0_10.index t = ![0, 0]
    ∧ win0_11.index t = ![0, 0] :=
  (by decide +kernel : ∀ t : Fin grid0.N, _)

variable (c : Dev nD) (t : Fin cfg0.N)

/-- The arguments. -/
abbrev args : Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)

/-- The arguments are finite. -/
abbrev Real : Prop := (args m c).Real

theorem row_lt (a : Fin 512) : t.val * 512 + a.val < 16384 := by
  have h : t.val < 32 := t.isLt
  have h' := a.isLt
  omega

/-- The array's row behind row `a` of block `t`. -/
abbrev row (a : Fin 512) : Fin 16384 := ⟨t.val * 512 + a.val, row_lt t a⟩

theorem read_0 (a : Fin 512) (k : Fin 1024) : iblk m c 0 t (ix2 a k) = (args m c).x0 (ix2 (row t a) k) := by
  blk_ext [iblk, V, idx_val t]

theorem read_1 (a : Fin 512) (k : Fin 256) : iblk m c 1 t (ix2 a k) = (args m c).x1 (ix2 (row t a) k) := by
  blk_ext [iblk, V, idx_val t]

theorem read_2 (a : Fin 512) (k : Fin 1024) : iblk m c 2 t (ix2 a k) = (args m c).x2 (ix2 (row t a) k) := by
  blk_ext [iblk, V, idx_val t]

theorem read_3 (k : Fin 1024) : iblk m c 3 t (ix2 0 k) = (args m c).x3 (ix2 0 k) := by
  blk_ext [iblk, V, idx_val t]

theorem host_4 (k j : Fin 1024) : V m c main_v1 (ix2 k j) = (args m c).x4 (ix3 0 k j) := by
  unfold V
  after_reads_at

theorem read_4 (k j : Fin 1024) : iblk m c 4 t (ix2 k j) = (args m c).x4 (ix3 0 k j) := by
  refine Eq.trans ?_ (host_4 m c k j)
  blk_ext [iblk, idx_val t]

theorem host_5 (k : Fin 256) (j : Fin 1024) : V m c main_v3 (ix2 k j) = (args m c).x5 (ix3 0 k j) := by
  unfold V
  after_reads_at

theorem read_5 (k : Fin 256) (j : Fin 1024) : iblk m c 5 t (ix2 k j) = (args m c).x5 (ix3 0 k j) := by
  refine Eq.trans ?_ (host_5 m c k j)
  blk_ext [iblk, idx_val t]

theorem host_6 (k : Fin 1024) : V m c main_v4 (ix2 0 k) = (args m c).x6 (ix1 k) := by
  unfold V
  after_reads_at

theorem read_6 (k : Fin 1024) : iblk m c 6 t (ix2 0 k) = (args m c).x6 (ix1 k) := by
  refine Eq.trans ?_ (host_6 m c k)
  blk_ext [iblk, idx_val t]

/-- The arrays a point computes, by name. -/
abbrev inv3B : FVec Ideal S512x1 .f32 := k0_pay6 (F := Ideal) (iblk m c 0 t)
abbrev n3B : FVec Ideal S512x1024 .f32 := k0_pay7 (F := Ideal) (iblk m c 0 t)
abbrev n3gB : FVec Ideal S512x1024 .bf16 := k0_pay8 (F := Ideal) (iblk m c 0 t) (iblk m c 3 t)
abbrev pB : FVec Ideal S512x256 .bf16 := k0_pay9 (F := Ideal) (iblk m c 1 t)
abbrev eB : FVec Ideal S512x1024 .f32 := k0_pay10 (F := Ideal) (iblk m c 1 t) (iblk m c 5 t)
abbrev pgB : FVec Ideal S512x1024 .f32 := k0_pay11 (F := Ideal) (iblk m c 0 t) (iblk m c 3 t) (iblk m c 4 t)
abbrev h3B : FVec Ideal S512x1024 .f32 := k0_pay12 (F := Ideal) (iblk m c 0 t) (iblk m c 3 t) (iblk m c 1 t) (iblk m c 4 t) (iblk m c 5 t)
abbrev sumB : FVec Ideal S512 .f32 := k0_pay13 (F := Ideal) (iblk m c 0 t) (iblk m c 3 t) (iblk m c 1 t) (iblk m c 4 t) (iblk m c 5 t)
abbrev inv4B : FVec Ideal S512x1 .f32 := k0_pay14 (F := Ideal) (sumB m c t)
abbrev n4B : FVec Ideal S512x1024 .f32 := k0_pay15 (F := Ideal) (h3B m c t) (sumB m c t)
abbrev diffB : FVec Ideal S512x1024 .f32 := k0_pay16 (F := Ideal) (h3B m c t) (sumB m c t) (iblk m c 6 t) (iblk m c 2 t)
abbrev dyB : FVec Ideal S512x1024 .f32 := k0_pay18 (F := Ideal) (h3B m c t) (sumB m c t) (iblk m c 6 t) (iblk m c 2 t)
abbrev dygB : FVec Ideal S512x1024 .f32 := k0_pay20 (F := Ideal) (h3B m c t) (sumB m c t) (iblk m c 6 t) (iblk m c 2 t) (iblk m c 6 t)
abbrev dygnB : FVec Ideal S512x1024 .f32 := k0_pay21 (F := Ideal) (h3B m c t) (sumB m c t) (iblk m c 6 t) (iblk m c 2 t) (iblk m c 6 t)
abbrev dh3B : FVec Ideal S512x1024 .f32 := k0_pay22 (F := Ideal) (inv4B m c t) (n4B m c t) (dygB m c t) (dygnB m c t)
abbrev dqB : FVec Ideal S512x1024 .bf16 := k0_pay23 (F := Ideal) (eB m c t) (pgB m c t) (inv4B m c t) (n4B m c t) (dygB m c t) (dygnB m c t)
abbrev dvB : FVec Ideal S512x1024 .f32 := k0_pay24 (F := Ideal) (eB m c t) (pgB m c t) (inv4B m c t) (n4B m c t) (dygB m c t) (dygnB m c t) (iblk m c 4 t)
abbrev dh2B : FVec Ideal S512x1024 .f32 := k0_pay1 (F := Ideal) (inv3B m c t) (n3B m c t) (dh3B m c t) (dvB m c t) (iblk m c 3 t)

theorem inv3_ker (a : Fin 512) : inv3B m c t (ix2 a 0) = inv3 (args m c) (row t a) := by
  pointwise [k0_pay6]
  simp only [read_0]
  rfl

theorem n3_ker (a : Fin 512) (k : Fin 1024) : n3B m c t (ix2 a k) = n3 (args m c) (row t a) k := by
  pointwise [k0_pay7]
  simp only [read_0, inv3_ker]
  rfl

theorem n3g_ker (a : Fin 512) (k : Fin 1024) : n3gB m c t (ix2 a k) = n3g (args m c) (row t a) k := by
  pointwise [k0_pay8]
  simp only [read_3, n3_ker]
  rfl

theorem p_ker (a : Fin 512) (k : Fin 256) : pB m c t (ix2 a k) = (args m c).x1 (ix2 (row t a) k) := by
  pointwise [k0_pay9]
  simp only [read_1]

theorem e_ker (a : Fin 512) (k : Fin 1024) : eB m c t (ix2 a k) = e (args m c) (row t a) k := by
  pointwise [k0_pay10]
  simp only [p_ker, read_5]
  rfl

theorem pg_ker (a : Fin 512) (k : Fin 1024) : pgB m c t (ix2 a k) = pg (args m c) (row t a) k := by
  pointwise [k0_pay11]
  simp only [Cert.Scalars.half_tanh, n3g_ker, read_4]
  rfl

theorem h3_ker (a : Fin 512) (k : Fin 1024) : h3B m c t (ix2 a k) = h3 (args m c) (row t a) k := by
  pointwise [k0_pay12]
  simp only [e_ker, pg_ker, read_0]
  rfl

theorem inv4_ker (a : Fin 512) : inv4B m c t (ix2 a 0) = inv4 (args m c) (row t a) := by
  pointwise [k0_pay14, k0_pay13]
  simp only [h3_ker]
  rfl

theorem n4_ker (a : Fin 512) (k : Fin 1024) : n4B m c t (ix2 a k) = n4 (args m c) (row t a) k := by
  pointwise [k0_pay15]
  simp only [h3_ker, inv4_ker]
  rfl

theorem diff_ker (a : Fin 512) (k : Fin 1024) : diffB m c t (ix2 a k) = diff (args m c) (row t a) k := by
  pointwise [k0_pay16]
  simp only [n4_ker, read_6, read_2]
  rfl

theorem dy_ker (a : Fin 512) (k : Fin 1024) : dyB m c t (ix2 a k) = dy (args m c) (row t a) k := by
  pointwise [k0_pay18]
  simp only [diff_ker]
  rfl

theorem dyg_ker (a : Fin 512) (k : Fin 1024) : dygB m c t (ix2 a k) = dyg (args m c) (row t a) k := by
  pointwise [k0_pay20]
  simp only [dy_ker, read_6]
  rfl

theorem dygn_ker (a : Fin 512) (k : Fin 1024) : dygnB m c t (ix2 a k) = dyg (args m c) (row t a) k * n4 (args m c) (row t a) k := by
  pointwise [k0_pay21]
  simp only [dyg_ker, n4_ker]

theorem dh3_ker (a : Fin 512) (k : Fin 1024) : dh3B m c t (ix2 a k) = dh3 (args m c) (row t a) k := by
  pointwise [k0_pay22]
  simp only [dyg_ker, dygn_ker, n4_ker, inv4_ker]
  rfl

theorem dq_ker (a : Fin 512) (k : Fin 1024) : dqB m c t (ix2 a k) = dq (args m c) (row t a) k := by
  pointwise [k0_pay23]
  simp only [dh3_ker, e_ker, pg_ker]
  rfl

theorem dv_ker (a : Fin 512) (k : Fin 1024) : dvB m c t (ix2 a k) = dv (args m c) (row t a) k := by
  pointwise [k0_pay24]
  simp only [dq_ker, read_4]
  rfl

theorem dh2_ker (a : Fin 512) (k : Fin 1024) : dh2B m c t (ix2 a k) = dh2 (args m c) (row t a) k := by
  pointwise [k0_pay1]
  simp only [dh3_ker, dv_ker, n3_ker, inv3_ker, read_3]
  rfl

/-- The reference's second result, at the arguments. -/
abbrev ref_dh2 := Cert.LossRefIdeal.Read.val_main_v110 (F := Ideal) (args m c).x0 (args m c).x1 (args m c).x2 (args m c).x3 (args m c).x4 (args m c).x5 (args m c).x6

theorem point_8 (H : Real m c) (y : S512x1024.Idx) : dh2B m c t y = ref_dh2 m c (((cfg0.win 8).blk t).view.emb y) := by
  obtain ⟨a, k, rfl⟩ : ∃ (a : Fin 512) (k : Fin 1024), y = ix2 a k := ⟨y (0 : Fin 2), y (1 : Fin 2), eq_ix2 y⟩
  have e : ((cfg0.win 8).blk t).view.emb (ix2 a k) = ix2 (row t a) k := by blk_ext [idx_val t]
  exact (dh2_ker m c t a k).trans ((congrArg _ e).trans (dh2_ref H (row t a) k)).symm

theorem final_8 (H : Real m c) : (dats m 0 c).arrAt 8 (cfgs 0).N = ref_dh2 m c := by
  refine (dats m 0 c).arrAt_eq_of_covers 8 _ (by decide +kernel) fun t hf y => ?_
  blk_simp; rw [after0_8]
  by_cases h : t.val % 32 = 0
  · rw [outsAt0_A m c t h]; dsimp only; frame_out
    exact point_8 m c t H y
  · rw [outsAt0_B m c t h]; dsimp only; frame_out
    exact point_8 m c t H y

/-- The sums of the blocks' rows are the sum over all rows. -/
theorem all_rows (t : Fin cfg0.N) (hl : ∀ s : Fin 32, 32 * (t.val / 32) + s.val < cfg0.N) (f : Fin 16384 → EReal) :
    ∑ s : Fin 32, ∑ a : Fin 512, f (row ⟨32 * (t.val / 32) + s.val, hl s⟩ a) = ∑ r : Fin 16384, f r := by
  refine Fin.sum_mul_add_congr fun s k hl' => ?_
  have h : t.val / 32 = 0 := by have : t.val < 32 := t.isLt; omega
  refine congrArg f (Fin.ext ?_)
  show (32 * (t.val / 32) + s.val) * 512 + k.val = s.val * 512 + k.val
  omega

/-- What one block of rows adds to each of the four sums over rows. -/
def added_7 : S1x1.Idx → EReal := fun _ => ∑ a : Fin 512, sq (args m c) (row t a)
def added_9 : S1024x1024.Idx → EReal := fun y => ∑ a : Fin 512, n3g (args m c) (row t a) (y (0 : Fin 2)) * dq (args m c) (row t a) (y (1 : Fin 2))
def added_10 : S256x1024.Idx → EReal := fun y => ∑ a : Fin 512, (args m c).x1 (ix2 (row t a) (y (0 : Fin 2))) * de (args m c) (row t a) (y (1 : Fin 2))
def added_11 : S8x1024.Idx → EReal :=
  Cert.Rows.added [(1, fun k => ∑ a : Fin 512, dv (args m c) (row t a) k * n3 (args m c) (row t a) k),
    (0, fun k => ∑ a : Fin 512, dy (args m c) (row t a) k * n4 (args m c) (row t a) k)]

theorem step_7 (x : FVec Ideal S1x1 .f32) (y : S1x1.Idx) :
    k0_pay17 (F := Ideal) (h3B m c t) (sumB m c t) (iblk m c 6 t) (iblk m c 2 t) x y = x y + added_7 m c t y := by
  obtain ⟨a, k, rfl⟩ : ∃ (a k : Fin 1), y = ix2 a k := ⟨y (0 : Fin 2), y (1 : Fin 2), eq_ix2 y⟩
  pointwise [k0_pay17, added_7]
  simp only [diff_ker]
  rfl

theorem step_9 (x : FVec Ideal S1024x1024 .f32) (y : S1024x1024.Idx) :
    k0_pay25 (F := Ideal) (n3gB m c t) (eB m c t) (pgB m c t) (inv4B m c t) (n4B m c t) (dygB m c t) (dygnB m c t) x y = x y + added_9 m c t y := by
  obtain ⟨a, k, rfl⟩ : ∃ (a k : Fin 1024), y = ix2 a k := ⟨y (0 : Fin 2), y (1 : Fin 2), eq_ix2 y⟩
  pointwise [k0_pay25, added_9]
  simp only [n3g_ker, dq_ker]

theorem step_10 (x : FVec Ideal S256x1024 .f32) (y : S256x1024.Idx) :
    k0_pay26 (F := Ideal) (pB m c t) (pgB m c t) (inv4B m c t) (n4B m c t) (dygB m c t) (dygnB m c t) x y = x y + added_10 m c t y := by
  obtain ⟨a, k, rfl⟩ : ∃ (a : Fin 256) (k : Fin 1024), y = ix2 a k := ⟨y (0 : Fin 2), y (1 : Fin 2), eq_ix2 y⟩
  pointwise [k0_pay26, added_10]
  simp only [p_ker, dh3_ker, pg_ker]
  rfl

theorem row_0 (r : FVec Ideal S1x1024 .f32) (k : Fin 1024) :
    k0_pay19 (F := Ideal) (h3B m c t) (sumB m c t) (iblk m c 6 t) (iblk m c 2 t) r (ix2 0 k)
    = r (ix2 0 k) + ∑ a : Fin 512, dy (args m c) (row t a) k * n4 (args m c) (row t a) k := by
  pointwise [k0_pay19]
  simp only [dy_ker, n4_ker]

theorem row_1 (r : FVec Ideal S1x1024 .f32) (k : Fin 1024) :
    k0_pay27 (F := Ideal) (n3B m c t) (eB m c t) (pgB m c t) (inv4B m c t) (n4B m c t) (dygB m c t) (dygnB m c t) (iblk m c 4 t) r (ix2 0 k)
    = r (ix2 0 k) + ∑ a : Fin 512, dv (args m c) (row t a) k * n3 (args m c) (row t a) k := by
  pointwise [k0_pay27]
  simp only [dv_ker, n3_ker]

theorem zero_7 (y : S1x1.Idx) : k0_pay2 (F := Ideal) y = (0 : EReal) := by pointwise [k0_pay2]
theorem zero_9 (y : S1024x1024.Idx) : k0_pay3 (F := Ideal) y = (0 : EReal) := by pointwise [k0_pay3]
theorem zero_10 (y : S256x1024.Idx) : k0_pay4 (F := Ideal) y = (0 : EReal) := by pointwise [k0_pay4]
theorem zero_11 (y : S8x1024.Idx) : k0_pay5 (F := Ideal) y = (0 : EReal) := by pointwise [k0_pay5]

theorem run_7 (hf : (cfg0.win 7).flush t = true) (y : S1x1.Idx) :
    (outsAt0 m c t.val t.isLt).1 y = ∑ s : Fin 32, added_7 m c ⟨32 * (t.val / 32) + s.val, Pipeline.run_point_lt_of_flush t ((flush0_7 t).mp hf) s⟩ y := by
  rw [Pipeline.eq_sum_fin_of_reset_step_apply_of_flush (fun n h => (outsAt0 m c n h).1) 32 (fun _ => 0)
    (fun t j => added_7 m c t j)
    (fun t h j => by
      rw [outsAt0_A m c t h]; dsimp only; frame_out
      exact (step_7 m c t _ j).trans (congrArg (· + _) (zero_7 j)))
    (fun t h j => by
      rw [outsAt0_B m c t h]; dsimp only; frame_out
      exact step_7 m c t _ j)
    t ((flush0_7 t).mp hf) _, zero_add]

theorem run_9 (hf : (cfg0.win 9).flush t = true) (y : S1024x1024.Idx) :
    (outsAt0 m c t.val t.isLt).2.2.1 y = ∑ s : Fin 32, added_9 m c ⟨32 * (t.val / 32) + s.val, Pipeline.run_point_lt_of_flush t ((flush0_9 t).mp hf) s⟩ y := by
  rw [Pipeline.eq_sum_fin_of_reset_step_apply_of_flush (fun n h => (outsAt0 m c n h).2.2.1) 32 (fun _ => 0)
    (fun t j => added_9 m c t j)
    (fun t h j => by
      rw [outsAt0_A m c t h]; dsimp only; frame_out
      exact (step_9 m c t _ j).trans (congrArg (· + _) (zero_9 j)))
    (fun t h j => by
      rw [outsAt0_B m c t h]; dsimp only; frame_out
      exact step_9 m c t _ j)
    t ((flush0_9 t).mp hf) _, zero_add]

theorem run_10 (hf : (cfg0.win 10).flush t = true) (y : S256x1024.Idx) :
    (outsAt0 m c t.val t.isLt).2.2.2.1 y = ∑ s : Fin 32, added_10 m c ⟨32 * (t.val / 32) + s.val, Pipeline.run_point_lt_of_flush t ((flush0_10 t).mp hf) s⟩ y := by
  rw [Pipeline.eq_sum_fin_of_reset_step_apply_of_flush (fun n h => (outsAt0 m c n h).2.2.2.1) 32 (fun _ => 0)
    (fun t j => added_10 m c t j)
    (fun t h j => by
      rw [outsAt0_A m c t h]; dsimp only; frame_out
      exact (step_10 m c t _ j).trans (congrArg (· + _) (zero_10 j)))
    (fun t h j => by
      rw [outsAt0_B m c t h]; dsimp only; frame_out
      exact step_10 m c t _ j)
    t ((flush0_10 t).mp hf) _, zero_add]

theorem run_11 (hf : (cfg0.win 11).flush t = true) (y : S8x1024.Idx) :
    (outsAt0 m c t.val t.isLt).2.2.2.2 y = ∑ s : Fin 32, added_11 m c ⟨32 * (t.val / 32) + s.val, Pipeline.run_point_lt_of_flush t ((flush0_11 t).mp hf) s⟩ y := by
  rw [Pipeline.eq_sum_fin_of_reset_step_apply_of_flush (fun n h => (outsAt0 m c n h).2.2.2.2) 32 (fun _ => 0)
    (fun t j => added_11 m c t j)
    (fun t h j => by
      rw [outsAt0_A m c t h]; frame_out
      rw [Cert.Rows.canon_row, Cert.Rows.canon_row, Cert.Rows.readCov_row, Cert.Rows.readCov_row, Cert.Rows.canon_row, View.canon_cons_unit_lit _ _ _ (by decide)]
      rw [Cert.Rows.row_put_ne _ _ _ _ _ (by decide)]
      conv_rhs => lhs; rw [← zero_11 j]
      exact Cert.Rows.step _ _ 1 (by decide) _ _ _ (row_1 m c t _) j (Cert.Rows.step _ _ 0 (by decide) _ _ _ (row_0 m c t _) j (Cert.Rows.base _ j)))
    (fun t h j => by
      rw [outsAt0_B m c t h]; frame_out
      rw [Cert.Rows.read_writes_row, Cert.Rows.read_writes_row, Cert.Rows.ld_row, Cert.Rows.ld_row]
      rw [View.writes_nil, Memref.IsWhole.read_unread]
      exact Cert.Rows.step _ _ 1 (by decide) _ _ _ (row_1 m c t _) j (Cert.Rows.step _ _ 0 (by decide) _ _ _ (row_0 m c t _) j (Cert.Rows.base _ j)))
    t ((flush0_11 t).mp hf) _, zero_add]

/-- The reference's other arrays, at the arguments. -/
abbrev ref_dwg := Cert.LossRefIdeal.Read.val_main_v115 (F := Ideal) (args m c).x0 (args m c).x1 (args m c).x2 (args m c).x3 (args m c).x4 (args m c).x5 (args m c).x6
abbrev ref_dwp := Cert.LossRefIdeal.Read.val_main_v116 (F := Ideal) (args m c).x0 (args m c).x1 (args m c).x2 (args m c).x3 (args m c).x4 (args m c).x5 (args m c).x6
abbrev ref_vec := Cert.LossRefIdeal.Read.val_main_v119 (F := Ideal) (args m c).x0 (args m c).x1 (args m c).x2 (args m c).x3 (args m c).x4 (args m c).x5 (args m c).x6

/-- The sum of all squared differences. -/
def total : S1x1.Idx → EReal := fun _ => ∑ r : Fin 16384, sq (args m c) r

theorem final_7 : (dats m 0 c).arrAt 7 (cfgs 0).N = total m c := by
  refine (dats m 0 c).arrAt_eq_of_covers 7 _ (by decide +kernel) fun t hf y => ?_
  blk_simp
  rw [after0_7]
  exact (run_7 m c t hf y).trans (all_rows t _ fun r => sq (args m c) r)

theorem final_9 (H : Real m c) : (dats m 0 c).arrAt 9 (cfgs 0).N = ref_dwg m c := by
  refine (dats m 0 c).arrAt_eq_of_covers 9 _ (by decide +kernel) fun t hf y => ?_
  blk_simp
  rw [after0_9]
  obtain ⟨a, k, rfl⟩ : ∃ (a k : Fin 1024), y = ix2 a k := ⟨y (0 : Fin 2), y (1 : Fin 2), eq_ix2 y⟩
  have e : ((cfg0.win 9).blk t).view.emb (ix2 a k) = ix2 a k := by blk_ext [idx_val t]
  exact (run_9 m c t hf _).trans ((all_rows t _ fun r => n3g (args m c) r a * dq (args m c) r k).trans ((congrArg _ e).trans (dwg_ref H a k)).symm)

theorem final_10 (H : Real m c) : (dats m 0 c).arrAt 10 (cfgs 0).N = ref_dwp m c := by
  refine (dats m 0 c).arrAt_eq_of_covers 10 _ (by decide +kernel) fun t hf y => ?_
  blk_simp
  rw [after0_10]
  obtain ⟨a, k, rfl⟩ : ∃ (a : Fin 256) (k : Fin 1024), y = ix2 a k := ⟨y (0 : Fin 2), y (1 : Fin 2), eq_ix2 y⟩
  have e : ((cfg0.win 10).blk t).view.emb (ix2 a k) = ix2 a k := by blk_ext [idx_val t]
  exact (run_10 m c t hf _).trans ((all_rows t _ fun r => (args m c).x1 (ix2 r a) * de (args m c) r k).trans ((congrArg _ e).trans (dwp_ref H a k)).symm)

theorem added_zero (k : Fin 1024) : added_11 m c t (ix2 0 k) = ∑ a : Fin 512, dy (args m c) (row t a) k * n4 (args m c) (row t a) k := by
  unfold added_11 Cert.Rows.added Cert.Rows.added
  exact (if_neg (by show ¬(0 : ℕ) = 1; decide)).trans (if_pos rfl)

theorem added_one (k : Fin 1024) : added_11 m c t (ix2 1 k) = ∑ a : Fin 512, dv (args m c) (row t a) k * n3 (args m c) (row t a) k := by
  unfold added_11 Cert.Rows.added
  exact if_pos rfl

theorem added_rest (a : Fin 8) (h0 : a.val ≠ 0) (h1 : a.val ≠ 1) (k : Fin 1024) : added_11 m c t (ix2 a k) = 0 := by
  unfold added_11 Cert.Rows.added Cert.Rows.added
  exact (if_neg h1).trans (if_neg h0)

theorem sum_11 (H : Real m c) (hl : ∀ s : Fin 32, 32 * (t.val / 32) + s.val < cfg0.N) (a : Fin 8) (k : Fin 1024) :
    ∑ s : Fin 32, added_11 m c ⟨32 * (t.val / 32) + s.val, hl s⟩ (ix2 a k) = ref_vec m c (ix2 a k) := by
  by_cases h0 : a.val = 0
  · obtain rfl : a = 0 := Fin.ext h0
    exact (Finset.sum_congr rfl fun s _ => added_zero m c _ k).trans ((all_rows t hl fun r => dy (args m c) r k * n4 (args m c) r k).trans (vec0_ref k).symm)
  by_cases h1 : a.val = 1
  · obtain rfl : a = 1 := Fin.ext h1
    exact (Finset.sum_congr rfl fun s _ => added_one m c _ k).trans ((all_rows t hl fun r => dv (args m c) r k * n3 (args m c) r k).trans (vec1_ref H k).symm)
  · refine Eq.trans ?_ (pad_ref a h0 h1 k).symm
    exact Finset.sum_eq_zero (M := EReal) fun s _ => added_rest m c _ a h0 h1 k

theorem final_11 (H : Real m c) : (dats m 0 c).arrAt 11 (cfgs 0).N = ref_vec m c := by
  refine (dats m 0 c).arrAt_eq_of_covers 11 _ (by decide +kernel) fun t hf y => ?_
  blk_simp
  rw [after0_11]
  obtain ⟨a, k, rfl⟩ : ∃ (a : Fin 8) (k : Fin 1024), y = ix2 a k := ⟨y (0 : Fin 2), y (1 : Fin 2), eq_ix2 y⟩
  have e : ((cfg0.win 11).blk t).view.emb (ix2 a k) = ix2 a k := by blk_ext [idx_val t]
  exact (run_11 m c t hf _).trans ((sum_11 m c t H _ a k).trans (congrArg _ e).symm)

end Cert.LossIdeal.Value

end
-- ==== Proof.LossPair.lean ====
/- The loss head's call against the loss and its derivative. -/
module

public import proofs.«01_k».proof.Defs
public import proofs.«01_k».proof.Proof.LossValue
public import proofs.«01_k».proof.Proof.FfnPair
public import proofs.«01_k».proof.Proof.Gen.LossRefIdeal.Run
public import proofs.«01_k».proof.Proof.Gen.Pre_loss_finite
public import Idealize.ShloMosaic.Lib.Claim
public import Idealize.ShloMosaic.Lib.ReduceAll

@[expose] public section

set_option maxRecDepth 200000

noncomputable section

namespace Cert.LossPair

open Idealize.ShloMosaic Idealize.SL.Sem Cert.Reals

/-- The reference ends with its arguments unchanged and every semaphore counter at zero: it declares none. -/
theorem frame_ref : Cert.quiescent_LossRefIdeal := fun m g _ =>
  (θ_run Cert.LossRefIdeal.defs _ _).mono
    (fun r h => ⟨fun c => (h c).2.2.2.2.2, sem_eq_zero_of_no_sems (by decide) r.2⟩)
    (Cert.LossRefIdeal.Value.run m g)

/-- The precondition's elements are real numbers. -/
theorem finite (m : (ℓ : Loc Cert.LossIdeal.nD Cert.LossIdeal.τ Cert.LossIdeal.sig) → Buf (Elt Ideal) ℓ) (h : Cert.Pre_LossIdeal_loss_finite m)
    (c : Dev Cert.LossIdeal.nD) : Cert.LossIdeal.Value.Real m c := by
  have e := congrFun (h c) (fun a => a.elim0)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i => Cert.FfnPair.isReal_of_lt _ ?_, fun i => Cert.FfnPair.isReal_of_lt _ ?_, fun i => Cert.FfnPair.isReal_of_lt _ ?_, fun i => Cert.FfnPair.isReal_of_lt _ ?_, fun i => Cert.FfnPair.isReal_of_lt _ ?_, fun i => Cert.FfnPair.isReal_of_lt _ ?_, fun i => Cert.FfnPair.isReal_of_lt _ ?_⟩
  · exact Host.reduce_andi_eq_one _ _ _ _ _ e0 i (Subsingleton.elim _ _)
  · exact Host.reduce_andi_eq_one _ _ _ _ _ e1 i (Subsingleton.elim _ _)
  · exact Host.reduce_andi_eq_one _ _ _ _ _ e2 i (Subsingleton.elim _ _)
  · exact Host.reduce_andi_eq_one _ _ _ _ _ e3 i (Subsingleton.elim _ _)
  · exact Host.reduce_andi_eq_one _ _ _ _ _ e4 i (Subsingleton.elim _ _)
  · exact Host.reduce_andi_eq_one _ _ _ _ _ e5 i (Subsingleton.elim _ _)
  · exact Host.reduce_andi_eq_one _ _ _ _ _ e6 i (Subsingleton.elim _ _)

open Cert.LossIdeal in
open Cert.LossIdeal.Gen in
/-- The host lines after the launch scale the sum. -/
theorem tail_scaled (W : Valuation Cert.LossIdeal.τ Cert.LossIdeal.sig (Elt Ideal)) (i : Cert.LossIdeal.S_.Idx) :
    StableHlo.after ([hostOps1 (F := Ideal)].flatten) W (Proc.devRef .tc main_v7) i
      = (show EReal from W (Proc.devRef .tc main_v5_0) (ix2 0 0)) * Ideal.ofBits .f32 0x3A000000#32 := by
  after_reads_at

open Cert.LossIdeal in
open Cert.LossIdeal.Gen in
/-- The loss after those lines. -/
theorem final_loss (m : (ℓ : Loc Cert.LossIdeal.nD Cert.LossIdeal.τ Cert.LossIdeal.sig) → Buf (Elt Ideal) ℓ) (c : Dev Cert.LossIdeal.nD) (H : Cert.LossIdeal.Value.Real m c) :
    Pipeline.afterTail₀ cfgs (dats m) 0 (V0 m) [hostOps1 (F := Ideal)] c main_v7
      = Cert.LossRefIdeal.Read.val_main_v56 (F := Ideal) (Cert.LossIdeal.Value.args m c).x0 (Cert.LossIdeal.Value.args m c).x1 (Cert.LossIdeal.Value.args m c).x2 (Cert.LossIdeal.Value.args m c).x3 (Cert.LossIdeal.Value.args m c).x4 (Cert.LossIdeal.Value.args m c).x5 (Cert.LossIdeal.Value.args m c).x6 := by
  refine funext fun (y : Cert.LossIdeal.S_.Idx) => ?_
  unfold Pipeline.afterTail₀
  refine (tail_scaled _ y).trans ?_
  have e := Pipeline.withArrays_arr (τ := Cert.LossIdeal.τ) (cfgs 0).spec winFacts0.arr_inj c (V0 m c)
    (fun w => (dats m 0 c).arrAt w (cfgs 0).N) 7
  refine Eq.trans ?_ (Cert.LossMath.loss_ref H y).symm
  exact congrArg (· * Ideal.ofBits .f32 0x3A000000#32) (congrFun (e.trans (Cert.LossIdeal.Value.final_7 m c)) _)

/-- A function of seven arguments at equal arguments. -/
theorem agree {T0 T1 T2 T3 T4 T5 T6 R : Type}
    (f : T0 → T1 → T2 → T3 → T4 → T5 → T6 → R) {a0 b0 : T0} {a1 b1 : T1} {a2 b2 : T2} {a3 b3 : T3} {a4 b4 : T4} {a5 b5 : T5} {a6 b6 : T6}
    (h : a0 = b0 ∧ a1 = b1 ∧ a2 = b2 ∧ a3 = b3 ∧ a4 = b4 ∧ a5 = b5 ∧ a6 = b6) : f a0 a1 a2 a3 a4 a5 a6 = f b0 b1 b2 b3 b4 b5 b6 := by
  obtain ⟨rfl, rfl, rfl, rfl, rfl, rfl, rfl⟩ := h
  rfl

set_option maxHeartbeats 4000000 in
/-- The five results of the loss head's call are the reference's loss and its derivative, over the reals. -/
theorem algebraic : Cert.algebraic_LossIdeal_LossRefIdeal_pre_loss_finite := by
  pair_intro
  · run_from Cert.LossIdeal.Gen.run_main m g
    · exact Cert.LossIdeal.Gen.W_main_arg4 m (Cert.LossIdeal.Gen.dats m) c
    · exact Cert.LossIdeal.Gen.W_main_arg5 m (Cert.LossIdeal.Gen.dats m) c
    · exact Cert.LossIdeal.Gen.W_main_arg6 m (Cert.LossIdeal.Gen.dats m) c
  · run_from Cert.LossRefIdeal.Value.run m' g'
    · exact (Cert.LossRefIdeal.Read.val_main_v56_eq (StableHlo.launchContents m' c)).trans ((agree _ (hagree c)).trans (final_loss m c (finite m hpre c)).symm)
    · rw [← (hagree c).1]
      exact (Cert.LossRefIdeal.Read.val_main_v110_eq (StableHlo.launchContents m' c)).trans ((agree _ (hagree c)).trans (Cert.LossIdeal.Value.final_8 m c (finite m hpre c)).symm)
    · exact (Cert.LossRefIdeal.Read.val_main_v115_eq (StableHlo.launchContents m' c)).trans ((agree _ (hagree c)).trans (Cert.LossIdeal.Value.final_9 m c (finite m hpre c)).symm)
    · rw [← (hagree c).2.1]
      exact (Cert.LossRefIdeal.Read.val_main_v116_eq (StableHlo.launchContents m' c)).trans ((agree _ (hagree c)).trans (Cert.LossIdeal.Value.final_10 m c (finite m hpre c)).symm)
    · exact (Cert.LossRefIdeal.Read.val_main_v119_eq (StableHlo.launchContents m' c)).trans ((agree _ (hagree c)).trans (Cert.LossIdeal.Value.final_11 m c (finite m hpre c)).symm)

end Cert.LossPair

end
-- ==== Proof.LruKit.lean ====
/- The recurrence's backward call up to its one region: the host lines before it as one list, what each of them writes, and
   what the region finds in a buffer: an argument as it was launched, and at a buffer some line wrote what that line left. -/
module

public import proofs.«01_k».proof.Proof.Gen.LruIdeal.Launch
public import proofs.«01_k».proof.Proof.Gen.LruIdeal.Points
public import Idealize.ShloMosaic.Lib.StableHlo.RunRead
public import Idealize.ShloMosaic.Lib.Pipeline.FrameBody
public import Idealize.ShloMosaic.Lib.Tactic

@[expose] public section

set_option maxRecDepth 200000

noncomputable section

namespace Cert.LruBody

open Idealize.ShloMosaic Idealize.ShloMosaic.TcCoe Idealize.ShloMosaic.Tactic
open Idealize.SL Idealize.SL.RA Idealize.SL.BI
open scoped Idealize.SL.BI
open Idealize.ShloMosaic.Pipeline (Dat)
open Cert.LruIdeal Cert.LruIdeal.Gen

variable {F : FTy → Type} [FloatOps F]

/-- The host lines before the region, in order. -/
abbrev lines : List (HloOp τ sig (Elt F)) :=
  List.flatten [hostOps0, hostOps0_1, hostOps0_2, hostOps0_3, hostOps0_4]

/-- The buffer each of them writes, in the same order. -/
def written : List (Ref sig .tc) :=
  [ main_cst, main_v0, main_v1, main_v2, main_v3, main_v4, main_v5, main_v6,
    main_v7, main_cst_0, main_v8, main_v9, main_v10, main_v11, main_v12, main_v13,
    main_v14, main_v15, main_v16, main_v17, main_v18, main_v19, main_v20, main_v21,
    main_v22, main_v23, main_v24, main_v25, main_v26, main_v27, main_v28, main_v29,
    main_v30, main_v31, main_v32, main_v33, main_v34, main_v35, main_v36, main_v37,
    main_v38, main_v39, main_v40, main_v41, main_v42, main_v43, main_v44, main_cst_1,
    main_v45, main_v46, main_cst_2, main_v47, main_v48, main_v49, main_v50, main_v51,
    main_v52, main_v53, main_v54, main_v55, main_v56, main_v57, main_v58, main_cst_3,
    main_v59, main_v60, main_cst_4, main_v61, main_v62, main_v63, main_cst_5, main_v64,
    main_v65, main_v66, main_v67, main_call0_cst, main_call0_v0, main_call0_v1, main_call0_v2, main_call0_v3,
    main_call0_v4, main_call0_v5, main_call0_v6, main_call0_v7, main_call0_v8, main_call0_v9, main_call0_v10, main_call0_v11,
    main_v68, main_v69, main_v70, main_v71, main_v72, main_cst_6, main_v73, main_v74,
    main_v75, main_cst_7, main_v76, main_v77, main_cst_8, main_v78, main_v79, main_v80,
    main_v81, main_c, main_v82, main_v83, main_v84, main_cst_9, main_call1_v0, main_call1_v1,
    main_call1_v2, main_v85, main_v86, main_v87, main_v88, main_v89, main_v90, main_v91,
    main_v92, main_v93, main_v94, main_v95, main_v96, main_v97, main_v98, main_v99,
    main_v100, main_v101, main_v102, main_v103, main_v104, main_v105, main_v106, main_v107,
    main_v108, main_v109, main_v110, main_v111, main_v112, main_v113, main_v114, main_v115,
    main_v116, main_v117, main_v118, main_v119, main_v120, main_v121, main_v122, main_v123,
    main_v124, main_v125, main_v126, main_v127, main_v128, main_v129, main_v130, main_v131,
    main_v132, main_v133, main_v134, main_v135, main_v136, main_v137, main_v138, main_v139,
    main_v140, main_v141, main_v142, main_v143, main_v144, main_v145, main_v146, main_v147,
    main_v148, main_v149, main_v150, main_v151, main_v152, main_v153, main_v154, main_v155,
    main_v156, main_v157, main_v158, main_v159, main_v160, main_v161, main_v162, main_v163,
    main_v164, main_v165, main_v166, main_v167, main_v168, main_v169, main_v170, main_v171,
    main_v172, main_v173, main_v174, main_v175, main_v176, main_v177, main_v178, main_v179,
    main_v180, main_v181, main_v182, main_v183, main_v184, main_v185, main_v186, main_v187,
    main_v188, main_v189, main_v190, main_v191, main_v192, main_v193, main_v194, main_v195,
    main_v196, main_cst_10, main_v197, main_cst_11, main_v198, main_v199, main_cst_12, main_v200,
    main_cst_13, main_v201, main_v202, main_v203, main_v204, main_v205, main_v206, main_v207,
    main_v208, main_v209, main_v210, main_v211, main_v212, main_v213, main_cst_14, main_v214,
    main_cst_15, main_v215, main_v216, main_cst_16, main_v217, main_cst_17, main_v218, main_v219,
    main_v220, main_v221, main_v222, main_v223, main_v224, main_v225, main_v226, main_v227,
    main_v228, main_v229, main_v230, main_cst_18, main_v231, main_cst_19, main_v232, main_v233,
    main_cst_20, main_v234, main_cst_21, main_v235, main_v236, main_v237, main_v238, main_v239,
    main_v240, main_v241, main_v242, main_v243, main_v244, main_v245, main_v246, main_v247,
    main_cst_22, main_v248, main_cst_23, main_v249, main_v250, main_cst_24, main_v251, main_cst_25,
    main_v252, main_v253, main_v254, main_v255, main_v256, main_v257, main_v258, main_v259,
    main_v260, main_v261, main_v262, main_v263, main_v264, main_cst_26, main_v265, main_cst_27,
    main_v266, main_v267, main_cst_28, main_v268, main_cst_29, main_v269, main_v270, main_v271,
    main_v272, main_v273, main_v274, main_v275, main_v276, main_v277, main_v278, main_v279,
    main_v280, main_v281, main_cst_30, main_v282, main_cst_31, main_v283, main_v284, main_cst_32,
    main_v285, main_cst_33, main_v286, main_v287, main_v288, main_v289, main_v290, main_v291,
    main_v292, main_v293, main_v294, main_v295, main_v296, main_v297, main_v298, main_cst_34,
    main_v299, main_cst_35, main_v300, main_v301, main_cst_36, main_v302, main_cst_37, main_v303,
    main_v304, main_v305, main_v306, main_v307, main_v308, main_v309, main_v310, main_v311,
    main_v312, main_v313, main_v314, main_v315, main_cst_38, main_v316, main_cst_39, main_v317,
    main_v318, main_cst_40, main_v319, main_cst_41, main_v320, main_v321, main_v322, main_v323,
    main_v324, main_v325, main_v326, main_v327, main_v328, main_v329, main_v330, main_v331,
    main_v332, main_cst_42, main_v333, main_cst_43, main_v334, main_v335, main_cst_44, main_v336,
    main_cst_45, main_v337, main_v338, main_v339, main_v340, main_v341, main_v342, main_v343,
    main_v344, main_v345, main_v346, main_v347, main_v348, main_v349, main_cst_46, main_v350,
    main_cst_47, main_v351, main_v352, main_cst_48, main_v353, main_cst_49, main_v354, main_v355,
    main_v356, main_v357, main_v358, main_v359, main_v360, main_v361, main_v362, main_v363,
    main_v364, main_v365, main_v366, main_cst_50, main_v367, main_cst_51, main_v368, main_v369,
    main_cst_52, main_v370, main_cst_53, main_v371, main_v372, main_v373, main_v374, main_v375,
    main_v376, main_v377, main_v378, main_v379, main_v380, main_v381, main_v382, main_v383,
    main_cst_54, main_v384, main_cst_55, main_v385, main_v386, main_cst_56, main_v387, main_cst_57,
    main_v388, main_v389, main_v390, main_v391, main_v392, main_v393, main_v394, main_v395,
    main_v396, main_v397, main_v398, main_v399, main_v400, main_cst_58, main_v401, main_cst_59,
    main_v402, main_v403, main_cst_60, main_v404, main_cst_61, main_v405, main_v406, main_v407,
    main_v408, main_v409, main_v410, main_v411, main_v412, main_v413, main_v414, main_v415,
    main_v416, main_v417, main_cst_62, main_v418, main_cst_63, main_v419, main_v420, main_cst_64,
    main_v421, main_cst_65, main_v422, main_v423, main_v424, main_v425, main_v426, main_v427,
    main_v428, main_v429, main_v430, main_v431, main_cst_66, main_v432, main_v433, main_v434,
    main_v435, main_v436, main_v437, main_v438, main_v439, main_v440, main_cst_67, main_v441,
    main_v442, main_v443, main_v444, main_v445, main_v446, main_v447, main_v448 ]

set_option maxHeartbeats 4000000 in
theorem lines_writes : (lines (F := F)).map HloOp.writes = written.map fun w => {Proc.devRef (τ := τ) .tc w} := by
  sl_kernel_rfl

/-- Running two lists of lines one after the other is running their concatenation. -/
theorem after_both (l k : List (HloOp τ sig (Elt F))) (V0 : Valuation τ sig (Elt F)) :
    StableHlo.after (l ++ k) V0 = StableHlo.after k (StableHlo.after l V0) := by
  induction l generalizing V0 with
  | nil => rfl
  | cons op l ih => exact ih _

/-- A buffer that no line from `k` on writes holds before line `k` what it holds at the end. -/
theorem settled (k : ℕ) {r : Ref sig .tc} (h : r ∉ written.drop k) (V0 : Valuation τ sig (Elt F)) :
    StableHlo.upto lines V0 k (Proc.devRef .tc r) = StableHlo.after lines V0 (Proc.devRef .tc r) := by
  have hs : StableHlo.after lines V0 = StableHlo.after ((lines (F := F)).drop k) (StableHlo.after ((lines (F := F)).take k) V0) := by
    rw [← after_both, List.take_append_drop]
  rw [hs]
  refine (StableHlo.after_unwritten (written.drop k) ?_ h _).symm
  rw [List.map_drop, lines_writes, List.map_drop]

/-- A buffer whose last writer is line `k` holds at the end what that line left. -/
theorem left_by (k : ℕ) {op : HloOp τ sig (Elt F)} {r : Ref sig .tc} (hk : lines.drop k = op :: lines.drop (k + 1))
    (h : r ∉ written.drop (k + 1)) (V0 : Valuation τ sig (Elt F)) :
    StableHlo.after lines V0 (Proc.devRef .tc r) = op.result (StableHlo.upto lines V0 k) (Proc.devRef .tc r) :=
  StableHlo.after_last_write (written.drop (k + 1)) hk (by rw [List.map_drop, lines_writes, List.map_drop]) h V0

variable (m : (ℓ : Loc nD τ sig) → Buf (Elt F) ℓ)

/-- What core `c`'s buffers hold when the region is entered. -/
abbrev V (c : Dev nD) (b : Ref sig .tc) : Buf (Elt F) ((c : Thread nD τ).loc b) :=
  StableHlo.after lines (fun b => m (c, b)) b

theorem lines_fresh : [hostOps0, hostOps0_1, hostOps0_2, hostOps0_3, hostOps0_4].Forall
    fun l => (l : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    lines_fresh main_chain

/-- A buffer no line writes is found as it was launched. -/
theorem V_launched (c : Dev nD) {r : Ref sig .tc} (h : r ∉ written) : V m c r = m ((c : Thread nD τ).loc r) :=
  StableHlo.after_unwritten written lines_writes h _

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem V_main_arg0 (c : Dev nD) : V m c main_arg0 = m ((c : Thread nD τ).loc main_arg0) := V_launched m c (by decide +kernel)
theorem V_main_arg1 (c : Dev nD) : V m c main_arg1 = m ((c : Thread nD τ).loc main_arg1) := V_launched m c (by decide +kernel)
theorem V_main_arg2 (c : Dev nD) : V m c main_arg2 = m ((c : Thread nD τ).loc main_arg2) := V_launched m c (by decide +kernel)
theorem V_main_arg3 (c : Dev nD) : V m c main_arg3 = m ((c : Thread nD τ).loc main_arg3) := V_launched m c (by decide +kernel)
theorem V_main_arg4 (c : Dev nD) : V m c main_arg4 = m ((c : Thread nD τ).loc main_arg4) := V_launched m c (by decide +kernel)
theorem V_main_arg5 (c : Dev nD) : V m c main_arg5 = m ((c : Thread nD τ).loc main_arg5) := V_launched m c (by decide +kernel)
theorem V_main_arg6 (c : Dev nD) : V m c main_arg6 = m ((c : Thread nD τ).loc main_arg6) := V_launched m c (by decide +kernel)
theorem V_main_arg7 (c : Dev nD) : V m c main_arg7 = m ((c : Thread nD τ).loc main_arg7) := V_launched m c (by decide +kernel)
theorem V_main_arg8 (c : Dev nD) : V m c main_arg8 = m ((c : Thread nD τ).loc main_arg8) := V_launched m c (by decide +kernel)
theorem V_main_arg9 (c : Dev nD) : V m c main_arg9 = m ((c : Thread nD τ).loc main_arg9) := V_launched m c (by decide +kernel)
theorem V_main_arg10 (c : Dev nD) : V m c main_arg10 = m ((c : Thread nD τ).loc main_arg10) := V_launched m c (by decide +kernel)

end Cert.LruBody

end
-- ==== Proof.LruStores.lean ====
/- The body of the recurrence's backward call, part by part: each part keeps the operands, leaves every other buffer but one
   at something, and what the projection's gradient ends at is named. -/
module

public import proofs.«01_k».proof.Proof.Gen.LruIdeal.Launch
public import proofs.«01_k».proof.Proof.Gen.LruIdeal.Skeleton
public import proofs.«01_k».proof.Proof.Gen.LruIdeal.Points
public import proofs.«01_k».proof.Proof.Gen.LruIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.LruKit

@[expose] public section

set_option maxRecDepth 16384

noncomputable section

namespace Cert.LruBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)
open Cert.LruIdeal Cert.LruIdeal.Gen

variable {F : FTy → Type} [FloatOps F]

local notation "𝕄" => MT nD τ sig Unit (Elt F) ℕ (UR sig nD τ) ℕ

/-- The buffers the body is handed, in its order, each a whole buffer. -/
structure Bufs where
  a0 : Memref sig .tc .vmem S256x1024 .bf16
  h0 : a0.IsWhole
  a1 : Memref sig .tc .vmem S256x1024 .f32
  h1 : a1.IsWhole
  a2 : Memref sig .tc .vmem S8x1024 .f32
  h2 : a2.IsWhole
  a3 : Memref sig .tc .vmem S256x1024 .f32
  h3 : a3.IsWhole
  a4 : Memref sig .tc .vmem S256x1024 .f32
  h4 : a4.IsWhole
  a5 : Memref sig .tc .vmem S8x1024 .f32
  h5 : a5.IsWhole
  a6 : Memref sig .tc .vmem S256x1024 .bf16
  h6 : a6.IsWhole
  a7 : Memref sig .tc .vmem S256x1024 .bf16
  h7 : a7.IsWhole
  a8 : Memref sig .tc .vmem S256x1024 .bf16
  h8 : a8.IsWhole
  a9 : Memref sig .tc .vmem S4x1024 .f32
  h9 : a9.IsWhole
  a10 : Memref sig .tc .vmem S4x256x256 .bf16
  h10 : a10.IsWhole
  a11 : Memref sig .tc .vmem S4x256x256 .bf16
  h11 : a11.IsWhole
  a12 : Memref sig .tc .vmem S1x1024 .f32
  h12 : a12.IsWhole
  a13 : Memref sig .tc .vmem S1024x1024 .bf16
  h13 : a13.IsWhole
  a14 : Memref sig .tc .vmem S256x1024 .bf16
  h14 : a14.IsWhole
  a15 : Memref sig .tc .vmem S256x1024 .bf16
  h15 : a15.IsWhole
  a16 : Memref sig .tc .vmem S1024x1024 .f32
  h16 : a16.IsWhole
  a17 : Memref sig .tc .vmem S4x256x256 .f32
  h17 : a17.IsWhole
  a18 : Memref sig .tc .vmem S4x256x256 .f32
  h18 : a18.IsWhole
  a19 : Memref sig .tc .vmem S8x1024 .f32
  h19 : a19.IsWhole
  a20 : Memref sig .tc .vmem S256x1024 .f32
  h20 : a20.IsWhole
  a21 : Memref sig .tc .vmem S256x1024 .f32
  h21 : a21.IsWhole
  a22 : Memref sig .tc .vmem S256x1024 .f32
  h22 : a22.IsWhole
  a23 : Memref sig .tc .vmem S8x1024 .f32
  h23 : a23.IsWhole
  a24 : Memref sig .tc .vmem S8x1024 .f32
  h24 : a24.IsWhole
  a25 : Memref sig .tc .vmem S8x1024 .f32
  h25 : a25.IsWhole

/-- What the fourteen operands hold. -/
structure Ins (F : FTy → Type) where
  x0 : Vec F S256x1024 .bf16
  x1 : Vec F S256x1024 .f32
  x2 : Vec F S8x1024 .f32
  x3 : Vec F S256x1024 .f32
  x4 : Vec F S256x1024 .f32
  x5 : Vec F S8x1024 .f32
  x6 : Vec F S256x1024 .bf16
  x7 : Vec F S256x1024 .bf16
  x8 : Vec F S256x1024 .bf16
  x9 : Vec F S4x1024 .f32
  x10 : Vec F S4x256x256 .bf16
  x11 : Vec F S4x256x256 .bf16
  x12 : Vec F S1x1024 .f32
  x13 : Vec F S1024x1024 .bf16

/-- The body on these buffers. -/
abbrev Bufs.body (b : Bufs) (i : grid0.Coords) : Prog (TpuEff nD τ sig (Elt F) Λ₀ .tc) PUnit :=
  cc0_b2_lru i b.a0 b.h0 b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 b.a24 b.h24 b.a25 b.h25

/-- The operands' buffers hold the operands. -/
def Ins.held (x : Ins F) (b : Bufs) (c : Dev nD) : sProp 𝕄 :=
  iprop((b.a0.view.loc (c : Thread nD τ) ↦[b.a0.view.set]{fullShare} b.h0.unread x.x0) ∗ (b.a1.view.loc (c : Thread nD τ) ↦[b.a1.view.set]{fullShare} b.h1.unread x.x1) ∗ (b.a2.view.loc (c : Thread nD τ) ↦[b.a2.view.set]{fullShare} b.h2.unread x.x2) ∗ (b.a3.view.loc (c : Thread nD τ) ↦[b.a3.view.set]{fullShare} b.h3.unread x.x3) ∗ (b.a4.view.loc (c : Thread nD τ) ↦[b.a4.view.set]{fullShare} b.h4.unread x.x4) ∗ (b.a5.view.loc (c : Thread nD τ) ↦[b.a5.view.set]{fullShare} b.h5.unread x.x5) ∗ (b.a6.view.loc (c : Thread nD τ) ↦[b.a6.view.set]{fullShare} b.h6.unread x.x6) ∗ (b.a7.view.loc (c : Thread nD τ) ↦[b.a7.view.set]{fullShare} b.h7.unread x.x7) ∗ (b.a8.view.loc (c : Thread nD τ) ↦[b.a8.view.set]{fullShare} b.h8.unread x.x8) ∗ (b.a9.view.loc (c : Thread nD τ) ↦[b.a9.view.set]{fullShare} b.h9.unread x.x9) ∗ (b.a10.view.loc (c : Thread nD τ) ↦[b.a10.view.set]{fullShare} b.h10.unread x.x10) ∗ (b.a11.view.loc (c : Thread nD τ) ↦[b.a11.view.set]{fullShare} b.h11.unread x.x11) ∗ (b.a12.view.loc (c : Thread nD τ) ↦[b.a12.view.set]{fullShare} b.h12.unread x.x12) ∗ (b.a13.view.loc (c : Thread nD τ) ↦[b.a13.view.set]{fullShare} b.h13.unread x.x13))

/-- Every buffer whose contents the proof does not follow, at something: the other results and the scratch. -/
def Bufs.rest (b : Bufs) (c : Dev nD) : sProp 𝕄 :=
  iprop((∃ f : BufTy.Contents (Elt F) b.a14.view.ty, b.a14.view.loc (c : Thread nD τ) ↦[b.a14.view.set]{fullShare} f) ∗ (∃ f : BufTy.Contents (Elt F) b.a15.view.ty, b.a15.view.loc (c : Thread nD τ) ↦[b.a15.view.set]{fullShare} f) ∗ (∃ f : BufTy.Contents (Elt F) b.a17.view.ty, b.a17.view.loc (c : Thread nD τ) ↦[b.a17.view.set]{fullShare} f) ∗ (∃ f : BufTy.Contents (Elt F) b.a18.view.ty, b.a18.view.loc (c : Thread nD τ) ↦[b.a18.view.set]{fullShare} f) ∗ (∃ f : BufTy.Contents (Elt F) b.a19.view.ty, b.a19.view.loc (c : Thread nD τ) ↦[b.a19.view.set]{fullShare} f) ∗ (∃ f : BufTy.Contents (Elt F) b.a20.view.ty, b.a20.view.loc (c : Thread nD τ) ↦[b.a20.view.set]{fullShare} f) ∗ (∃ f : BufTy.Contents (Elt F) b.a21.view.ty, b.a21.view.loc (c : Thread nD τ) ↦[b.a21.view.set]{fullShare} f) ∗ (∃ f : BufTy.Contents (Elt F) b.a22.view.ty, b.a22.view.loc (c : Thread nD τ) ↦[b.a22.view.set]{fullShare} f) ∗ (∃ f : BufTy.Contents (Elt F) b.a23.view.ty, b.a23.view.loc (c : Thread nD τ) ↦[b.a23.view.set]{fullShare} f) ∗ (∃ f : BufTy.Contents (Elt F) b.a24.view.ty, b.a24.view.loc (c : Thread nD τ) ↦[b.a24.view.set]{fullShare} f) ∗ (∃ f : BufTy.Contents (Elt F) b.a25.view.ty, b.a25.view.loc (c : Thread nD τ) ↦[b.a25.view.set]{fullShare} f))

/-- The projection's gradient's buffer at `f`. -/
abbrev Bufs.grad (b : Bufs) (c : Dev nD) (f : BufTy.Contents (Elt F) b.a16.view.ty) : sProp 𝕄 :=
  iprop(b.a16.view.loc (c : Thread nD τ) ↦[b.a16.view.set]{fullShare} f)

/-- The first grid coordinate is zero: the body starts its sums anew. -/
abbrev Starts (i : grid0.Coords) : Prop :=
  (Scalar.cmpi .ne (Scalar.extui (Scalar.cmpi .eq (BitVec.ofNat 32 (i 0).val) 0#32)) 0#32) = 1#1

theorem starts_iff (t : Fin cfg0.N) : Starts (grid0.coords t) ↔ t.val % 64 = 0 := by
  have ht : t.val < 64 := Nat.lt_of_lt_of_eq t.isLt N_0
  have e0 : (grid0.coords t 0).val = t.val / 1 % 64 := Pipeline.Grid.coords_val t 0 (by decide) rfl
  simp only [Starts, e0]
  word_cmp

set_option maxHeartbeats 2000000 in
/-- The first part at the first point: the gradient is zeroed. -/
theorem part1_starts (c : Dev nD) (i : grid0.Coords) (b : Bufs) (x : Ins F) (hs : Starts i) (g : BufTy.Contents (Elt F) b.a16.view.ty) (E : Set ℕ) :
    iprop((x.held b c ∗ b.rest c) ∗ b.grad c g) ⊢ wp frame (wpE (defs₀ (F := F)) Variants.none c none) E
      (k0_part1 i b.a0 b.h0 b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 b.a24 b.h24 b.a25 b.h25) (fun r => iprop((x.held b c ∗ b.rest c) ∗ b.grad c (b.h16.unread k0_pay5)
        ∗ ⌜r.2.2.2.2.1 = k0_pay15 x.x4 ∧ r.2.2.2.2.2.1 = x.x3 ∧ r.2.2.2.2.2.2.2 = k0_pay17 x.x3⌝)) := by
  unfold Ins.held Bufs.rest Bufs.grad; rw [k0_part1_eq_skeleton]; unfold k0_part1_skel
  iintro ⟨⟨⟨H0, H1, H2, H3, H4, H5, H6, H7, H8, H9, H10, H11, H12, H13⟩, ⟨⟨%f14, H14⟩, ⟨%f15, H15⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩⟩⟩, HG⟩
  sl_exec
  sl_step
  isplitl [H0 H1 H2 H3 H4 H5 H6 H7 H8 H9 H10 H11 H12 H13 H14 H15 H17 H18 H19 H20 H21 H22 H23 H24 H25]; · sl_close
  isplitl [HG]
  · have e := b.h16.eq_unread (View.read_writes_full b.a16.view g inb_S1024x1024_S1024x1024_0_0 k0_pay5 [])
    rw [← e]; iexact HG
  ipureintro
  dsimp only
  refine ⟨congrArg k0_pay15 ?_, ?_, congrArg k0_pay17 ?_⟩
  · exact (View.readAt_full _ _ _).trans (b.h4.read_unread _)
  · exact (View.readAt_full _ _ _).trans (b.h3.read_unread _)
  · exact (View.readAt_full _ _ _).trans (b.h3.read_unread _)

set_option maxHeartbeats 2000000 in
/-- The first part at a later point: the gradient is as it was. -/
theorem part1_goes (c : Dev nD) (i : grid0.Coords) (b : Bufs) (x : Ins F) (hs : ¬Starts i) (o : Vec F S1024x1024 .f32) (E : Set ℕ) :
    iprop((x.held b c ∗ b.rest c) ∗ b.grad c (b.h16.unread o)) ⊢ wp frame (wpE (defs₀ (F := F)) Variants.none c none) E
      (k0_part1 i b.a0 b.h0 b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 b.a24 b.h24 b.a25 b.h25) (fun r => iprop((x.held b c ∗ b.rest c) ∗ b.grad c (b.h16.unread o)
        ∗ ⌜r.2.2.2.2.1 = k0_pay15 x.x4 ∧ r.2.2.2.2.2.1 = x.x3 ∧ r.2.2.2.2.2.2.2 = k0_pay17 x.x3⌝)) := by
  unfold Ins.held Bufs.rest Bufs.grad; rw [k0_part1_eq_skeleton]; unfold k0_part1_skel
  iintro ⟨⟨⟨H0, H1, H2, H3, H4, H5, H6, H7, H8, H9, H10, H11, H12, H13⟩, ⟨⟨%f14, H14⟩, ⟨%f15, H15⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩⟩⟩, HG⟩
  sl_exec
  sl_step
  isplitl [H0 H1 H2 H3 H4 H5 H6 H7 H8 H9 H10 H11 H12 H13 H14 H15 H17 H18 H19 H20 H21 H22 H23 H24 H25]; · sl_close
  isplitl [HG]; · iexact HG
  ipureintro
  dsimp only
  refine ⟨congrArg k0_pay15 ?_, ?_, congrArg k0_pay17 ?_⟩
  · exact (View.readAt_full _ _ _).trans (b.h4.read_unread _)
  · exact (View.readAt_full _ _ _).trans (b.h3.read_unread _)
  · exact (View.readAt_full _ _ _).trans (b.h3.read_unread _)

set_option maxHeartbeats 2000000 in
/-- The second part adds the block's product to the gradient. -/
theorem part2 (c : Dev nD) (i : grid0.Coords) (b : Bufs) (x : Ins F) (v31 : FVec F S256x1024 .f32) (v32 : Vec F S256x1024 .f32) (v33 : FVec F S256x1024 .f32) (v37 : FVec F S256x1024 .f32) (o : Vec F S1024x1024 .f32) (E : Set ℕ) :
    iprop((x.held b c ∗ b.rest c) ∗ b.grad c (b.h16.unread o)) ⊢ wp frame (wpE (defs₀ (F := F)) Variants.none c none) E
      (k0_part2 i b.a0 b.h0 b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 b.a24 b.h24 b.a25 b.h25 v31 v32 v33 v37)
      (fun _ => iprop((x.held b c ∗ b.rest c) ∗ b.grad c (b.h16.unread (k0_pay22 v31 v32 v37 x.x0 o)))) := by
  unfold Ins.held Bufs.rest Bufs.grad; rw [k0_part2_eq_skeleton]; unfold k0_part2_skel
  iintro ⟨⟨⟨H0, H1, H2, H3, H4, H5, H6, H7, H8, H9, H10, H11, H12, H13⟩, ⟨⟨%f14, H14⟩, ⟨%f15, H15⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩⟩⟩, HG⟩
  sl_exec
  sl_step
  isplitl [H0 H1 H2 H3 H4 H5 H6 H7 H8 H9 H10 H11 H12 H13 H14 H15 H17 H18 H19 H20 H21 H22 H23 H24 H25]; · sl_close
  have e := b.h16.eq_unread (View.read_writes_full b.a16.view (b.h16.unread o) inb_S1024x1024_S1024x1024_0_0 (k0_pay22 v31 v32 v37 x.x0 o) [])
  rw [← e]
  have e0 : View.readAt (Elt F) b.a0.view (Rect.unit ![0, 0] S256x1024.size inb_S256x1024_S256x1024_0_0).toLoadRect (b.h0.unread x.x0) = x.x0 :=
    (View.readAt_full _ _ _).trans (b.h0.read_unread _)
  have e1 : View.readAt (Elt F) b.a16.view (Rect.unit ![0, 0] S1024x1024.size inb_S1024x1024_S1024x1024_0_0).toLoadRect (b.h16.unread o) = o :=
    (View.readAt_full _ _ _).trans (b.h16.read_unread _)
  rw [e0, e1]
  iexact HG

set_option maxHeartbeats 2000000 in
/-- Part 3 keeps the operands. -/
theorem part3 (c : Dev nD) (i : grid0.Coords) (b : Bufs) (x : Ins F) (v18 : FVec F S1x1024 .f32) (v59 : FVec F S256x1024 .f32) (v71 : FVec F S256x1024 .f32) (E : Set ℕ) :
    iprop(x.held b c ∗ b.rest c) ⊢ wp frame (wpE (defs₀ (F := F)) Variants.none c none) E
      (k0_part3 i b.a0 b.h0 b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 b.a24 b.h24 b.a25 b.h25 v18 v59 v71) (fun _ => iprop(x.held b c ∗ b.rest c)) := by
  unfold Ins.held Bufs.rest; rw [k0_part3_eq_skeleton]; unfold k0_part3_skel
  iintro ⟨⟨H0, H1, H2, H3, H4, H5, H6, H7, H8, H9, H10, H11, H12, H13⟩, ⟨⟨%f14, H14⟩, ⟨%f15, H15⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩⟩⟩
  sl_exec
  sl_step
  sl_close

set_option maxHeartbeats 2000000 in
/-- Part 4 keeps the operands. -/
theorem part4 (c : Dev nD) (i : grid0.Coords) (b : Bufs) (x : Ins F) (v1 : BitVec 32) (v7 : F .f32) (v18 : FVec F S1x1024 .f32) (E : Set ℕ) :
    iprop(x.held b c ∗ b.rest c) ⊢ wp frame (wpE (defs₀ (F := F)) Variants.none c none) E
      (k0_part4 i b.a0 b.h0 b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 b.a24 b.h24 b.a25 b.h25 v1 v7 v18) (fun _ => iprop(x.held b c ∗ b.rest c)) := by
  unfold Ins.held Bufs.rest; rw [k0_part4_eq_skeleton]; unfold k0_part4_skel
  iintro ⟨⟨H0, H1, H2, H3, H4, H5, H6, H7, H8, H9, H10, H11, H12, H13⟩, ⟨⟨%f14, H14⟩, ⟨%f15, H15⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩⟩⟩
  sl_exec
  sl_step
  sl_close

set_option maxHeartbeats 2000000 in
/-- Part 5 keeps the operands. -/
theorem part5 (c : Dev nD) (i : grid0.Coords) (b : Bufs) (x : Ins F) (v1 : BitVec 32) (v18 : FVec F S1x1024 .f32) (v29 : FVec F S1x1024 .f32) (v108 : Vec F S256x1024 .f32) (v118 : FVec F S256x1024 .f32) (v121 : FVec F S256x1024 .f32) (v124 : FVec F S256x1024 .f32) (v129 : FVec F S256x1024 .f32) (v142 : FVec F S256x1024 .f32) (v146 : FVec F S8x1024 .f32) (v148 : FVec F S256x1024 .f32) (E : Set ℕ) :
    iprop(x.held b c ∗ b.rest c) ⊢ wp frame (wpE (defs₀ (F := F)) Variants.none c none) E
      (k0_part5 i b.a0 b.h0 b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 b.a24 b.h24 b.a25 b.h25 v1 v18 v29 v108 v118 v121 v124 v129 v142 v146 v148) (fun _ => iprop(x.held b c ∗ b.rest c)) := by
  unfold Ins.held Bufs.rest; rw [k0_part5_eq_skeleton]; unfold k0_part5_skel
  iintro ⟨⟨H0, H1, H2, H3, H4, H5, H6, H7, H8, H9, H10, H11, H12, H13⟩, ⟨⟨%f14, H14⟩, ⟨%f15, H15⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩⟩⟩
  sl_exec
  sl_step
  sl_close

set_option maxHeartbeats 2000000 in
/-- Part 6 keeps the operands. -/
theorem part6 (c : Dev nD) (i : grid0.Coords) (b : Bufs) (x : Ins F) (v184 : FVec F S256x1024 .f32) (v190 : FVec F S256x1024 .f32) (v192 : FVec F S1x1024 .f32) (E : Set ℕ) :
    iprop(x.held b c ∗ b.rest c) ⊢ wp frame (wpE (defs₀ (F := F)) Variants.none c none) E
      (k0_part6 i b.a0 b.h0 b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 b.a24 b.h24 b.a25 b.h25 v184 v190 v192) (fun _ => iprop(x.held b c ∗ b.rest c)) := by
  unfold Ins.held Bufs.rest; rw [k0_part6_eq_skeleton]; unfold k0_part6_skel
  iintro ⟨⟨H0, H1, H2, H3, H4, H5, H6, H7, H8, H9, H10, H11, H12, H13⟩, ⟨⟨%f14, H14⟩, ⟨%f15, H15⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩⟩⟩
  sl_exec
  sl_step
  sl_close

set_option maxHeartbeats 2000000 in
/-- Part 7 keeps the operands. -/
theorem part7 (c : Dev nD) (i : grid0.Coords) (b : Bufs) (x : Ins F) (v203 : FVec F S256x1024 .bf16) (v204 : FVec F S256x1024 .bf16) (v206 : FVec F S256x1024 .bf16) (v225 : FVec F S256x256 .bf16) (E : Set ℕ) :
    iprop(x.held b c ∗ b.rest c) ⊢ wp frame (wpE (defs₀ (F := F)) Variants.none c none) E
      (k0_part7 i b.a0 b.h0 b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 b.a24 b.h24 b.a25 b.h25 v203 v204 v206 v225) (fun _ => iprop(x.held b c ∗ b.rest c)) := by
  unfold Ins.held Bufs.rest; rw [k0_part7_eq_skeleton]; unfold k0_part7_skel
  iintro ⟨⟨H0, H1, H2, H3, H4, H5, H6, H7, H8, H9, H10, H11, H12, H13⟩, ⟨⟨%f14, H14⟩, ⟨%f15, H15⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩⟩⟩
  sl_exec
  sl_step
  sl_close

set_option maxHeartbeats 2000000 in
/-- Part 8 keeps the operands. -/
theorem part8 (c : Dev nD) (i : grid0.Coords) (b : Bufs) (x : Ins F) (v203 : FVec F S256x1024 .bf16) (v204 : FVec F S256x1024 .bf16) (v206 : FVec F S256x1024 .bf16) (v255 : FVec F S256x256 .f32) (v256 : FVec F S256x256 .bf16) (E : Set ℕ) :
    iprop(x.held b c ∗ b.rest c) ⊢ wp frame (wpE (defs₀ (F := F)) Variants.none c none) E
      (k0_part8 i b.a0 b.h0 b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 b.a24 b.h24 b.a25 b.h25 v203 v204 v206 v255 v256) (fun _ => iprop(x.held b c ∗ b.rest c)) := by
  unfold Ins.held Bufs.rest; rw [k0_part8_eq_skeleton]; unfold k0_part8_skel
  iintro ⟨⟨H0, H1, H2, H3, H4, H5, H6, H7, H8, H9, H10, H11, H12, H13⟩, ⟨⟨%f14, H14⟩, ⟨%f15, H15⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩⟩⟩
  sl_exec
  sl_step
  sl_close

set_option maxHeartbeats 2000000 in
/-- Part 9 keeps the operands. -/
theorem part9 (c : Dev nD) (i : grid0.Coords) (b : Bufs) (x : Ins F) (v108 : Vec F S256x1024 .f32) (v124 : FVec F S256x1024 .f32) (v142 : FVec F S256x1024 .f32) (v203 : FVec F S256x1024 .bf16) (v204 : FVec F S256x1024 .bf16) (v206 : FVec F S256x1024 .bf16) (v233 : FVec F S256x256 .f32) (v260 : FVec F S256x256 .f32) (v287 : FVec F S256x256 .f32) (E : Set ℕ) :
    iprop(x.held b c ∗ b.rest c) ⊢ wp frame (wpE (defs₀ (F := F)) Variants.none c none) E
      (k0_part9 i b.a0 b.h0 b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 b.a24 b.h24 b.a25 b.h25 v108 v124 v142 v203 v204 v206 v233 v260 v287) (fun _ => iprop(x.held b c ∗ b.rest c)) := by
  unfold Ins.held Bufs.rest; rw [k0_part9_eq_skeleton]; unfold k0_part9_skel
  iintro ⟨⟨H0, H1, H2, H3, H4, H5, H6, H7, H8, H9, H10, H11, H12, H13⟩, ⟨⟨%f14, H14⟩, ⟨%f15, H15⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩⟩⟩
  sl_exec
  sl_step
  sl_close

set_option maxHeartbeats 2000000 in
/-- Part 10 keeps the operands. -/
theorem part10 (c : Dev nD) (i : grid0.Coords) (b : Bufs) (x : Ins F) (v110 : FVec F S4x1024 .f32) (v115 : FVec F S264x1024 .f32) (v318 : FVec F S256x1024 .f32) (v320 : FVec F S1x1024 .f32) (v322 : FVec F S1x1024 .f32) (E : Set ℕ) :
    iprop(x.held b c ∗ b.rest c) ⊢ wp frame (wpE (defs₀ (F := F)) Variants.none c none) E
      (k0_part10 i b.a0 b.h0 b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 b.a24 b.h24 b.a25 b.h25 v110 v115 v318 v320 v322) (fun _ => iprop(x.held b c ∗ b.rest c)) := by
  unfold Ins.held Bufs.rest; rw [k0_part10_eq_skeleton]; unfold k0_part10_skel
  iintro ⟨⟨H0, H1, H2, H3, H4, H5, H6, H7, H8, H9, H10, H11, H12, H13⟩, ⟨⟨%f14, H14⟩, ⟨%f15, H15⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩⟩⟩
  sl_exec
  sl_step
  sl_close

/-- A part of the body that keeps `Φ`, whatever it returns, and then the rest of the body. -/
theorem part_then {α β : Type} {c : Dev nD} {E : Set ℕ} {Φ : sProp 𝕄} {K : β → sProp 𝕄}
    {p : Prog (TpuEff nD τ sig (Elt F) Λ₀ .tc) α} {q : α → Prog (TpuEff nD τ sig (Elt F) Λ₀ .tc) β} {Ψ : α → sProp 𝕄}
    (hp : Φ ⊢ wp frame (wpE (defs₀ (F := F)) Variants.none c none) E p Ψ) :
    iprop(Φ ∗ (∀ a, Ψ a -∗ wp frame (wpE (defs₀ (F := F)) Variants.none c none) E (q a) K))
      ⊢ wp frame (wpE (defs₀ (F := F)) Variants.none c none) E (p >>= q) K := by
  iintro ⟨HΦ, HK⟩
  simp only [wp_bind_eq]
  iapply (wp_wand_r frame (wpE (defs₀ (F := F)) Variants.none c none) E)
  isplitl [HΦ]
  · iapply hp; iexact HΦ
  iexact HK

/-- What a point adds to the projection's gradient `o`. -/
abbrev Ins.add (x : Ins F) (o : Vec F S1024x1024 .f32) : Vec F S1024x1024 .f32 :=
  k0_pay22 (k0_pay15 x.x4) x.x3 (k0_pay17 x.x3) x.x0 o

set_option maxHeartbeats 4000000 in
/-- The body at the first point. -/
theorem body_starts (c : Dev nD) (i : grid0.Coords) (b : Bufs) (x : Ins F) (hs : Starts i) (g : BufTy.Contents (Elt F) b.a16.view.ty) (E : Set ℕ) (K : PUnit → sProp 𝕄) :
    iprop(((x.held b c ∗ b.rest c) ∗ b.grad c g)
        ∗ (iprop(x.held b c ∗ b.rest c ∗ b.grad c (b.h16.unread (x.add k0_pay5))) -∗ K ⟨⟩))
      ⊢ wp frame (wpE (defs₀ (F := F)) Variants.none c none) E (b.body i) K := by
  unfold Bufs.body; rw [cc0_b2_lru_eq_skeleton]; unfold cc0_b2_lru_skel
  iintro ⟨HΦ, Hk⟩
  iapply (part_then (part1_starts c i b x hs g E))
  isplitl [HΦ]; · iexact HΦ
  iintro %r ⟨HΦ, HG, %e⟩
  obtain ⟨v1, v7, v18, v29, v31, v32, v33, v37⟩ := r
  dsimp only at e ⊢
  obtain ⟨rfl, rfl, rfl⟩ := e
  iapply (part_then (part2 c i b x _ _ v33 _ k0_pay5 E))
  isplitl [HΦ HG]
  · isplitl [HΦ]; · iexact HΦ
    iexact HG
  iintro %r ⟨HΦ, HG⟩; dsimp only
  iapply (part_then (part3 c i b x _ _ _ E))
  isplitl [HΦ]; · iexact HΦ
  iintro %r HΦ; dsimp only
  iapply (part_then (part4 c i b x _ _ _ E))
  isplitl [HΦ]; · iexact HΦ
  iintro %r HΦ; dsimp only
  iapply (part_then (part5 c i b x _ _ _ _ _ _ _ _ _ _ _ E))
  isplitl [HΦ]; · iexact HΦ
  iintro %r HΦ; dsimp only
  iapply (part_then (part6 c i b x _ _ _ E))
  isplitl [HΦ]; · iexact HΦ
  iintro %r HΦ; dsimp only
  iapply (part_then (part7 c i b x _ _ _ _ E))
  isplitl [HΦ]; · iexact HΦ
  iintro %r HΦ; dsimp only
  iapply (part_then (part8 c i b x _ _ _ _ _ E))
  isplitl [HΦ]; · iexact HΦ
  iintro %r HΦ; dsimp only
  iapply (part_then (part9 c i b x _ _ _ _ _ _ _ _ _ E))
  isplitl [HΦ]; · iexact HΦ
  iintro %r HΦ; dsimp only
  iapply (part_then (part10 c i b x _ _ _ _ _ E))
  isplitl [HΦ]; · iexact HΦ
  iintro %r HΦ; dsimp only
  unfold Ins.held Bufs.rest
  icases HΦ with ⟨⟨H0, H1, H2, H3, H4, H5, H6, H7, H8, H9, H10, H11, H12, H13⟩, ⟨⟨%f14, H14⟩, ⟨%f15, H15⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩⟩⟩
  sl_exec
  sl_step
  iapply Hk
  isplitl [H0 H1 H2 H3 H4 H5 H6 H7 H8 H9 H10 H11 H12 H13]; · sl_close
  isplitl [H14 H15 H17 H18 H19 H20 H21 H22 H23 H24 H25]; · sl_close
  iexact HG

set_option maxHeartbeats 4000000 in
/-- The body at a later point. -/
theorem body_goes (c : Dev nD) (i : grid0.Coords) (b : Bufs) (x : Ins F) (hs : ¬Starts i) (o : Vec F S1024x1024 .f32) (E : Set ℕ) (K : PUnit → sProp 𝕄) :
    iprop(((x.held b c ∗ b.rest c) ∗ b.grad c (b.h16.unread o))
        ∗ (iprop(x.held b c ∗ b.rest c ∗ b.grad c (b.h16.unread (x.add o))) -∗ K ⟨⟩))
      ⊢ wp frame (wpE (defs₀ (F := F)) Variants.none c none) E (b.body i) K := by
  unfold Bufs.body; rw [cc0_b2_lru_eq_skeleton]; unfold cc0_b2_lru_skel
  iintro ⟨HΦ, Hk⟩
  iapply (part_then (part1_goes c i b x hs o E))
  isplitl [HΦ]; · iexact HΦ
  iintro %r ⟨HΦ, HG, %e⟩
  obtain ⟨v1, v7, v18, v29, v31, v32, v33, v37⟩ := r
  dsimp only at e ⊢
  obtain ⟨rfl, rfl, rfl⟩ := e
  iapply (part_then (part2 c i b x _ _ v33 _ o E))
  isplitl [HΦ HG]
  · isplitl [HΦ]; · iexact HΦ
    iexact HG
  iintro %r ⟨HΦ, HG⟩; dsimp only
  iapply (part_then (part3 c i b x _ _ _ E))
  isplitl [HΦ]; · iexact HΦ
  iintro %r HΦ; dsimp only
  iapply (part_then (part4 c i b x _ _ _ E))
  isplitl [HΦ]; · iexact HΦ
  iintro %r HΦ; dsimp only
  iapply (part_then (part5 c i b x _ _ _ _ _ _ _ _ _ _ _ E))
  isplitl [HΦ]; · iexact HΦ
  iintro %r HΦ; dsimp only
  iapply (part_then (part6 c i b x _ _ _ E))
  isplitl [HΦ]; · iexact HΦ
  iintro %r HΦ; dsimp only
  iapply (part_then (part7 c i b x _ _ _ _ E))
  isplitl [HΦ]; · iexact HΦ
  iintro %r HΦ; dsimp only
  iapply (part_then (part8 c i b x _ _ _ _ _ E))
  isplitl [HΦ]; · iexact HΦ
  iintro %r HΦ; dsimp only
  iapply (part_then (part9 c i b x _ _ _ _ _ _ _ _ _ E))
  isplitl [HΦ]; · iexact HΦ
  iintro %r HΦ; dsimp only
  iapply (part_then (part10 c i b x _ _ _ _ _ E))
  isplitl [HΦ]; · iexact HΦ
  iintro %r HΦ; dsimp only
  unfold Ins.held Bufs.rest
  icases HΦ with ⟨⟨H0, H1, H2, H3, H4, H5, H6, H7, H8, H9, H10, H11, H12, H13⟩, ⟨⟨%f14, H14⟩, ⟨%f15, H15⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩⟩⟩
  sl_exec
  sl_step
  iapply Hk
  isplitl [H0 H1 H2 H3 H4 H5 H6 H7 H8 H9 H10 H11 H12 H13]; · sl_close
  isplitl [H14 H15 H17 H18 H19 H20 H21 H22 H23 H24 H25]; · sl_close
  iexact HG

end Cert.LruBody

end
-- ==== Proof.LruBody.lean ====
/- The recurrence's backward call over its grid: what every point leaves in the projection's gradient, and the run of the
   whole call with these contents. -/
module

public import proofs.«01_k».proof.Proof.LruStores

@[expose] public section

set_option maxRecDepth 16384

noncomputable section

namespace Cert.LruBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)
open Cert.LruIdeal Cert.LruIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the body is handed at point `t`. -/
abbrev bufs (t : Fin cfg0.N) : Bufs :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12), win0_13.stage (cfg0.slots t 13), hstage0_13 ((cfg0.slots t 13).cast nbuf0_13), win0_14.stage (cfg0.slots t 14), hstage0_14 ((cfg0.slots t 14).cast nbuf0_14), win0_15.stage (cfg0.slots t 15), hstage0_15 ((cfg0.slots t 15).cast nbuf0_15), win0_16.stage (cfg0.slots t 16), hstage0_16 ((cfg0.slots t 16).cast nbuf0_16), win0_17.stage (cfg0.slots t 17), hstage0_17 ((cfg0.slots t 17).cast nbuf0_17), win0_18.stage (cfg0.slots t 18), hstage0_18 ((cfg0.slots t 18).cast nbuf0_18), win0_19.stage (cfg0.slots t 19), hstage0_19 ((cfg0.slots t 19).cast nbuf0_19), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _⟩

/-- The operands at point `t`. -/
abbrev ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

/-- The projection's gradient after point `n`. -/
def left (c : Dev nD) : (n : ℕ) → n < cfg0.N → Vec F S1024x1024 .f32
  | 0, hn => (ins m c ⟨0, hn⟩).add k0_pay5
  | n + 1, hn => (ins m c ⟨n + 1, hn⟩).add (if (n + 1) % 64 = 0 then k0_pay5 else left c n (Nat.lt_of_succ_lt hn))

/-- What the point before `t` left. -/
abbrev prior (c : Dev nD) (t : Fin cfg0.N) := left m c (t.val - 1) (Nat.lt_of_le_of_lt (Nat.sub_le _ _) t.isLt)

theorem left_A (c : Dev nD) (t : Fin cfg0.N) (h : t.val % 64 = 0) :
    left m c t.val t.isLt = (ins m c t).add k0_pay5 := by
  obtain ⟨n, hn⟩ := t
  cases n with
  | zero => rfl
  | succ n => exact congrArg _ (if_pos h)

theorem left_B (c : Dev nD) (t : Fin cfg0.N) (h : ¬t.val % 64 = 0) :
    left m c t.val t.isLt = (ins m c t).add (prior m c t) := by
  obtain ⟨n, hn⟩ := t
  cases n with
  | zero => exact absurd (Nat.zero_mod _) h
  | succ n => exact congrArg _ (if_neg h)

/-! A buffer that holds `x`, and its contents. -/

theorem own_raw (c : Dev nD) {s : Shape} {e : EltTy} {a : Memref sig .tc .vmem s e} (h : a.IsWhole) (x : Vec F s e) :
    (owns (c : Thread nD τ) a fullShare x : sProp 𝕄) ⊢ (iprop(a.view.loc (c : Thread nD τ) ↦[a.view.set]{fullShare} h.unread x) : sProp 𝕄) := by
  unfold owns
  iintro ⟨%f, %e, H⟩
  obtain rfl := h.eq_unread e
  iexact H

theorem raw_own (c : Dev nD) {s : Shape} {e : EltTy} {a : Memref sig .tc .vmem s e} (h : a.IsWhole) (x : Vec F s e) :
    (iprop(a.view.loc (c : Thread nD τ) ↦[a.view.set]{fullShare} h.unread x) : sProp 𝕄) ⊢ (owns (c : Thread nD τ) a fullShare x : sProp 𝕄) := by
  unfold owns
  iintro H
  iexists _; isplitr; · ipureintro; exact h.read_unread _
  iexact H

theorem some_raw (c : Dev nD) {s : Shape} {e : EltTy} {a : Memref sig .tc .vmem s e} {d : Vec F s e} :
    (owns (c : Thread nD τ) a fullShare d : sProp 𝕄) ⊢ (iprop(∃ f : BufTy.Contents (Elt F) a.view.ty, a.view.loc (c : Thread nD τ) ↦[a.view.set]{fullShare} f) : sProp 𝕄) := by
  unfold owns
  iintro ⟨%f, -, H⟩
  iexists _; iexact H

theorem raw_some (c : Dev nD) {s : Shape} {e : EltTy} {a : Memref sig .tc .vmem s e} {f : BufTy.Contents (Elt F) a.view.ty} :
    (iprop(a.view.loc (c : Thread nD τ) ↦[a.view.set]{fullShare} f) : sProp 𝕄) ⊢ (iprop(∃ d, owns (c : Thread nD τ) a fullShare d) : sProp 𝕄) := by
  unfold owns
  iintro H
  iexists (a.view.read (Elt F) f); iexists f; isplitr; · ipureintro; exact rfl
  iexact H

/-- The results the proof says nothing of: all but the projection's gradient. -/
abbrev untold : Fin cfg0.W → Bool := fun w => Nat.ble 14 w.val && !(Nat.beq w.val 16)

/-- The proof data: every operand's block as fetched, the projection's gradient as `left`, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => left m c t.val t.isLt
    | ⟨17, _⟩ => iblk m c 17 t
    | ⟨18, _⟩ => iblk m c 18 t
    | ⟨19, _⟩ => iblk m c 19 t
    | ⟨_ + 20, h⟩ => absurd h (Nat.not_lt.2 (Nat.le_add_left _ _))
  Φ _ := iprop(((∃ d, owns (c : Thread nD τ) (Memref.whole cc0_scratch0 : Memref sig .tc .vmem S256x1024 .f32) fullShare d) ∗ (∃ d, owns (c : Thread nD τ) (Memref.whole cc0_scratch1 : Memref sig .tc .vmem S256x1024 .f32) fullShare d) ∗ (∃ d, owns (c : Thread nD τ) (Memref.whole cc0_scratch2 : Memref sig .tc .vmem S256x1024 .f32) fullShare d) ∗ (∃ d, owns (c : Thread nD τ) (Memref.whole cc0_scratch3 : Memref sig .tc .vmem S8x1024 .f32) fullShare d) ∗ (∃ d, owns (c : Thread nD τ) (Memref.whole cc0_scratch4 : Memref sig .tc .vmem S8x1024 .f32) fullShare d) ∗ (∃ d, owns (c : Thread nD τ) (Memref.whole cc0_scratch5 : Memref sig .tc .vmem S8x1024 .f32) fullShare d)) ∗ (∃ r, prngReg c r))
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_16 (c : Dev nD) (t : Fin cfg0.N) : (dats m 0 c).after 16 t = left m c t.val t.isLt := by dsimp only [dats]

/-- An operand whose buffer the body leaves as it was holds its block before every point. -/
theorem fetched_at (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hcut : ∀ t, (cfg0.win w).cut (cfg0.grid.coords t) ((dats m 0 c).after w t) = (dats m 0 c).blockOf w t)
    (t : Fin cfg0.N) (d) : (dats m 0 c).before w t d = (dats m 0 c).fetched w t d :=
  (dats m 0 c).before_in_eq_fetched w hw hlive hclip hcut t d

theorem before_0 (c : Dev nD) (t : Fin cfg0.N) (d) : (dats m 0 c).before 0 t d = iblk m c 0 t :=
  (fetched_at m c 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dats m 0 c).before 1 t d = iblk m c 1 t :=
  (fetched_at m c 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg0.N) (d) : (dats m 0 c).before 2 t d = iblk m c 2 t :=
  (fetched_at m c 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin cfg0.N) (d) : (dats m 0 c).before 3 t d = iblk m c 3 t :=
  (fetched_at m c 3 rfl (fun _ => rfl) (fun _ _ _ => rfl) (fun t => by rw [after_3]; unfold Dat.blockOf iblk; rw [A_eq]) t d).trans
    (by unfold Dat.fetched Dat.blockOf iblk; rw [A_eq]; rfl)
theorem before_4 (c : Dev nD) (t : Fin cfg0.N) (d) : (dats m 0 c).before 4 t d = iblk m c 4 t :=
  (fetched_at m c 4 rfl (fun _ => rfl) (fun _ _ _ => rfl) (fun t => by rw [after_4]; unfold Dat.blockOf iblk; rw [A_eq]) t d).trans
    (by unfold Dat.fetched Dat.blockOf iblk; rw [A_eq]; rfl)
theorem before_5 (c : Dev nD) (t : Fin cfg0.N) (d) : (dats m 0 c).before 5 t d = iblk m c 5 t :=
  (fetched_at m c 5 rfl (fun _ => rfl) (fun _ _ _ => rfl) (fun t => by rw [after_5]; unfold Dat.blockOf iblk; rw [A_eq]) t d).trans
    (by unfold Dat.fetched Dat.blockOf iblk; rw [A_eq]; rfl)
theorem before_6 (c : Dev nD) (t : Fin cfg0.N) (d) : (dats m 0 c).before 6 t d = iblk m c 6 t :=
  (fetched_at m c 6 rfl (fun _ => rfl) (fun _ _ _ => rfl) (fun t => by rw [after_6]; unfold Dat.blockOf iblk; rw [A_eq]) t d).trans
    (by unfold Dat.fetched Dat.blockOf iblk; rw [A_eq]; rfl)
theorem before_7 (c : Dev nD) (t : Fin cfg0.N) (d) : (dats m 0 c).before 7 t d = iblk m c 7 t :=
  (fetched_at m c 7 rfl (fun _ => rfl) (fun _ _ _ => rfl) (fun t => by rw [after_7]; unfold Dat.blockOf iblk; rw [A_eq]) t d).trans
    (by unfold Dat.fetched Dat.blockOf iblk; rw [A_eq]; rfl)
theorem before_8 (c : Dev nD) (t : Fin cfg0.N) (d) : (dats m 0 c).before 8 t d = iblk m c 8 t :=
  (fetched_at m c 8 rfl (fun _ => rfl) (fun _ _ _ => rfl) (fun t => by rw [after_8]; unfold Dat.blockOf iblk; rw [A_eq]) t d).trans
    (by unfold Dat.fetched Dat.blockOf iblk; rw [A_eq]; rfl)
theorem before_9 (c : Dev nD) (t : Fin cfg0.N) (d) : (dats m 0 c).before 9 t d = iblk m c 9 t :=
  (fetched_at m c 9 rfl (fun _ => rfl) (fun _ _ _ => rfl) (fun t => by rw [after_9]; unfold Dat.blockOf iblk; rw [A_eq]) t d).trans
    (by unfold Dat.fetched Dat.blockOf iblk; rw [A_eq]; rfl)
theorem before_10 (c : Dev nD) (t : Fin cfg0.N) (d) : (dats m 0 c).before 10 t d = iblk m c 10 t :=
  (fetched_at m c 10 rfl (fun _ => rfl) (fun _ _ _ => rfl) (fun t => by rw [after_10]; unfold Dat.blockOf iblk; rw [A_eq]) t d).trans
    (by unfold Dat.fetched Dat.blockOf iblk; rw [A_eq]; rfl)
theorem before_11 (c : Dev nD) (t : Fin cfg0.N) (d) : (dats m 0 c).before 11 t d = iblk m c 11 t :=
  (fetched_at m c 11 rfl (fun _ => rfl) (fun _ _ _ => rfl) (fun t => by rw [after_11]; unfold Dat.blockOf iblk; rw [A_eq]) t d).trans
    (by unfold Dat.fetched Dat.blockOf iblk; rw [A_eq]; rfl)
theorem before_12 (c : Dev nD) (t : Fin cfg0.N) (d) : (dats m 0 c).before 12 t d = iblk m c 12 t :=
  (fetched_at m c 12 rfl (fun _ => rfl) (fun _ _ _ => rfl) (fun t => by rw [after_12]; unfold Dat.blockOf iblk; rw [A_eq]) t d).trans
    (by unfold Dat.fetched Dat.blockOf iblk; rw [A_eq]; rfl)
theorem before_13 (c : Dev nD) (t : Fin cfg0.N) (d) : (dats m 0 c).before 13 t d = iblk m c 13 t :=
  (fetched_at m c 13 rfl (fun _ => rfl) (fun _ _ _ => rfl) (fun t => by rw [after_13]; unfold Dat.blockOf iblk; rw [A_eq]) t d).trans
    (by unfold Dat.fetched Dat.blockOf iblk; rw [A_eq]; rfl)
theorem before_16 (c : Dev nD) (t : Fin cfg0.N) (h : ¬t.val % 64 = 0) (d) : (dats m 0 c).before 16 t d = prior m c t := by
  have hN : t.val < 64 := lt_of_lt_of_eq t.isLt (show cfg0.N = 64 from N_0)
  rw [Dat.before_out_kept _ 16 rfl t (by omega) (Bool.eq_false_iff.mpr fun h => by have := (flush0_16 _).mp h; dsimp only at this; omega)
    (fun _ => rfl) (fun _ _ => rfl)]
  dsimp only [dats]

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (bufs t).a0 fullShare ((dats m 0 c).before 0 t d))
    ∗ (∃ d, owns (c : Thread nD τ) (bufs t).a1 fullShare ((dats m 0 c).before 1 t d))
    ∗ (∃ d, owns (c : Thread nD τ) (bufs t).a2 fullShare ((dats m 0 c).before 2 t d))
    ∗ (∃ d, owns (c : Thread nD τ) (bufs t).a3 fullShare ((dats m 0 c).before 3 t d))
    ∗ (∃ d, owns (c : Thread nD τ) (bufs t).a4 fullShare ((dats m 0 c).before 4 t d))
    ∗ (∃ d, owns (c : Thread nD τ) (bufs t).a5 fullShare ((dats m 0 c).before 5 t d))
    ∗ (∃ d, owns (c : Thread nD τ) (bufs t).a6 fullShare ((dats m 0 c).before 6 t d))
    ∗ (∃ d, owns (c : Thread nD τ) (bufs t).a7 fullShare ((dats m 0 c).before 7 t d))
    ∗ (∃ d, owns (c : Thread nD τ) (bufs t).a8 fullShare ((dats m 0 c).before 8 t d))
    ∗ (∃ d, owns (c : Thread nD τ) (bufs t).a9 fullShare ((dats m 0 c).before 9 t d))
    ∗ (∃ d, owns (c : Thread nD τ) (bufs t).a10 fullShare ((dats m 0 c).before 10 t d))
    ∗ (∃ d, owns (c : Thread nD τ) (bufs t).a11 fullShare ((dats m 0 c).before 11 t d))
    ∗ (∃ d, owns (c : Thread nD τ) (bufs t).a12 fullShare ((dats m 0 c).before 12 t d))
    ∗ (∃ d, owns (c : Thread nD τ) (bufs t).a13 fullShare ((dats m 0 c).before 13 t d))
    ∗ (∃ d, owns (c : Thread nD τ) (bufs t).a14 fullShare d)
    ∗ (∃ d, owns (c : Thread nD τ) (bufs t).a15 fullShare d)
    ∗ (∃ d, owns (c : Thread nD τ) (bufs t).a16 fullShare ((dats m 0 c).before 16 t d))
    ∗ (∃ d, owns (c : Thread nD τ) (bufs t).a17 fullShare d)
    ∗ (∃ d, owns (c : Thread nD τ) (bufs t).a18 fullShare d)
    ∗ (∃ d, owns (c : Thread nD τ) (bufs t).a19 fullShare d))

/-- What it hands back. -/
def post (c : Dev nD) (t : Fin cfg0.N) : sProp 𝕄 :=
  iprop((dats m 0 c).Φ t.succ ∗ (dats m 0 c).owesAt () t.succ
    ∗ owns (c : Thread nD τ) (bufs t).a0 fullShare ((dats m 0 c).after 0 t)
    ∗ owns (c : Thread nD τ) (bufs t).a1 fullShare ((dats m 0 c).after 1 t)
    ∗ owns (c : Thread nD τ) (bufs t).a2 fullShare ((dats m 0 c).after 2 t)
    ∗ owns (c : Thread nD τ) (bufs t).a3 fullShare ((dats m 0 c).after 3 t)
    ∗ owns (c : Thread nD τ) (bufs t).a4 fullShare ((dats m 0 c).after 4 t)
    ∗ owns (c : Thread nD τ) (bufs t).a5 fullShare ((dats m 0 c).after 5 t)
    ∗ owns (c : Thread nD τ) (bufs t).a6 fullShare ((dats m 0 c).after 6 t)
    ∗ owns (c : Thread nD τ) (bufs t).a7 fullShare ((dats m 0 c).after 7 t)
    ∗ owns (c : Thread nD τ) (bufs t).a8 fullShare ((dats m 0 c).after 8 t)
    ∗ owns (c : Thread nD τ) (bufs t).a9 fullShare ((dats m 0 c).after 9 t)
    ∗ owns (c : Thread nD τ) (bufs t).a10 fullShare ((dats m 0 c).after 10 t)
    ∗ owns (c : Thread nD τ) (bufs t).a11 fullShare ((dats m 0 c).after 11 t)
    ∗ owns (c : Thread nD τ) (bufs t).a12 fullShare ((dats m 0 c).after 12 t)
    ∗ owns (c : Thread nD τ) (bufs t).a13 fullShare ((dats m 0 c).after 13 t)
    ∗ (∃ d, owns (c : Thread nD τ) (bufs t).a14 fullShare d)
    ∗ (∃ d, owns (c : Thread nD τ) (bufs t).a15 fullShare d)
    ∗ owns (c : Thread nD τ) (bufs t).a16 fullShare ((dats m 0 c).after 16 t)
    ∗ (∃ d, owns (c : Thread nD τ) (bufs t).a17 fullShare d)
    ∗ (∃ d, owns (c : Thread nD τ) (bufs t).a18 fullShare d)
    ∗ (∃ d, owns (c : Thread nD τ) (bufs t).a19 fullShare d))

set_option maxHeartbeats 6000000 in
theorem sound (c : Dev nD) (t : Fin cfg0.N) :
    pre m c t ⊢ wp frame (wpE (defs₀ (F := F)) Variants.none c none) Set.univ (bodyAt0 t) (fun _ => post m c t) := by
  unfold pre post
  rw [show bodyAt0 t = (bufs t).body (F := F) (grid0.coords t) from rfl]
  simp only [before_0, before_1, before_2, before_3, before_4, before_5, before_6, before_7, before_8, before_9, before_10, before_11, before_12, before_13]
  rw [show (dats m 0 c).owesAt () t.succ = (dats m 0 c).owesAt () t.castSucc from rfl,
    after_0, after_1, after_2, after_3, after_4, after_5, after_6, after_7, after_8, after_9, after_10, after_11, after_12, after_13, after_16]
  by_cases h : t.val % 64 = 0
  · rw [left_A m c t h]
    dsimp only [dats]
    iintro ⟨⟨⟨⟨%s0, HS0⟩, ⟨%s1, HS1⟩, ⟨%s2, HS2⟩, ⟨%s3, HS3⟩, ⟨%s4, HS4⟩, ⟨%s5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    ihave H16 := (some_raw c) $$ H16
    icases H16 with ⟨%g16, H16⟩
    iapply (body_starts c (grid0.coords t) (bufs t) (ins m c t) ((starts_iff t).mpr h) g16 Set.univ _)
    isplitl [H0 H1 H2 H3 H4 H5 H6 H7 H8 H9 H10 H11 H12 H13 H14 H15 H17 H18 H19 HS0 HS1 HS2 HS3 HS4 HS5 H16]
    · isplitl [H0 H1 H2 H3 H4 H5 H6 H7 H8 H9 H10 H11 H12 H13 H14 H15 H17 H18 H19 HS0 HS1 HS2 HS3 HS4 HS5]
      · isplitl [H0 H1 H2 H3 H4 H5 H6 H7 H8 H9 H10 H11 H12 H13]
        · unfold Ins.held
          isplitl [H0]; · iapply (own_raw c (bufs t).h0 _); iexact H0
          isplitl [H1]; · iapply (own_raw c (bufs t).h1 _); iexact H1
          isplitl [H2]; · iapply (own_raw c (bufs t).h2 _); iexact H2
          isplitl [H3]; · iapply (own_raw c (bufs t).h3 _); iexact H3
          isplitl [H4]; · iapply (own_raw c (bufs t).h4 _); iexact H4
          isplitl [H5]; · iapply (own_raw c (bufs t).h5 _); iexact H5
          isplitl [H6]; · iapply (own_raw c (bufs t).h6 _); iexact H6
          isplitl [H7]; · iapply (own_raw c (bufs t).h7 _); iexact H7
          isplitl [H8]; · iapply (own_raw c (bufs t).h8 _); iexact H8
          isplitl [H9]; · iapply (own_raw c (bufs t).h9 _); iexact H9
          isplitl [H10]; · iapply (own_raw c (bufs t).h10 _); iexact H10
          isplitl [H11]; · iapply (own_raw c (bufs t).h11 _); iexact H11
          isplitl [H12]; · iapply (own_raw c (bufs t).h12 _); iexact H12
          iapply (own_raw c (bufs t).h13 _); iexact H13
        unfold Bufs.rest
        isplitl [H14]; · iapply (some_raw c); iexact H14
        isplitl [H15]; · iapply (some_raw c); iexact H15
        isplitl [H17]; · iapply (some_raw c); iexact H17
        isplitl [H18]; · iapply (some_raw c); iexact H18
        isplitl [H19]; · iapply (some_raw c); iexact H19
        isplitl [HS0]; · iapply (some_raw c); iexact HS0
        isplitl [HS1]; · iapply (some_raw c); iexact HS1
        isplitl [HS2]; · iapply (some_raw c); iexact HS2
        isplitl [HS3]; · iapply (some_raw c); iexact HS3
        isplitl [HS4]; · iapply (some_raw c); iexact HS4
        iapply (some_raw c); iexact HS5
      unfold Bufs.grad; iexact H16
    unfold Ins.held Bufs.rest Bufs.grad
    iintro ⟨⟨H0, H1, H2, H3, H4, H5, H6, H7, H8, H9, H10, H11, H12, H13⟩, ⟨⟨%gH14, H14⟩, ⟨%gH15, H15⟩, ⟨%gH17, H17⟩, ⟨%gH18, H18⟩, ⟨%gH19, H19⟩, ⟨%gHS0, HS0⟩, ⟨%gHS1, HS1⟩, ⟨%gHS2, HS2⟩, ⟨%gHS3, HS3⟩, ⟨%gHS4, HS4⟩, ⟨%gHS5, HS5⟩⟩, H16⟩
    isplitl [HS0 HS1 HS2 HS3 HS4 HS5 Hg]
    · isplitl [HS0 HS1 HS2 HS3 HS4 HS5]
      · isplitl [HS0]; · iapply (raw_some c); iexact HS0
        isplitl [HS1]; · iapply (raw_some c); iexact HS1
        isplitl [HS2]; · iapply (raw_some c); iexact HS2
        isplitl [HS3]; · iapply (raw_some c); iexact HS3
        isplitl [HS4]; · iapply (raw_some c); iexact HS4
        iapply (raw_some c); iexact HS5
      iexact Hg
    isplitl [Ho]; · iexact Ho
    isplitl [H0]; · iapply (raw_own c (bufs t).h0 _); iexact H0
    isplitl [H1]; · iapply (raw_own c (bufs t).h1 _); iexact H1
    isplitl [H2]; · iapply (raw_own c (bufs t).h2 _); iexact H2
    isplitl [H3]; · iapply (raw_own c (bufs t).h3 _); iexact H3
    isplitl [H4]; · iapply (raw_own c (bufs t).h4 _); iexact H4
    isplitl [H5]; · iapply (raw_own c (bufs t).h5 _); iexact H5
    isplitl [H6]; · iapply (raw_own c (bufs t).h6 _); iexact H6
    isplitl [H7]; · iapply (raw_own c (bufs t).h7 _); iexact H7
    isplitl [H8]; · iapply (raw_own c (bufs t).h8 _); iexact H8
    isplitl [H9]; · iapply (raw_own c (bufs t).h9 _); iexact H9
    isplitl [H10]; · iapply (raw_own c (bufs t).h10 _); iexact H10
    isplitl [H11]; · iapply (raw_own c (bufs t).h11 _); iexact H11
    isplitl [H12]; · iapply (raw_own c (bufs t).h12 _); iexact H12
    isplitl [H13]; · iapply (raw_own c (bufs t).h13 _); iexact H13
    isplitl [H14]; · iapply (raw_some c); iexact H14
    isplitl [H15]; · iapply (raw_some c); iexact H15
    isplitl [H16]; · iapply (raw_own c (bufs t).h16 _); iexact H16
    isplitl [H17]; · iapply (raw_some c); iexact H17
    isplitl [H18]; · iapply (raw_some c); iexact H18
    iapply (raw_some c); iexact H19
  · simp only [before_16 m c t h]
    rw [left_B m c t h]
    dsimp only [dats]
    iintro ⟨⟨⟨⟨%s0, HS0⟩, ⟨%s1, HS1⟩, ⟨%s2, HS2⟩, ⟨%s3, HS3⟩, ⟨%s4, HS4⟩, ⟨%s5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply (body_goes c (grid0.coords t) (bufs t) (ins m c t) (fun g => h ((starts_iff t).mp g)) (prior m c t) Set.univ _)
    isplitl [H0 H1 H2 H3 H4 H5 H6 H7 H8 H9 H10 H11 H12 H13 H14 H15 H17 H18 H19 HS0 HS1 HS2 HS3 HS4 HS5 H16]
    · isplitl [H0 H1 H2 H3 H4 H5 H6 H7 H8 H9 H10 H11 H12 H13 H14 H15 H17 H18 H19 HS0 HS1 HS2 HS3 HS4 HS5]
      · isplitl [H0 H1 H2 H3 H4 H5 H6 H7 H8 H9 H10 H11 H12 H13]
        · unfold Ins.held
          isplitl [H0]; · iapply (own_raw c (bufs t).h0 _); iexact H0
          isplitl [H1]; · iapply (own_raw c (bufs t).h1 _); iexact H1
          isplitl [H2]; · iapply (own_raw c (bufs t).h2 _); iexact H2
          isplitl [H3]; · iapply (own_raw c (bufs t).h3 _); iexact H3
          isplitl [H4]; · iapply (own_raw c (bufs t).h4 _); iexact H4
          isplitl [H5]; · iapply (own_raw c (bufs t).h5 _); iexact H5
          isplitl [H6]; · iapply (own_raw c (bufs t).h6 _); iexact H6
          isplitl [H7]; · iapply (own_raw c (bufs t).h7 _); iexact H7
          isplitl [H8]; · iapply (own_raw c (bufs t).h8 _); iexact H8
          isplitl [H9]; · iapply (own_raw c (bufs t).h9 _); iexact H9
          isplitl [H10]; · iapply (own_raw c (bufs t).h10 _); iexact H10
          isplitl [H11]; · iapply (own_raw c (bufs t).h11 _); iexact H11
          isplitl [H12]; · iapply (own_raw c (bufs t).h12 _); iexact H12
          iapply (own_raw c (bufs t).h13 _); iexact H13
        unfold Bufs.rest
        isplitl [H14]; · iapply (some_raw c); iexact H14
        isplitl [H15]; · iapply (some_raw c); iexact H15
        isplitl [H17]; · iapply (some_raw c); iexact H17
        isplitl [H18]; · iapply (some_raw c); iexact H18
        isplitl [H19]; · iapply (some_raw c); iexact H19
        isplitl [HS0]; · iapply (some_raw c); iexact HS0
        isplitl [HS1]; · iapply (some_raw c); iexact HS1
        isplitl [HS2]; · iapply (some_raw c); iexact HS2
        isplitl [HS3]; · iapply (some_raw c); iexact HS3
        isplitl [HS4]; · iapply (some_raw c); iexact HS4
        iapply (some_raw c); iexact HS5
      unfold Bufs.grad; iapply (own_raw c (bufs t).h16 _); iexact H16
    unfold Ins.held Bufs.rest Bufs.grad
    iintro ⟨⟨H0, H1, H2, H3, H4, H5, H6, H7, H8, H9, H10, H11, H12, H13⟩, ⟨⟨%gH14, H14⟩, ⟨%gH15, H15⟩, ⟨%gH17, H17⟩, ⟨%gH18, H18⟩, ⟨%gH19, H19⟩, ⟨%gHS0, HS0⟩, ⟨%gHS1, HS1⟩, ⟨%gHS2, HS2⟩, ⟨%gHS3, HS3⟩, ⟨%gHS4, HS4⟩, ⟨%gHS5, HS5⟩⟩, H16⟩
    isplitl [HS0 HS1 HS2 HS3 HS4 HS5 Hg]
    · isplitl [HS0 HS1 HS2 HS3 HS4 HS5]
      · isplitl [HS0]; · iapply (raw_some c); iexact HS0
        isplitl [HS1]; · iapply (raw_some c); iexact HS1
        isplitl [HS2]; · iapply (raw_some c); iexact HS2
        isplitl [HS3]; · iapply (raw_some c); iexact HS3
        isplitl [HS4]; · iapply (raw_some c); iexact HS4
        iapply (raw_some c); iexact HS5
      iexact Hg
    isplitl [Ho]; · iexact Ho
    isplitl [H0]; · iapply (raw_own c (bufs t).h0 _); iexact H0
    isplitl [H1]; · iapply (raw_own c (bufs t).h1 _); iexact H1
    isplitl [H2]; · iapply (raw_own c (bufs t).h2 _); iexact H2
    isplitl [H3]; · iapply (raw_own c (bufs t).h3 _); iexact H3
    isplitl [H4]; · iapply (raw_own c (bufs t).h4 _); iexact H4
    isplitl [H5]; · iapply (raw_own c (bufs t).h5 _); iexact H5
    isplitl [H6]; · iapply (raw_own c (bufs t).h6 _); iexact H6
    isplitl [H7]; · iapply (raw_own c (bufs t).h7 _); iexact H7
    isplitl [H8]; · iapply (raw_own c (bufs t).h8 _); iexact H8
    isplitl [H9]; · iapply (raw_own c (bufs t).h9 _); iexact H9
    isplitl [H10]; · iapply (raw_own c (bufs t).h10 _); iexact H10
    isplitl [H11]; · iapply (raw_own c (bufs t).h11 _); iexact H11
    isplitl [H12]; · iapply (raw_own c (bufs t).h12 _); iexact H12
    isplitl [H13]; · iapply (raw_own c (bufs t).h13 _); iexact H13
    isplitl [H14]; · iapply (raw_some c); iexact H14
    isplitl [H15]; · iapply (raw_some c); iexact H15
    isplitl [H16]; · iapply (raw_own c (bufs t).h16 _); iexact H16
    isplitl [H17]; · iapply (raw_some c); iexact H17
    isplitl [H18]; · iapply (raw_some c); iexact H18
    iapply (raw_some c); iexact H19

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ untold := fun t => by
  rw [bigSep_W0, bigSep_W0, body_row]
  exact triple_restated (sound m c t) rfl .rfl fun _ => .rfl

set_option backward.isDefEq.respectTransparency.types false in
set_option maxHeartbeats 800000 in
/-- The whole call: every array ends at what the proof data says, every counter at zero. -/
theorem run_quiescent : θ_run defs (onTc (τ := τ) (main (F := F))) (s₀ m ρ)
    (fun r => RDat.FramePost cfg0 (fun c => (dats m 0 c).toRForget untold) (V m) r ∧ r.2.sem = fun _ => 0) :=
  Pipeline.θ_run_frame_track_forget_shared (Q' := _) cfgs (dats m) (0 : Fin 1) launch₀0 defs₀ Variants.none untold m ρ main
    (hbody := fun c => (obligation m c).loose) (hq := fun _ _ _ => rfl) (howed := fun _ _ => rfl)
    (V := V m) (hmain := hmain m Variants.none) (hA := A_eq m)
    (hin := fun c => by
      unfold Pipeline.ΦA; rw [scopedRest0_eq]; dsimp only [dats]; simp only [owns_whole]
      exact .rfl)
    (hout := fun c => by
      unfold Pipeline.ΦA; rw [scopedRest0_eq]; dsimp only [dats]; simp only [owns_whole]
      exact .rfl)

end Cert.LruBody

end
-- ==== Proof.LruFrame.lean ====
/- The frames of the recurrence's backward call's programs: the kernel at the device's words, the kernel at the extended reals, and the
   reference. The first two are one text, so one run serves both. -/
module

public import proofs.«01_k».proof.Defs
public import proofs.«01_k».proof.Proof.LruBody
public import proofs.«01_k».proof.Proof.Gen.Lru
public import proofs.«01_k».proof.Proof.Gen.LruRefIdeal.Run
public import Idealize.ShloMosaic.Lib.Claim

public section

set_option maxRecDepth 200000

noncomputable section

namespace Cert.LruFrame

open Idealize.ShloMosaic Idealize.ShloMosaic.TcCoe Idealize.ShloMosaic.Tactic
open Idealize.SL Idealize.SL.RA Idealize.SL.BI Idealize.SL.Sem

/-- From this memory the kernel runs to its end, with its arguments unchanged and every semaphore counter at zero. -/
def Frame (F : FTy → Type) [FloatOps F] (m : (ℓ : Loc Cert.LruIdeal.nD Cert.LruIdeal.τ Cert.LruIdeal.sig) → Buf (Elt F) ℓ) (g : Dev Cert.LruIdeal.nD → PrngReg) : Prop :=
  θ_run (Cert.LruIdeal.defs (F := F)) (onTc (τ := Cert.LruIdeal.τ) (Cert.LruIdeal.main (F := F))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9)
      ∧ r.2.mem ((c.tc : Thread Cert.LruIdeal.nD Cert.LruIdeal.τ).loc Cert.LruIdeal.main_arg10) = m ((c.tc : Thread Cert.LruIdeal.nD Cert.LruIdeal.τ).loc Cert.LruIdeal.main_arg10))
      ∧ r.2.sem = fun _ => 0)

set_option maxHeartbeats 1000000

section
variable (F : FTy → Type) [FloatOps F] (m : (ℓ : Loc Cert.LruIdeal.nD Cert.LruIdeal.τ Cert.LruIdeal.sig) → Buf (Elt F) ℓ) (c : Dev Cert.LruIdeal.nD) (r : PUnit × MemSt Cert.LruIdeal.nD Cert.LruIdeal.τ Cert.LruIdeal.sig (Elt F))
  (h : Pipeline.RDat.FramePost Cert.LruIdeal.cfg0 (fun c => (Cert.LruBody.dats m 0 c).toRForget Cert.LruBody.untold) (Cert.LruBody.V m) r)
include h

theorem kept0 : r.2.mem ((c.tc : Thread Cert.LruIdeal.nD Cert.LruIdeal.τ).loc Cert.LruIdeal.main_arg0) = m ((c.tc : Thread Cert.LruIdeal.nD Cert.LruIdeal.τ).loc Cert.LruIdeal.main_arg0) :=
  ((h c).2 Cert.LruIdeal.main_arg0 (Pipeline.mem_restRefs_of Cert.LruIdeal.main_arg0 (by decide +kernel) (by decide +kernel))).trans (Cert.LruBody.V_main_arg0 m c)
theorem kept1 : r.2.mem ((c.tc : Thread Cert.LruIdeal.nD Cert.LruIdeal.τ).loc Cert.LruIdeal.main_arg1) = m ((c.tc : Thread Cert.LruIdeal.nD Cert.LruIdeal.τ).loc Cert.LruIdeal.main_arg1) :=
  (h.arr_in c 2 rfl).trans ((Cert.LruBody.A_eq m c 2).trans (Cert.LruBody.V_main_arg1 m c))
theorem kept2 : r.2.mem ((c.tc : Thread Cert.LruIdeal.nD Cert.LruIdeal.τ).loc Cert.LruIdeal.main_arg2) = m ((c.tc : Thread Cert.LruIdeal.nD Cert.LruIdeal.τ).loc Cert.LruIdeal.main_arg2) :=
  (h.arr_in c 3 rfl).trans ((Cert.LruBody.A_eq m c 3).trans (Cert.LruBody.V_main_arg2 m c))
theorem kept3 : r.2.mem ((c.tc : Thread Cert.LruIdeal.nD Cert.LruIdeal.τ).loc Cert.LruIdeal.main_arg3) = m ((c.tc : Thread Cert.LruIdeal.nD Cert.LruIdeal.τ).loc Cert.LruIdeal.main_arg3) :=
  ((h c).2 Cert.LruIdeal.main_arg3 (Pipeline.mem_restRefs_of Cert.LruIdeal.main_arg3 (by decide +kernel) (by decide +kernel))).trans (Cert.LruBody.V_main_arg3 m c)
theorem kept4 : r.2.mem ((c.tc : Thread Cert.LruIdeal.nD Cert.LruIdeal.τ).loc Cert.LruIdeal.main_arg4) = m ((c.tc : Thread Cert.LruIdeal.nD Cert.LruIdeal.τ).loc Cert.LruIdeal.main_arg4) :=
  ((h c).2 Cert.LruIdeal.main_arg4 (Pipeline.mem_restRefs_of Cert.LruIdeal.main_arg4 (by decide +kernel) (by decide +kernel))).trans (Cert.LruBody.V_main_arg4 m c)
theorem kept5 : r.2.mem ((c.tc : Thread Cert.LruIdeal.nD Cert.LruIdeal.τ).loc Cert.LruIdeal.main_arg5) = m ((c.tc : Thread Cert.LruIdeal.nD Cert.LruIdeal.τ).loc Cert.LruIdeal.main_arg5) :=
  ((h c).2 Cert.LruIdeal.main_arg5 (Pipeline.mem_restRefs_of Cert.LruIdeal.main_arg5 (by decide +kernel) (by decide +kernel))).trans (Cert.LruBody.V_main_arg5 m c)
theorem kept6 : r.2.mem ((c.tc : Thread Cert.LruIdeal.nD Cert.LruIdeal.τ).loc Cert.LruIdeal.main_arg6) = m ((c.tc : Thread Cert.LruIdeal.nD Cert.LruIdeal.τ).loc Cert.LruIdeal.main_arg6) :=
  ((h c).2 Cert.LruIdeal.main_arg6 (Pipeline.mem_restRefs_of Cert.LruIdeal.main_arg6 (by decide +kernel) (by decide +kernel))).trans (Cert.LruBody.V_main_arg6 m c)
theorem kept7 : r.2.mem ((c.tc : Thread Cert.LruIdeal.nD Cert.LruIdeal.τ).loc Cert.LruIdeal.main_arg7) = m ((c.tc : Thread Cert.LruIdeal.nD Cert.LruIdeal.τ).loc Cert.LruIdeal.main_arg7) :=
  ((h c).2 Cert.LruIdeal.main_arg7 (Pipeline.mem_restRefs_of Cert.LruIdeal.main_arg7 (by decide +kernel) (by decide +kernel))).trans (Cert.LruBody.V_main_arg7 m c)
theorem kept8 : r.2.mem ((c.tc : Thread Cert.LruIdeal.nD Cert.LruIdeal.τ).loc Cert.LruIdeal.main_arg8) = m ((c.tc : Thread Cert.LruIdeal.nD Cert.LruIdeal.τ).loc Cert.LruIdeal.main_arg8) :=
  ((h c).2 Cert.LruIdeal.main_arg8 (Pipeline.mem_restRefs_of Cert.LruIdeal.main_arg8 (by decide +kernel) (by decide +kernel))).trans (Cert.LruBody.V_main_arg8 m c)
theorem kept9 : r.2.mem ((c.tc : Thread Cert.LruIdeal.nD Cert.LruIdeal.τ).loc Cert.LruIdeal.main_arg9) = m ((c.tc : Thread Cert.LruIdeal.nD Cert.LruIdeal.τ).loc Cert.LruIdeal.main_arg9) :=
  (h.arr_in c 12 rfl).trans ((Cert.LruBody.A_eq m c 12).trans (Cert.LruBody.V_main_arg9 m c))
theorem kept10 : r.2.mem ((c.tc : Thread Cert.LruIdeal.nD Cert.LruIdeal.τ).loc Cert.LruIdeal.main_arg10) = m ((c.tc : Thread Cert.LruIdeal.nD Cert.LruIdeal.τ).loc Cert.LruIdeal.main_arg10) :=
  ((h c).2 Cert.LruIdeal.main_arg10 (Pipeline.mem_restRefs_of Cert.LruIdeal.main_arg10 (by decide +kernel) (by decide +kernel))).trans (Cert.LruBody.V_main_arg10 m c)

end

theorem frame (F : FTy → Type) [FloatOps F] (m : (ℓ : Loc Cert.LruIdeal.nD Cert.LruIdeal.τ Cert.LruIdeal.sig) → Buf (Elt F) ℓ) (g : Dev Cert.LruIdeal.nD → PrngReg) : Frame F m g :=
  (θ_run Cert.LruIdeal.defs _ _).mono (fun r h => ⟨fun c => ⟨kept0 F m c r h.1, kept1 F m c r h.1, kept2 F m c r h.1, kept3 F m c r h.1, kept4 F m c r h.1, kept5 F m c r h.1, kept6 F m c r h.1, kept7 F m c r h.1, kept8 F m c r h.1, kept9 F m c r h.1, kept10 F m c r h.1⟩, h.2⟩)
    (Cert.LruBody.run_quiescent m g)

theorem frame_ideal : Cert.quiescent_LruIdeal := fun m g _ => frame Ideal m g

theorem frame_kernel : Cert.quiescent_Lru :=
  (show (∀ m g, True → Frame Bits m g) = Cert.quiescent_Lru by sl_kernel_rfl).mp fun m g _ => frame Bits m g

/-- The reference ends with its arguments unchanged and every semaphore counter at zero: it declares none. -/
theorem frame_ref : Cert.quiescent_LruRefIdeal := fun m g _ =>
  (θ_run Cert.LruRefIdeal.defs _ _).mono
    (fun r h => ⟨fun c => (h c).2, sem_eq_zero_of_no_sems (by decide) r.2⟩)
    (Cert.LruRefIdeal.Value.run m g)

end Cert.LruFrame

end
-- ==== Proof.LruLines.lean ====
/- A buffer of the recurrence's call, by the one host line that wrote it: what that line makes of what its own operands hold. -/
module

public import proofs.«01_k».proof.Proof.LruKit
public import proofs.«01_k».proof.Proof.Gen.LruRefIdeal.Read
public import Idealize.ShloMosaic.Lib.StableHlo.Run

@[expose] public section

set_option maxRecDepth 200000

noncomputable section

namespace Cert.LruHost

open Idealize.ShloMosaic Idealize.ShloMosaic.TcCoe Idealize.ShloMosaic.Tactic
open Cert.LruIdeal Cert.LruIdeal.Gen Cert.LruBody

variable {F : FTy → Type} [FloatOps F]

theorem from_here {k : ℕ} {op : HloOp τ sig (Elt F)} (hk : lines[k]? = some op) : lines.drop k = op :: lines.drop (k + 1) := by
  obtain ⟨h, rfl⟩ := List.getElem?_eq_some_iff.mp hk
  exact List.drop_eq_getElem_cons h

variable (m : (ℓ : Loc nD τ sig) → Buf (Elt F) ℓ) (c : Dev nD)

theorem by_nullary (k : ℕ) {y : Ref sig .tc} {v : y.ty.Contents (Elt F)} {hy}
    (hk : (lines (F := F))[k]? = some (StableHlo.nullary y v hy)) (ny : y ∉ written.drop (k + 1)) : V m c y = v :=
  (left_by k (from_here hk) ny _).trans (StableHlo.nullary_result' ..)

theorem by_unary (k : ℕ) {x y : Ref sig .tc} {f : x.ty.Contents (Elt F) → y.ty.Contents (Elt F)} {hx hy}
    (hk : (lines (F := F))[k]? = some (StableHlo.unary x y f hx hy)) (ny : y ∉ written.drop (k + 1)) (nx : x ∉ written.drop k)
    {u : x.ty.Contents (Elt F)} (ux : V m c x = u) : V m c y = f u :=
  (left_by k (from_here hk) ny _).trans ((StableHlo.unary_result' ..).trans (congrArg f ((settled k nx _).trans ux)))

theorem by_binary (k : ℕ) {a b y : Ref sig .tc} {f : a.ty.Contents (Elt F) → b.ty.Contents (Elt F) → y.ty.Contents (Elt F)} {ha hb hy}
    (hk : (lines (F := F))[k]? = some (StableHlo.binary a b y f ha hb hy)) (ny : y ∉ written.drop (k + 1)) (na : a ∉ written.drop k) (nb : b ∉ written.drop k)
    {u : a.ty.Contents (Elt F)} {v : b.ty.Contents (Elt F)} (ua : V m c a = u) (ub : V m c b = v) : V m c y = f u v :=
  (left_by k (from_here hk) ny _).trans ((StableHlo.binary_result' ..).trans
    (congrArg₂ f ((settled k na _).trans ua) ((settled k nb _).trans ub)))

theorem by_ternary (k : ℕ) {p a b y : Ref sig .tc}
    {f : p.ty.Contents (Elt F) → a.ty.Contents (Elt F) → b.ty.Contents (Elt F) → y.ty.Contents (Elt F)} {hp ha hb hy}
    (hk : (lines (F := F))[k]? = some (StableHlo.ternary p a b y f hp ha hb hy)) (ny : y ∉ written.drop (k + 1))
    (np : p ∉ written.drop k) (na : a ∉ written.drop k) (nb : b ∉ written.drop k)
    {w : p.ty.Contents (Elt F)} {u : a.ty.Contents (Elt F)} {v : b.ty.Contents (Elt F)}
    (up : V m c p = w) (ua : V m c a = u) (ub : V m c b = v) : V m c y = f w u v :=
  (left_by k (from_here hk) ny _).trans ((StableHlo.ternary_result' ..).trans (by
    rw [(settled k np _).trans up, (settled k na _).trans ua, (settled k nb _).trans ub]))

theorem by_reshape (k : ℕ) {x y : Ref sig .tc} {he hn hx hy}
    (hk : (lines (F := F))[k]? = some (StableHlo.reshape x y he hn hx hy)) (ny : y ∉ written.drop (k + 1)) (nx : x ∉ written.drop k)
    {u : x.ty.Contents (Elt F)} (ux : V m c x = u) : V m c y = fun i => he ▸ shapeCast y.ty.shape u hn i :=
  (left_by k (from_here hk) ny _).trans ((StableHlo.reshape_result' ..).trans (by rw [(settled k nx _).trans ux]))

/-! The arguments, at the types the reference's lines take them. -/
abbrev x1 : (⟨S16384x1024, .f32⟩ : BufTy).Contents (Elt F) := m ((c : Thread nD τ).loc main_arg1)
abbrev x2 : (⟨S16384x1024, .f32⟩ : BufTy).Contents (Elt F) := m ((c : Thread nD τ).loc main_arg2)
abbrev x3 : (⟨S1x4x1024, .f32⟩ : BufTy).Contents (Elt F) := m ((c : Thread nD τ).loc main_arg3)
abbrev x4 : (⟨S1x1024, .f32⟩ : BufTy).Contents (Elt F) := m ((c : Thread nD τ).loc main_arg4)
abbrev x5 : (⟨S1x8x128x128, .f32⟩ : BufTy).Contents (Elt F) := m ((c : Thread nD τ).loc main_arg5)
abbrev x6 : (⟨S1x8x128, .f32⟩ : BufTy).Contents (Elt F) := m ((c : Thread nD τ).loc main_arg6)
abbrev x7 : (⟨S1x8x128x128, .f32⟩ : BufTy).Contents (Elt F) := m ((c : Thread nD τ).loc main_arg7)
abbrev x8 : (⟨S1x8x128, .f32⟩ : BufTy).Contents (Elt F) := m ((c : Thread nD τ).loc main_arg8)
abbrev x9 : (⟨S1x1024, .f32⟩ : BufTy).Contents (Elt F) := m ((c : Thread nD τ).loc main_arg9)

end Cert.LruHost

end
-- ==== Proof.LruHost1.lean ====
/- What the host lines leave, line by line: each buffer as the reference's own line of the same place has it. -/
module

public import proofs.«01_k».proof.Proof.LruLines

@[expose] public section

set_option maxRecDepth 200000

noncomputable section

namespace Cert.LruHost

open Idealize.ShloMosaic Idealize.ShloMosaic.TcCoe Idealize.ShloMosaic.Tactic
open Cert.LruIdeal Cert.LruIdeal.Gen Cert.LruBody

variable {F : FTy → Type} [FloatOps F]

variable (m : (ℓ : Loc nD τ sig) → Buf (Elt F) ℓ) (c : Dev nD)

theorem u_main_cst : V m c main_cst = (Cert.LruRefIdeal.Read.val_main_cst (F := F)) :=
  (by_nullary m c 0 rfl (by decide +kernel)).trans rfl
theorem u_main_v0 : V m c main_v0 = (Cert.LruRefIdeal.Read.val_main_v0 (F := F)) :=
  (by_unary m c 1 rfl (by decide +kernel) (by decide +kernel) (u_main_cst m c)).trans rfl
theorem u_main_v1 : V m c main_v1 = (Cert.LruRefIdeal.Read.val_main_v1 (F := F) (x1 m c)) :=
  (by_binary m c 2 rfl (by decide +kernel) (by decide +kernel) (by decide +kernel) (u_main_v0 m c) (V_main_arg1 m c)).trans rfl
theorem u_main_v2 : V m c main_v2 = (Cert.LruRefIdeal.Read.val_main_v2 (F := F) (x1 m c)) :=
  (by_unary m c 3 rfl (by decide +kernel) (by decide +kernel) (u_main_v1 m c)).trans rfl
theorem u_main_v3 : V m c main_v3 = (Cert.LruRefIdeal.Read.val_main_v3 (F := F) (x3 m c)) :=
  (by_unary m c 4 rfl (by decide +kernel) (by decide +kernel) (V_main_arg3 m c)).trans rfl
theorem u_main_v4 : V m c main_v4 = (Cert.LruRefIdeal.Read.val_main_v4 (F := F) (x3 m c)) :=
  (by_reshape m c 5 rfl (by decide +kernel) (by decide +kernel) (u_main_v3 m c)).trans rfl
theorem u_main_v5 : V m c main_v5 = (Cert.LruRefIdeal.Read.val_main_v5 (F := F) (x3 m c)) :=
  (by_unary m c 6 rfl (by decide +kernel) (by decide +kernel) (u_main_v4 m c)).trans rfl
theorem u_main_v6 : V m c main_v6 = (Cert.LruRefIdeal.Read.val_main_v6 (F := F) (x3 m c)) :=
  (by_unary m c 7 rfl (by decide +kernel) (by decide +kernel) (u_main_v5 m c)).trans rfl
theorem u_main_v7 : V m c main_v7 = (Cert.LruRefIdeal.Read.val_main_v7 (F := F) (x1 m c) (x3 m c)) :=
  (by_binary m c 8 rfl (by decide +kernel) (by decide +kernel) (by decide +kernel) (u_main_v2 m c) (u_main_v6 m c)).trans rfl
theorem u_main_cst_0 : V m c main_cst_0 = (Cert.LruRefIdeal.Read.val_main_cst_0 (F := F)) :=
  (by_nullary m c 9 rfl (by decide +kernel)).trans rfl
theorem u_main_v8 : V m c main_v8 = (Cert.LruRefIdeal.Read.val_main_v8 (F := F)) :=
  (by_unary m c 10 rfl (by decide +kernel) (by decide +kernel) (u_main_cst_0 m c)).trans rfl
theorem u_main_v9 : V m c main_v9 = (Cert.LruRefIdeal.Read.val_main_v9 (F := F) (x1 m c) (x3 m c)) :=
  (by_binary m c 11 rfl (by decide +kernel) (by decide +kernel) (by decide +kernel) (u_main_v8 m c) (u_main_v7 m c)).trans rfl
theorem u_main_v10 : V m c main_v10 = (Cert.LruRefIdeal.Read.val_main_v10 (F := F) (x1 m c)) :=
  (by_unary m c 12 rfl (by decide +kernel) (by decide +kernel) (u_main_v1 m c)).trans rfl
theorem u_main_v11 : V m c main_v11 = (Cert.LruRefIdeal.Read.val_main_v11 (F := F) (x3 m c)) :=
  (by_unary m c 13 rfl (by decide +kernel) (by decide +kernel) (V_main_arg3 m c)).trans rfl
theorem u_main_v12 : V m c main_v12 = (Cert.LruRefIdeal.Read.val_main_v12 (F := F) (x3 m c)) :=
  (by_reshape m c 14 rfl (by decide +kernel) (by decide +kernel) (u_main_v11 m c)).trans rfl
theorem u_main_v13 : V m c main_v13 = (Cert.LruRefIdeal.Read.val_main_v13 (F := F) (x3 m c)) :=
  (by_unary m c 15 rfl (by decide +kernel) (by decide +kernel) (u_main_v12 m c)).trans rfl
theorem u_main_v14 : V m c main_v14 = (Cert.LruRefIdeal.Read.val_main_v14 (F := F) (x3 m c)) :=
  (by_unary m c 16 rfl (by decide +kernel) (by decide +kernel) (u_main_v13 m c)).trans rfl
theorem u_main_v15 : V m c main_v15 = (Cert.LruRefIdeal.Read.val_main_v15 (F := F) (x1 m c) (x3 m c)) :=
  (by_binary m c 17 rfl (by decide +kernel) (by decide +kernel) (by decide +kernel) (u_main_v10 m c) (u_main_v14 m c)).trans rfl
theorem u_main_v16 : V m c main_v16 = (Cert.LruRefIdeal.Read.val_main_v16 (F := F) (x1 m c) (x3 m c)) :=
  (by_binary m c 18 rfl (by decide +kernel) (by decide +kernel) (by decide +kernel) (u_main_v9 m c) (u_main_v15 m c)).trans rfl
theorem u_main_v17 : V m c main_v17 = (Cert.LruRefIdeal.Read.val_main_v17 (F := F) (x1 m c)) :=
  (by_unary m c 19 rfl (by decide +kernel) (by decide +kernel) (u_main_v1 m c)).trans rfl
theorem u_main_v18 : V m c main_v18 = (Cert.LruRefIdeal.Read.val_main_v18 (F := F) (x3 m c)) :=
  (by_unary m c 20 rfl (by decide +kernel) (by decide +kernel) (V_main_arg3 m c)).trans rfl
theorem u_main_v19 : V m c main_v19 = (Cert.LruRefIdeal.Read.val_main_v19 (F := F) (x3 m c)) :=
  (by_reshape m c 21 rfl (by decide +kernel) (by decide +kernel) (u_main_v18 m c)).trans rfl
theorem u_main_v20 : V m c main_v20 = (Cert.LruRefIdeal.Read.val_main_v20 (F := F) (x3 m c)) :=
  (by_unary m c 22 rfl (by decide +kernel) (by decide +kernel) (u_main_v19 m c)).trans rfl
theorem u_main_v21 : V m c main_v21 = (Cert.LruRefIdeal.Read.val_main_v21 (F := F) (x3 m c)) :=
  (by_unary m c 23 rfl (by decide +kernel) (by decide +kernel) (u_main_v20 m c)).trans rfl
theorem u_main_v22 : V m c main_v22 = (Cert.LruRefIdeal.Read.val_main_v22 (F := F) (x1 m c) (x3 m c)) :=
  (by_binary m c 24 rfl (by decide +kernel) (by decide +kernel) (by decide +kernel) (u_main_v17 m c) (u_main_v21 m c)).trans rfl
theorem u_main_v23 : V m c main_v23 = (Cert.LruRefIdeal.Read.val_main_v23 (F := F) (x1 m c) (x3 m c)) :=
  (by_binary m c 25 rfl (by decide +kernel) (by decide +kernel) (by decide +kernel) (u_main_v16 m c) (u_main_v22 m c)).trans rfl
theorem u_main_v24 : V m c main_v24 = (Cert.LruRefIdeal.Read.val_main_v24 (F := F) (x1 m c)) :=
  (by_unary m c 26 rfl (by decide +kernel) (by decide +kernel) (u_main_v1 m c)).trans rfl
theorem u_main_v25 : V m c main_v25 = (Cert.LruRefIdeal.Read.val_main_v25 (F := F) (x3 m c)) :=
  (by_unary m c 27 rfl (by decide +kernel) (by decide +kernel) (V_main_arg3 m c)).trans rfl
theorem u_main_v26 : V m c main_v26 = (Cert.LruRefIdeal.Read.val_main_v26 (F := F) (x3 m c)) :=
  (by_reshape m c 28 rfl (by decide +kernel) (by decide +kernel) (u_main_v25 m c)).trans rfl
theorem u_main_v27 : V m c main_v27 = (Cert.LruRefIdeal.Read.val_main_v27 (F := F) (x3 m c)) :=
  (by_unary m c 29 rfl (by decide +kernel) (by decide +kernel) (u_main_v26 m c)).trans rfl
theorem u_main_v28 : V m c main_v28 = (Cert.LruRefIdeal.Read.val_main_v28 (F := F) (x3 m c)) :=
  (by_unary m c 30 rfl (by decide +kernel) (by decide +kernel) (u_main_v27 m c)).trans rfl
theorem u_main_v29 : V m c main_v29 = (Cert.LruRefIdeal.Read.val_main_v29 (F := F) (x1 m c) (x3 m c)) :=
  (by_binary m c 31 rfl (by decide +kernel) (by decide +kernel) (by decide +kernel) (u_main_v24 m c) (u_main_v28 m c)).trans rfl
theorem u_main_v30 : V m c main_v30 = (Cert.LruRefIdeal.Read.val_main_v30 (F := F) (x1 m c) (x3 m c)) :=
  (by_binary m c 32 rfl (by decide +kernel) (by decide +kernel) (by decide +kernel) (u_main_v23 m c) (u_main_v29 m c)).trans rfl
theorem u_main_v31 : V m c main_v31 = (Cert.LruRefIdeal.Read.val_main_v31 (F := F) (x4 m c)) :=
  (by_reshape m c 33 rfl (by decide +kernel) (by decide +kernel) (V_main_arg4 m c)).trans rfl
theorem u_main_v32 : V m c main_v32 = (Cert.LruRefIdeal.Read.val_main_v32 (F := F) (x4 m c)) :=
  (by_unary m c 34 rfl (by decide +kernel) (by decide +kernel) (u_main_v31 m c)).trans rfl
theorem u_main_v33 : V m c main_v33 = (Cert.LruRefIdeal.Read.val_main_v33 (F := F) (x4 m c)) :=
  (by_unary m c 35 rfl (by decide +kernel) (by decide +kernel) (u_main_v32 m c)).trans rfl
theorem u_main_v34 : V m c main_v34 = (Cert.LruRefIdeal.Read.val_main_v34 (F := F) (x1 m c) (x3 m c) (x4 m c)) :=
  (by_binary m c 36 rfl (by decide +kernel) (by decide +kernel) (by decide +kernel) (u_main_v30 m c) (u_main_v33 m c)).trans rfl
theorem u_main_v35 : V m c main_v35 = (Cert.LruRefIdeal.Read.val_main_v35 (F := F) (x1 m c) (x3 m c) (x4 m c)) :=
  (by_reshape m c 37 rfl (by decide +kernel) (by decide +kernel) (u_main_v34 m c)).trans rfl
theorem u_main_v36 : V m c main_v36 = (Cert.LruRefIdeal.Read.val_main_v36 (F := F) (x5 m c)) :=
  (by_reshape m c 38 rfl (by decide +kernel) (by decide +kernel) (V_main_arg5 m c)).trans rfl
theorem u_main_v37 : V m c main_v37 = (Cert.LruRefIdeal.Read.val_main_v37 (F := F) (x1 m c) (x3 m c) (x4 m c) (x5 m c)) :=
  (by_binary m c 39 rfl (by decide +kernel) (by decide +kernel) (by decide +kernel) (u_main_v36 m c) (u_main_v35 m c)).trans rfl
theorem u_main_v38 : V m c main_v38 = (Cert.LruRefIdeal.Read.val_main_v38 (F := F) (x1 m c) (x3 m c) (x4 m c) (x5 m c)) :=
  (by_unary m c 40 rfl (by decide +kernel) (by decide +kernel) (u_main_v37 m c)).trans rfl
theorem u_main_v39 : V m c main_v39 = (Cert.LruRefIdeal.Read.val_main_v39 (F := F) (x6 m c)) :=
  (by_reshape m c 41 rfl (by decide +kernel) (by decide +kernel) (V_main_arg6 m c)).trans rfl
theorem u_main_v40 : V m c main_v40 = (Cert.LruRefIdeal.Read.val_main_v40 (F := F) (x6 m c)) :=
  (by_unary m c 42 rfl (by decide +kernel) (by decide +kernel) (u_main_v39 m c)).trans rfl
theorem u_main_v41 : V m c main_v41 = (Cert.LruRefIdeal.Read.val_main_v41 (F := F) (x6 m c)) :=
  (by_unary m c 43 rfl (by decide +kernel) (by decide +kernel) (u_main_v40 m c)).trans rfl
theorem u_main_v42 : V m c main_v42 = (Cert.LruRefIdeal.Read.val_main_v42 (F := F) (x1 m c) (x3 m c) (x4 m c) (x5 m c) (x6 m c)) :=
  (by_binary m c 44 rfl (by decide +kernel) (by decide +kernel) (by decide +kernel) (u_main_v38 m c) (u_main_v41 m c)).trans rfl
theorem u_main_v43 : V m c main_v43 = (Cert.LruRefIdeal.Read.val_main_v43 (F := F) (x1 m c) (x3 m c) (x4 m c) (x5 m c) (x6 m c)) :=
  (by_unary m c 45 rfl (by decide +kernel) (by decide +kernel) (u_main_v42 m c)).trans rfl
theorem u_main_v44 : V m c main_v44 = (Cert.LruRefIdeal.Read.val_main_v44 (F := F) (x1 m c) (x3 m c) (x4 m c) (x5 m c) (x6 m c)) :=
  (by_unary m c 46 rfl (by decide +kernel) (by decide +kernel) (u_main_v43 m c)).trans rfl
theorem u_main_cst_1 : V m c main_cst_1 = (Cert.LruRefIdeal.Read.val_main_cst_1 (F := F)) :=
  (by_nullary m c 47 rfl (by decide +kernel)).trans rfl
theorem u_main_v45 : V m c main_v45 = (Cert.LruRefIdeal.Read.val_main_v45 (F := F)) :=
  (by_unary m c 48 rfl (by decide +kernel) (by decide +kernel) (u_main_cst_1 m c)).trans rfl
theorem u_main_v46 : V m c main_v46 = (Cert.LruRefIdeal.Read.val_main_v46 (F := F) (x1 m c) (x3 m c) (x4 m c) (x5 m c) (x6 m c)) :=
  (by_binary m c 49 rfl (by decide +kernel) (by decide +kernel) (by decide +kernel) (u_main_v45 m c) (u_main_v44 m c)).trans rfl
theorem u_main_cst_2 : V m c main_cst_2 = (Cert.LruRefIdeal.Read.val_main_cst_2 (F := F)) :=
  (by_nullary m c 50 rfl (by decide +kernel)).trans rfl
theorem u_main_v47 : V m c main_v47 = (Cert.LruRefIdeal.Read.val_main_v47 (F := F)) :=
  (by_unary m c 51 rfl (by decide +kernel) (by decide +kernel) (u_main_cst_2 m c)).trans rfl
theorem u_main_v48 : V m c main_v48 = (Cert.LruRefIdeal.Read.val_main_v48 (F := F) (x1 m c) (x3 m c) (x4 m c) (x5 m c) (x6 m c)) :=
  (by_binary m c 52 rfl (by decide +kernel) (by decide +kernel) (by decide +kernel) (u_main_v47 m c) (u_main_v46 m c)).trans rfl
theorem u_main_v49 : V m c main_v49 = (Cert.LruRefIdeal.Read.val_main_v49 (F := F) (x1 m c) (x3 m c) (x4 m c) (x5 m c) (x6 m c)) :=
  (by_reshape m c 53 rfl (by decide +kernel) (by decide +kernel) (u_main_v48 m c)).trans rfl
theorem u_main_v50 : V m c main_v50 = (Cert.LruRefIdeal.Read.val_main_v50 (F := F) (x7 m c)) :=
  (by_reshape m c 54 rfl (by decide +kernel) (by decide +kernel) (V_main_arg7 m c)).trans rfl
theorem u_main_v51 : V m c main_v51 = (Cert.LruRefIdeal.Read.val_main_v51 (F := F) (x1 m c) (x3 m c) (x4 m c) (x7 m c)) :=
  (by_binary m c 55 rfl (by decide +kernel) (by decide +kernel) (by decide +kernel) (u_main_v50 m c) (u_main_v35 m c)).trans rfl
theorem u_main_v52 : V m c main_v52 = (Cert.LruRefIdeal.Read.val_main_v52 (F := F) (x1 m c) (x3 m c) (x4 m c) (x7 m c)) :=
  (by_unary m c 56 rfl (by decide +kernel) (by decide +kernel) (u_main_v51 m c)).trans rfl
theorem u_main_v53 : V m c main_v53 = (Cert.LruRefIdeal.Read.val_main_v53 (F := F) (x8 m c)) :=
  (by_reshape m c 57 rfl (by decide +kernel) (by decide +kernel) (V_main_arg8 m c)).trans rfl
theorem u_main_v54 : V m c main_v54 = (Cert.LruRefIdeal.Read.val_main_v54 (F := F) (x8 m c)) :=
  (by_unary m c 58 rfl (by decide +kernel) (by decide +kernel) (u_main_v53 m c)).trans rfl
theorem u_main_v55 : V m c main_v55 = (Cert.LruRefIdeal.Read.val_main_v55 (F := F) (x8 m c)) :=
  (by_unary m c 59 rfl (by decide +kernel) (by decide +kernel) (u_main_v54 m c)).trans rfl
theorem u_main_v56 : V m c main_v56 = (Cert.LruRefIdeal.Read.val_main_v56 (F := F) (x1 m c) (x3 m c) (x4 m c) (x7 m c) (x8 m c)) :=
  (by_binary m c 60 rfl (by decide +kernel) (by decide +kernel) (by decide +kernel) (u_main_v52 m c) (u_main_v55 m c)).trans rfl
theorem u_main_v57 : V m c main_v57 = (Cert.LruRefIdeal.Read.val_main_v57 (F := F) (x1 m c) (x3 m c) (x4 m c) (x7 m c) (x8 m c)) :=
  (by_unary m c 61 rfl (by decide +kernel) (by decide +kernel) (u_main_v56 m c)).trans rfl
theorem u_main_v58 : V m c main_v58 = (Cert.LruRefIdeal.Read.val_main_v58 (F := F) (x1 m c) (x3 m c) (x4 m c) (x7 m c) (x8 m c)) :=
  (by_unary m c 62 rfl (by decide +kernel) (by decide +kernel) (u_main_v57 m c)).trans rfl
theorem u_main_cst_3 : V m c main_cst_3 = (Cert.LruRefIdeal.Read.val_main_cst_3 (F := F)) :=
  (by_nullary m c 63 rfl (by decide +kernel)).trans rfl
theorem u_main_v59 : V m c main_v59 = (Cert.LruRefIdeal.Read.val_main_v59 (F := F)) :=
  (by_unary m c 64 rfl (by decide +kernel) (by decide +kernel) (u_main_cst_3 m c)).trans rfl
theorem u_main_v60 : V m c main_v60 = (Cert.LruRefIdeal.Read.val_main_v60 (F := F) (x1 m c) (x3 m c) (x4 m c) (x7 m c) (x8 m c)) :=
  (by_binary m c 65 rfl (by decide +kernel) (by decide +kernel) (by decide +kernel) (u_main_v59 m c) (u_main_v58 m c)).trans rfl
theorem u_main_cst_4 : V m c main_cst_4 = (Cert.LruRefIdeal.Read.val_main_cst_4 (F := F)) :=
  (by_nullary m c 66 rfl (by decide +kernel)).trans rfl
theorem u_main_v61 : V m c main_v61 = (Cert.LruRefIdeal.Read.val_main_v61 (F := F)) :=
  (by_unary m c 67 rfl (by decide +kernel) (by decide +kernel) (u_main_cst_4 m c)).trans rfl
theorem u_main_v62 : V m c main_v62 = (Cert.LruRefIdeal.Read.val_main_v62 (F := F) (x1 m c) (x3 m c) (x4 m c) (x7 m c) (x8 m c)) :=
  (by_binary m c 68 rfl (by decide +kernel) (by decide +kernel) (by decide +kernel) (u_main_v61 m c) (u_main_v60 m c)).trans rfl
theorem u_main_v63 : V m c main_v63 = (Cert.LruRefIdeal.Read.val_main_v63 (F := F) (x1 m c) (x3 m c) (x4 m c) (x7 m c) (x8 m c)) :=
  (by_reshape m c 69 rfl (by decide +kernel) (by decide +kernel) (u_main_v62 m c)).trans rfl
theorem u_main_cst_5 : V m c main_cst_5 = (Cert.LruRefIdeal.Read.val_main_cst_5 (F := F)) :=
  (by_nullary m c 70 rfl (by decide +kernel)).trans rfl
theorem u_main_v64 : V m c main_v64 = (Cert.LruRefIdeal.Read.val_main_v64 (F := F)) :=
  (by_unary m c 71 rfl (by decide +kernel) (by decide +kernel) (u_main_cst_5 m c)).trans rfl
theorem u_main_v65 : V m c main_v65 = (Cert.LruRefIdeal.Read.val_main_v65 (F := F) (x1 m c) (x3 m c) (x4 m c) (x5 m c) (x6 m c)) :=
  (by_binary m c 72 rfl (by decide +kernel) (by decide +kernel) (by decide +kernel) (u_main_v64 m c) (u_main_v49 m c)).trans rfl
theorem u_main_v66 : V m c main_v66 = (Cert.LruRefIdeal.Read.val_main_v66 (F := F) (x9 m c)) :=
  (by_reshape m c 73 rfl (by decide +kernel) (by decide +kernel) (V_main_arg9 m c)).trans rfl
theorem u_main_v67 : V m c main_v67 = (Cert.LruRefIdeal.Read.val_main_v67 (F := F) (x9 m c)) :=
  (by_unary m c 74 rfl (by decide +kernel) (by decide +kernel) (u_main_v66 m c)).trans rfl
theorem u_main_call0_cst : V m c main_call0_cst = (Cert.LruRefIdeal.Read.val_main_call0_cst (F := F)) :=
  (by_nullary m c 75 rfl (by decide +kernel)).trans rfl
theorem u_main_call0_v0 : V m c main_call0_v0 = (Cert.LruRefIdeal.Read.val_main_call0_v0 (F := F)) :=
  (by_unary m c 76 rfl (by decide +kernel) (by decide +kernel) (u_main_call0_cst m c)).trans rfl
theorem u_main_call0_v1 : V m c main_call0_v1 = (Cert.LruRefIdeal.Read.val_main_call0_v1 (F := F) (x9 m c)) :=
  (by_binary m c 77 rfl (by decide +kernel) (by decide +kernel) (by decide +kernel) (u_main_v67 m c) (u_main_call0_v0 m c)).trans rfl
theorem u_main_call0_v2 : V m c main_call0_v2 = (Cert.LruRefIdeal.Read.val_main_call0_v2 (F := F)) :=
  (by_unary m c 78 rfl (by decide +kernel) (by decide +kernel) (u_main_call0_cst m c)).trans rfl
theorem u_main_call0_v3 : V m c main_call0_v3 = (Cert.LruRefIdeal.Read.val_main_call0_v3 (F := F) (x9 m c)) :=
  (by_binary m c 79 rfl (by decide +kernel) (by decide +kernel) (by decide +kernel) (u_main_v67 m c) (u_main_call0_v2 m c)).trans rfl
theorem u_main_call0_v4 : V m c main_call0_v4 = (Cert.LruRefIdeal.Read.val_main_call0_v4 (F := F) (x9 m c)) :=
  (by_binary m c 80 rfl (by decide +kernel) (by decide +kernel) (by decide +kernel) (u_main_call0_v3 m c) (u_main_call0_v3 m c)).trans rfl
theorem u_main_call0_v5 : V m c main_call0_v5 = (Cert.LruRefIdeal.Read.val_main_call0_v5 (F := F)) :=
  (by_unary m c 81 rfl (by decide +kernel) (by decide +kernel) (u_main_call0_cst m c)).trans rfl
theorem u_main_call0_v6 : V m c main_call0_v6 = (Cert.LruRefIdeal.Read.val_main_call0_v6 (F := F) (x9 m c)) :=
  (by_binary m c 82 rfl (by decide +kernel) (by decide +kernel) (by decide +kernel) (u_main_v67 m c) (u_main_call0_v5 m c)).trans rfl
theorem u_main_call0_v7 : V m c main_call0_v7 = (Cert.LruRefIdeal.Read.val_main_call0_v7 (F := F) (x9 m c)) :=
  (by_unary m c 83 rfl (by decide +kernel) (by decide +kernel) (u_main_call0_v3 m c)).trans rfl
theorem u_main_call0_v8 : V m c main_call0_v8 = (Cert.LruRefIdeal.Read.val_main_call0_v8 (F := F) (x9 m c)) :=
  (by_unary m c 84 rfl (by decide +kernel) (by decide +kernel) (u_main_call0_v7 m c)).trans rfl
theorem u_main_call0_v9 : V m c main_call0_v9 = (Cert.LruRefIdeal.Read.val_main_call0_v9 (F := F) (x9 m c)) :=
  (by_unary m c 85 rfl (by decide +kernel) (by decide +kernel) (u_main_call0_v8 m c)).trans rfl
theorem u_main_call0_v10 : V m c main_call0_v10 = (Cert.LruRefIdeal.Read.val_main_call0_v10 (F := F) (x9 m c)) :=
  (by_unary m c 86 rfl (by decide +kernel) (by decide +kernel) (u_main_call0_v9 m c)).trans rfl
theorem u_main_call0_v11 : V m c main_call0_v11 = (Cert.LruRefIdeal.Read.val_main_call0_v11 (F := F) (x9 m c)) :=
  (by_binary m c 87 rfl (by decide +kernel) (by decide +kernel) (by decide +kernel) (u_main_call0_v1 m c) (u_main_call0_v10 m c)).trans rfl
theorem u_main_v68 : V m c main_v68 = (Cert.LruRefIdeal.Read.val_main_v68 (F := F) (x9 m c)) :=
  (by_ternary m c 88 rfl (by decide +kernel) (by decide +kernel) (by decide +kernel) (by decide +kernel) (u_main_call0_v4 m c) (u_main_call0_v6 m c) (u_main_call0_v11 m c)).trans rfl
theorem u_main_v69 : V m c main_v69 = (Cert.LruRefIdeal.Read.val_main_v69 (F := F) (x9 m c)) :=
  (by_unary m c 89 rfl (by decide +kernel) (by decide +kernel) (u_main_v68 m c)).trans rfl
theorem u_main_v70 : V m c main_v70 = (Cert.LruRefIdeal.Read.val_main_v70 (F := F) (x9 m c)) :=
  (by_unary m c 90 rfl (by decide +kernel) (by decide +kernel) (u_main_v69 m c)).trans rfl
theorem u_main_v71 : V m c main_v71 = (Cert.LruRefIdeal.Read.val_main_v71 (F := F) (x1 m c) (x3 m c) (x4 m c) (x5 m c) (x6 m c) (x9 m c)) :=
  (by_binary m c 91 rfl (by decide +kernel) (by decide +kernel) (by decide +kernel) (u_main_v65 m c) (u_main_v70 m c)).trans rfl
theorem u_main_v72 : V m c main_v72 = (Cert.LruRefIdeal.Read.val_main_v72 (F := F) (x1 m c) (x3 m c) (x4 m c) (x5 m c) (x6 m c) (x9 m c)) :=
  (by_unary m c 92 rfl (by decide +kernel) (by decide +kernel) (u_main_v71 m c)).trans rfl
theorem u_main_cst_6 : V m c main_cst_6 = (Cert.LruRefIdeal.Read.val_main_cst_6 (F := F)) :=
  (by_nullary m c 93 rfl (by decide +kernel)).trans rfl
theorem u_main_v73 : V m c main_v73 = (Cert.LruRefIdeal.Read.val_main_v73 (F := F)) :=
  (by_unary m c 94 rfl (by decide +kernel) (by decide +kernel) (u_main_cst_6 m c)).trans rfl
theorem u_main_v74 : V m c main_v74 = (Cert.LruRefIdeal.Read.val_main_v74 (F := F) (x1 m c) (x3 m c) (x4 m c) (x5 m c) (x6 m c) (x9 m c)) :=
  (by_binary m c 95 rfl (by decide +kernel) (by decide +kernel) (by decide +kernel) (u_main_v73 m c) (u_main_v71 m c)).trans rfl
theorem u_main_v75 : V m c main_v75 = (Cert.LruRefIdeal.Read.val_main_v75 (F := F) (x1 m c) (x3 m c) (x4 m c) (x5 m c) (x6 m c) (x9 m c)) :=
  (by_unary m c 96 rfl (by decide +kernel) (by decide +kernel) (u_main_v74 m c)).trans rfl
theorem u_main_cst_7 : V m c main_cst_7 = (Cert.LruRefIdeal.Read.val_main_cst_7 (F := F)) :=
  (by_nullary m c 97 rfl (by decide +kernel)).trans rfl
theorem u_main_v76 : V m c main_v76 = (Cert.LruRefIdeal.Read.val_main_v76 (F := F)) :=
  (by_unary m c 98 rfl (by decide +kernel) (by decide +kernel) (u_main_cst_7 m c)).trans rfl
theorem u_main_v77 : V m c main_v77 = (Cert.LruRefIdeal.Read.val_main_v77 (F := F) (x1 m c) (x3 m c) (x4 m c) (x5 m c) (x6 m c) (x9 m c)) :=
  (by_binary m c 99 rfl (by decide +kernel) (by decide +kernel) (by decide +kernel) (u_main_v76 m c) (u_main_v75 m c)).trans rfl
theorem u_main_cst_8 : V m c main_cst_8 = (Cert.LruRefIdeal.Read.val_main_cst_8 (F := F)) :=
  (by_nullary m c 100 rfl (by decide +kernel)).trans rfl
theorem u_main_v78 : V m c main_v78 = (Cert.LruRefIdeal.Read.val_main_v78 (F := F)) :=
  (by_unary m c 101 rfl (by decide +kernel) (by decide +kernel) (u_main_cst_8 m c)).trans rfl
theorem u_main_v79 : V m c main_v79 = (Cert.LruRefIdeal.Read.val_main_v79 (F := F) (x1 m c) (x3 m c) (x4 m c) (x5 m c) (x6 m c) (x9 m c)) :=
  (by_binary m c 102 rfl (by decide +kernel) (by decide +kernel) (by decide +kernel) (u_main_v77 m c) (u_main_v78 m c)).trans rfl
theorem u_main_v80 : V m c main_v80 = (Cert.LruRefIdeal.Read.val_main_v80 (F := F) (x1 m c) (x3 m c) (x4 m c) (x5 m c) (x6 m c) (x9 m c)) :=
  (by_unary m c 103 rfl (by decide +kernel) (by decide +kernel) (u_main_v79 m c)).trans rfl
theorem u_main_v81 : V m c main_v81 = (Cert.LruRefIdeal.Read.val_main_v81 (F := F)) :=
  (by_nullary m c 104 rfl (by decide +kernel)).trans rfl
theorem u_main_c : V m c main_c = (Cert.LruRefIdeal.Read.val_main_c (F := F)) :=
  (by_nullary m c 105 rfl (by decide +kernel)).trans rfl
theorem u_main_v82 : V m c main_v82 = (Cert.LruRefIdeal.Read.val_main_v82 (F := F)) :=
  (by_unary m c 106 rfl (by decide +kernel) (by decide +kernel) (u_main_c m c)).trans rfl
theorem u_main_v83 : V m c main_v83 = (Cert.LruRefIdeal.Read.val_main_v83 (F := F)) :=
  (by_binary m c 107 rfl (by decide +kernel) (by decide +kernel) (by decide +kernel) (u_main_v81 m c) (u_main_v82 m c)).trans rfl
theorem u_main_v84 : V m c main_v84 = (Cert.LruRefIdeal.Read.val_main_v84 (F := F)) :=
  (by_unary m c 108 rfl (by decide +kernel) (by decide +kernel) (u_main_v83 m c)).trans rfl
theorem u_main_cst_9 : V m c main_cst_9 = (Cert.LruRefIdeal.Read.val_main_cst_9 (F := F)) :=
  (by_nullary m c 109 rfl (by decide +kernel)).trans rfl
theorem u_main_call1_v0 : V m c main_call1_v0 = (Cert.LruRefIdeal.Read.val_main_call1_v0 (F := F)) :=
  (by_unary m c 110 rfl (by decide +kernel) (by decide +kernel) (u_main_cst_9 m c)).trans rfl
theorem u_main_call1_v1 : V m c main_call1_v1 = (Cert.LruRefIdeal.Read.val_main_call1_v1 (F := F)) :=
  (by_unary m c 111 rfl (by decide +kernel) (by decide +kernel) (u_main_v84 m c)).trans rfl
theorem u_main_call1_v2 : V m c main_call1_v2 = (Cert.LruRefIdeal.Read.val_main_call1_v2 (F := F)) :=
  (by_unary m c 112 rfl (by decide +kernel) (by decide +kernel) (u_main_call1_v0 m c)).trans rfl
theorem u_main_v85 : V m c main_v85 = (Cert.LruRefIdeal.Read.val_main_v85 (F := F) (x1 m c) (x3 m c) (x4 m c) (x5 m c) (x6 m c) (x9 m c)) :=
  (by_ternary m c 113 rfl (by decide +kernel) (by decide +kernel) (by decide +kernel) (by decide +kernel) (u_main_call1_v1 m c) (u_main_call1_v2 m c) (u_main_v80 m c)).trans rfl
theorem u_main_v86 : V m c main_v86 = (Cert.LruRefIdeal.Read.val_main_v86 (F := F) (x1 m c) (x3 m c) (x4 m c) (x5 m c) (x6 m c) (x7 m c) (x8 m c) (x9 m c)) :=
  (by_binary m c 114 rfl (by decide +kernel) (by decide +kernel) (by decide +kernel) (u_main_v85 m c) (u_main_v63 m c)).trans rfl
theorem u_main_v87 : V m c main_v87 = (Cert.LruRefIdeal.Read.val_main_v87 (F := F) (x1 m c) (x3 m c) (x4 m c) (x5 m c) (x6 m c) (x7 m c) (x8 m c) (x9 m c)) :=
  (by_binary m c 115 rfl (by decide +kernel) (by decide +kernel) (by decide +kernel) (u_main_v86 m c) (u_main_v34 m c)).trans rfl
theorem u_main_v88 : V m c main_v88 = (Cert.LruRefIdeal.Read.val_main_v88 (F := F) (x1 m c) (x3 m c) (x4 m c) (x5 m c) (x6 m c) (x9 m c)) :=
  (by_unary m c 116 rfl (by decide +kernel) (by decide +kernel) (u_main_v72 m c)).trans rfl
theorem u_main_v89 : V m c main_v89 = (Cert.LruRefIdeal.Read.val_main_v89 (F := F) (x1 m c) (x3 m c) (x4 m c) (x5 m c) (x6 m c) (x7 m c) (x8 m c) (x9 m c)) :=
  (by_unary m c 117 rfl (by decide +kernel) (by decide +kernel) (u_main_v87 m c)).trans rfl
theorem u_main_v90 : V m c main_v90 = (Cert.LruRefIdeal.Read.val_main_v90 (F := F) (x1 m c) (x3 m c) (x4 m c) (x5 m c) (x6 m c) (x9 m c)) :=
  (by_unary m c 118 rfl (by decide +kernel) (by decide +kernel) (u_main_v72 m c)).trans rfl
theorem u_main_v91 : V m c main_v91 = (Cert.LruRefIdeal.Read.val_main_v91 (F := F) (x1 m c) (x3 m c) (x4 m c) (x5 m c) (x6 m c) (x7 m c) (x8 m c) (x9 m c)) :=
  (by_unary m c 119 rfl (by decide +kernel) (by decide +kernel) (u_main_v87 m c)).trans rfl
theorem u_main_v92 : V m c main_v92 = (Cert.LruRefIdeal.Read.val_main_v92 (F := F) (x1 m c) (x3 m c) (x4 m c) (x5 m c) (x6 m c) (x9 m c)) :=
  (by_binary m c 120 rfl (by decide +kernel) (by decide +kernel) (by decide +kernel) (u_main_v88 m c) (u_main_v90 m c)).trans rfl
theorem u_main_v93 : V m c main_v93 = (Cert.LruRefIdeal.Read.val_main_v93 (F := F) (x1 m c) (x3 m c) (x4 m c) (x5 m c) (x6 m c) (x7 m c) (x8 m c) (x9 m c)) :=
  (by_binary m c 121 rfl (by decide +kernel) (by decide +kernel) (by decide +kernel) (u_main_v90 m c) (u_main_v89 m c)).trans rfl
theorem u_main_v94 : V m c main_v94 = (Cert.LruRefIdeal.Read.val_main_v94 (F := F) (x1 m c) (x3 m c) (x4 m c) (x5 m c) (x6 m c) (x7 m c) (x8 m c) (x9 m c)) :=
  (by_binary m c 122 rfl (by decide +kernel) (by decide +kernel) (by decide +kernel) (u_main_v93 m c) (u_main_v91 m c)).trans rfl
theorem u_main_v95 : V m c main_v95 = (Cert.LruRefIdeal.Read.val_main_v95 (F := F) (x1 m c) (x3 m c) (x4 m c) (x5 m c) (x6 m c) (x9 m c)) :=
  (by_unary m c 123 rfl (by decide +kernel) (by decide +kernel) (u_main_v92 m c)).trans rfl
theorem u_main_v96 : V m c main_v96 = (Cert.LruRefIdeal.Read.val_main_v96 (F := F) (x1 m c) (x3 m c) (x4 m c) (x5 m c) (x6 m c) (x7 m c) (x8 m c) (x9 m c)) :=
  (by_unary m c 124 rfl (by decide +kernel) (by decide +kernel) (u_main_v94 m c)).trans rfl
theorem u_main_v97 : V m c main_v97 = (Cert.LruRefIdeal.Read.val_main_v97 (F := F) (x1 m c) (x3 m c) (x4 m c) (x5 m c) (x6 m c) (x9 m c)) :=
  (by_unary m c 125 rfl (by decide +kernel) (by decide +kernel) (u_main_v92 m c)).trans rfl
theorem u_main_v98 : V m c main_v98 = (Cert.LruRefIdeal.Read.val_main_v98 (F := F) (x1 m c) (x3 m c) (x4 m c) (x5 m c) (x6 m c) (x7 m c) (x8 m c) (x9 m c)) :=
  (by_unary m c 126 rfl (by decide +kernel) (by decide +kernel) (u_main_v94 m c)).trans rfl
theorem u_main_v99 : V m c main_v99 = (Cert.LruRefIdeal.Read.val_main_v99 (F := F) (x1 m c) (x3 m c) (x4 m c) (x5 m c) (x6 m c) (x9 m c)) :=
  (by_binary m c 127 rfl (by decide +kernel) (by decide +kernel) (by decide +kernel) (u_main_v95 m c) (u_main_v97 m c)).trans rfl
theorem u_main_v100 : V m c main_v100 = (Cert.LruRefIdeal.Read.val_main_v100 (F := F) (x1 m c) (x3 m c) (x4 m c) (x5 m c) (x6 m c) (x7 m c) (x8 m c) (x9 m c)) :=
  (by_binary m c 128 rfl (by decide +kernel) (by decide +kernel) (by decide +kernel) (u_main_v97 m c) (u_main_v96 m c)).trans rfl
theorem u_main_v101 : V m c main_v101 = (Cert.LruRefIdeal.Read.val_main_v101 (F := F) (x1 m c) (x3 m c) (x4 m c) (x5 m c) (x6 m c) (x7 m c) (x8 m c) (x9 m c)) :=
  (by_binary m c 129 rfl (by decide +kernel) (by decide +kernel) (by decide +kernel) (u_main_v100 m c) (u_main_v98 m c)).trans rfl

end Cert.LruHost

end
-- ==== Proof.LruHost2.lean ====
/- What the host lines leave, line by line: each buffer as the reference's own line of the same place has it. -/
module

public import proofs.«01_k».proof.Proof.LruHost1

@[expose] public section

set_option maxRecDepth 200000

noncomputable section

namespace Cert.LruHost

open Idealize.ShloMosaic Idealize.ShloMosaic.TcCoe Idealize.ShloMosaic.Tactic
open Cert.LruIdeal Cert.LruIdeal.Gen Cert.LruBody

variable {F : FTy → Type} [FloatOps F]

variable (m : (ℓ : Loc nD τ sig) → Buf (Elt F) ℓ) (c : Dev nD)

theorem u_main_v102 : V m c main_v102 = (Cert.LruRefIdeal.Read.val_main_v102 (F := F) (x1 m c) (x3 m c) (x4 m c) (x5 m c) (x6 m c) (x9 m c)) :=
  (by_unary m c 130 rfl (by decide +kernel) (by decide +kernel) (u_main_v99 m c)).trans rfl
theorem u_main_v103 : V m c main_v103 = (Cert.LruRefIdeal.Read.val_main_v103 (F := F) (x1 m c) (x3 m c) (x4 m c) (x5 m c) (x6 m c) (x7 m c) (x8 m c) (x9 m c)) :=
  (by_unary m c 131 rfl (by decide +kernel) (by decide +kernel) (u_main_v101 m c)).trans rfl
theorem u_main_v104 : V m c main_v104 = (Cert.LruRefIdeal.Read.val_main_v104 (F := F) (x1 m c) (x3 m c) (x4 m c) (x5 m c) (x6 m c) (x9 m c)) :=
  (by_unary m c 132 rfl (by decide +kernel) (by decide +kernel) (u_main_v99 m c)).trans rfl
theorem u_main_v105 : V m c main_v105 = (Cert.LruRefIdeal.Read.val_main_v105 (F := F) (x1 m c) (x3 m c) (x4 m c) (x5 m c) (x6 m c) (x7 m c) (x8 m c) (x9 m c)) :=
  (by_unary m c 133 rfl (by decide +kernel) (by decide +kernel) (u_main_v101 m c)).trans rfl
theorem u_main_v106 : V m c main_v106 = (Cert.LruRefIdeal.Read.val_main_v106 (F := F) (x1 m c) (x3 m c) (x4 m c) (x5 m c) (x6 m c) (x9 m c)) :=
  (by_binary m c 134 rfl (by decide +kernel) (by decide +kernel) (by decide +kernel) (u_main_v102 m c) (u_main_v104 m c)).trans rfl
theorem u_main_v107 : V m c main_v107 = (Cert.LruRefIdeal.Read.val_main_v107 (F := F) (x1 m c) (x3 m c) (x4 m c) (x5 m c) (x6 m c) (x7 m c) (x8 m c) (x9 m c)) :=
  (by_binary m c 135 rfl (by decide +kernel) (by decide +kernel) (by decide +kernel) (u_main_v104 m c) (u_main_v103 m c)).trans rfl
theorem u_main_v108 : V m c main_v108 = (Cert.LruRefIdeal.Read.val_main_v108 (F := F) (x1 m c) (x3 m c) (x4 m c) (x5 m c) (x6 m c) (x7 m c) (x8 m c) (x9 m c)) :=
  (by_binary m c 136 rfl (by decide +kernel) (by decide +kernel) (by decide +kernel) (u_main_v107 m c) (u_main_v105 m c)).trans rfl
theorem u_main_v109 : V m c main_v109 = (Cert.LruRefIdeal.Read.val_main_v109 (F := F) (x1 m c) (x3 m c) (x4 m c) (x5 m c) (x6 m c) (x9 m c)) :=
  (by_unary m c 137 rfl (by decide +kernel) (by decide +kernel) (u_main_v106 m c)).trans rfl
theorem u_main_v110 : V m c main_v110 = (Cert.LruRefIdeal.Read.val_main_v110 (F := F) (x1 m c) (x3 m c) (x4 m c) (x5 m c) (x6 m c) (x7 m c) (x8 m c) (x9 m c)) :=
  (by_unary m c 138 rfl (by decide +kernel) (by decide +kernel) (u_main_v108 m c)).trans rfl
theorem u_main_v111 : V m c main_v111 = (Cert.LruRefIdeal.Read.val_main_v111 (F := F) (x1 m c) (x3 m c) (x4 m c) (x5 m c) (x6 m c) (x9 m c)) :=
  (by_unary m c 139 rfl (by decide +kernel) (by decide +kernel) (u_main_v106 m c)).trans rfl
theorem u_main_v112 : V m c main_v112 = (Cert.LruRefIdeal.Read.val_main_v112 (F := F) (x1 m c) (x3 m c) (x4 m c) (x5 m c) (x6 m c) (x7 m c) (x8 m c) (x9 m c)) :=
  (by_unary m c 140 rfl (by decide +kernel) (by decide +kernel) (u_main_v108 m c)).trans rfl
theorem u_main_v113 : V m c main_v113 = (Cert.LruRefIdeal.Read.val_main_v113 (F := F) (x1 m c) (x3 m c) (x4 m c) (x5 m c) (x6 m c) (x9 m c)) :=
  (by_binary m c 141 rfl (by decide +kernel) (by decide +kernel) (by decide +kernel) (u_main_v109 m c) (u_main_v111 m c)).trans rfl
theorem u_main_v114 : V m c main_v114 = (Cert.LruRefIdeal.Read.val_main_v114 (F := F) (x1 m c) (x3 m c) (x4 m c) (x5 m c) (x6 m c) (x7 m c) (x8 m c) (x9 m c)) :=
  (by_binary m c 142 rfl (by decide +kernel) (by decide +kernel) (by decide +kernel) (u_main_v111 m c) (u_main_v110 m c)).trans rfl
theorem u_main_v115 : V m c main_v115 = (Cert.LruRefIdeal.Read.val_main_v115 (F := F) (x1 m c) (x3 m c) (x4 m c) (x5 m c) (x6 m c) (x7 m c) (x8 m c) (x9 m c)) :=
  (by_binary m c 143 rfl (by decide +kernel) (by decide +kernel) (by decide +kernel) (u_main_v114 m c) (u_main_v112 m c)).trans rfl
theorem u_main_v116 : V m c main_v116 = (Cert.LruRefIdeal.Read.val_main_v116 (F := F) (x1 m c) (x3 m c) (x4 m c) (x5 m c) (x6 m c) (x9 m c)) :=
  (by_unary m c 144 rfl (by decide +kernel) (by decide +kernel) (u_main_v113 m c)).trans rfl
theorem u_main_v117 : V m c main_v117 = (Cert.LruRefIdeal.Read.val_main_v117 (F := F) (x1 m c) (x3 m c) (x4 m c) (x5 m c) (x6 m c) (x7 m c) (x8 m c) (x9 m c)) :=
  (by_unary m c 145 rfl (by decide +kernel) (by decide +kernel) (u_main_v115 m c)).trans rfl
theorem u_main_v118 : V m c main_v118 = (Cert.LruRefIdeal.Read.val_main_v118 (F := F) (x1 m c) (x3 m c) (x4 m c) (x5 m c) (x6 m c) (x9 m c)) :=
  (by_unary m c 146 rfl (by decide +kernel) (by decide +kernel) (u_main_v113 m c)).trans rfl
theorem u_main_v119 : V m c main_v119 = (Cert.LruRefIdeal.Read.val_main_v119 (F := F) (x1 m c) (x3 m c) (x4 m c) (x5 m c) (x6 m c) (x7 m c) (x8 m c) (x9 m c)) :=
  (by_unary m c 147 rfl (by decide +kernel) (by decide +kernel) (u_main_v115 m c)).trans rfl
theorem u_main_v120 : V m c main_v120 = (Cert.LruRefIdeal.Read.val_main_v120 (F := F) (x1 m c) (x3 m c) (x4 m c) (x5 m c) (x6 m c) (x9 m c)) :=
  (by_binary m c 148 rfl (by decide +kernel) (by decide +kernel) (by decide +kernel) (u_main_v116 m c) (u_main_v118 m c)).trans rfl
theorem u_main_v121 : V m c main_v121 = (Cert.LruRefIdeal.Read.val_main_v121 (F := F) (x1 m c) (x3 m c) (x4 m c) (x5 m c) (x6 m c) (x7 m c) (x8 m c) (x9 m c)) :=
  (by_binary m c 149 rfl (by decide +kernel) (by decide +kernel) (by decide +kernel) (u_main_v118 m c) (u_main_v117 m c)).trans rfl
theorem u_main_v122 : V m c main_v122 = (Cert.LruRefIdeal.Read.val_main_v122 (F := F) (x1 m c) (x3 m c) (x4 m c) (x5 m c) (x6 m c) (x7 m c) (x8 m c) (x9 m c)) :=
  (by_binary m c 150 rfl (by decide +kernel) (by decide +kernel) (by decide +kernel) (u_main_v121 m c) (u_main_v119 m c)).trans rfl
theorem u_main_v123 : V m c main_v123 = (Cert.LruRefIdeal.Read.val_main_v123 (F := F) (x1 m c) (x3 m c) (x4 m c) (x5 m c) (x6 m c) (x9 m c)) :=
  (by_unary m c 151 rfl (by decide +kernel) (by decide +kernel) (u_main_v120 m c)).trans rfl
theorem u_main_v124 : V m c main_v124 = (Cert.LruRefIdeal.Read.val_main_v124 (F := F) (x1 m c) (x3 m c) (x4 m c) (x5 m c) (x6 m c) (x7 m c) (x8 m c) (x9 m c)) :=
  (by_unary m c 152 rfl (by decide +kernel) (by decide +kernel) (u_main_v122 m c)).trans rfl
theorem u_main_v125 : V m c main_v125 = (Cert.LruRefIdeal.Read.val_main_v125 (F := F) (x1 m c) (x3 m c) (x4 m c) (x5 m c) (x6 m c) (x9 m c)) :=
  (by_unary m c 153 rfl (by decide +kernel) (by decide +kernel) (u_main_v120 m c)).trans rfl
theorem u_main_v126 : V m c main_v126 = (Cert.LruRefIdeal.Read.val_main_v126 (F := F) (x1 m c) (x3 m c) (x4 m c) (x5 m c) (x6 m c) (x7 m c) (x8 m c) (x9 m c)) :=
  (by_unary m c 154 rfl (by decide +kernel) (by decide +kernel) (u_main_v122 m c)).trans rfl
theorem u_main_v127 : V m c main_v127 = (Cert.LruRefIdeal.Read.val_main_v127 (F := F) (x1 m c) (x3 m c) (x4 m c) (x5 m c) (x6 m c) (x9 m c)) :=
  (by_binary m c 155 rfl (by decide +kernel) (by decide +kernel) (by decide +kernel) (u_main_v123 m c) (u_main_v125 m c)).trans rfl
theorem u_main_v128 : V m c main_v128 = (Cert.LruRefIdeal.Read.val_main_v128 (F := F) (x1 m c) (x3 m c) (x4 m c) (x5 m c) (x6 m c) (x7 m c) (x8 m c) (x9 m c)) :=
  (by_binary m c 156 rfl (by decide +kernel) (by decide +kernel) (by decide +kernel) (u_main_v125 m c) (u_main_v124 m c)).trans rfl
theorem u_main_v129 : V m c main_v129 = (Cert.LruRefIdeal.Read.val_main_v129 (F := F) (x1 m c) (x3 m c) (x4 m c) (x5 m c) (x6 m c) (x7 m c) (x8 m c) (x9 m c)) :=
  (by_binary m c 157 rfl (by decide +kernel) (by decide +kernel) (by decide +kernel) (u_main_v128 m c) (u_main_v126 m c)).trans rfl
theorem u_main_v130 : V m c main_v130 = (Cert.LruRefIdeal.Read.val_main_v130 (F := F) (x1 m c) (x3 m c) (x4 m c) (x5 m c) (x6 m c) (x9 m c)) :=
  (by_unary m c 158 rfl (by decide +kernel) (by decide +kernel) (u_main_v127 m c)).trans rfl
theorem u_main_v131 : V m c main_v131 = (Cert.LruRefIdeal.Read.val_main_v131 (F := F) (x1 m c) (x3 m c) (x4 m c) (x5 m c) (x6 m c) (x7 m c) (x8 m c) (x9 m c)) :=
  (by_unary m c 159 rfl (by decide +kernel) (by decide +kernel) (u_main_v129 m c)).trans rfl
theorem u_main_v132 : V m c main_v132 = (Cert.LruRefIdeal.Read.val_main_v132 (F := F) (x1 m c) (x3 m c) (x4 m c) (x5 m c) (x6 m c) (x9 m c)) :=
  (by_unary m c 160 rfl (by decide +kernel) (by decide +kernel) (u_main_v127 m c)).trans rfl
theorem u_main_v133 : V m c main_v133 = (Cert.LruRefIdeal.Read.val_main_v133 (F := F) (x1 m c) (x3 m c) (x4 m c) (x5 m c) (x6 m c) (x7 m c) (x8 m c) (x9 m c)) :=
  (by_unary m c 161 rfl (by decide +kernel) (by decide +kernel) (u_main_v129 m c)).trans rfl
theorem u_main_v134 : V m c main_v134 = (Cert.LruRefIdeal.Read.val_main_v134 (F := F) (x1 m c) (x3 m c) (x4 m c) (x5 m c) (x6 m c) (x9 m c)) :=
  (by_binary m c 162 rfl (by decide +kernel) (by decide +kernel) (by decide +kernel) (u_main_v130 m c) (u_main_v132 m c)).trans rfl
theorem u_main_v135 : V m c main_v135 = (Cert.LruRefIdeal.Read.val_main_v135 (F := F) (x1 m c) (x3 m c) (x4 m c) (x5 m c) (x6 m c) (x7 m c) (x8 m c) (x9 m c)) :=
  (by_binary m c 163 rfl (by decide +kernel) (by decide +kernel) (by decide +kernel) (u_main_v132 m c) (u_main_v131 m c)).trans rfl
theorem u_main_v136 : V m c main_v136 = (Cert.LruRefIdeal.Read.val_main_v136 (F := F) (x1 m c) (x3 m c) (x4 m c) (x5 m c) (x6 m c) (x7 m c) (x8 m c) (x9 m c)) :=
  (by_binary m c 164 rfl (by decide +kernel) (by decide +kernel) (by decide +kernel) (u_main_v135 m c) (u_main_v133 m c)).trans rfl
theorem u_main_v137 : V m c main_v137 = (Cert.LruRefIdeal.Read.val_main_v137 (F := F) (x1 m c) (x3 m c) (x4 m c) (x5 m c) (x6 m c) (x9 m c)) :=
  (by_unary m c 165 rfl (by decide +kernel) (by decide +kernel) (u_main_v134 m c)).trans rfl
theorem u_main_v138 : V m c main_v138 = (Cert.LruRefIdeal.Read.val_main_v138 (F := F) (x1 m c) (x3 m c) (x4 m c) (x5 m c) (x6 m c) (x7 m c) (x8 m c) (x9 m c)) :=
  (by_unary m c 166 rfl (by decide +kernel) (by decide +kernel) (u_main_v136 m c)).trans rfl
theorem u_main_v139 : V m c main_v139 = (Cert.LruRefIdeal.Read.val_main_v139 (F := F) (x1 m c) (x3 m c) (x4 m c) (x5 m c) (x6 m c) (x9 m c)) :=
  (by_unary m c 167 rfl (by decide +kernel) (by decide +kernel) (u_main_v134 m c)).trans rfl
theorem u_main_v140 : V m c main_v140 = (Cert.LruRefIdeal.Read.val_main_v140 (F := F) (x1 m c) (x3 m c) (x4 m c) (x5 m c) (x6 m c) (x7 m c) (x8 m c) (x9 m c)) :=
  (by_unary m c 168 rfl (by decide +kernel) (by decide +kernel) (u_main_v136 m c)).trans rfl
theorem u_main_v141 : V m c main_v141 = (Cert.LruRefIdeal.Read.val_main_v141 (F := F) (x1 m c) (x3 m c) (x4 m c) (x5 m c) (x6 m c) (x9 m c)) :=
  (by_binary m c 169 rfl (by decide +kernel) (by decide +kernel) (by decide +kernel) (u_main_v137 m c) (u_main_v139 m c)).trans rfl
theorem u_main_v142 : V m c main_v142 = (Cert.LruRefIdeal.Read.val_main_v142 (F := F) (x1 m c) (x3 m c) (x4 m c) (x5 m c) (x6 m c) (x7 m c) (x8 m c) (x9 m c)) :=
  (by_binary m c 170 rfl (by decide +kernel) (by decide +kernel) (by decide +kernel) (u_main_v139 m c) (u_main_v138 m c)).trans rfl
theorem u_main_v143 : V m c main_v143 = (Cert.LruRefIdeal.Read.val_main_v143 (F := F) (x1 m c) (x3 m c) (x4 m c) (x5 m c) (x6 m c) (x7 m c) (x8 m c) (x9 m c)) :=
  (by_binary m c 171 rfl (by decide +kernel) (by decide +kernel) (by decide +kernel) (u_main_v142 m c) (u_main_v140 m c)).trans rfl
theorem u_main_v144 : V m c main_v144 = (Cert.LruRefIdeal.Read.val_main_v144 (F := F) (x1 m c) (x3 m c) (x4 m c) (x5 m c) (x6 m c) (x9 m c)) :=
  (by_unary m c 172 rfl (by decide +kernel) (by decide +kernel) (u_main_v141 m c)).trans rfl
theorem u_main_v145 : V m c main_v145 = (Cert.LruRefIdeal.Read.val_main_v145 (F := F) (x1 m c) (x3 m c) (x4 m c) (x5 m c) (x6 m c) (x7 m c) (x8 m c) (x9 m c)) :=
  (by_unary m c 173 rfl (by decide +kernel) (by decide +kernel) (u_main_v143 m c)).trans rfl
theorem u_main_v146 : V m c main_v146 = (Cert.LruRefIdeal.Read.val_main_v146 (F := F) (x1 m c) (x3 m c) (x4 m c) (x5 m c) (x6 m c) (x9 m c)) :=
  (by_unary m c 174 rfl (by decide +kernel) (by decide +kernel) (u_main_v141 m c)).trans rfl
theorem u_main_v147 : V m c main_v147 = (Cert.LruRefIdeal.Read.val_main_v147 (F := F) (x1 m c) (x3 m c) (x4 m c) (x5 m c) (x6 m c) (x7 m c) (x8 m c) (x9 m c)) :=
  (by_unary m c 175 rfl (by decide +kernel) (by decide +kernel) (u_main_v143 m c)).trans rfl
theorem u_main_v148 : V m c main_v148 = (Cert.LruRefIdeal.Read.val_main_v148 (F := F) (x1 m c) (x3 m c) (x4 m c) (x5 m c) (x6 m c) (x9 m c)) :=
  (by_binary m c 176 rfl (by decide +kernel) (by decide +kernel) (by decide +kernel) (u_main_v144 m c) (u_main_v146 m c)).trans rfl
theorem u_main_v149 : V m c main_v149 = (Cert.LruRefIdeal.Read.val_main_v149 (F := F) (x1 m c) (x3 m c) (x4 m c) (x5 m c) (x6 m c) (x7 m c) (x8 m c) (x9 m c)) :=
  (by_binary m c 177 rfl (by decide +kernel) (by decide +kernel) (by decide +kernel) (u_main_v146 m c) (u_main_v145 m c)).trans rfl
theorem u_main_v150 : V m c main_v150 = (Cert.LruRefIdeal.Read.val_main_v150 (F := F) (x1 m c) (x3 m c) (x4 m c) (x5 m c) (x6 m c) (x7 m c) (x8 m c) (x9 m c)) :=
  (by_binary m c 178 rfl (by decide +kernel) (by decide +kernel) (by decide +kernel) (u_main_v149 m c) (u_main_v147 m c)).trans rfl
theorem u_main_v151 : V m c main_v151 = (Cert.LruRefIdeal.Read.val_main_v151 (F := F) (x1 m c) (x3 m c) (x4 m c) (x5 m c) (x6 m c) (x9 m c)) :=
  (by_unary m c 179 rfl (by decide +kernel) (by decide +kernel) (u_main_v148 m c)).trans rfl
theorem u_main_v152 : V m c main_v152 = (Cert.LruRefIdeal.Read.val_main_v152 (F := F) (x1 m c) (x3 m c) (x4 m c) (x5 m c) (x6 m c) (x7 m c) (x8 m c) (x9 m c)) :=
  (by_unary m c 180 rfl (by decide +kernel) (by decide +kernel) (u_main_v150 m c)).trans rfl
theorem u_main_v153 : V m c main_v153 = (Cert.LruRefIdeal.Read.val_main_v153 (F := F) (x1 m c) (x3 m c) (x4 m c) (x5 m c) (x6 m c) (x9 m c)) :=
  (by_unary m c 181 rfl (by decide +kernel) (by decide +kernel) (u_main_v148 m c)).trans rfl
theorem u_main_v154 : V m c main_v154 = (Cert.LruRefIdeal.Read.val_main_v154 (F := F) (x1 m c) (x3 m c) (x4 m c) (x5 m c) (x6 m c) (x7 m c) (x8 m c) (x9 m c)) :=
  (by_unary m c 182 rfl (by decide +kernel) (by decide +kernel) (u_main_v150 m c)).trans rfl
theorem u_main_v155 : V m c main_v155 = (Cert.LruRefIdeal.Read.val_main_v155 (F := F) (x1 m c) (x3 m c) (x4 m c) (x5 m c) (x6 m c) (x9 m c)) :=
  (by_binary m c 183 rfl (by decide +kernel) (by decide +kernel) (by decide +kernel) (u_main_v151 m c) (u_main_v153 m c)).trans rfl
theorem u_main_v156 : V m c main_v156 = (Cert.LruRefIdeal.Read.val_main_v156 (F := F) (x1 m c) (x3 m c) (x4 m c) (x5 m c) (x6 m c) (x7 m c) (x8 m c) (x9 m c)) :=
  (by_binary m c 184 rfl (by decide +kernel) (by decide +kernel) (by decide +kernel) (u_main_v153 m c) (u_main_v152 m c)).trans rfl
theorem u_main_v157 : V m c main_v157 = (Cert.LruRefIdeal.Read.val_main_v157 (F := F) (x1 m c) (x3 m c) (x4 m c) (x5 m c) (x6 m c) (x7 m c) (x8 m c) (x9 m c)) :=
  (by_binary m c 185 rfl (by decide +kernel) (by decide +kernel) (by decide +kernel) (u_main_v156 m c) (u_main_v154 m c)).trans rfl
theorem u_main_v158 : V m c main_v158 = (Cert.LruRefIdeal.Read.val_main_v158 (F := F) (x1 m c) (x3 m c) (x4 m c) (x5 m c) (x6 m c) (x9 m c)) :=
  (by_unary m c 186 rfl (by decide +kernel) (by decide +kernel) (u_main_v155 m c)).trans rfl
theorem u_main_v159 : V m c main_v159 = (Cert.LruRefIdeal.Read.val_main_v159 (F := F) (x1 m c) (x3 m c) (x4 m c) (x5 m c) (x6 m c) (x7 m c) (x8 m c) (x9 m c)) :=
  (by_unary m c 187 rfl (by decide +kernel) (by decide +kernel) (u_main_v157 m c)).trans rfl
theorem u_main_v160 : V m c main_v160 = (Cert.LruRefIdeal.Read.val_main_v160 (F := F) (x1 m c) (x3 m c) (x4 m c) (x5 m c) (x6 m c) (x9 m c)) :=
  (by_unary m c 188 rfl (by decide +kernel) (by decide +kernel) (u_main_v155 m c)).trans rfl
theorem u_main_v161 : V m c main_v161 = (Cert.LruRefIdeal.Read.val_main_v161 (F := F) (x1 m c) (x3 m c) (x4 m c) (x5 m c) (x6 m c) (x7 m c) (x8 m c) (x9 m c)) :=
  (by_unary m c 189 rfl (by decide +kernel) (by decide +kernel) (u_main_v157 m c)).trans rfl
theorem u_main_v162 : V m c main_v162 = (Cert.LruRefIdeal.Read.val_main_v162 (F := F) (x1 m c) (x3 m c) (x4 m c) (x5 m c) (x6 m c) (x9 m c)) :=
  (by_binary m c 190 rfl (by decide +kernel) (by decide +kernel) (by decide +kernel) (u_main_v158 m c) (u_main_v160 m c)).trans rfl
theorem u_main_v163 : V m c main_v163 = (Cert.LruRefIdeal.Read.val_main_v163 (F := F) (x1 m c) (x3 m c) (x4 m c) (x5 m c) (x6 m c) (x7 m c) (x8 m c) (x9 m c)) :=
  (by_binary m c 191 rfl (by decide +kernel) (by decide +kernel) (by decide +kernel) (u_main_v160 m c) (u_main_v159 m c)).trans rfl
theorem u_main_v164 : V m c main_v164 = (Cert.LruRefIdeal.Read.val_main_v164 (F := F) (x1 m c) (x3 m c) (x4 m c) (x5 m c) (x6 m c) (x7 m c) (x8 m c) (x9 m c)) :=
  (by_binary m c 192 rfl (by decide +kernel) (by decide +kernel) (by decide +kernel) (u_main_v163 m c) (u_main_v161 m c)).trans rfl
theorem u_main_v165 : V m c main_v165 = (Cert.LruRefIdeal.Read.val_main_v165 (F := F) (x1 m c) (x3 m c) (x4 m c) (x5 m c) (x6 m c) (x9 m c)) :=
  (by_unary m c 193 rfl (by decide +kernel) (by decide +kernel) (u_main_v162 m c)).trans rfl
theorem u_main_v166 : V m c main_v166 = (Cert.LruRefIdeal.Read.val_main_v166 (F := F) (x1 m c) (x3 m c) (x4 m c) (x5 m c) (x6 m c) (x7 m c) (x8 m c) (x9 m c)) :=
  (by_unary m c 194 rfl (by decide +kernel) (by decide +kernel) (u_main_v164 m c)).trans rfl
theorem u_main_v167 : V m c main_v167 = (Cert.LruRefIdeal.Read.val_main_v167 (F := F) (x1 m c) (x3 m c) (x4 m c) (x5 m c) (x6 m c) (x9 m c)) :=
  (by_unary m c 195 rfl (by decide +kernel) (by decide +kernel) (u_main_v162 m c)).trans rfl
theorem u_main_v168 : V m c main_v168 = (Cert.LruRefIdeal.Read.val_main_v168 (F := F) (x1 m c) (x3 m c) (x4 m c) (x5 m c) (x6 m c) (x7 m c) (x8 m c) (x9 m c)) :=
  (by_unary m c 196 rfl (by decide +kernel) (by decide +kernel) (u_main_v164 m c)).trans rfl
theorem u_main_v169 : V m c main_v169 = (Cert.LruRefIdeal.Read.val_main_v169 (F := F) (x1 m c) (x3 m c) (x4 m c) (x5 m c) (x6 m c) (x9 m c)) :=
  (by_binary m c 197 rfl (by decide +kernel) (by decide +kernel) (by decide +kernel) (u_main_v165 m c) (u_main_v167 m c)).trans rfl
theorem u_main_v170 : V m c main_v170 = (Cert.LruRefIdeal.Read.val_main_v170 (F := F) (x1 m c) (x3 m c) (x4 m c) (x5 m c) (x6 m c) (x7 m c) (x8 m c) (x9 m c)) :=
  (by_binary m c 198 rfl (by decide +kernel) (by decide +kernel) (by decide +kernel) (u_main_v167 m c) (u_main_v166 m c)).trans rfl
theorem u_main_v171 : V m c main_v171 = (Cert.LruRefIdeal.Read.val_main_v171 (F := F) (x1 m c) (x3 m c) (x4 m c) (x5 m c) (x6 m c) (x7 m c) (x8 m c) (x9 m c)) :=
  (by_binary m c 199 rfl (by decide +kernel) (by decide +kernel) (by decide +kernel) (u_main_v170 m c) (u_main_v168 m c)).trans rfl
theorem u_main_v172 : V m c main_v172 = (Cert.LruRefIdeal.Read.val_main_v172 (F := F) (x1 m c) (x3 m c) (x4 m c) (x5 m c) (x6 m c) (x9 m c)) :=
  (by_unary m c 200 rfl (by decide +kernel) (by decide +kernel) (u_main_v169 m c)).trans rfl
theorem u_main_v173 : V m c main_v173 = (Cert.LruRefIdeal.Read.val_main_v173 (F := F) (x1 m c) (x3 m c) (x4 m c) (x5 m c) (x6 m c) (x7 m c) (x8 m c) (x9 m c)) :=
  (by_unary m c 201 rfl (by decide +kernel) (by decide +kernel) (u_main_v171 m c)).trans rfl
theorem u_main_v174 : V m c main_v174 = (Cert.LruRefIdeal.Read.val_main_v174 (F := F) (x1 m c) (x3 m c) (x4 m c) (x5 m c) (x6 m c) (x9 m c)) :=
  (by_unary m c 202 rfl (by decide +kernel) (by decide +kernel) (u_main_v169 m c)).trans rfl
theorem u_main_v175 : V m c main_v175 = (Cert.LruRefIdeal.Read.val_main_v175 (F := F) (x1 m c) (x3 m c) (x4 m c) (x5 m c) (x6 m c) (x7 m c) (x8 m c) (x9 m c)) :=
  (by_unary m c 203 rfl (by decide +kernel) (by decide +kernel) (u_main_v171 m c)).trans rfl
theorem u_main_v176 : V m c main_v176 = (Cert.LruRefIdeal.Read.val_main_v176 (F := F) (x1 m c) (x3 m c) (x4 m c) (x5 m c) (x6 m c) (x9 m c)) :=
  (by_binary m c 204 rfl (by decide +kernel) (by decide +kernel) (by decide +kernel) (u_main_v172 m c) (u_main_v174 m c)).trans rfl
theorem u_main_v177 : V m c main_v177 = (Cert.LruRefIdeal.Read.val_main_v177 (F := F) (x1 m c) (x3 m c) (x4 m c) (x5 m c) (x6 m c) (x7 m c) (x8 m c) (x9 m c)) :=
  (by_binary m c 205 rfl (by decide +kernel) (by decide +kernel) (by decide +kernel) (u_main_v174 m c) (u_main_v173 m c)).trans rfl
theorem u_main_v178 : V m c main_v178 = (Cert.LruRefIdeal.Read.val_main_v178 (F := F) (x1 m c) (x3 m c) (x4 m c) (x5 m c) (x6 m c) (x7 m c) (x8 m c) (x9 m c)) :=
  (by_binary m c 206 rfl (by decide +kernel) (by decide +kernel) (by decide +kernel) (u_main_v177 m c) (u_main_v175 m c)).trans rfl
theorem u_main_v179 : V m c main_v179 = (Cert.LruRefIdeal.Read.val_main_v179 (F := F) (x1 m c) (x3 m c) (x4 m c) (x5 m c) (x6 m c) (x9 m c)) :=
  (by_unary m c 207 rfl (by decide +kernel) (by decide +kernel) (u_main_v176 m c)).trans rfl
theorem u_main_v180 : V m c main_v180 = (Cert.LruRefIdeal.Read.val_main_v180 (F := F) (x1 m c) (x3 m c) (x4 m c) (x5 m c) (x6 m c) (x7 m c) (x8 m c) (x9 m c)) :=
  (by_unary m c 208 rfl (by decide +kernel) (by decide +kernel) (u_main_v178 m c)).trans rfl
theorem u_main_v181 : V m c main_v181 = (Cert.LruRefIdeal.Read.val_main_v181 (F := F) (x1 m c) (x3 m c) (x4 m c) (x5 m c) (x6 m c) (x9 m c)) :=
  (by_unary m c 209 rfl (by decide +kernel) (by decide +kernel) (u_main_v176 m c)).trans rfl
theorem u_main_v182 : V m c main_v182 = (Cert.LruRefIdeal.Read.val_main_v182 (F := F) (x1 m c) (x3 m c) (x4 m c) (x5 m c) (x6 m c) (x7 m c) (x8 m c) (x9 m c)) :=
  (by_unary m c 210 rfl (by decide +kernel) (by decide +kernel) (u_main_v178 m c)).trans rfl
theorem u_main_v183 : V m c main_v183 = (Cert.LruRefIdeal.Read.val_main_v183 (F := F) (x1 m c) (x3 m c) (x4 m c) (x5 m c) (x6 m c) (x9 m c)) :=
  (by_binary m c 211 rfl (by decide +kernel) (by decide +kernel) (by decide +kernel) (u_main_v179 m c) (u_main_v181 m c)).trans rfl
theorem u_main_v184 : V m c main_v184 = (Cert.LruRefIdeal.Read.val_main_v184 (F := F) (x1 m c) (x3 m c) (x4 m c) (x5 m c) (x6 m c) (x7 m c) (x8 m c) (x9 m c)) :=
  (by_binary m c 212 rfl (by decide +kernel) (by decide +kernel) (by decide +kernel) (u_main_v181 m c) (u_main_v180 m c)).trans rfl
theorem u_main_v185 : V m c main_v185 = (Cert.LruRefIdeal.Read.val_main_v185 (F := F) (x1 m c) (x3 m c) (x4 m c) (x5 m c) (x6 m c) (x7 m c) (x8 m c) (x9 m c)) :=
  (by_binary m c 213 rfl (by decide +kernel) (by decide +kernel) (by decide +kernel) (u_main_v184 m c) (u_main_v182 m c)).trans rfl
theorem u_main_v186 : V m c main_v186 = (Cert.LruRefIdeal.Read.val_main_v186 (F := F) (x1 m c) (x3 m c) (x4 m c) (x5 m c) (x6 m c) (x9 m c)) :=
  (by_unary m c 214 rfl (by decide +kernel) (by decide +kernel) (u_main_v183 m c)).trans rfl
theorem u_main_v187 : V m c main_v187 = (Cert.LruRefIdeal.Read.val_main_v187 (F := F) (x1 m c) (x3 m c) (x4 m c) (x5 m c) (x6 m c) (x7 m c) (x8 m c) (x9 m c)) :=
  (by_unary m c 215 rfl (by decide +kernel) (by decide +kernel) (u_main_v185 m c)).trans rfl
theorem u_main_v188 : V m c main_v188 = (Cert.LruRefIdeal.Read.val_main_v188 (F := F) (x1 m c) (x3 m c) (x4 m c) (x5 m c) (x6 m c) (x9 m c)) :=
  (by_unary m c 216 rfl (by decide +kernel) (by decide +kernel) (u_main_v176 m c)).trans rfl
theorem u_main_v189 : V m c main_v189 = (Cert.LruRefIdeal.Read.val_main_v189 (F := F) (x1 m c) (x3 m c) (x4 m c) (x5 m c) (x6 m c) (x7 m c) (x8 m c) (x9 m c)) :=
  (by_unary m c 217 rfl (by decide +kernel) (by decide +kernel) (u_main_v178 m c)).trans rfl
theorem u_main_v190 : V m c main_v190 = (Cert.LruRefIdeal.Read.val_main_v190 (F := F) (x1 m c) (x3 m c) (x4 m c) (x5 m c) (x6 m c) (x9 m c)) :=
  (by_binary m c 218 rfl (by decide +kernel) (by decide +kernel) (by decide +kernel) (u_main_v186 m c) (u_main_v188 m c)).trans rfl
theorem u_main_v191 : V m c main_v191 = (Cert.LruRefIdeal.Read.val_main_v191 (F := F) (x1 m c) (x3 m c) (x4 m c) (x5 m c) (x6 m c) (x7 m c) (x8 m c) (x9 m c)) :=
  (by_binary m c 219 rfl (by decide +kernel) (by decide +kernel) (by decide +kernel) (u_main_v188 m c) (u_main_v187 m c)).trans rfl
theorem u_main_v192 : V m c main_v192 = (Cert.LruRefIdeal.Read.val_main_v192 (F := F) (x1 m c) (x3 m c) (x4 m c) (x5 m c) (x6 m c) (x7 m c) (x8 m c) (x9 m c)) :=
  (by_binary m c 220 rfl (by decide +kernel) (by decide +kernel) (by decide +kernel) (u_main_v191 m c) (u_main_v189 m c)).trans rfl
theorem u_main_v193 : V m c main_v193 = (Cert.LruRefIdeal.Read.val_main_v193 (F := F) (x1 m c) (x3 m c) (x4 m c) (x5 m c) (x6 m c) (x9 m c)) :=
  (by_unary m c 221 rfl (by decide +kernel) (by decide +kernel) (u_main_v176 m c)).trans rfl
theorem u_main_v194 : V m c main_v194 = (Cert.LruRefIdeal.Read.val_main_v194 (F := F) (x1 m c) (x3 m c) (x4 m c) (x5 m c) (x6 m c) (x9 m c)) :=
  (by_binary m c 222 rfl (by decide +kernel) (by decide +kernel) (by decide +kernel) (u_main_v193 m c) (u_main_v190 m c)).trans rfl
theorem u_main_v195 : V m c main_v195 = (Cert.LruRefIdeal.Read.val_main_v195 (F := F) (x1 m c) (x3 m c) (x4 m c) (x5 m c) (x6 m c) (x7 m c) (x8 m c) (x9 m c)) :=
  (by_unary m c 223 rfl (by decide +kernel) (by decide +kernel) (u_main_v178 m c)).trans rfl
theorem u_main_v196 : V m c main_v196 = (Cert.LruRefIdeal.Read.val_main_v196 (F := F) (x1 m c) (x3 m c) (x4 m c) (x5 m c) (x6 m c) (x7 m c) (x8 m c) (x9 m c)) :=
  (by_binary m c 224 rfl (by decide +kernel) (by decide +kernel) (by decide +kernel) (u_main_v195 m c) (u_main_v192 m c)).trans rfl
theorem u_main_cst_10 : V m c main_cst_10 = (Cert.LruRefIdeal.Read.val_main_cst_10 (F := F)) :=
  (by_nullary m c 225 rfl (by decide +kernel)).trans rfl
theorem u_main_v197 : V m c main_v197 = (Cert.LruRefIdeal.Read.val_main_v197 (F := F) (x1 m c) (x3 m c) (x4 m c) (x5 m c) (x6 m c) (x9 m c)) :=
  (by_binary m c 226 rfl (by decide +kernel) (by decide +kernel) (by decide +kernel) (u_main_v194 m c) (u_main_cst_10 m c)).trans rfl
theorem u_main_cst_11 : V m c main_cst_11 = (Cert.LruRefIdeal.Read.val_main_cst_11 (F := F)) :=
  (by_nullary m c 227 rfl (by decide +kernel)).trans rfl
theorem u_main_v198 : V m c main_v198 = (Cert.LruRefIdeal.Read.val_main_v198 (F := F) (x1 m c) (x3 m c) (x4 m c) (x5 m c) (x6 m c) (x9 m c)) :=
  (by_binary m c 228 rfl (by decide +kernel) (by decide +kernel) (by decide +kernel) (u_main_v183 m c) (u_main_cst_11 m c)).trans rfl
theorem u_main_v199 : V m c main_v199 = (Cert.LruRefIdeal.Read.val_main_v199 (F := F) (x1 m c) (x3 m c) (x4 m c) (x5 m c) (x6 m c) (x9 m c)) :=
  (by_binary m c 229 rfl (by decide +kernel) (by decide +kernel) (by decide +kernel) (u_main_v197 m c) (u_main_v198 m c)).trans rfl
theorem u_main_cst_12 : V m c main_cst_12 = (Cert.LruRefIdeal.Read.val_main_cst_12 (F := F)) :=
  (by_nullary m c 230 rfl (by decide +kernel)).trans rfl
theorem u_main_v200 : V m c main_v200 = (Cert.LruRefIdeal.Read.val_main_v200 (F := F) (x1 m c) (x3 m c) (x4 m c) (x5 m c) (x6 m c) (x7 m c) (x8 m c) (x9 m c)) :=
  (by_binary m c 231 rfl (by decide +kernel) (by decide +kernel) (by decide +kernel) (u_main_v196 m c) (u_main_cst_12 m c)).trans rfl
theorem u_main_cst_13 : V m c main_cst_13 = (Cert.LruRefIdeal.Read.val_main_cst_13 (F := F)) :=
  (by_nullary m c 232 rfl (by decide +kernel)).trans rfl
theorem u_main_v201 : V m c main_v201 = (Cert.LruRefIdeal.Read.val_main_v201 (F := F) (x1 m c) (x3 m c) (x4 m c) (x5 m c) (x6 m c) (x7 m c) (x8 m c) (x9 m c)) :=
  (by_binary m c 233 rfl (by decide +kernel) (by decide +kernel) (by decide +kernel) (u_main_v185 m c) (u_main_cst_13 m c)).trans rfl
theorem u_main_v202 : V m c main_v202 = (Cert.LruRefIdeal.Read.val_main_v202 (F := F) (x1 m c) (x3 m c) (x4 m c) (x5 m c) (x6 m c) (x7 m c) (x8 m c) (x9 m c)) :=
  (by_binary m c 234 rfl (by decide +kernel) (by decide +kernel) (by decide +kernel) (u_main_v200 m c) (u_main_v201 m c)).trans rfl
theorem u_main_v203 : V m c main_v203 = (Cert.LruRefIdeal.Read.val_main_v203 (F := F) (x1 m c) (x3 m c) (x4 m c) (x5 m c) (x6 m c) (x9 m c)) :=
  (by_unary m c 235 rfl (by decide +kernel) (by decide +kernel) (u_main_v199 m c)).trans rfl
theorem u_main_v204 : V m c main_v204 = (Cert.LruRefIdeal.Read.val_main_v204 (F := F) (x1 m c) (x3 m c) (x4 m c) (x5 m c) (x6 m c) (x7 m c) (x8 m c) (x9 m c)) :=
  (by_unary m c 236 rfl (by decide +kernel) (by decide +kernel) (u_main_v202 m c)).trans rfl
theorem u_main_v205 : V m c main_v205 = (Cert.LruRefIdeal.Read.val_main_v205 (F := F) (x1 m c) (x3 m c) (x4 m c) (x5 m c) (x6 m c) (x9 m c)) :=
  (by_unary m c 237 rfl (by decide +kernel) (by decide +kernel) (u_main_v169 m c)).trans rfl
theorem u_main_v206 : V m c main_v206 = (Cert.LruRefIdeal.Read.val_main_v206 (F := F) (x1 m c) (x3 m c) (x4 m c) (x5 m c) (x6 m c) (x7 m c) (x8 m c) (x9 m c)) :=
  (by_unary m c 238 rfl (by decide +kernel) (by decide +kernel) (u_main_v171 m c)).trans rfl
theorem u_main_v207 : V m c main_v207 = (Cert.LruRefIdeal.Read.val_main_v207 (F := F) (x1 m c) (x3 m c) (x4 m c) (x5 m c) (x6 m c) (x9 m c)) :=
  (by_binary m c 239 rfl (by decide +kernel) (by decide +kernel) (by decide +kernel) (u_main_v203 m c) (u_main_v205 m c)).trans rfl
theorem u_main_v208 : V m c main_v208 = (Cert.LruRefIdeal.Read.val_main_v208 (F := F) (x1 m c) (x3 m c) (x4 m c) (x5 m c) (x6 m c) (x7 m c) (x8 m c) (x9 m c)) :=
  (by_binary m c 240 rfl (by decide +kernel) (by decide +kernel) (by decide +kernel) (u_main_v205 m c) (u_main_v204 m c)).trans rfl
theorem u_main_v209 : V m c main_v209 = (Cert.LruRefIdeal.Read.val_main_v209 (F := F) (x1 m c) (x3 m c) (x4 m c) (x5 m c) (x6 m c) (x7 m c) (x8 m c) (x9 m c)) :=
  (by_binary m c 241 rfl (by decide +kernel) (by decide +kernel) (by decide +kernel) (u_main_v208 m c) (u_main_v206 m c)).trans rfl
theorem u_main_v210 : V m c main_v210 = (Cert.LruRefIdeal.Read.val_main_v210 (F := F) (x1 m c) (x3 m c) (x4 m c) (x5 m c) (x6 m c) (x9 m c)) :=
  (by_unary m c 242 rfl (by decide +kernel) (by decide +kernel) (u_main_v169 m c)).trans rfl
theorem u_main_v211 : V m c main_v211 = (Cert.LruRefIdeal.Read.val_main_v211 (F := F) (x1 m c) (x3 m c) (x4 m c) (x5 m c) (x6 m c) (x9 m c)) :=
  (by_binary m c 243 rfl (by decide +kernel) (by decide +kernel) (by decide +kernel) (u_main_v210 m c) (u_main_v207 m c)).trans rfl
theorem u_main_v212 : V m c main_v212 = (Cert.LruRefIdeal.Read.val_main_v212 (F := F) (x1 m c) (x3 m c) (x4 m c) (x5 m c) (x6 m c) (x7 m c) (x8 m c) (x9 m c)) :=
  (by_unary m c 244 rfl (by decide +kernel) (by decide +kernel) (u_main_v171 m c)).trans rfl
theorem u_main_v213 : V m c main_v213 = (Cert.LruRefIdeal.Read.val_main_v213 (F := F) (x1 m c) (x3 m c) (x4 m c) (x5 m c) (x6 m c) (x7 m c) (x8 m c) (x9 m c)) :=
  (by_binary m c 245 rfl (by decide +kernel) (by decide +kernel) (by decide +kernel) (u_main_v212 m c) (u_main_v209 m c)).trans rfl
theorem u_main_cst_14 : V m c main_cst_14 = (Cert.LruRefIdeal.Read.val_main_cst_14 (F := F)) :=
  (by_nullary m c 246 rfl (by decide +kernel)).trans rfl
theorem u_main_v214 : V m c main_v214 = (Cert.LruRefIdeal.Read.val_main_v214 (F := F) (x1 m c) (x3 m c) (x4 m c) (x5 m c) (x6 m c) (x9 m c)) :=
  (by_binary m c 247 rfl (by decide +kernel) (by decide +kernel) (by decide +kernel) (u_main_v211 m c) (u_main_cst_14 m c)).trans rfl
theorem u_main_cst_15 : V m c main_cst_15 = (Cert.LruRefIdeal.Read.val_main_cst_15 (F := F)) :=
  (by_nullary m c 248 rfl (by decide +kernel)).trans rfl
theorem u_main_v215 : V m c main_v215 = (Cert.LruRefIdeal.Read.val_main_v215 (F := F) (x1 m c) (x3 m c) (x4 m c) (x5 m c) (x6 m c) (x9 m c)) :=
  (by_binary m c 249 rfl (by decide +kernel) (by decide +kernel) (by decide +kernel) (u_main_v199 m c) (u_main_cst_15 m c)).trans rfl
theorem u_main_v216 : V m c main_v216 = (Cert.LruRefIdeal.Read.val_main_v216 (F := F) (x1 m c) (x3 m c) (x4 m c) (x5 m c) (x6 m c) (x9 m c)) :=
  (by_binary m c 250 rfl (by decide +kernel) (by decide +kernel) (by decide +kernel) (u_main_v214 m c) (u_main_v215 m c)).trans rfl
theorem u_main_cst_16 : V m c main_cst_16 = (Cert.LruRefIdeal.Read.val_main_cst_16 (F := F)) :=
  (by_nullary m c 251 rfl (by decide +kernel)).trans rfl
theorem u_main_v217 : V m c main_v217 = (Cert.LruRefIdeal.Read.val_main_v217 (F := F) (x1 m c) (x3 m c) (x4 m c) (x5 m c) (x6 m c) (x7 m c) (x8 m c) (x9 m c)) :=
  (by_binary m c 252 rfl (by decide +kernel) (by decide +kernel) (by decide +kernel) (u_main_v213 m c) (u_main_cst_16 m c)).trans rfl
theorem u_main_cst_17 : V m c main_cst_17 = (Cert.LruRefIdeal.Read.val_main_cst_17 (F := F)) :=
  (by_nullary m c 253 rfl (by decide +kernel)).trans rfl
theorem u_main_v218 : V m c main_v218 = (Cert.LruRefIdeal.Read.val_main_v218 (F := F) (x1 m c) (x3 m c) (x4 m c) (x5 m c) (x6 m c) (x7 m c) (x8 m c) (x9 m c)) :=
  (by_binary m c 254 rfl (by decide +kernel) (by decide +kernel) (by decide +kernel) (u_main_v202 m c) (u_main_cst_17 m c)).trans rfl
theorem u_main_v219 : V m c main_v219 = (Cert.LruRefIdeal.Read.val_main_v219 (F := F) (x1 m c) (x3 m c) (x4 m c) (x5 m c) (x6 m c) (x7 m c) (x8 m c) (x9 m c)) :=
  (by_binary m c 255 rfl (by decide +kernel) (by decide +kernel) (by decide +kernel) (u_main_v217 m c) (u_main_v218 m c)).trans rfl
theorem u_main_v220 : V m c main_v220 = (Cert.LruRefIdeal.Read.val_main_v220 (F := F) (x1 m c) (x3 m c) (x4 m c) (x5 m c) (x6 m c) (x9 m c)) :=
  (by_unary m c 256 rfl (by decide +kernel) (by decide +kernel) (u_main_v216 m c)).trans rfl
theorem u_main_v221 : V m c main_v221 = (Cert.LruRefIdeal.Read.val_main_v221 (F := F) (x1 m c) (x3 m c) (x4 m c) (x5 m c) (x6 m c) (x7 m c) (x8 m c) (x9 m c)) :=
  (by_unary m c 257 rfl (by decide +kernel) (by decide +kernel) (u_main_v219 m c)).trans rfl
theorem u_main_v222 : V m c main_v222 = (Cert.LruRefIdeal.Read.val_main_v222 (F := F) (x1 m c) (x3 m c) (x4 m c) (x5 m c) (x6 m c) (x9 m c)) :=
  (by_unary m c 258 rfl (by decide +kernel) (by decide +kernel) (u_main_v162 m c)).trans rfl
theorem u_main_v223 : V m c main_v223 = (Cert.LruRefIdeal.Read.val_main_v223 (F := F) (x1 m c) (x3 m c) (x4 m c) (x5 m c) (x6 m c) (x7 m c) (x8 m c) (x9 m c)) :=
  (by_unary m c 259 rfl (by decide +kernel) (by decide +kernel) (u_main_v164 m c)).trans rfl

end Cert.LruHost

end
-- ==== Proof.LruHost3.lean ====
/- What the host lines leave, line by line: each buffer as the reference's own line of the same place has it. -/
module

public import proofs.«01_k».proof.Proof.LruHost2

@[expose] public section

set_option maxRecDepth 200000

noncomputable section

namespace Cert.LruHost

open Idealize.ShloMosaic Idealize.ShloMosaic.TcCoe Idealize.ShloMosaic.Tactic
open Cert.LruIdeal Cert.LruIdeal.Gen Cert.LruBody

variable {F : FTy → Type} [FloatOps F]

variable (m : (ℓ : Loc nD τ sig) → Buf (Elt F) ℓ) (c : Dev nD)

theorem u_main_v224 : V m c main_v224 = (Cert.LruRefIdeal.Read.val_main_v224 (F := F) (x1 m c) (x3 m c) (x4 m c) (x5 m c) (x6 m c) (x9 m c)) :=
  (by_binary m c 260 rfl (by decide +kernel) (by decide +kernel) (by decide +kernel) (u_main_v220 m c) (u_main_v222 m c)).trans rfl
theorem u_main_v225 : V m c main_v225 = (Cert.LruRefIdeal.Read.val_main_v225 (F := F) (x1 m c) (x3 m c) (x4 m c) (x5 m c) (x6 m c) (x7 m c) (x8 m c) (x9 m c)) :=
  (by_binary m c 261 rfl (by decide +kernel) (by decide +kernel) (by decide +kernel) (u_main_v222 m c) (u_main_v221 m c)).trans rfl
theorem u_main_v226 : V m c main_v226 = (Cert.LruRefIdeal.Read.val_main_v226 (F := F) (x1 m c) (x3 m c) (x4 m c) (x5 m c) (x6 m c) (x7 m c) (x8 m c) (x9 m c)) :=
  (by_binary m c 262 rfl (by decide +kernel) (by decide +kernel) (by decide +kernel) (u_main_v225 m c) (u_main_v223 m c)).trans rfl
theorem u_main_v227 : V m c main_v227 = (Cert.LruRefIdeal.Read.val_main_v227 (F := F) (x1 m c) (x3 m c) (x4 m c) (x5 m c) (x6 m c) (x9 m c)) :=
  (by_unary m c 263 rfl (by decide +kernel) (by decide +kernel) (u_main_v162 m c)).trans rfl
theorem u_main_v228 : V m c main_v228 = (Cert.LruRefIdeal.Read.val_main_v228 (F := F) (x1 m c) (x3 m c) (x4 m c) (x5 m c) (x6 m c) (x9 m c)) :=
  (by_binary m c 264 rfl (by decide +kernel) (by decide +kernel) (by decide +kernel) (u_main_v227 m c) (u_main_v224 m c)).trans rfl
theorem u_main_v229 : V m c main_v229 = (Cert.LruRefIdeal.Read.val_main_v229 (F := F) (x1 m c) (x3 m c) (x4 m c) (x5 m c) (x6 m c) (x7 m c) (x8 m c) (x9 m c)) :=
  (by_unary m c 265 rfl (by decide +kernel) (by decide +kernel) (u_main_v164 m c)).trans rfl
theorem u_main_v230 : V m c main_v230 = (Cert.LruRefIdeal.Read.val_main_v230 (F := F) (x1 m c) (x3 m c) (x4 m c) (x5 m c) (x6 m c) (x7 m c) (x8 m c) (x9 m c)) :=
  (by_binary m c 266 rfl (by decide +kernel) (by decide +kernel) (by decide +kernel) (u_main_v229 m c) (u_main_v226 m c)).trans rfl
theorem u_main_cst_18 : V m c main_cst_18 = (Cert.LruRefIdeal.Read.val_main_cst_18 (F := F)) :=
  (by_nullary m c 267 rfl (by decide +kernel)).trans rfl
theorem u_main_v231 : V m c main_v231 = (Cert.LruRefIdeal.Read.val_main_v231 (F := F) (x1 m c) (x3 m c) (x4 m c) (x5 m c) (x6 m c) (x9 m c)) :=
  (by_binary m c 268 rfl (by decide +kernel) (by decide +kernel) (by decide +kernel) (u_main_v228 m c) (u_main_cst_18 m c)).trans rfl
theorem u_main_cst_19 : V m c main_cst_19 = (Cert.LruRefIdeal.Read.val_main_cst_19 (F := F)) :=
  (by_nullary m c 269 rfl (by decide +kernel)).trans rfl
theorem u_main_v232 : V m c main_v232 = (Cert.LruRefIdeal.Read.val_main_v232 (F := F) (x1 m c) (x3 m c) (x4 m c) (x5 m c) (x6 m c) (x9 m c)) :=
  (by_binary m c 270 rfl (by decide +kernel) (by decide +kernel) (by decide +kernel) (u_main_v216 m c) (u_main_cst_19 m c)).trans rfl
theorem u_main_v233 : V m c main_v233 = (Cert.LruRefIdeal.Read.val_main_v233 (F := F) (x1 m c) (x3 m c) (x4 m c) (x5 m c) (x6 m c) (x9 m c)) :=
  (by_binary m c 271 rfl (by decide +kernel) (by decide +kernel) (by decide +kernel) (u_main_v231 m c) (u_main_v232 m c)).trans rfl
theorem u_main_cst_20 : V m c main_cst_20 = (Cert.LruRefIdeal.Read.val_main_cst_20 (F := F)) :=
  (by_nullary m c 272 rfl (by decide +kernel)).trans rfl
theorem u_main_v234 : V m c main_v234 = (Cert.LruRefIdeal.Read.val_main_v234 (F := F) (x1 m c) (x3 m c) (x4 m c) (x5 m c) (x6 m c) (x7 m c) (x8 m c) (x9 m c)) :=
  (by_binary m c 273 rfl (by decide +kernel) (by decide +kernel) (by decide +kernel) (u_main_v230 m c) (u_main_cst_20 m c)).trans rfl
theorem u_main_cst_21 : V m c main_cst_21 = (Cert.LruRefIdeal.Read.val_main_cst_21 (F := F)) :=
  (by_nullary m c 274 rfl (by decide +kernel)).trans rfl
theorem u_main_v235 : V m c main_v235 = (Cert.LruRefIdeal.Read.val_main_v235 (F := F) (x1 m c) (x3 m c) (x4 m c) (x5 m c) (x6 m c) (x7 m c) (x8 m c) (x9 m c)) :=
  (by_binary m c 275 rfl (by decide +kernel) (by decide +kernel) (by decide +kernel) (u_main_v219 m c) (u_main_cst_21 m c)).trans rfl
theorem u_main_v236 : V m c main_v236 = (Cert.LruRefIdeal.Read.val_main_v236 (F := F) (x1 m c) (x3 m c) (x4 m c) (x5 m c) (x6 m c) (x7 m c) (x8 m c) (x9 m c)) :=
  (by_binary m c 276 rfl (by decide +kernel) (by decide +kernel) (by decide +kernel) (u_main_v234 m c) (u_main_v235 m c)).trans rfl
theorem u_main_v237 : V m c main_v237 = (Cert.LruRefIdeal.Read.val_main_v237 (F := F) (x1 m c) (x3 m c) (x4 m c) (x5 m c) (x6 m c) (x9 m c)) :=
  (by_unary m c 277 rfl (by decide +kernel) (by decide +kernel) (u_main_v233 m c)).trans rfl
theorem u_main_v238 : V m c main_v238 = (Cert.LruRefIdeal.Read.val_main_v238 (F := F) (x1 m c) (x3 m c) (x4 m c) (x5 m c) (x6 m c) (x7 m c) (x8 m c) (x9 m c)) :=
  (by_unary m c 278 rfl (by decide +kernel) (by decide +kernel) (u_main_v236 m c)).trans rfl
theorem u_main_v239 : V m c main_v239 = (Cert.LruRefIdeal.Read.val_main_v239 (F := F) (x1 m c) (x3 m c) (x4 m c) (x5 m c) (x6 m c) (x9 m c)) :=
  (by_unary m c 279 rfl (by decide +kernel) (by decide +kernel) (u_main_v155 m c)).trans rfl
theorem u_main_v240 : V m c main_v240 = (Cert.LruRefIdeal.Read.val_main_v240 (F := F) (x1 m c) (x3 m c) (x4 m c) (x5 m c) (x6 m c) (x7 m c) (x8 m c) (x9 m c)) :=
  (by_unary m c 280 rfl (by decide +kernel) (by decide +kernel) (u_main_v157 m c)).trans rfl
theorem u_main_v241 : V m c main_v241 = (Cert.LruRefIdeal.Read.val_main_v241 (F := F) (x1 m c) (x3 m c) (x4 m c) (x5 m c) (x6 m c) (x9 m c)) :=
  (by_binary m c 281 rfl (by decide +kernel) (by decide +kernel) (by decide +kernel) (u_main_v237 m c) (u_main_v239 m c)).trans rfl
theorem u_main_v242 : V m c main_v242 = (Cert.LruRefIdeal.Read.val_main_v242 (F := F) (x1 m c) (x3 m c) (x4 m c) (x5 m c) (x6 m c) (x7 m c) (x8 m c) (x9 m c)) :=
  (by_binary m c 282 rfl (by decide +kernel) (by decide +kernel) (by decide +kernel) (u_main_v239 m c) (u_main_v238 m c)).trans rfl
theorem u_main_v243 : V m c main_v243 = (Cert.LruRefIdeal.Read.val_main_v243 (F := F) (x1 m c) (x3 m c) (x4 m c) (x5 m c) (x6 m c) (x7 m c) (x8 m c) (x9 m c)) :=
  (by_binary m c 283 rfl (by decide +kernel) (by decide +kernel) (by decide +kernel) (u_main_v242 m c) (u_main_v240 m c)).trans rfl
theorem u_main_v244 : V m c main_v244 = (Cert.LruRefIdeal.Read.val_main_v244 (F := F) (x1 m c) (x3 m c) (x4 m c) (x5 m c) (x6 m c) (x9 m c)) :=
  (by_unary m c 284 rfl (by decide +kernel) (by decide +kernel) (u_main_v155 m c)).trans rfl
theorem u_main_v245 : V m c main_v245 = (Cert.LruRefIdeal.Read.val_main_v245 (F := F) (x1 m c) (x3 m c) (x4 m c) (x5 m c) (x6 m c) (x9 m c)) :=
  (by_binary m c 285 rfl (by decide +kernel) (by decide +kernel) (by decide +kernel) (u_main_v244 m c) (u_main_v241 m c)).trans rfl
theorem u_main_v246 : V m c main_v246 = (Cert.LruRefIdeal.Read.val_main_v246 (F := F) (x1 m c) (x3 m c) (x4 m c) (x5 m c) (x6 m c) (x7 m c) (x8 m c) (x9 m c)) :=
  (by_unary m c 286 rfl (by decide +kernel) (by decide +kernel) (u_main_v157 m c)).trans rfl
theorem u_main_v247 : V m c main_v247 = (Cert.LruRefIdeal.Read.val_main_v247 (F := F) (x1 m c) (x3 m c) (x4 m c) (x5 m c) (x6 m c) (x7 m c) (x8 m c) (x9 m c)) :=
  (by_binary m c 287 rfl (by decide +kernel) (by decide +kernel) (by decide +kernel) (u_main_v246 m c) (u_main_v243 m c)).trans rfl
theorem u_main_cst_22 : V m c main_cst_22 = (Cert.LruRefIdeal.Read.val_main_cst_22 (F := F)) :=
  (by_nullary m c 288 rfl (by decide +kernel)).trans rfl
theorem u_main_v248 : V m c main_v248 = (Cert.LruRefIdeal.Read.val_main_v248 (F := F) (x1 m c) (x3 m c) (x4 m c) (x5 m c) (x6 m c) (x9 m c)) :=
  (by_binary m c 289 rfl (by decide +kernel) (by decide +kernel) (by decide +kernel) (u_main_v245 m c) (u_main_cst_22 m c)).trans rfl
theorem u_main_cst_23 : V m c main_cst_23 = (Cert.LruRefIdeal.Read.val_main_cst_23 (F := F)) :=
  (by_nullary m c 290 rfl (by decide +kernel)).trans rfl
theorem u_main_v249 : V m c main_v249 = (Cert.LruRefIdeal.Read.val_main_v249 (F := F) (x1 m c) (x3 m c) (x4 m c) (x5 m c) (x6 m c) (x9 m c)) :=
  (by_binary m c 291 rfl (by decide +kernel) (by decide +kernel) (by decide +kernel) (u_main_v233 m c) (u_main_cst_23 m c)).trans rfl
theorem u_main_v250 : V m c main_v250 = (Cert.LruRefIdeal.Read.val_main_v250 (F := F) (x1 m c) (x3 m c) (x4 m c) (x5 m c) (x6 m c) (x9 m c)) :=
  (by_binary m c 292 rfl (by decide +kernel) (by decide +kernel) (by decide +kernel) (u_main_v248 m c) (u_main_v249 m c)).trans rfl
theorem u_main_cst_24 : V m c main_cst_24 = (Cert.LruRefIdeal.Read.val_main_cst_24 (F := F)) :=
  (by_nullary m c 293 rfl (by decide +kernel)).trans rfl
theorem u_main_v251 : V m c main_v251 = (Cert.LruRefIdeal.Read.val_main_v251 (F := F) (x1 m c) (x3 m c) (x4 m c) (x5 m c) (x6 m c) (x7 m c) (x8 m c) (x9 m c)) :=
  (by_binary m c 294 rfl (by decide +kernel) (by decide +kernel) (by decide +kernel) (u_main_v247 m c) (u_main_cst_24 m c)).trans rfl
theorem u_main_cst_25 : V m c main_cst_25 = (Cert.LruRefIdeal.Read.val_main_cst_25 (F := F)) :=
  (by_nullary m c 295 rfl (by decide +kernel)).trans rfl
theorem u_main_v252 : V m c main_v252 = (Cert.LruRefIdeal.Read.val_main_v252 (F := F) (x1 m c) (x3 m c) (x4 m c) (x5 m c) (x6 m c) (x7 m c) (x8 m c) (x9 m c)) :=
  (by_binary m c 296 rfl (by decide +kernel) (by decide +kernel) (by decide +kernel) (u_main_v236 m c) (u_main_cst_25 m c)).trans rfl
theorem u_main_v253 : V m c main_v253 = (Cert.LruRefIdeal.Read.val_main_v253 (F := F) (x1 m c) (x3 m c) (x4 m c) (x5 m c) (x6 m c) (x7 m c) (x8 m c) (x9 m c)) :=
  (by_binary m c 297 rfl (by decide +kernel) (by decide +kernel) (by decide +kernel) (u_main_v251 m c) (u_main_v252 m c)).trans rfl
theorem u_main_v254 : V m c main_v254 = (Cert.LruRefIdeal.Read.val_main_v254 (F := F) (x1 m c) (x3 m c) (x4 m c) (x5 m c) (x6 m c) (x9 m c)) :=
  (by_unary m c 298 rfl (by decide +kernel) (by decide +kernel) (u_main_v250 m c)).trans rfl
theorem u_main_v255 : V m c main_v255 = (Cert.LruRefIdeal.Read.val_main_v255 (F := F) (x1 m c) (x3 m c) (x4 m c) (x5 m c) (x6 m c) (x7 m c) (x8 m c) (x9 m c)) :=
  (by_unary m c 299 rfl (by decide +kernel) (by decide +kernel) (u_main_v253 m c)).trans rfl
theorem u_main_v256 : V m c main_v256 = (Cert.LruRefIdeal.Read.val_main_v256 (F := F) (x1 m c) (x3 m c) (x4 m c) (x5 m c) (x6 m c) (x9 m c)) :=
  (by_unary m c 300 rfl (by decide +kernel) (by decide +kernel) (u_main_v148 m c)).trans rfl
theorem u_main_v257 : V m c main_v257 = (Cert.LruRefIdeal.Read.val_main_v257 (F := F) (x1 m c) (x3 m c) (x4 m c) (x5 m c) (x6 m c) (x7 m c) (x8 m c) (x9 m c)) :=
  (by_unary m c 301 rfl (by decide +kernel) (by decide +kernel) (u_main_v150 m c)).trans rfl
theorem u_main_v258 : V m c main_v258 = (Cert.LruRefIdeal.Read.val_main_v258 (F := F) (x1 m c) (x3 m c) (x4 m c) (x5 m c) (x6 m c) (x9 m c)) :=
  (by_binary m c 302 rfl (by decide +kernel) (by decide +kernel) (by decide +kernel) (u_main_v254 m c) (u_main_v256 m c)).trans rfl
theorem u_main_v259 : V m c main_v259 = (Cert.LruRefIdeal.Read.val_main_v259 (F := F) (x1 m c) (x3 m c) (x4 m c) (x5 m c) (x6 m c) (x7 m c) (x8 m c) (x9 m c)) :=
  (by_binary m c 303 rfl (by decide +kernel) (by decide +kernel) (by decide +kernel) (u_main_v256 m c) (u_main_v255 m c)).trans rfl
theorem u_main_v260 : V m c main_v260 = (Cert.LruRefIdeal.Read.val_main_v260 (F := F) (x1 m c) (x3 m c) (x4 m c) (x5 m c) (x6 m c) (x7 m c) (x8 m c) (x9 m c)) :=
  (by_binary m c 304 rfl (by decide +kernel) (by decide +kernel) (by decide +kernel) (u_main_v259 m c) (u_main_v257 m c)).trans rfl
theorem u_main_v261 : V m c main_v261 = (Cert.LruRefIdeal.Read.val_main_v261 (F := F) (x1 m c) (x3 m c) (x4 m c) (x5 m c) (x6 m c) (x9 m c)) :=
  (by_unary m c 305 rfl (by decide +kernel) (by decide +kernel) (u_main_v148 m c)).trans rfl
theorem u_main_v262 : V m c main_v262 = (Cert.LruRefIdeal.Read.val_main_v262 (F := F) (x1 m c) (x3 m c) (x4 m c) (x5 m c) (x6 m c) (x9 m c)) :=
  (by_binary m c 306 rfl (by decide +kernel) (by decide +kernel) (by decide +kernel) (u_main_v261 m c) (u_main_v258 m c)).trans rfl
theorem u_main_v263 : V m c main_v263 = (Cert.LruRefIdeal.Read.val_main_v263 (F := F) (x1 m c) (x3 m c) (x4 m c) (x5 m c) (x6 m c) (x7 m c) (x8 m c) (x9 m c)) :=
  (by_unary m c 307 rfl (by decide +kernel) (by decide +kernel) (u_main_v150 m c)).trans rfl
theorem u_main_v264 : V m c main_v264 = (Cert.LruRefIdeal.Read.val_main_v264 (F := F) (x1 m c) (x3 m c) (x4 m c) (x5 m c) (x6 m c) (x7 m c) (x8 m c) (x9 m c)) :=
  (by_binary m c 308 rfl (by decide +kernel) (by decide +kernel) (by decide +kernel) (u_main_v263 m c) (u_main_v260 m c)).trans rfl
theorem u_main_cst_26 : V m c main_cst_26 = (Cert.LruRefIdeal.Read.val_main_cst_26 (F := F)) :=
  (by_nullary m c 309 rfl (by decide +kernel)).trans rfl
theorem u_main_v265 : V m c main_v265 = (Cert.LruRefIdeal.Read.val_main_v265 (F := F) (x1 m c) (x3 m c) (x4 m c) (x5 m c) (x6 m c) (x9 m c)) :=
  (by_binary m c 310 rfl (by decide +kernel) (by decide +kernel) (by decide +kernel) (u_main_v262 m c) (u_main_cst_26 m c)).trans rfl
theorem u_main_cst_27 : V m c main_cst_27 = (Cert.LruRefIdeal.Read.val_main_cst_27 (F := F)) :=
  (by_nullary m c 311 rfl (by decide +kernel)).trans rfl
theorem u_main_v266 : V m c main_v266 = (Cert.LruRefIdeal.Read.val_main_v266 (F := F) (x1 m c) (x3 m c) (x4 m c) (x5 m c) (x6 m c) (x9 m c)) :=
  (by_binary m c 312 rfl (by decide +kernel) (by decide +kernel) (by decide +kernel) (u_main_v250 m c) (u_main_cst_27 m c)).trans rfl
theorem u_main_v267 : V m c main_v267 = (Cert.LruRefIdeal.Read.val_main_v267 (F := F) (x1 m c) (x3 m c) (x4 m c) (x5 m c) (x6 m c) (x9 m c)) :=
  (by_binary m c 313 rfl (by decide +kernel) (by decide +kernel) (by decide +kernel) (u_main_v265 m c) (u_main_v266 m c)).trans rfl
theorem u_main_cst_28 : V m c main_cst_28 = (Cert.LruRefIdeal.Read.val_main_cst_28 (F := F)) :=
  (by_nullary m c 314 rfl (by decide +kernel)).trans rfl
theorem u_main_v268 : V m c main_v268 = (Cert.LruRefIdeal.Read.val_main_v268 (F := F) (x1 m c) (x3 m c) (x4 m c) (x5 m c) (x6 m c) (x7 m c) (x8 m c) (x9 m c)) :=
  (by_binary m c 315 rfl (by decide +kernel) (by decide +kernel) (by decide +kernel) (u_main_v264 m c) (u_main_cst_28 m c)).trans rfl
theorem u_main_cst_29 : V m c main_cst_29 = (Cert.LruRefIdeal.Read.val_main_cst_29 (F := F)) :=
  (by_nullary m c 316 rfl (by decide +kernel)).trans rfl
theorem u_main_v269 : V m c main_v269 = (Cert.LruRefIdeal.Read.val_main_v269 (F := F) (x1 m c) (x3 m c) (x4 m c) (x5 m c) (x6 m c) (x7 m c) (x8 m c) (x9 m c)) :=
  (by_binary m c 317 rfl (by decide +kernel) (by decide +kernel) (by decide +kernel) (u_main_v253 m c) (u_main_cst_29 m c)).trans rfl
theorem u_main_v270 : V m c main_v270 = (Cert.LruRefIdeal.Read.val_main_v270 (F := F) (x1 m c) (x3 m c) (x4 m c) (x5 m c) (x6 m c) (x7 m c) (x8 m c) (x9 m c)) :=
  (by_binary m c 318 rfl (by decide +kernel) (by decide +kernel) (by decide +kernel) (u_main_v268 m c) (u_main_v269 m c)).trans rfl
theorem u_main_v271 : V m c main_v271 = (Cert.LruRefIdeal.Read.val_main_v271 (F := F) (x1 m c) (x3 m c) (x4 m c) (x5 m c) (x6 m c) (x9 m c)) :=
  (by_unary m c 319 rfl (by decide +kernel) (by decide +kernel) (u_main_v267 m c)).trans rfl
theorem u_main_v272 : V m c main_v272 = (Cert.LruRefIdeal.Read.val_main_v272 (F := F) (x1 m c) (x3 m c) (x4 m c) (x5 m c) (x6 m c) (x7 m c) (x8 m c) (x9 m c)) :=
  (by_unary m c 320 rfl (by decide +kernel) (by decide +kernel) (u_main_v270 m c)).trans rfl
theorem u_main_v273 : V m c main_v273 = (Cert.LruRefIdeal.Read.val_main_v273 (F := F) (x1 m c) (x3 m c) (x4 m c) (x5 m c) (x6 m c) (x9 m c)) :=
  (by_unary m c 321 rfl (by decide +kernel) (by decide +kernel) (u_main_v141 m c)).trans rfl
theorem u_main_v274 : V m c main_v274 = (Cert.LruRefIdeal.Read.val_main_v274 (F := F) (x1 m c) (x3 m c) (x4 m c) (x5 m c) (x6 m c) (x7 m c) (x8 m c) (x9 m c)) :=
  (by_unary m c 322 rfl (by decide +kernel) (by decide +kernel) (u_main_v143 m c)).trans rfl
theorem u_main_v275 : V m c main_v275 = (Cert.LruRefIdeal.Read.val_main_v275 (F := F) (x1 m c) (x3 m c) (x4 m c) (x5 m c) (x6 m c) (x9 m c)) :=
  (by_binary m c 323 rfl (by decide +kernel) (by decide +kernel) (by decide +kernel) (u_main_v271 m c) (u_main_v273 m c)).trans rfl
theorem u_main_v276 : V m c main_v276 = (Cert.LruRefIdeal.Read.val_main_v276 (F := F) (x1 m c) (x3 m c) (x4 m c) (x5 m c) (x6 m c) (x7 m c) (x8 m c) (x9 m c)) :=
  (by_binary m c 324 rfl (by decide +kernel) (by decide +kernel) (by decide +kernel) (u_main_v273 m c) (u_main_v272 m c)).trans rfl
theorem u_main_v277 : V m c main_v277 = (Cert.LruRefIdeal.Read.val_main_v277 (F := F) (x1 m c) (x3 m c) (x4 m c) (x5 m c) (x6 m c) (x7 m c) (x8 m c) (x9 m c)) :=
  (by_binary m c 325 rfl (by decide +kernel) (by decide +kernel) (by decide +kernel) (u_main_v276 m c) (u_main_v274 m c)).trans rfl
theorem u_main_v278 : V m c main_v278 = (Cert.LruRefIdeal.Read.val_main_v278 (F := F) (x1 m c) (x3 m c) (x4 m c) (x5 m c) (x6 m c) (x9 m c)) :=
  (by_unary m c 326 rfl (by decide +kernel) (by decide +kernel) (u_main_v141 m c)).trans rfl
theorem u_main_v279 : V m c main_v279 = (Cert.LruRefIdeal.Read.val_main_v279 (F := F) (x1 m c) (x3 m c) (x4 m c) (x5 m c) (x6 m c) (x9 m c)) :=
  (by_binary m c 327 rfl (by decide +kernel) (by decide +kernel) (by decide +kernel) (u_main_v278 m c) (u_main_v275 m c)).trans rfl
theorem u_main_v280 : V m c main_v280 = (Cert.LruRefIdeal.Read.val_main_v280 (F := F) (x1 m c) (x3 m c) (x4 m c) (x5 m c) (x6 m c) (x7 m c) (x8 m c) (x9 m c)) :=
  (by_unary m c 328 rfl (by decide +kernel) (by decide +kernel) (u_main_v143 m c)).trans rfl
theorem u_main_v281 : V m c main_v281 = (Cert.LruRefIdeal.Read.val_main_v281 (F := F) (x1 m c) (x3 m c) (x4 m c) (x5 m c) (x6 m c) (x7 m c) (x8 m c) (x9 m c)) :=
  (by_binary m c 329 rfl (by decide +kernel) (by decide +kernel) (by decide +kernel) (u_main_v280 m c) (u_main_v277 m c)).trans rfl
theorem u_main_cst_30 : V m c main_cst_30 = (Cert.LruRefIdeal.Read.val_main_cst_30 (F := F)) :=
  (by_nullary m c 330 rfl (by decide +kernel)).trans rfl
theorem u_main_v282 : V m c main_v282 = (Cert.LruRefIdeal.Read.val_main_v282 (F := F) (x1 m c) (x3 m c) (x4 m c) (x5 m c) (x6 m c) (x9 m c)) :=
  (by_binary m c 331 rfl (by decide +kernel) (by decide +kernel) (by decide +kernel) (u_main_v279 m c) (u_main_cst_30 m c)).trans rfl
theorem u_main_cst_31 : V m c main_cst_31 = (Cert.LruRefIdeal.Read.val_main_cst_31 (F := F)) :=
  (by_nullary m c 332 rfl (by decide +kernel)).trans rfl
theorem u_main_v283 : V m c main_v283 = (Cert.LruRefIdeal.Read.val_main_v283 (F := F) (x1 m c) (x3 m c) (x4 m c) (x5 m c) (x6 m c) (x9 m c)) :=
  (by_binary m c 333 rfl (by decide +kernel) (by decide +kernel) (by decide +kernel) (u_main_v267 m c) (u_main_cst_31 m c)).trans rfl
theorem u_main_v284 : V m c main_v284 = (Cert.LruRefIdeal.Read.val_main_v284 (F := F) (x1 m c) (x3 m c) (x4 m c) (x5 m c) (x6 m c) (x9 m c)) :=
  (by_binary m c 334 rfl (by decide +kernel) (by decide +kernel) (by decide +kernel) (u_main_v282 m c) (u_main_v283 m c)).trans rfl
theorem u_main_cst_32 : V m c main_cst_32 = (Cert.LruRefIdeal.Read.val_main_cst_32 (F := F)) :=
  (by_nullary m c 335 rfl (by decide +kernel)).trans rfl
theorem u_main_v285 : V m c main_v285 = (Cert.LruRefIdeal.Read.val_main_v285 (F := F) (x1 m c) (x3 m c) (x4 m c) (x5 m c) (x6 m c) (x7 m c) (x8 m c) (x9 m c)) :=
  (by_binary m c 336 rfl (by decide +kernel) (by decide +kernel) (by decide +kernel) (u_main_v281 m c) (u_main_cst_32 m c)).trans rfl
theorem u_main_cst_33 : V m c main_cst_33 = (Cert.LruRefIdeal.Read.val_main_cst_33 (F := F)) :=
  (by_nullary m c 337 rfl (by decide +kernel)).trans rfl
theorem u_main_v286 : V m c main_v286 = (Cert.LruRefIdeal.Read.val_main_v286 (F := F) (x1 m c) (x3 m c) (x4 m c) (x5 m c) (x6 m c) (x7 m c) (x8 m c) (x9 m c)) :=
  (by_binary m c 338 rfl (by decide +kernel) (by decide +kernel) (by decide +kernel) (u_main_v270 m c) (u_main_cst_33 m c)).trans rfl
theorem u_main_v287 : V m c main_v287 = (Cert.LruRefIdeal.Read.val_main_v287 (F := F) (x1 m c) (x3 m c) (x4 m c) (x5 m c) (x6 m c) (x7 m c) (x8 m c) (x9 m c)) :=
  (by_binary m c 339 rfl (by decide +kernel) (by decide +kernel) (by decide +kernel) (u_main_v285 m c) (u_main_v286 m c)).trans rfl
theorem u_main_v288 : V m c main_v288 = (Cert.LruRefIdeal.Read.val_main_v288 (F := F) (x1 m c) (x3 m c) (x4 m c) (x5 m c) (x6 m c) (x9 m c)) :=
  (by_unary m c 340 rfl (by decide +kernel) (by decide +kernel) (u_main_v284 m c)).trans rfl
theorem u_main_v289 : V m c main_v289 = (Cert.LruRefIdeal.Read.val_main_v289 (F := F) (x1 m c) (x3 m c) (x4 m c) (x5 m c) (x6 m c) (x7 m c) (x8 m c) (x9 m c)) :=
  (by_unary m c 341 rfl (by decide +kernel) (by decide +kernel) (u_main_v287 m c)).trans rfl
theorem u_main_v290 : V m c main_v290 = (Cert.LruRefIdeal.Read.val_main_v290 (F := F) (x1 m c) (x3 m c) (x4 m c) (x5 m c) (x6 m c) (x9 m c)) :=
  (by_unary m c 342 rfl (by decide +kernel) (by decide +kernel) (u_main_v134 m c)).trans rfl
theorem u_main_v291 : V m c main_v291 = (Cert.LruRefIdeal.Read.val_main_v291 (F := F) (x1 m c) (x3 m c) (x4 m c) (x5 m c) (x6 m c) (x7 m c) (x8 m c) (x9 m c)) :=
  (by_unary m c 343 rfl (by decide +kernel) (by decide +kernel) (u_main_v136 m c)).trans rfl
theorem u_main_v292 : V m c main_v292 = (Cert.LruRefIdeal.Read.val_main_v292 (F := F) (x1 m c) (x3 m c) (x4 m c) (x5 m c) (x6 m c) (x9 m c)) :=
  (by_binary m c 344 rfl (by decide +kernel) (by decide +kernel) (by decide +kernel) (u_main_v288 m c) (u_main_v290 m c)).trans rfl
theorem u_main_v293 : V m c main_v293 = (Cert.LruRefIdeal.Read.val_main_v293 (F := F) (x1 m c) (x3 m c) (x4 m c) (x5 m c) (x6 m c) (x7 m c) (x8 m c) (x9 m c)) :=
  (by_binary m c 345 rfl (by decide +kernel) (by decide +kernel) (by decide +kernel) (u_main_v290 m c) (u_main_v289 m c)).trans rfl
theorem u_main_v294 : V m c main_v294 = (Cert.LruRefIdeal.Read.val_main_v294 (F := F) (x1 m c) (x3 m c) (x4 m c) (x5 m c) (x6 m c) (x7 m c) (x8 m c) (x9 m c)) :=
  (by_binary m c 346 rfl (by decide +kernel) (by decide +kernel) (by decide +kernel) (u_main_v293 m c) (u_main_v291 m c)).trans rfl
theorem u_main_v295 : V m c main_v295 = (Cert.LruRefIdeal.Read.val_main_v295 (F := F) (x1 m c) (x3 m c) (x4 m c) (x5 m c) (x6 m c) (x9 m c)) :=
  (by_unary m c 347 rfl (by decide +kernel) (by decide +kernel) (u_main_v134 m c)).trans rfl
theorem u_main_v296 : V m c main_v296 = (Cert.LruRefIdeal.Read.val_main_v296 (F := F) (x1 m c) (x3 m c) (x4 m c) (x5 m c) (x6 m c) (x9 m c)) :=
  (by_binary m c 348 rfl (by decide +kernel) (by decide +kernel) (by decide +kernel) (u_main_v295 m c) (u_main_v292 m c)).trans rfl
theorem u_main_v297 : V m c main_v297 = (Cert.LruRefIdeal.Read.val_main_v297 (F := F) (x1 m c) (x3 m c) (x4 m c) (x5 m c) (x6 m c) (x7 m c) (x8 m c) (x9 m c)) :=
  (by_unary m c 349 rfl (by decide +kernel) (by decide +kernel) (u_main_v136 m c)).trans rfl
theorem u_main_v298 : V m c main_v298 = (Cert.LruRefIdeal.Read.val_main_v298 (F := F) (x1 m c) (x3 m c) (x4 m c) (x5 m c) (x6 m c) (x7 m c) (x8 m c) (x9 m c)) :=
  (by_binary m c 350 rfl (by decide +kernel) (by decide +kernel) (by decide +kernel) (u_main_v297 m c) (u_main_v294 m c)).trans rfl
theorem u_main_cst_34 : V m c main_cst_34 = (Cert.LruRefIdeal.Read.val_main_cst_34 (F := F)) :=
  (by_nullary m c 351 rfl (by decide +kernel)).trans rfl
theorem u_main_v299 : V m c main_v299 = (Cert.LruRefIdeal.Read.val_main_v299 (F := F) (x1 m c) (x3 m c) (x4 m c) (x5 m c) (x6 m c) (x9 m c)) :=
  (by_binary m c 352 rfl (by decide +kernel) (by decide +kernel) (by decide +kernel) (u_main_v296 m c) (u_main_cst_34 m c)).trans rfl
theorem u_main_cst_35 : V m c main_cst_35 = (Cert.LruRefIdeal.Read.val_main_cst_35 (F := F)) :=
  (by_nullary m c 353 rfl (by decide +kernel)).trans rfl
theorem u_main_v300 : V m c main_v300 = (Cert.LruRefIdeal.Read.val_main_v300 (F := F) (x1 m c) (x3 m c) (x4 m c) (x5 m c) (x6 m c) (x9 m c)) :=
  (by_binary m c 354 rfl (by decide +kernel) (by decide +kernel) (by decide +kernel) (u_main_v284 m c) (u_main_cst_35 m c)).trans rfl
theorem u_main_v301 : V m c main_v301 = (Cert.LruRefIdeal.Read.val_main_v301 (F := F) (x1 m c) (x3 m c) (x4 m c) (x5 m c) (x6 m c) (x9 m c)) :=
  (by_binary m c 355 rfl (by decide +kernel) (by decide +kernel) (by decide +kernel) (u_main_v299 m c) (u_main_v300 m c)).trans rfl
theorem u_main_cst_36 : V m c main_cst_36 = (Cert.LruRefIdeal.Read.val_main_cst_36 (F := F)) :=
  (by_nullary m c 356 rfl (by decide +kernel)).trans rfl
theorem u_main_v302 : V m c main_v302 = (Cert.LruRefIdeal.Read.val_main_v302 (F := F) (x1 m c) (x3 m c) (x4 m c) (x5 m c) (x6 m c) (x7 m c) (x8 m c) (x9 m c)) :=
  (by_binary m c 357 rfl (by decide +kernel) (by decide +kernel) (by decide +kernel) (u_main_v298 m c) (u_main_cst_36 m c)).trans rfl
theorem u_main_cst_37 : V m c main_cst_37 = (Cert.LruRefIdeal.Read.val_main_cst_37 (F := F)) :=
  (by_nullary m c 358 rfl (by decide +kernel)).trans rfl
theorem u_main_v303 : V m c main_v303 = (Cert.LruRefIdeal.Read.val_main_v303 (F := F) (x1 m c) (x3 m c) (x4 m c) (x5 m c) (x6 m c) (x7 m c) (x8 m c) (x9 m c)) :=
  (by_binary m c 359 rfl (by decide +kernel) (by decide +kernel) (by decide +kernel) (u_main_v287 m c) (u_main_cst_37 m c)).trans rfl
theorem u_main_v304 : V m c main_v304 = (Cert.LruRefIdeal.Read.val_main_v304 (F := F) (x1 m c) (x3 m c) (x4 m c) (x5 m c) (x6 m c) (x7 m c) (x8 m c) (x9 m c)) :=
  (by_binary m c 360 rfl (by decide +kernel) (by decide +kernel) (by decide +kernel) (u_main_v302 m c) (u_main_v303 m c)).trans rfl
theorem u_main_v305 : V m c main_v305 = (Cert.LruRefIdeal.Read.val_main_v305 (F := F) (x1 m c) (x3 m c) (x4 m c) (x5 m c) (x6 m c) (x9 m c)) :=
  (by_unary m c 361 rfl (by decide +kernel) (by decide +kernel) (u_main_v301 m c)).trans rfl
theorem u_main_v306 : V m c main_v306 = (Cert.LruRefIdeal.Read.val_main_v306 (F := F) (x1 m c) (x3 m c) (x4 m c) (x5 m c) (x6 m c) (x7 m c) (x8 m c) (x9 m c)) :=
  (by_unary m c 362 rfl (by decide +kernel) (by decide +kernel) (u_main_v304 m c)).trans rfl
theorem u_main_v307 : V m c main_v307 = (Cert.LruRefIdeal.Read.val_main_v307 (F := F) (x1 m c) (x3 m c) (x4 m c) (x5 m c) (x6 m c) (x9 m c)) :=
  (by_unary m c 363 rfl (by decide +kernel) (by decide +kernel) (u_main_v127 m c)).trans rfl
theorem u_main_v308 : V m c main_v308 = (Cert.LruRefIdeal.Read.val_main_v308 (F := F) (x1 m c) (x3 m c) (x4 m c) (x5 m c) (x6 m c) (x7 m c) (x8 m c) (x9 m c)) :=
  (by_unary m c 364 rfl (by decide +kernel) (by decide +kernel) (u_main_v129 m c)).trans rfl
theorem u_main_v309 : V m c main_v309 = (Cert.LruRefIdeal.Read.val_main_v309 (F := F) (x1 m c) (x3 m c) (x4 m c) (x5 m c) (x6 m c) (x9 m c)) :=
  (by_binary m c 365 rfl (by decide +kernel) (by decide +kernel) (by decide +kernel) (u_main_v305 m c) (u_main_v307 m c)).trans rfl
theorem u_main_v310 : V m c main_v310 = (Cert.LruRefIdeal.Read.val_main_v310 (F := F) (x1 m c) (x3 m c) (x4 m c) (x5 m c) (x6 m c) (x7 m c) (x8 m c) (x9 m c)) :=
  (by_binary m c 366 rfl (by decide +kernel) (by decide +kernel) (by decide +kernel) (u_main_v307 m c) (u_main_v306 m c)).trans rfl
theorem u_main_v311 : V m c main_v311 = (Cert.LruRefIdeal.Read.val_main_v311 (F := F) (x1 m c) (x3 m c) (x4 m c) (x5 m c) (x6 m c) (x7 m c) (x8 m c) (x9 m c)) :=
  (by_binary m c 367 rfl (by decide +kernel) (by decide +kernel) (by decide +kernel) (u_main_v310 m c) (u_main_v308 m c)).trans rfl
theorem u_main_v312 : V m c main_v312 = (Cert.LruRefIdeal.Read.val_main_v312 (F := F) (x1 m c) (x3 m c) (x4 m c) (x5 m c) (x6 m c) (x9 m c)) :=
  (by_unary m c 368 rfl (by decide +kernel) (by decide +kernel) (u_main_v127 m c)).trans rfl
theorem u_main_v313 : V m c main_v313 = (Cert.LruRefIdeal.Read.val_main_v313 (F := F) (x1 m c) (x3 m c) (x4 m c) (x5 m c) (x6 m c) (x9 m c)) :=
  (by_binary m c 369 rfl (by decide +kernel) (by decide +kernel) (by decide +kernel) (u_main_v312 m c) (u_main_v309 m c)).trans rfl
theorem u_main_v314 : V m c main_v314 = (Cert.LruRefIdeal.Read.val_main_v314 (F := F) (x1 m c) (x3 m c) (x4 m c) (x5 m c) (x6 m c) (x7 m c) (x8 m c) (x9 m c)) :=
  (by_unary m c 370 rfl (by decide +kernel) (by decide +kernel) (u_main_v129 m c)).trans rfl
theorem u_main_v315 : V m c main_v315 = (Cert.LruRefIdeal.Read.val_main_v315 (F := F) (x1 m c) (x3 m c) (x4 m c) (x5 m c) (x6 m c) (x7 m c) (x8 m c) (x9 m c)) :=
  (by_binary m c 371 rfl (by decide +kernel) (by decide +kernel) (by decide +kernel) (u_main_v314 m c) (u_main_v311 m c)).trans rfl
theorem u_main_cst_38 : V m c main_cst_38 = (Cert.LruRefIdeal.Read.val_main_cst_38 (F := F)) :=
  (by_nullary m c 372 rfl (by decide +kernel)).trans rfl
theorem u_main_v316 : V m c main_v316 = (Cert.LruRefIdeal.Read.val_main_v316 (F := F) (x1 m c) (x3 m c) (x4 m c) (x5 m c) (x6 m c) (x9 m c)) :=
  (by_binary m c 373 rfl (by decide +kernel) (by decide +kernel) (by decide +kernel) (u_main_v313 m c) (u_main_cst_38 m c)).trans rfl
theorem u_main_cst_39 : V m c main_cst_39 = (Cert.LruRefIdeal.Read.val_main_cst_39 (F := F)) :=
  (by_nullary m c 374 rfl (by decide +kernel)).trans rfl
theorem u_main_v317 : V m c main_v317 = (Cert.LruRefIdeal.Read.val_main_v317 (F := F) (x1 m c) (x3 m c) (x4 m c) (x5 m c) (x6 m c) (x9 m c)) :=
  (by_binary m c 375 rfl (by decide +kernel) (by decide +kernel) (by decide +kernel) (u_main_v301 m c) (u_main_cst_39 m c)).trans rfl
theorem u_main_v318 : V m c main_v318 = (Cert.LruRefIdeal.Read.val_main_v318 (F := F) (x1 m c) (x3 m c) (x4 m c) (x5 m c) (x6 m c) (x9 m c)) :=
  (by_binary m c 376 rfl (by decide +kernel) (by decide +kernel) (by decide +kernel) (u_main_v316 m c) (u_main_v317 m c)).trans rfl
theorem u_main_cst_40 : V m c main_cst_40 = (Cert.LruRefIdeal.Read.val_main_cst_40 (F := F)) :=
  (by_nullary m c 377 rfl (by decide +kernel)).trans rfl
theorem u_main_v319 : V m c main_v319 = (Cert.LruRefIdeal.Read.val_main_v319 (F := F) (x1 m c) (x3 m c) (x4 m c) (x5 m c) (x6 m c) (x7 m c) (x8 m c) (x9 m c)) :=
  (by_binary m c 378 rfl (by decide +kernel) (by decide +kernel) (by decide +kernel) (u_main_v315 m c) (u_main_cst_40 m c)).trans rfl
theorem u_main_cst_41 : V m c main_cst_41 = (Cert.LruRefIdeal.Read.val_main_cst_41 (F := F)) :=
  (by_nullary m c 379 rfl (by decide +kernel)).trans rfl
theorem u_main_v320 : V m c main_v320 = (Cert.LruRefIdeal.Read.val_main_v320 (F := F) (x1 m c) (x3 m c) (x4 m c) (x5 m c) (x6 m c) (x7 m c) (x8 m c) (x9 m c)) :=
  (by_binary m c 380 rfl (by decide +kernel) (by decide +kernel) (by decide +kernel) (u_main_v304 m c) (u_main_cst_41 m c)).trans rfl
theorem u_main_v321 : V m c main_v321 = (Cert.LruRefIdeal.Read.val_main_v321 (F := F) (x1 m c) (x3 m c) (x4 m c) (x5 m c) (x6 m c) (x7 m c) (x8 m c) (x9 m c)) :=
  (by_binary m c 381 rfl (by decide +kernel) (by decide +kernel) (by decide +kernel) (u_main_v319 m c) (u_main_v320 m c)).trans rfl
theorem u_main_v322 : V m c main_v322 = (Cert.LruRefIdeal.Read.val_main_v322 (F := F) (x1 m c) (x3 m c) (x4 m c) (x5 m c) (x6 m c) (x9 m c)) :=
  (by_unary m c 382 rfl (by decide +kernel) (by decide +kernel) (u_main_v318 m c)).trans rfl
theorem u_main_v323 : V m c main_v323 = (Cert.LruRefIdeal.Read.val_main_v323 (F := F) (x1 m c) (x3 m c) (x4 m c) (x5 m c) (x6 m c) (x7 m c) (x8 m c) (x9 m c)) :=
  (by_unary m c 383 rfl (by decide +kernel) (by decide +kernel) (u_main_v321 m c)).trans rfl
theorem u_main_v324 : V m c main_v324 = (Cert.LruRefIdeal.Read.val_main_v324 (F := F) (x1 m c) (x3 m c) (x4 m c) (x5 m c) (x6 m c) (x9 m c)) :=
  (by_unary m c 384 rfl (by decide +kernel) (by decide +kernel) (u_main_v120 m c)).trans rfl
theorem u_main_v325 : V m c main_v325 = (Cert.LruRefIdeal.Read.val_main_v325 (F := F) (x1 m c) (x3 m c) (x4 m c) (x5 m c) (x6 m c) (x7 m c) (x8 m c) (x9 m c)) :=
  (by_unary m c 385 rfl (by decide +kernel) (by decide +kernel) (u_main_v122 m c)).trans rfl
theorem u_main_v326 : V m c main_v326 = (Cert.LruRefIdeal.Read.val_main_v326 (F := F) (x1 m c) (x3 m c) (x4 m c) (x5 m c) (x6 m c) (x9 m c)) :=
  (by_binary m c 386 rfl (by decide +kernel) (by decide +kernel) (by decide +kernel) (u_main_v322 m c) (u_main_v324 m c)).trans rfl
theorem u_main_v327 : V m c main_v327 = (Cert.LruRefIdeal.Read.val_main_v327 (F := F) (x1 m c) (x3 m c) (x4 m c) (x5 m c) (x6 m c) (x7 m c) (x8 m c) (x9 m c)) :=
  (by_binary m c 387 rfl (by decide +kernel) (by decide +kernel) (by decide +kernel) (u_main_v324 m c) (u_main_v323 m c)).trans rfl
theorem u_main_v328 : V m c main_v328 = (Cert.LruRefIdeal.Read.val_main_v328 (F := F) (x1 m c) (x3 m c) (x4 m c) (x5 m c) (x6 m c) (x7 m c) (x8 m c) (x9 m c)) :=
  (by_binary m c 388 rfl (by decide +kernel) (by decide +kernel) (by decide +kernel) (u_main_v327 m c) (u_main_v325 m c)).trans rfl
theorem u_main_v329 : V m c main_v329 = (Cert.LruRefIdeal.Read.val_main_v329 (F := F) (x1 m c) (x3 m c) (x4 m c) (x5 m c) (x6 m c) (x9 m c)) :=
  (by_unary m c 389 rfl (by decide +kernel) (by decide +kernel) (u_main_v120 m c)).trans rfl

end Cert.LruHost

end
-- ==== Proof.LruHost4.lean ====
/- What the host lines leave, line by line: each buffer as the reference's own line of the same place has it. -/
module

public import proofs.«01_k».proof.Proof.LruHost3

@[expose] public section

set_option maxRecDepth 200000

noncomputable section

namespace Cert.LruHost

open Idealize.ShloMosaic Idealize.ShloMosaic.TcCoe Idealize.ShloMosaic.Tactic
open Cert.LruIdeal Cert.LruIdeal.Gen Cert.LruBody

variable {F : FTy → Type} [FloatOps F]

variable (m : (ℓ : Loc nD τ sig) → Buf (Elt F) ℓ) (c : Dev nD)

theorem u_main_v330 : V m c main_v330 = (Cert.LruRefIdeal.Read.val_main_v330 (F := F) (x1 m c) (x3 m c) (x4 m c) (x5 m c) (x6 m c) (x9 m c)) :=
  (by_binary m c 390 rfl (by decide +kernel) (by decide +kernel) (by decide +kernel) (u_main_v329 m c) (u_main_v326 m c)).trans rfl
theorem u_main_v331 : V m c main_v331 = (Cert.LruRefIdeal.Read.val_main_v331 (F := F) (x1 m c) (x3 m c) (x4 m c) (x5 m c) (x6 m c) (x7 m c) (x8 m c) (x9 m c)) :=
  (by_unary m c 391 rfl (by decide +kernel) (by decide +kernel) (u_main_v122 m c)).trans rfl
theorem u_main_v332 : V m c main_v332 = (Cert.LruRefIdeal.Read.val_main_v332 (F := F) (x1 m c) (x3 m c) (x4 m c) (x5 m c) (x6 m c) (x7 m c) (x8 m c) (x9 m c)) :=
  (by_binary m c 392 rfl (by decide +kernel) (by decide +kernel) (by decide +kernel) (u_main_v331 m c) (u_main_v328 m c)).trans rfl
theorem u_main_cst_42 : V m c main_cst_42 = (Cert.LruRefIdeal.Read.val_main_cst_42 (F := F)) :=
  (by_nullary m c 393 rfl (by decide +kernel)).trans rfl
theorem u_main_v333 : V m c main_v333 = (Cert.LruRefIdeal.Read.val_main_v333 (F := F) (x1 m c) (x3 m c) (x4 m c) (x5 m c) (x6 m c) (x9 m c)) :=
  (by_binary m c 394 rfl (by decide +kernel) (by decide +kernel) (by decide +kernel) (u_main_v330 m c) (u_main_cst_42 m c)).trans rfl
theorem u_main_cst_43 : V m c main_cst_43 = (Cert.LruRefIdeal.Read.val_main_cst_43 (F := F)) :=
  (by_nullary m c 395 rfl (by decide +kernel)).trans rfl
theorem u_main_v334 : V m c main_v334 = (Cert.LruRefIdeal.Read.val_main_v334 (F := F) (x1 m c) (x3 m c) (x4 m c) (x5 m c) (x6 m c) (x9 m c)) :=
  (by_binary m c 396 rfl (by decide +kernel) (by decide +kernel) (by decide +kernel) (u_main_v318 m c) (u_main_cst_43 m c)).trans rfl
theorem u_main_v335 : V m c main_v335 = (Cert.LruRefIdeal.Read.val_main_v335 (F := F) (x1 m c) (x3 m c) (x4 m c) (x5 m c) (x6 m c) (x9 m c)) :=
  (by_binary m c 397 rfl (by decide +kernel) (by decide +kernel) (by decide +kernel) (u_main_v333 m c) (u_main_v334 m c)).trans rfl
theorem u_main_cst_44 : V m c main_cst_44 = (Cert.LruRefIdeal.Read.val_main_cst_44 (F := F)) :=
  (by_nullary m c 398 rfl (by decide +kernel)).trans rfl
theorem u_main_v336 : V m c main_v336 = (Cert.LruRefIdeal.Read.val_main_v336 (F := F) (x1 m c) (x3 m c) (x4 m c) (x5 m c) (x6 m c) (x7 m c) (x8 m c) (x9 m c)) :=
  (by_binary m c 399 rfl (by decide +kernel) (by decide +kernel) (by decide +kernel) (u_main_v332 m c) (u_main_cst_44 m c)).trans rfl
theorem u_main_cst_45 : V m c main_cst_45 = (Cert.LruRefIdeal.Read.val_main_cst_45 (F := F)) :=
  (by_nullary m c 400 rfl (by decide +kernel)).trans rfl
theorem u_main_v337 : V m c main_v337 = (Cert.LruRefIdeal.Read.val_main_v337 (F := F) (x1 m c) (x3 m c) (x4 m c) (x5 m c) (x6 m c) (x7 m c) (x8 m c) (x9 m c)) :=
  (by_binary m c 401 rfl (by decide +kernel) (by decide +kernel) (by decide +kernel) (u_main_v321 m c) (u_main_cst_45 m c)).trans rfl
theorem u_main_v338 : V m c main_v338 = (Cert.LruRefIdeal.Read.val_main_v338 (F := F) (x1 m c) (x3 m c) (x4 m c) (x5 m c) (x6 m c) (x7 m c) (x8 m c) (x9 m c)) :=
  (by_binary m c 402 rfl (by decide +kernel) (by decide +kernel) (by decide +kernel) (u_main_v336 m c) (u_main_v337 m c)).trans rfl
theorem u_main_v339 : V m c main_v339 = (Cert.LruRefIdeal.Read.val_main_v339 (F := F) (x1 m c) (x3 m c) (x4 m c) (x5 m c) (x6 m c) (x9 m c)) :=
  (by_unary m c 403 rfl (by decide +kernel) (by decide +kernel) (u_main_v335 m c)).trans rfl
theorem u_main_v340 : V m c main_v340 = (Cert.LruRefIdeal.Read.val_main_v340 (F := F) (x1 m c) (x3 m c) (x4 m c) (x5 m c) (x6 m c) (x7 m c) (x8 m c) (x9 m c)) :=
  (by_unary m c 404 rfl (by decide +kernel) (by decide +kernel) (u_main_v338 m c)).trans rfl
theorem u_main_v341 : V m c main_v341 = (Cert.LruRefIdeal.Read.val_main_v341 (F := F) (x1 m c) (x3 m c) (x4 m c) (x5 m c) (x6 m c) (x9 m c)) :=
  (by_unary m c 405 rfl (by decide +kernel) (by decide +kernel) (u_main_v113 m c)).trans rfl
theorem u_main_v342 : V m c main_v342 = (Cert.LruRefIdeal.Read.val_main_v342 (F := F) (x1 m c) (x3 m c) (x4 m c) (x5 m c) (x6 m c) (x7 m c) (x8 m c) (x9 m c)) :=
  (by_unary m c 406 rfl (by decide +kernel) (by decide +kernel) (u_main_v115 m c)).trans rfl
theorem u_main_v343 : V m c main_v343 = (Cert.LruRefIdeal.Read.val_main_v343 (F := F) (x1 m c) (x3 m c) (x4 m c) (x5 m c) (x6 m c) (x9 m c)) :=
  (by_binary m c 407 rfl (by decide +kernel) (by decide +kernel) (by decide +kernel) (u_main_v339 m c) (u_main_v341 m c)).trans rfl
theorem u_main_v344 : V m c main_v344 = (Cert.LruRefIdeal.Read.val_main_v344 (F := F) (x1 m c) (x3 m c) (x4 m c) (x5 m c) (x6 m c) (x7 m c) (x8 m c) (x9 m c)) :=
  (by_binary m c 408 rfl (by decide +kernel) (by decide +kernel) (by decide +kernel) (u_main_v341 m c) (u_main_v340 m c)).trans rfl
theorem u_main_v345 : V m c main_v345 = (Cert.LruRefIdeal.Read.val_main_v345 (F := F) (x1 m c) (x3 m c) (x4 m c) (x5 m c) (x6 m c) (x7 m c) (x8 m c) (x9 m c)) :=
  (by_binary m c 409 rfl (by decide +kernel) (by decide +kernel) (by decide +kernel) (u_main_v344 m c) (u_main_v342 m c)).trans rfl
theorem u_main_v346 : V m c main_v346 = (Cert.LruRefIdeal.Read.val_main_v346 (F := F) (x1 m c) (x3 m c) (x4 m c) (x5 m c) (x6 m c) (x9 m c)) :=
  (by_unary m c 410 rfl (by decide +kernel) (by decide +kernel) (u_main_v113 m c)).trans rfl
theorem u_main_v347 : V m c main_v347 = (Cert.LruRefIdeal.Read.val_main_v347 (F := F) (x1 m c) (x3 m c) (x4 m c) (x5 m c) (x6 m c) (x9 m c)) :=
  (by_binary m c 411 rfl (by decide +kernel) (by decide +kernel) (by decide +kernel) (u_main_v346 m c) (u_main_v343 m c)).trans rfl
theorem u_main_v348 : V m c main_v348 = (Cert.LruRefIdeal.Read.val_main_v348 (F := F) (x1 m c) (x3 m c) (x4 m c) (x5 m c) (x6 m c) (x7 m c) (x8 m c) (x9 m c)) :=
  (by_unary m c 412 rfl (by decide +kernel) (by decide +kernel) (u_main_v115 m c)).trans rfl
theorem u_main_v349 : V m c main_v349 = (Cert.LruRefIdeal.Read.val_main_v349 (F := F) (x1 m c) (x3 m c) (x4 m c) (x5 m c) (x6 m c) (x7 m c) (x8 m c) (x9 m c)) :=
  (by_binary m c 413 rfl (by decide +kernel) (by decide +kernel) (by decide +kernel) (u_main_v348 m c) (u_main_v345 m c)).trans rfl
theorem u_main_cst_46 : V m c main_cst_46 = (Cert.LruRefIdeal.Read.val_main_cst_46 (F := F)) :=
  (by_nullary m c 414 rfl (by decide +kernel)).trans rfl
theorem u_main_v350 : V m c main_v350 = (Cert.LruRefIdeal.Read.val_main_v350 (F := F) (x1 m c) (x3 m c) (x4 m c) (x5 m c) (x6 m c) (x9 m c)) :=
  (by_binary m c 415 rfl (by decide +kernel) (by decide +kernel) (by decide +kernel) (u_main_v347 m c) (u_main_cst_46 m c)).trans rfl
theorem u_main_cst_47 : V m c main_cst_47 = (Cert.LruRefIdeal.Read.val_main_cst_47 (F := F)) :=
  (by_nullary m c 416 rfl (by decide +kernel)).trans rfl
theorem u_main_v351 : V m c main_v351 = (Cert.LruRefIdeal.Read.val_main_v351 (F := F) (x1 m c) (x3 m c) (x4 m c) (x5 m c) (x6 m c) (x9 m c)) :=
  (by_binary m c 417 rfl (by decide +kernel) (by decide +kernel) (by decide +kernel) (u_main_v335 m c) (u_main_cst_47 m c)).trans rfl
theorem u_main_v352 : V m c main_v352 = (Cert.LruRefIdeal.Read.val_main_v352 (F := F) (x1 m c) (x3 m c) (x4 m c) (x5 m c) (x6 m c) (x9 m c)) :=
  (by_binary m c 418 rfl (by decide +kernel) (by decide +kernel) (by decide +kernel) (u_main_v350 m c) (u_main_v351 m c)).trans rfl
theorem u_main_cst_48 : V m c main_cst_48 = (Cert.LruRefIdeal.Read.val_main_cst_48 (F := F)) :=
  (by_nullary m c 419 rfl (by decide +kernel)).trans rfl
theorem u_main_v353 : V m c main_v353 = (Cert.LruRefIdeal.Read.val_main_v353 (F := F) (x1 m c) (x3 m c) (x4 m c) (x5 m c) (x6 m c) (x7 m c) (x8 m c) (x9 m c)) :=
  (by_binary m c 420 rfl (by decide +kernel) (by decide +kernel) (by decide +kernel) (u_main_v349 m c) (u_main_cst_48 m c)).trans rfl
theorem u_main_cst_49 : V m c main_cst_49 = (Cert.LruRefIdeal.Read.val_main_cst_49 (F := F)) :=
  (by_nullary m c 421 rfl (by decide +kernel)).trans rfl
theorem u_main_v354 : V m c main_v354 = (Cert.LruRefIdeal.Read.val_main_v354 (F := F) (x1 m c) (x3 m c) (x4 m c) (x5 m c) (x6 m c) (x7 m c) (x8 m c) (x9 m c)) :=
  (by_binary m c 422 rfl (by decide +kernel) (by decide +kernel) (by decide +kernel) (u_main_v338 m c) (u_main_cst_49 m c)).trans rfl
theorem u_main_v355 : V m c main_v355 = (Cert.LruRefIdeal.Read.val_main_v355 (F := F) (x1 m c) (x3 m c) (x4 m c) (x5 m c) (x6 m c) (x7 m c) (x8 m c) (x9 m c)) :=
  (by_binary m c 423 rfl (by decide +kernel) (by decide +kernel) (by decide +kernel) (u_main_v353 m c) (u_main_v354 m c)).trans rfl
theorem u_main_v356 : V m c main_v356 = (Cert.LruRefIdeal.Read.val_main_v356 (F := F) (x1 m c) (x3 m c) (x4 m c) (x5 m c) (x6 m c) (x9 m c)) :=
  (by_unary m c 424 rfl (by decide +kernel) (by decide +kernel) (u_main_v352 m c)).trans rfl
theorem u_main_v357 : V m c main_v357 = (Cert.LruRefIdeal.Read.val_main_v357 (F := F) (x1 m c) (x3 m c) (x4 m c) (x5 m c) (x6 m c) (x7 m c) (x8 m c) (x9 m c)) :=
  (by_unary m c 425 rfl (by decide +kernel) (by decide +kernel) (u_main_v355 m c)).trans rfl
theorem u_main_v358 : V m c main_v358 = (Cert.LruRefIdeal.Read.val_main_v358 (F := F) (x1 m c) (x3 m c) (x4 m c) (x5 m c) (x6 m c) (x9 m c)) :=
  (by_unary m c 426 rfl (by decide +kernel) (by decide +kernel) (u_main_v106 m c)).trans rfl
theorem u_main_v359 : V m c main_v359 = (Cert.LruRefIdeal.Read.val_main_v359 (F := F) (x1 m c) (x3 m c) (x4 m c) (x5 m c) (x6 m c) (x7 m c) (x8 m c) (x9 m c)) :=
  (by_unary m c 427 rfl (by decide +kernel) (by decide +kernel) (u_main_v108 m c)).trans rfl
theorem u_main_v360 : V m c main_v360 = (Cert.LruRefIdeal.Read.val_main_v360 (F := F) (x1 m c) (x3 m c) (x4 m c) (x5 m c) (x6 m c) (x9 m c)) :=
  (by_binary m c 428 rfl (by decide +kernel) (by decide +kernel) (by decide +kernel) (u_main_v356 m c) (u_main_v358 m c)).trans rfl
theorem u_main_v361 : V m c main_v361 = (Cert.LruRefIdeal.Read.val_main_v361 (F := F) (x1 m c) (x3 m c) (x4 m c) (x5 m c) (x6 m c) (x7 m c) (x8 m c) (x9 m c)) :=
  (by_binary m c 429 rfl (by decide +kernel) (by decide +kernel) (by decide +kernel) (u_main_v358 m c) (u_main_v357 m c)).trans rfl
theorem u_main_v362 : V m c main_v362 = (Cert.LruRefIdeal.Read.val_main_v362 (F := F) (x1 m c) (x3 m c) (x4 m c) (x5 m c) (x6 m c) (x7 m c) (x8 m c) (x9 m c)) :=
  (by_binary m c 430 rfl (by decide +kernel) (by decide +kernel) (by decide +kernel) (u_main_v361 m c) (u_main_v359 m c)).trans rfl
theorem u_main_v363 : V m c main_v363 = (Cert.LruRefIdeal.Read.val_main_v363 (F := F) (x1 m c) (x3 m c) (x4 m c) (x5 m c) (x6 m c) (x9 m c)) :=
  (by_unary m c 431 rfl (by decide +kernel) (by decide +kernel) (u_main_v106 m c)).trans rfl
theorem u_main_v364 : V m c main_v364 = (Cert.LruRefIdeal.Read.val_main_v364 (F := F) (x1 m c) (x3 m c) (x4 m c) (x5 m c) (x6 m c) (x9 m c)) :=
  (by_binary m c 432 rfl (by decide +kernel) (by decide +kernel) (by decide +kernel) (u_main_v363 m c) (u_main_v360 m c)).trans rfl
theorem u_main_v365 : V m c main_v365 = (Cert.LruRefIdeal.Read.val_main_v365 (F := F) (x1 m c) (x3 m c) (x4 m c) (x5 m c) (x6 m c) (x7 m c) (x8 m c) (x9 m c)) :=
  (by_unary m c 433 rfl (by decide +kernel) (by decide +kernel) (u_main_v108 m c)).trans rfl
theorem u_main_v366 : V m c main_v366 = (Cert.LruRefIdeal.Read.val_main_v366 (F := F) (x1 m c) (x3 m c) (x4 m c) (x5 m c) (x6 m c) (x7 m c) (x8 m c) (x9 m c)) :=
  (by_binary m c 434 rfl (by decide +kernel) (by decide +kernel) (by decide +kernel) (u_main_v365 m c) (u_main_v362 m c)).trans rfl
theorem u_main_cst_50 : V m c main_cst_50 = (Cert.LruRefIdeal.Read.val_main_cst_50 (F := F)) :=
  (by_nullary m c 435 rfl (by decide +kernel)).trans rfl
theorem u_main_v367 : V m c main_v367 = (Cert.LruRefIdeal.Read.val_main_v367 (F := F) (x1 m c) (x3 m c) (x4 m c) (x5 m c) (x6 m c) (x9 m c)) :=
  (by_binary m c 436 rfl (by decide +kernel) (by decide +kernel) (by decide +kernel) (u_main_v364 m c) (u_main_cst_50 m c)).trans rfl
theorem u_main_cst_51 : V m c main_cst_51 = (Cert.LruRefIdeal.Read.val_main_cst_51 (F := F)) :=
  (by_nullary m c 437 rfl (by decide +kernel)).trans rfl
theorem u_main_v368 : V m c main_v368 = (Cert.LruRefIdeal.Read.val_main_v368 (F := F) (x1 m c) (x3 m c) (x4 m c) (x5 m c) (x6 m c) (x9 m c)) :=
  (by_binary m c 438 rfl (by decide +kernel) (by decide +kernel) (by decide +kernel) (u_main_v352 m c) (u_main_cst_51 m c)).trans rfl
theorem u_main_v369 : V m c main_v369 = (Cert.LruRefIdeal.Read.val_main_v369 (F := F) (x1 m c) (x3 m c) (x4 m c) (x5 m c) (x6 m c) (x9 m c)) :=
  (by_binary m c 439 rfl (by decide +kernel) (by decide +kernel) (by decide +kernel) (u_main_v367 m c) (u_main_v368 m c)).trans rfl
theorem u_main_cst_52 : V m c main_cst_52 = (Cert.LruRefIdeal.Read.val_main_cst_52 (F := F)) :=
  (by_nullary m c 440 rfl (by decide +kernel)).trans rfl
theorem u_main_v370 : V m c main_v370 = (Cert.LruRefIdeal.Read.val_main_v370 (F := F) (x1 m c) (x3 m c) (x4 m c) (x5 m c) (x6 m c) (x7 m c) (x8 m c) (x9 m c)) :=
  (by_binary m c 441 rfl (by decide +kernel) (by decide +kernel) (by decide +kernel) (u_main_v366 m c) (u_main_cst_52 m c)).trans rfl
theorem u_main_cst_53 : V m c main_cst_53 = (Cert.LruRefIdeal.Read.val_main_cst_53 (F := F)) :=
  (by_nullary m c 442 rfl (by decide +kernel)).trans rfl
theorem u_main_v371 : V m c main_v371 = (Cert.LruRefIdeal.Read.val_main_v371 (F := F) (x1 m c) (x3 m c) (x4 m c) (x5 m c) (x6 m c) (x7 m c) (x8 m c) (x9 m c)) :=
  (by_binary m c 443 rfl (by decide +kernel) (by decide +kernel) (by decide +kernel) (u_main_v355 m c) (u_main_cst_53 m c)).trans rfl
theorem u_main_v372 : V m c main_v372 = (Cert.LruRefIdeal.Read.val_main_v372 (F := F) (x1 m c) (x3 m c) (x4 m c) (x5 m c) (x6 m c) (x7 m c) (x8 m c) (x9 m c)) :=
  (by_binary m c 444 rfl (by decide +kernel) (by decide +kernel) (by decide +kernel) (u_main_v370 m c) (u_main_v371 m c)).trans rfl
theorem u_main_v373 : V m c main_v373 = (Cert.LruRefIdeal.Read.val_main_v373 (F := F) (x1 m c) (x3 m c) (x4 m c) (x5 m c) (x6 m c) (x9 m c)) :=
  (by_unary m c 445 rfl (by decide +kernel) (by decide +kernel) (u_main_v369 m c)).trans rfl
theorem u_main_v374 : V m c main_v374 = (Cert.LruRefIdeal.Read.val_main_v374 (F := F) (x1 m c) (x3 m c) (x4 m c) (x5 m c) (x6 m c) (x7 m c) (x8 m c) (x9 m c)) :=
  (by_unary m c 446 rfl (by decide +kernel) (by decide +kernel) (u_main_v372 m c)).trans rfl
theorem u_main_v375 : V m c main_v375 = (Cert.LruRefIdeal.Read.val_main_v375 (F := F) (x1 m c) (x3 m c) (x4 m c) (x5 m c) (x6 m c) (x9 m c)) :=
  (by_unary m c 447 rfl (by decide +kernel) (by decide +kernel) (u_main_v99 m c)).trans rfl
theorem u_main_v376 : V m c main_v376 = (Cert.LruRefIdeal.Read.val_main_v376 (F := F) (x1 m c) (x3 m c) (x4 m c) (x5 m c) (x6 m c) (x7 m c) (x8 m c) (x9 m c)) :=
  (by_unary m c 448 rfl (by decide +kernel) (by decide +kernel) (u_main_v101 m c)).trans rfl
theorem u_main_v377 : V m c main_v377 = (Cert.LruRefIdeal.Read.val_main_v377 (F := F) (x1 m c) (x3 m c) (x4 m c) (x5 m c) (x6 m c) (x9 m c)) :=
  (by_binary m c 449 rfl (by decide +kernel) (by decide +kernel) (by decide +kernel) (u_main_v373 m c) (u_main_v375 m c)).trans rfl
theorem u_main_v378 : V m c main_v378 = (Cert.LruRefIdeal.Read.val_main_v378 (F := F) (x1 m c) (x3 m c) (x4 m c) (x5 m c) (x6 m c) (x7 m c) (x8 m c) (x9 m c)) :=
  (by_binary m c 450 rfl (by decide +kernel) (by decide +kernel) (by decide +kernel) (u_main_v375 m c) (u_main_v374 m c)).trans rfl
theorem u_main_v379 : V m c main_v379 = (Cert.LruRefIdeal.Read.val_main_v379 (F := F) (x1 m c) (x3 m c) (x4 m c) (x5 m c) (x6 m c) (x7 m c) (x8 m c) (x9 m c)) :=
  (by_binary m c 451 rfl (by decide +kernel) (by decide +kernel) (by decide +kernel) (u_main_v378 m c) (u_main_v376 m c)).trans rfl
theorem u_main_v380 : V m c main_v380 = (Cert.LruRefIdeal.Read.val_main_v380 (F := F) (x1 m c) (x3 m c) (x4 m c) (x5 m c) (x6 m c) (x9 m c)) :=
  (by_unary m c 452 rfl (by decide +kernel) (by decide +kernel) (u_main_v99 m c)).trans rfl
theorem u_main_v381 : V m c main_v381 = (Cert.LruRefIdeal.Read.val_main_v381 (F := F) (x1 m c) (x3 m c) (x4 m c) (x5 m c) (x6 m c) (x9 m c)) :=
  (by_binary m c 453 rfl (by decide +kernel) (by decide +kernel) (by decide +kernel) (u_main_v380 m c) (u_main_v377 m c)).trans rfl
theorem u_main_v382 : V m c main_v382 = (Cert.LruRefIdeal.Read.val_main_v382 (F := F) (x1 m c) (x3 m c) (x4 m c) (x5 m c) (x6 m c) (x7 m c) (x8 m c) (x9 m c)) :=
  (by_unary m c 454 rfl (by decide +kernel) (by decide +kernel) (u_main_v101 m c)).trans rfl
theorem u_main_v383 : V m c main_v383 = (Cert.LruRefIdeal.Read.val_main_v383 (F := F) (x1 m c) (x3 m c) (x4 m c) (x5 m c) (x6 m c) (x7 m c) (x8 m c) (x9 m c)) :=
  (by_binary m c 455 rfl (by decide +kernel) (by decide +kernel) (by decide +kernel) (u_main_v382 m c) (u_main_v379 m c)).trans rfl
theorem u_main_cst_54 : V m c main_cst_54 = (Cert.LruRefIdeal.Read.val_main_cst_54 (F := F)) :=
  (by_nullary m c 456 rfl (by decide +kernel)).trans rfl
theorem u_main_v384 : V m c main_v384 = (Cert.LruRefIdeal.Read.val_main_v384 (F := F) (x1 m c) (x3 m c) (x4 m c) (x5 m c) (x6 m c) (x9 m c)) :=
  (by_binary m c 457 rfl (by decide +kernel) (by decide +kernel) (by decide +kernel) (u_main_v381 m c) (u_main_cst_54 m c)).trans rfl
theorem u_main_cst_55 : V m c main_cst_55 = (Cert.LruRefIdeal.Read.val_main_cst_55 (F := F)) :=
  (by_nullary m c 458 rfl (by decide +kernel)).trans rfl
theorem u_main_v385 : V m c main_v385 = (Cert.LruRefIdeal.Read.val_main_v385 (F := F) (x1 m c) (x3 m c) (x4 m c) (x5 m c) (x6 m c) (x9 m c)) :=
  (by_binary m c 459 rfl (by decide +kernel) (by decide +kernel) (by decide +kernel) (u_main_v369 m c) (u_main_cst_55 m c)).trans rfl
theorem u_main_v386 : V m c main_v386 = (Cert.LruRefIdeal.Read.val_main_v386 (F := F) (x1 m c) (x3 m c) (x4 m c) (x5 m c) (x6 m c) (x9 m c)) :=
  (by_binary m c 460 rfl (by decide +kernel) (by decide +kernel) (by decide +kernel) (u_main_v384 m c) (u_main_v385 m c)).trans rfl
theorem u_main_cst_56 : V m c main_cst_56 = (Cert.LruRefIdeal.Read.val_main_cst_56 (F := F)) :=
  (by_nullary m c 461 rfl (by decide +kernel)).trans rfl
theorem u_main_v387 : V m c main_v387 = (Cert.LruRefIdeal.Read.val_main_v387 (F := F) (x1 m c) (x3 m c) (x4 m c) (x5 m c) (x6 m c) (x7 m c) (x8 m c) (x9 m c)) :=
  (by_binary m c 462 rfl (by decide +kernel) (by decide +kernel) (by decide +kernel) (u_main_v383 m c) (u_main_cst_56 m c)).trans rfl
theorem u_main_cst_57 : V m c main_cst_57 = (Cert.LruRefIdeal.Read.val_main_cst_57 (F := F)) :=
  (by_nullary m c 463 rfl (by decide +kernel)).trans rfl
theorem u_main_v388 : V m c main_v388 = (Cert.LruRefIdeal.Read.val_main_v388 (F := F) (x1 m c) (x3 m c) (x4 m c) (x5 m c) (x6 m c) (x7 m c) (x8 m c) (x9 m c)) :=
  (by_binary m c 464 rfl (by decide +kernel) (by decide +kernel) (by decide +kernel) (u_main_v372 m c) (u_main_cst_57 m c)).trans rfl
theorem u_main_v389 : V m c main_v389 = (Cert.LruRefIdeal.Read.val_main_v389 (F := F) (x1 m c) (x3 m c) (x4 m c) (x5 m c) (x6 m c) (x7 m c) (x8 m c) (x9 m c)) :=
  (by_binary m c 465 rfl (by decide +kernel) (by decide +kernel) (by decide +kernel) (u_main_v387 m c) (u_main_v388 m c)).trans rfl
theorem u_main_v390 : V m c main_v390 = (Cert.LruRefIdeal.Read.val_main_v390 (F := F) (x1 m c) (x3 m c) (x4 m c) (x5 m c) (x6 m c) (x9 m c)) :=
  (by_unary m c 466 rfl (by decide +kernel) (by decide +kernel) (u_main_v386 m c)).trans rfl
theorem u_main_v391 : V m c main_v391 = (Cert.LruRefIdeal.Read.val_main_v391 (F := F) (x1 m c) (x3 m c) (x4 m c) (x5 m c) (x6 m c) (x7 m c) (x8 m c) (x9 m c)) :=
  (by_unary m c 467 rfl (by decide +kernel) (by decide +kernel) (u_main_v389 m c)).trans rfl
theorem u_main_v392 : V m c main_v392 = (Cert.LruRefIdeal.Read.val_main_v392 (F := F) (x1 m c) (x3 m c) (x4 m c) (x5 m c) (x6 m c) (x9 m c)) :=
  (by_unary m c 468 rfl (by decide +kernel) (by decide +kernel) (u_main_v92 m c)).trans rfl
theorem u_main_v393 : V m c main_v393 = (Cert.LruRefIdeal.Read.val_main_v393 (F := F) (x1 m c) (x3 m c) (x4 m c) (x5 m c) (x6 m c) (x7 m c) (x8 m c) (x9 m c)) :=
  (by_unary m c 469 rfl (by decide +kernel) (by decide +kernel) (u_main_v94 m c)).trans rfl
theorem u_main_v394 : V m c main_v394 = (Cert.LruRefIdeal.Read.val_main_v394 (F := F) (x1 m c) (x3 m c) (x4 m c) (x5 m c) (x6 m c) (x9 m c)) :=
  (by_binary m c 470 rfl (by decide +kernel) (by decide +kernel) (by decide +kernel) (u_main_v390 m c) (u_main_v392 m c)).trans rfl
theorem u_main_v395 : V m c main_v395 = (Cert.LruRefIdeal.Read.val_main_v395 (F := F) (x1 m c) (x3 m c) (x4 m c) (x5 m c) (x6 m c) (x7 m c) (x8 m c) (x9 m c)) :=
  (by_binary m c 471 rfl (by decide +kernel) (by decide +kernel) (by decide +kernel) (u_main_v392 m c) (u_main_v391 m c)).trans rfl
theorem u_main_v396 : V m c main_v396 = (Cert.LruRefIdeal.Read.val_main_v396 (F := F) (x1 m c) (x3 m c) (x4 m c) (x5 m c) (x6 m c) (x7 m c) (x8 m c) (x9 m c)) :=
  (by_binary m c 472 rfl (by decide +kernel) (by decide +kernel) (by decide +kernel) (u_main_v395 m c) (u_main_v393 m c)).trans rfl
theorem u_main_v397 : V m c main_v397 = (Cert.LruRefIdeal.Read.val_main_v397 (F := F) (x1 m c) (x3 m c) (x4 m c) (x5 m c) (x6 m c) (x9 m c)) :=
  (by_unary m c 473 rfl (by decide +kernel) (by decide +kernel) (u_main_v92 m c)).trans rfl
theorem u_main_v398 : V m c main_v398 = (Cert.LruRefIdeal.Read.val_main_v398 (F := F) (x1 m c) (x3 m c) (x4 m c) (x5 m c) (x6 m c) (x9 m c)) :=
  (by_binary m c 474 rfl (by decide +kernel) (by decide +kernel) (by decide +kernel) (u_main_v397 m c) (u_main_v394 m c)).trans rfl
theorem u_main_v399 : V m c main_v399 = (Cert.LruRefIdeal.Read.val_main_v399 (F := F) (x1 m c) (x3 m c) (x4 m c) (x5 m c) (x6 m c) (x7 m c) (x8 m c) (x9 m c)) :=
  (by_unary m c 475 rfl (by decide +kernel) (by decide +kernel) (u_main_v94 m c)).trans rfl
theorem u_main_v400 : V m c main_v400 = (Cert.LruRefIdeal.Read.val_main_v400 (F := F) (x1 m c) (x3 m c) (x4 m c) (x5 m c) (x6 m c) (x7 m c) (x8 m c) (x9 m c)) :=
  (by_binary m c 476 rfl (by decide +kernel) (by decide +kernel) (by decide +kernel) (u_main_v399 m c) (u_main_v396 m c)).trans rfl
theorem u_main_cst_58 : V m c main_cst_58 = (Cert.LruRefIdeal.Read.val_main_cst_58 (F := F)) :=
  (by_nullary m c 477 rfl (by decide +kernel)).trans rfl
theorem u_main_v401 : V m c main_v401 = (Cert.LruRefIdeal.Read.val_main_v401 (F := F) (x1 m c) (x3 m c) (x4 m c) (x5 m c) (x6 m c) (x9 m c)) :=
  (by_binary m c 478 rfl (by decide +kernel) (by decide +kernel) (by decide +kernel) (u_main_v398 m c) (u_main_cst_58 m c)).trans rfl
theorem u_main_cst_59 : V m c main_cst_59 = (Cert.LruRefIdeal.Read.val_main_cst_59 (F := F)) :=
  (by_nullary m c 479 rfl (by decide +kernel)).trans rfl
theorem u_main_v402 : V m c main_v402 = (Cert.LruRefIdeal.Read.val_main_v402 (F := F) (x1 m c) (x3 m c) (x4 m c) (x5 m c) (x6 m c) (x9 m c)) :=
  (by_binary m c 480 rfl (by decide +kernel) (by decide +kernel) (by decide +kernel) (u_main_v386 m c) (u_main_cst_59 m c)).trans rfl
theorem u_main_v403 : V m c main_v403 = (Cert.LruRefIdeal.Read.val_main_v403 (F := F) (x1 m c) (x3 m c) (x4 m c) (x5 m c) (x6 m c) (x9 m c)) :=
  (by_binary m c 481 rfl (by decide +kernel) (by decide +kernel) (by decide +kernel) (u_main_v401 m c) (u_main_v402 m c)).trans rfl
theorem u_main_cst_60 : V m c main_cst_60 = (Cert.LruRefIdeal.Read.val_main_cst_60 (F := F)) :=
  (by_nullary m c 482 rfl (by decide +kernel)).trans rfl
theorem u_main_v404 : V m c main_v404 = (Cert.LruRefIdeal.Read.val_main_v404 (F := F) (x1 m c) (x3 m c) (x4 m c) (x5 m c) (x6 m c) (x7 m c) (x8 m c) (x9 m c)) :=
  (by_binary m c 483 rfl (by decide +kernel) (by decide +kernel) (by decide +kernel) (u_main_v400 m c) (u_main_cst_60 m c)).trans rfl
theorem u_main_cst_61 : V m c main_cst_61 = (Cert.LruRefIdeal.Read.val_main_cst_61 (F := F)) :=
  (by_nullary m c 484 rfl (by decide +kernel)).trans rfl
theorem u_main_v405 : V m c main_v405 = (Cert.LruRefIdeal.Read.val_main_v405 (F := F) (x1 m c) (x3 m c) (x4 m c) (x5 m c) (x6 m c) (x7 m c) (x8 m c) (x9 m c)) :=
  (by_binary m c 485 rfl (by decide +kernel) (by decide +kernel) (by decide +kernel) (u_main_v389 m c) (u_main_cst_61 m c)).trans rfl
theorem u_main_v406 : V m c main_v406 = (Cert.LruRefIdeal.Read.val_main_v406 (F := F) (x1 m c) (x3 m c) (x4 m c) (x5 m c) (x6 m c) (x7 m c) (x8 m c) (x9 m c)) :=
  (by_binary m c 486 rfl (by decide +kernel) (by decide +kernel) (by decide +kernel) (u_main_v404 m c) (u_main_v405 m c)).trans rfl
theorem u_main_v407 : V m c main_v407 = (Cert.LruRefIdeal.Read.val_main_v407 (F := F) (x1 m c) (x3 m c) (x4 m c) (x5 m c) (x6 m c) (x9 m c)) :=
  (by_unary m c 487 rfl (by decide +kernel) (by decide +kernel) (u_main_v403 m c)).trans rfl
theorem u_main_v408 : V m c main_v408 = (Cert.LruRefIdeal.Read.val_main_v408 (F := F) (x1 m c) (x3 m c) (x4 m c) (x5 m c) (x6 m c) (x7 m c) (x8 m c) (x9 m c)) :=
  (by_unary m c 488 rfl (by decide +kernel) (by decide +kernel) (u_main_v406 m c)).trans rfl
theorem u_main_v409 : V m c main_v409 = (Cert.LruRefIdeal.Read.val_main_v409 (F := F) (x1 m c) (x3 m c) (x4 m c) (x5 m c) (x6 m c) (x9 m c)) :=
  (by_unary m c 489 rfl (by decide +kernel) (by decide +kernel) (u_main_v72 m c)).trans rfl
theorem u_main_v410 : V m c main_v410 = (Cert.LruRefIdeal.Read.val_main_v410 (F := F) (x1 m c) (x3 m c) (x4 m c) (x5 m c) (x6 m c) (x7 m c) (x8 m c) (x9 m c)) :=
  (by_unary m c 490 rfl (by decide +kernel) (by decide +kernel) (u_main_v87 m c)).trans rfl
theorem u_main_v411 : V m c main_v411 = (Cert.LruRefIdeal.Read.val_main_v411 (F := F) (x1 m c) (x3 m c) (x4 m c) (x5 m c) (x6 m c) (x9 m c)) :=
  (by_binary m c 491 rfl (by decide +kernel) (by decide +kernel) (by decide +kernel) (u_main_v407 m c) (u_main_v409 m c)).trans rfl
theorem u_main_v412 : V m c main_v412 = (Cert.LruRefIdeal.Read.val_main_v412 (F := F) (x1 m c) (x3 m c) (x4 m c) (x5 m c) (x6 m c) (x7 m c) (x8 m c) (x9 m c)) :=
  (by_binary m c 492 rfl (by decide +kernel) (by decide +kernel) (by decide +kernel) (u_main_v409 m c) (u_main_v408 m c)).trans rfl
theorem u_main_v413 : V m c main_v413 = (Cert.LruRefIdeal.Read.val_main_v413 (F := F) (x1 m c) (x3 m c) (x4 m c) (x5 m c) (x6 m c) (x7 m c) (x8 m c) (x9 m c)) :=
  (by_binary m c 493 rfl (by decide +kernel) (by decide +kernel) (by decide +kernel) (u_main_v412 m c) (u_main_v410 m c)).trans rfl
theorem u_main_v414 : V m c main_v414 = (Cert.LruRefIdeal.Read.val_main_v414 (F := F) (x1 m c) (x3 m c) (x4 m c) (x5 m c) (x6 m c) (x9 m c)) :=
  (by_unary m c 494 rfl (by decide +kernel) (by decide +kernel) (u_main_v72 m c)).trans rfl
theorem u_main_v415 : V m c main_v415 = (Cert.LruRefIdeal.Read.val_main_v415 (F := F) (x1 m c) (x3 m c) (x4 m c) (x5 m c) (x6 m c) (x9 m c)) :=
  (by_binary m c 495 rfl (by decide +kernel) (by decide +kernel) (by decide +kernel) (u_main_v414 m c) (u_main_v411 m c)).trans rfl
theorem u_main_v416 : V m c main_v416 = (Cert.LruRefIdeal.Read.val_main_v416 (F := F) (x1 m c) (x3 m c) (x4 m c) (x5 m c) (x6 m c) (x7 m c) (x8 m c) (x9 m c)) :=
  (by_unary m c 496 rfl (by decide +kernel) (by decide +kernel) (u_main_v87 m c)).trans rfl
theorem u_main_v417 : V m c main_v417 = (Cert.LruRefIdeal.Read.val_main_v417 (F := F) (x1 m c) (x3 m c) (x4 m c) (x5 m c) (x6 m c) (x7 m c) (x8 m c) (x9 m c)) :=
  (by_binary m c 497 rfl (by decide +kernel) (by decide +kernel) (by decide +kernel) (u_main_v416 m c) (u_main_v413 m c)).trans rfl
theorem u_main_cst_62 : V m c main_cst_62 = (Cert.LruRefIdeal.Read.val_main_cst_62 (F := F)) :=
  (by_nullary m c 498 rfl (by decide +kernel)).trans rfl
theorem u_main_v418 : V m c main_v418 = (Cert.LruRefIdeal.Read.val_main_v418 (F := F) (x1 m c) (x3 m c) (x4 m c) (x5 m c) (x6 m c) (x9 m c)) :=
  (by_binary m c 499 rfl (by decide +kernel) (by decide +kernel) (by decide +kernel) (u_main_v415 m c) (u_main_cst_62 m c)).trans rfl
theorem u_main_cst_63 : V m c main_cst_63 = (Cert.LruRefIdeal.Read.val_main_cst_63 (F := F)) :=
  (by_nullary m c 500 rfl (by decide +kernel)).trans rfl
theorem u_main_v419 : V m c main_v419 = (Cert.LruRefIdeal.Read.val_main_v419 (F := F) (x1 m c) (x3 m c) (x4 m c) (x5 m c) (x6 m c) (x9 m c)) :=
  (by_binary m c 501 rfl (by decide +kernel) (by decide +kernel) (by decide +kernel) (u_main_v403 m c) (u_main_cst_63 m c)).trans rfl
theorem u_main_v420 : V m c main_v420 = (Cert.LruRefIdeal.Read.val_main_v420 (F := F) (x1 m c) (x3 m c) (x4 m c) (x5 m c) (x6 m c) (x9 m c)) :=
  (by_binary m c 502 rfl (by decide +kernel) (by decide +kernel) (by decide +kernel) (u_main_v418 m c) (u_main_v419 m c)).trans rfl
theorem u_main_cst_64 : V m c main_cst_64 = (Cert.LruRefIdeal.Read.val_main_cst_64 (F := F)) :=
  (by_nullary m c 503 rfl (by decide +kernel)).trans rfl
theorem u_main_v421 : V m c main_v421 = (Cert.LruRefIdeal.Read.val_main_v421 (F := F) (x1 m c) (x3 m c) (x4 m c) (x5 m c) (x6 m c) (x7 m c) (x8 m c) (x9 m c)) :=
  (by_binary m c 504 rfl (by decide +kernel) (by decide +kernel) (by decide +kernel) (u_main_v417 m c) (u_main_cst_64 m c)).trans rfl
theorem u_main_cst_65 : V m c main_cst_65 = (Cert.LruRefIdeal.Read.val_main_cst_65 (F := F)) :=
  (by_nullary m c 505 rfl (by decide +kernel)).trans rfl
theorem u_main_v422 : V m c main_v422 = (Cert.LruRefIdeal.Read.val_main_v422 (F := F) (x1 m c) (x3 m c) (x4 m c) (x5 m c) (x6 m c) (x7 m c) (x8 m c) (x9 m c)) :=
  (by_binary m c 506 rfl (by decide +kernel) (by decide +kernel) (by decide +kernel) (u_main_v406 m c) (u_main_cst_65 m c)).trans rfl
theorem u_main_v423 : V m c main_v423 = (Cert.LruRefIdeal.Read.val_main_v423 (F := F) (x1 m c) (x3 m c) (x4 m c) (x5 m c) (x6 m c) (x7 m c) (x8 m c) (x9 m c)) :=
  (by_binary m c 507 rfl (by decide +kernel) (by decide +kernel) (by decide +kernel) (u_main_v421 m c) (u_main_v422 m c)).trans rfl

end Cert.LruHost

end
-- ==== Proof.LruValue.lean ====
/- The value of the recurrence's backward call: the projection's gradient after the run. -/
module

public import proofs.«01_k».proof.Proof.LruBody
public import proofs.«01_k».proof.Proof.LruHost4
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.LruValue

open Cert.LruIdeal Cert.LruIdeal.Gen Cert.LruBody Cert.LruHost
open Cert.LruRefIdeal.Read

variable (m : (ℓ : Loc nD τ sig) → Buf (Elt Ideal) ℓ)

/-- The block indices of the windows the projection's gradient is made from, and of its own. -/
theorem idx_val : ∀ t : Fin cfg0.N, win0_0.index t = ![63 - t.val, 0]
    ∧ win0_3.index t = ![63 - t.val, 0]
    ∧ win0_4.index t = ![63 - t.val, 0]
    ∧ win0_16.index t = ![0, 0] :=
  (by decide +kernel : ∀ t : Fin grid0.N, _)

variable (c : Dev nD) (t : Fin cfg0.N)

/-- The upstream gradient. -/
abbrev dy : S16384x1024.Idx → EReal := m ((c : Thread nD τ).loc main_arg0)

/-- The gate's argument. -/
abbrev zg : S16384x1024.Idx → EReal := m ((c : Thread nD τ).loc main_arg2)

/-- The recurrence's states, by the reference's forward lines. -/
abbrev hs : S16384x1024.Idx → EReal := val_main_v423 (F := Ideal) (x1 m c) (x3 m c) (x4 m c) (x5 m c) (x6 m c) (x7 m c) (x8 m c) (x9 m c)

theorem row_lt (a : Fin 256) : (63 - t.val) * 256 + a.val < 16384 := by
  have h : t.val < 64 := t.isLt
  have h' := a.isLt
  omega

/-- The array's row behind row `a` of the block of point `t`. -/
abbrev row (a : Fin 256) : Fin 16384 := ⟨(63 - t.val) * 256 + a.val, row_lt t a⟩

/-- The upstream gradient's cast is the array itself over the extended reals. -/
theorem host_dy : V m c main_v424 = dy m c :=
  by_unary m c 508 rfl (by decide +kernel) (by decide +kernel) (V_main_arg0 m c)

theorem read_0 (a : Fin 256) (k : Fin 1024) : iblk m c 0 t (ix2 a k) = dy m c (ix2 (row t a) k) := by
  refine Eq.trans ?_ (congrFun (host_dy m c) (ix2 (row t a) k))
  blk_ext [iblk, idx_val t]

theorem read_3 (a : Fin 256) (k : Fin 1024) : iblk m c 3 t (ix2 a k) = zg m c (ix2 (row t a) k) := by
  refine Eq.trans ?_ (congrFun (V_main_arg2 m c) (ix2 (row t a) k))
  blk_ext [iblk, idx_val t]

theorem read_4 (a : Fin 256) (k : Fin 1024) : iblk m c 4 t (ix2 a k) = hs m c (ix2 (row t a) k) := by
  refine Eq.trans ?_ (congrFun (u_main_v423 m c) (ix2 (row t a) k))
  blk_ext [iblk, idx_val t]

/-- The gated states: what the output projection multiplies. -/
def gated : S16384x1024.Idx → EReal :=
  val_main_v437 (F := Ideal) (x1 m c) (zg m c) (x3 m c) (x4 m c) (x5 m c) (x6 m c) (x7 m c) (x8 m c) (x9 m c)

/-- The gate: the hyperbolic-tangent form of the Gaussian error unit. -/
def gelu (z : EReal) : EReal :=
  z * (Ideal.ofBits .f32 0x3F000000#32 * (1
    + Ideal.tanh (Ideal.ofBits .f32 0x3F4C422A#32 * (z + Ideal.ofBits .f32 0x3D372713#32 * (z * z * z)))))

theorem gated_apply (i : S16384x1024.Idx) : gated m c i = hs m c i * gelu (zg m c i) := by
  unfold gated hs
  rw [val_main_v437_apply]
  generalize val_main_v423 (F := Ideal) (x1 m c) (x3 m c) (x4 m c) (x5 m c) (x6 m c) (x7 m c) (x8 m c) (x9 m c) i = h
  rw [val_main_v436_apply, val_main_v435_apply, val_main_v434_apply, val_main_cst_69_apply, val_main_v433_apply, val_main_v432_apply, val_main_cst_68_apply,
    val_main_v431_apply, val_main_v430_apply, val_main_v429_apply, val_main_cst_67_apply, val_main_v428_apply, val_main_v427_apply, val_main_v426_apply,
    val_main_cst_66_apply, val_main_v425_apply, val_main_v424_apply]
  unfold gelu
  rw [← Ideal.ofBits_one_f32]
  rfl

/-- What the body adds to the projection's gradient, from the states `h`, the gate's argument `z` and the upstream gradient `d`. -/
theorem pay_apply (h z : FVec Ideal S256x1024 .f32) (d : FVec Ideal S256x1024 .bf16) (o : FVec Ideal S1024x1024 .f32) (i j : Fin 1024) :
    k0_pay22 (F := Ideal) (k0_pay15 h) z (k0_pay17 z) d o (ix2 i j)
      = (show EReal from o (ix2 i j)) + ∑ a : Fin 256, ((show EReal from h (ix2 a i)) * gelu (z (ix2 a i))) * (show EReal from d (ix2 a j)) := by
  pointwise [k0_pay22, k0_pay21, k0_pay20, k0_pay19, k0_pay18, k0_pay17, k0_pay16, k0_pay15]
  refine congrArg (o (ix2 i j) + ·) (Finset.sum_congr rfl fun x _ => ?_)
  unfold gelu
  rw [mul_assoc (Ideal.ofBits .f32 0x3D372713#32)]

/-- What one block of rows adds to the projection's gradient. -/
def added (y : S1024x1024.Idx) : EReal :=
  ∑ a : Fin 256, gated m c (ix2 (row t a) (y (0 : Fin 2))) * dy m c (ix2 (row t a) (y (1 : Fin 2)))

theorem add_apply (x : Ins Ideal) (o : FVec Ideal S1024x1024 .f32) (i j : Fin 1024) :
    x.add o (ix2 i j) = (show EReal from o (ix2 i j)) + ∑ a : Fin 256, ((show EReal from x.x4 (ix2 a i)) * gelu (x.x3 (ix2 a i))) * (show EReal from x.x0 (ix2 a j)) := by
  unfold Ins.add
  exact pay_apply x.x4 x.x3 x.x0 o i j

theorem added_eq (i j : Fin 1024) :
    ∑ a : Fin 256, ((show EReal from (ins m c t).x4 (ix2 a i)) * gelu ((ins m c t).x3 (ix2 a i))) * (show EReal from (ins m c t).x0 (ix2 a j)) = added m c t (ix2 i j) := by
  refine Finset.sum_congr rfl fun a _ => ?_
  refine Eq.trans ?_ (congrArg (fun e : EReal => e * dy m c (ix2 (row t a) j)) (gated_apply m c (ix2 (row t a) i))).symm
  rw [← read_0, ← read_3, ← read_4]

theorem step (o : FVec Ideal S1024x1024 .f32) (i j : Fin 1024) : (ins m c t).add o (ix2 i j) = (show EReal from o (ix2 i j)) + added m c t (ix2 i j) :=
  (add_apply (ins m c t) o i j).trans (congrArg (fun e : EReal => (show EReal from o (ix2 i j)) + e) (added_eq m c t i j))

theorem step_at (o : FVec Ideal S1024x1024 .f32) (y : S1024x1024.Idx) : (ins m c t).add o y = (show EReal from o y) + added m c t y := by
  have h := step m c t o (y (0 : Fin 2)) (y (1 : Fin 2))
  rw [← eq_ix2 y] at h
  exact h

/-! ## The sum over the blocks -/

/-- The blocks' rows, all of them. -/
theorem sum_rows (f : Fin 16384 → EReal) (t : Fin cfg0.N) (h : ∀ s : Fin 64, 64 * (t.val / 64) + s.val < cfg0.N) :
    ∑ s : Fin 64, ∑ a : Fin 256, f (row ⟨64 * (t.val / 64) + s.val, h s⟩ a) = ∑ r, f r := by
  have ht : t.val / 64 = 0 := by have : t.val < 64 := t.isLt; omega
  refine Eq.trans ?_ (Fin.sum_univ_tiles 64 256 rfl f).symm
  refine Eq.trans ?_ (Equiv.sum_comp Fin.revPerm (fun j : Fin 64 => ∑ a : Fin 256, f ⟨j.val * 256 + a.val, by have := j.isLt; have := a.isLt; omega⟩))
  refine Finset.sum_congr rfl fun s _ => Finset.sum_congr rfl fun a _ => congrArg f (Fin.ext ?_)
  show (63 - (64 * (t.val / 64) + s.val)) * 256 + a.val = (Fin.rev s).val * 256 + a.val
  rw [Fin.val_rev]
  omega

theorem run_16 (hf : (cfg0.win 16).flush t = true) (y : S1024x1024.Idx) :
    left m c t.val t.isLt y = ∑ s : Fin 64, added m c ⟨64 * (t.val / 64) + s.val, Pipeline.run_point_lt_of_flush t ((flush0_16 t).mp hf) s⟩ y := by
  have hz (y : S1024x1024.Idx) : k0_pay5 (F := Ideal) y = (0 : EReal) := by pointwise [k0_pay5]
  rw [Pipeline.eq_sum_fin_of_reset_step_apply_of_flush (fun n h => left m c n h) 64 (fun _ => 0)
    (fun t j => added m c t j)
    (fun t h j => by
      rw [left_A m c t h]
      refine (step_at m c t _ j).trans ?_
      exact congrArg (· + added m c t j) (hz j))
    (fun t h j => by
      rw [left_B m c t h]
      exact step_at m c t _ j)
    t ((flush0_16 t).mp hf) _, zero_add]

/-- The reference's gradient of the projection, at an index: one product over all rows. -/
theorem dlp_ref (i j : Fin 1024) :
    val_main_v443 (F := Ideal) (dy m c) (x1 m c) (zg m c) (x3 m c) (x4 m c) (x5 m c) (x6 m c) (x7 m c) (x8 m c) (x9 m c) (ix2 i j)
      = ∑ r : Fin 16384, gated m c (ix2 r i) * dy m c (ix2 r j) := by
  rw [val_main_v443_apply, val_main_v442_apply, val_main_v441_apply, val_main_v440_apply]
  refine Finset.sum_congr rfl fun r _ => (mul_comm _ _).trans ?_
  unfold gated
  congr 1
  · refine congrArg _ (funext fun a => Fin.ext ?_)
    match a with
    | ⟨0, _⟩ => rfl
    | ⟨1, _⟩ => show (i.val * 1024 + j.val) / 1024 % 1024 = i.val; omega
  · refine congrArg _ (funext fun a => Fin.ext ?_)
    match a with
    | ⟨0, _⟩ => rfl
    | ⟨1, _⟩ => show (i.val * 1024 + j.val) % 1024 = j.val; omega

theorem final_16 : (dats m 0 c).arrAt 16 (cfgs 0).N
    = val_main_v443 (F := Ideal) (dy m c) (x1 m c) (zg m c) (x3 m c) (x4 m c) (x5 m c) (x6 m c) (x7 m c) (x8 m c) (x9 m c) := by
  refine (dats m 0 c).arrAt_eq_of_covers 16 _ (by decide +kernel) fun t hf y => ?_
  blk_simp; rw [after_16]
  obtain ⟨i, j, rfl⟩ : ∃ (i : Fin 1024) (j : Fin 1024), y = ix2 i j := ⟨y (0 : Fin 2), y (1 : Fin 2), eq_ix2 y⟩
  have e : ((cfg0.win 16).blk t).view.emb (ix2 i j) = ix2 i j := by blk_ext [idx_val t]
  refine (run_16 m c t hf _).trans (((congrArg _ e).trans (dlp_ref m c i j)).trans ?_).symm
  exact (sum_rows (fun r => gated m c (ix2 r i) * dy m c (ix2 r j)) t fun s => Pipeline.run_point_lt_of_flush t ((flush0_16 t).mp hf) s).symm

end Cert.LruValue

end
-- ==== Proof.LruPair.lean ====
/- The recurrence's backward call against the derivative of its forward lines. -/
module

public import proofs.«01_k».proof.Defs
public import proofs.«01_k».proof.Proof.LruValue
public import proofs.«01_k».proof.Proof.LruFrame
public import proofs.«01_k».proof.Proof.Gen.LruRefIdeal.Run
public import Idealize.ShloMosaic.Lib.Claim

@[expose] public section

set_option maxRecDepth 200000

noncomputable section

namespace Cert.LruPair

open Idealize.ShloMosaic Idealize.SL.Sem

section
variable (m : (ℓ : Loc Cert.LruIdeal.nD Cert.LruIdeal.τ Cert.LruIdeal.sig) → Buf (Elt Ideal) ℓ) (c : Dev Cert.LruIdeal.nD)
  (r : PUnit × MemSt Cert.LruIdeal.nD Cert.LruIdeal.τ Cert.LruIdeal.sig (Elt Ideal))
  (h : Pipeline.RDat.FramePost Cert.LruIdeal.cfg0 (fun c => (Cert.LruBody.dats m 0 c).toRForget Cert.LruBody.untold) (Cert.LruBody.V m) r)
include h

/-- The projection's gradient after the run. -/
theorem told : r.2.mem ((c.tc : Thread Cert.LruIdeal.nD Cert.LruIdeal.τ).loc Cert.LruIdeal.main_v449_2)
    = Cert.LruRefIdeal.Read.val_main_v443 (F := Ideal) (Cert.LruValue.dy m c) (Cert.LruHost.x1 m c) (Cert.LruValue.zg m c) (Cert.LruHost.x3 m c) (Cert.LruHost.x4 m c) (Cert.LruHost.x5 m c) (Cert.LruHost.x6 m c) (Cert.LruHost.x7 m c) (Cert.LruHost.x8 m c) (Cert.LruHost.x9 m c) :=
  ((Pipeline.Dat.toRForget_arrAt_iff (dat := Cert.LruBody.dats m 0 c) (w := 16) rfl _ _).mp ((h c).1 16)).trans (Cert.LruValue.final_16 m c)

end

/-- A function of ten arguments at equal arguments. -/
theorem agree {T0 T1 T2 T3 T4 T5 T6 T7 T8 T9 : Type} {P : Prop} {R : Type}
    (f : T0 → T1 → T2 → T3 → T4 → T5 → T6 → T7 → T8 → T9 → R) {a0 b0 : T0} {a1 b1 : T1} {a2 b2 : T2} {a3 b3 : T3} {a4 b4 : T4} {a5 b5 : T5} {a6 b6 : T6} {a7 b7 : T7} {a8 b8 : T8} {a9 b9 : T9}
    (h : a0 = b0 ∧ a1 = b1 ∧ a2 = b2 ∧ a3 = b3 ∧ a4 = b4 ∧ a5 = b5 ∧ a6 = b6 ∧ a7 = b7 ∧ a8 = b8 ∧ a9 = b9 ∧ P) :
    f a0 a1 a2 a3 a4 a5 a6 a7 a8 a9 = f b0 b1 b2 b3 b4 b5 b6 b7 b8 b9 := by
  obtain ⟨rfl, rfl, rfl, rfl, rfl, rfl, rfl, rfl, rfl, rfl, _⟩ := h
  rfl

set_option maxHeartbeats 4000000 in
/-- The projection's gradient is the reference's derivative, over the reals. -/
theorem algebraic : Cert.algebraic_LruIdeal_LruRefIdeal := by
  intro m g m' g' _ hagree
  refine ⟨fun c => Cert.LruRefIdeal.Read.val_main_v443 (F := Ideal) (Cert.LruValue.dy m c) (Cert.LruHost.x1 m c) (Cert.LruValue.zg m c) (Cert.LruHost.x3 m c) (Cert.LruHost.x4 m c) (Cert.LruHost.x5 m c) (Cert.LruHost.x6 m c) (Cert.LruHost.x7 m c) (Cert.LruHost.x8 m c) (Cert.LruHost.x9 m c),
    (θ_run Cert.LruIdeal.defs _ _).mono (fun r h c => ⟨told m c r h.1, Cert.LruFrame.kept0 Ideal m c r h.1, Cert.LruFrame.kept1 Ideal m c r h.1, Cert.LruFrame.kept2 Ideal m c r h.1, Cert.LruFrame.kept3 Ideal m c r h.1, Cert.LruFrame.kept4 Ideal m c r h.1, Cert.LruFrame.kept5 Ideal m c r h.1, Cert.LruFrame.kept6 Ideal m c r h.1, Cert.LruFrame.kept7 Ideal m c r h.1, Cert.LruFrame.kept8 Ideal m c r h.1, Cert.LruFrame.kept9 Ideal m c r h.1, Cert.LruFrame.kept10 Ideal m c r h.1⟩)
      (Cert.LruBody.run_quiescent m g),
    (θ_run Cert.LruRefIdeal.defs _ _).mono (fun r h c => ⟨(h c).1.trans ?_, (h c).2⟩) (Cert.LruRefIdeal.Value.run m' g')⟩
  exact (Cert.LruRefIdeal.Read.val_main_v443_eq (StableHlo.launchContents m' c)).trans (agree _ (hagree c))

end Cert.LruPair

end
-- ==== Proof.UpValue.lean ====
/- The value facts of the gated linear unit's forward call: what each result array holds after the run, and the
   reference's arrays as the same formulas. -/
module

public import proofs.«01_k».proof.Proof.Gen.UpIdeal.Frame
public import proofs.«01_k».proof.Proof.Gen.UpRefIdeal.Read
public import proofs.«01_k».proof.Proof.FfnMath
public import proofs.«01_k».proof.Proof.Rows
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open Cert.Reals
open scoped BigOperators

namespace Cert.UpMath

open Cert.UpRefIdeal Cert.UpRefIdeal.Read Cert.FfnMath

variable (x0 : (⟨S16384x1024, .f32⟩ : BufTy).Contents (Elt Ideal)) (x1 : (⟨S1x1024, .f32⟩ : BufTy).Contents (Elt Ideal))
  (x2 : (⟨S1x1024x5632, .f32⟩ : BufTy).Contents (Elt Ideal)) (x3 : (⟨S1x2816x1024, .f32⟩ : BufTy).Contents (Elt Ideal))

/-- The normed row, scaled. -/
def normed (r : Fin 16384) (k : Fin 1024) : EReal := x0 (ix2 r k) * inv x0 r * x1 (ix2 0 k)

/-- The activations: the gate by its logistic function, times the gated factor. -/
def act (r : Fin 16384) (j : Fin 2816) : EReal :=
  gate x0 x1 x2 r j * sig x0 x1 x2 r j * ff x0 x1 x2 r ⟨2816 + j.val, lt_right j⟩

/-- The stream after the layer. -/
def out (r : Fin 16384) (k : Fin 1024) : EReal := x0 (ix2 r k) + ∑ j : Fin 2816, act x0 x1 x2 r j * x3 (ix3 0 j k)

theorem inv_ref (r : Fin 16384) : val_main_v8 (F := Ideal) x0 (ix2 r 0) = inv x0 r := by
  pointwise [val_main_v8, val_main_v7, val_main_v6, val_main_v5, val_main_v4, val_main_v3, val_main_v2, val_main_v1, val_main_cst, val_main_cst_0, val_main_cst_1, Cert.FfnMath.inv, meanSq]

theorem normed_ref (r : Fin 16384) (k : Fin 1024) : val_main_v23 (F := Ideal) x0 x1 (ix2 r k) = normed x0 x1 r k := by
  pointwise [val_main_v23, val_main_v13, val_main_v12, val_main_v11, val_main_v10, val_main_v9, val_main_v0, normed]
  simp only [inv_ref]

theorem ff_ref (r : Fin 16384) (j : Fin 5632) : val_main_v15 (F := Ideal) x0 x1 x2 (ix2 r j) = ff x0 x1 x2 r j := by
  pointwise [val_main_v15, val_main_v14, val_main_v13, val_main_v12, val_main_v11, val_main_v10, val_main_v9, val_main_v0, ff]
  simp only [inv_ref]

theorem ff_ref' (r : Fin 16384) (j : Fin 5632) : val_main_v24 (F := Ideal) x0 x1 x2 (ix2 r j) = ff x0 x1 x2 r j := by
  refine Eq.trans ?_ (ff_ref x0 x1 x2 r j)
  pointwise [val_main_v24]

theorem gate_ref (r : Fin 16384) (j : Fin 2816) : val_main_v16 (F := Ideal) x0 x1 x2 (ix2 r j) = gate x0 x1 x2 r j := by
  refine Eq.trans ?_ (ff_ref x0 x1 x2 r ⟨j.val, lt_left j⟩)
  pointwise [val_main_v16]

theorem up_ref (r : Fin 16384) (j : Fin 2816) : val_main_v17 (F := Ideal) x0 x1 x2 (ix2 r j) = ff x0 x1 x2 r ⟨2816 + j.val, lt_right j⟩ := by
  refine Eq.trans ?_ (ff_ref x0 x1 x2 r ⟨2816 + j.val, lt_right j⟩)
  pointwise [val_main_v17]

theorem sig_ref (r : Fin 16384) (j : Fin 2816) : val_main_call0_v5 (F := Ideal) x0 x1 x2 (ix2 r j) = sig x0 x1 x2 r j := by
  pointwise [val_main_call0_v5, val_main_call0_v4, val_main_call0_v3, val_main_call0_v2, val_main_call0_v1, val_main_call0_v0, val_main_call0_cst, val_main_call0_cst_0, Cert.FfnMath.sig]
  simp only [gate_ref]

theorem act_ref (r : Fin 16384) (j : Fin 2816) : val_main_v19 (F := Ideal) x0 x1 x2 (ix2 r j) = act x0 x1 x2 r j := by
  pointwise [val_main_v19, val_main_v18, act]
  simp only [gate_ref, sig_ref, up_ref]

theorem act_ref' (r : Fin 16384) (j : Fin 2816) : val_main_v25 (F := Ideal) x0 x1 x2 (ix2 r j) = act x0 x1 x2 r j := by
  refine Eq.trans ?_ (act_ref x0 x1 x2 r j)
  pointwise [val_main_v25]

theorem out_ref (r : Fin 16384) (k : Fin 1024) : val_main_v22 (F := Ideal) x0 x1 x2 x3 (ix2 r k) = out x0 x1 x2 x3 r k := by
  pointwise [val_main_v22, val_main_v21, val_main_v20, out]
  simp only [act_ref]

end Cert.UpMath

namespace Cert.UpIdeal.Value

open Cert.UpIdeal Cert.UpIdeal.Gen Cert.FfnMath Cert.UpMath

variable (m : (ℓ : Loc nD τ sig) → Buf (Elt Ideal) ℓ)

/-- Every window's block index at a grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

variable (c : Dev nD) (t : Fin cfg0.N)

/-- The arguments, by name. -/
abbrev X0 : FVec Ideal S16384x1024 .f32 := m ((c : Thread nD τ).loc main_arg0)
abbrev X1 : FVec Ideal S1x1024 .f32 := m ((c : Thread nD τ).loc main_arg1)
abbrev X2 : FVec Ideal S1x1024x5632 .f32 := m ((c : Thread nD τ).loc main_arg2)
abbrev X3 : FVec Ideal S1x2816x1024 .f32 := m ((c : Thread nD τ).loc main_arg3)

theorem row_lt (a : Fin 256) : t.val * 256 + a.val < 16384 := by
  have h : t.val < 64 := t.isLt
  have h' := a.isLt
  omega

/-- The array's row behind row `a` of block `t`. -/
abbrev row (a : Fin 256) : Fin 16384 := ⟨t.val * 256 + a.val, row_lt t a⟩

theorem read_0 (a : Fin 256) (k : Fin 1024) : iblk m c 0 t (ix2 a k) = X0 m c (ix2 (row t a) k) := by
  blk_ext [iblk, V, idx_val t]

theorem read_1 (k : Fin 1024) : iblk m c 1 t (ix2 0 k) = X1 m c (ix2 0 k) := by
  blk_ext [iblk, V, idx_val t]

theorem read_2 (k : Fin 1024) (j : Fin 5632) : iblk m c 2 t (ix2 k j) = X2 m c (ix3 0 k j) := by
  blk_ext! [iblk, V, idx_val t]

theorem read_3 (j : Fin 2816) (k : Fin 1024) : iblk m c 3 t (ix2 j k) = X3 m c (ix3 0 j k) := by
  blk_ext! [iblk, V, idx_val t]

/-- The halves of the first weight block. -/
abbrev leftW : FVec Ideal S1024x2816 .bf16 := View.ld (iblk m c 2 t) (Rect.unit ![0, 0] ![1024, 2816] inb_S1024x5632_S1024x2816_0_0)
abbrev rightW : FVec Ideal S1024x2816 .bf16 := View.ld (iblk m c 2 t) (Rect.unit ![0, 2816] ![1024, 2816] inb_S1024x5632_S1024x2816_0_2816)

theorem left_ker (k : Fin 1024) (j : Fin 2816) : leftW m c t (ix2 k j) = X2 m c (ix3 0 k ⟨j.val, lt_left j⟩) := by
  refine Eq.trans ?_ (read_2 m c t k ⟨j.val, lt_left j⟩)
  exact Cert.Rows.ld_rect _ _ _ _ _ _ _ _ (by simp) (by simp)

theorem right_ker (k : Fin 1024) (j : Fin 2816) : rightW m c t (ix2 k j) = X2 m c (ix3 0 k ⟨2816 + j.val, lt_right j⟩) := by
  refine Eq.trans ?_ (read_2 m c t k ⟨2816 + j.val, lt_right j⟩)
  exact Cert.Rows.ld_rect _ _ _ _ _ _ _ _ (by simp) (by simp)

theorem normed_ker (a : Fin 256) (k : Fin 1024) :
    k0_pay3 (F := Ideal) (iblk m c 0 t) (iblk m c 1 t) (ix2 a k) = normed (X0 m c) (X1 m c) (row t a) k := by
  pointwise [k0_pay3]
  simp only [read_0, read_1]
  rfl

theorem gate_ker (a : Fin 256) (j : Fin 2816) :
    k0_pay4 (F := Ideal) (iblk m c 0 t) (iblk m c 1 t) (leftW m c t) (ix2 a j) = gate (X0 m c) (X1 m c) (X2 m c) (row t a) j := by
  pointwise [k0_pay4]
  simp only [normed_ker, left_ker]
  rfl

theorem up_ker (a : Fin 256) (j : Fin 2816) :
    k0_pay5 (F := Ideal) (iblk m c 0 t) (iblk m c 1 t) (rightW m c t) (ix2 a j)
    = ff (X0 m c) (X1 m c) (X2 m c) (row t a) ⟨2816 + j.val, lt_right j⟩ := by
  pointwise [k0_pay5]
  simp only [normed_ker, right_ker]
  rfl

/-- The activations, as the point computes them. -/
abbrev actBlk : FVec Ideal S256x2816 .bf16 := k0_pay1 (F := Ideal) (k0_pay5 (F := Ideal) (iblk m c 0 t) (iblk m c 1 t) (rightW m c t))
  (k0_pay8 (F := Ideal) (iblk m c 0 t) (iblk m c 1 t) (leftW m c t))

theorem act_ker (a : Fin 256) (j : Fin 2816) : actBlk m c t (ix2 a j) = act (X0 m c) (X1 m c) (X2 m c) (row t a) j := by
  pointwise [actBlk, k0_pay1, k0_pay8]
  simp only [Cert.Scalars.half_tanh, gate_ker, up_ker]
  rfl

/-- The stream after the layer, as the point computes it. -/
abbrev outBlk : FVec Ideal S256x1024 .f32 := k0_pay2 (F := Ideal) (iblk m c 0 t) (k0_pay5 (F := Ideal) (iblk m c 0 t) (iblk m c 1 t) (rightW m c t))
  (k0_pay8 (F := Ideal) (iblk m c 0 t) (iblk m c 1 t) (leftW m c t)) (iblk m c 3 t)

theorem out_ker (a : Fin 256) (k : Fin 1024) : outBlk m c t (ix2 a k) = out (X0 m c) (X1 m c) (X2 m c) (X3 m c) (row t a) k := by
  pointwise [outBlk, k0_pay2]
  simp only [read_0, read_3, act_ker]
  rfl

theorem final_4 : (dats m 0 c).arrAt 4 (cfgs 0).N = Cert.UpRefIdeal.Read.val_main_v22 (F := Ideal) (X0 m c) (X1 m c) (X2 m c) (X3 m c) := by
  refine (dats m 0 c).arrAt_eq_of_covers 4 _ (by decide +kernel) fun t hf y => ?_
  blk_simp; rw [after0_4]; unfold_out out0_4; frame_out
  obtain ⟨a, k, rfl⟩ : ∃ (a : Fin 256) (k : Fin 1024), y = ix2 a k := ⟨y (0 : Fin 2), y (1 : Fin 2), eq_ix2 y⟩
  have e : ((cfg0.win 4).blk t).view.emb (ix2 a k) = ix2 (row t a) k := by blk_ext [idx_val t]
  exact (out_ker m c t a k).trans ((congrArg _ e).trans (out_ref _ _ _ _ (row t a) k)).symm

theorem final_5 : (dats m 0 c).arrAt 5 (cfgs 0).N = Cert.UpRefIdeal.Read.val_main_v23 (F := Ideal) (X0 m c) (X1 m c) := by
  refine (dats m 0 c).arrAt_eq_of_covers 5 _ (by decide +kernel) fun t hf y => ?_
  blk_simp; rw [after0_5]; unfold_out out0_5; frame_out
  obtain ⟨a, k, rfl⟩ : ∃ (a : Fin 256) (k : Fin 1024), y = ix2 a k := ⟨y (0 : Fin 2), y (1 : Fin 2), eq_ix2 y⟩
  have e : ((cfg0.win 5).blk t).view.emb (ix2 a k) = ix2 (row t a) k := by blk_ext [idx_val t]
  exact (normed_ker m c t a k).trans ((congrArg _ e).trans (normed_ref _ _ (row t a) k)).symm

theorem final_7 : (dats m 0 c).arrAt 7 (cfgs 0).N = Cert.UpRefIdeal.Read.val_main_v25 (F := Ideal) (X0 m c) (X1 m c) (X2 m c) := by
  refine (dats m 0 c).arrAt_eq_of_covers 7 _ (by decide +kernel) fun t hf y => ?_
  blk_simp; rw [after0_7]; unfold_out out0_7; frame_out
  obtain ⟨a, j, rfl⟩ : ∃ (a : Fin 256) (j : Fin 2816), y = ix2 a j := ⟨y (0 : Fin 2), y (1 : Fin 2), eq_ix2 y⟩
  have e : ((cfg0.win 7).blk t).view.emb (ix2 a j) = ix2 (row t a) j := by blk_ext [idx_val t]
  exact (act_ker m c t a j).trans ((congrArg _ e).trans (act_ref' _ _ _ (row t a) j)).symm

theorem left_at (a : Fin 256) (b : Fin 2816) :
    ((cfg0.win 6).blk t).view.emb (ix2 a ⟨b.val, lt_left b⟩) = ix2 (row t a) ⟨b.val, lt_left b⟩ := by
  blk_ext [idx_val t]

theorem right_at (a : Fin 256) (b : Fin 2816) :
    ((cfg0.win 6).blk t).view.emb (ix2 a ⟨2816 + b.val, lt_right b⟩) = ix2 (row t a) ⟨2816 + b.val, lt_right b⟩ := by
  blk_ext [idx_val t]

theorem point_6 (y : S256x5632.Idx) :
    View.canon [⟨Rect.unit ![0, 2816] ![256, 2816] inb_S256x5632_S256x2816_0_2816, k0_pay7 (F := Ideal) (iblk m c 0 t) (iblk m c 1 t) (rightW m c t)⟩,
      ⟨Rect.unit ![0, 0] ![256, 2816] inb_S256x5632_S256x2816_0_0, k0_pay6 (F := Ideal) (iblk m c 0 t) (iblk m c 1 t) (leftW m c t)⟩] y
    = Cert.UpRefIdeal.Read.val_main_v24 (F := Ideal) (X0 m c) (X1 m c) (X2 m c) (((cfg0.win 6).blk t).view.emb y) := by
  canon_tiles x h
  · obtain ⟨a, b, rfl⟩ : ∃ (a : Fin 256) (b : Fin 2816), x = ix2 a b := ⟨x (0 : Fin 2), x (1 : Fin 2), eq_ix2 x⟩
    have hy : y = ix2 a ⟨2816 + b.val, lt_right b⟩ := by
      funext i; match i with
      | ⟨0, _⟩ => exact Fin.ext h0
      | ⟨1, _⟩ => exact Fin.ext h1
    subst hy
    exact (up_ker m c t a b).trans ((congrArg _ (right_at t a b)).trans (ff_ref' _ _ _ _ _)).symm
  · obtain ⟨a, b, rfl⟩ : ∃ (a : Fin 256) (b : Fin 2816), x = ix2 a b := ⟨x (0 : Fin 2), x (1 : Fin 2), eq_ix2 x⟩
    have hy : y = ix2 a ⟨b.val, lt_left b⟩ := by
      funext i; match i with
      | ⟨0, _⟩ => exact Fin.ext h0
      | ⟨1, _⟩ => exact Fin.ext h1
    subst hy
    exact (gate_ker m c t a b).trans ((congrArg _ (left_at t a b)).trans (ff_ref' _ _ _ _ _)).symm

theorem final_6 : (dats m 0 c).arrAt 6 (cfgs 0).N = Cert.UpRefIdeal.Read.val_main_v24 (F := Ideal) (X0 m c) (X1 m c) (X2 m c) := by
  refine (dats m 0 c).arrAt_eq_of_covers 6 _ (by decide +kernel) fun t hf y => ?_
  blk_simp; rw [after0_6]; unfold_out out0_6; frame_out
  exact point_6 m c t y

end Cert.UpIdeal.Value

end
-- ==== Proof.UpPair.lean ====
/- The gated linear unit's forward call against its lines. -/
module

public import proofs.«01_k».proof.Defs
public import proofs.«01_k».proof.Proof.UpValue
public import proofs.«01_k».proof.Proof.Gen.UpRefIdeal.Run
public import Idealize.ShloMosaic.Lib.Claim

@[expose] public section

set_option maxRecDepth 200000

noncomputable section

namespace Cert.UpPair

open Idealize.ShloMosaic Idealize.SL.Sem

/-- The reference ends with its arguments unchanged and every semaphore counter at zero: it declares none. -/
theorem frame_ref : Cert.quiescent_UpRefIdeal := fun m g _ =>
  (θ_run Cert.UpRefIdeal.defs _ _).mono
    (fun r h => ⟨fun c => (h c).2.2.2.2, sem_eq_zero_of_no_sems (by decide) r.2⟩)
    (Cert.UpRefIdeal.Value.run m g)

set_option maxHeartbeats 4000000 in
/-- The four results of the gated linear unit's forward call are the reference's, over the reals. -/
theorem algebraic : Cert.algebraic_UpIdeal_UpRefIdeal := by
  pair_intro
  · run_from Cert.UpIdeal.Gen.run_main m g
  · run_from Cert.UpRefIdeal.Value.run m' g'
    · exact (Cert.UpRefIdeal.Read.val_main_v22_eq ..).trans (Cert.UpIdeal.Value.final_4 m c).symm
    · exact (Cert.UpRefIdeal.Read.val_main_v23_eq ..).trans (Cert.UpIdeal.Value.final_5 m c).symm
    · exact (Cert.UpRefIdeal.Read.val_main_v24_eq ..).trans (Cert.UpIdeal.Value.final_6 m c).symm
    · exact (Cert.UpRefIdeal.Read.val_main_v25_eq ..).trans (Cert.UpIdeal.Value.final_7 m c).symm

end Cert.UpPair

end
-- ==== Proof.WgradValue.lean ====
/- The value of a weight's gradient: the blocks of rows, added up, against one product over all rows. -/
module

public import proofs.«01_k».proof.Proof.Gen.WgradIdeal.Frame
public import proofs.«01_k».proof.Proof.Gen.WgradRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.WgradIdeal.Value

open Cert.WgradIdeal Cert.WgradIdeal.Gen

variable (m : (ℓ : Loc nD τ sig) → Buf (Elt Ideal) ℓ)

/-- Every window's block index at a grid point: the blocks of rows run fastest. -/
theorem idx_val : ∀ t : Fin cfg0.N, win0_0.index t = ![t.val % 8, 0]
    ∧ win0_1.index t = ![t.val % 8, t.val / 8]
    ∧ win0_2.index t = ![0, t.val / 8] :=
  (by decide +kernel : ∀ t : Fin grid0.N, _)

variable (c : Dev nD) (t : Fin cfg0.N)

/-- The arguments, by name. -/
abbrev X0 : FVec Ideal S16384x1024 .f32 := m ((c : Thread nD τ).loc main_arg0)
abbrev X1 : FVec Ideal S16384x5632 .f32 := m ((c : Thread nD τ).loc main_arg1)

theorem row_lt (s : Fin 2048) : t.val % 8 * 2048 + s.val < 16384 := by
  have h' := s.isLt
  omega

theorem col_lt (b : Fin 1408) : t.val / 8 * 1408 + b.val < 5632 := by
  have h : t.val < 32 := t.isLt
  have h' := b.isLt
  omega

/-- The arrays' row and column behind those of a block. -/
abbrev row (s : Fin 2048) : Fin 16384 := ⟨t.val % 8 * 2048 + s.val, row_lt t s⟩
abbrev col (b : Fin 1408) : Fin 5632 := ⟨t.val / 8 * 1408 + b.val, col_lt t b⟩

theorem read_0 (s : Fin 2048) (a : Fin 1024) : iblk m c 0 t (ix2 s a) = X0 m c (ix2 (row t s) a) := by
  blk_ext! [iblk, V, idx_val t]

theorem read_1 (s : Fin 2048) (b : Fin 1408) : iblk m c 1 t (ix2 s b) = X1 m c (ix2 (row t s) (col t b)) := by
  blk_ext! [iblk, V, idx_val t]

/-- What one block of rows adds. -/
def part (y : S1024x1408.Idx) : EReal :=
  ∑ s : Fin 2048, X0 m c (ix2 (row t s) (y (0 : Fin 2))) * X1 m c (ix2 (row t s) (col t (y (1 : Fin 2))))

theorem step (p : FVec Ideal S1024x1408 .f32) (y : S1024x1408.Idx) :
    k0_pay2 (F := Ideal) p (iblk m c 0 t) (iblk m c 1 t) y = p y + part m c t y := by
  obtain ⟨a, b, rfl⟩ : ∃ (a : Fin 1024) (b : Fin 1408), y = ix2 a b := ⟨y (0 : Fin 2), y (1 : Fin 2), eq_ix2 y⟩
  pointwise [k0_pay2]
  simp only [read_0, read_1]
  rfl

theorem run_2 (t : Fin cfg0.N) (hf : (cfg0.win 2).flush t = true) (y : S1024x1408.Idx) :
    outsAt0 m c t.val t.isLt y = ∑ s : Fin 8, part m c ⟨8 * (t.val / 8) + s.val, Pipeline.run_point_lt_of_flush t ((flush0_2 t).mp hf) s⟩ y := by
  have hz (y : S1024x1408.Idx) : k0_pay1 (F := Ideal) y = (0 : EReal) := by pointwise [k0_pay1]
  rw [Pipeline.eq_sum_fin_of_reset_step_apply_of_flush (fun n h => outsAt0 m c n h) 8 (fun _ => 0) (fun t j => part m c t j)
    (fun t h j => by rw [outsAt0_A m c t h]; frame_out; rw [← hz j]; exact step m c t _ j)
    (fun t h j => by rw [outsAt0_B m c t h]; frame_out; exact step m c t _ j)
    t ((flush0_2 t).mp hf) _, zero_add]

theorem ref_apply (x0 : FVec Ideal S16384x1024 .f32) (x1 : FVec Ideal S16384x5632 .f32) (a : Fin 1024) (j : Fin 5632) :
    Cert.WgradRefIdeal.Read.val_main_v1 (F := Ideal) x0 x1 (ix2 a j) = ∑ k : Fin 16384, x0 (ix2 k a) * x1 (ix2 k j) := by
  pointwise [Cert.WgradRefIdeal.Read.val_main_v1, Cert.WgradRefIdeal.Read.val_main_v0]

theorem sum_2 (t : Fin cfg0.N) (hf : (cfg0.win 2).flush t = true) (a : Fin 1024) (b : Fin 1408) :
    ∑ s : Fin 8, part m c ⟨8 * (t.val / 8) + s.val, Pipeline.run_point_lt_of_flush t ((flush0_2 t).mp hf) s⟩ (ix2 a b)
    = ∑ k : Fin 16384, X0 m c (ix2 k a) * X1 m c (ix2 k (col t b)) := by
  unfold part
  refine Fin.sum_mul_add_congr fun s k hl => ?_
  have hs : s.val < 8 := s.isLt
  have er : row ⟨8 * (t.val / 8) + s.val, Pipeline.run_point_lt_of_flush t ((flush0_2 t).mp hf) s⟩ k = ⟨_, hl⟩ := Fin.ext (by
    show (8 * (t.val / 8) + s.val) % 8 * 2048 + k.val = s.val * 2048 + k.val
    omega)
  have ec : col ⟨8 * (t.val / 8) + s.val, Pipeline.run_point_lt_of_flush t ((flush0_2 t).mp hf) s⟩ b = col t b := Fin.ext (by
    show (8 * (t.val / 8) + s.val) / 8 * 1408 + b.val = t.val / 8 * 1408 + b.val
    omega)
  rw [← er, ← ec]
  rfl

theorem final_2 : (dats m 0 c).arrAt 2 (cfgs 0).N = Cert.WgradRefIdeal.Read.val_main_v1 (F := Ideal) (X0 m c) (X1 m c) := by
  refine (dats m 0 c).arrAt_eq_of_covers 2 _ (by decide +kernel) fun t hf y => ?_
  blk_simp
  rw [after0_2]
  obtain ⟨a, b, rfl⟩ : ∃ (a : Fin 1024) (b : Fin 1408), y = ix2 a b := ⟨y (0 : Fin 2), y (1 : Fin 2), eq_ix2 y⟩
  have e : ((cfg0.win 2).blk t).view.emb (ix2 a b) = ix2 a (col t b) := by blk_ext [idx_val t]
  exact (run_2 m c t hf _).trans ((sum_2 m c t hf a b).trans ((congrArg _ e).trans (ref_apply _ _ a (col t b))).symm)

end Cert.WgradIdeal.Value

end
-- ==== Proof.AdamValue.lean ====
/- The value of the optimiser's step on one weight: the tiles of rows against the whole arrays. -/
module

public import proofs.«01_k».proof.Proof.Gen.AdamIdeal.Frame
public import proofs.«01_k».proof.Proof.Gen.AdamRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamIdeal.Value

open Cert.AdamIdeal Cert.AdamIdeal.Gen Cert.AdamRefIdeal.Read

variable (m : (ℓ : Loc nD τ sig) → Buf (Elt Ideal) ℓ)

/-- Every window's block index at a grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

variable (c : Dev nD) (t : Fin cfg0.N)

/-- The arguments, by name: the weight, its gradient and the two moments. -/
abbrev X0 : FVec Ideal S1x1024x1408 .f32 := m ((c : Thread nD τ).loc main_arg0)
abbrev X1 : FVec Ideal S1x1024x1408 .f32 := m ((c : Thread nD τ).loc main_arg1)
abbrev X2 : FVec Ideal S1x1024x1408 .f32 := m ((c : Thread nD τ).loc main_arg2)
abbrev X3 : FVec Ideal S1x1024x1408 .f32 := m ((c : Thread nD τ).loc main_arg3)

theorem row_lt (a : Fin 512) : t.val * 512 + a.val < 1024 := by
  have h : t.val < 2 := t.isLt
  have h' := a.isLt
  omega

/-- The array's row behind row `a` of block `t`. -/
abbrev row (a : Fin 512) : Fin 1024 := ⟨t.val * 512 + a.val, row_lt t a⟩

theorem read_0 (a : Fin 512) (k : Fin 1408) : iblk m c 0 t (ix2 a k) = X0 m c (ix3 0 (row t a) k) := by
  blk_ext! [iblk, V, idx_val t]

theorem read_1 (a : Fin 512) (k : Fin 1408) : iblk m c 1 t (ix2 a k) = X1 m c (ix3 0 (row t a) k) := by
  blk_ext! [iblk, V, idx_val t]

theorem read_2 (a : Fin 512) (k : Fin 1408) : iblk m c 2 t (ix2 a k) = X2 m c (ix3 0 (row t a) k) := by
  blk_ext! [iblk, V, idx_val t]

theorem read_3 (a : Fin 512) (k : Fin 1408) : iblk m c 3 t (ix2 a k) = X3 m c (ix3 0 (row t a) k) := by
  blk_ext! [iblk, V, idx_val t]

theorem final_4 : (dats m 0 c).arrAt 4 (cfgs 0).N = val_main_v24 (F := Ideal) (X0 m c) (X1 m c) (X2 m c) (X3 m c) := by
  refine (dats m 0 c).arrAt_eq_of_covers 4 _ (by decide +kernel) fun t hf y => ?_
  blk_simp; rw [after0_4]; unfold out0_4; frame_out
  obtain ⟨a, k, rfl⟩ : ∃ (a : Fin 512) (k : Fin 1408), y = ix2 a k := ⟨y (0 : Fin 2), y (1 : Fin 2), eq_ix2 y⟩
  have e : ((cfg0.win 4).blk t).view.emb (ix2 a k) = ix2 (row t a) k := by blk_ext [idx_val t]
  refine Eq.trans ?_ (congrArg _ e).symm
  pointwise [k0_pay4, k0_pay3, k0_pay2, k0_pay1, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  simp only [read_0, read_1, read_2, read_3]

theorem final_5 : (dats m 0 c).arrAt 5 (cfgs 0).N = val_main_v25 (F := Ideal) (X1 m c) (X2 m c) := by
  refine (dats m 0 c).arrAt_eq_of_covers 5 _ (by decide +kernel) fun t hf y => ?_
  blk_simp; rw [after0_5]; unfold out0_5; frame_out
  obtain ⟨a, k, rfl⟩ : ∃ (a : Fin 512) (k : Fin 1408), y = ix2 a k := ⟨y (0 : Fin 2), y (1 : Fin 2), eq_ix2 y⟩
  have e : ((cfg0.win 5).blk t).view.emb (ix2 a k) = ix2 (row t a) k := by blk_ext [idx_val t]
  refine Eq.trans ?_ (congrArg _ e).symm
  pointwise [k0_pay2, k0_pay1, val_main_v25, val_main_v4, val_main_v3, val_main_v2, val_main_v1, val_main_v0, val_main_cst, val_main_cst_0]
  simp only [read_1, read_2]

theorem final_6 : (dats m 0 c).arrAt 6 (cfgs 0).N = val_main_v26 (F := Ideal) (X1 m c) (X3 m c) := by
  refine (dats m 0 c).arrAt_eq_of_covers 6 _ (by decide +kernel) fun t hf y => ?_
  blk_simp; rw [after0_6]; unfold out0_6; frame_out
  obtain ⟨a, k, rfl⟩ : ∃ (a : Fin 512) (k : Fin 1408), y = ix2 a k := ⟨y (0 : Fin 2), y (1 : Fin 2), eq_ix2 y⟩
  have e : ((cfg0.win 6).blk t).view.emb (ix2 a k) = ix2 (row t a) k := by blk_ext [idx_val t]
  refine Eq.trans ?_ (congrArg _ e).symm
  pointwise [k0_pay3, k0_pay1, val_main_v26, val_main_v10, val_main_v9, val_main_v8, val_main_v7, val_main_v6, val_main_v5, val_main_cst_1, val_main_cst_2]
  simp only [read_1, read_3]

end Cert.AdamIdeal.Value

end
-- ==== Proof.PlainPairs.lean ====
/- A weight's gradient and the optimiser's step on one weight, against their lines. -/
module

public import proofs.«01_k».proof.Defs
public import proofs.«01_k».proof.Proof.WgradValue
public import proofs.«01_k».proof.Proof.AdamValue
public import proofs.«01_k».proof.Proof.Gen.WgradRefIdeal.Run
public import proofs.«01_k».proof.Proof.Gen.AdamRefIdeal.Run
public import Idealize.ShloMosaic.Lib.Claim

@[expose] public section

set_option maxRecDepth 200000

noncomputable section

open Idealize.ShloMosaic Idealize.SL.Sem

namespace Cert.WgradPair

/-- The reference ends with its arguments unchanged and every semaphore counter at zero: it declares none. -/
theorem frame_ref : Cert.quiescent_WgradRefIdeal := fun m g _ =>
  (θ_run Cert.WgradRefIdeal.defs _ _).mono
    (fun r h => ⟨fun c => (h c).2, sem_eq_zero_of_no_sems (by decide) r.2⟩)
    (Cert.WgradRefIdeal.Value.run m g)

set_option maxHeartbeats 2000000 in
/-- The weight's gradient is the product over all rows, over the reals. -/
theorem algebraic : Cert.algebraic_WgradIdeal_WgradRefIdeal := by
  pair_intro
  · run_from Cert.WgradIdeal.Gen.run_main m g
  · run_from Cert.WgradRefIdeal.Value.run m' g'
    exact (Cert.WgradRefIdeal.Read.val_main_v1_eq ..).trans (Cert.WgradIdeal.Value.final_2 m c).symm

end Cert.WgradPair

namespace Cert.AdamPair

/-- The reference ends with its arguments unchanged and every semaphore counter at zero: it declares none. -/
theorem frame_ref : Cert.quiescent_AdamRefIdeal := fun m g _ =>
  (θ_run Cert.AdamRefIdeal.defs _ _).mono
    (fun r h => ⟨fun c => (h c).2.2.2, sem_eq_zero_of_no_sems (by decide) r.2⟩)
    (Cert.AdamRefIdeal.Value.run m g)

set_option maxHeartbeats 2000000 in
/-- The step and the two new moments are the reference's, over the reals. -/
theorem algebraic : Cert.algebraic_AdamIdeal_AdamRefIdeal := by
  pair_intro
  · run_from Cert.AdamIdeal.Gen.run_main m g
  · run_from Cert.AdamRefIdeal.Value.run m' g'
    · exact (Cert.AdamRefIdeal.Read.val_main_v24_eq ..).trans (Cert.AdamIdeal.Value.final_4 m c).symm
    · exact (Cert.AdamRefIdeal.Read.val_main_v25_eq ..).trans (Cert.AdamIdeal.Value.final_5 m c).symm
    · exact (Cert.AdamRefIdeal.Read.val_main_v26_eq ..).trans (Cert.AdamIdeal.Value.final_6 m c).symm

end Cert.AdamPair

end
-- ==== Proof.lean ====
module

public import proofs.«01_k».proof.Defs
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesRefIdeal
public import proofs.«01_k».proof.Proof.Gen.GatesIdeal.Value
public import proofs.«01_k».proof.Proof.Gen.GatesRefIdeal.Run
public import proofs.«01_k».proof.Proof.Gen.GatesRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Pre_ffn_finite
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.Gen.PoolRefIdeal.Run
public import proofs.«01_k».proof.Proof.Gen.PoolRefIdeal.Read
public import proofs.«01_k».proof.Proof.Gen.Pre_pool_finite
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_loss_finite
public import proofs.«01_k».proof.Proof.GatesPair
public import proofs.«01_k».proof.Proof.FfnPair
public import proofs.«01_k».proof.Proof.PoolFrame
public import proofs.«01_k».proof.Proof.PoolPair
public import proofs.«01_k».proof.Proof.LossPair
public import proofs.«01_k».proof.Proof.Gen.Lru
public import proofs.«01_k».proof.Proof.Gen.Lru.Skeleton
public import proofs.«01_k».proof.Proof.Gen.Lru.Launch
public import proofs.«01_k».proof.Proof.Gen.Lru.Points
public import proofs.«01_k».proof.Proof.Gen.Lru.Loops
public import proofs.«01_k».proof.Proof.Gen.LruIdeal
public import proofs.«01_k».proof.Proof.Gen.LruIdeal.Skeleton
public import proofs.«01_k».proof.Proof.Gen.LruIdeal.Launch
public import proofs.«01_k».proof.Proof.Gen.LruIdeal.Points
public import proofs.«01_k».proof.Proof.Gen.LruIdeal.Loops
public import proofs.«01_k».proof.Proof.Gen.LruRefIdeal
public import proofs.«01_k».proof.Proof.Gen.LruRefIdeal.Run
public import proofs.«01_k».proof.Proof.Gen.LruRefIdeal.Read
public import proofs.«01_k».proof.Proof.LruFrame
public import proofs.«01_k».proof.Proof.LruPair
public import proofs.«01_k».proof.Proof.UpPair
public import proofs.«01_k».proof.Proof.PlainPairs
public import proofs.«01_k».proof.Proof.Gen.Wgrad
public import proofs.«01_k».proof.Proof.Gen.Wgrad.Skeleton
public import proofs.«01_k».proof.Proof.Gen.Wgrad.Launch
public import proofs.«01_k».proof.Proof.Gen.Wgrad.Points
public import proofs.«01_k».proof.Proof.Gen.Wgrad.Frame
public import proofs.«01_k».proof.Proof.Gen.WgradIdeal
public import proofs.«01_k».proof.Proof.Gen.WgradIdeal.Skeleton
public import proofs.«01_k».proof.Proof.Gen.WgradIdeal.Launch
public import proofs.«01_k».proof.Proof.Gen.WgradIdeal.Points
public import proofs.«01_k».proof.Proof.Gen.WgradIdeal.Frame
public import proofs.«01_k».proof.Proof.Gen.WgradIdeal.Value
public import proofs.«01_k».proof.Proof.Gen.WgradRefIdeal
public import proofs.«01_k».proof.Proof.Gen.WgradRefIdeal.Run
public import proofs.«01_k».proof.Proof.Gen.WgradRefIdeal.Read
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpIdeal.Value
public import proofs.«01_k».proof.Proof.Gen.UpRefIdeal.Run
public import proofs.«01_k».proof.Proof.Gen.UpRefIdeal.Read
public import Idealize.ShloMosaic.Adequacy
public import Idealize.ShloMosaic.Init

@[expose] public section

noncomputable section

namespace Cert.Proof

open Idealize.ShloMosaic Idealize.SL.Sem Cert.Gates

theorem claim : Cert.Claim :=
  ⟨Cert.Gates.Gen.facts, Cert.GatesIdeal.Gen.facts, Cert.GatesRefIdeal.Gen.facts,
   Cert.Ffn.Gen.facts, Cert.FfnIdeal.Gen.facts, Cert.FfnRefIdeal.Gen.facts,
   Cert.Pool.Gen.facts, Cert.PoolIdeal.Gen.facts, Cert.PoolRefIdeal.Gen.facts,
   Cert.Loss.Gen.facts, Cert.LossIdeal.Gen.facts, Cert.LossRefIdeal.Gen.facts,
   Cert.Lru.Gen.facts, Cert.LruIdeal.Gen.facts, Cert.LruRefIdeal.Gen.facts,
   Cert.Up.Gen.facts, Cert.UpIdeal.Gen.facts, Cert.UpRefIdeal.Gen.facts,
   Cert.Wgrad.Gen.facts, Cert.WgradIdeal.Gen.facts, Cert.WgradRefIdeal.Gen.facts,
   Cert.Adam.Gen.facts, Cert.AdamIdeal.Gen.facts, Cert.AdamRefIdeal.Gen.facts,
   Cert.Pre_ffn_finite.Gen.facts, Cert.Pre_pool_finite.Gen.facts, Cert.Pre_loss_finite.Gen.facts,
   fun m g _ => Cert.Gates.Gen.frame m g, fun m g _ => Cert.GatesIdeal.Gen.frame m g, Cert.GatesPair.frame_ref,
   fun m g _ => Cert.Ffn.Gen.frame m g, fun m g _ => Cert.FfnIdeal.Gen.frame m g,
   fun m g _ => Cert.FfnIdeal.Gen.frame m g, Cert.FfnPair.frame_ref, fun m g _ => Cert.FfnPair.frame_ref m g trivial,
   Cert.PoolFrame.frame_kernel, Cert.PoolFrame.frame_ideal,
   fun m g _ => Cert.PoolFrame.frame_ideal m g trivial, Cert.PoolFrame.frame_ref, fun m g _ => Cert.PoolFrame.frame_ref m g trivial,
   fun m g _ => Cert.Loss.Gen.frame m g, fun m g _ => Cert.LossIdeal.Gen.frame m g,
   fun m g _ => Cert.LossIdeal.Gen.frame m g, Cert.LossPair.frame_ref, fun m g _ => Cert.LossPair.frame_ref m g trivial,
   Cert.LruFrame.frame_kernel, Cert.LruFrame.frame_ideal, Cert.LruFrame.frame_ref,
   fun m g _ => Cert.Up.Gen.frame m g, fun m g _ => Cert.UpIdeal.Gen.frame m g, Cert.UpPair.frame_ref,
   fun m g _ => Cert.Wgrad.Gen.frame m g, fun m g _ => Cert.WgradIdeal.Gen.frame m g, Cert.WgradPair.frame_ref,
   fun m g _ => Cert.Adam.Gen.frame m g, fun m g _ => Cert.AdamIdeal.Gen.frame m g, Cert.AdamPair.frame_ref,
   trivial, Cert.GatesPair.algebraic, trivial, Cert.FfnPair.algebraic, trivial, Cert.PoolPair.algebraic,
   trivial, Cert.LossPair.algebraic, trivial, Cert.LruPair.algebraic,
   trivial, Cert.UpPair.algebraic, trivial, Cert.WgradPair.algebraic, trivial, Cert.AdamPair.algebraic⟩

end Cert.Proof

end
